-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_saved_by_forward [hPre_saved_by_forward : Cert.Pre_saved_by_forward.Facts] (m : (ℓ : Loc Cert.KernelIdeal.nD Cert.KernelIdeal.τ Cert.KernelIdeal.sig) → Buf (Elt Ideal) ℓ) : Prop :=
  ∀ c : Dev Cert.KernelIdeal.nD,
    (Cert.Pre_saved_by_forward.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_saved_by_forward.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_saved_by_forward.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_saved_by_forward.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_saved_by_forward.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_saved_by_forward.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_saved_by_forward.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.1 = (fun _ => 1#1)
    ∧ (Cert.Pre_saved_by_forward.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2.1 = (fun _ => 1#1)
    ∧ (Cert.Pre_saved_by_forward.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2.2.1 = (fun _ => 1#1)
    ∧ (Cert.Pre_saved_by_forward.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2.2.2.1 = (fun _ => 1#1)
    ∧ (Cert.Pre_saved_by_forward.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_saved_by_forward [hPre_saved_by_forward : Cert.Pre_saved_by_forward.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_saved_by_forward.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_saved_by_forward.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_saved_by_forward.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_saved_by_forward.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_saved_by_forward.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_saved_by_forward.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_saved_by_forward.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.1 = (fun _ => 1#1)
    ∧ (Cert.Pre_saved_by_forward.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2.1 = (fun _ => 1#1)
    ∧ (Cert.Pre_saved_by_forward.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2.2.1 = (fun _ => 1#1)
    ∧ (Cert.Pre_saved_by_forward.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2.2.2.1 = (fun _ => 1#1)
    ∧ (Cert.Pre_saved_by_forward.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_saved_by_forward [hKernelIdeal : Cert.KernelIdeal.Facts] [hPre_saved_by_forward : Cert.Pre_saved_by_forward.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_saved_by_forward m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_saved_by_forward [hReferenceIdeal : Cert.ReferenceIdeal.Facts] [hPre_saved_by_forward : Cert.Pre_saved_by_forward.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_saved_by_forward m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def preserves_Kernel_KernelIdeal : Prop :=
  True

def algebraic_KernelIdeal_ReferenceIdeal_pre_saved_by_forward [hKernelIdeal : Cert.KernelIdeal.Facts] [hReferenceIdeal : Cert.ReferenceIdeal.Facts] [hPre_saved_by_forward : Cert.Pre_saved_by_forward.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_saved_by_forward m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_v45) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v7) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v8) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v38) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v7) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v5) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v7) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v2) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v5) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v4) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v7) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v13) = v0 c
          ∧ r.2.mem ((c.tc : Thread Cert.Reference32Ideal.nD Cert.Reference32Ideal.τ).loc Cert.Reference32Ideal.main_v14) = v1 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v9) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v18) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hPre_saved_by_forward : Cert.Pre_saved_by_forward.Facts),
    quiescent_Kernel (hKernel := hKernel)
    ∧ quiescent_KernelIdeal (hKernelIdeal := hKernelIdeal)
    ∧ quiescent_KernelIdeal_pre_saved_by_forward (hKernelIdeal := hKernelIdeal) (hPre_saved_by_forward := hPre_saved_by_forward)
    ∧ quiescent_ReferenceIdeal (hReferenceIdeal := hReferenceIdeal)
    ∧ quiescent_ReferenceIdeal_pre_saved_by_forward (hReferenceIdeal := hReferenceIdeal) (hPre_saved_by_forward := hPre_saved_by_forward)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ preserves_Kernel_KernelIdeal
    ∧ algebraic_KernelIdeal_ReferenceIdeal_pre_saved_by_forward (hKernelIdeal := hKernelIdeal) (hReferenceIdeal := hReferenceIdeal) (hPre_saved_by_forward := hPre_saved_by_forward)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
-- ==== Pre_saved_by_forward.lean ====
abbrev S8192x4096 : Shape := ⟨2, ![8192, 4096]⟩
abbrev S8192x8192 : Shape := ⟨2, ![8192, 8192]⟩
abbrev S8192x32 : Shape := ⟨2, ![8192, 32]⟩
abbrev S32x128x128x128 : Shape := ⟨4, ![32, 128, 128, 128]⟩
abbrev S128x64x32 : Shape := ⟨3, ![128, 64, 32]⟩
abbrev S32x128x64 : Shape := ⟨3, ![32, 128, 64]⟩
abbrev S8192x2048 : Shape := ⟨2, ![8192, 2048]⟩
abbrev S8192x16x128 : Shape := ⟨3, ![8192, 16, 128]⟩
abbrev S8192x16x2x128 : Shape := ⟨4, ![8192, 16, 2, 128]⟩
abbrev S8192x32x128 : Shape := ⟨3, ![8192, 32, 128]⟩
abbrev S128x64x32x128 : Shape := ⟨4, ![128, 64, 32, 128]⟩
abbrev S32x128x64x128 : Shape := ⟨4, ![32, 128, 64, 128]⟩
abbrev S32x128x1 : Shape := ⟨3, ![32, 128, 1]⟩
abbrev S32x128x64x1 : Shape := ⟨4, ![32, 128, 64, 1]⟩
abbrev S32x128 : Shape := ⟨2, ![32, 128]⟩
abbrev S32x128x1x1 : Shape := ⟨4, ![32, 128, 1, 1]⟩
abbrev S_ : Shape := ⟨0, ![]⟩
abbrev S32x128x63 : Shape := ⟨3, ![32, 128, 63]⟩
abbrev S32x1x128x128 : Shape := ⟨4, ![32, 1, 128, 128]⟩
abbrev S32x128x128 : Shape := ⟨3, ![32, 128, 128]⟩
abbrev S32x127x128x128 : Shape := ⟨4, ![32, 127, 128, 128]⟩

class Facts : Prop where
  shapeCasts_S8192x32_S128x64x32 : S8192x32.ShapeCasts S128x64x32
  transposes_S128x64x32_S32x128x64_2_0_1 : S128x64x32.Transposes [2, 0, 1] S32x128x64
  slices_S8192x8192_S8192x2048_0_2048 : S8192x8192.Slices ![0, 2048] S8192x2048
  shapeCasts_S8192x2048_S8192x16x128 : S8192x2048.ShapeCasts S8192x16x128
  bcast_S8192x16x128_S8192x16x2x128_0_1_3 : S8192x16x128.BroadcastsInDim S8192x16x2x128 (![0, 1, 3] : Fin 3 → Fin S8192x16x2x128.rank)
  shapeCasts_S8192x16x2x128_S8192x32x128 : S8192x16x2x128.ShapeCasts S8192x32x128
  shapeCasts_S8192x32x128_S128x64x32x128 : S8192x32x128.ShapeCasts S128x64x32x128
  transposes_S128x64x32x128_S32x128x64x128_2_0_1_3 : S128x64x32x128.Transposes [2, 0, 1, 3] S32x128x64x128
  slices_S32x128x64_S32x128x1_0_0_63 : S32x128x64.Slices ![0, 0, 63] S32x128x1
  bcast_S32x128x1_S32x128x64_0_1_2 : S32x128x1.BroadcastsInDim S32x128x64 (![0, 1, 2] : Fin 3 → Fin S32x128x64.rank)
  bcast_S32x128x64_S32x128x64x1_0_1_2 : S32x128x64.BroadcastsInDim S32x128x64x1 (![0, 1, 2] : Fin 3 → Fin S32x128x64x1.rank)
  bcast_S32x128x64x1_S32x128x64x128_0_1_2_3 : S32x128x64x1.BroadcastsInDim S32x128x64x128 (![0, 1, 2, 3] : Fin 4 → Fin S32x128x64x128.rank)
  shapeCasts_S8192x4096_S128x64x32x128 : S8192x4096.ShapeCasts S128x64x32x128
  shapeCasts_S32x128x1_S32x128 : S32x128x1.ShapeCasts S32x128
  bcast_S32x128_S32x128x1x1_0_1 : S32x128.BroadcastsInDim S32x128x1x1 (![0, 1] : Fin 2 → Fin S32x128x1x1.rank)
  bcast_S32x128x1x1_S32x128x128x128_0_1_2_3 : S32x128x1x1.BroadcastsInDim S32x128x128x128 (![0, 1, 2, 3] : Fin 4 → Fin S32x128x128x128.rank)
  bcast_S_S8192x4096 : S_.BroadcastsInDim S8192x4096 (![] : Fin 0 → Fin S8192x4096.rank)
  bcast_S_S8192x8192 : S_.BroadcastsInDim S8192x8192 (![] : Fin 0 → Fin S8192x8192.rank)
  bcast_S_S8192x32 : S_.BroadcastsInDim S8192x32 (![] : Fin 0 → Fin S8192x32.rank)
  bcast_S_S32x128x128x128 : S_.BroadcastsInDim S32x128x128x128 (![] : Fin 0 → Fin S32x128x128x128.rank)
  slices_S32x128x64_S32x128x63_0_0_1 : S32x128x64.Slices ![0, 0, 1] S32x128x63
  slices_S32x128x64_S32x128x63_0_0_0 : S32x128x64.Slices ![0, 0, 0] S32x128x63
  slices_S32x128x128x128_S32x1x128x128_0_0_0_0 : S32x128x128x128.Slices ![0, 0, 0, 0] S32x1x128x128
  shapeCasts_S32x1x128x128_S32x128x128 : S32x1x128x128.ShapeCasts S32x128x128
  bcast_S_S32x128x128 : S_.BroadcastsInDim S32x128x128 (![] : Fin 0 → Fin S32x128x128.rank)
  slices_S32x128x128x128_S32x127x128x128_0_1_0_0 : S32x128x128x128.Slices ![0, 1, 0, 0] S32x127x128x128
  slices_S32x128x128x128_S32x127x128x128_0_0_0_0 : S32x128x128x128.Slices ![0, 0, 0, 0] S32x127x128x128
  dot_S32x128x64x128_S32x128x128x128_S32x128x64x128_3_2_2_3_01_01_wf : DotDims.WF S32x128x64x128 S32x128x128x128 S32x128x64x128 [3] [2] [2] [3] [0, 1] [0, 1]
  dot_S32x128x64x128_S32x128x64x128_S32x128x128x128_2_2_3_3_01_01_wf : DotDims.WF S32x128x64x128 S32x128x64x128 S32x128x128x128 [2] [2] [3] [3] [0, 1] [0, 1]

variable [Facts]

def dot_S32x128x64x128_S32x128x128x128_S32x128x64x128_3_2_2_3_01_01 : DotDims S32x128x64x128 S32x128x128x128 S32x128x64x128 where
  lhsContracting := [3]
  rhsContracting := [2]
  lhsNonContracting := [2]
  rhsNonContracting := [3]
  lhsBatch := [0, 1]
  rhsBatch := [0, 1]
  wf := dot_S32x128x64x128_S32x128x128x128_S32x128x64x128_3_2_2_3_01_01_wf
def dot_S32x128x64x128_S32x128x64x128_S32x128x128x128_2_2_3_3_01_01 : DotDims S32x128x64x128 S32x128x64x128 S32x128x128x128 where
  lhsContracting := [2]
  rhsContracting := [2]
  lhsNonContracting := [3]
  rhsNonContracting := [3]
  lhsBatch := [0, 1]
  rhsBatch := [0, 1]
  wf := dot_S32x128x64x128_S32x128x64x128_S32x128x128x128_2_2_3_3_01_01_wf
def fn_part3 {F : FTy → Type} [FloatOps F] (main_v33 : IVec S8192x4096 1) (main_v36 : IVec S8192x8192 1) (main_v39 : IVec S8192x4096 1) (main_v42 : IVec S8192x4096 1) (main_v45 : IVec S8192x32 1) (main_v48 : IVec S8192x4096 1) (main_v51 : IVec S32x128x128x128 1) (main_v54 : IVec S32x128x63 1) (main_v57 : IVec S32x128x64x128 1) (main_v61 : IVec S32x128x128 1) (main_v62 : FVec F S32x127x128x128 .f32) (main_v63 : FVec F S32x127x128x128 .f32) : IVec S8192x4096 1 × IVec S8192x8192 1 × IVec S8192x4096 1 × IVec S8192x4096 1 × IVec S8192x32 1 × IVec S8192x4096 1 × IVec S32x128x128x128 1 × IVec S32x128x63 1 × IVec S32x128x64x128 1 × IVec S32x128x128 1 × IVec S32x127x128x128 1 :=
  let main_v64 : IVec S32x127x128x128 1 := cmpf .oeq main_v62 main_v63
  (main_v33, main_v36, main_v39, main_v42, main_v45, main_v48, main_v51, main_v54, main_v57, main_v61, main_v64)

def fn_part2 {F : FTy → Type} [FloatOps F] (main_arg5 : FVec F S8192x4096 .f32) (main_arg6 : FVec F S32x128x128x128 .f32) (main_v1 : FVec F S32x128x64 .f32) (main_v20 : FVec F S32x128x64x128 .f32) (main_v30 : FVec F S32x128x128x128 .f32) (main_v33 : IVec S8192x4096 1) (main_v36 : IVec S8192x8192 1) (main_v39 : IVec S8192x4096 1) (main_v42 : IVec S8192x4096 1) (main_v43 : FVec F S8192x32 .f32) : IVec S8192x4096 1 × IVec S8192x8192 1 × IVec S8192x4096 1 × IVec S8192x4096 1 × IVec S8192x32 1 × IVec S8192x4096 1 × IVec S32x128x128x128 1 × IVec S32x128x63 1 × IVec S32x128x64x128 1 × IVec S32x128x128 1 × IVec S32x127x128x128 1 :=
  let main_cst_3 : FVec F S_ .f32 := constant S_ .f32 0x7F800000#32
  let main_v44 : FVec F S8192x32 .f32 := broadcastInDim S8192x32 ![] bcast_S_S8192x32 main_cst_3
  let main_v45 : IVec S8192x32 1 := cmpf .olt main_v43 main_v44
  let main_v46 : FVec F S8192x4096 .f32 := Host.absf main_arg5
  let main_cst_4 : FVec F S_ .f32 := constant S_ .f32 0x7F800000#32
  let main_v47 : FVec F S8192x4096 .f32 := broadcastInDim S8192x4096 ![] bcast_S_S8192x4096 main_cst_4
  let main_v48 : IVec S8192x4096 1 := cmpf .olt main_v46 main_v47
  let main_v49 : FVec F S32x128x128x128 .f32 := Host.absf main_arg6
  let main_cst_5 : FVec F S_ .f32 := constant S_ .f32 0x7F800000#32
  let main_v50 : FVec F S32x128x128x128 .f32 := broadcastInDim S32x128x128x128 ![] bcast_S_S32x128x128x128 main_cst_5
  let main_v51 : IVec S32x128x128x128 1 := cmpf .olt main_v49 main_v50
  let main_v52 : FVec F S32x128x63 .f32 := (extractStridedSlice S32x128x63 ![0, 0, 1] · slices_S32x128x64_S32x128x63_0_0_1) main_v1
  let main_v53 : FVec F S32x128x63 .f32 := (extractStridedSlice S32x128x63 ![0, 0, 0] · slices_S32x128x64_S32x128x63_0_0_0) main_v1
  let main_v54 : IVec S32x128x63 1 := cmpf .olt main_v52 main_v53
  let main_v55 : FVec F S128x64x32x128 .f32 := shapeCast S128x64x32x128 main_arg5 shapeCasts_S8192x4096_S128x64x32x128
  let main_v56 : FVec F S32x128x64x128 .f32 := (transpose S32x128x64x128 [2, 0, 1, 3] · transposes_S128x64x32x128_S32x128x64x128_2_0_1_3) main_v55
  let main_v57 : IVec S32x128x64x128 1 := cmpf .oeq main_v56 main_v20
  let main_v58 : FVec F S32x1x128x128 .f32 := (extractStridedSlice S32x1x128x128 ![0, 0, 0, 0] · slices_S32x128x128x128_S32x1x128x128_0_0_0_0) main_arg6
  let main_v59 : FVec F S32x128x128 .f32 := shapeCast S32x128x128 main_v58 shapeCasts_S32x1x128x128_S32x128x128
  let main_cst_6 : FVec F S_ .f32 := constant S_ .f32 0x00000000#32
  let main_v60 : FVec F S32x128x128 .f32 := broadcastInDim S32x128x128 ![] bcast_S_S32x128x128 main_cst_6
  let main_v61 : IVec S32x128x128 1 := cmpf .oeq main_v59 main_v60
  let main_v62 : FVec F S32x127x128x128 .f32 := (extractStridedSlice S32x127x128x128 ![0, 1, 0, 0] · slices_S32x128x128x128_S32x127x128x128_0_1_0_0) main_arg6
  let main_v63 : FVec F S32x127x128x128 .f32 := (extractStridedSlice S32x127x128x128 ![0, 0, 0, 0] · slices_S32x128x128x128_S32x127x128x128_0_0_0_0) main_v30
  fn_part3 (F := F) main_v33 main_v36 main_v39 main_v42 main_v45 main_v48 main_v51 main_v54 main_v57 main_v61 main_v62 main_v63

def fn_part1 {F : FTy → Type} [FloatOps F] (main_arg0 : FVec F S8192x4096 .f32) (main_arg1 : FVec F S8192x8192 .f32) (main_arg2 : FVec F S8192x4096 .f32) (main_arg3 : FVec F S8192x4096 .f32) (main_arg4 : FVec F S8192x32 .f32) (main_arg5 : FVec F S8192x4096 .f32) (main_arg6 : FVec F S32x128x128x128 .f32) (main_v1 : FVec F S32x128x64 .f32) (main_v14 : FVec F S32x128x64x128 .f32) (main_v20 : FVec F S32x128x64x128 .f32) (main_v23 : FVec F S32x128 .f32) : IVec S8192x4096 1 × IVec S8192x8192 1 × IVec S8192x4096 1 × IVec S8192x4096 1 × IVec S8192x32 1 × IVec S8192x4096 1 × IVec S32x128x128x128 1 × IVec S32x128x63 1 × IVec S32x128x64x128 1 × IVec S32x128x128 1 × IVec S32x127x128x128 1 :=
  let main_v24 : FVec F S32x128x1x1 .f32 := broadcastInDim S32x128x1x1 ![0, 1] bcast_S32x128_S32x128x1x1_0_1 main_v23
  let main_v25 : FVec F S32x128x128x128 .f32 := broadcastInDim S32x128x128x128 ![0, 1, 2, 3] bcast_S32x128x1x1_S32x128x128x128_0_1_2_3 main_v24
  let main_v26 : FVec F S32x128x128x128 .f32 := mulf main_arg6 main_v25
  let main_v27 : FVec F S128x64x32x128 .f32 := shapeCast S128x64x32x128 main_arg5 shapeCasts_S8192x4096_S128x64x32x128
  let main_v28 : FVec F S32x128x64x128 .f32 := (transpose S32x128x64x128 [2, 0, 1, 3] · transposes_S128x64x32x128_S32x128x64x128_2_0_1_3) main_v27
  let main_v29 : FVec F S32x128x128x128 .f32 := (fun l r => Host.dotGeneral dot_S32x128x64x128_S32x128x64x128_S32x128x128x128_2_2_3_3_01_01 none l r) main_v14 main_v28
  let main_v30 : FVec F S32x128x128x128 .f32 := addf main_v26 main_v29
  let main_v31 : FVec F S8192x4096 .f32 := Host.absf main_arg0
  let main_cst : FVec F S_ .f32 := constant S_ .f32 0x7F800000#32
  let main_v32 : FVec F S8192x4096 .f32 := broadcastInDim S8192x4096 ![] bcast_S_S8192x4096 main_cst
  let main_v33 : IVec S8192x4096 1 := cmpf .olt main_v31 main_v32
  let main_v34 : FVec F S8192x8192 .f32 := Host.absf main_arg1
  let main_cst_0 : FVec F S_ .f32 := constant S_ .f32 0x7F800000#32
  let main_v35 : FVec F S8192x8192 .f32 := broadcastInDim S8192x8192 ![] bcast_S_S8192x8192 main_cst_0
  let main_v36 : IVec S8192x8192 1 := cmpf .olt main_v34 main_v35
  let main_v37 : FVec F S8192x4096 .f32 := Host.absf main_arg2
  let main_cst_1 : FVec F S_ .f32 := constant S_ .f32 0x7F800000#32
  let main_v38 : FVec F S8192x4096 .f32 := broadcastInDim S8192x4096 ![] bcast_S_S8192x4096 main_cst_1
  let main_v39 : IVec S8192x4096 1 := cmpf .olt main_v37 main_v38
  let main_v40 : FVec F S8192x4096 .f32 := Host.absf main_arg3
  let main_cst_2 : FVec F S_ .f32 := constant S_ .f32 0x7F800000#32
  let main_v41 : FVec F S8192x4096 .f32 := broadcastInDim S8192x4096 ![] bcast_S_S8192x4096 main_cst_2
  let main_v42 : IVec S8192x4096 1 := cmpf .olt main_v40 main_v41
  let main_v43 : FVec F S8192x32 .f32 := Host.absf main_arg4
  fn_part2 (F := F) main_arg5 main_arg6 main_v1 main_v20 main_v30 main_v33 main_v36 main_v39 main_v42 main_v43

def fn {F : FTy → Type} [FloatOps F] (main_arg0 : FVec F S8192x4096 .f32) (main_arg1 : FVec F S8192x8192 .f32) (main_arg2 : FVec F S8192x4096 .f32) (main_arg3 : FVec F S8192x4096 .f32) (main_arg4 : FVec F S8192x32 .f32) (main_arg5 : FVec F S8192x4096 .f32) (main_arg6 : FVec F S32x128x128x128 .f32) : IVec S8192x4096 1 × IVec S8192x8192 1 × IVec S8192x4096 1 × IVec S8192x4096 1 × IVec S8192x32 1 × IVec S8192x4096 1 × IVec S32x128x128x128 1 × IVec S32x128x63 1 × IVec S32x128x64x128 1 × IVec S32x128x128 1 × IVec S32x127x128x128 1 :=
  let main_v0 : FVec F S128x64x32 .f32 := shapeCast S128x64x32 main_arg4 shapeCasts_S8192x32_S128x64x32
  let main_v1 : FVec F S32x128x64 .f32 := (transpose S32x128x64 [2, 0, 1] · transposes_S128x64x32_S32x128x64_2_0_1) main_v0
  let main_v2 : FVec F S8192x2048 .f32 := (extractStridedSlice S8192x2048 ![0, 2048] · slices_S8192x8192_S8192x2048_0_2048) main_arg1
  let main_v3 : FVec F S8192x16x128 .f32 := shapeCast S8192x16x128 main_v2 shapeCasts_S8192x2048_S8192x16x128
  let main_v4 : FVec F S8192x16x2x128 .f32 := broadcastInDim S8192x16x2x128 ![0, 1, 3] bcast_S8192x16x128_S8192x16x2x128_0_1_3 main_v3
  let main_v5 : FVec F S8192x32x128 .f32 := shapeCast S8192x32x128 main_v4 shapeCasts_S8192x16x2x128_S8192x32x128
  let main_v6 : FVec F S128x64x32x128 .f32 := shapeCast S128x64x32x128 main_v5 shapeCasts_S8192x32x128_S128x64x32x128
  let main_v7 : FVec F S32x128x64x128 .f32 := (transpose S32x128x64x128 [2, 0, 1, 3] · transposes_S128x64x32x128_S32x128x64x128_2_0_1_3) main_v6
  let main_v8 : FVec F S32x128x1 .f32 := (extractStridedSlice S32x128x1 ![0, 0, 63] · slices_S32x128x64_S32x128x1_0_0_63) main_v1
  let main_v9 : FVec F S32x128x64 .f32 := broadcastInDim S32x128x64 ![0, 1, 2] bcast_S32x128x1_S32x128x64_0_1_2 main_v8
  let main_v10 : FVec F S32x128x64 .f32 := subf main_v9 main_v1
  let main_v11 : FVec F S32x128x64 .f32 := Host.exp main_v10
  let main_v12 : FVec F S32x128x64x1 .f32 := broadcastInDim S32x128x64x1 ![0, 1, 2] bcast_S32x128x64_S32x128x64x1_0_1_2 main_v11
  let main_v13 : FVec F S32x128x64x128 .f32 := broadcastInDim S32x128x64x128 ![0, 1, 2, 3] bcast_S32x128x64x1_S32x128x64x128_0_1_2_3 main_v12
  let main_v14 : FVec F S32x128x64x128 .f32 := mulf main_v7 main_v13
  let main_v15 : FVec F S128x64x32x128 .f32 := shapeCast S128x64x32x128 main_arg2 shapeCasts_S8192x4096_S128x64x32x128
  let main_v16 : FVec F S32x128x64x128 .f32 := (transpose S32x128x64x128 [2, 0, 1, 3] · transposes_S128x64x32x128_S32x128x64x128_2_0_1_3) main_v15
  let main_v17 : FVec F S128x64x32x128 .f32 := shapeCast S128x64x32x128 main_arg3 shapeCasts_S8192x4096_S128x64x32x128
  let main_v18 : FVec F S32x128x64x128 .f32 := (transpose S32x128x64x128 [2, 0, 1, 3] · transposes_S128x64x32x128_S32x128x64x128_2_0_1_3) main_v17
  let main_v19 : FVec F S32x128x64x128 .f32 := (fun l r => Host.dotGeneral dot_S32x128x64x128_S32x128x128x128_S32x128x64x128_3_2_2_3_01_01 none l r) main_v18 main_arg6
  let main_v20 : FVec F S32x128x64x128 .f32 := subf main_v16 main_v19
  let main_v21 : FVec F S32x128x1 .f32 := (extractStridedSlice S32x128x1 ![0, 0, 63] · slices_S32x128x64_S32x128x1_0_0_63) main_v1
  let main_v22 : FVec F S32x128 .f32 := shapeCast S32x128 main_v21 shapeCasts_S32x128x1_S32x128
  let main_v23 : FVec F S32x128 .f32 := Host.exp main_v22
  fn_part1 (F := F) main_arg0 main_arg1 main_arg2 main_arg3 main_arg4 main_arg5 main_arg6 main_v1 main_v14 main_v20 main_v23
-- ==== Kernel.lean ====
abbrev S8192x4096 : Shape := ⟨2, ![8192, 4096]⟩
abbrev S8192x8192 : Shape := ⟨2, ![8192, 8192]⟩
abbrev S8192x32 : Shape := ⟨2, ![8192, 32]⟩
abbrev S32x128x128x128 : Shape := ⟨4, ![32, 128, 128, 128]⟩
abbrev S8192x32x128 : Shape := ⟨3, ![8192, 32, 128]⟩
abbrev S512x128 : Shape := ⟨2, ![512, 128]⟩
abbrev S1x8x128x128 : Shape := ⟨4, ![1, 8, 128, 128]⟩
abbrev S128x128 : Shape := ⟨2, ![128, 128]⟩
abbrev S64x64 : Shape := ⟨2, ![64, 64]⟩
abbrev S64x128 : Shape := ⟨2, ![64, 128]⟩
abbrev S1x1x128x128 : Shape := ⟨4, ![1, 1, 128, 128]⟩
abbrev S1x128 : Shape := ⟨2, ![1, 128]⟩
abbrev S64 : Shape := ⟨1, ![64]⟩
abbrev S1x64 : Shape := ⟨2, ![1, 64]⟩
abbrev S1x64x128 : Shape := ⟨3, ![1, 64, 128]⟩
abbrev S1 : Shape := ⟨1, ![1]⟩
abbrev S1x1x1 : Shape := ⟨3, ![1, 1, 1]⟩
abbrev S1x128x128 : Shape := ⟨3, ![1, 128, 128]⟩
abbrev S64x1 : Shape := ⟨2, ![64, 1]⟩

abbrev nBuf : Space → Nat
  | .hbm => 14
  | .vmem => 25
  | .smem => 0
  | _ => 0

abbrev bufTy : (tb : Table) → Fin (tcTables nBuf tb) → BufTy
  | .hbm, ⟨0, _⟩ => ⟨S8192x4096, .f32⟩
  | .hbm, ⟨1, _⟩ => ⟨S8192x8192, .f32⟩
  | .hbm, ⟨2, _⟩ => ⟨S8192x4096, .f32⟩
  | .hbm, ⟨3, _⟩ => ⟨S8192x4096, .f32⟩
  | .hbm, ⟨4, _⟩ => ⟨S8192x32, .f32⟩
  | .hbm, ⟨5, _⟩ => ⟨S8192x4096, .f32⟩
  | .hbm, ⟨6, _⟩ => ⟨S32x128x128x128, .f32⟩
  | .hbm, ⟨7, _⟩ => ⟨S8192x32x128, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x8x128x128, .f32⟩
  | .local _ .vmem, ⟨13, _⟩ => ⟨S1x8x128x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S128x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c2_i32 : BitVec 32 := 2#32
  let v1 : BitVec 32 := Scalar.divsi arg0 c2_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  ![v0.toNat, v17.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c2_i32 : BitVec 32 := 2#32
  let v1 : BitVec 32 := Scalar.divsi arg0 c2_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.addi c16_i32 v17
  let c0_i32_4 : BitVec 32 := 0#32
  ![v0.toNat, v18.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_6 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S8192x4096 : Shape := ⟨2, ![8192, 4096]⟩
abbrev S8192x8192 : Shape := ⟨2, ![8192, 8192]⟩
abbrev S8192x32 : Shape := ⟨2, ![8192, 32]⟩
abbrev S32x128x128x128 : Shape := ⟨4, ![32, 128, 128, 128]⟩
abbrev S8192x2048 : Shape := ⟨2, ![8192, 2048]⟩
abbrev S8192x16x128 : Shape := ⟨3, ![8192, 16, 128]⟩
abbrev S8192x16x2x128 : Shape := ⟨4, ![8192, 16, 2, 128]⟩
abbrev S8192x32x128 : Shape := ⟨3, ![8192, 32, 128]⟩
abbrev S128x64x32x128 : Shape := ⟨4, ![128, 64, 32, 128]⟩
abbrev S128x32x64x128 : Shape := ⟨4, ![128, 32, 64, 128]⟩
abbrev S128x64x32 : Shape := ⟨3, ![128, 64, 32]⟩
abbrev S128x32x64 : Shape := ⟨3, ![128, 32, 64]⟩
abbrev S_ : Shape := ⟨0, ![]⟩
abbrev S32x128x128 : Shape := ⟨3, ![32, 128, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S32x64x64 : Shape := ⟨3, ![32, 64, 64]⟩
abbrev S128x32x128x128 : Shape := ⟨4, ![128, 32, 128, 128]⟩
abbrev S1x32x64x128 : Shape := ⟨4, ![1, 32, 64, 128]⟩
abbrev S32x64x128 : Shape := ⟨3, ![32, 64, 128]⟩
abbrev S1x32x64 : Shape := ⟨3, ![1, 32, 64]⟩
abbrev S32x64 : Shape := ⟨2, ![32, 64]⟩
abbrev S32x64x1 : Shape := ⟨3, ![32, 64, 1]⟩
abbrev S32x1x64 : Shape := ⟨3, ![32, 1, 64]⟩
abbrev S32x1 : Shape := ⟨2, ![32, 1]⟩
abbrev S32 : Shape := ⟨1, ![32]⟩
abbrev S32x1x1 : Shape := ⟨3, ![32, 1, 1]⟩
abbrev S1x32x128x128 : Shape := ⟨4, ![1, 32, 128, 128]⟩
abbrev S32x128x64 : Shape := ⟨3, ![32, 128, 64]⟩

abbrev nBuf : Space → Nat
  | .hbm => 392
  | .vmem => 0
  | .smem => 0
  | _ => 0

abbrev hbmTy0_0 (i : Nat) : BufTy := match i % 128 with
  | 0 => ⟨S8192x4096, .f32⟩
  | 1 => ⟨S8192x8192, .f32⟩
  | 2 => ⟨S8192x4096, .f32⟩
  | 3 => ⟨S8192x4096, .f32⟩
  | 4 => ⟨S8192x32, .f32⟩
  | 5 => ⟨S8192x4096, .f32⟩
  | 6 => ⟨S32x128x128x128, .f32⟩
  | 7 => ⟨S8192x2048, .f32⟩
  | 8 => ⟨S8192x16x128, .f32⟩
  | 9 => ⟨S8192x16x2x128, .f32⟩
  | 10 => ⟨S8192x32x128, .f32⟩
  | 11 => ⟨S8192x2048, .f32⟩
  | 12 => ⟨S8192x16x128, .f32⟩
  | 13 => ⟨S8192x16x2x128, .f32⟩
  | 14 => ⟨S8192x32x128, .f32⟩
  | 15 => ⟨S128x64x32x128, .f32⟩
  | 16 => ⟨S128x32x64x128, .f32⟩
  | 17 => ⟨S128x64x32x128, .f32⟩
  | 18 => ⟨S128x32x64x128, .f32⟩
  | 19 => ⟨S128x64x32x128, .f32⟩
  | 20 => ⟨S128x32x64x128, .f32⟩
  | 21 => ⟨S128x64x32x128, .f32⟩
  | 22 => ⟨S128x32x64x128, .f32⟩
  | 23 => ⟨S128x64x32, .f32⟩
  | 24 => ⟨S128x32x64, .f32⟩
  | 25 => ⟨S_, .f32⟩
  | 26 => ⟨S32x128x128, .f32⟩
  | 27 => ⟨S64, .i32⟩
  | 28 => ⟨S64x1, .i32⟩
  | 29 => ⟨S1x64, .i32⟩
  | 30 => ⟨S64x64, .i32⟩
  | 31 => ⟨S64x64, .i32⟩
  | 32 => ⟨S64x64, .i1⟩
  | 33 => ⟨S_, .f32⟩
  | 34 => ⟨S_, .f32⟩
  | 35 => ⟨S32x64x64, .i1⟩
  | 36 => ⟨S32x64x64, .f32⟩
  | 37 => ⟨S_, .f32⟩
  | 38 => ⟨S_, .f32⟩
  | 39 => ⟨S32x64x64, .i1⟩
  | 40 => ⟨S32x64x64, .f32⟩
  | 41 => ⟨S_, .f32⟩
  | 42 => ⟨S128x32x64x128, .f32⟩
  | 43 => ⟨S_, .f32⟩
  | 44 => ⟨S128x32x128x128, .f32⟩
  | 45 => ⟨S_, .i32⟩
  | 46 => ⟨S128x32x64x128, .f32⟩
  | 47 => ⟨S128x32x64x128, .f32⟩
  | 48 => ⟨S128x32x64x128, .f32⟩
  | 49 => ⟨S128x32x64x128, .f32⟩
  | 50 => ⟨S128x32x64, .f32⟩
  | 51 => ⟨S32x64x64, .i1⟩
  | 52 => ⟨S32x64x64, .f32⟩
  | 53 => ⟨S32x64x64, .i1⟩
  | 54 => ⟨S32x64x64, .f32⟩
  | 55 => ⟨S_, .i32⟩
  | 56 => ⟨S32x128x128, .f32⟩
  | 57 => ⟨S128x32x64x128, .f32⟩
  | 58 => ⟨S128x32x128x128, .f32⟩
  | 59 => ⟨S_, .i32⟩
  | 60 => ⟨S_, .i1⟩
  | 61 => ⟨S_, .i32⟩
  | 62 => ⟨S_, .i32⟩
  | 63 => ⟨S_, .i32⟩
  | 64 => ⟨S1x32x64x128, .f32⟩
  | 65 => ⟨S32x64x128, .f32⟩
  | 66 => ⟨S_, .i32⟩
  | 67 => ⟨S_, .i32⟩
  | 68 => ⟨S_, .i32⟩
  | 69 => ⟨S1x32x64x128, .f32⟩
  | 70 => ⟨S32x64x128, .f32⟩
  | 71 => ⟨S_, .i32⟩
  | 72 => ⟨S_, .i32⟩
  | 73 => ⟨S_, .i32⟩
  | 74 => ⟨S1x32x64x128, .f32⟩
  | 75 => ⟨S32x64x128, .f32⟩
  | 76 => ⟨S_, .i32⟩
  | 77 => ⟨S_, .i32⟩
  | 78 => ⟨S_, .i32⟩
  | 79 => ⟨S1x32x64x128, .f32⟩
  | 80 => ⟨S32x64x128, .f32⟩
  | 81 => ⟨S_, .i32⟩
  | 82 => ⟨S_, .i32⟩
  | 83 => ⟨S1x32x64, .f32⟩
  | 84 => ⟨S32x64, .f32⟩
  | 85 => ⟨S32x64x1, .f32⟩
  | 86 => ⟨S32x1x64, .f32⟩
  | 87 => ⟨S32x64x64, .f32⟩
  | 88 => ⟨S32x64x64, .f32⟩
  | 89 => ⟨S32x64x64, .f32⟩
  | 90 => ⟨S_, .f32⟩
  | 91 => ⟨S32x64x64, .f32⟩
  | 92 => ⟨S32x64x64, .f32⟩
  | 93 => ⟨S32x64x64, .f32⟩
  | 94 => ⟨S32x64x64, .f32⟩
  | 95 => ⟨S32x64x64, .f32⟩
  | 96 => ⟨S32x64x64, .f32⟩
  | 97 => ⟨S32x64x64, .f32⟩
  | 98 => ⟨S32x1, .f32⟩
  | 99 => ⟨S32, .f32⟩
  | 100 => ⟨S32x64, .f32⟩
  | 101 => ⟨S32x64x1, .f32⟩
  | 102 => ⟨S32x64x128, .f32⟩
  | 103 => ⟨S32x64x128, .f32⟩
  | 104 => ⟨S32x1, .f32⟩
  | 105 => ⟨S32x64, .f32⟩
  | 106 => ⟨S32x64, .f32⟩
  | 107 => ⟨S32x64, .f32⟩
  | 108 => ⟨S32x64x1, .f32⟩
  | 109 => ⟨S32x64x128, .f32⟩
  | 110 => ⟨S32x64x128, .f32⟩
  | 111 => ⟨S32x64x128, .f32⟩
  | 112 => ⟨S32x64x128, .f32⟩
  | 113 => ⟨S32x64x128, .f32⟩
  | 114 => ⟨S32x64x128, .f32⟩
  | 115 => ⟨S32x64x128, .f32⟩
  | 116 => ⟨S32, .f32⟩
  | 117 => ⟨S32x1x1, .f32⟩
  | 118 => ⟨S32x128x128, .f32⟩
  | 119 => ⟨S32x128x128, .f32⟩
  | 120 => ⟨S32x128x128, .f32⟩
  | 121 => ⟨S32x128x128, .f32⟩
  | 122 => ⟨S1x32x64x128, .f32⟩
  | 123 => ⟨S_, .i32⟩
  | 124 => ⟨S_, .i32⟩
  | 125 => ⟨S_, .i32⟩
  | 126 => ⟨S128x32x64x128, .f32⟩
  | 127 => ⟨S1x32x128x128, .f32⟩
  | _ => ⟨S8192x4096, .f32⟩

abbrev hbmTy0_1 (i : Nat) : BufTy := match i % 128 with
  | 0 => ⟨S_, .i32⟩
  | 1 => ⟨S_, .i32⟩
  | 2 => ⟨S_, .i32⟩
  | 3 => ⟨S128x32x128x128, .f32⟩
  | 4 => ⟨S_, .i32⟩
  | 5 => ⟨S_, .i32⟩
  | 6 => ⟨S128x64x32x128, .f32⟩
  | 7 => ⟨S8192x4096, .f32⟩
  | 8 => ⟨S_, .f32⟩
  | 9 => ⟨S32x128x128, .f32⟩
  | 10 => ⟨S128x64x32x128, .f32⟩
  | 11 => ⟨S128x32x64x128, .f32⟩
  | 12 => ⟨S_, .f32⟩
  | 13 => ⟨S32x128x128, .f32⟩
  | 14 => ⟨S_, .f32⟩
  | 15 => ⟨S128x32x64x128, .f32⟩
  | 16 => ⟨S_, .f32⟩
  | 17 => ⟨S128x32x64x128, .f32⟩
  | 18 => ⟨S_, .f32⟩
  | 19 => ⟨S128x32x64x128, .f32⟩
  | 20 => ⟨S_, .f32⟩
  | 21 => ⟨S128x32x64x128, .f32⟩
  | 22 => ⟨S_, .f32⟩
  | 23 => ⟨S128x32x64, .f32⟩
  | 24 => ⟨S_, .i32⟩
  | 25 => ⟨S128x32x64x128, .f32⟩
  | 26 => ⟨S128x32x128x128, .f32⟩
  | 27 => ⟨S128x32x64x128, .f32⟩
  | 28 => ⟨S128x32x64x128, .f32⟩
  | 29 => ⟨S128x32x64x128, .f32⟩
  | 30 => ⟨S128x32x64x128, .f32⟩
  | 31 => ⟨S128x32x64, .f32⟩
  | 32 => ⟨S_, .i32⟩
  | 33 => ⟨S32x128x128, .f32⟩
  | 34 => ⟨S128x32x64x128, .f32⟩
  | 35 => ⟨S128x32x64x128, .f32⟩
  | 36 => ⟨S128x32x64x128, .f32⟩
  | 37 => ⟨S128x32x64x128, .f32⟩
  | 38 => ⟨S128x32x64, .f32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S1x32x64x128, .f32⟩
  | 49 => ⟨S32x64x128, .f32⟩
  | 50 => ⟨S_, .i32⟩
  | 51 => ⟨S_, .i32⟩
  | 52 => ⟨S_, .i32⟩
  | 53 => ⟨S1x32x128x128, .f32⟩
  | 54 => ⟨S32x128x128, .f32⟩
  | 55 => ⟨S_, .i32⟩
  | 56 => ⟨S_, .i32⟩
  | 57 => ⟨S_, .i32⟩
  | 58 => ⟨S1x32x64x128, .f32⟩
  | 59 => ⟨S32x64x128, .f32⟩
  | 60 => ⟨S_, .i32⟩
  | 61 => ⟨S_, .i32⟩
  | 62 => ⟨S_, .i32⟩
  | 63 => ⟨S1x32x64x128, .f32⟩
  | 64 => ⟨S32x64x128, .f32⟩
  | 65 => ⟨S_, .i32⟩
  | 66 => ⟨S_, .i32⟩
  | 67 => ⟨S_, .i32⟩
  | 68 => ⟨S1x32x64x128, .f32⟩
  | 69 => ⟨S32x64x128, .f32⟩
  | 70 => ⟨S_, .i32⟩
  | 71 => ⟨S_, .i32⟩
  | 72 => ⟨S_, .i32⟩
  | 73 => ⟨S1x32x64x128, .f32⟩
  | 74 => ⟨S32x64x128, .f32⟩
  | 75 => ⟨S_, .i32⟩
  | 76 => ⟨S_, .i32⟩
  | 77 => ⟨S1x32x64, .f32⟩
  | 78 => ⟨S32x64, .f32⟩
  | 79 => ⟨S64, .i32⟩
  | 80 => ⟨S64x1, .i32⟩
  | 81 => ⟨S1x64, .i32⟩
  | 82 => ⟨S64x64, .i32⟩
  | 83 => ⟨S64x64, .i32⟩
  | 84 => ⟨S64x64, .i1⟩
  | 85 => ⟨S32x64x1, .f32⟩
  | 86 => ⟨S32x1x64, .f32⟩
  | 87 => ⟨S32x64x64, .f32⟩
  | 88 => ⟨S32x64x64, .f32⟩
  | 89 => ⟨S32x64x64, .f32⟩
  | 90 => ⟨S_, .f32⟩
  | 91 => ⟨S32x64x64, .f32⟩
  | 92 => ⟨S32x64x64, .f32⟩
  | 93 => ⟨S_, .f32⟩
  | 94 => ⟨S32x64x64, .f32⟩
  | 95 => ⟨S32x64x64, .i1⟩
  | 96 => ⟨S_, .f32⟩
  | 97 => ⟨S32x64x64, .f32⟩
  | 98 => ⟨S32x64x64, .i1⟩
  | 99 => ⟨S_, .f32⟩
  | 100 => ⟨S32x64x64, .f32⟩
  | 101 => ⟨S_, .f32⟩
  | 102 => ⟨S32x64x64, .f32⟩
  | 103 => ⟨S_, .f32⟩
  | 104 => ⟨S32x64x64, .f32⟩
  | 105 => ⟨S32x64x64, .f32⟩
  | 106 => ⟨S32x64x64, .f32⟩
  | 107 => ⟨S32x64x64, .f32⟩
  | 108 => ⟨S_, .f32⟩
  | 109 => ⟨S_, .f32⟩
  | 110 => ⟨S32x64x64, .i1⟩
  | 111 => ⟨S32x64x64, .f32⟩
  | 112 => ⟨S32x64x64, .f32⟩
  | 113 => ⟨S_, .f32⟩
  | 114 => ⟨S32x64x64, .f32⟩
  | 115 => ⟨S32x64x64, .f32⟩
  | 116 => ⟨S32x64x64, .f32⟩
  | 117 => ⟨S_, .f32⟩
  | 118 => ⟨S_, .f32⟩
  | 119 => ⟨S32x64x64, .i1⟩
  | 120 => ⟨S32x64x64, .f32⟩
  | 121 => ⟨S32x64x64, .f32⟩
  | 122 => ⟨S_, .f32⟩
  | 123 => ⟨S32x64x64, .f32⟩
  | 124 => ⟨S32x1, .f32⟩
  | 125 => ⟨S32, .f32⟩
  | 126 => ⟨S32x64, .f32⟩
  | 127 => ⟨S32x64x1, .f32⟩
  | _ => ⟨S8192x4096, .f32⟩

abbrev hbmTy0_2 (i : Nat) : BufTy := match i % 128 with
  | 0 => ⟨S32x64x128, .f32⟩
  | 1 => ⟨S32x64x128, .f32⟩
  | 2 => ⟨S32x1, .f32⟩
  | 3 => ⟨S32x64, .f32⟩
  | 4 => ⟨S32x64, .f32⟩
  | 5 => ⟨S32x64, .f32⟩
  | 6 => ⟨S32x64x1, .f32⟩
  | 7 => ⟨S32x64x128, .f32⟩
  | 8 => ⟨S32x64x128, .f32⟩
  | 9 => ⟨S32x64x128, .f32⟩
  | 10 => ⟨S32x64x128, .f32⟩
  | 11 => ⟨S32, .f32⟩
  | 12 => ⟨S32x1x1, .f32⟩
  | 13 => ⟨S32x128x64, .f32⟩
  | 14 => ⟨S32x64x128, .f32⟩
  | 15 => ⟨S32x128x64, .f32⟩
  | 16 => ⟨S32x64x128, .f32⟩
  | 17 => ⟨S32x128x128, .f32⟩
  | 18 => ⟨S_, .f32⟩
  | 19 => ⟨S32, .f32⟩
  | 20 => ⟨S32x1x1, .f32⟩
  | 21 => ⟨S32x128x128, .f32⟩
  | 22 => ⟨S32x128x128, .f32⟩
  | 23 => ⟨S_, .f32⟩
  | 24 => ⟨S32, .f32⟩
  | 25 => ⟨S32, .f32⟩
  | 26 => ⟨S32x128x64, .f32⟩
  | 27 => ⟨S32x64x128, .f32⟩
  | 28 => ⟨S32x64x128, .f32⟩
  | 29 => ⟨S32x64x64, .f32⟩
  | 30 => ⟨S32x128x128, .f32⟩
  | 31 => ⟨S32x128x128, .f32⟩
  | 32 => ⟨S32x128x128, .f32⟩
  | 33 => ⟨S32x64x128, .f32⟩
  | 34 => ⟨S32x64x128, .f32⟩
  | 35 => ⟨S32x128x128, .f32⟩
  | 36 => ⟨S32x128x128, .f32⟩
  | 37 => ⟨S32x128x128, .f32⟩
  | 38 => ⟨S32x64x128, .f32⟩
  | 39 => ⟨S32x64x128, .f32⟩
  | 40 => ⟨S_, .f32⟩
  | 41 => ⟨S32x64, .f32⟩
  | 42 => ⟨S32x64x1, .f32⟩
  | 43 => ⟨S32x64x128, .f32⟩
  | 44 => ⟨S32x64x128, .f32⟩
  | 45 => ⟨S_, .f32⟩
  | 46 => ⟨S32x64, .f32⟩
  | 47 => ⟨S32x64, .f32⟩
  | 48 => ⟨S_, .f32⟩
  | 49 => ⟨S32, .f32⟩
  | 50 => ⟨S32x1, .f32⟩
  | 51 => ⟨S32x64, .f32⟩
  | 52 => ⟨S_, .f32⟩
  | 53 => ⟨S32, .f32⟩
  | 54 => ⟨S32, .f32⟩
  | 55 => ⟨S32x64x128, .f32⟩
  | 56 => ⟨S_, .f32⟩
  | 57 => ⟨S32x64, .f32⟩
  | 58 => ⟨S32x64x1, .f32⟩
  | 59 => ⟨S32x64x128, .f32⟩
  | 60 => ⟨S32x64x128, .f32⟩
  | 61 => ⟨S_, .f32⟩
  | 62 => ⟨S32x64, .f32⟩
  | 63 => ⟨S32x64, .f32⟩
  | 64 => ⟨S32x64, .f32⟩
  | 65 => ⟨S32x1, .f32⟩
  | 66 => ⟨S_, .f32⟩
  | 67 => ⟨S32x64, .f32⟩
  | 68 => ⟨S32x64, .f32⟩
  | 69 => ⟨S_, .f32⟩
  | 70 => ⟨S32x64x64, .f32⟩
  | 71 => ⟨S32x64x64, .f32⟩
  | 72 => ⟨S32x64x64, .f32⟩
  | 73 => ⟨S32x64x64, .f32⟩
  | 74 => ⟨S32x64x128, .f32⟩
  | 75 => ⟨S32x64x128, .f32⟩
  | 76 => ⟨S32x64x128, .f32⟩
  | 77 => ⟨S32x64x128, .f32⟩
  | 78 => ⟨S_, .f32⟩
  | 79 => ⟨S32x64x64, .f32⟩
  | 80 => ⟨S32x64x64, .f32⟩
  | 81 => ⟨S32x64x64, .f32⟩
  | 82 => ⟨S32x64x64, .f32⟩
  | 83 => ⟨S_, .f32⟩
  | 84 => ⟨S32x64, .f32⟩
  | 85 => ⟨S32x64x1, .f32⟩
  | 86 => ⟨S32x64x64, .f32⟩
  | 87 => ⟨S_, .f32⟩
  | 88 => ⟨S32x64, .f32⟩
  | 89 => ⟨S32x1x64, .f32⟩
  | 90 => ⟨S_, .f32⟩
  | 91 => ⟨S32x64, .f32⟩
  | 92 => ⟨S32x64, .f32⟩
  | 93 => ⟨S_, .f32⟩
  | 94 => ⟨S32x64, .f32⟩
  | 95 => ⟨S32x64, .f32⟩
  | 96 => ⟨S1x32x64x128, .f32⟩
  | 97 => ⟨S_, .i32⟩
  | 98 => ⟨S_, .i32⟩
  | 99 => ⟨S_, .i32⟩
  | 100 => ⟨S128x32x64x128, .f32⟩
  | 101 => ⟨S1x32x64x128, .f32⟩
  | 102 => ⟨S_, .i32⟩
  | 103 => ⟨S_, .i32⟩
  | 104 => ⟨S_, .i32⟩
  | 105 => ⟨S128x32x64x128, .f32⟩
  | 106 => ⟨S1x32x64x128, .f32⟩
  | 107 => ⟨S_, .i32⟩
  | 108 => ⟨S_, .i32⟩
  | 109 => ⟨S_, .i32⟩
  | 110 => ⟨S128x32x64x128, .f32⟩
  | 111 => ⟨S1x32x64x128, .f32⟩
  | 112 => ⟨S_, .i32⟩
  | 113 => ⟨S_, .i32⟩
  | 114 => ⟨S_, .i32⟩
  | 115 => ⟨S128x32x64x128, .f32⟩
  | 116 => ⟨S1x32x64, .f32⟩
  | 117 => ⟨S_, .i32⟩
  | 118 => ⟨S_, .i32⟩
  | 119 => ⟨S128x32x64, .f32⟩
  | 120 => ⟨S_, .i32⟩
  | 121 => ⟨S_, .i32⟩
  | 122 => ⟨S128x64x32, .f32⟩
  | 123 => ⟨S8192x32, .f32⟩
  | 124 => ⟨S128x64x32x128, .f32⟩
  | 125 => ⟨S8192x4096, .f32⟩
  | 126 => ⟨S128x64x32x128, .f32⟩
  | 127 => ⟨S8192x4096, .f32⟩
  | _ => ⟨S8192x4096, .f32⟩

abbrev hbmTy0_3 (i : Nat) : BufTy := match i % 128 with
  | 0 => ⟨S128x64x32x128, .f32⟩
  | 1 => ⟨S8192x32x128, .f32⟩
  | 2 => ⟨S128x64x32x128, .f32⟩
  | 3 => ⟨S8192x32x128, .f32⟩
  | 4 => ⟨S8192x4096, .f32⟩
  | 5 => ⟨S8192x4096, .f32⟩
  | 6 => ⟨S8192x32x128, .f32⟩
  | 7 => ⟨S8192x4096, .f32⟩
  | _ => ⟨S8192x4096, .f32⟩

abbrev hbmTy (i : Nat) : BufTy := match i / 128 with
  | 0 => hbmTy0_0 i
  | 1 => hbmTy0_1 i
  | 2 => hbmTy0_2 i
  | 3 => hbmTy0_3 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_call0_v0 : Ref sig .tc := ⟨.hbm, 34, rfl⟩
abbrev main_v25_0 : Ref sig .tc := ⟨.hbm, 35, rfl⟩
abbrev main_v25_1 : Ref sig .tc := ⟨.hbm, 36, rfl⟩
abbrev main_cst_1 : Ref sig .tc := ⟨.hbm, 37, rfl⟩
abbrev main_call1_v0 : Ref sig .tc := ⟨.hbm, 38, rfl⟩
abbrev main_v26_0 : Ref sig .tc := ⟨.hbm, 39, rfl⟩
abbrev main_v26_1 : Ref sig .tc := ⟨.hbm, 40, rfl⟩
abbrev main_cst_2 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_c : Ref sig .tc := ⟨.hbm, 45, rfl⟩
abbrev main_v29_0 : Ref sig .tc := ⟨.hbm, 46, rfl⟩
abbrev main_v29_1 : Ref sig .tc := ⟨.hbm, 47, rfl⟩
abbrev main_v29_2 : Ref sig .tc := ⟨.hbm, 48, rfl⟩
abbrev main_v29_3 : Ref sig .tc := ⟨.hbm, 49, rfl⟩
abbrev main_v29_4 : Ref sig .tc := ⟨.hbm, 50, rfl⟩
abbrev main_v29_5 : Ref sig .tc := ⟨.hbm, 51, rfl⟩
abbrev main_v29_6 : Ref sig .tc := ⟨.hbm, 52, rfl⟩
abbrev main_v29_7 : Ref sig .tc := ⟨.hbm, 53, rfl⟩
abbrev main_v29_8 : Ref sig .tc := ⟨.hbm, 54, rfl⟩
abbrev main_v29_9 : Ref sig .tc := ⟨.hbm, 55, rfl⟩
abbrev main_v29_10 : Ref sig .tc := ⟨.hbm, 56, rfl⟩
abbrev main_v29_11 : Ref sig .tc := ⟨.hbm, 57, rfl⟩
abbrev main_v29_12 : Ref sig .tc := ⟨.hbm, 58, rfl⟩
abbrev main_while0c_c_24 : Ref sig .tc := ⟨.hbm, 59, rfl⟩
abbrev main_while0c_v56 : Ref sig .tc := ⟨.hbm, 60, rfl⟩
abbrev main_while0b_call2_c : Ref sig .tc := ⟨.hbm, 61, rfl⟩
abbrev main_while0b_call2_c_0 : Ref sig .tc := ⟨.hbm, 62, rfl⟩
abbrev main_while0b_call2_c_1 : Ref sig .tc := ⟨.hbm, 63, rfl⟩
abbrev main_while0b_call2_v0 : Ref sig .tc := ⟨.hbm, 64, rfl⟩
abbrev main_while0b_v56 : Ref sig .tc := ⟨.hbm, 65, rfl⟩
abbrev main_while0b_call3_c : Ref sig .tc := ⟨.hbm, 66, rfl⟩
abbrev main_while0b_call3_c_0 : Ref sig .tc := ⟨.hbm, 67, rfl⟩
abbrev main_while0b_call3_c_1 : Ref sig .tc := ⟨.hbm, 68, rfl⟩
abbrev main_while0b_call3_v0 : Ref sig .tc := ⟨.hbm, 69, rfl⟩
abbrev main_while0b_v57 : Ref sig .tc := ⟨.hbm, 70, rfl⟩
abbrev main_while0b_call4_c : Ref sig .tc := ⟨.hbm, 71, rfl⟩
abbrev main_while0b_call4_c_0 : Ref sig .tc := ⟨.hbm, 72, rfl⟩
abbrev main_while0b_call4_c_1 : Ref sig .tc := ⟨.hbm, 73, rfl⟩
abbrev main_while0b_call4_v0 : Ref sig .tc := ⟨.hbm, 74, rfl⟩
abbrev main_while0b_v58 : Ref sig .tc := ⟨.hbm, 75, rfl⟩
abbrev main_while0b_call5_c : Ref sig .tc := ⟨.hbm, 76, rfl⟩
abbrev main_while0b_call5_c_0 : Ref sig .tc := ⟨.hbm, 77, rfl⟩
abbrev main_while0b_call5_c_1 : Ref sig .tc := ⟨.hbm, 78, rfl⟩
abbrev main_while0b_call5_v0 : Ref sig .tc := ⟨.hbm, 79, rfl⟩
abbrev main_while0b_v59 : Ref sig .tc := ⟨.hbm, 80, rfl⟩
abbrev main_while0b_call6_c : Ref sig .tc := ⟨.hbm, 81, rfl⟩
abbrev main_while0b_call6_c_0 : Ref sig .tc := ⟨.hbm, 82, rfl⟩
abbrev main_while0b_call6_v0 : Ref sig .tc := ⟨.hbm, 83, rfl⟩
abbrev main_while0b_v60 : Ref sig .tc := ⟨.hbm, 84, rfl⟩
abbrev main_while0b_v61 : Ref sig .tc := ⟨.hbm, 85, rfl⟩
abbrev main_while0b_v62 : Ref sig .tc := ⟨.hbm, 86, rfl⟩
abbrev main_while0b_v63 : Ref sig .tc := ⟨.hbm, 87, rfl⟩
abbrev main_while0b_v64 : Ref sig .tc := ⟨.hbm, 88, rfl⟩
abbrev main_while0b_v65 : Ref sig .tc := ⟨.hbm, 89, rfl⟩
abbrev main_while0b_cst_24 : Ref sig .tc := ⟨.hbm, 90, rfl⟩
abbrev main_while0b_v66 : Ref sig .tc := ⟨.hbm, 91, rfl⟩
abbrev main_while0b_v67 : Ref sig .tc := ⟨.hbm, 92, rfl⟩
abbrev main_while0b_v68 : Ref sig .tc := ⟨.hbm, 93, rfl⟩
abbrev main_while0b_v69 : Ref sig .tc := ⟨.hbm, 94, rfl⟩
abbrev main_while0b_v70 : Ref sig .tc := ⟨.hbm, 95, rfl⟩
abbrev main_while0b_v71 : Ref sig .tc := ⟨.hbm, 96, rfl⟩
abbrev main_while0b_v72 : Ref sig .tc := ⟨.hbm, 97, rfl⟩
abbrev main_while0b_v73 : Ref sig .tc := ⟨.hbm, 98, rfl⟩
abbrev main_while0b_v74 : Ref sig .tc := ⟨.hbm, 99, rfl⟩
abbrev main_while0b_v75 : Ref sig .tc := ⟨.hbm, 100, rfl⟩
abbrev main_while0b_v76 : Ref sig .tc := ⟨.hbm, 101, rfl⟩
abbrev main_while0b_v77 : Ref sig .tc := ⟨.hbm, 102, rfl⟩
abbrev main_while0b_v78 : Ref sig .tc := ⟨.hbm, 103, rfl⟩
abbrev main_while0b_v79 : Ref sig .tc := ⟨.hbm, 104, rfl⟩
abbrev main_while0b_v80 : Ref sig .tc := ⟨.hbm, 105, rfl⟩
abbrev main_while0b_v81 : Ref sig .tc := ⟨.hbm, 106, rfl⟩
abbrev main_while0b_v82 : Ref sig .tc := ⟨.hbm, 107, rfl⟩
abbrev main_while0b_v83 : Ref sig .tc := ⟨.hbm, 108, rfl⟩
abbrev main_while0b_v84 : Ref sig .tc := ⟨.hbm, 109, rfl⟩
abbrev main_while0b_v85 : Ref sig .tc := ⟨.hbm, 110, rfl⟩
abbrev main_while0b_v86 : Ref sig .tc := ⟨.hbm, 111, rfl⟩
abbrev main_while0b_v87 : Ref sig .tc := ⟨.hbm, 112, rfl⟩
abbrev main_while0b_v88 : Ref sig .tc := ⟨.hbm, 113, rfl⟩
abbrev main_while0b_v89 : Ref sig .tc := ⟨.hbm, 114, rfl⟩
abbrev main_while0b_v90 : Ref sig .tc := ⟨.hbm, 115, rfl⟩
abbrev main_while0b_v91 : Ref sig .tc := ⟨.hbm, 116, rfl⟩
abbrev main_while0b_v92 : Ref sig .tc := ⟨.hbm, 117, rfl⟩
abbrev main_while0b_v93 : Ref sig .tc := ⟨.hbm, 118, rfl⟩
abbrev main_while0b_v94 : Ref sig .tc := ⟨.hbm, 119, rfl⟩
abbrev main_while0b_v95 : Ref sig .tc := ⟨.hbm, 120, rfl⟩
abbrev main_while0b_v96 : Ref sig .tc := ⟨.hbm, 121, rfl⟩
abbrev main_while0b_call9_v0 : Ref sig .tc := ⟨.hbm, 122, rfl⟩
abbrev main_while0b_call9_c : Ref sig .tc := ⟨.hbm, 123, rfl⟩
abbrev main_while0b_call9_c_0 : Ref sig .tc := ⟨.hbm, 124, rfl⟩
abbrev main_while0b_call9_c_1 : Ref sig .tc := ⟨.hbm, 125, rfl⟩
abbrev main_while0b_v97 : Ref sig .tc := ⟨.hbm, 126, rfl⟩
abbrev main_while0b_call10_v0 : Ref sig .tc := ⟨.hbm, 127, rfl⟩
abbrev main_while0b_call10_c : Ref sig .tc := ⟨.hbm, 128, rfl⟩
abbrev main_while0b_call10_c_0 : Ref sig .tc := ⟨.hbm, 129, rfl⟩
abbrev main_while0b_call10_c_1 : Ref sig .tc := ⟨.hbm, 130, rfl⟩
abbrev main_while0b_v98 : Ref sig .tc := ⟨.hbm, 131, rfl⟩
abbrev main_while0b_c_25 : Ref sig .tc := ⟨.hbm, 132, rfl⟩
abbrev main_while0b_v99 : Ref sig .tc := ⟨.hbm, 133, rfl⟩
abbrev main_v30 : Ref sig .tc := ⟨.hbm, 134, rfl⟩
abbrev main_v31 : Ref sig .tc := ⟨.hbm, 135, rfl⟩
abbrev main_cst_4 : Ref sig .tc := ⟨.hbm, 136, rfl⟩
abbrev main_v32 : Ref sig .tc := ⟨.hbm, 137, rfl⟩
abbrev main_v33 : Ref sig .tc := ⟨.hbm, 138, rfl⟩
abbrev main_v34 : Ref sig .tc := ⟨.hbm, 139, rfl⟩
abbrev main_cst_5 : Ref sig .tc := ⟨.hbm, 140, rfl⟩
abbrev main_v35 : Ref sig .tc := ⟨.hbm, 141, rfl⟩
abbrev main_cst_6 : Ref sig .tc := ⟨.hbm, 142, rfl⟩
abbrev main_v36 : Ref sig .tc := ⟨.hbm, 143, rfl⟩
abbrev main_cst_7 : Ref sig .tc := ⟨.hbm, 144, rfl⟩
abbrev main_v37 : Ref sig .tc := ⟨.hbm, 145, rfl⟩
abbrev main_cst_8 : Ref sig .tc := ⟨.hbm, 146, rfl⟩
abbrev main_v38 : Ref sig .tc := ⟨.hbm, 147, rfl⟩
abbrev main_cst_9 : Ref sig .tc := ⟨.hbm, 148, rfl⟩
abbrev main_v39 : Ref sig .tc := ⟨.hbm, 149, rfl⟩
abbrev main_cst_10 : Ref sig .tc := ⟨.hbm, 150, rfl⟩
abbrev main_v40 : Ref sig .tc := ⟨.hbm, 151, rfl⟩
abbrev main_c_11 : Ref sig .tc := ⟨.hbm, 152, rfl⟩
abbrev main_v41_0 : Ref sig .tc := ⟨.hbm, 153, rfl⟩
abbrev main_v41_1 : Ref sig .tc := ⟨.hbm, 154, rfl⟩
abbrev main_v41_2 : Ref sig .tc := ⟨.hbm, 155, rfl⟩
abbrev main_v41_3 : Ref sig .tc := ⟨.hbm, 156, rfl⟩
abbrev main_v41_4 : Ref sig .tc := ⟨.hbm, 157, rfl⟩
abbrev main_v41_5 : Ref sig .tc := ⟨.hbm, 158, rfl⟩
abbrev main_v41_6 : Ref sig .tc := ⟨.hbm, 159, rfl⟩
abbrev main_v41_7 : Ref sig .tc := ⟨.hbm, 160, rfl⟩
abbrev main_v41_8 : Ref sig .tc := ⟨.hbm, 161, rfl⟩
abbrev main_v41_9 : Ref sig .tc := ⟨.hbm, 162, rfl⟩
abbrev main_v41_10 : Ref sig .tc := ⟨.hbm, 163, rfl⟩
abbrev main_v41_11 : Ref sig .tc := ⟨.hbm, 164, rfl⟩
abbrev main_v41_12 : Ref sig .tc := ⟨.hbm, 165, rfl⟩
abbrev main_v41_13 : Ref sig .tc := ⟨.hbm, 166, rfl⟩
abbrev main_while1c_c_25 : Ref sig .tc := ⟨.hbm, 167, rfl⟩
abbrev main_while1c_v56 : Ref sig .tc := ⟨.hbm, 168, rfl⟩
abbrev main_while1b_c_25 : Ref sig .tc := ⟨.hbm, 169, rfl⟩
abbrev main_while1b_v56 : Ref sig .tc := ⟨.hbm, 170, rfl⟩
abbrev main_while1b_c_26 : Ref sig .tc := ⟨.hbm, 171, rfl⟩
abbrev main_while1b_v57 : Ref sig .tc := ⟨.hbm, 172, rfl⟩
abbrev main_while1b_call11_c : Ref sig .tc := ⟨.hbm, 173, rfl⟩
abbrev main_while1b_call11_c_0 : Ref sig .tc := ⟨.hbm, 174, rfl⟩
abbrev main_while1b_call11_c_1 : Ref sig .tc := ⟨.hbm, 175, rfl⟩
abbrev main_while1b_call11_v0 : Ref sig .tc := ⟨.hbm, 176, rfl⟩
abbrev main_while1b_v58 : Ref sig .tc := ⟨.hbm, 177, rfl⟩
abbrev main_while1b_call12_c : Ref sig .tc := ⟨.hbm, 178, rfl⟩
abbrev main_while1b_call12_c_0 : Ref sig .tc := ⟨.hbm, 179, rfl⟩
abbrev main_while1b_call12_c_1 : Ref sig .tc := ⟨.hbm, 180, rfl⟩
abbrev main_while1b_call12_v0 : Ref sig .tc := ⟨.hbm, 181, rfl⟩
abbrev main_while1b_v59 : Ref sig .tc := ⟨.hbm, 182, rfl⟩
abbrev main_while1b_call13_c : Ref sig .tc := ⟨.hbm, 183, rfl⟩
abbrev main_while1b_call13_c_0 : Ref sig .tc := ⟨.hbm, 184, rfl⟩
abbrev main_while1b_call13_c_1 : Ref sig .tc := ⟨.hbm, 185, rfl⟩
abbrev main_while1b_call13_v0 : Ref sig .tc := ⟨.hbm, 186, rfl⟩
abbrev main_while1b_v60 : Ref sig .tc := ⟨.hbm, 187, rfl⟩
abbrev main_while1b_call14_c : Ref sig .tc := ⟨.hbm, 188, rfl⟩
abbrev main_while1b_call14_c_0 : Ref sig .tc := ⟨.hbm, 189, rfl⟩
abbrev main_while1b_call14_c_1 : Ref sig .tc := ⟨.hbm, 190, rfl⟩
abbrev main_while1b_call14_v0 : Ref sig .tc := ⟨.hbm, 191, rfl⟩
abbrev main_while1b_v61 : Ref sig .tc := ⟨.hbm, 192, rfl⟩
abbrev main_while1b_call15_c : Ref sig .tc := ⟨.hbm, 193, rfl⟩
abbrev main_while1b_call15_c_0 : Ref sig .tc := ⟨.hbm, 194, rfl⟩
abbrev main_while1b_call15_c_1 : Ref sig .tc := ⟨.hbm, 195, rfl⟩
abbrev main_while1b_call15_v0 : Ref sig .tc := ⟨.hbm, 196, rfl⟩
abbrev main_while1b_v62 : Ref sig .tc := ⟨.hbm, 197, rfl⟩
abbrev main_while1b_call16_c : Ref sig .tc := ⟨.hbm, 198, rfl⟩
abbrev main_while1b_call16_c_0 : Ref sig .tc := ⟨.hbm, 199, rfl⟩
abbrev main_while1b_call16_c_1 : Ref sig .tc := ⟨.hbm, 200, rfl⟩
abbrev main_while1b_call16_v0 : Ref sig .tc := ⟨.hbm, 201, rfl⟩
abbrev main_while1b_v63 : Ref sig .tc := ⟨.hbm, 202, rfl⟩
abbrev main_while1b_call17_c : Ref sig .tc := ⟨.hbm, 203, rfl⟩
abbrev main_while1b_call17_c_0 : Ref sig .tc := ⟨.hbm, 204, rfl⟩
abbrev main_while1b_call17_v0 : Ref sig .tc := ⟨.hbm, 205, rfl⟩
abbrev main_while1b_v64 : Ref sig .tc := ⟨.hbm, 206, rfl⟩
abbrev main_while1b_v65 : Ref sig .tc := ⟨.hbm, 207, rfl⟩
abbrev main_while1b_v66 : Ref sig .tc := ⟨.hbm, 208, rfl⟩
abbrev main_while1b_v67 : Ref sig .tc := ⟨.hbm, 209, rfl⟩
abbrev main_while1b_v68 : Ref sig .tc := ⟨.hbm, 210, rfl⟩
abbrev main_while1b_v69 : Ref sig .tc := ⟨.hbm, 211, rfl⟩
abbrev main_while1b_v70 : Ref sig .tc := ⟨.hbm, 212, rfl⟩
abbrev main_while1b_v71 : Ref sig .tc := ⟨.hbm, 213, rfl⟩
abbrev main_while1b_v72 : Ref sig .tc := ⟨.hbm, 214, rfl⟩
abbrev main_while1b_v73 : Ref sig .tc := ⟨.hbm, 215, rfl⟩
abbrev main_while1b_v74 : Ref sig .tc := ⟨.hbm, 216, rfl⟩
abbrev main_while1b_v75 : Ref sig .tc := ⟨.hbm, 217, rfl⟩
abbrev main_while1b_cst_27 : Ref sig .tc := ⟨.hbm, 218, rfl⟩
abbrev main_while1b_v76 : Ref sig .tc := ⟨.hbm, 219, rfl⟩
abbrev main_while1b_v77 : Ref sig .tc := ⟨.hbm, 220, rfl⟩
abbrev main_while1b_cst_28 : Ref sig .tc := ⟨.hbm, 221, rfl⟩
abbrev main_while1b_v78 : Ref sig .tc := ⟨.hbm, 222, rfl⟩
abbrev main_while1b_v79 : Ref sig .tc := ⟨.hbm, 223, rfl⟩
abbrev main_while1b_cst_29 : Ref sig .tc := ⟨.hbm, 224, rfl⟩
abbrev main_while1b_v80 : Ref sig .tc := ⟨.hbm, 225, rfl⟩
abbrev main_while1b_v81 : Ref sig .tc := ⟨.hbm, 226, rfl⟩
abbrev main_while1b_cst_30 : Ref sig .tc := ⟨.hbm, 227, rfl⟩
abbrev main_while1b_v82 : Ref sig .tc := ⟨.hbm, 228, rfl⟩
abbrev main_while1b_cst_31 : Ref sig .tc := ⟨.hbm, 229, rfl⟩
abbrev main_while1b_v83 : Ref sig .tc := ⟨.hbm, 230, rfl⟩
abbrev main_while1b_cst_32 : Ref sig .tc := ⟨.hbm, 231, rfl⟩
abbrev main_while1b_v84 : Ref sig .tc := ⟨.hbm, 232, rfl⟩
abbrev main_while1b_v85 : Ref sig .tc := ⟨.hbm, 233, rfl⟩
abbrev main_while1b_v86 : Ref sig .tc := ⟨.hbm, 234, rfl⟩
abbrev main_while1b_v87 : Ref sig .tc := ⟨.hbm, 235, rfl⟩
abbrev main_while1b_cst_33 : Ref sig .tc := ⟨.hbm, 236, rfl⟩
abbrev main_while1b_call18_v0 : Ref sig .tc := ⟨.hbm, 237, rfl⟩
abbrev main_while1b_v88_1 : Ref sig .tc := ⟨.hbm, 238, rfl⟩
abbrev main_while1b_call18_v2 : Ref sig .tc := ⟨.hbm, 239, rfl⟩
abbrev main_while1b_v88_0 : Ref sig .tc := ⟨.hbm, 240, rfl⟩
abbrev main_while1b_call18_cst : Ref sig .tc := ⟨.hbm, 241, rfl⟩
abbrev main_while1b_v88_2 : Ref sig .tc := ⟨.hbm, 242, rfl⟩
abbrev main_while1b_v89 : Ref sig .tc := ⟨.hbm, 243, rfl⟩
abbrev main_while1b_v90 : Ref sig .tc := ⟨.hbm, 244, rfl⟩
abbrev main_while1b_cst_34 : Ref sig .tc := ⟨.hbm, 245, rfl⟩
abbrev main_while1b_call19_v0 : Ref sig .tc := ⟨.hbm, 246, rfl⟩
abbrev main_while1b_v91_1 : Ref sig .tc := ⟨.hbm, 247, rfl⟩
abbrev main_while1b_call19_v2 : Ref sig .tc := ⟨.hbm, 248, rfl⟩
abbrev main_while1b_v91_0 : Ref sig .tc := ⟨.hbm, 249, rfl⟩
abbrev main_while1b_call19_cst : Ref sig .tc := ⟨.hbm, 250, rfl⟩
abbrev main_while1b_v91_2 : Ref sig .tc := ⟨.hbm, 251, rfl⟩
abbrev main_while1b_v92 : Ref sig .tc := ⟨.hbm, 252, rfl⟩
abbrev main_while1b_v93 : Ref sig .tc := ⟨.hbm, 253, rfl⟩
abbrev main_while1b_v94 : Ref sig .tc := ⟨.hbm, 254, rfl⟩
abbrev main_while1b_v95 : Ref sig .tc := ⟨.hbm, 255, rfl⟩
abbrev main_while1b_v96 : Ref sig .tc := ⟨.hbm, 256, rfl⟩
abbrev main_while1b_v97 : Ref sig .tc := ⟨.hbm, 257, rfl⟩
abbrev main_while1b_v98 : Ref sig .tc := ⟨.hbm, 258, rfl⟩
abbrev main_while1b_v99 : Ref sig .tc := ⟨.hbm, 259, rfl⟩
abbrev main_while1b_v100 : Ref sig .tc := ⟨.hbm, 260, rfl⟩
abbrev main_while1b_v101 : Ref sig .tc := ⟨.hbm, 261, rfl⟩
abbrev main_while1b_v102 : Ref sig .tc := ⟨.hbm, 262, rfl⟩
abbrev main_while1b_v103 : Ref sig .tc := ⟨.hbm, 263, rfl⟩
abbrev main_while1b_v104 : Ref sig .tc := ⟨.hbm, 264, rfl⟩
abbrev main_while1b_v105 : Ref sig .tc := ⟨.hbm, 265, rfl⟩
abbrev main_while1b_v106 : Ref sig .tc := ⟨.hbm, 266, rfl⟩
abbrev main_while1b_v107 : Ref sig .tc := ⟨.hbm, 267, rfl⟩
abbrev main_while1b_v108 : Ref sig .tc := ⟨.hbm, 268, rfl⟩
abbrev main_while1b_v109 : Ref sig .tc := ⟨.hbm, 269, rfl⟩
abbrev main_while1b_v110 : Ref sig .tc := ⟨.hbm, 270, rfl⟩
abbrev main_while1b_v111 : Ref sig .tc := ⟨.hbm, 271, rfl⟩
abbrev main_while1b_v112 : Ref sig .tc := ⟨.hbm, 272, rfl⟩
abbrev main_while1b_v113 : Ref sig .tc := ⟨.hbm, 273, rfl⟩
abbrev main_while1b_cst_35 : Ref sig .tc := ⟨.hbm, 274, rfl⟩
abbrev main_while1b_v114 : Ref sig .tc := ⟨.hbm, 275, rfl⟩
abbrev main_while1b_v115 : Ref sig .tc := ⟨.hbm, 276, rfl⟩
abbrev main_while1b_v116 : Ref sig .tc := ⟨.hbm, 277, rfl⟩
abbrev main_while1b_v117 : Ref sig .tc := ⟨.hbm, 278, rfl⟩
abbrev main_while1b_cst_36 : Ref sig .tc := ⟨.hbm, 279, rfl⟩
abbrev main_while1b_v118 : Ref sig .tc := ⟨.hbm, 280, rfl⟩
abbrev main_while1b_v119 : Ref sig .tc := ⟨.hbm, 281, rfl⟩
abbrev main_while1b_v120 : Ref sig .tc := ⟨.hbm, 282, rfl⟩
abbrev main_while1b_v121 : Ref sig .tc := ⟨.hbm, 283, rfl⟩
abbrev main_while1b_v122 : Ref sig .tc := ⟨.hbm, 284, rfl⟩
abbrev main_while1b_v123 : Ref sig .tc := ⟨.hbm, 285, rfl⟩
abbrev main_while1b_v124 : Ref sig .tc := ⟨.hbm, 286, rfl⟩
abbrev main_while1b_v125 : Ref sig .tc := ⟨.hbm, 287, rfl⟩
abbrev main_while1b_v126 : Ref sig .tc := ⟨.hbm, 288, rfl⟩
abbrev main_while1b_v127 : Ref sig .tc := ⟨.hbm, 289, rfl⟩
abbrev main_while1b_v128 : Ref sig .tc := ⟨.hbm, 290, rfl⟩
abbrev main_while1b_v129 : Ref sig .tc := ⟨.hbm, 291, rfl⟩
abbrev main_while1b_v130 : Ref sig .tc := ⟨.hbm, 292, rfl⟩
abbrev main_while1b_v131 : Ref sig .tc := ⟨.hbm, 293, rfl⟩
abbrev main_while1b_v132 : Ref sig .tc := ⟨.hbm, 294, rfl⟩
abbrev main_while1b_v133 : Ref sig .tc := ⟨.hbm, 295, rfl⟩
abbrev main_while1b_cst_37 : Ref sig .tc := ⟨.hbm, 296, rfl⟩
abbrev main_while1b_v134 : Ref sig .tc := ⟨.hbm, 297, rfl⟩
abbrev main_while1b_v135 : Ref sig .tc := ⟨.hbm, 298, rfl⟩
abbrev main_while1b_v136 : Ref sig .tc := ⟨.hbm, 299, rfl⟩
abbrev main_while1b_v137 : Ref sig .tc := ⟨.hbm, 300, rfl⟩
abbrev main_while1b_cst_38 : Ref sig .tc := ⟨.hbm, 301, rfl⟩
abbrev main_while1b_v138 : Ref sig .tc := ⟨.hbm, 302, rfl⟩
abbrev main_while1b_v139 : Ref sig .tc := ⟨.hbm, 303, rfl⟩
abbrev main_while1b_cst_39 : Ref sig .tc := ⟨.hbm, 304, rfl⟩
abbrev main_while1b_v140 : Ref sig .tc := ⟨.hbm, 305, rfl⟩
abbrev main_while1b_v141 : Ref sig .tc := ⟨.hbm, 306, rfl⟩
abbrev main_while1b_v142 : Ref sig .tc := ⟨.hbm, 307, rfl⟩
abbrev main_while1b_cst_40 : Ref sig .tc := ⟨.hbm, 308, rfl⟩
abbrev main_while1b_v143 : Ref sig .tc := ⟨.hbm, 309, rfl⟩
abbrev main_while1b_v144 : Ref sig .tc := ⟨.hbm, 310, rfl⟩
abbrev main_while1b_v145 : Ref sig .tc := ⟨.hbm, 311, rfl⟩
abbrev main_while1b_cst_41 : Ref sig .tc := ⟨.hbm, 312, rfl⟩
abbrev main_while1b_v146 : Ref sig .tc := ⟨.hbm, 313, rfl⟩
abbrev main_while1b_v147 : Ref sig .tc := ⟨.hbm, 314, rfl⟩
abbrev main_while1b_v148 : Ref sig .tc := ⟨.hbm, 315, rfl⟩
abbrev main_while1b_v149 : Ref sig .tc := ⟨.hbm, 316, rfl⟩
abbrev main_while1b_cst_42 : Ref sig .tc := ⟨.hbm, 317, rfl⟩
abbrev main_while1b_v150 : Ref sig .tc := ⟨.hbm, 318, rfl⟩
abbrev main_while1b_v151 : Ref sig .tc := ⟨.hbm, 319, rfl⟩
abbrev main_while1b_v152 : Ref sig .tc := ⟨.hbm, 320, rfl⟩
abbrev main_while1b_v153 : Ref sig .tc := ⟨.hbm, 321, rfl⟩
abbrev main_while1b_cst_43 : Ref sig .tc := ⟨.hbm, 322, rfl⟩
abbrev main_while1b_v154 : Ref sig .tc := ⟨.hbm, 323, rfl⟩
abbrev main_while1b_v155 : Ref sig .tc := ⟨.hbm, 324, rfl⟩
abbrev main_while1b_call20_cst : Ref sig .tc := ⟨.hbm, 325, rfl⟩
abbrev main_while1b_call20_v0 : Ref sig .tc := ⟨.hbm, 326, rfl⟩
abbrev main_while1b_v156 : Ref sig .tc := ⟨.hbm, 327, rfl⟩
abbrev main_while1b_v157 : Ref sig .tc := ⟨.hbm, 328, rfl⟩
abbrev main_while1b_v158 : Ref sig .tc := ⟨.hbm, 329, rfl⟩
abbrev main_while1b_v159 : Ref sig .tc := ⟨.hbm, 330, rfl⟩
abbrev main_while1b_v160 : Ref sig .tc := ⟨.hbm, 331, rfl⟩
abbrev main_while1b_v161 : Ref sig .tc := ⟨.hbm, 332, rfl⟩
abbrev main_while1b_v162 : Ref sig .tc := ⟨.hbm, 333, rfl⟩
abbrev main_while1b_call21_cst : Ref sig .tc := ⟨.hbm, 334, rfl⟩
abbrev main_while1b_call21_v0 : Ref sig .tc := ⟨.hbm, 335, rfl⟩
abbrev main_while1b_v163 : Ref sig .tc := ⟨.hbm, 336, rfl⟩
abbrev main_while1b_v164 : Ref sig .tc := ⟨.hbm, 337, rfl⟩
abbrev main_while1b_v165 : Ref sig .tc := ⟨.hbm, 338, rfl⟩
abbrev main_while1b_cst_44 : Ref sig .tc := ⟨.hbm, 339, rfl⟩
abbrev main_while1b_v166 : Ref sig .tc := ⟨.hbm, 340, rfl⟩
abbrev main_while1b_v167 : Ref sig .tc := ⟨.hbm, 341, rfl⟩
abbrev main_while1b_v168 : Ref sig .tc := ⟨.hbm, 342, rfl⟩
abbrev main_while1b_cst_45 : Ref sig .tc := ⟨.hbm, 343, rfl⟩
abbrev main_while1b_v169 : Ref sig .tc := ⟨.hbm, 344, rfl⟩
abbrev main_while1b_v170 : Ref sig .tc := ⟨.hbm, 345, rfl⟩
abbrev main_while1b_cst_46 : Ref sig .tc := ⟨.hbm, 346, rfl⟩
abbrev main_while1b_v171 : Ref sig .tc := ⟨.hbm, 347, rfl⟩
abbrev main_while1b_v172 : Ref sig .tc := ⟨.hbm, 348, rfl⟩
abbrev main_while1b_cst_47 : Ref sig .tc := ⟨.hbm, 349, rfl⟩
abbrev main_while1b_v173 : Ref sig .tc := ⟨.hbm, 350, rfl⟩
abbrev main_while1b_v174 : Ref sig .tc := ⟨.hbm, 351, rfl⟩
abbrev main_while1b_call22_v0 : Ref sig .tc := ⟨.hbm, 352, rfl⟩
abbrev main_while1b_call22_c : Ref sig .tc := ⟨.hbm, 353, rfl⟩
abbrev main_while1b_call22_c_0 : Ref sig .tc := ⟨.hbm, 354, rfl⟩
abbrev main_while1b_call22_c_1 : Ref sig .tc := ⟨.hbm, 355, rfl⟩
abbrev main_while1b_v175 : Ref sig .tc := ⟨.hbm, 356, rfl⟩
abbrev main_while1b_call23_v0 : Ref sig .tc := ⟨.hbm, 357, rfl⟩
abbrev main_while1b_call23_c : Ref sig .tc := ⟨.hbm, 358, rfl⟩
abbrev main_while1b_call23_c_0 : Ref sig .tc := ⟨.hbm, 359, rfl⟩
abbrev main_while1b_call23_c_1 : Ref sig .tc := ⟨.hbm, 360, rfl⟩
abbrev main_while1b_v176 : Ref sig .tc := ⟨.hbm, 361, rfl⟩
abbrev main_while1b_call24_v0 : Ref sig .tc := ⟨.hbm, 362, rfl⟩
abbrev main_while1b_call24_c : Ref sig .tc := ⟨.hbm, 363, rfl⟩
abbrev main_while1b_call24_c_0 : Ref sig .tc := ⟨.hbm, 364, rfl⟩
abbrev main_while1b_call24_c_1 : Ref sig .tc := ⟨.hbm, 365, rfl⟩
abbrev main_while1b_v177 : Ref sig .tc := ⟨.hbm, 366, rfl⟩
abbrev main_while1b_call25_v0 : Ref sig .tc := ⟨.hbm, 367, rfl⟩
abbrev main_while1b_call25_c : Ref sig .tc := ⟨.hbm, 368, rfl⟩
abbrev main_while1b_call25_c_0 : Ref sig .tc := ⟨.hbm, 369, rfl⟩
abbrev main_while1b_call25_c_1 : Ref sig .tc := ⟨.hbm, 370, rfl⟩
abbrev main_while1b_v178 : Ref sig .tc := ⟨.hbm, 371, rfl⟩
abbrev main_while1b_call26_v0 : Ref sig .tc := ⟨.hbm, 372, rfl⟩
abbrev main_while1b_call26_c : Ref sig .tc := ⟨.hbm, 373, rfl⟩
abbrev main_while1b_call26_c_0 : Ref sig .tc := ⟨.hbm, 374, rfl⟩
abbrev main_while1b_v179 : Ref sig .tc := ⟨.hbm, 375, rfl⟩
abbrev main_while1b_c_48 : Ref sig .tc := ⟨.hbm, 376, rfl⟩
abbrev main_while1b_v180 : Ref sig .tc := ⟨.hbm, 377, rfl⟩
abbrev main_v42 : Ref sig .tc := ⟨.hbm, 378, rfl⟩
abbrev main_v43 : Ref sig .tc := ⟨.hbm, 379, rfl⟩
abbrev main_v44 : Ref sig .tc := ⟨.hbm, 380, rfl⟩
abbrev main_v45 : Ref sig .tc := ⟨.hbm, 381, rfl⟩
abbrev main_v46 : Ref sig .tc := ⟨.hbm, 382, rfl⟩
abbrev main_v47 : Ref sig .tc := ⟨.hbm, 383, rfl⟩
abbrev main_v48 : Ref sig .tc := ⟨.hbm, 384, rfl⟩
abbrev main_v49 : Ref sig .tc := ⟨.hbm, 385, rfl⟩
abbrev main_v50 : Ref sig .tc := ⟨.hbm, 386, rfl⟩
abbrev main_v51 : Ref sig .tc := ⟨.hbm, 387, rfl⟩
abbrev main_v52 : Ref sig .tc := ⟨.hbm, 388, rfl⟩
abbrev main_v53 : Ref sig .tc := ⟨.hbm, 389, rfl⟩
abbrev main_v54 : Ref sig .tc := ⟨.hbm, 390, rfl⟩
abbrev main_v55 : Ref sig .tc := ⟨.hbm, 391, rfl⟩

abbrev nD : Nat := 1
abbrev τ : Topo := Topo.v7x

variable {F : FTy → Type} [FloatOps F]

abbrev main_while0_count : Scf.Loop 32 := ⟨0#32, 128#32, 1#32⟩

abbrev main_while1_count : Scf.Loop 32 := ⟨0#32, 128#32, 1#32⟩
-- ==== Kernel2.lean ====
abbrev S8192x2048 : Shape := ⟨2, ![8192, 2048]⟩
abbrev S8x1024x2048 : Shape := ⟨3, ![8, 1024, 2048]⟩
abbrev S8192x8192 : Shape := ⟨2, ![8192, 8192]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S8x1024x2048, .bf16⟩
  | .hbm, ⟨2, _⟩ => ⟨S8192x8192, .f32⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, v27.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x2048 : Shape := ⟨2, ![8192, 2048]⟩
abbrev S8x1024x2048 : Shape := ⟨3, ![8, 1024, 2048]⟩
abbrev S8192x8192 : Shape := ⟨2, ![8192, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x1024x2048, .bf16⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8x1024x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel3.lean ====
abbrev S8192x8192 : Shape := ⟨2, ![8192, 8192]⟩
abbrev S8192x2048 : Shape := ⟨2, ![8192, 2048]⟩
abbrev S8x1024x2048 : Shape := ⟨3, ![8, 1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩
abbrev S8x1024x2048 : Shape := ⟨3, ![8, 1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S_, .f32⟩
  | .hbm, ⟨3, _⟩ => ⟨S8192x2048, .f32⟩
  | .hbm, ⟨4, _⟩ => ⟨S8192x8192, .f32⟩
  | .hbm, ⟨5, _⟩ => ⟨S8192x2048, .f32⟩
  | .hbm, ⟨6, _⟩ => ⟨S8192x2048, .f32⟩
  | .hbm, ⟨7, _⟩ => ⟨S2048x8192, .f32⟩
  | .hbm, ⟨8, _⟩ => ⟨S8192x2048, .f32⟩
  | .hbm, ⟨9, _⟩ => ⟨S8x1024x2048, .f32⟩
  | .hbm, ⟨10, _⟩ => ⟨S8x1024x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S8192x8192 : Shape := ⟨2, ![8192, 8192]⟩
abbrev S8x2048x1024 : Shape := ⟨3, ![8, 2048, 1024]⟩
abbrev S8192x2048 : Shape := ⟨2, ![8192, 2048]⟩
abbrev S1024x2048 : Shape := ⟨2, ![1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8x2048x1024, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_13 : BitVec 32 := 0#32
  let v19 : BitVec 1 := Scalar.cmpi .ne v18 c0_i32_13
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg2.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x8192 : Shape := ⟨2, ![8192, 8192]⟩
abbrev S8x2048x1024 : Shape := ⟨3, ![8, 2048, 1024]⟩
abbrev S_ : Shape := ⟨0, ![]⟩
abbrev S8192x2048 : Shape := ⟨2, ![8192, 2048]⟩
abbrev S2048x8x1024 : Shape := ⟨3, ![2048, 8, 1024]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8x2048x1024, .bf16⟩
  | .hbm, ⟨2, _⟩ => ⟨S_, .f32⟩
  | .hbm, ⟨3, _⟩ => ⟨S8192x2048, .f32⟩
  | .hbm, ⟨4, _⟩ => ⟨S8x2048x1024, .f32⟩
  | .hbm, ⟨5, _⟩ => ⟨S2048x8x1024, .f32⟩
  | .hbm, ⟨6, _⟩ => ⟨S2048x8192, .f32⟩
  | .hbm, ⟨7, _⟩ => ⟨S8192x8192, .f32⟩
  | .hbm, ⟨8, _⟩ => ⟨S8192x8192, .f32⟩
  | .hbm, ⟨9, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x2048 : Shape := ⟨2, ![8192, 2048]⟩
abbrev S8192x8192 : Shape := ⟨2, ![8192, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩
abbrev S2048x8x1024 : Shape := ⟨3, ![2048, 8, 1024]⟩
abbrev S8x2048x1024 : Shape := ⟨3, ![8, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S_, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | .hbm, ⟨9, _⟩ => ⟨S2048x8x1024, .f32⟩
  | .hbm, ⟨10, _⟩ => ⟨S8x2048x1024, .f32⟩
  | .hbm, ⟨11, _⟩ => ⟨S8x2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8192x2048 : Shape := ⟨2, ![8192, 2048]⟩
abbrev S8x2048x1024 : Shape := ⟨3, ![8, 2048, 1024]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S8x2048x1024, .bf16⟩
  | .hbm, ⟨2, _⟩ => ⟨S8192x8192, .f32⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 arg2
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8192x2048 : Shape := ⟨2, ![8192, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S8192x8192 : Shape := ⟨2, ![8192, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048x1024, .bf16⟩
  | .hbm, ⟨2, _⟩ => ⟨S8192x2048, .f32⟩
  | .hbm, ⟨3, _⟩ => ⟨S8x2048x1024, .f32⟩
  | .hbm, ⟨4, _⟩ => ⟨S2048x8x1024, .f32⟩
  | .hbm, ⟨5, _⟩ => ⟨S2048x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel7.lean ====
abbrev S8192x8192 : Shape := ⟨2, ![8192, 8192]⟩
abbrev S8x1024x2048 : Shape := ⟨3, ![8, 1024, 2048]⟩
abbrev S8192x2048 : Shape := ⟨2, ![8192, 2048]⟩
abbrev S1024x2048 : Shape := ⟨2, ![1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S8x1024x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_13 : BitVec 32 := 0#32
  let v19 : BitVec 1 := Scalar.cmpi .ne v18 c0_i32_13
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x8192 : Shape := ⟨2, ![8192, 8192]⟩
abbrev S8x1024x2048 : Shape := ⟨3, ![8, 1024, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8x1024x2048, .bf16⟩
  | .hbm, ⟨2, _⟩ => ⟨S8192x2048, .f32⟩
  | .hbm, ⟨3, _⟩ => ⟨S8192x8192, .f32⟩
  | .hbm, ⟨4, _⟩ => ⟨S8x1024x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .f32⟩
  | .hbm, ⟨3, _⟩ => ⟨S2048x8192, .f32⟩
  | .hbm, ⟨4, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x2048, .f32⟩
  | .hbm, ⟨3, _⟩ => ⟨S2048x4096, .f32⟩
  | .hbm, ⟨4, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8192x2048 : Shape := ⟨2, ![8192, 2048]⟩
abbrev S8192x8192 : Shape := ⟨2, ![8192, 8192]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S_, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S8192x2048 : Shape := ⟨2, ![8192, 2048]⟩
abbrev S8192x4096 : Shape := ⟨2, ![8192, 4096]⟩
abbrev S2048x4096 : Shape := ⟨2, ![2048, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S2048x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S8192x4096 : Shape := ⟨2, ![8192, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S_, .f32⟩
  | .hbm, ⟨3, _⟩ => ⟨S2048x4096, .f32⟩
  | .hbm, ⟨4, _⟩ => ⟨S8192x2048, .f32⟩
  | .hbm, ⟨5, _⟩ => ⟨S8192x4096, .f32⟩
  | .hbm, ⟨6, _⟩ => ⟨S8192x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x8192 : Shape := ⟨2, ![8192, 8192]⟩
abbrev S2048x8192 : Shape := ⟨2, ![2048, 8192]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x8192 : Shape := ⟨2, ![8192, 8192]⟩
abbrev S2048x8192 : Shape := ⟨2, ![2048, 8192]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S8192x8192, .f32⟩
  | .hbm, ⟨6, _⟩ => ⟨S8192x8192, .f32⟩
  | .hbm, ⟨7, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x4096 : Shape := ⟨2, ![8192, 4096]⟩
abbrev S2048x4096 : Shape := ⟨2, ![2048, 4096]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S8192x4096 : Shape := ⟨2, ![8192, 4096]⟩
abbrev S2048x4096 : Shape := ⟨2, ![2048, 4096]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x4096, .f32⟩
  | .hbm, ⟨6, _⟩ => ⟨S8192x4096, .f32⟩
  | .hbm, ⟨7, _⟩ => ⟨S8192x4096, .f32⟩
  | .hbm, ⟨8, _⟩ => ⟨S8192x2048, .f32⟩
  | .hbm, ⟨9, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel14.lean ====
abbrev S8192x2048 : Shape := ⟨2, ![8192, 2048]⟩
abbrev S8x512x2048 : Shape := ⟨3, ![8, 512, 2048]⟩
abbrev S8192x4096 : Shape := ⟨2, ![8192, 4096]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8x512x2048, .bf16⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, v27.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S8x512x2048 : Shape := ⟨3, ![8, 512, 2048]⟩
abbrev S4096x2048 : Shape := ⟨2, ![4096, 2048]⟩
abbrev S_ : Shape := ⟨0, ![]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x512x2048, .bf16⟩
  | .hbm, ⟨2, _⟩ => ⟨S4096x2048, .bf16⟩
  | .hbm, ⟨3, _⟩ => ⟨S_, .f32⟩
  | .hbm, ⟨4, _⟩ => ⟨S8192x4096, .f32⟩
  | .hbm, ⟨5, _⟩ => ⟨S4096x2048, .f32⟩
  | .hbm, ⟨6, _⟩ => ⟨S8192x2048, .f32⟩
  | .hbm, ⟨7, _⟩ => ⟨S8192x2048, .f32⟩
  | .hbm, ⟨8, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S8192x4096 : Shape := ⟨2, ![8192, 4096]⟩
abbrev S8192x2048 : Shape := ⟨2, ![8192, 2048]⟩
abbrev S8x512x2048 : Shape := ⟨3, ![8, 512, 2048]⟩
abbrev S2048x1024 : Shape := ⟨2, ![2048, 1024]⟩
abbrev S2x512x1024 : Shape := ⟨3, ![2, 512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S8x512x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x512x1024, .bf16⟩
  | .local _ .vmem, ⟨5, _⟩ => ⟨S2x512x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x4096 : Shape := ⟨2, ![8192, 4096]⟩
abbrev S8192x2048 : Shape := ⟨2, ![8192, 2048]⟩
abbrev S_ : Shape := ⟨0, ![]⟩
abbrev S4096x2048 : Shape := ⟨2, ![4096, 2048]⟩
abbrev S2048x4096 : Shape := ⟨2, ![2048, 4096]⟩
abbrev S8x512x2048 : Shape := ⟨3, ![8, 512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S_, .f32⟩
  | .hbm, ⟨3, _⟩ => ⟨S4096x2048, .f32⟩
  | .hbm, ⟨4, _⟩ => ⟨S8192x4096, .f32⟩
  | .hbm, ⟨5, _⟩ => ⟨S8192x2048, .f32⟩
  | .hbm, ⟨6, _⟩ => ⟨S8192x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | .hbm, ⟨10, _⟩ => ⟨S8x512x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel16.lean ====
abbrev S8192x4096 : Shape := ⟨2, ![8192, 4096]⟩
abbrev S8x512x2048 : Shape := ⟨3, ![8, 512, 2048]⟩
abbrev S8192x2048 : Shape := ⟨2, ![8192, 2048]⟩
abbrev S1024x2048 : Shape := ⟨2, ![1024, 2048]⟩
abbrev S4x512x1024 : Shape := ⟨3, ![4, 512, 1024]⟩
abbrev S1024x1024 : Shape := ⟨2, ![1024, 1024]⟩
abbrev S1024x512 : Shape := ⟨2, ![1024, 512]⟩
abbrev S1x512x1024 : Shape := ⟨3, ![1, 512, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S8x512x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S4x512x1024, .bf16⟩
  | .local _ .vmem, ⟨3, _⟩ => ⟨S4x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v27 : BitVec 1 := Scalar.cmpi .eq arg2 c1_i32
  let v28 : BitVec 32 := Scalar.extui v27
  let c0_i32_21 : BitVec 32 := 0#32
  let v29 : BitVec 1 := Scalar.cmpi .ne v28 c0_i32_21
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S8192x4096 : Shape := ⟨2, ![8192, 4096]⟩
abbrev S8x512x2048 : Shape := ⟨3, ![8, 512, 2048]⟩
abbrev S8192x2048 : Shape := ⟨2, ![8192, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8x512x2048, .bf16⟩
  | .hbm, ⟨2, _⟩ => ⟨S8192x2048, .f32⟩
  | .hbm, ⟨3, _⟩ => ⟨S4096x2048, .bf16⟩
  | .hbm, ⟨4, _⟩ => ⟨S8192x4096, .f32⟩
  | .hbm, ⟨5, _⟩ => ⟨S4096x2048, .f32⟩
  | .hbm, ⟨6, _⟩ => ⟨S8192x2048, .f32⟩
  | .hbm, ⟨7, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S8192x2048 : Shape := ⟨2, ![8192, 2048]⟩
abbrev S8x256x2048 : Shape := ⟨3, ![8, 256, 2048]⟩
abbrev S1024x2048 : Shape := ⟨2, ![1024, 2048]⟩
abbrev S8x256x1024 : Shape := ⟨3, ![8, 256, 1024]⟩
abbrev S1024x1024 : Shape := ⟨2, ![1024, 1024]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8x256x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S8x256x1024, .bf16⟩
  | .local _ .vmem, ⟨3, _⟩ => ⟨S8x256x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x2048 : Shape := ⟨2, ![8192, 2048]⟩
abbrev S8x256x2048 : Shape := ⟨3, ![8, 256, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x256x2048, .bf16⟩
  | .hbm, ⟨2, _⟩ => ⟨S2048x2048, .bf16⟩
  | .hbm, ⟨3, _⟩ => ⟨S8192x2048, .f32⟩
  | .hbm, ⟨4, _⟩ => ⟨S2048x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S8192x2048 : Shape := ⟨2, ![8192, 2048]⟩
abbrev S8x256x2048 : Shape := ⟨3, ![8, 256, 2048]⟩
abbrev S2048x1024 : Shape := ⟨2, ![2048, 1024]⟩
abbrev S4x256x1024 : Shape := ⟨3, ![4, 256, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8x256x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4x256x1024, .bf16⟩
  | .local _ .vmem, ⟨5, _⟩ => ⟨S4x256x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x2048 : Shape := ⟨2, ![8192, 2048]⟩
abbrev S_ : Shape := ⟨0, ![]⟩
abbrev S2048x2048 : Shape := ⟨2, ![2048, 2048]⟩
abbrev S8x256x2048 : Shape := ⟨3, ![8, 256, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S8x256x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel19.lean ====
abbrev S8192x2048 : Shape := ⟨2, ![8192, 2048]⟩
abbrev S8x256x2048 : Shape := ⟨3, ![8, 256, 2048]⟩
abbrev S1024x2048 : Shape := ⟨2, ![1024, 2048]⟩
abbrev S1x256x2048 : Shape := ⟨3, ![1, 256, 2048]⟩
abbrev S1024x256 : Shape := ⟨2, ![1024, 256]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8x256x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1024x256, .f32⟩
  | .local _ .vmem, ⟨5, _⟩ => ⟨S1024x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, v27.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x2048 : Shape := ⟨2, ![8192, 2048]⟩
abbrev S8x256x2048 : Shape := ⟨3, ![8, 256, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x256x2048, .bf16⟩
  | .hbm, ⟨2, _⟩ => ⟨S2048x2048, .bf16⟩
  | .hbm, ⟨3, _⟩ => ⟨S_, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S8192x2048 : Shape := ⟨2, ![8192, 2048]⟩
abbrev S8x2048x512 : Shape := ⟨3, ![8, 2048, 512]⟩
abbrev S8192x4096 : Shape := ⟨2, ![8192, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8x2048x512, .bf16⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 arg2
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x2048 : Shape := ⟨2, ![8192, 2048]⟩
abbrev S8x2048x512 : Shape := ⟨3, ![8, 2048, 512]⟩
abbrev S2048x8x512 : Shape := ⟨3, ![2048, 8, 512]⟩
abbrev S2048x4096 : Shape := ⟨2, ![2048, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048x512, .bf16⟩
  | .hbm, ⟨2, _⟩ => ⟨S2048x8x512, .bf16⟩
  | .hbm, ⟨3, _⟩ => ⟨S2048x4096, .bf16⟩
  | .hbm, ⟨4, _⟩ => ⟨S8192x2048, .f32⟩
  | .hbm, ⟨5, _⟩ => ⟨S2048x4096, .f32⟩
  | .hbm, ⟨6, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel21.lean ====
abbrev S8192x2048 : Shape := ⟨2, ![8192, 2048]⟩
abbrev S8192x4096 : Shape := ⟨2, ![8192, 4096]⟩
abbrev S8x2048x512 : Shape := ⟨3, ![8, 2048, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S8x2048x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x2048 : Shape := ⟨2, ![8192, 2048]⟩
abbrev S8192x4096 : Shape := ⟨2, ![8192, 4096]⟩
abbrev S_ : Shape := ⟨0, ![]⟩
abbrev S2048x4096 : Shape := ⟨2, ![2048, 4096]⟩
abbrev S4096x2048 : Shape := ⟨2, ![4096, 2048]⟩
abbrev S2048x8x512 : Shape := ⟨3, ![2048, 8, 512]⟩
abbrev S8x2048x512 : Shape := ⟨3, ![8, 2048, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S_, .f32⟩
  | .hbm, ⟨3, _⟩ => ⟨S2048x4096, .f32⟩
  | .hbm, ⟨4, _⟩ => ⟨S8192x2048, .f32⟩
  | .hbm, ⟨5, _⟩ => ⟨S8192x4096, .f32⟩
  | .hbm, ⟨6, _⟩ => ⟨S8192x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | .hbm, ⟨10, _⟩ => ⟨S2048x8x512, .bf16⟩
  | .hbm, ⟨11, _⟩ => ⟨S8x2048x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel22.lean ====
abbrev S8192x4096 : Shape := ⟨2, ![8192, 4096]⟩
abbrev S8x2048x512 : Shape := ⟨3, ![8, 2048, 512]⟩
abbrev S8192x2048 : Shape := ⟨2, ![8192, 2048]⟩
abbrev S1024x2048 : Shape := ⟨2, ![1024, 2048]⟩
abbrev S4x1024x512 : Shape := ⟨3, ![4, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S8x2048x512, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S4x1024x512, .bf16⟩
  | .local _ .vmem, ⟨3, _⟩ => ⟨S4x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v27 : BitVec 1 := Scalar.cmpi .eq arg2 c1_i32
  let v28 : BitVec 32 := Scalar.extui v27
  let c0_i32_21 : BitVec 32 := 0#32
  let v29 : BitVec 1 := Scalar.cmpi .ne v28 c0_i32_21
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg2.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference22Ideal.lean ====
abbrev S8192x4096 : Shape := ⟨2, ![8192, 4096]⟩
abbrev S8x2048x512 : Shape := ⟨3, ![8, 2048, 512]⟩
abbrev S8192x2048 : Shape := ⟨2, ![8192, 2048]⟩
abbrev S_ : Shape := ⟨0, ![]⟩
abbrev S2048x8x512 : Shape := ⟨3, ![2048, 8, 512]⟩
abbrev S2048x4096 : Shape := ⟨2, ![2048, 4096]⟩

abbrev nBuf : Space → Nat
  | .hbm => 52
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8x2048x512, .bf16⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S2048x8x512, .bf16⟩
  | .hbm, ⟨32, _⟩ => ⟨S2048x4096, .bf16⟩
  | .hbm, ⟨33, _⟩ => ⟨S2048x4096, .f32⟩
  | .hbm, ⟨34, _⟩ => ⟨S8192x4096, .f32⟩
  | .hbm, ⟨35, _⟩ => ⟨S8192x4096, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel23.lean ====
abbrev S8192x2048 : Shape := ⟨2, ![8192, 2048]⟩
abbrev S8x256x2048 : Shape := ⟨3, ![8, 256, 2048]⟩
abbrev S1024x2048 : Shape := ⟨2, ![1024, 2048]⟩
abbrev S8x256x1024 : Shape := ⟨3, ![8, 256, 1024]⟩
abbrev S1024x1024 : Shape := ⟨2, ![1024, 1024]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8x256x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S8x256x1024, .bf16⟩
  | .local _ .vmem, ⟨3, _⟩ => ⟨S8x256x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x2048 : Shape := ⟨2, ![8192, 2048]⟩
abbrev S8x256x2048 : Shape := ⟨3, ![8, 256, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x256x2048, .bf16⟩
  | .hbm, ⟨2, _⟩ => ⟨S2048x2048, .bf16⟩
  | .hbm, ⟨3, _⟩ => ⟨S8192x2048, .f32⟩
  | .hbm, ⟨4, _⟩ => ⟨S2048x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel24.lean ====
abbrev S8192x2048 : Shape := ⟨2, ![8192, 2048]⟩
abbrev S8x256x2048 : Shape := ⟨3, ![8, 256, 2048]⟩
abbrev S2048x1024 : Shape := ⟨2, ![2048, 1024]⟩
abbrev S4x256x1024 : Shape := ⟨3, ![4, 256, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8x256x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4x256x1024, .bf16⟩
  | .local _ .vmem, ⟨5, _⟩ => ⟨S4x256x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8192x2048 : Shape := ⟨2, ![8192, 2048]⟩
abbrev S_ : Shape := ⟨0, ![]⟩
abbrev S2048x2048 : Shape := ⟨2, ![2048, 2048]⟩
abbrev S8x256x2048 : Shape := ⟨3, ![8, 256, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S8x256x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel25.lean ====
abbrev S8192x2048 : Shape := ⟨2, ![8192, 2048]⟩
abbrev S8x256x2048 : Shape := ⟨3, ![8, 256, 2048]⟩
abbrev S1024x2048 : Shape := ⟨2, ![1024, 2048]⟩
abbrev S1x256x2048 : Shape := ⟨3, ![1, 256, 2048]⟩
abbrev S1024x256 : Shape := ⟨2, ![1024, 256]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8x256x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1024x256, .f32⟩
  | .local _ .vmem, ⟨5, _⟩ => ⟨S1024x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, v27.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S8192x2048 : Shape := ⟨2, ![8192, 2048]⟩
abbrev S8x256x2048 : Shape := ⟨3, ![8, 256, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x256x2048, .bf16⟩
  | .hbm, ⟨2, _⟩ => ⟨S2048x2048, .bf16⟩
  | .hbm, ⟨3, _⟩ => ⟨S_, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel26.lean ====
abbrev S8192x256 : Shape := ⟨2, ![8192, 256]⟩
abbrev S8x256x256 : Shape := ⟨3, ![8, 256, 256]⟩
abbrev S8192x2048 : Shape := ⟨2, ![8192, 2048]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8x256x256, .bf16⟩
  | .hbm, ⟨2, _⟩ => ⟨S8192x2048, .f32⟩
  | .local _ .vmem, ⟨0, _⟩ => ⟨S1024x256, .f32⟩
  | .local _ .vmem, ⟨1, _⟩ => ⟨S1024x256, .f32⟩
  | .local _ .vmem, ⟨2, _⟩ => ⟨S1x256x256, .bf16⟩
  | .local _ .vmem, ⟨3, _⟩ => ⟨S1x256x256, .bf16⟩
  | .local _ .vmem, ⟨4, _⟩ => ⟨S1024x256, .f32⟩
  | .local _ .vmem, ⟨5, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 arg2
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S8192x256 : Shape := ⟨2, ![8192, 256]⟩
abbrev S8x256x256 : Shape := ⟨3, ![8, 256, 256]⟩
abbrev S256x8x256 : Shape := ⟨3, ![256, 8, 256]⟩
abbrev S256x2048 : Shape := ⟨2, ![256, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8x256x256, .bf16⟩
  | .hbm, ⟨2, _⟩ => ⟨S256x8x256, .bf16⟩
  | .hbm, ⟨3, _⟩ => ⟨S256x2048, .bf16⟩
  | .hbm, ⟨4, _⟩ => ⟨S256x2048, .f32⟩
  | .hbm, ⟨5, _⟩ => ⟨S8192x2048, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel27.lean ====
abbrev S8192x256 : Shape := ⟨2, ![8192, 256]⟩
abbrev S8192x2048 : Shape := ⟨2, ![8192, 2048]⟩
abbrev S8x256x256 : Shape := ⟨3, ![8, 256, 256]⟩
abbrev S2048x256 : Shape := ⟨2, ![2048, 256]⟩
abbrev S1x256x256 : Shape := ⟨3, ![1, 256, 256]⟩
abbrev S256x256 : Shape := ⟨2, ![256, 256]⟩

abbrev nBuf : Space → Nat
  | .hbm => 3
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x2048, .bf16⟩
  | .hbm, ⟨2, _⟩ => ⟨S8x256x256, .bf16⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | .local _ .vmem, ⟨4, _⟩ => ⟨S1x256x256, .bf16⟩
  | .local _ .vmem, ⟨5, _⟩ => ⟨S1x256x256, .bf16⟩
  | .local _ .vmem, ⟨6, _⟩ => ⟨S256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S8192x256 : Shape := ⟨2, ![8192, 256]⟩
abbrev S8192x2048 : Shape := ⟨2, ![8192, 2048]⟩
abbrev S_ : Shape := ⟨0, ![]⟩
abbrev S256x2048 : Shape := ⟨2, ![256, 2048]⟩
abbrev S2048x256 : Shape := ⟨2, ![2048, 256]⟩
abbrev S256x8x256 : Shape := ⟨3, ![256, 8, 256]⟩
abbrev S8x256x256 : Shape := ⟨3, ![8, 256, 256]⟩

abbrev nBuf : Space → Nat
  | .hbm => 11
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x2048, .bf16⟩
  | .hbm, ⟨2, _⟩ => ⟨S_, .f32⟩
  | .hbm, ⟨3, _⟩ => ⟨S256x2048, .f32⟩
  | .hbm, ⟨4, _⟩ => ⟨S8192x2048, .f32⟩
  | .hbm, ⟨5, _⟩ => ⟨S8192x2048, .f32⟩
  | .hbm, ⟨6, _⟩ => ⟨S2048x256, .f32⟩
  | .hbm, ⟨7, _⟩ => ⟨S256x2048, .f32⟩
  | .hbm, ⟨8, _⟩ => ⟨S256x2048, .bf16⟩
  | .hbm, ⟨9, _⟩ => ⟨S256x8x256, .bf16⟩
  | .hbm, ⟨10, _⟩ => ⟨S8x256x256, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel28.lean ====
abbrev S8192x2048 : Shape := ⟨2, ![8192, 2048]⟩
abbrev S2048x128 : Shape := ⟨2, ![2048, 128]⟩
abbrev S8192x128 : Shape := ⟨2, ![8192, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S8192x2048 : Shape := ⟨2, ![8192, 2048]⟩
abbrev S2048x128 : Shape := ⟨2, ![2048, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x2048, .f32⟩
  | .hbm, ⟨3, _⟩ => ⟨S2048x128, .f32⟩
  | .hbm, ⟨4, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel29.lean ====
abbrev S8192x2048 : Shape := ⟨2, ![8192, 2048]⟩
abbrev S8192x128 : Shape := ⟨2, ![8192, 128]⟩
abbrev S2048x128 : Shape := ⟨2, ![2048, 128]⟩
abbrev S2048x1024 : Shape := ⟨2, ![2048, 1024]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x128, .f32⟩
  | .hbm, ⟨2, _⟩ => ⟨S2048x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .f32⟩
  | .local _ .vmem, ⟨3, _⟩ => ⟨S2048x128, .f32⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S8192x2048 : Shape := ⟨2, ![8192, 2048]⟩
abbrev S8192x128 : Shape := ⟨2, ![8192, 128]⟩
abbrev S_ : Shape := ⟨0, ![]⟩
abbrev S2048x128 : Shape := ⟨2, ![2048, 128]⟩
abbrev S128x2048 : Shape := ⟨2, ![128, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x128, .f32⟩
  | .hbm, ⟨2, _⟩ => ⟨S_, .f32⟩
  | .hbm, ⟨3, _⟩ => ⟨S2048x128, .f32⟩
  | .hbm, ⟨4, _⟩ => ⟨S8192x2048, .f32⟩
  | .hbm, ⟨5, _⟩ => ⟨S8192x128, .f32⟩
  | .hbm, ⟨6, _⟩ => ⟨S128x2048, .f32⟩
  | .hbm, ⟨7, _⟩ => ⟨S2048x128, .f32⟩
  | .hbm, ⟨8, _⟩ => ⟨S2048x128, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel30.lean ====
abbrev S8192x128 : Shape := ⟨2, ![8192, 128]⟩
abbrev S2048x128 : Shape := ⟨2, ![2048, 128]⟩
abbrev S8192x2048 : Shape := ⟨2, ![8192, 2048]⟩
abbrev S1024x128 : Shape := ⟨2, ![1024, 128]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S2048x128, .bf16⟩
  | .hbm, ⟨2, _⟩ => ⟨S8192x2048, .f32⟩
  | .hbm, ⟨3, _⟩ => ⟨S8192x2048, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference30Ideal.lean ====
abbrev S8192x128 : Shape := ⟨2, ![8192, 128]⟩
abbrev S2048x128 : Shape := ⟨2, ![2048, 128]⟩
abbrev S8192x2048 : Shape := ⟨2, ![8192, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2048x128, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x128, .f32⟩
  | .hbm, ⟨6, _⟩ => ⟨S8192x128, .f32⟩
  | .hbm, ⟨7, _⟩ => ⟨S8192x2048, .f32⟩
  | .hbm, ⟨8, _⟩ => ⟨S8192x2048, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel31.lean ====
abbrev S8192x2048 : Shape := ⟨2, ![8192, 2048]⟩
abbrev S256x2048 : Shape := ⟨2, ![256, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference31Ideal.lean ====
abbrev S8192x2048 : Shape := ⟨2, ![8192, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel32.lean ====
abbrev S8192x2048 : Shape := ⟨2, ![8192, 2048]⟩
abbrev S256x2048 : Shape := ⟨2, ![256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference32Ideal.lean ====
abbrev S8192x2048 : Shape := ⟨2, ![8192, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | .hbm, ⟨20, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel33.lean ====
abbrev S8192x2048 : Shape := ⟨2, ![8192, 2048]⟩
abbrev S8192x4096 : Shape := ⟨2, ![8192, 4096]⟩
abbrev S256x2048 : Shape := ⟨2, ![256, 2048]⟩

abbrev nBuf : Space → Nat
  | .hbm => 3
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference33Ideal.lean ====
abbrev S8192x2048 : Shape := ⟨2, ![8192, 2048]⟩
abbrev S8192x4096 : Shape := ⟨2, ![8192, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel34.lean ====
abbrev S8192x2048 : Shape := ⟨2, ![8192, 2048]⟩
abbrev S8192x4096 : Shape := ⟨2, ![8192, 4096]⟩
abbrev S256x2048 : Shape := ⟨2, ![256, 2048]⟩
abbrev S256x4096 : Shape := ⟨2, ![256, 4096]⟩

abbrev nBuf : Space → Nat
  | .hbm => 3
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S8192x4096, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x4096, .bf16⟩
  | .local _ .vmem, ⟨7, _⟩ => ⟨S256x4096, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference34Ideal.lean ====
abbrev S8192x2048 : Shape := ⟨2, ![8192, 2048]⟩
abbrev S8192x4096 : Shape := ⟨2, ![8192, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.RealArr.lean ====
module

public import Idealize.ShloMosaic.Lib.Pointwise
public import Idealize.ShloMosaic.Lib.ValueIdx
public import Mathlib.Data.Matrix.Mul

@[expose] public section

noncomputable section

/-! # Arrays of real numbers

An array over the extended reals whose elements are all finite is the image of an array of real numbers. `m1` … `m4`
name that image, by rank, and one lemma per operation says what the operation does to it. With them a program's
expression over finite arrays rewrites to the image of one real expression. -/

namespace Cert.Real

open Idealize.ShloMosaic
open scoped BigOperators

variable {a b c d : ℕ} {φ ψ : FTy}

/-- The rank-0 array holding the real number `x`. -/
def m0 (x : ℝ) : FVec Ideal ⟨0, ![]⟩ φ := fun _ => (x : EReal)
/-- The rank-1 array of the real numbers `x`. -/
def m1 (x : Fin a → ℝ) : FVec Ideal ⟨1, ![a]⟩ φ := fun i => ((x (i 0) : ℝ) : EReal)
/-- The rank-2 array of the real matrix `x`. -/
def m2 (x : Fin a → Fin b → ℝ) : FVec Ideal ⟨2, ![a, b]⟩ φ := fun i => ((x (i 0) (i 1) : ℝ) : EReal)
/-- The rank-3 array of the real numbers `x`. -/
def m3 (x : Fin a → Fin b → Fin c → ℝ) : FVec Ideal ⟨3, ![a, b, c]⟩ φ := fun i => ((x (i 0) (i 1) (i 2) : ℝ) : EReal)
/-- The rank-4 array of the real numbers `x`. -/
def m4 (x : Fin a → Fin b → Fin c → Fin d → ℝ) : FVec Ideal ⟨4, ![a, b, c, d]⟩ φ :=
  fun i => ((x (i 0) (i 1) (i 2) (i 3) : ℝ) : EReal)

/-! ## Two arrays that agree at every index are equal -/

theorem ext1 {α : Type} {x y : (⟨1, ![a]⟩ : Shape).Idx → α} (h : ∀ i : Fin a, x (ix1 i) = y (ix1 i)) : x = y :=
  funext fun j => by rw [eq_ix1 j]; exact h _
theorem ext2 {α : Type} {x y : (⟨2, ![a, b]⟩ : Shape).Idx → α} (h : ∀ (i : Fin a) (j : Fin b), x (ix2 i j) = y (ix2 i j)) :
    x = y := funext fun j => by rw [eq_ix2 j]; exact h _ _
theorem ext3 {α : Type} {x y : (⟨3, ![a, b, c]⟩ : Shape).Idx → α}
    (h : ∀ (i : Fin a) (j : Fin b) (k : Fin c), x (ix3 i j k) = y (ix3 i j k)) : x = y :=
  funext fun j => by rw [eq_ix3 j]; exact h _ _ _
theorem ext4 {α : Type} {x y : (⟨4, ![a, b, c, d]⟩ : Shape).Idx → α}
    (h : ∀ (i : Fin a) (j : Fin b) (k : Fin c) (l : Fin d), x (ix4 i j k l) = y (ix4 i j k l)) : x = y :=
  funext fun j => by rw [eq_ix4 j]; exact h _ _ _ _

/-! ## Elementwise operations -/

theorem mulf_m2 (x y : Fin a → Fin b → ℝ) : mulf (m2 (φ := φ) x) (m2 y) = m2 fun i j => x i j * y i j :=
  funext fun _ => (EReal.coe_mul _ _).symm
theorem addf_m2 (x y : Fin a → Fin b → ℝ) : addf (m2 (φ := φ) x) (m2 y) = m2 fun i j => x i j + y i j :=
  funext fun _ => (EReal.coe_add _ _).symm
theorem subf_m2 (x y : Fin a → Fin b → ℝ) : subf (m2 (φ := φ) x) (m2 y) = m2 fun i j => x i j - y i j :=
  funext fun _ => (EReal.coe_sub _ _).symm
theorem exp_m2 (x : Fin a → Fin b → ℝ) : exp (m2 (φ := φ) x) = m2 fun i j => Real.exp (x i j) := rfl
theorem minimumf_m2 (x y : Fin a → Fin b → ℝ) : minimumf (m2 (φ := φ) x) (m2 y) = m2 fun i j => min (x i j) (y i j) :=
  funext fun _ => (EReal.coe_strictMono.monotone.map_min).symm
theorem truncf_m2 (x : Fin a → Fin b → ℝ) (h : ψ.bits < φ.bits) : (truncf ψ (m2 (φ := φ) x) h : FVec Ideal _ ψ) = m2 x := rfl
theorem extf_m2 (x : Fin a → Fin b → ℝ) (h : φ.bits < ψ.bits) : (extf ψ (m2 (φ := φ) x) h : FVec Ideal _ ψ) = m2 x := rfl
theorem broadcast_m2 (x : ℝ) : (broadcast ⟨2, ![a, b]⟩ ((x : ℝ) : EReal) : FVec Ideal _ φ) = m2 fun _ _ => x := rfl

theorem zero_bits : (Scalar.ofBits .f32 0x00000000#32 : Ideal .f32) = ((0 : ℝ) : EReal) := by
  simp [Scalar.ofBits, FloatOps.ofBits, Ideal.ofBits, Ideal.ieee]

theorem one_bits : (Scalar.ofBits .f32 0x3F800000#32 : Ideal .f32) = ((1 : ℝ) : EReal) := by
  simp [Scalar.ofBits, FloatOps.ofBits, Ideal.ofBits, Ideal.ieee]
  rw [← EReal.coe_mul]; norm_num

theorem constant_m2 : (constant ⟨2, ![a, b]⟩ .f32 0x00000000#32 : FVec Ideal _ .f32) = m2 fun _ _ => 0 :=
  funext fun _ => zero_bits

/-! ## Shapes of a tile -/

/-- A row broadcast down the rows. -/
theorem broadcastRow_m2 (x : Fin 1 → Fin 128 → ℝ) (h : (⟨2, ![1, 128]⟩ : Shape).Broadcasts ⟨2, ![64, 128]⟩) :
    broadcastTo ⟨2, ![64, 128]⟩ (m2 (φ := .f32) x) h = m2 (φ := .f32) fun _ j => x 0 j := by
  refine ext2 fun i j => ?_; pointwise [m2]
theorem broadcastRow128_m2 (x : Fin 1 → Fin 128 → ℝ) (h : (⟨2, ![1, 128]⟩ : Shape).Broadcasts ⟨2, ![128, 128]⟩) :
    broadcastTo ⟨2, ![128, 128]⟩ (m2 (φ := .f32) x) h = m2 (φ := .f32) fun _ j => x 0 j := by
  refine ext2 fun i j => ?_; pointwise [m2]
theorem broadcastRow64_m2 (x : Fin 1 → Fin 64 → ℝ) (h : (⟨2, ![1, 64]⟩ : Shape).Broadcasts ⟨2, ![64, 64]⟩) :
    broadcastTo ⟨2, ![64, 64]⟩ (m2 (φ := .f32) x) h = m2 (φ := .f32) fun _ j => x 0 j := by
  refine ext2 fun i j => ?_; pointwise [m2]
theorem broadcastCol_m2 (x : Fin 64 → Fin 1 → ℝ) (h : (⟨2, ![64, 1]⟩ : Shape).Broadcasts ⟨2, ![64, 128]⟩) :
    broadcastTo ⟨2, ![64, 128]⟩ (m2 (φ := .f32) x) h = m2 (φ := .f32) fun i _ => x i 0 := by
  refine ext2 fun i j => ?_; pointwise [m2]
/-- A tile's last row. -/
theorem lastRow_m2 (x : Fin 64 → Fin 128 → ℝ) (h : (⟨2, ![64, 128]⟩ : Shape).Slices ![63, 0] ⟨2, ![1, 128]⟩) :
    extractStridedSlice ⟨2, ![1, 128]⟩ ![63, 0] (m2 (φ := .f32) x) h = m2 (φ := .f32) fun _ j => x 63 j := by
  refine ext2 fun i j => ?_; pointwise [m2]
/-- A tile's first 64 columns. -/
theorem leftHalf_m2 (x : Fin 64 → Fin 128 → ℝ) (h : (⟨2, ![64, 128]⟩ : Shape).Slices ![0, 0] ⟨2, ![64, 64]⟩) :
    extractStridedSlice ⟨2, ![64, 64]⟩ ![0, 0] (m2 (φ := .f32) x) h
      = m2 (φ := .f32) fun i j => x i (⟨j.val, by omega⟩) := by
  refine ext2 fun i j => ?_; pointwise [m2]
/-- A vector laid out as a row, and as a column. -/
theorem asRow_m1 (x : Fin 64 → ℝ) (h : (⟨1, ![64]⟩ : Shape).ShapeCasts ⟨2, ![1, 64]⟩) :
    shapeCast ⟨2, ![1, 64]⟩ (m1 (φ := .f32) x) h = m2 (φ := .f32) fun _ j => x j := by
  refine ext2 fun i j => ?_; pointwise [m2, m1]
theorem asCol_m1 (x : Fin 64 → ℝ) (h : (⟨1, ![64]⟩ : Shape).ShapeCasts ⟨2, ![64, 1]⟩) :
    shapeCast ⟨2, ![64, 1]⟩ (m1 (φ := .f32) x) h = m2 (φ := .f32) fun i _ => x i := by
  refine ext2 fun i j => ?_; pointwise [m2, m1]
/-- A matrix laid out as a batch of one. -/
theorem asBatch_m2 (x : Fin 64 → Fin 128 → ℝ) (h : (⟨2, ![64, 128]⟩ : Shape).ShapeCasts ⟨3, ![1, 64, 128]⟩) :
    shapeCast ⟨3, ![1, 64, 128]⟩ (m2 (φ := .f32) x) h = m3 (φ := .f32) fun _ i j => x i j := by
  refine ext3 fun i j k => ?_; pointwise [m2, m3]
theorem asBatch128_m2 (x : Fin 128 → Fin 128 → ℝ) (h : (⟨2, ![128, 128]⟩ : Shape).ShapeCasts ⟨3, ![1, 128, 128]⟩) :
    shapeCast ⟨3, ![1, 128, 128]⟩ (m2 (φ := .f32) x) h = m3 (φ := .f32) fun _ i j => x i j := by
  refine ext3 fun i j k => ?_; pointwise [m2, m3]
/-- A matrix out of a batch of one batch of one. -/
theorem ofBatch_m4 (x : Fin 1 → Fin 1 → Fin 128 → Fin 128 → ℝ)
    (h : (⟨4, ![1, 1, 128, 128]⟩ : Shape).ShapeCasts ⟨2, ![128, 128]⟩) :
    shapeCast ⟨2, ![128, 128]⟩ (m4 (φ := .f32) x) h = m2 (φ := .f32) fun i j => x 0 0 i j := by
  refine ext2 fun i j => ?_; pointwise [m2, m4]

/-! ## Sums -/

theorem coe_sum {ι : Type*} (s : Finset ι) (f : ι → ℝ) : ∑ i ∈ s, ((f i : ℝ) : EReal) = ((∑ i ∈ s, f i : ℝ) : EReal) :=
  (map_sum (⟨⟨Real.toEReal, EReal.coe_zero⟩, EReal.coe_add⟩ : ℝ →+ EReal) f s).symm

/-- The one element of a vector of one. -/
theorem extract_m1 (x : Fin 1 → ℝ) (h : (⟨1, ![1]⟩ : Shape).ShapeCasts ⟨3, ![1, 1, 1]⟩) (h') :
    extractAt ![0, 0, 0] (shapeCast ⟨3, ![1, 1, 1]⟩ (m1 (φ := .f32) x) h) h' = ((x 0 : ℝ) : EReal) := by
  pointwise [m1]

/-! ## Masks -/

theorem word_sge : ∀ i j : Fin 64,
    IntOp.cmpi .sge (BitVec.ofNat 32 i.val) (BitVec.ofNat 32 j.val) = if j ≤ i then 1#1 else 0#1 := by decide +kernel
theorem word_eq : ∀ i j : Fin 64,
    IntOp.cmpi .eq (BitVec.ofNat 32 i.val) (BitVec.ofNat 32 j.val) = if i = j then 1#1 else 0#1 := by decide +kernel
theorem word_last : ∀ i : Fin 64,
    IntOp.cmpi .eq (BitVec.ofNat 32 i.val) 63#32 = if i = 63 then 1#1 else 0#1 := by decide +kernel

/-! ## Matrix products -/

/-- The product of two real matrices. -/
def mm (x : Fin a → Fin b → ℝ) (y : Fin b → Fin c → ℝ) : Fin a → Fin c → ℝ := fun i j => ∑ k, x i k * y k j
/-- The transpose of a real matrix. -/
def tr (x : Fin a → Fin b → ℝ) : Fin b → Fin a → ℝ := fun i j => x j i

/-- Products of finite elements, summed. -/
theorem sum_mul_coe {ι : Type*} [Fintype ι] (f g : ι → ℝ) :
    ∑ k, ((f k : ℝ) : EReal) * ((g k : ℝ) : EReal) = ((∑ k, f k * g k : ℝ) : EReal) := by
  rw [← coe_sum]; rfl

end Cert.Real
-- ==== Proof.ChunkReal.lean ====
module

public import proofs.«01_k».proof.Proof.RealArr

@[expose] public section

noncomputable section

/-! # One chunk's backward step, over the real numbers

A chunk holds, of one head, the output's cotangent `d`, the queries `q`, the keys `k`, the rows `w`, the values `v`
(what is left of the rows `u` after the state's part), the log-gates `g` and the state `s` entering the chunk. `D` is the
cotangent of the state leaving it. The definitions follow the kernel's order of operations. -/

namespace Cert.Real

open scoped BigOperators

/-- The arrays of one chunk of one head. -/
structure Chunk where
  d : Fin 64 → Fin 128 → ℝ
  q : Fin 64 → Fin 128 → ℝ
  k : Fin 64 → Fin 128 → ℝ
  w : Fin 64 → Fin 128 → ℝ
  v : Fin 64 → Fin 128 → ℝ
  g : Fin 64 → ℝ
  s : Fin 128 → Fin 128 → ℝ

namespace Chunk

variable (C : Chunk) (D : Fin 128 → Fin 128 → ℝ)

/-- The queries, each scaled by its gate. -/
def qg : Fin 64 → Fin 128 → ℝ := fun i j => C.q i j * Real.exp (C.g i)
/-- The keys, each scaled by the gate from its row to the chunk's end. -/
def kd : Fin 64 → Fin 128 → ℝ := fun i j => C.k i j * Real.exp (C.g 63 - C.g i)
/-- The gate from column `j` to row `i`, zero above the diagonal. -/
def dec : Fin 64 → Fin 64 → ℝ := fun i j => if j ≤ i then Real.exp (min (C.g i - C.g j) 0) else 0
/-- The gated scores on and below the diagonal. -/
def qk : Fin 64 → Fin 64 → ℝ := fun i j => if j ≤ i then mm C.q (tr C.k) i j * C.dec i j else 0
/-- The scores' part of the values' cotangent. -/
def qd : Fin 64 → Fin 128 → ℝ := mm (tr C.qk) C.d
/-- The cotangent of the state entering the chunk. -/
def step : Fin 128 → Fin 128 → ℝ := fun i j =>
  D i j * Real.exp (C.g 63) - mm (mm (tr C.w) C.kd) D i j + (mm (tr C.qg) C.d i j - mm (tr C.w) C.qd i j)
/-- The cotangent of the values, which is `u`'s. -/
def du : Fin 64 → Fin 128 → ℝ := fun i j => C.qd i j + mm C.kd D i j
/-- The cotangent of `w`. -/
def dw : Fin 64 → Fin 128 → ℝ := fun i j => 0 - mm (C.du D) (tr C.s) i j
/-- The cotangent of the scaled keys. -/
def dkd : Fin 64 → Fin 128 → ℝ := mm C.v (tr D)
/-- The cotangent of the scaled queries. -/
def dqg : Fin 64 → Fin 128 → ℝ := mm C.d (tr C.s)
/-- The cotangent of the gated scores. -/
def dqk : Fin 64 → Fin 64 → ℝ := fun i j => if j ≤ i then mm C.d (tr C.v) i j else 0
/-- The scores' part of the gates' cotangent, by row and column. -/
def e : Fin 64 → Fin 64 → ℝ := fun i j => C.dqk i j * C.qk i j
/-- The cotangent of the scores before gating. -/
def db : Fin 64 → Fin 64 → ℝ := fun i j => C.dqk i j * C.dec i j
/-- The cotangent of the queries. -/
def dq : Fin 64 → Fin 128 → ℝ := fun i j => C.dqg i j * Real.exp (C.g i) + mm C.db C.k i j
/-- The cotangent of the keys. -/
def dk : Fin 64 → Fin 128 → ℝ := fun i j => C.dkd D i j * Real.exp (C.g 63 - C.g i) + mm (tr C.db) C.q i j
/-- The part of the gates' cotangent that falls on the chunk's last row. -/
def dgl : ℝ := (∑ i, ∑ j, C.dkd D i j * C.kd i j) + (∑ i, ∑ j, C.s i j * D i j) * Real.exp (C.g 63)
/-- The cotangent of the log-gates. -/
def dg : Fin 64 → ℝ := fun i =>
  (∑ j, C.dqg i j * C.qg i j) - (∑ j, C.dkd D i j * C.kd i j) + (∑ j, C.e i j) - (∑ j, C.e j i)
    + (if i = 63 then C.dgl D else 0)

end Chunk

/-- Row `i` of chunk `n` of a block of eight. -/
def row8 (n : Fin 8) (i : Fin 64) : Fin 512 := ⟨64 * n.val + i.val, by omega⟩
/-- Chunk `n` of a block of eight. -/
def part8 {β : Type} (x : Fin 512 → β) (n : Fin 8) : Fin 64 → β := fun i => x (row8 n i)
/-- Eight chunks, laid one below the other. -/
def stack8 {β : Type} (p : Fin 8 → Fin 64 → β) : Fin 512 → β :=
  fun r => p ⟨r.val / 64, by omega⟩ ⟨r.val % 64, by omega⟩

theorem stack8_row {β : Type} (p : Fin 8 → Fin 64 → β) (n : Fin 8) (i : Fin 64) : stack8 p (row8 n i) = p n i := by
  have h1 : (64 * n.val + i.val) / 64 = n.val := by omega
  have h2 : (64 * n.val + i.val) % 64 = i.val := by omega
  simp only [stack8, row8, h1, h2]

/-- The state's cotangent after `n` of the chunks `C 0, C 1, …`, from `D`. -/
def run (C : ℕ → Chunk) (D : Fin 128 → Fin 128 → ℝ) : ℕ → Fin 128 → Fin 128 → ℝ
  | 0 => D
  | n + 1 => (C n).step (run C D n)

theorem run_add (C : ℕ → Chunk) (D : Fin 128 → Fin 128 → ℝ) (a : ℕ) :
    ∀ b, run (fun n => C (a + n)) (run C D a) b = run C D (a + b)
  | 0 => rfl
  | b + 1 => by rw [run, run_add C D a b]; rfl

/-- The chunks at the places below `n` are the ones that the states' cotangents after at most `n` chunks depend on. -/
theorem run_congr {C C' : ℕ → Chunk} (D : Fin 128 → Fin 128 → ℝ) {n : ℕ} (h : ∀ k < n, C k = C' k) : run C D n = run C' D n := by
  induction n with
  | zero => rfl
  | succ n ih => rw [run, run, ih fun k hk => h k (by omega), h n (by omega)]

/-! ## The whole backward pass -/

/-- Row `i` of chunk `n`. -/
def rowOf (n : Fin 128) (i : Fin 64) : Fin 8192 := ⟨64 * n.val + i.val, by omega⟩
/-- Column `j` of head `h`. -/
def colOf (h : Fin 32) (j : Fin 128) : Fin 4096 := ⟨128 * h.val + j.val, by omega⟩

/-- The seven arguments: the output's cotangent, the queries and keys, the rows `u` and `w`, the log-gates, and what the
    forward pass saved, the values left of `u` and the states entering the chunks. -/
structure Args where
  d : Fin 8192 → Fin 4096 → ℝ
  qkv : Fin 8192 → Fin 8192 → ℝ
  u : Fin 8192 → Fin 4096 → ℝ
  w : Fin 8192 → Fin 4096 → ℝ
  g : Fin 8192 → Fin 32 → ℝ
  v : Fin 8192 → Fin 4096 → ℝ
  s : Fin 32 → Fin 128 → Fin 128 → Fin 128 → ℝ

namespace Args

variable (A : Args)

/-- Chunk `n` of head `h`; two heads share a head of the queries and keys. -/
def chunk (h : Fin 32) (n : Fin 128) : Chunk where
  d i j := A.d (rowOf n i) (colOf h j)
  q i j := A.qkv (rowOf n i) ⟨128 * (h.val / 2) + j.val, by omega⟩
  k i j := A.qkv (rowOf n i) ⟨2048 + 128 * (h.val / 2) + j.val, by omega⟩
  w i j := A.w (rowOf n i) (colOf h j)
  v i j := A.v (rowOf n i) (colOf h j)
  g i := A.g (rowOf n i) h
  s := A.s h n

/-- A head's chunks, last to first. -/
def back (h : Fin 32) (k : ℕ) : Chunk := A.chunk h ⟨127 - k, by omega⟩
/-- The state's cotangent after the last `k` chunks of a head. -/
def ds (h : Fin 32) (k : ℕ) : Fin 128 → Fin 128 → ℝ := run (A.back h) (fun _ _ => 0) k

/-- An array of rows and columns from its chunks. -/
def whole (f : Fin 32 → Fin 128 → Fin 64 → Fin 128 → ℝ) : Fin 8192 → Fin 4096 → ℝ :=
  fun r c => f ⟨c.val / 128, by omega⟩ ⟨r.val / 64, by omega⟩ ⟨r.val % 64, by omega⟩ ⟨c.val % 128, by omega⟩

/-- The queries' cotangent. -/
def dq : Fin 8192 → Fin 4096 → ℝ := whole fun h n => (A.chunk h n).dq
/-- The keys' cotangent. -/
def dk : Fin 8192 → Fin 4096 → ℝ := whole fun h n => (A.chunk h n).dk (A.ds h (127 - n.val))
/-- The log-gates' cotangent, the same in each of a head's columns. -/
def dg : Fin 8192 → Fin 4096 → ℝ := whole fun h n i _ => (A.chunk h n).dg (A.ds h (127 - n.val)) i
/-- The cotangent of `u`. -/
def du : Fin 8192 → Fin 4096 → ℝ := whole fun h n => (A.chunk h n).du (A.ds h (127 - n.val))
/-- The cotangent of `w`. -/
def dw : Fin 8192 → Fin 4096 → ℝ := whole fun h n => (A.chunk h n).dw (A.ds h (127 - n.val))

end Args

end Cert.Real
-- ==== Proof.KernelArr.lean ====
module

public import proofs.«01_k».proof.KernelIdeal
public import proofs.«01_k».proof.Proof.Gen.KernelIdeal.Skeleton
public import proofs.«01_k».proof.Proof.ChunkReal
public import Idealize.ShloMosaic.Lib.Pipeline.Value
public import Idealize.ShloMosaic.Lib.Ring
public import Idealize.ShloMosaic.Lib.Tactic
public import Idealize.ShloMosaic.Lib.Pipeline.ValueKit.Tiles

@[expose] public section

noncomputable section

/-! # The kernel's matrix products on arrays of real numbers -/

namespace Cert.KernelIdeal.Tile

open Idealize.ShloMosaic Cert.Real Facts₀ Facts
open scoped BigOperators

variable {φ ψ : FTy}

theorem matmul_nt (x : Fin 64 → Fin 128 → ℝ) (y : Fin 64 → Fin 128 → ℝ) :
    matmul (F := Ideal) dot_S64x128_S64x128_S64x64_1_1_0_0_n_n none (m2 (φ := φ) x) (m2 (φ := ψ) y) (m2 fun _ _ => 0)
      = m2 (mm x (tr y)) := by
  refine ext2 fun i j => ?_; pointwise [m2, mm, tr]; rw [sum_mul_coe, EReal.coe_zero, zero_add]
theorem matmul_tn (x : Fin 64 → Fin 128 → ℝ) (y : Fin 64 → Fin 128 → ℝ) :
    matmul (F := Ideal) dot_S64x128_S64x128_S128x128_0_0_1_1_n_n none (m2 (φ := φ) x) (m2 (φ := ψ) y) (m2 fun _ _ => 0)
      = m2 (mm (tr x) y) := by
  refine ext2 fun i j => ?_; pointwise [m2, mm, tr]; rw [sum_mul_coe, EReal.coe_zero, zero_add]
theorem matmul_tn64 (x : Fin 64 → Fin 64 → ℝ) (y : Fin 64 → Fin 128 → ℝ) :
    matmul (F := Ideal) dot_S64x64_S64x128_S64x128_0_0_1_1_n_n none (m2 (φ := φ) x) (m2 (φ := ψ) y) (m2 fun _ _ => 0)
      = m2 (mm (tr x) y) := by
  refine ext2 fun i j => ?_; pointwise [m2, mm, tr]; rw [sum_mul_coe, EReal.coe_zero, zero_add]
theorem matmul_nn128 (x : Fin 128 → Fin 128 → ℝ) (y : Fin 128 → Fin 128 → ℝ) :
    matmul (F := Ideal) dot_S128x128_S128x128_S128x128_1_0_0_1_n_n none (m2 (φ := φ) x) (m2 (φ := ψ) y) (m2 fun _ _ => 0)
      = m2 (mm x y) := by
  refine ext2 fun i j => ?_; pointwise [m2, mm, tr]; rw [sum_mul_coe, EReal.coe_zero, zero_add]
theorem matmul_nn (x : Fin 64 → Fin 128 → ℝ) (y : Fin 128 → Fin 128 → ℝ) :
    matmul (F := Ideal) dot_S64x128_S128x128_S64x128_1_0_0_1_n_n none (m2 (φ := φ) x) (m2 (φ := ψ) y) (m2 fun _ _ => 0)
      = m2 (mm x y) := by
  refine ext2 fun i j => ?_; pointwise [m2, mm, tr]; rw [sum_mul_coe, EReal.coe_zero, zero_add]
theorem matmul_nt128 (x : Fin 64 → Fin 128 → ℝ) (y : Fin 128 → Fin 128 → ℝ) :
    matmul (F := Ideal) dot_S64x128_S128x128_S64x128_1_1_0_0_n_n none (m2 (φ := φ) x) (m2 (φ := ψ) y) (m2 fun _ _ => 0)
      = m2 (mm x (tr y)) := by
  refine ext2 fun i j => ?_; pointwise [m2, mm, tr]; rw [sum_mul_coe, EReal.coe_zero, zero_add]
theorem matmul_nn64 (x : Fin 64 → Fin 64 → ℝ) (y : Fin 64 → Fin 128 → ℝ) :
    matmul (F := Ideal) dot_S64x64_S64x128_S64x128_1_0_0_1_n_n none (m2 (φ := φ) x) (m2 (φ := ψ) y) (m2 fun _ _ => 0)
      = m2 (mm x y) := by
  refine ext2 fun i j => ?_; pointwise [m2, mm, tr]; rw [sum_mul_coe, EReal.coe_zero, zero_add]

/-! ## Selects on the position in a tile -/

/-- A select on "the column is not above the row". -/
theorem selectGe_m2 {I J : IVec S64x64 32} (hI : I = iota .tc S64x64 32 [0] iota_S64x64_d0_w32)
    (hJ : J = iota .tc S64x64 32 [1] iota_S64x64_d1_w32) (x y : Fin 64 → Fin 64 → ℝ) :
    select (cmpi .sge I J) (m2 (φ := .f32) x) (m2 y)
      = m2 (φ := .f32) fun i j => if j ≤ i then x i j else y i j := by
  subst hI hJ; refine ext2 fun i j => ?_; pointwise [m2]
  rw [word_sge]; split <;> rfl
/-- A select on the diagonal. -/
theorem selectEq_m2 {I J : IVec S64x64 32} (hI : I = iota .tc S64x64 32 [0] iota_S64x64_d0_w32)
    (hJ : J = iota .tc S64x64 32 [1] iota_S64x64_d1_w32) (x y : Fin 64 → Fin 64 → ℝ) :
    select (cmpi .eq I J) (m2 (φ := .f32) x) (m2 y)
      = m2 (φ := .f32) fun i j => if i = j then x i j else y i j := by
  subst hI hJ; refine ext2 fun i j => ?_; pointwise [m2]
  rw [word_eq]; split <;> rfl
/-- A select on the last row. -/
theorem selectLast_m2 {I : IVec S64x128 32} (hI : I = iota .tc S64x128 32 [0] iota_S64x128_d0_w32)
    (x y : Fin 64 → Fin 128 → ℝ) :
    select (cmpi .eq I (broadcast S64x128 63#32)) (m2 (φ := .f32) x) (m2 y)
      = m2 (φ := .f32) fun i j => if i = 63 then x i j else y i j := by
  subst hI; refine ext2 fun i j => ?_; pointwise [m2]
  rw [word_last]; split <;> rfl

/-! ## Sums along axes -/

theorem colSum_m2 {l : List (Fin S64x64.rank)} (hl : l = [0]) (x : Fin 64 → Fin 64 → ℝ) (h) (h1) (h2 : (0x00000000#32 : BitVec 32) = 0x00000000#32) :
    multiReduction (F := Ideal) .add l S64 (m2 (φ := .f32) x) 0x00000000#32 h h1 h2
      = m1 (φ := .f32) fun j => ∑ i, x i j := by
  subst hl; refine ext1 fun i => ?_; pointwise [m2, m1]; rw [← coe_sum]
/-- The sums along the rows. -/
theorem rowSum64_m2 {l : List (Fin S64x64.rank)} (hl : l = [1]) (x : Fin 64 → Fin 64 → ℝ) (h) (h1) (h2 : (0x00000000#32 : BitVec 32) = 0x00000000#32) :
    multiReduction (F := Ideal) .add l S64 (m2 (φ := .f32) x) 0x00000000#32 h h1 h2
      = m1 (φ := .f32) fun i => ∑ j, x i j := by
  subst hl; refine ext1 fun i => ?_; pointwise [m2, m1]; rw [← coe_sum]
theorem rowSum_m2 {l : List (Fin S64x128.rank)} (hl : l = [1]) (x : Fin 64 → Fin 128 → ℝ) (h) (h1) (h2 : (0x00000000#32 : BitVec 32) = 0x00000000#32) :
    multiReduction (F := Ideal) .add l S64 (m2 (φ := .f32) x) 0x00000000#32 h h1 h2
      = m1 (φ := .f32) fun i => ∑ j, x i j := by
  subst hl; refine ext1 fun i => ?_; pointwise [m2, m1]; rw [← coe_sum]
/-- The sum of a whole matrix. -/
theorem sumAll_m3 {l : List (Fin S1x64x128.rank)} (hl : l = [1, 2]) (x : Fin 1 → Fin 64 → Fin 128 → ℝ) (h) (h1) (h2 : (0x00000000#32 : BitVec 32) = 0x00000000#32) :
    multiReduction (F := Ideal) .add l S1 (m3 (φ := .f32) x) 0x00000000#32 h h1 h2
      = m1 (φ := .f32) fun b => ∑ i, ∑ j, x b i j := by
  subst hl; refine ext1 fun b => ?_; pointwise [m3, m1]; simp only [← coe_sum]; rw [Subsingleton.elim b 0]
theorem sumAll128_m3 {l : List (Fin S1x128x128.rank)} (hl : l = [1, 2]) (x : Fin 1 → Fin 128 → Fin 128 → ℝ) (h) (h1) (h2 : (0x00000000#32 : BitVec 32) = 0x00000000#32) :
    multiReduction (F := Ideal) .add l S1 (m3 (φ := .f32) x) 0x00000000#32 h h1 h2
      = m1 (φ := .f32) fun b => ∑ i, ∑ j, x b i j := by
  subst hl; refine ext1 fun b => ?_; pointwise [m3, m1]; simp only [← coe_sum]; rw [Subsingleton.elim b 0]
/-! ## Loads of a part of a block, and the stores that make one -/

/-- A load of one chunk's rows out of a block of eight chunks. -/
theorem ld_rows (o : ℕ) (h) (n : Fin 8) (ho : o = 64 * n.val) (x : Fin 512 → Fin 128 → ℝ) :
    View.ld (S := S512x128) (Val := Elt Ideal) (e' := .f32) (m2 (φ := .f32) x) (Rect.unit (s := S512x128) ![o, 0] S64x128.size h)
      = m2 (φ := .f32) (part8 x n) := by
  subst ho
  refine ext2 fun i j => ?_
  rw [View.ld_unit_apply_of (i := ix2 (row8 n i) j) (hi := fun a => by
    match a with
    | ⟨0, _⟩ => rfl
    | ⟨1, _⟩ => exact (Nat.zero_add _).symm)]
  rfl

/-- A load of one chunk's state out of a block of eight. -/
theorem ld_state (o : ℕ) (h) (n : Fin 8) (ho : o = n.val) (x : Fin 1 → Fin 8 → Fin 128 → Fin 128 → ℝ) :
    View.ld (S := S1x8x128x128) (Val := Elt Ideal) (e' := .f32) (m4 (φ := .f32) x)
        (Rect.unit (s := S1x8x128x128) ![0, o, 0, 0] S1x1x128x128.size h)
      = m4 (φ := .f32) fun a (_ : Fin 1) => x a n := by
  subst ho
  refine ext4 fun i j k l => ?_
  rw [View.ld_unit_apply_of (i := ix4 i n k l) (hi := fun a => by
    match a with
    | ⟨0, _⟩ => exact (Nat.zero_add _).symm
    | ⟨1, _⟩ => show n.val = n.val + j.val; omega
    | ⟨2, _⟩ => exact (Nat.zero_add _).symm
    | ⟨3, _⟩ => exact (Nat.zero_add _).symm)]
  rfl

/-- Stores that agree with one array make that array, wherever one of them covers. -/
theorem canon_agree {S : Shape} (G : S.Idx → Elt Ideal .f32) (y : S.Idx) :
    ∀ L : List (View.Piece (Elt Ideal) S .f32), (∀ p ∈ L, p.2 = fun x => G (p.1.emb x)) → (∃ p ∈ L, y ∈ p.1.set) →
      View.canon L y = G y
  | [], _, h => by obtain ⟨_, hm, _⟩ := h; exact absurd hm List.not_mem_nil
  | p :: L, hp, h => by
    by_cases hy : y ∈ p.1.set
    · obtain ⟨x, -, rfl⟩ := Finset.mem_map.mp ((Rect.map_emb_univ p.1).symm ▸ hy)
      obtain ⟨r, w⟩ := p
      rw [View.canon_cons_emb]
      exact congrFun (hp ⟨r, w⟩ List.mem_cons_self) x
    · rw [View.canon_cons_of_not_mem p L hy]
      refine canon_agree G y L (fun q hq => hp q (List.mem_cons_of_mem _ hq)) ?_
      obtain ⟨q, hq, hy'⟩ := h
      rcases List.mem_cons.mp hq with rfl | hq
      · exact absurd hy' hy
      · exact ⟨q, hq, hy'⟩

/-- A store of chunk `n`'s rows agrees with the eight chunks laid one below the other. -/
theorem store_rows (o : ℕ) (h) (n : Fin 8) (ho : o = 64 * n.val) (p : Fin 8 → Fin 64 → Fin 128 → ℝ) :
    (m2 (φ := .f32) (p n) : S64x128.Idx → Elt Ideal .f32)
      = fun x => m2 (φ := .f32) (stack8 p) ((Rect.unit (s := S512x128) ![o, 0] S64x128.size h).emb x) := by
  subst ho
  refine ext2 fun i j => ?_
  rw [show (Rect.unit (s := S512x128) ![64 * n.val, 0] S64x128.size h).emb (ix2 i j) = ix2 (row8 n i) j from
    funext fun a => Fin.ext (by
      match a with
      | ⟨0, _⟩ => show 64 * n.val + 1 * i.val = 64 * n.val + i.val; omega
      | ⟨1, _⟩ => show 0 + 1 * j.val = j.val; omega)]
  show ((p n i j : ℝ) : EReal) = ((stack8 p (row8 n i) j : ℝ) : EReal)
  rw [stack8_row]

/-- Eight stores, one chunk's rows each, leave the eight chunks one below the other. -/
theorem read_stack (V : View sig .tc .vmem S512x128 .f32) (f : V.ty.Contents (Elt Ideal)) (p : Fin 8 → Fin 64 → Fin 128 → ℝ) (L : List (View.Piece (Elt Ideal) S512x128 .f32))
    (hL : L = [⟨Rect.unit (s := S512x128) ![448, 0] S64x128.size inb_S512x128_S64x128_448_0, (m2 (φ := .f32) (p 7) : S64x128.Idx → Elt Ideal .f32)⟩,
        ⟨Rect.unit (s := S512x128) ![384, 0] S64x128.size inb_S512x128_S64x128_384_0, (m2 (φ := .f32) (p 6) : S64x128.Idx → Elt Ideal .f32)⟩,
        ⟨Rect.unit (s := S512x128) ![320, 0] S64x128.size inb_S512x128_S64x128_320_0, (m2 (φ := .f32) (p 5) : S64x128.Idx → Elt Ideal .f32)⟩,
        ⟨Rect.unit (s := S512x128) ![256, 0] S64x128.size inb_S512x128_S64x128_256_0, (m2 (φ := .f32) (p 4) : S64x128.Idx → Elt Ideal .f32)⟩,
        ⟨Rect.unit (s := S512x128) ![192, 0] S64x128.size inb_S512x128_S64x128_192_0, (m2 (φ := .f32) (p 3) : S64x128.Idx → Elt Ideal .f32)⟩,
        ⟨Rect.unit (s := S512x128) ![128, 0] S64x128.size inb_S512x128_S64x128_128_0, (m2 (φ := .f32) (p 2) : S64x128.Idx → Elt Ideal .f32)⟩,
        ⟨Rect.unit (s := S512x128) ![64, 0] S64x128.size inb_S512x128_S64x128_64_0, (m2 (φ := .f32) (p 1) : S64x128.Idx → Elt Ideal .f32)⟩,
        ⟨Rect.unit (s := S512x128) ![0, 0] S64x128.size inb_S512x128_S64x128_0_0, (m2 (φ := .f32) (p 0) : S64x128.Idx → Elt Ideal .f32)⟩]) :
    V.read (Elt Ideal) (V.writes (Elt Ideal) f L) = m2 (φ := .f32) (stack8 p) := by
  have hc : ∀ y : S512x128.Idx, ∃ pc ∈ L, y ∈ pc.1.set := fun y => by
    rw [hL]; exact View.cover_of_tiledL (s := S512x128) _ S64x128.size (by sl_kernel_rfl) y
  rw [View.read_writes_eq_canon _ _ _ hc]
  funext y
  refine canon_agree _ y _ ?_ (hc y)
  subst hL; simp only [List.forall_mem_cons]
  exact ⟨store_rows 448 _ 7 rfl p, store_rows 384 _ 6 rfl p, store_rows 320 _ 5 rfl p, store_rows 256 _ 4 rfl p, store_rows 192 _ 3 rfl p,
    store_rows 128 _ 2 rfl p, store_rows 64 _ 1 rfl p, store_rows 0 _ 0 rfl p, fun _ h => absurd h List.not_mem_nil⟩

end Cert.KernelIdeal.Tile
-- ==== Proof.KernelPoint.lean ====
module

public import proofs.«01_k».proof.Proof.KernelArr
public import proofs.«01_k».proof.Proof.Gen.KernelIdeal.Frame
public import Idealize.ShloMosaic.Lib.Pipeline.Value
public import Idealize.ShloMosaic.Lib.Tactic

@[expose] public section

noncomputable section

/-! # What one grid point leaves: eight chunks, taken last to first -/

namespace Cert.KernelIdeal.Tile

open Idealize.ShloMosaic Idealize.ShloMosaic.TcCoe Idealize.SL.Sem Cert.Real Cert.KernelIdeal.Gen
open scoped BigOperators

/-- Chunk `n` of a block of eight. -/
def chunkOf (d q k w v : Fin 512 → Fin 128 → ℝ) (g : Fin 512 → ℝ) (s : Fin 1 → Fin 8 → Fin 128 → Fin 128 → ℝ) (n : Fin 8) : Chunk :=
  ⟨part8 d n, part8 q n, part8 k n, part8 w n, part8 v n, part8 g n, s 0 n⟩

theorem hz : (![0, 0] : Fin 2 → Nat) = fun _ => 0 := funext fun a => by fin_cases a <;> rfl
theorem part8_col (g : Fin 512 → ℝ) (n i j) : part8 (fun r (_ : Fin 128) => g r) n i j = part8 g n i := rfl

theorem mm_ones (x : Fin 64 → Fin 64 → ℝ) : mm (tr x) (fun _ (_ : Fin 128) => 1) = fun i _ => ∑ a, x a i :=
  funext fun _ => funext fun _ => by simp only [mm, tr, mul_one]
theorem mm_zero (y : Fin 64 → Fin 128 → ℝ) : mm (tr fun (_ _ : Fin 64) => (0 : ℝ)) y = fun _ _ => 0 :=
  funext fun _ => funext fun _ => by simp only [mm, tr, zero_mul, Finset.sum_const_zero]

section
variable (c : Dev nD) (i : grid0.Coords)
  (a2 : Memref sig .tc .vmem S512x128 .f32) (h2 : a2.IsWhole)
  (a3 : Memref sig .tc .vmem S512x128 .f32) (h3 : a3.IsWhole)
  (a4 : Memref sig .tc .vmem S512x128 .f32) (h4 : a4.IsWhole)
  (a5 : Memref sig .tc .vmem S512x128 .f32) (h5 : a5.IsWhole)
  (a6 : Memref sig .tc .vmem S512x128 .f32) (h6 : a6.IsWhole)
  (a7 : Memref sig .tc .vmem S512x128 .f32) (h7 : a7.IsWhole)
  (a8 : Memref sig .tc .vmem S1x8x128x128 .f32) (h8 : a8.IsWhole)
  (a9 : Memref sig .tc .vmem S512x128 .f32) (h9 : a9.IsWhole)
  (a10 : Memref sig .tc .vmem S512x128 .f32) (h10 : a10.IsWhole)
  (a11 : Memref sig .tc .vmem S512x128 .f32) (h11 : a11.IsWhole)
  (a12 : Memref sig .tc .vmem S512x128 .f32) (h12 : a12.IsWhole)
  (a13 : Memref sig .tc .vmem S512x128 .f32) (h13 : a13.IsWhole)
  (a14 : Memref sig .tc .vmem S128x128 .f32) (h14 : a14.IsWhole)
  (hA : cond0_0 i) (hB : ¬cond0_0 i)
  (d q k w v : Fin 512 → Fin 128 → ℝ) (g : Fin 512 → ℝ) (s : Fin 1 → Fin 8 → Fin 128 → Fin 128 → ℝ) (D : Fin 128 → Fin 128 → ℝ)

set_option maxHeartbeats 4000000 in
/-- What a point that carries the state's cotangent `D` in leaves: the five outputs' blocks, and the cotangent it passes on. -/
theorem outs_B :
    (out0_B_7 (F := Ideal) c i a2 h2 a3 h3 a4 h4 a5 h5 a6 h6 a7 h7 a8 h8 a9 h9 a10 h10 a11 h11 a12 h12 a13 h13 a14 h14 hB (m2 (φ := .f32) d) (m2 (φ := .f32) q) (m2 (φ := .f32) k) (m2 (φ := .f32) w) (m2 (φ := .f32) fun r _ => g r) (m2 (φ := .f32) v) (m4 (φ := .f32) s) (m2 (φ := .f32) D)
      = m2 (φ := .f32) (stack8 fun n => (chunkOf d q k w v g s n).dq))
    ∧ (out0_B_8 (F := Ideal) c i a2 h2 a3 h3 a4 h4 a5 h5 a6 h6 a7 h7 a8 h8 a9 h9 a10 h10 a11 h11 a12 h12 a13 h13 a14 h14 hB (m2 (φ := .f32) d) (m2 (φ := .f32) q) (m2 (φ := .f32) k) (m2 (φ := .f32) w) (m2 (φ := .f32) fun r _ => g r) (m2 (φ := .f32) v) (m4 (φ := .f32) s) (m2 (φ := .f32) D)
      = m2 (φ := .f32) (stack8 fun n => (chunkOf d q k w v g s n).dk (run (fun n => chunkOf d q k w v g s ⟨7 - n, by omega⟩) D (7 - n.val))))
    ∧ (out0_B_9 (F := Ideal) c i a2 h2 a3 h3 a4 h4 a5 h5 a6 h6 a7 h7 a8 h8 a9 h9 a10 h10 a11 h11 a12 h12 a13 h13 a14 h14 hB (m2 (φ := .f32) d) (m2 (φ := .f32) q) (m2 (φ := .f32) k) (m2 (φ := .f32) w) (m2 (φ := .f32) fun r _ => g r) (m2 (φ := .f32) v) (m4 (φ := .f32) s) (m2 (φ := .f32) D)
      = m2 (φ := .f32) (stack8 fun n i _ => (chunkOf d q k w v g s n).dg (run (fun n => chunkOf d q k w v g s ⟨7 - n, by omega⟩) D (7 - n.val)) i))
    ∧ (out0_B_10 (F := Ideal) c i a2 h2 a3 h3 a4 h4 a5 h5 a6 h6 a7 h7 a8 h8 a9 h9 a10 h10 a11 h11 a12 h12 a13 h13 a14 h14 hB (m2 (φ := .f32) d) (m2 (φ := .f32) q) (m2 (φ := .f32) k) (m2 (φ := .f32) w) (m2 (φ := .f32) fun r _ => g r) (m2 (φ := .f32) v) (m4 (φ := .f32) s) (m2 (φ := .f32) D)
      = m2 (φ := .f32) (stack8 fun n => (chunkOf d q k w v g s n).du (run (fun n => chunkOf d q k w v g s ⟨7 - n, by omega⟩) D (7 - n.val))))
    ∧ (out0_B_11 (F := Ideal) c i a2 h2 a3 h3 a4 h4 a5 h5 a6 h6 a7 h7 a8 h8 a9 h9 a10 h10 a11 h11 a12 h12 a13 h13 a14 h14 hB (m2 (φ := .f32) d) (m2 (φ := .f32) q) (m2 (φ := .f32) k) (m2 (φ := .f32) w) (m2 (φ := .f32) fun r _ => g r) (m2 (φ := .f32) v) (m4 (φ := .f32) s) (m2 (φ := .f32) D)
      = m2 (φ := .f32) (stack8 fun n => (chunkOf d q k w v g s n).dw (run (fun n => chunkOf d q k w v g s ⟨7 - n, by omega⟩) D (7 - n.val))))
    ∧ (sout0_B_0 (F := Ideal) c i a2 h2 a3 h3 a4 h4 a5 h5 a6 h6 a7 h7 a8 h8 a9 h9 a10 h10 a11 h11 a12 h12 a13 h13 a14 h14 hB (m2 (φ := .f32) d) (m2 (φ := .f32) q) (m2 (φ := .f32) k) (m2 (φ := .f32) w) (m2 (φ := .f32) fun r _ => g r) (m2 (φ := .f32) v) (m4 (φ := .f32) s) (m2 (φ := .f32) D)
      = m2 (φ := .f32) (run (fun n => chunkOf d q k w v g s ⟨7 - n, by omega⟩) D 8)) := by
  refine ⟨?_, ?_, ?_, ?_, ?_, ?_⟩
  on_goal 1 => unfold out0_B_7; refine read_stack _ _ _ _ ?_
  on_goal 2 => unfold out0_B_8; refine read_stack _ _ _ _ ?_
  on_goal 3 => unfold out0_B_9; refine read_stack _ _ _ _ ?_
  on_goal 4 => unfold out0_B_10; refine read_stack _ _ _ _ ?_
  on_goal 5 => unfold out0_B_11; refine read_stack _ _ _ _ ?_
  on_goal 6 => unfold sout0_B_0; rw [View.read_writes_eq_canon _ _ _ (scover0_B_0 c i a2 h2 a3 h3 a4 h4 a5 h5 a6 h6 a7 h7 a8 h8 a9 h9 a10 h10 a11 h11 a12 h12 a13 h13 a14 h14 hB _ _ _ _ _ _ _ _)]
  all_goals unfold kernelRun0_B
  all_goals dsimp only
  on_goal 6 => rw [View.canon_cons_unit_zero hz]
  all_goals sl_unfold_words
  all_goals simp only [View.readAt_eq_ld, h2.read_unread, h3.read_unread, h4.read_unread, h5.read_unread, h6.read_unread,
      h7.read_unread, h8.read_unread, h14.read_unread,
      ld_rows 0 _ 0 rfl, ld_rows 64 _ 1 rfl, ld_rows 128 _ 2 rfl, ld_rows 192 _ 3 rfl, ld_rows 256 _ 4 rfl, ld_rows 320 _ 5 rfl, ld_rows 384 _ 6 rfl, ld_rows 448 _ 7 rfl,
      ld_state 0 _ 0 rfl, ld_state 1 _ 1 rfl, ld_state 2 _ 2 rfl, ld_state 3 _ 3 rfl, ld_state 4 _ 4 rfl, ld_state 5 _ 5 rfl, ld_state 6 _ 6 rfl, ld_state 7 _ 7 rfl,
      View.readCov_unit_zero (S := S128x128) _ hz, View.ld_unit_zero (S := S128x128) hz, shapeCast_self]
  all_goals simp only [k0_pay1, k0_pay2, k0_pay3, k0_pay4, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25, k0_pay26, k0_pay27,
      k0_pay28, k0_pay29, k0_pay30, k0_pay31, k0_pay32, k0_pay33, k0_pay34, k0_pay35, k0_pay36, k0_pay37, k0_pay38, k0_pay39, k0_pay40,
      k0_pay41, k0_pay42, k0_pay43, k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay78, k0_pay79,
      k0_pay80, k0_pay81, k0_pay82, k0_pay83, k0_pay84, k0_pay85, k0_pay86, k0_pay87, k0_pay88, k0_pay89, k0_pay90, k0_pay91, k0_pay92,
      k0_pay93, k0_pay94, k0_pay95, k0_pay96, k0_pay97, k0_pay98, k0_pay99, k0_pay100, k0_pay101, k0_pay102, k0_pay103, k0_pay104,
      k0_pay105, k0_pay106, k0_pay107, k0_pay108, k0_pay109, k0_pay110, k0_pay111, k0_pay112, k0_pay113, k0_pay114, k0_pay115,
      k0_pay116, k0_pay117, k0_pay118, k0_pay119, k0_pay120, k0_pay121, k0_pay122, k0_pay123, k0_pay124, k0_pay125, k0_pay126,
      k0_pay127, k0_pay128, k0_pay129, k0_pay130, k0_pay131, k0_pay132, k0_pay133, k0_pay134, k0_pay135, k0_pay136, k0_pay137,
      k0_pay138, k0_pay139, k0_pay140, k0_pay141, k0_pay142, k0_pay143, k0_pay144, k0_pay145, k0_pay146, k0_pay147, k0_pay148,
      k0_pay149, k0_pay150, k0_pay151, k0_pay152, k0_pay153, k0_pay154, k0_pay155, k0_pay156, k0_pay157, k0_pay158, k0_pay159,
      k0_pay160, k0_pay161, k0_pay162, k0_pay163, k0_pay164, k0_pay165, k0_pay166, k0_pay167, k0_pay168, k0_pay169, k0_pay170,
      k0_pay171, k0_pay172, k0_pay173, k0_pay174, k0_pay175, k0_pay176, k0_pay177, k0_pay178, k0_pay179, k0_pay180, k0_pay181,
      k0_pay182, k0_pay183, k0_pay184, k0_pay185, k0_pay186, k0_pay187, k0_pay188, k0_pay189, k0_pay190, k0_pay191, k0_pay192,
      k0_pay193, k0_pay194, k0_pay195, k0_pay196, k0_pay197, k0_pay198, k0_pay199, k0_pay200, k0_pay201, k0_pay202, k0_pay203,
      k0_pay204, k0_pay205, k0_pay206, k0_pay207, k0_pay208, k0_pay209, k0_pay210, k0_pay211, k0_pay212, k0_pay213, k0_pay214,
      k0_pay215, k0_pay216, k0_pay217, k0_pay218, k0_pay219, k0_pay220, k0_pay221, k0_pay222, k0_pay223, k0_pay224, k0_pay225,
      k0_pay226, k0_pay227, k0_pay228, k0_pay229, k0_pay230, k0_pay231, k0_pay232, k0_pay233, k0_pay234, k0_pay235, k0_pay236,
      k0_pay237, k0_pay238, k0_pay239, k0_pay240, k0_pay241, k0_pay242, k0_pay243, k0_pay244, k0_pay245, k0_pay246, k0_pay247,
      k0_pay248, k0_pay249, k0_pay250, k0_pay251, k0_pay252, k0_pay253, k0_pay254, k0_pay255, k0_pay256, k0_pay257, k0_pay258,
      k0_pay259, k0_pay260, k0_pay261, k0_pay262, k0_pay263,
      shapeCast_self, zero_bits, one_bits, constant_m2, broadcast_m2, mulf_m2, addf_m2, subf_m2, exp_m2, minimumf_m2, truncf_m2, extf_m2,
      broadcastRow_m2, broadcastRow128_m2, broadcastRow64_m2, broadcastCol_m2, lastRow_m2, leftHalf_m2, asRow_m1, asCol_m1, asBatch_m2,
      asBatch128_m2, ofBatch_m4, colSum_m2, rowSum64_m2, rowSum_m2, sumAll_m3, sumAll128_m3, extract_m1, selectGe_m2, selectEq_m2,
      selectLast_m2, matmul_nt, matmul_tn, matmul_tn64, matmul_nn128, matmul_nn, matmul_nt128, matmul_nn64,
      part8_col, Finset.sum_ite_eq', Finset.sum_ite_eq, Finset.mem_univ, if_true, sub_self, mm_ones, mm_zero, Finset.sum_const_zero, add_zero]
  all_goals rfl

set_option maxHeartbeats 4000000 in
/-- What a head's first point leaves: the five outputs' blocks, and the state's cotangent it passes on, from none. -/
theorem outs_A :
    (out0_A_7 (F := Ideal) c i a2 h2 a3 h3 a4 h4 a5 h5 a6 h6 a7 h7 a8 h8 a9 h9 a10 h10 a11 h11 a12 h12 a13 h13 a14 h14 hA (m2 (φ := .f32) d) (m2 (φ := .f32) q) (m2 (φ := .f32) k) (m2 (φ := .f32) w) (m2 (φ := .f32) fun r _ => g r) (m2 (φ := .f32) v) (m4 (φ := .f32) s)
      = m2 (φ := .f32) (stack8 fun n => (chunkOf d q k w v g s n).dq))
    ∧ (out0_A_8 (F := Ideal) c i a2 h2 a3 h3 a4 h4 a5 h5 a6 h6 a7 h7 a8 h8 a9 h9 a10 h10 a11 h11 a12 h12 a13 h13 a14 h14 hA (m2 (φ := .f32) d) (m2 (φ := .f32) q) (m2 (φ := .f32) k) (m2 (φ := .f32) w) (m2 (φ := .f32) fun r _ => g r) (m2 (φ := .f32) v) (m4 (φ := .f32) s)
      = m2 (φ := .f32) (stack8 fun n => (chunkOf d q k w v g s n).dk (run (fun n => chunkOf d q k w v g s ⟨7 - n, by omega⟩) (fun _ _ => 0) (7 - n.val))))
    ∧ (out0_A_9 (F := Ideal) c i a2 h2 a3 h3 a4 h4 a5 h5 a6 h6 a7 h7 a8 h8 a9 h9 a10 h10 a11 h11 a12 h12 a13 h13 a14 h14 hA (m2 (φ := .f32) d) (m2 (φ := .f32) q) (m2 (φ := .f32) k) (m2 (φ := .f32) w) (m2 (φ := .f32) fun r _ => g r) (m2 (φ := .f32) v) (m4 (φ := .f32) s)
      = m2 (φ := .f32) (stack8 fun n i _ => (chunkOf d q k w v g s n).dg (run (fun n => chunkOf d q k w v g s ⟨7 - n, by omega⟩) (fun _ _ => 0) (7 - n.val)) i))
    ∧ (out0_A_10 (F := Ideal) c i a2 h2 a3 h3 a4 h4 a5 h5 a6 h6 a7 h7 a8 h8 a9 h9 a10 h10 a11 h11 a12 h12 a13 h13 a14 h14 hA (m2 (φ := .f32) d) (m2 (φ := .f32) q) (m2 (φ := .f32) k) (m2 (φ := .f32) w) (m2 (φ := .f32) fun r _ => g r) (m2 (φ := .f32) v) (m4 (φ := .f32) s)
      = m2 (φ := .f32) (stack8 fun n => (chunkOf d q k w v g s n).du (run (fun n => chunkOf d q k w v g s ⟨7 - n, by omega⟩) (fun _ _ => 0) (7 - n.val))))
    ∧ (out0_A_11 (F := Ideal) c i a2 h2 a3 h3 a4 h4 a5 h5 a6 h6 a7 h7 a8 h8 a9 h9 a10 h10 a11 h11 a12 h12 a13 h13 a14 h14 hA (m2 (φ := .f32) d) (m2 (φ := .f32) q) (m2 (φ := .f32) k) (m2 (φ := .f32) w) (m2 (φ := .f32) fun r _ => g r) (m2 (φ := .f32) v) (m4 (φ := .f32) s)
      = m2 (φ := .f32) (stack8 fun n => (chunkOf d q k w v g s n).dw (run (fun n => chunkOf d q k w v g s ⟨7 - n, by omega⟩) (fun _ _ => 0) (7 - n.val))))
    ∧ (sout0_A_0 (F := Ideal) c i a2 h2 a3 h3 a4 h4 a5 h5 a6 h6 a7 h7 a8 h8 a9 h9 a10 h10 a11 h11 a12 h12 a13 h13 a14 h14 hA (m2 (φ := .f32) d) (m2 (φ := .f32) q) (m2 (φ := .f32) k) (m2 (φ := .f32) w) (m2 (φ := .f32) fun r _ => g r) (m2 (φ := .f32) v) (m4 (φ := .f32) s)
      = m2 (φ := .f32) (run (fun n => chunkOf d q k w v g s ⟨7 - n, by omega⟩) (fun _ _ => 0) 8)) := by
  refine ⟨?_, ?_, ?_, ?_, ?_, ?_⟩
  on_goal 1 => unfold out0_A_7; refine read_stack _ _ _ _ ?_
  on_goal 2 => unfold out0_A_8; refine read_stack _ _ _ _ ?_
  on_goal 3 => unfold out0_A_9; refine read_stack _ _ _ _ ?_
  on_goal 4 => unfold out0_A_10; refine read_stack _ _ _ _ ?_
  on_goal 5 => unfold out0_A_11; refine read_stack _ _ _ _ ?_
  on_goal 6 => unfold sout0_A_0; rw [View.read_writes_eq_canon _ _ _ (scover0_A_0 c i a2 h2 a3 h3 a4 h4 a5 h5 a6 h6 a7 h7 a8 h8 a9 h9 a10 h10 a11 h11 a12 h12 a13 h13 a14 h14 hA _ _ _ _ _ _ _)]
  all_goals unfold kernelRun0_A
  all_goals dsimp only
  on_goal 6 => rw [View.canon_cons_unit_zero hz]
  all_goals sl_unfold_words
  all_goals simp only [View.readAt_eq_ld, h2.read_unread, h3.read_unread, h4.read_unread, h5.read_unread, h6.read_unread,
      h7.read_unread, h8.read_unread, h14.read_unread,
      ld_rows 0 _ 0 rfl, ld_rows 64 _ 1 rfl, ld_rows 128 _ 2 rfl, ld_rows 192 _ 3 rfl, ld_rows 256 _ 4 rfl, ld_rows 320 _ 5 rfl, ld_rows 384 _ 6 rfl, ld_rows 448 _ 7 rfl,
      ld_state 0 _ 0 rfl, ld_state 1 _ 1 rfl, ld_state 2 _ 2 rfl, ld_state 3 _ 3 rfl, ld_state 4 _ 4 rfl, ld_state 5 _ 5 rfl, ld_state 6 _ 6 rfl, ld_state 7 _ 7 rfl,
      View.readCov_unit_zero (S := S128x128) _ hz, View.ld_unit_zero (S := S128x128) hz, shapeCast_self]
  all_goals simp only [k0_pay1, k0_pay2, k0_pay3, k0_pay4, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25, k0_pay26, k0_pay27,
      k0_pay28, k0_pay29, k0_pay30, k0_pay31, k0_pay32, k0_pay33, k0_pay34, k0_pay35, k0_pay36, k0_pay37, k0_pay38, k0_pay39, k0_pay40,
      k0_pay41, k0_pay42, k0_pay43, k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay78, k0_pay79,
      k0_pay80, k0_pay81, k0_pay82, k0_pay83, k0_pay84, k0_pay85, k0_pay86, k0_pay87, k0_pay88, k0_pay89, k0_pay90, k0_pay91, k0_pay92,
      k0_pay93, k0_pay94, k0_pay95, k0_pay96, k0_pay97, k0_pay98, k0_pay99, k0_pay100, k0_pay101, k0_pay102, k0_pay103, k0_pay104,
      k0_pay105, k0_pay106, k0_pay107, k0_pay108, k0_pay109, k0_pay110, k0_pay111, k0_pay112, k0_pay113, k0_pay114, k0_pay115,
      k0_pay116, k0_pay117, k0_pay118, k0_pay119, k0_pay120, k0_pay121, k0_pay122, k0_pay123, k0_pay124, k0_pay125, k0_pay126,
      k0_pay127, k0_pay128, k0_pay129, k0_pay130, k0_pay131, k0_pay132, k0_pay133, k0_pay134, k0_pay135, k0_pay136, k0_pay137,
      k0_pay138, k0_pay139, k0_pay140, k0_pay141, k0_pay142, k0_pay143, k0_pay144, k0_pay145, k0_pay146, k0_pay147, k0_pay148,
      k0_pay149, k0_pay150, k0_pay151, k0_pay152, k0_pay153, k0_pay154, k0_pay155, k0_pay156, k0_pay157, k0_pay158, k0_pay159,
      k0_pay160, k0_pay161, k0_pay162, k0_pay163, k0_pay164, k0_pay165, k0_pay166, k0_pay167, k0_pay168, k0_pay169, k0_pay170,
      k0_pay171, k0_pay172, k0_pay173, k0_pay174, k0_pay175, k0_pay176, k0_pay177, k0_pay178, k0_pay179, k0_pay180, k0_pay181,
      k0_pay182, k0_pay183, k0_pay184, k0_pay185, k0_pay186, k0_pay187, k0_pay188, k0_pay189, k0_pay190, k0_pay191, k0_pay192,
      k0_pay193, k0_pay194, k0_pay195, k0_pay196, k0_pay197, k0_pay198, k0_pay199, k0_pay200, k0_pay201, k0_pay202, k0_pay203,
      k0_pay204, k0_pay205, k0_pay206, k0_pay207, k0_pay208, k0_pay209, k0_pay210, k0_pay211, k0_pay212, k0_pay213, k0_pay214,
      k0_pay215, k0_pay216, k0_pay217, k0_pay218, k0_pay219, k0_pay220, k0_pay221, k0_pay222, k0_pay223, k0_pay224, k0_pay225,
      k0_pay226, k0_pay227, k0_pay228, k0_pay229, k0_pay230, k0_pay231, k0_pay232, k0_pay233, k0_pay234, k0_pay235, k0_pay236,
      k0_pay237, k0_pay238, k0_pay239, k0_pay240, k0_pay241, k0_pay242, k0_pay243, k0_pay244, k0_pay245, k0_pay246, k0_pay247,
      k0_pay248, k0_pay249, k0_pay250, k0_pay251, k0_pay252, k0_pay253, k0_pay254, k0_pay255, k0_pay256, k0_pay257, k0_pay258,
      k0_pay259, k0_pay260, k0_pay261, k0_pay262, k0_pay263,
      shapeCast_self, zero_bits, one_bits, constant_m2, broadcast_m2, mulf_m2, addf_m2, subf_m2, exp_m2, minimumf_m2, truncf_m2, extf_m2,
      broadcastRow_m2, broadcastRow128_m2, broadcastRow64_m2, broadcastCol_m2, lastRow_m2, leftHalf_m2, asRow_m1, asCol_m1, asBatch_m2,
      asBatch128_m2, ofBatch_m4, colSum_m2, rowSum64_m2, rowSum_m2, sumAll_m3, sumAll128_m3, extract_m1, selectGe_m2, selectEq_m2,
      selectLast_m2, matmul_nt, matmul_tn, matmul_tn64, matmul_nn128, matmul_nn, matmul_nt128, matmul_nn64,
      part8_col, Finset.sum_ite_eq', Finset.sum_ite_eq, Finset.mem_univ, if_true, sub_self, mm_ones, mm_zero, Finset.sum_const_zero, add_zero]
  all_goals rfl

end
end Cert.KernelIdeal.Tile
-- ==== Proof.KernelValue.lean ====
module

public import proofs.«01_k».proof.Proof.KernelPoint
public import proofs.«01_k».proof.Proof.Gen.KernelIdeal.Value
public import Idealize.ShloMosaic.Lib.Pipeline.ValueKit.Geometry
public import Idealize.ShloMosaic.Lib.Pointwise
public import Idealize.ShloMosaic.Lib.StableHlo.RunRead

@[expose] public section

noncomputable section

/-! # The five arrays the kernel leaves -/

namespace Cert.KernelIdeal.Tile

open Idealize.ShloMosaic Idealize.ShloMosaic.TcCoe Idealize.SL.Sem Cert.Real Cert.KernelIdeal.Gen Cert.KernelIdeal.Value

variable (m : (ℓ : Loc nD τ sig) → Buf (Elt Ideal) ℓ) (c : Dev nD) (A : Args)

/-- The buffers of the arguments hold the real arrays `A`. -/
structure Holds : Prop where
  d : m ((c : Thread nD τ).loc main_arg0) = m2 (φ := .f32) A.d
  qkv : m ((c : Thread nD τ).loc main_arg1) = m2 (φ := .f32) A.qkv
  u : m ((c : Thread nD τ).loc main_arg2) = m2 (φ := .f32) A.u
  w : m ((c : Thread nD τ).loc main_arg3) = m2 (φ := .f32) A.w
  g : m ((c : Thread nD τ).loc main_arg4) = m2 (φ := .f32) A.g
  v : m ((c : Thread nD τ).loc main_arg5) = m2 (φ := .f32) A.v
  s : m ((c : Thread nD τ).loc main_arg6) = m4 (φ := .f32) A.s

variable {m c A} (H : Holds m c A)
include H

/-- The repeated log-gates. -/
theorem gates : V m c main_v1 = m2 (φ := .f32) fun r j => A.g r ⟨j.val / 128, by omega⟩ := by
  unfold V hostOps0
  after_reads_simp
  rw [show (m (c, main_arg4) : S8192x32.Idx → Elt Ideal .f32) = m2 (φ := .f32) A.g from H.g]
  refine ext2 fun i j => ?_
  pointwise [m2]

omit H in
theorem idx : ∀ t : Fin grid0.N,
    win0_0.index t = ![15 - t.val % 16, t.val / 16] ∧ win0_1.index t = ![15 - t.val % 16, t.val / 16 / 2] ∧
    win0_2.index t = ![15 - t.val % 16, 16 + t.val / 16 / 2] ∧ win0_3.index t = ![15 - t.val % 16, t.val / 16] ∧
    win0_4.index t = ![15 - t.val % 16, t.val / 16] ∧ win0_5.index t = ![15 - t.val % 16, t.val / 16] ∧
    win0_6.index t = ![t.val / 16, 15 - t.val % 16, 0, 0] := by decide +kernel

/-- Row `i` of point `t`'s blocks. -/
def rowAt (t : Fin cfg0.N) (i : Fin 512) : Fin 8192 := ⟨512 * (15 - t.val % 16) + i.val, by omega⟩
/-- Chunk `n` of point `t`, among its head's. -/
def chunkAt (t : Fin cfg0.N) (n : Fin 8) : Fin 128 := ⟨8 * (15 - t.val % 16) + n.val, by omega⟩
/-- The head of point `t`. -/
def headAt (t : Fin cfg0.N) : Fin 32 := ⟨t.val / 16, by have := t.isLt; have : cfg0.N = 512 := N_0; omega⟩

/-- The block of the output's cotangent. -/
theorem blk_d (t : Fin cfg0.N) : iblk m c 0 t = m2 (φ := .f32) fun i j => A.d (rowAt t i) (colOf (headAt t) j) := by
  refine ext2 fun i j => ?_
  show iblk m c 0 t (ix2 i j) = _
  blk_simp [iblk]
  rw [V_main_arg0, H.d]
  refine congrArg (fun x : ℝ => (x : EReal)) (congrArg₂ A.d (Fin.ext ?_) (Fin.ext ?_)) <;> blk_simp [(idx t).1]
  · show _ = 512 * (15 - t.val % 16) + i.val; omega
  · show _ = 128 * (t.val / 16) + j.val; omega
/-- The block of the queries. -/
theorem blk_q (t : Fin cfg0.N) : iblk m c 1 t = m2 (φ := .f32) fun i j => A.qkv (rowAt t i) ⟨128 * ((headAt t).val / 2) + j.val, by omega⟩ := by
  refine ext2 fun i j => ?_
  show iblk m c 1 t (ix2 i j) = _
  blk_simp [iblk]
  rw [V_main_arg1, H.qkv]
  refine congrArg (fun x : ℝ => (x : EReal)) (congrArg₂ A.qkv (Fin.ext ?_) (Fin.ext ?_)) <;> blk_simp [(idx t).2.1]
  · show _ = 512 * (15 - t.val % 16) + i.val; omega
  · show _ = 128 * (t.val / 16 / 2) + j.val; omega
/-- The block of the keys. -/
theorem blk_k (t : Fin cfg0.N) : iblk m c 2 t = m2 (φ := .f32) fun i j => A.qkv (rowAt t i) ⟨2048 + 128 * ((headAt t).val / 2) + j.val, by omega⟩ := by
  refine ext2 fun i j => ?_
  show iblk m c 2 t (ix2 i j) = _
  blk_simp [iblk]
  rw [V_main_arg1, H.qkv]
  refine congrArg (fun x : ℝ => (x : EReal)) (congrArg₂ A.qkv (Fin.ext ?_) (Fin.ext ?_)) <;> blk_simp [(idx t).2.2.1]
  · show _ = 512 * (15 - t.val % 16) + i.val; omega
  · show _ = 2048 + 128 * (t.val / 16 / 2) + j.val; omega
/-- The block of the rows `w`. -/
theorem blk_w (t : Fin cfg0.N) : iblk m c 3 t = m2 (φ := .f32) fun i j => A.w (rowAt t i) (colOf (headAt t) j) := by
  refine ext2 fun i j => ?_
  show iblk m c 3 t (ix2 i j) = _
  blk_simp [iblk]
  rw [V_main_arg3, H.w]
  refine congrArg (fun x : ℝ => (x : EReal)) (congrArg₂ A.w (Fin.ext ?_) (Fin.ext ?_)) <;> blk_simp [(idx t).2.2.2.1]
  · show _ = 512 * (15 - t.val % 16) + i.val; omega
  · show _ = 128 * (t.val / 16) + j.val; omega
/-- The block of the log-gates. -/
theorem blk_g (t : Fin cfg0.N) : iblk m c 4 t = m2 (φ := .f32) fun i j => A.g (rowAt t i) (headAt t) := by
  refine ext2 fun i j => ?_
  show iblk m c 4 t (ix2 i j) = _
  blk_simp [iblk]
  rw [gates H]
  refine congrArg (fun x : ℝ => (x : EReal)) (congrArg₂ A.g (Fin.ext ?_) (Fin.ext ?_)) <;> blk_simp [(idx t).2.2.2.2.1]
  · show _ = 512 * (15 - t.val % 16) + i.val; omega
  · show (t.val / 16 * 128 + j.val) / 128 = t.val / 16; omega
/-- The block of the values. -/
theorem blk_v (t : Fin cfg0.N) : iblk m c 5 t = m2 (φ := .f32) fun i j => A.v (rowAt t i) (colOf (headAt t) j) := by
  refine ext2 fun i j => ?_
  show iblk m c 5 t (ix2 i j) = _
  blk_simp [iblk]
  rw [V_main_arg5, H.v]
  refine congrArg (fun x : ℝ => (x : EReal)) (congrArg₂ A.v (Fin.ext ?_) (Fin.ext ?_)) <;> blk_simp [(idx t).2.2.2.2.2.1]
  · show _ = 512 * (15 - t.val % 16) + i.val; omega
  · show _ = 128 * (t.val / 16) + j.val; omega
/-- The states entering the point's chunks. -/
theorem blk_s (t : Fin cfg0.N) : iblk m c 6 t = m4 (φ := .f32) fun (_ : Fin 1) (n : Fin 8) => A.s (headAt t) (chunkAt t n) := by
  refine ext4 fun b n i j => ?_
  show iblk m c 6 t (ix4 b n i j) = _
  blk_simp [iblk]
  rw [V_main_arg6, H.s]
  refine congrArg (fun x : ℝ => (x : EReal)) ?_
  have e0 : (((win0_6.blk t).view.emb (ix4 b n i j)) 0 : Fin 32) = headAt t := Fin.ext (by
    blk_simp [(idx t).2.2.2.2.2.2]; show _ = t.val / 16; omega)
  have e1 : (((win0_6.blk t).view.emb (ix4 b n i j)) 1 : Fin 128) = chunkAt t n := Fin.ext (by
    blk_simp [(idx t).2.2.2.2.2.2]; show _ = 8 * (15 - t.val % 16) + n.val; omega)
  have e2 : (((win0_6.blk t).view.emb (ix4 b n i j)) 2 : Fin 128) = i := Fin.ext (by
    blk_simp [(idx t).2.2.2.2.2.2])
  have e3 : (((win0_6.blk t).view.emb (ix4 b n i j)) 3 : Fin 128) = j := Fin.ext (by
    blk_simp [(idx t).2.2.2.2.2.2])
  show A.s (((win0_6.blk t).view.emb (ix4 b n i j)) 0) (((win0_6.blk t).view.emb (ix4 b n i j)) 1)
    (((win0_6.blk t).view.emb (ix4 b n i j)) 2) (((win0_6.blk t).view.emb (ix4 b n i j)) 3) = _
  rw [e0, e1, e2, e3]; rfl

omit H in
/-- A point's chunks are its head's, counted from the sequence's end. -/
theorem chunks (t : Fin cfg0.N) (n : Fin 8) :
    chunkOf (fun i j => A.d (rowAt t i) (colOf (headAt t) j)) (fun i j => A.qkv (rowAt t i) ⟨128 * ((headAt t).val / 2) + j.val, by omega⟩)
      (fun i j => A.qkv (rowAt t i) ⟨2048 + 128 * ((headAt t).val / 2) + j.val, by omega⟩) (fun i j => A.w (rowAt t i) (colOf (headAt t) j))
      (fun i j => A.v (rowAt t i) (colOf (headAt t) j)) (fun i => A.g (rowAt t i) (headAt t))
      (fun (_ : Fin 1) (n : Fin 8) => A.s (headAt t) (chunkAt t n)) n = A.chunk (headAt t) (chunkAt t n) := by
  have e : ∀ i, rowAt t (row8 n i) = rowOf (chunkAt t n) i := fun i => Fin.ext (by
    show 512 * (15 - t.val % 16) + (64 * n.val + i.val) = 64 * (8 * (15 - t.val % 16) + n.val) + i.val; omega)
  unfold chunkOf part8 Args.chunk; simp only [e]

omit H in
/-- The state's cotangent inside a point: `j` chunks further from the end than where the point began. -/
theorem states (t : Fin cfg0.N) (j : ℕ) (hj : j ≤ 8) :
    run (fun k => A.chunk (headAt t) (chunkAt t ⟨7 - k, by omega⟩)) (A.ds (headAt t) (8 * (t.val % 16))) j
      = A.ds (headAt t) (8 * (t.val % 16) + j) := by
  unfold Args.ds
  rw [← run_add]
  refine run_congr _ fun k hk => ?_
  have : chunkAt t ⟨7 - k, by omega⟩ = ⟨127 - (8 * (t.val % 16) + k), by omega⟩ := Fin.ext (by
    show 8 * (15 - t.val % 16) + (7 - k) = 127 - (8 * (t.val % 16) + k); omega)
  rw [this]; rfl

omit H in
theorem before (t : Fin cfg0.N) (n : Fin 8) : 127 - (chunkAt t n).val = 8 * (t.val % 16) + (7 - n.val) := by
  show 127 - (8 * (15 - t.val % 16) + n.val) = _; omega

/-- What point `t` leaves in the outputs' blocks and in the state's cotangent. -/
theorem point (t : Fin cfg0.N) : outsAt0 m c t.val t.isLt =
    (m2 (φ := .f32) (stack8 fun n => (A.chunk (headAt t) (chunkAt t n)).dq),
     m2 (φ := .f32) (stack8 fun n => (A.chunk (headAt t) (chunkAt t n)).dk (A.ds (headAt t) (127 - (chunkAt t n).val))),
     m2 (φ := .f32) (stack8 fun n i _ => (A.chunk (headAt t) (chunkAt t n)).dg (A.ds (headAt t) (127 - (chunkAt t n).val)) i),
     m2 (φ := .f32) (stack8 fun n => (A.chunk (headAt t) (chunkAt t n)).du (A.ds (headAt t) (127 - (chunkAt t n).val))),
     m2 (φ := .f32) (stack8 fun n => (A.chunk (headAt t) (chunkAt t n)).dw (A.ds (headAt t) (127 - (chunkAt t n).val))),
     m2 (φ := .f32) (A.ds (headAt t) (8 * (t.val % 16) + 8))) := by
  simp only [before]
  have st : ∀ n : Fin 8, _ = _ := fun n => states (A := A) t (7 - n.val) (by omega)
  have s8 := states (A := A) t 8 le_rfl
  by_cases h0 : t.val % 16 = 0
  · rw [outsAt0_A m c t h0, blk_d H t, blk_q H t, blk_k H t, blk_w H t, blk_g H t, blk_v H t, blk_s H t]
    obtain ⟨e1, e2, e3, e4, e5, e6⟩ := outs_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0)
      (fun i j => A.d (rowAt t i) (colOf (headAt t) j))
      (fun i j => A.qkv (rowAt t i) ⟨128 * ((headAt t).val / 2) + j.val, by omega⟩) (fun i j => A.qkv (rowAt t i) ⟨2048 + 128 * ((headAt t).val / 2) + j.val, by omega⟩)
      (fun i j => A.w (rowAt t i) (colOf (headAt t) j)) (fun i j => A.v (rowAt t i) (colOf (headAt t) j)) (fun i => A.g (rowAt t i) (headAt t))
      (fun (_ : Fin 1) (n : Fin 8) => A.s (headAt t) (chunkAt t n))
    have z : (fun _ _ => 0 : Fin 128 → Fin 128 → ℝ) = A.ds (headAt t) (8 * (t.val % 16)) := by rw [h0]; rfl
    simp only [chunks, z, st, s8] at e1 e2 e3 e4 e5 e6
    rw [e1, e2, e3, e4, e5, e6]
  · have hp := point ⟨t.val - 1, by omega⟩
    have eh : headAt ⟨t.val - 1, by omega⟩ = headAt t := Fin.ext (by show (t.val - 1) / 16 = t.val / 16; omega)
    have er : 8 * ((t.val - 1) % 16) + 8 = 8 * (t.val % 16) := by omega
    have hD : (outsAt0 m c (t.val - 1) (by omega)).2.2.2.2.2 = m2 (φ := .f32) (A.ds (headAt t) (8 * (t.val % 16))) := by
      rw [hp]; show m2 (A.ds (headAt ⟨t.val - 1, _⟩) (8 * ((t.val - 1) % 16) + 8)) = _; rw [eh, er]
    rw [outsAt0_B m c t h0, blk_d H t, blk_q H t, blk_k H t, blk_w H t, blk_g H t, blk_v H t, blk_s H t, hD]
    obtain ⟨e1, e2, e3, e4, e5, e6⟩ := outs_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h))
      (fun i j => A.d (rowAt t i) (colOf (headAt t) j))
      (fun i j => A.qkv (rowAt t i) ⟨128 * ((headAt t).val / 2) + j.val, by omega⟩) (fun i j => A.qkv (rowAt t i) ⟨2048 + 128 * ((headAt t).val / 2) + j.val, by omega⟩)
      (fun i j => A.w (rowAt t i) (colOf (headAt t) j)) (fun i j => A.v (rowAt t i) (colOf (headAt t) j)) (fun i => A.g (rowAt t i) (headAt t))
      (fun (_ : Fin 1) (n : Fin 8) => A.s (headAt t) (chunkAt t n)) (A.ds (headAt t) (8 * (t.val % 16)))
    simp only [chunks, st, s8] at e1 e2 e3 e4 e5 e6
    rw [e1, e2, e3, e4, e5, e6]
termination_by t.val
decreasing_by show t.val - 1 < t.val; omega

omit H in
/-- An output's block of a point, as a part of the whole array. -/
theorem whole_at (f : Fin 32 → Fin 128 → Fin 64 → Fin 128 → ℝ) (t : Fin cfg0.N) (i : Fin 512) (j : Fin 128) :
    Args.whole f (rowAt t i) (colOf (headAt t) j) = stack8 (fun n => f (headAt t) (chunkAt t n)) i j := by
  have e1 : (⟨(128 * (headAt t).val + j.val) / 128, by omega⟩ : Fin 32) = headAt t := Fin.ext (by
    show (128 * (headAt t).val + j.val) / 128 = (headAt t).val; omega)
  have e2 : (⟨(512 * (15 - t.val % 16) + i.val) / 64, by omega⟩ : Fin 128) = chunkAt t ⟨i.val / 64, by omega⟩ := Fin.ext (by
    show (512 * (15 - t.val % 16) + i.val) / 64 = 8 * (15 - t.val % 16) + i.val / 64; omega)
  have e3 : (⟨(512 * (15 - t.val % 16) + i.val) % 64, by omega⟩ : Fin 64) = ⟨i.val % 64, by omega⟩ := Fin.ext (by
    show (512 * (15 - t.val % 16) + i.val) % 64 = i.val % 64; omega)
  have e4 : (⟨(128 * (headAt t).val + j.val) % 128, by omega⟩ : Fin 128) = j := Fin.ext (by
    show (128 * (headAt t).val + j.val) % 128 = j.val; omega)
  show f ⟨(128 * (headAt t).val + j.val) / 128, _⟩ ⟨(512 * (15 - t.val % 16) + i.val) / 64, _⟩ ⟨(512 * (15 - t.val % 16) + i.val) % 64, _⟩
    ⟨(128 * (headAt t).val + j.val) % 128, _⟩ = _
  rw [e1, e2, e3, e4]; rfl

omit H in
theorem oidx : ∀ t : Fin grid0.N,
    win0_7.index t = ![15 - t.val % 16, t.val / 16] ∧ win0_8.index t = ![15 - t.val % 16, t.val / 16] ∧
    win0_9.index t = ![15 - t.val % 16, t.val / 16] ∧ win0_10.index t = ![15 - t.val % 16, t.val / 16] ∧
    win0_11.index t = ![15 - t.val % 16, t.val / 16] := by decide +kernel

/-- The array of the queries' cotangent. -/
theorem arr_dq : (dats m 0 c).arrAt 7 cfg0.N = m2 (φ := .f32) A.dq := by
  refine (dats m 0 c).arrAt_eq_of_covers 7 _ (by decide +kernel) fun t hf y => ?_
  blk_simp
  rw [after0_7, point H t]
  obtain ⟨i, j, rfl⟩ : ∃ (i : Fin 512) (j : Fin 128), y = ix2 i j := ⟨y 0, y 1, funext fun a => by fin_cases a <;> rfl⟩
  refine congrArg (fun x : ℝ => (x : EReal)) ((whole_at (fun h n => (A.chunk h n).dq) t i j).symm.trans ?_)
  refine congrArg₂ (Args.dq A) (Fin.ext ?_) (Fin.ext ?_) <;> blk_simp [(oidx t).1]
  · show 512 * (15 - t.val % 16) + i.val = _; omega
  · show 128 * (t.val / 16) + j.val = _; omega
/-- The array of the keys' cotangent. -/
theorem arr_dk : (dats m 0 c).arrAt 8 cfg0.N = m2 (φ := .f32) A.dk := by
  refine (dats m 0 c).arrAt_eq_of_covers 8 _ (by decide +kernel) fun t hf y => ?_
  blk_simp
  rw [after0_8, point H t]
  obtain ⟨i, j, rfl⟩ : ∃ (i : Fin 512) (j : Fin 128), y = ix2 i j := ⟨y 0, y 1, funext fun a => by fin_cases a <;> rfl⟩
  refine congrArg (fun x : ℝ => (x : EReal)) ((whole_at (fun h n => (A.chunk h n).dk (A.ds h (127 - n.val))) t i j).symm.trans ?_)
  refine congrArg₂ (Args.dk A) (Fin.ext ?_) (Fin.ext ?_) <;> blk_simp [(oidx t).2.1]
  · show 512 * (15 - t.val % 16) + i.val = _; omega
  · show 128 * (t.val / 16) + j.val = _; omega
/-- The array of the log-gates' cotangent. -/
theorem arr_dg : (dats m 0 c).arrAt 9 cfg0.N = m2 (φ := .f32) A.dg := by
  refine (dats m 0 c).arrAt_eq_of_covers 9 _ (by decide +kernel) fun t hf y => ?_
  blk_simp
  rw [after0_9, point H t]
  obtain ⟨i, j, rfl⟩ : ∃ (i : Fin 512) (j : Fin 128), y = ix2 i j := ⟨y 0, y 1, funext fun a => by fin_cases a <;> rfl⟩
  refine congrArg (fun x : ℝ => (x : EReal)) ((whole_at (fun h n i _ => (A.chunk h n).dg (A.ds h (127 - n.val)) i) t i j).symm.trans ?_)
  refine congrArg₂ (Args.dg A) (Fin.ext ?_) (Fin.ext ?_) <;> blk_simp [(oidx t).2.2.1]
  · show 512 * (15 - t.val % 16) + i.val = _; omega
  · show 128 * (t.val / 16) + j.val = _; omega
/-- The array of the cotangent of `u`. -/
theorem arr_du : (dats m 0 c).arrAt 10 cfg0.N = m2 (φ := .f32) A.du := by
  refine (dats m 0 c).arrAt_eq_of_covers 10 _ (by decide +kernel) fun t hf y => ?_
  blk_simp
  rw [after0_10, point H t]
  obtain ⟨i, j, rfl⟩ : ∃ (i : Fin 512) (j : Fin 128), y = ix2 i j := ⟨y 0, y 1, funext fun a => by fin_cases a <;> rfl⟩
  refine congrArg (fun x : ℝ => (x : EReal)) ((whole_at (fun h n => (A.chunk h n).du (A.ds h (127 - n.val))) t i j).symm.trans ?_)
  refine congrArg₂ (Args.du A) (Fin.ext ?_) (Fin.ext ?_) <;> blk_simp [(oidx t).2.2.2.1]
  · show 512 * (15 - t.val % 16) + i.val = _; omega
  · show 128 * (t.val / 16) + j.val = _; omega
/-- The array of the cotangent of `w`. -/
theorem arr_dw : (dats m 0 c).arrAt 11 cfg0.N = m2 (φ := .f32) A.dw := by
  refine (dats m 0 c).arrAt_eq_of_covers 11 _ (by decide +kernel) fun t hf y => ?_
  blk_simp
  rw [after0_11, point H t]
  obtain ⟨i, j, rfl⟩ : ∃ (i : Fin 512) (j : Fin 128), y = ix2 i j := ⟨y 0, y 1, funext fun a => by fin_cases a <;> rfl⟩
  refine congrArg (fun x : ℝ => (x : EReal)) ((whole_at (fun h n => (A.chunk h n).dw (A.ds h (127 - n.val))) t i j).symm.trans ?_)
  refine congrArg₂ (Args.dw A) (Fin.ext ?_) (Fin.ext ?_) <;> blk_simp [(oidx t).2.2.2.2]
  · show 512 * (15 - t.val % 16) + i.val = _; omega
  · show 128 * (t.val / 16) + j.val = _; omega

end Cert.KernelIdeal.Tile
-- ==== Proof.RefOps.lean ====
/-
  The reference's operations as lists: one list per function the program calls, one per stretch of operations between
  two calls, and the stretches of the parts before, between and after its two loops and of the two loops' bodies. Each
  list is shown to be the program's own text.
-/
module

public import proofs.«01_k».proof.Proof.Gen.ReferenceIdeal
public import Idealize.ShloMosaic.Lib.StableHlo.RunLoop

@[expose] public section

set_option maxRecDepth 4000

noncomputable section

namespace Cert.ReferenceIdeal.Ops

open Idealize.ShloMosaic Idealize.ShloMosaic.StableHlo Idealize.SL.Sem
open Facts₀ Facts

variable {F : FTy → Type} [FloatOps F]

/-- The operations of `fn_where`, in order. -/
abbrev whereOps (arg0 : TRef sig ⟨S64x64, .i1⟩) (arg1 : TRef sig ⟨S_, .f32⟩) (φ : fn_where.Bufs) : List (HloOp τ sig (Elt F)) :=
  [TRef.unary arg1 φ.v0 id,
   TRef.unary arg0 φ.v1 (broadcastInDim S32x64x64 ![1, 2] bcast_S64x64_S32x64x64_1_2),
   TRef.unary φ.v0 φ.v2 (broadcastInDim S32x64x64 ![] bcast_S_S32x64x64)]

theorem whereOps_eq (arg0 : TRef sig ⟨S64x64, .i1⟩) (arg1 : TRef sig ⟨S_, .f32⟩) (φ : fn_where.Bufs) :
    fn_where.body (F := F) arg0 arg1 φ = seq (whereOps arg0 arg1 φ) := rfl

/-- The operations of `fn_dynamic_index_in_dim`, in order. -/
abbrev rowOps (arg0 : TRef sig ⟨S128x32x64x128, .f32⟩) (arg1 : TRef sig ⟨S_, .i32⟩) (φ : fn_dynamic_index_in_dim.Bufs) : List (HloOp τ sig (Elt F)) :=
  [TRef.nullary φ.c (constantI S_ 32 0#32),
   TRef.nullary φ.c_0 (constantI S_ 32 0#32),
   TRef.nullary φ.c_1 (constantI S_ 32 0#32),
   TRef.unaryIndexed arg0 ![arg1, φ.c, φ.c_0, φ.c_1] φ.v0 (fun x i => Host.dynamicSlice S1x32x64x128 x (fun k => (i k (Shape.Idx.first h_S_)).toInt) sliceFits_S128x32x64x128_S1x32x64x128),
   TRef.reshape φ.v0 φ.v1 (rfl : (.f32 : EltTy) = .f32) shapeCasts_S1x32x64x128_S32x64x128]

theorem rowOps_eq (arg0 : TRef sig ⟨S128x32x64x128, .f32⟩) (arg1 : TRef sig ⟨S_, .i32⟩) (φ : fn_dynamic_index_in_dim.Bufs) :
    fn_dynamic_index_in_dim.body (F := F) arg0 arg1 φ = seq (rowOps arg0 arg1 φ) := rfl

/-- The operations of `fn_dynamic_index_in_dim_0`, in order. -/
abbrev gateOps (arg0 : TRef sig ⟨S128x32x64, .f32⟩) (arg1 : TRef sig ⟨S_, .i32⟩) (φ : fn_dynamic_index_in_dim_0.Bufs) : List (HloOp τ sig (Elt F)) :=
  [TRef.nullary φ.c (constantI S_ 32 0#32),
   TRef.nullary φ.c_0 (constantI S_ 32 0#32),
   TRef.unaryIndexed arg0 ![arg1, φ.c, φ.c_0] φ.v0 (fun x i => Host.dynamicSlice S1x32x64 x (fun k => (i k (Shape.Idx.first h_S_)).toInt) sliceFits_S128x32x64_S1x32x64),
   TRef.reshape φ.v0 φ.v1 (rfl : (.f32 : EltTy) = .f32) shapeCasts_S1x32x64_S32x64]

theorem gateOps_eq (arg0 : TRef sig ⟨S128x32x64, .f32⟩) (arg1 : TRef sig ⟨S_, .i32⟩) (φ : fn_dynamic_index_in_dim_0.Bufs) :
    fn_dynamic_index_in_dim_0.body (F := F) arg0 arg1 φ = seq (gateOps arg0 arg1 φ) := rfl

/-- The operations of `fn_where_1`, in order. -/
abbrev selectOps (arg0 : TRef sig ⟨S32x64x64, .f32⟩) (arg1 : TRef sig ⟨S32x64x64, .i1⟩) (arg2 : TRef sig ⟨S32x64x64, .f32⟩) (φ : fn_where_1.Bufs) : List (HloOp τ sig (Elt F)) :=
  [TRef.ternary arg1 arg0 arg2 φ.v0 select]

theorem selectOps_eq (arg0 : TRef sig ⟨S32x64x64, .f32⟩) (arg1 : TRef sig ⟨S32x64x64, .i1⟩) (arg2 : TRef sig ⟨S32x64x64, .f32⟩) (φ : fn_where_1.Bufs) :
    fn_where_1.body (F := F) arg0 arg1 arg2 φ = seq (selectOps arg0 arg1 arg2 φ) := rfl

/-- The operations of `fn_dynamic_update_index_in_dim`, in order. -/
abbrev putRowOps (arg0 : TRef sig ⟨S128x32x64x128, .f32⟩) (arg1 : TRef sig ⟨S32x64x128, .f32⟩) (arg2 : TRef sig ⟨S_, .i32⟩) (φ : fn_dynamic_update_index_in_dim.Bufs) : List (HloOp τ sig (Elt F)) :=
  [TRef.unary arg1 φ.v0 (broadcastInDim S1x32x64x128 ![1, 2, 3] bcast_S32x64x128_S1x32x64x128_1_2_3),
   TRef.nullary φ.c (constantI S_ 32 0#32),
   TRef.nullary φ.c_0 (constantI S_ 32 0#32),
   TRef.nullary φ.c_1 (constantI S_ 32 0#32),
   TRef.binaryIndexed arg0 φ.v0 ![arg2, φ.c, φ.c_0, φ.c_1] φ.v1 (fun x u i => Host.dynamicUpdateSlice x u (fun k => (i k (Shape.Idx.first h_S_)).toInt) updateFits_S128x32x64x128_S1x32x64x128)]

theorem putRowOps_eq (arg0 : TRef sig ⟨S128x32x64x128, .f32⟩) (arg1 : TRef sig ⟨S32x64x128, .f32⟩) (arg2 : TRef sig ⟨S_, .i32⟩) (φ : fn_dynamic_update_index_in_dim.Bufs) :
    fn_dynamic_update_index_in_dim.body (F := F) arg0 arg1 arg2 φ = seq (putRowOps arg0 arg1 arg2 φ) := rfl

/-- The operations of `fn_dynamic_update_index_in_dim_2`, in order. -/
abbrev putStateOps (arg0 : TRef sig ⟨S128x32x128x128, .f32⟩) (arg1 : TRef sig ⟨S32x128x128, .f32⟩) (arg2 : TRef sig ⟨S_, .i32⟩) (φ : fn_dynamic_update_index_in_dim_2.Bufs) : List (HloOp τ sig (Elt F)) :=
  [TRef.unary arg1 φ.v0 (broadcastInDim S1x32x128x128 ![1, 2, 3] bcast_S32x128x128_S1x32x128x128_1_2_3),
   TRef.nullary φ.c (constantI S_ 32 0#32),
   TRef.nullary φ.c_0 (constantI S_ 32 0#32),
   TRef.nullary φ.c_1 (constantI S_ 32 0#32),
   TRef.binaryIndexed arg0 φ.v0 ![arg2, φ.c, φ.c_0, φ.c_1] φ.v1 (fun x u i => Host.dynamicUpdateSlice x u (fun k => (i k (Shape.Idx.first h_S_)).toInt) updateFits_S128x32x128x128_S1x32x128x128)]

theorem putStateOps_eq (arg0 : TRef sig ⟨S128x32x128x128, .f32⟩) (arg1 : TRef sig ⟨S32x128x128, .f32⟩) (arg2 : TRef sig ⟨S_, .i32⟩) (φ : fn_dynamic_update_index_in_dim_2.Bufs) :
    fn_dynamic_update_index_in_dim_2.body (F := F) arg0 arg1 arg2 φ = seq (putStateOps arg0 arg1 arg2 φ) := rfl

/-- The operations of `fn_dynamic_index_in_dim_3`, in order. -/
abbrev stateOps (arg0 : TRef sig ⟨S128x32x128x128, .f32⟩) (arg1 : TRef sig ⟨S_, .i32⟩) (φ : fn_dynamic_index_in_dim_3.Bufs) : List (HloOp τ sig (Elt F)) :=
  [TRef.nullary φ.c (constantI S_ 32 0#32),
   TRef.nullary φ.c_0 (constantI S_ 32 0#32),
   TRef.nullary φ.c_1 (constantI S_ 32 0#32),
   TRef.unaryIndexed arg0 ![arg1, φ.c, φ.c_0, φ.c_1] φ.v0 (fun x i => Host.dynamicSlice S1x32x128x128 x (fun k => (i k (Shape.Idx.first h_S_)).toInt) sliceFits_S128x32x128x128_S1x32x128x128),
   TRef.reshape φ.v0 φ.v1 (rfl : (.f32 : EltTy) = .f32) shapeCasts_S1x32x128x128_S32x128x128]

theorem stateOps_eq (arg0 : TRef sig ⟨S128x32x128x128, .f32⟩) (arg1 : TRef sig ⟨S_, .i32⟩) (φ : fn_dynamic_index_in_dim_3.Bufs) :
    fn_dynamic_index_in_dim_3.body (F := F) arg0 arg1 φ = seq (stateOps arg0 arg1 φ) := rfl

/-- The operations of `fn_where_4`, in order. -/
abbrev maskOps (arg0 : TRef sig ⟨S64x64, .i1⟩) (arg1 : TRef sig ⟨S32x64x64, .f32⟩) (arg2 : TRef sig ⟨S_, .f32⟩) (φ : fn_where_4.Bufs) : List (HloOp τ sig (Elt F)) :=
  [TRef.unary arg2 φ.v0 id,
   TRef.unary arg0 φ.v1 (broadcastInDim S32x64x64 ![1, 2] bcast_S64x64_S32x64x64_1_2),
   TRef.unary φ.v0 φ.v2 (broadcastInDim S32x64x64 ![] bcast_S_S32x64x64),
   TRef.ternary φ.v1 arg1 φ.v2 φ.v3 select,
   TRef.nullary φ.cst (constant S_ .f32 0x00000000#32),
   TRef.unary φ.cst φ.v4 (broadcastInDim S32x64x64 ![] bcast_S_S32x64x64)]

theorem maskOps_eq (arg0 : TRef sig ⟨S64x64, .i1⟩) (arg1 : TRef sig ⟨S32x64x64, .f32⟩) (arg2 : TRef sig ⟨S_, .f32⟩) (φ : fn_where_4.Bufs) :
    fn_where_4.body (F := F) arg0 arg1 arg2 φ = seq (maskOps arg0 arg1 arg2 φ) := rfl

/-- The operations of `fn_where_5`, in order. -/
abbrev unmaskOps (arg0 : TRef sig ⟨S32x64x64, .i1⟩) (arg1 : TRef sig ⟨S32x64x64, .f32⟩) (arg2 : TRef sig ⟨S32x64x64, .f32⟩) (φ : fn_where_5.Bufs) : List (HloOp τ sig (Elt F)) :=
  [TRef.nullary φ.cst (constant S_ .f32 0x00000000#32),
   TRef.unary φ.cst φ.v0 (broadcastInDim S32x64x64 ![] bcast_S_S32x64x64),
   TRef.ternary arg0 arg2 φ.v0 φ.v1 select]

theorem unmaskOps_eq (arg0 : TRef sig ⟨S32x64x64, .i1⟩) (arg1 : TRef sig ⟨S32x64x64, .f32⟩) (arg2 : TRef sig ⟨S32x64x64, .f32⟩) (φ : fn_where_5.Bufs) :
    fn_where_5.body (F := F) arg0 arg1 arg2 φ = seq (unmaskOps arg0 arg1 arg2 φ) := rfl

/-- The operations of `fn_dynamic_update_index_in_dim_6`, in order. -/
abbrev putGateOps (arg0 : TRef sig ⟨S128x32x64, .f32⟩) (arg1 : TRef sig ⟨S32x64, .f32⟩) (arg2 : TRef sig ⟨S_, .i32⟩) (φ : fn_dynamic_update_index_in_dim_6.Bufs) : List (HloOp τ sig (Elt F)) :=
  [TRef.unary arg1 φ.v0 (broadcastInDim S1x32x64 ![1, 2] bcast_S32x64_S1x32x64_1_2),
   TRef.nullary φ.c (constantI S_ 32 0#32),
   TRef.nullary φ.c_0 (constantI S_ 32 0#32),
   TRef.binaryIndexed arg0 φ.v0 ![arg2, φ.c, φ.c_0] φ.v1 (fun x u i => Host.dynamicUpdateSlice x u (fun k => (i k (Shape.Idx.first h_S_)).toInt) updateFits_S128x32x64_S1x32x64)]

theorem putGateOps_eq (arg0 : TRef sig ⟨S128x32x64, .f32⟩) (arg1 : TRef sig ⟨S32x64, .f32⟩) (arg2 : TRef sig ⟨S_, .i32⟩) (φ : fn_dynamic_update_index_in_dim_6.Bufs) :
    fn_dynamic_update_index_in_dim_6.body (F := F) arg0 arg1 arg2 φ = seq (putGateOps arg0 arg1 arg2 φ) := rfl

/-- Before and between the loops: stretch 1. -/
def head0 : List (HloOp τ sig (Elt F)) :=
  [unary main_arg1 main_v0 ((extractStridedSlice S8192x2048 ![0, 0] · slices_S8192x8192_S8192x2048_0_0) : (⟨S8192x8192, .f32⟩ : BufTy).Contents (Elt F) → (⟨S8192x2048, .f32⟩ : BufTy).Contents (Elt F)),
   reshape main_v0 main_v1 (rfl : (.f32 : EltTy) = .f32) shapeCasts_S8192x2048_S8192x16x128,
   unary main_v1 main_v2 (broadcastInDim S8192x16x2x128 ![0, 1, 3] bcast_S8192x16x128_S8192x16x2x128_0_1_3 : (⟨S8192x16x128, .f32⟩ : BufTy).Contents (Elt F) → (⟨S8192x16x2x128, .f32⟩ : BufTy).Contents (Elt F)),
   reshape main_v2 main_v3 (rfl : (.f32 : EltTy) = .f32) shapeCasts_S8192x16x2x128_S8192x32x128,
   unary main_arg1 main_v4 ((extractStridedSlice S8192x2048 ![0, 2048] · slices_S8192x8192_S8192x2048_0_2048) : (⟨S8192x8192, .f32⟩ : BufTy).Contents (Elt F) → (⟨S8192x2048, .f32⟩ : BufTy).Contents (Elt F)),
   reshape main_v4 main_v5 (rfl : (.f32 : EltTy) = .f32) shapeCasts_S8192x2048_S8192x16x128,
   unary main_v5 main_v6 (broadcastInDim S8192x16x2x128 ![0, 1, 3] bcast_S8192x16x128_S8192x16x2x128_0_1_3 : (⟨S8192x16x128, .f32⟩ : BufTy).Contents (Elt F) → (⟨S8192x16x2x128, .f32⟩ : BufTy).Contents (Elt F)),
   reshape main_v6 main_v7 (rfl : (.f32 : EltTy) = .f32) shapeCasts_S8192x16x2x128_S8192x32x128,
   reshape main_v3 main_v8 (rfl : (.f32 : EltTy) = .f32) shapeCasts_S8192x32x128_S128x64x32x128,
   unary main_v8 main_v9 ((transpose S128x32x64x128 [0, 2, 1, 3] · transposes_S128x64x32x128_S128x32x64x128_0_2_1_3) : (⟨S128x64x32x128, .f32⟩ : BufTy).Contents (Elt F) → (⟨S128x32x64x128, .f32⟩ : BufTy).Contents (Elt F)),
   reshape main_v7 main_v10 (rfl : (.f32 : EltTy) = .f32) shapeCasts_S8192x32x128_S128x64x32x128,
   unary main_v10 main_v11 ((transpose S128x32x64x128 [0, 2, 1, 3] · transposes_S128x64x32x128_S128x32x64x128_0_2_1_3) : (⟨S128x64x32x128, .f32⟩ : BufTy).Contents (Elt F) → (⟨S128x32x64x128, .f32⟩ : BufTy).Contents (Elt F)),
   reshape main_arg2 main_v12 (rfl : (.f32 : EltTy) = .f32) shapeCasts_S8192x4096_S128x64x32x128,
   unary main_v12 main_v13 ((transpose S128x32x64x128 [0, 2, 1, 3] · transposes_S128x64x32x128_S128x32x64x128_0_2_1_3) : (⟨S128x64x32x128, .f32⟩ : BufTy).Contents (Elt F) → (⟨S128x32x64x128, .f32⟩ : BufTy).Contents (Elt F)),
   reshape main_arg3 main_v14 (rfl : (.f32 : EltTy) = .f32) shapeCasts_S8192x4096_S128x64x32x128,
   unary main_v14 main_v15 ((transpose S128x32x64x128 [0, 2, 1, 3] · transposes_S128x64x32x128_S128x32x64x128_0_2_1_3) : (⟨S128x64x32x128, .f32⟩ : BufTy).Contents (Elt F) → (⟨S128x32x64x128, .f32⟩ : BufTy).Contents (Elt F)),
   reshape main_arg4 main_v16 (rfl : (.f32 : EltTy) = .f32) shapeCasts_S8192x32_S128x64x32,
   unary main_v16 main_v17 ((transpose S128x32x64 [0, 2, 1] · transposes_S128x64x32_S128x32x64_0_2_1) : (⟨S128x64x32, .f32⟩ : BufTy).Contents (Elt F) → (⟨S128x32x64, .f32⟩ : BufTy).Contents (Elt F)),
   nullary main_cst (constant S_ .f32 0x00000000#32),
   unary main_cst main_v18 (broadcastInDim S32x128x128 ![] bcast_S_S32x128x128 : (⟨S_, .f32⟩ : BufTy).Contents (Elt F) → (⟨S32x128x128, .f32⟩ : BufTy).Contents (Elt F)),
   nullary main_v19 (iotaInDim S64 32 0),
   unary main_v19 main_v20 (broadcastInDim S64x1 ![0] bcast_S64_S64x1_0 : (⟨S64, .i32⟩ : BufTy).Contents (Elt F) → (⟨S64x1, .i32⟩ : BufTy).Contents (Elt F)),
   unary main_v19 main_v21 (broadcastInDim S1x64 ![1] bcast_S64_S1x64_1 : (⟨S64, .i32⟩ : BufTy).Contents (Elt F) → (⟨S1x64, .i32⟩ : BufTy).Contents (Elt F)),
   unary main_v20 main_v22 (broadcastInDim S64x64 ![0, 1] bcast_S64x1_S64x64_0_1 : (⟨S64x1, .i32⟩ : BufTy).Contents (Elt F) → (⟨S64x64, .i32⟩ : BufTy).Contents (Elt F)),
   unary main_v21 main_v23 (broadcastInDim S64x64 ![0, 1] bcast_S1x64_S64x64_0_1 : (⟨S1x64, .i32⟩ : BufTy).Contents (Elt F) → (⟨S64x64, .i32⟩ : BufTy).Contents (Elt F)),
   binary main_v22 main_v23 main_v24 (cmpi .sge : (⟨S64x64, .i32⟩ : BufTy).Contents (Elt F) → (⟨S64x64, .i32⟩ : BufTy).Contents (Elt F) → (⟨S64x64, .i1⟩ : BufTy).Contents (Elt F)),
   nullary main_cst_0 (constant S_ .f32 0x00000000#32)]

theorem head0_sub : (head0 (F := F)).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., reshape_bufs_sub .., unary_bufs_sub .., reshape_bufs_sub .., unary_bufs_sub .., reshape_bufs_sub .., unary_bufs_sub .., reshape_bufs_sub .., unary_bufs_sub .., reshape_bufs_sub .., unary_bufs_sub .., nullary_bufs_sub .., unary_bufs_sub .., nullary_bufs_sub .., unary_bufs_sub .., unary_bufs_sub .., unary_bufs_sub .., unary_bufs_sub .., binary_bufs_sub .., nullary_bufs_sub ..⟩

/-- Before and between the loops: stretch 2. -/
def head1 : List (HloOp τ sig (Elt F)) :=
  [nullary main_cst_1 (constant S_ .f32 0x00000000#32)]

theorem head1_sub : (head1 (F := F)).Forall fun op => op.bufs ⊆ tcRefs τ sig := nullary_bufs_sub ..

/-- Before and between the loops: stretch 3. -/
def head2 : List (HloOp τ sig (Elt F)) :=
  [nullary main_cst_2 (constant S_ .f32 0x00000000#32),
   unary main_cst_2 main_v27 (broadcastInDim S128x32x64x128 ![] bcast_S_S128x32x64x128 : (⟨S_, .f32⟩ : BufTy).Contents (Elt F) → (⟨S128x32x64x128, .f32⟩ : BufTy).Contents (Elt F)),
   nullary main_cst_3 (constant S_ .f32 0x00000000#32),
   unary main_cst_3 main_v28 (broadcastInDim S128x32x128x128 ![] bcast_S_S128x32x128x128 : (⟨S_, .f32⟩ : BufTy).Contents (Elt F) → (⟨S128x32x128x128, .f32⟩ : BufTy).Contents (Elt F)),
   nullary main_c (constantI S_ 32 0#32),
   unary main_v9 main_v29_0 id,
   unary main_v11 main_v29_1 id,
   unary main_v13 main_v29_2 id,
   unary main_v15 main_v29_3 id,
   unary main_v17 main_v29_4 id,
   unary main_v25_0 main_v29_5 id,
   unary main_v25_1 main_v29_6 id,
   unary main_v26_0 main_v29_7 id,
   unary main_v26_1 main_v29_8 id,
   unary main_c main_v29_9 id,
   unary main_v18 main_v29_10 id,
   unary main_v27 main_v29_11 id,
   unary main_v28 main_v29_12 id]

theorem head2_sub : (head2 (F := F)).Forall fun op => op.bufs ⊆ tcRefs τ sig :=
  ⟨nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩

/-- Before and between the loops: stretch 4. -/
def head3 : List (HloOp τ sig (Elt F)) :=
  [unary main_v29_11 main_v30 ((transpose S128x64x32x128 [0, 2, 1, 3] · transposes_S128x32x64x128_S128x64x32x128_0_2_1_3) : (⟨S128x32x64x128, .f32⟩ : BufTy).Contents (Elt F) → (⟨S128x64x32x128, .f32⟩ : BufTy).Contents (Elt F)),
   reshape main_v30 main_v31 (rfl : (.f32 : EltTy) = .f32) shapeCasts_S128x64x32x128_S8192x4096,
   nullary main_cst_4 (constant S_ .f32 0x00000000#32),
   unary main_cst_4 main_v32 (broadcastInDim S32x128x128 ![] bcast_S_S32x128x128 : (⟨S_, .f32⟩ : BufTy).Contents (Elt F) → (⟨S32x128x128, .f32⟩ : BufTy).Contents (Elt F)),
   reshape main_arg0 main_v33 (rfl : (.f32 : EltTy) = .f32) shapeCasts_S8192x4096_S128x64x32x128,
   unary main_v33 main_v34 ((transpose S128x32x64x128 [0, 2, 1, 3] · transposes_S128x64x32x128_S128x32x64x128_0_2_1_3) : (⟨S128x64x32x128, .f32⟩ : BufTy).Contents (Elt F) → (⟨S128x32x64x128, .f32⟩ : BufTy).Contents (Elt F)),
   nullary main_cst_5 (constant S_ .f32 0x00000000#32),
   unary main_cst_5 main_v35 (broadcastInDim S32x128x128 ![] bcast_S_S32x128x128 : (⟨S_, .f32⟩ : BufTy).Contents (Elt F) → (⟨S32x128x128, .f32⟩ : BufTy).Contents (Elt F)),
   nullary main_cst_6 (constant S_ .f32 0x00000000#32),
   unary main_cst_6 main_v36 (broadcastInDim S128x32x64x128 ![] bcast_S_S128x32x64x128 : (⟨S_, .f32⟩ : BufTy).Contents (Elt F) → (⟨S128x32x64x128, .f32⟩ : BufTy).Contents (Elt F)),
   nullary main_cst_7 (constant S_ .f32 0x00000000#32)]

theorem head3_sub : (head3 (F := F)).Forall fun op => op.bufs ⊆ tcRefs τ sig :=
  ⟨unary_bufs_sub .., reshape_bufs_sub .., nullary_bufs_sub .., unary_bufs_sub .., reshape_bufs_sub .., unary_bufs_sub .., nullary_bufs_sub .., unary_bufs_sub .., nullary_bufs_sub .., unary_bufs_sub .., nullary_bufs_sub ..⟩

/-- Around the second loop: stretch 1. -/
def last0 : List (HloOp τ sig (Elt F)) :=
  [unary main_cst_7 main_v37 (broadcastInDim S128x32x64x128 ![] bcast_S_S128x32x64x128 : (⟨S_, .f32⟩ : BufTy).Contents (Elt F) → (⟨S128x32x64x128, .f32⟩ : BufTy).Contents (Elt F)),
   nullary main_cst_8 (constant S_ .f32 0x00000000#32),
   unary main_cst_8 main_v38 (broadcastInDim S128x32x64x128 ![] bcast_S_S128x32x64x128 : (⟨S_, .f32⟩ : BufTy).Contents (Elt F) → (⟨S128x32x64x128, .f32⟩ : BufTy).Contents (Elt F)),
   nullary main_cst_9 (constant S_ .f32 0x00000000#32),
   unary main_cst_9 main_v39 (broadcastInDim S128x32x64x128 ![] bcast_S_S128x32x64x128 : (⟨S_, .f32⟩ : BufTy).Contents (Elt F) → (⟨S128x32x64x128, .f32⟩ : BufTy).Contents (Elt F)),
   nullary main_cst_10 (constant S_ .f32 0x00000000#32),
   unary main_cst_10 main_v40 (broadcastInDim S128x32x64 ![] bcast_S_S128x32x64 : (⟨S_, .f32⟩ : BufTy).Contents (Elt F) → (⟨S128x32x64, .f32⟩ : BufTy).Contents (Elt F)),
   nullary main_c_11 (constantI S_ 32 0#32),
   unary main_v34 main_v41_0 id,
   unary main_v29_12 main_v41_1 id,
   unary main_v9 main_v41_2 id,
   unary main_v11 main_v41_3 id,
   unary main_v13 main_v41_4 id,
   unary main_v15 main_v41_5 id,
   unary main_v17 main_v41_6 id,
   unary main_c_11 main_v41_7 id,
   unary main_v35 main_v41_8 id,
   unary main_v36 main_v41_9 id,
   unary main_v37 main_v41_10 id,
   unary main_v38 main_v41_11 id,
   unary main_v39 main_v41_12 id,
   unary main_v40 main_v41_13 id]

theorem last0_sub : (last0 (F := F)).Forall fun op => op.bufs ⊆ tcRefs τ sig :=
  ⟨unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩

/-- Around the second loop: stretch 2. -/
def last1 : List (HloOp τ sig (Elt F)) :=
  [unary main_v41_13 main_v42 ((transpose S128x64x32 [0, 2, 1] · transposes_S128x32x64_S128x64x32_0_2_1) : (⟨S128x32x64, .f32⟩ : BufTy).Contents (Elt F) → (⟨S128x64x32, .f32⟩ : BufTy).Contents (Elt F)),
   reshape main_v42 main_v43 (rfl : (.f32 : EltTy) = .f32) shapeCasts_S128x64x32_S8192x32,
   unary main_v41_12 main_v44 ((transpose S128x64x32x128 [0, 2, 1, 3] · transposes_S128x32x64x128_S128x64x32x128_0_2_1_3) : (⟨S128x32x64x128, .f32⟩ : BufTy).Contents (Elt F) → (⟨S128x64x32x128, .f32⟩ : BufTy).Contents (Elt F)),
   reshape main_v44 main_v45 (rfl : (.f32 : EltTy) = .f32) shapeCasts_S128x64x32x128_S8192x4096,
   unary main_v41_11 main_v46 ((transpose S128x64x32x128 [0, 2, 1, 3] · transposes_S128x32x64x128_S128x64x32x128_0_2_1_3) : (⟨S128x32x64x128, .f32⟩ : BufTy).Contents (Elt F) → (⟨S128x64x32x128, .f32⟩ : BufTy).Contents (Elt F)),
   reshape main_v46 main_v47 (rfl : (.f32 : EltTy) = .f32) shapeCasts_S128x64x32x128_S8192x4096,
   unary main_v41_10 main_v48 ((transpose S128x64x32x128 [0, 2, 1, 3] · transposes_S128x32x64x128_S128x64x32x128_0_2_1_3) : (⟨S128x32x64x128, .f32⟩ : BufTy).Contents (Elt F) → (⟨S128x64x32x128, .f32⟩ : BufTy).Contents (Elt F)),
   reshape main_v48 main_v49 (rfl : (.f32 : EltTy) = .f32) shapeCasts_S128x64x32x128_S8192x32x128,
   unary main_v41_9 main_v50 ((transpose S128x64x32x128 [0, 2, 1, 3] · transposes_S128x32x64x128_S128x64x32x128_0_2_1_3) : (⟨S128x32x64x128, .f32⟩ : BufTy).Contents (Elt F) → (⟨S128x64x32x128, .f32⟩ : BufTy).Contents (Elt F)),
   reshape main_v50 main_v51 (rfl : (.f32 : EltTy) = .f32) shapeCasts_S128x64x32x128_S8192x32x128,
   reshape main_v51 main_v52 (rfl : (.f32 : EltTy) = .f32) shapeCasts_S8192x32x128_S8192x4096,
   reshape main_v49 main_v53 (rfl : (.f32 : EltTy) = .f32) shapeCasts_S8192x32x128_S8192x4096,
   unary main_v43 main_v54 (broadcastInDim S8192x32x128 ![0, 1] bcast_S8192x32_S8192x32x128_0_1 : (⟨S8192x32, .f32⟩ : BufTy).Contents (Elt F) → (⟨S8192x32x128, .f32⟩ : BufTy).Contents (Elt F)),
   reshape main_v54 main_v55 (rfl : (.f32 : EltTy) = .f32) shapeCasts_S8192x32x128_S8192x4096]

theorem last1_sub : (last1 (F := F)).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., reshape_bufs_sub .., reshape_bufs_sub .., unary_bufs_sub .., reshape_bufs_sub ..⟩

/-- A trip of the first loop: stretch 1. -/
def fwd0 : List (HloOp τ sig (Elt F)) :=
  [unary main_while0b_v60 main_while0b_v61 (broadcastInDim S32x64x1 ![0, 1] bcast_S32x64_S32x64x1_0_1 : (⟨S32x64, .f32⟩ : BufTy).Contents (Elt F) → (⟨S32x64x1, .f32⟩ : BufTy).Contents (Elt F)),
   unary main_while0b_v60 main_while0b_v62 (broadcastInDim S32x1x64 ![0, 2] bcast_S32x64_S32x1x64_0_2 : (⟨S32x64, .f32⟩ : BufTy).Contents (Elt F) → (⟨S32x1x64, .f32⟩ : BufTy).Contents (Elt F)),
   unary main_while0b_v61 main_while0b_v63 (broadcastInDim S32x64x64 ![0, 1, 2] bcast_S32x64x1_S32x64x64_0_1_2 : (⟨S32x64x1, .f32⟩ : BufTy).Contents (Elt F) → (⟨S32x64x64, .f32⟩ : BufTy).Contents (Elt F)),
   unary main_while0b_v62 main_while0b_v64 (broadcastInDim S32x64x64 ![0, 1, 2] bcast_S32x1x64_S32x64x64_0_1_2 : (⟨S32x1x64, .f32⟩ : BufTy).Contents (Elt F) → (⟨S32x64x64, .f32⟩ : BufTy).Contents (Elt F)),
   binary main_while0b_v63 main_while0b_v64 main_while0b_v65 (subf : (⟨S32x64x64, .f32⟩ : BufTy).Contents (Elt F) → (⟨S32x64x64, .f32⟩ : BufTy).Contents (Elt F) → (⟨S32x64x64, .f32⟩ : BufTy).Contents (Elt F)),
   nullary main_while0b_cst_24 (constant S_ .f32 0x00000000#32),
   unary main_while0b_cst_24 main_while0b_v66 (broadcastInDim S32x64x64 ![] bcast_S_S32x64x64 : (⟨S_, .f32⟩ : BufTy).Contents (Elt F) → (⟨S32x64x64, .f32⟩ : BufTy).Contents (Elt F)),
   binary main_while0b_v65 main_while0b_v66 main_while0b_v67 (minimumf : (⟨S32x64x64, .f32⟩ : BufTy).Contents (Elt F) → (⟨S32x64x64, .f32⟩ : BufTy).Contents (Elt F) → (⟨S32x64x64, .f32⟩ : BufTy).Contents (Elt F)),
   unary main_while0b_v67 main_while0b_v68 (Host.exp : (⟨S32x64x64, .f32⟩ : BufTy).Contents (Elt F) → (⟨S32x64x64, .f32⟩ : BufTy).Contents (Elt F))]

theorem fwd0_sub : (fwd0 (F := F)).Forall fun op => op.bufs ⊆ tcRefs τ sig :=
  ⟨unary_bufs_sub .., unary_bufs_sub .., unary_bufs_sub .., unary_bufs_sub .., binary_bufs_sub .., nullary_bufs_sub .., unary_bufs_sub .., binary_bufs_sub .., unary_bufs_sub ..⟩

/-- A trip of the first loop: stretch 2. -/
def fwd1 : List (HloOp τ sig (Elt F)) :=
  [binary main_while0b_v56 main_while0b_v57 main_while0b_v70 ((fun l r => Host.dotGeneral dot_S32x64x128_S32x64x128_S32x64x64_2_2_1_1_0_0 none l r) : (⟨S32x64x128, .f32⟩ : BufTy).Contents (Elt F) → (⟨S32x64x128, .f32⟩ : BufTy).Contents (Elt F) → (⟨S32x64x64, .f32⟩ : BufTy).Contents (Elt F)),
   binary main_while0b_v70 main_while0b_v69 main_while0b_v71 (mulf : (⟨S32x64x64, .f32⟩ : BufTy).Contents (Elt F) → (⟨S32x64x64, .f32⟩ : BufTy).Contents (Elt F) → (⟨S32x64x64, .f32⟩ : BufTy).Contents (Elt F))]

theorem fwd1_sub : (fwd1 (F := F)).Forall fun op => op.bufs ⊆ tcRefs τ sig :=
  ⟨binary_bufs_sub .., binary_bufs_sub ..⟩

/-- A trip of the first loop: stretch 3. -/
def fwd2 : List (HloOp τ sig (Elt F)) :=
  [unary main_while0b_v60 main_while0b_v73 ((extractStridedSlice S32x1 ![0, 63] · slices_S32x64_S32x1_0_63) : (⟨S32x64, .f32⟩ : BufTy).Contents (Elt F) → (⟨S32x1, .f32⟩ : BufTy).Contents (Elt F)),
   reshape main_while0b_v73 main_while0b_v74 (rfl : (.f32 : EltTy) = .f32) shapeCasts_S32x1_S32,
   unary main_while0b_v60 main_while0b_v75 (Host.exp : (⟨S32x64, .f32⟩ : BufTy).Contents (Elt F) → (⟨S32x64, .f32⟩ : BufTy).Contents (Elt F)),
   unary main_while0b_v75 main_while0b_v76 (broadcastInDim S32x64x1 ![0, 1] bcast_S32x64_S32x64x1_0_1 : (⟨S32x64, .f32⟩ : BufTy).Contents (Elt F) → (⟨S32x64x1, .f32⟩ : BufTy).Contents (Elt F)),
   unary main_while0b_v76 main_while0b_v77 (broadcastInDim S32x64x128 ![0, 1, 2] bcast_S32x64x1_S32x64x128_0_1_2 : (⟨S32x64x1, .f32⟩ : BufTy).Contents (Elt F) → (⟨S32x64x128, .f32⟩ : BufTy).Contents (Elt F)),
   binary main_while0b_v56 main_while0b_v77 main_while0b_v78 (mulf : (⟨S32x64x128, .f32⟩ : BufTy).Contents (Elt F) → (⟨S32x64x128, .f32⟩ : BufTy).Contents (Elt F) → (⟨S32x64x128, .f32⟩ : BufTy).Contents (Elt F)),
   unary main_while0b_v74 main_while0b_v79 (broadcastInDim S32x1 ![0] bcast_S32_S32x1_0 : (⟨S32, .f32⟩ : BufTy).Contents (Elt F) → (⟨S32x1, .f32⟩ : BufTy).Contents (Elt F)),
   unary main_while0b_v79 main_while0b_v80 (broadcastInDim S32x64 ![0, 1] bcast_S32x1_S32x64_0_1 : (⟨S32x1, .f32⟩ : BufTy).Contents (Elt F) → (⟨S32x64, .f32⟩ : BufTy).Contents (Elt F)),
   binary main_while0b_v80 main_while0b_v60 main_while0b_v81 (subf : (⟨S32x64, .f32⟩ : BufTy).Contents (Elt F) → (⟨S32x64, .f32⟩ : BufTy).Contents (Elt F) → (⟨S32x64, .f32⟩ : BufTy).Contents (Elt F)),
   unary main_while0b_v81 main_while0b_v82 (Host.exp : (⟨S32x64, .f32⟩ : BufTy).Contents (Elt F) → (⟨S32x64, .f32⟩ : BufTy).Contents (Elt F)),
   unary main_while0b_v82 main_while0b_v83 (broadcastInDim S32x64x1 ![0, 1] bcast_S32x64_S32x64x1_0_1 : (⟨S32x64, .f32⟩ : BufTy).Contents (Elt F) → (⟨S32x64x1, .f32⟩ : BufTy).Contents (Elt F)),
   unary main_while0b_v83 main_while0b_v84 (broadcastInDim S32x64x128 ![0, 1, 2] bcast_S32x64x1_S32x64x128_0_1_2 : (⟨S32x64x1, .f32⟩ : BufTy).Contents (Elt F) → (⟨S32x64x128, .f32⟩ : BufTy).Contents (Elt F)),
   binary main_while0b_v57 main_while0b_v84 main_while0b_v85 (mulf : (⟨S32x64x128, .f32⟩ : BufTy).Contents (Elt F) → (⟨S32x64x128, .f32⟩ : BufTy).Contents (Elt F) → (⟨S32x64x128, .f32⟩ : BufTy).Contents (Elt F)),
   binary main_while0b_v59 main_v29_10 main_while0b_v86 ((fun l r => Host.dotGeneral dot_S32x64x128_S32x128x128_S32x64x128_2_1_1_2_0_0 none l r) : (⟨S32x64x128, .f32⟩ : BufTy).Contents (Elt F) → (⟨S32x128x128, .f32⟩ : BufTy).Contents (Elt F) → (⟨S32x64x128, .f32⟩ : BufTy).Contents (Elt F)),
   binary main_while0b_v58 main_while0b_v86 main_while0b_v87 (subf : (⟨S32x64x128, .f32⟩ : BufTy).Contents (Elt F) → (⟨S32x64x128, .f32⟩ : BufTy).Contents (Elt F) → (⟨S32x64x128, .f32⟩ : BufTy).Contents (Elt F)),
   binary main_while0b_v78 main_v29_10 main_while0b_v88 ((fun l r => Host.dotGeneral dot_S32x64x128_S32x128x128_S32x64x128_2_1_1_2_0_0 none l r) : (⟨S32x64x128, .f32⟩ : BufTy).Contents (Elt F) → (⟨S32x128x128, .f32⟩ : BufTy).Contents (Elt F) → (⟨S32x64x128, .f32⟩ : BufTy).Contents (Elt F)),
   binary main_while0b_v72 main_while0b_v87 main_while0b_v89 ((fun l r => Host.dotGeneral dot_S32x64x64_S32x64x128_S32x64x128_2_1_1_2_0_0 none l r) : (⟨S32x64x64, .f32⟩ : BufTy).Contents (Elt F) → (⟨S32x64x128, .f32⟩ : BufTy).Contents (Elt F) → (⟨S32x64x128, .f32⟩ : BufTy).Contents (Elt F)),
   binary main_while0b_v88 main_while0b_v89 main_while0b_v90 (addf : (⟨S32x64x128, .f32⟩ : BufTy).Contents (Elt F) → (⟨S32x64x128, .f32⟩ : BufTy).Contents (Elt F) → (⟨S32x64x128, .f32⟩ : BufTy).Contents (Elt F)),
   unary main_while0b_v74 main_while0b_v91 (Host.exp : (⟨S32, .f32⟩ : BufTy).Contents (Elt F) → (⟨S32, .f32⟩ : BufTy).Contents (Elt F)),
   unary main_while0b_v91 main_while0b_v92 (broadcastInDim S32x1x1 ![0] bcast_S32_S32x1x1_0 : (⟨S32, .f32⟩ : BufTy).Contents (Elt F) → (⟨S32x1x1, .f32⟩ : BufTy).Contents (Elt F)),
   unary main_while0b_v92 main_while0b_v93 (broadcastInDim S32x128x128 ![0, 1, 2] bcast_S32x1x1_S32x128x128_0_1_2 : (⟨S32x1x1, .f32⟩ : BufTy).Contents (Elt F) → (⟨S32x128x128, .f32⟩ : BufTy).Contents (Elt F)),
   binary main_v29_10 main_while0b_v93 main_while0b_v94 (mulf : (⟨S32x128x128, .f32⟩ : BufTy).Contents (Elt F) → (⟨S32x128x128, .f32⟩ : BufTy).Contents (Elt F) → (⟨S32x128x128, .f32⟩ : BufTy).Contents (Elt F)),
   binary main_while0b_v85 main_while0b_v87 main_while0b_v95 ((fun l r => Host.dotGeneral dot_S32x64x128_S32x64x128_S32x128x128_1_1_2_2_0_0 none l r) : (⟨S32x64x128, .f32⟩ : BufTy).Contents (Elt F) → (⟨S32x64x128, .f32⟩ : BufTy).Contents (Elt F) → (⟨S32x128x128, .f32⟩ : BufTy).Contents (Elt F)),
   binary main_while0b_v94 main_while0b_v95 main_while0b_v96 (addf : (⟨S32x128x128, .f32⟩ : BufTy).Contents (Elt F) → (⟨S32x128x128, .f32⟩ : BufTy).Contents (Elt F) → (⟨S32x128x128, .f32⟩ : BufTy).Contents (Elt F))]

theorem fwd2_sub : (fwd2 (F := F)).Forall fun op => op.bufs ⊆ tcRefs τ sig :=
  ⟨unary_bufs_sub .., reshape_bufs_sub .., unary_bufs_sub .., unary_bufs_sub .., unary_bufs_sub .., binary_bufs_sub .., unary_bufs_sub .., unary_bufs_sub .., binary_bufs_sub .., unary_bufs_sub .., unary_bufs_sub .., unary_bufs_sub .., binary_bufs_sub .., binary_bufs_sub .., binary_bufs_sub .., binary_bufs_sub .., binary_bufs_sub .., binary_bufs_sub .., unary_bufs_sub .., unary_bufs_sub .., unary_bufs_sub .., binary_bufs_sub .., binary_bufs_sub .., binary_bufs_sub ..⟩

/-- A trip of the first loop: stretch 4. -/
def fwd3 : List (HloOp τ sig (Elt F)) :=
  [nullary main_while0b_c_25 (constantI S_ 32 1#32),
   binary main_v29_9 main_while0b_c_25 main_while0b_v99 (addi : (⟨S_, .i32⟩ : BufTy).Contents (Elt F) → (⟨S_, .i32⟩ : BufTy).Contents (Elt F) → (⟨S_, .i32⟩ : BufTy).Contents (Elt F)),
   unary main_while0b_v99 main_v29_9 id,
   unary main_while0b_v96 main_v29_10 id,
   unary main_while0b_v97 main_v29_11 id,
   unary main_while0b_v98 main_v29_12 id]

theorem fwd3_sub : (fwd3 (F := F)).Forall fun op => op.bufs ⊆ tcRefs τ sig :=
  ⟨nullary_bufs_sub .., binary_bufs_sub .., unary_bufs_sub .., unary_bufs_sub .., unary_bufs_sub .., unary_bufs_sub ..⟩

/-- A trip of the second loop: stretch 1. -/
def bwda0 : List (HloOp τ sig (Elt F)) :=
  [nullary main_while1b_c_25 (constantI S_ 32 128#32),
   binary main_while1b_c_25 main_v41_7 main_while1b_v56 (subi : (⟨S_, .i32⟩ : BufTy).Contents (Elt F) → (⟨S_, .i32⟩ : BufTy).Contents (Elt F) → (⟨S_, .i32⟩ : BufTy).Contents (Elt F)),
   nullary main_while1b_c_26 (constantI S_ 32 1#32),
   binary main_while1b_v56 main_while1b_c_26 main_while1b_v57 (subi : (⟨S_, .i32⟩ : BufTy).Contents (Elt F) → (⟨S_, .i32⟩ : BufTy).Contents (Elt F) → (⟨S_, .i32⟩ : BufTy).Contents (Elt F))]

theorem bwda0_sub : (bwda0 (F := F)).Forall fun op => op.bufs ⊆ tcRefs τ sig :=
  ⟨nullary_bufs_sub .., binary_bufs_sub .., nullary_bufs_sub .., binary_bufs_sub ..⟩

/-- A trip of the second loop: stretch 2. -/
def bwda1 : List (HloOp τ sig (Elt F)) :=
  [nullary main_while1b_v65 (iotaInDim S64 32 0),
   unary main_while1b_v65 main_while1b_v66 (broadcastInDim S64x1 ![0] bcast_S64_S64x1_0 : (⟨S64, .i32⟩ : BufTy).Contents (Elt F) → (⟨S64x1, .i32⟩ : BufTy).Contents (Elt F)),
   unary main_while1b_v65 main_while1b_v67 (broadcastInDim S1x64 ![1] bcast_S64_S1x64_1 : (⟨S64, .i32⟩ : BufTy).Contents (Elt F) → (⟨S1x64, .i32⟩ : BufTy).Contents (Elt F)),
   unary main_while1b_v66 main_while1b_v68 (broadcastInDim S64x64 ![0, 1] bcast_S64x1_S64x64_0_1 : (⟨S64x1, .i32⟩ : BufTy).Contents (Elt F) → (⟨S64x64, .i32⟩ : BufTy).Contents (Elt F)),
   unary main_while1b_v67 main_while1b_v69 (broadcastInDim S64x64 ![0, 1] bcast_S1x64_S64x64_0_1 : (⟨S1x64, .i32⟩ : BufTy).Contents (Elt F) → (⟨S64x64, .i32⟩ : BufTy).Contents (Elt F)),
   binary main_while1b_v68 main_while1b_v69 main_while1b_v70 (cmpi .sge : (⟨S64x64, .i32⟩ : BufTy).Contents (Elt F) → (⟨S64x64, .i32⟩ : BufTy).Contents (Elt F) → (⟨S64x64, .i1⟩ : BufTy).Contents (Elt F)),
   unary main_while1b_v64 main_while1b_v71 (broadcastInDim S32x64x1 ![0, 1] bcast_S32x64_S32x64x1_0_1 : (⟨S32x64, .f32⟩ : BufTy).Contents (Elt F) → (⟨S32x64x1, .f32⟩ : BufTy).Contents (Elt F)),
   unary main_while1b_v64 main_while1b_v72 (broadcastInDim S32x1x64 ![0, 2] bcast_S32x64_S32x1x64_0_2 : (⟨S32x64, .f32⟩ : BufTy).Contents (Elt F) → (⟨S32x1x64, .f32⟩ : BufTy).Contents (Elt F)),
   unary main_while1b_v71 main_while1b_v73 (broadcastInDim S32x64x64 ![0, 1, 2] bcast_S32x64x1_S32x64x64_0_1_2 : (⟨S32x64x1, .f32⟩ : BufTy).Contents (Elt F) → (⟨S32x64x64, .f32⟩ : BufTy).Contents (Elt F)),
   unary main_while1b_v72 main_while1b_v74 (broadcastInDim S32x64x64 ![0, 1, 2] bcast_S32x1x64_S32x64x64_0_1_2 : (⟨S32x1x64, .f32⟩ : BufTy).Contents (Elt F) → (⟨S32x64x64, .f32⟩ : BufTy).Contents (Elt F)),
   binary main_while1b_v73 main_while1b_v74 main_while1b_v75 (subf : (⟨S32x64x64, .f32⟩ : BufTy).Contents (Elt F) → (⟨S32x64x64, .f32⟩ : BufTy).Contents (Elt F) → (⟨S32x64x64, .f32⟩ : BufTy).Contents (Elt F)),
   nullary main_while1b_cst_27 (constant S_ .f32 0x00000000#32),
   unary main_while1b_cst_27 main_while1b_v76 (broadcastInDim S32x64x64 ![] bcast_S_S32x64x64 : (⟨S_, .f32⟩ : BufTy).Contents (Elt F) → (⟨S32x64x64, .f32⟩ : BufTy).Contents (Elt F)),
   binary main_while1b_v75 main_while1b_v76 main_while1b_v77 (minimumf : (⟨S32x64x64, .f32⟩ : BufTy).Contents (Elt F) → (⟨S32x64x64, .f32⟩ : BufTy).Contents (Elt F) → (⟨S32x64x64, .f32⟩ : BufTy).Contents (Elt F)),
   nullary main_while1b_cst_28 (constant S_ .f32 0x00000000#32),
   unary main_while1b_cst_28 main_while1b_v78 (broadcastInDim S32x64x64 ![] bcast_S_S32x64x64 : (⟨S_, .f32⟩ : BufTy).Contents (Elt F) → (⟨S32x64x64, .f32⟩ : BufTy).Contents (Elt F)),
   binary main_while1b_v78 main_while1b_v75 main_while1b_v79 (cmpf .ogt : (⟨S32x64x64, .f32⟩ : BufTy).Contents (Elt F) → (⟨S32x64x64, .f32⟩ : BufTy).Contents (Elt F) → (⟨S32x64x64, .i1⟩ : BufTy).Contents (Elt F)),
   nullary main_while1b_cst_29 (constant S_ .f32 0x00000000#32),
   unary main_while1b_cst_29 main_while1b_v80 (broadcastInDim S32x64x64 ![] bcast_S_S32x64x64 : (⟨S_, .f32⟩ : BufTy).Contents (Elt F) → (⟨S32x64x64, .f32⟩ : BufTy).Contents (Elt F)),
   binary main_while1b_v80 main_while1b_v75 main_while1b_v81 (cmpf .oeq : (⟨S32x64x64, .f32⟩ : BufTy).Contents (Elt F) → (⟨S32x64x64, .f32⟩ : BufTy).Contents (Elt F) → (⟨S32x64x64, .i1⟩ : BufTy).Contents (Elt F)),
   nullary main_while1b_cst_30 (constant S_ .f32 0x3F800000#32),
   unary main_while1b_cst_30 main_while1b_v82 (broadcastInDim S32x64x64 ![] bcast_S_S32x64x64 : (⟨S_, .f32⟩ : BufTy).Contents (Elt F) → (⟨S32x64x64, .f32⟩ : BufTy).Contents (Elt F)),
   nullary main_while1b_cst_31 (constant S_ .f32 0x00000000#32),
   unary main_while1b_cst_31 main_while1b_v83 (broadcastInDim S32x64x64 ![] bcast_S_S32x64x64 : (⟨S_, .f32⟩ : BufTy).Contents (Elt F) → (⟨S32x64x64, .f32⟩ : BufTy).Contents (Elt F)),
   nullary main_while1b_cst_32 (constant S_ .f32 0x3F000000#32),
   unary main_while1b_cst_32 main_while1b_v84 (broadcastInDim S32x64x64 ![] bcast_S_S32x64x64 : (⟨S_, .f32⟩ : BufTy).Contents (Elt F) → (⟨S32x64x64, .f32⟩ : BufTy).Contents (Elt F)),
   ternary main_while1b_v81 main_while1b_v84 main_while1b_v83 main_while1b_v85 (select : (⟨S32x64x64, .i1⟩ : BufTy).Contents (Elt F) → (⟨S32x64x64, .f32⟩ : BufTy).Contents (Elt F) → (⟨S32x64x64, .f32⟩ : BufTy).Contents (Elt F) → (⟨S32x64x64, .f32⟩ : BufTy).Contents (Elt F)),
   ternary main_while1b_v79 main_while1b_v82 main_while1b_v85 main_while1b_v86 (select : (⟨S32x64x64, .i1⟩ : BufTy).Contents (Elt F) → (⟨S32x64x64, .f32⟩ : BufTy).Contents (Elt F) → (⟨S32x64x64, .f32⟩ : BufTy).Contents (Elt F) → (⟨S32x64x64, .f32⟩ : BufTy).Contents (Elt F)),
   unary main_while1b_v77 main_while1b_v87 (Host.exp : (⟨S32x64x64, .f32⟩ : BufTy).Contents (Elt F) → (⟨S32x64x64, .f32⟩ : BufTy).Contents (Elt F)),
   nullary main_while1b_cst_33 (constant S_ .f32 0x00000000#32)]

theorem bwda1_sub : (bwda1 (F := F)).Forall fun op => op.bufs ⊆ tcRefs τ sig :=
  ⟨nullary_bufs_sub .., unary_bufs_sub .., unary_bufs_sub .., unary_bufs_sub .., unary_bufs_sub .., binary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., nullary_bufs_sub .., unary_bufs_sub .., nullary_bufs_sub .., unary_bufs_sub .., ternary_bufs_sub .., ternary_bufs_sub .., unary_bufs_sub .., nullary_bufs_sub ..⟩

/-- A trip of the second loop: stretch 3. -/
def bwda2 : List (HloOp τ sig (Elt F)) :=
  [binary main_while1b_v60 main_while1b_v61 main_while1b_v89 ((fun l r => Host.dotGeneral dot_S32x64x128_S32x64x128_S32x64x64_2_2_1_1_0_0 none l r) : (⟨S32x64x128, .f32⟩ : BufTy).Contents (Elt F) → (⟨S32x64x128, .f32⟩ : BufTy).Contents (Elt F) → (⟨S32x64x64, .f32⟩ : BufTy).Contents (Elt F)),
   binary main_while1b_v89 main_while1b_v88_0 main_while1b_v90 (mulf : (⟨S32x64x64, .f32⟩ : BufTy).Contents (Elt F) → (⟨S32x64x64, .f32⟩ : BufTy).Contents (Elt F) → (⟨S32x64x64, .f32⟩ : BufTy).Contents (Elt F)),
   nullary main_while1b_cst_34 (constant S_ .f32 0x00000000#32)]

theorem bwda2_sub : (bwda2 (F := F)).Forall fun op => op.bufs ⊆ tcRefs τ sig :=
  ⟨binary_bufs_sub .., binary_bufs_sub .., nullary_bufs_sub ..⟩

/-- A trip of the second loop: stretch 4. -/
def bwda3 : List (HloOp τ sig (Elt F)) :=
  [unary main_while1b_v64 main_while1b_v92 ((extractStridedSlice S32x1 ![0, 63] · slices_S32x64_S32x1_0_63) : (⟨S32x64, .f32⟩ : BufTy).Contents (Elt F) → (⟨S32x1, .f32⟩ : BufTy).Contents (Elt F)),
   reshape main_while1b_v92 main_while1b_v93 (rfl : (.f32 : EltTy) = .f32) shapeCasts_S32x1_S32,
   unary main_while1b_v64 main_while1b_v94 (Host.exp : (⟨S32x64, .f32⟩ : BufTy).Contents (Elt F) → (⟨S32x64, .f32⟩ : BufTy).Contents (Elt F)),
   unary main_while1b_v94 main_while1b_v95 (broadcastInDim S32x64x1 ![0, 1] bcast_S32x64_S32x64x1_0_1 : (⟨S32x64, .f32⟩ : BufTy).Contents (Elt F) → (⟨S32x64x1, .f32⟩ : BufTy).Contents (Elt F)),
   unary main_while1b_v95 main_while1b_v96 (broadcastInDim S32x64x128 ![0, 1, 2] bcast_S32x64x1_S32x64x128_0_1_2 : (⟨S32x64x1, .f32⟩ : BufTy).Contents (Elt F) → (⟨S32x64x128, .f32⟩ : BufTy).Contents (Elt F)),
   binary main_while1b_v60 main_while1b_v96 main_while1b_v97 (mulf : (⟨S32x64x128, .f32⟩ : BufTy).Contents (Elt F) → (⟨S32x64x128, .f32⟩ : BufTy).Contents (Elt F) → (⟨S32x64x128, .f32⟩ : BufTy).Contents (Elt F)),
   unary main_while1b_v93 main_while1b_v98 (broadcastInDim S32x1 ![0] bcast_S32_S32x1_0 : (⟨S32, .f32⟩ : BufTy).Contents (Elt F) → (⟨S32x1, .f32⟩ : BufTy).Contents (Elt F)),
   unary main_while1b_v98 main_while1b_v99 (broadcastInDim S32x64 ![0, 1] bcast_S32x1_S32x64_0_1 : (⟨S32x1, .f32⟩ : BufTy).Contents (Elt F) → (⟨S32x64, .f32⟩ : BufTy).Contents (Elt F)),
   binary main_while1b_v99 main_while1b_v64 main_while1b_v100 (subf : (⟨S32x64, .f32⟩ : BufTy).Contents (Elt F) → (⟨S32x64, .f32⟩ : BufTy).Contents (Elt F) → (⟨S32x64, .f32⟩ : BufTy).Contents (Elt F)),
   unary main_while1b_v100 main_while1b_v101 (Host.exp : (⟨S32x64, .f32⟩ : BufTy).Contents (Elt F) → (⟨S32x64, .f32⟩ : BufTy).Contents (Elt F)),
   unary main_while1b_v101 main_while1b_v102 (broadcastInDim S32x64x1 ![0, 1] bcast_S32x64_S32x64x1_0_1 : (⟨S32x64, .f32⟩ : BufTy).Contents (Elt F) → (⟨S32x64x1, .f32⟩ : BufTy).Contents (Elt F)),
   unary main_while1b_v102 main_while1b_v103 (broadcastInDim S32x64x128 ![0, 1, 2] bcast_S32x64x1_S32x64x128_0_1_2 : (⟨S32x64x1, .f32⟩ : BufTy).Contents (Elt F) → (⟨S32x64x128, .f32⟩ : BufTy).Contents (Elt F)),
   binary main_while1b_v61 main_while1b_v103 main_while1b_v104 (mulf : (⟨S32x64x128, .f32⟩ : BufTy).Contents (Elt F) → (⟨S32x64x128, .f32⟩ : BufTy).Contents (Elt F) → (⟨S32x64x128, .f32⟩ : BufTy).Contents (Elt F)),
   binary main_while1b_v63 main_while1b_v59 main_while1b_v105 ((fun l r => Host.dotGeneral dot_S32x64x128_S32x128x128_S32x64x128_2_1_1_2_0_0 none l r) : (⟨S32x64x128, .f32⟩ : BufTy).Contents (Elt F) → (⟨S32x128x128, .f32⟩ : BufTy).Contents (Elt F) → (⟨S32x64x128, .f32⟩ : BufTy).Contents (Elt F))]

theorem bwda3_sub : (bwda3 (F := F)).Forall fun op => op.bufs ⊆ tcRefs τ sig :=
  ⟨unary_bufs_sub .., reshape_bufs_sub .., unary_bufs_sub .., unary_bufs_sub .., unary_bufs_sub .., binary_bufs_sub .., unary_bufs_sub .., unary_bufs_sub .., binary_bufs_sub .., unary_bufs_sub .., unary_bufs_sub .., unary_bufs_sub .., binary_bufs_sub .., binary_bufs_sub ..⟩

/-- A trip of the second loop: stretch 1. -/
def bwdb0 : List (HloOp τ sig (Elt F)) :=
  [binary main_while1b_v62 main_while1b_v105 main_while1b_v106 (subf : (⟨S32x64x128, .f32⟩ : BufTy).Contents (Elt F) → (⟨S32x64x128, .f32⟩ : BufTy).Contents (Elt F) → (⟨S32x64x128, .f32⟩ : BufTy).Contents (Elt F)),
   unary main_while1b_v93 main_while1b_v107 (Host.exp : (⟨S32, .f32⟩ : BufTy).Contents (Elt F) → (⟨S32, .f32⟩ : BufTy).Contents (Elt F)),
   unary main_while1b_v107 main_while1b_v108 (broadcastInDim S32x1x1 ![0] bcast_S32_S32x1x1_0 : (⟨S32, .f32⟩ : BufTy).Contents (Elt F) → (⟨S32x1x1, .f32⟩ : BufTy).Contents (Elt F)),
   binary main_v41_8 main_while1b_v104 main_while1b_v109 ((fun l r => Host.dotGeneral dot_S32x128x128_S32x64x128_S32x128x64_1_2_2_1_0_0 none l r) : (⟨S32x128x128, .f32⟩ : BufTy).Contents (Elt F) → (⟨S32x64x128, .f32⟩ : BufTy).Contents (Elt F) → (⟨S32x128x64, .f32⟩ : BufTy).Contents (Elt F)),
   unary main_while1b_v109 main_while1b_v110 ((transpose S32x64x128 [0, 2, 1] · transposes_S32x128x64_S32x64x128_0_2_1) : (⟨S32x128x64, .f32⟩ : BufTy).Contents (Elt F) → (⟨S32x64x128, .f32⟩ : BufTy).Contents (Elt F)),
   binary main_v41_8 main_while1b_v106 main_while1b_v111 ((fun l r => Host.dotGeneral dot_S32x128x128_S32x64x128_S32x128x64_2_2_1_1_0_0 none l r) : (⟨S32x128x128, .f32⟩ : BufTy).Contents (Elt F) → (⟨S32x64x128, .f32⟩ : BufTy).Contents (Elt F) → (⟨S32x128x64, .f32⟩ : BufTy).Contents (Elt F)),
   unary main_while1b_v111 main_while1b_v112 ((transpose S32x64x128 [0, 2, 1] · transposes_S32x128x64_S32x64x128_0_2_1) : (⟨S32x128x64, .f32⟩ : BufTy).Contents (Elt F) → (⟨S32x64x128, .f32⟩ : BufTy).Contents (Elt F)),
   binary main_while1b_v59 main_v41_8 main_while1b_v113 (mulf : (⟨S32x128x128, .f32⟩ : BufTy).Contents (Elt F) → (⟨S32x128x128, .f32⟩ : BufTy).Contents (Elt F) → (⟨S32x128x128, .f32⟩ : BufTy).Contents (Elt F)),
   nullary main_while1b_cst_35 (constant S_ .f32 0x00000000#32),
   binary main_while1b_v113 main_while1b_cst_35 main_while1b_v114 ((fun x v => Host.reduceAdd x v reducesTo_S32x128x128_S32_d1_2 h_S_) : (⟨S32x128x128, .f32⟩ : BufTy).Contents (Elt F) → (⟨S_, .f32⟩ : BufTy).Contents (Elt F) → (⟨S32, .f32⟩ : BufTy).Contents (Elt F)),
   reshape main_while1b_v114 main_while1b_v115 (rfl : (.f32 : EltTy) = .f32) shapeCasts_S32_S32x1x1,
   unary main_while1b_v108 main_while1b_v116 (broadcastInDim S32x128x128 ![0, 1, 2] bcast_S32x1x1_S32x128x128_0_1_2 : (⟨S32x1x1, .f32⟩ : BufTy).Contents (Elt F) → (⟨S32x128x128, .f32⟩ : BufTy).Contents (Elt F)),
   binary main_v41_8 main_while1b_v116 main_while1b_v117 (mulf : (⟨S32x128x128, .f32⟩ : BufTy).Contents (Elt F) → (⟨S32x128x128, .f32⟩ : BufTy).Contents (Elt F) → (⟨S32x128x128, .f32⟩ : BufTy).Contents (Elt F)),
   nullary main_while1b_cst_36 (constant S_ .f32 0x00000000#32),
   binary main_while1b_v115 main_while1b_cst_36 main_while1b_v118 ((fun x v => Host.reduceAdd x v reducesTo_S32x1x1_S32_d1_2 h_S_) : (⟨S32x1x1, .f32⟩ : BufTy).Contents (Elt F) → (⟨S_, .f32⟩ : BufTy).Contents (Elt F) → (⟨S32, .f32⟩ : BufTy).Contents (Elt F)),
   binary main_while1b_v118 main_while1b_v107 main_while1b_v119 (mulf : (⟨S32, .f32⟩ : BufTy).Contents (Elt F) → (⟨S32, .f32⟩ : BufTy).Contents (Elt F) → (⟨S32, .f32⟩ : BufTy).Contents (Elt F)),
   binary main_while1b_v58 main_while1b_v91_0 main_while1b_v120 ((fun l r => Host.dotGeneral dot_S32x64x128_S32x64x64_S32x128x64_1_1_2_2_0_0 none l r) : (⟨S32x64x128, .f32⟩ : BufTy).Contents (Elt F) → (⟨S32x64x64, .f32⟩ : BufTy).Contents (Elt F) → (⟨S32x128x64, .f32⟩ : BufTy).Contents (Elt F)),
   unary main_while1b_v120 main_while1b_v121 ((transpose S32x64x128 [0, 2, 1] · transposes_S32x128x64_S32x64x128_0_2_1) : (⟨S32x128x64, .f32⟩ : BufTy).Contents (Elt F) → (⟨S32x64x128, .f32⟩ : BufTy).Contents (Elt F)),
   binary main_while1b_v110 main_while1b_v121 main_while1b_v122 (addf : (⟨S32x64x128, .f32⟩ : BufTy).Contents (Elt F) → (⟨S32x64x128, .f32⟩ : BufTy).Contents (Elt F) → (⟨S32x64x128, .f32⟩ : BufTy).Contents (Elt F)),
   binary main_while1b_v58 main_while1b_v106 main_while1b_v123 ((fun l r => Host.dotGeneral dot_S32x64x128_S32x64x128_S32x64x64_2_2_1_1_0_0 none l r) : (⟨S32x64x128, .f32⟩ : BufTy).Contents (Elt F) → (⟨S32x64x128, .f32⟩ : BufTy).Contents (Elt F) → (⟨S32x64x64, .f32⟩ : BufTy).Contents (Elt F)),
   binary main_while1b_v58 main_while1b_v97 main_while1b_v124 ((fun l r => Host.dotGeneral dot_S32x64x128_S32x64x128_S32x128x128_1_1_2_2_0_0 none l r) : (⟨S32x64x128, .f32⟩ : BufTy).Contents (Elt F) → (⟨S32x64x128, .f32⟩ : BufTy).Contents (Elt F) → (⟨S32x128x128, .f32⟩ : BufTy).Contents (Elt F)),
   unary main_while1b_v124 main_while1b_v125 ((transpose S32x128x128 [0, 2, 1] · transposes_S32x128x128_S32x128x128_0_2_1) : (⟨S32x128x128, .f32⟩ : BufTy).Contents (Elt F) → (⟨S32x128x128, .f32⟩ : BufTy).Contents (Elt F)),
   binary main_while1b_v117 main_while1b_v125 main_while1b_v126 (addf : (⟨S32x128x128, .f32⟩ : BufTy).Contents (Elt F) → (⟨S32x128x128, .f32⟩ : BufTy).Contents (Elt F) → (⟨S32x128x128, .f32⟩ : BufTy).Contents (Elt F)),
   binary main_while1b_v58 main_while1b_v59 main_while1b_v127 ((fun l r => Host.dotGeneral dot_S32x64x128_S32x128x128_S32x64x128_2_2_1_1_0_0 none l r) : (⟨S32x64x128, .f32⟩ : BufTy).Contents (Elt F) → (⟨S32x128x128, .f32⟩ : BufTy).Contents (Elt F) → (⟨S32x64x128, .f32⟩ : BufTy).Contents (Elt F)),
   unary main_while1b_v122 main_while1b_v128 (Host.negf : (⟨S32x64x128, .f32⟩ : BufTy).Contents (Elt F) → (⟨S32x64x128, .f32⟩ : BufTy).Contents (Elt F)),
   binary main_while1b_v128 main_while1b_v63 main_while1b_v129 ((fun l r => Host.dotGeneral dot_S32x64x128_S32x64x128_S32x128x128_1_1_2_2_0_0 none l r) : (⟨S32x64x128, .f32⟩ : BufTy).Contents (Elt F) → (⟨S32x64x128, .f32⟩ : BufTy).Contents (Elt F) → (⟨S32x128x128, .f32⟩ : BufTy).Contents (Elt F)),
   unary main_while1b_v129 main_while1b_v130 ((transpose S32x128x128 [0, 2, 1] · transposes_S32x128x128_S32x128x128_0_2_1) : (⟨S32x128x128, .f32⟩ : BufTy).Contents (Elt F) → (⟨S32x128x128, .f32⟩ : BufTy).Contents (Elt F)),
   binary main_while1b_v126 main_while1b_v130 main_while1b_v131 (addf : (⟨S32x128x128, .f32⟩ : BufTy).Contents (Elt F) → (⟨S32x128x128, .f32⟩ : BufTy).Contents (Elt F) → (⟨S32x128x128, .f32⟩ : BufTy).Contents (Elt F)),
   binary main_while1b_v128 main_while1b_v59 main_while1b_v132 ((fun l r => Host.dotGeneral dot_S32x64x128_S32x128x128_S32x64x128_2_2_1_1_0_0 none l r) : (⟨S32x64x128, .f32⟩ : BufTy).Contents (Elt F) → (⟨S32x128x128, .f32⟩ : BufTy).Contents (Elt F) → (⟨S32x64x128, .f32⟩ : BufTy).Contents (Elt F)),
   binary main_while1b_v61 main_while1b_v112 main_while1b_v133 (mulf : (⟨S32x64x128, .f32⟩ : BufTy).Contents (Elt F) → (⟨S32x64x128, .f32⟩ : BufTy).Contents (Elt F) → (⟨S32x64x128, .f32⟩ : BufTy).Contents (Elt F)),
   nullary main_while1b_cst_37 (constant S_ .f32 0x00000000#32),
   binary main_while1b_v133 main_while1b_cst_37 main_while1b_v134 ((fun x v => Host.reduceAdd x v reducesTo_S32x64x128_S32x64_d2 h_S_) : (⟨S32x64x128, .f32⟩ : BufTy).Contents (Elt F) → (⟨S_, .f32⟩ : BufTy).Contents (Elt F) → (⟨S32x64, .f32⟩ : BufTy).Contents (Elt F)),
   reshape main_while1b_v134 main_while1b_v135 (rfl : (.f32 : EltTy) = .f32) shapeCasts_S32x64_S32x64x1,
   unary main_while1b_v102 main_while1b_v136 (broadcastInDim S32x64x128 ![0, 1, 2] bcast_S32x64x1_S32x64x128_0_1_2 : (⟨S32x64x1, .f32⟩ : BufTy).Contents (Elt F) → (⟨S32x64x128, .f32⟩ : BufTy).Contents (Elt F)),
   binary main_while1b_v112 main_while1b_v136 main_while1b_v137 (mulf : (⟨S32x64x128, .f32⟩ : BufTy).Contents (Elt F) → (⟨S32x64x128, .f32⟩ : BufTy).Contents (Elt F) → (⟨S32x64x128, .f32⟩ : BufTy).Contents (Elt F)),
   nullary main_while1b_cst_38 (constant S_ .f32 0x00000000#32),
   binary main_while1b_v135 main_while1b_cst_38 main_while1b_v138 ((fun x v => Host.reduceAdd x v reducesTo_S32x64x1_S32x64_d2 h_S_) : (⟨S32x64x1, .f32⟩ : BufTy).Contents (Elt F) → (⟨S_, .f32⟩ : BufTy).Contents (Elt F) → (⟨S32x64, .f32⟩ : BufTy).Contents (Elt F)),
   binary main_while1b_v138 main_while1b_v101 main_while1b_v139 (mulf : (⟨S32x64, .f32⟩ : BufTy).Contents (Elt F) → (⟨S32x64, .f32⟩ : BufTy).Contents (Elt F) → (⟨S32x64, .f32⟩ : BufTy).Contents (Elt F)),
   nullary main_while1b_cst_39 (constant S_ .f32 0x00000000#32),
   binary main_while1b_v139 main_while1b_cst_39 main_while1b_v140 ((fun x v => Host.reduceAdd x v reducesTo_S32x64_S32_d1 h_S_) : (⟨S32x64, .f32⟩ : BufTy).Contents (Elt F) → (⟨S_, .f32⟩ : BufTy).Contents (Elt F) → (⟨S32, .f32⟩ : BufTy).Contents (Elt F)),
   reshape main_while1b_v140 main_while1b_v141 (rfl : (.f32 : EltTy) = .f32) shapeCasts_S32_S32x1,
   unary main_while1b_v139 main_while1b_v142 (Host.negf : (⟨S32x64, .f32⟩ : BufTy).Contents (Elt F) → (⟨S32x64, .f32⟩ : BufTy).Contents (Elt F)),
   nullary main_while1b_cst_40 (constant S_ .f32 0x00000000#32),
   binary main_while1b_v141 main_while1b_cst_40 main_while1b_v143 ((fun x v => Host.reduceAdd x v reducesTo_S32x1_S32_d1 h_S_) : (⟨S32x1, .f32⟩ : BufTy).Contents (Elt F) → (⟨S_, .f32⟩ : BufTy).Contents (Elt F) → (⟨S32, .f32⟩ : BufTy).Contents (Elt F)),
   binary main_while1b_v119 main_while1b_v143 main_while1b_v144 (addf : (⟨S32, .f32⟩ : BufTy).Contents (Elt F) → (⟨S32, .f32⟩ : BufTy).Contents (Elt F) → (⟨S32, .f32⟩ : BufTy).Contents (Elt F)),
   binary main_while1b_v60 main_while1b_v127 main_while1b_v145 (mulf : (⟨S32x64x128, .f32⟩ : BufTy).Contents (Elt F) → (⟨S32x64x128, .f32⟩ : BufTy).Contents (Elt F) → (⟨S32x64x128, .f32⟩ : BufTy).Contents (Elt F)),
   nullary main_while1b_cst_41 (constant S_ .f32 0x00000000#32),
   binary main_while1b_v145 main_while1b_cst_41 main_while1b_v146 ((fun x v => Host.reduceAdd x v reducesTo_S32x64x128_S32x64_d2 h_S_) : (⟨S32x64x128, .f32⟩ : BufTy).Contents (Elt F) → (⟨S_, .f32⟩ : BufTy).Contents (Elt F) → (⟨S32x64, .f32⟩ : BufTy).Contents (Elt F)),
   reshape main_while1b_v146 main_while1b_v147 (rfl : (.f32 : EltTy) = .f32) shapeCasts_S32x64_S32x64x1,
   unary main_while1b_v95 main_while1b_v148 (broadcastInDim S32x64x128 ![0, 1, 2] bcast_S32x64x1_S32x64x128_0_1_2 : (⟨S32x64x1, .f32⟩ : BufTy).Contents (Elt F) → (⟨S32x64x128, .f32⟩ : BufTy).Contents (Elt F)),
   binary main_while1b_v127 main_while1b_v148 main_while1b_v149 (mulf : (⟨S32x64x128, .f32⟩ : BufTy).Contents (Elt F) → (⟨S32x64x128, .f32⟩ : BufTy).Contents (Elt F) → (⟨S32x64x128, .f32⟩ : BufTy).Contents (Elt F)),
   nullary main_while1b_cst_42 (constant S_ .f32 0x00000000#32),
   binary main_while1b_v147 main_while1b_cst_42 main_while1b_v150 ((fun x v => Host.reduceAdd x v reducesTo_S32x64x1_S32x64_d2 h_S_) : (⟨S32x64x1, .f32⟩ : BufTy).Contents (Elt F) → (⟨S_, .f32⟩ : BufTy).Contents (Elt F) → (⟨S32x64, .f32⟩ : BufTy).Contents (Elt F)),
   binary main_while1b_v150 main_while1b_v94 main_while1b_v151 (mulf : (⟨S32x64, .f32⟩ : BufTy).Contents (Elt F) → (⟨S32x64, .f32⟩ : BufTy).Contents (Elt F) → (⟨S32x64, .f32⟩ : BufTy).Contents (Elt F)),
   binary main_while1b_v142 main_while1b_v151 main_while1b_v152 (addf : (⟨S32x64, .f32⟩ : BufTy).Contents (Elt F) → (⟨S32x64, .f32⟩ : BufTy).Contents (Elt F) → (⟨S32x64, .f32⟩ : BufTy).Contents (Elt F)),
   unary main_while1b_v144 main_while1b_v153 (broadcastInDim S32x1 ![0] bcast_S32_S32x1_0 : (⟨S32, .f32⟩ : BufTy).Contents (Elt F) → (⟨S32x1, .f32⟩ : BufTy).Contents (Elt F)),
   nullary main_while1b_cst_43 (constant S_ .f32 0x00000000#32),
   binary main_while1b_v153 main_while1b_cst_43 main_while1b_v154 ((fun x v => pad S32x64 ![0, 63] ![0, 0] ![0, 0] x v pads_S32x1_S32x64_000_6300 h_S_) : (⟨S32x1, .f32⟩ : BufTy).Contents (Elt F) → (⟨S_, .f32⟩ : BufTy).Contents (Elt F) → (⟨S32x64, .f32⟩ : BufTy).Contents (Elt F)),
   binary main_while1b_v152 main_while1b_v154 main_while1b_v155 (addf : (⟨S32x64, .f32⟩ : BufTy).Contents (Elt F) → (⟨S32x64, .f32⟩ : BufTy).Contents (Elt F) → (⟨S32x64, .f32⟩ : BufTy).Contents (Elt F))]

theorem bwdb0_sub : (bwdb0 (F := F)).Forall fun op => op.bufs ⊆ tcRefs τ sig :=
  ⟨binary_bufs_sub .., unary_bufs_sub .., unary_bufs_sub .., binary_bufs_sub .., unary_bufs_sub .., binary_bufs_sub .., unary_bufs_sub .., binary_bufs_sub .., nullary_bufs_sub .., binary_bufs_sub .., reshape_bufs_sub .., unary_bufs_sub .., binary_bufs_sub .., nullary_bufs_sub .., binary_bufs_sub .., binary_bufs_sub .., binary_bufs_sub .., unary_bufs_sub .., binary_bufs_sub .., binary_bufs_sub .., binary_bufs_sub .., unary_bufs_sub .., binary_bufs_sub .., binary_bufs_sub .., unary_bufs_sub .., binary_bufs_sub .., unary_bufs_sub .., binary_bufs_sub .., binary_bufs_sub .., binary_bufs_sub .., nullary_bufs_sub .., binary_bufs_sub .., reshape_bufs_sub .., unary_bufs_sub .., binary_bufs_sub .., nullary_bufs_sub .., binary_bufs_sub .., binary_bufs_sub .., nullary_bufs_sub .., binary_bufs_sub .., reshape_bufs_sub .., unary_bufs_sub .., nullary_bufs_sub .., binary_bufs_sub .., binary_bufs_sub .., binary_bufs_sub .., nullary_bufs_sub .., binary_bufs_sub .., reshape_bufs_sub .., unary_bufs_sub .., binary_bufs_sub .., nullary_bufs_sub .., binary_bufs_sub .., binary_bufs_sub .., binary_bufs_sub .., unary_bufs_sub .., nullary_bufs_sub .., binary_bufs_sub .., binary_bufs_sub ..⟩

/-- A trip of the second loop: stretch 1. -/
def bwdc0 : List (HloOp τ sig (Elt F)) :=
  [binary main_while1b_v89 main_while1b_v156 main_while1b_v157 (mulf : (⟨S32x64x64, .f32⟩ : BufTy).Contents (Elt F) → (⟨S32x64x64, .f32⟩ : BufTy).Contents (Elt F) → (⟨S32x64x64, .f32⟩ : BufTy).Contents (Elt F)),
   binary main_while1b_v156 main_while1b_v88_0 main_while1b_v158 (mulf : (⟨S32x64x64, .f32⟩ : BufTy).Contents (Elt F) → (⟨S32x64x64, .f32⟩ : BufTy).Contents (Elt F) → (⟨S32x64x64, .f32⟩ : BufTy).Contents (Elt F)),
   binary main_while1b_v158 main_while1b_v60 main_while1b_v159 ((fun l r => Host.dotGeneral dot_S32x64x64_S32x64x128_S32x64x128_1_1_2_2_0_0 none l r) : (⟨S32x64x64, .f32⟩ : BufTy).Contents (Elt F) → (⟨S32x64x128, .f32⟩ : BufTy).Contents (Elt F) → (⟨S32x64x128, .f32⟩ : BufTy).Contents (Elt F)),
   binary main_while1b_v137 main_while1b_v159 main_while1b_v160 (addf : (⟨S32x64x128, .f32⟩ : BufTy).Contents (Elt F) → (⟨S32x64x128, .f32⟩ : BufTy).Contents (Elt F) → (⟨S32x64x128, .f32⟩ : BufTy).Contents (Elt F)),
   binary main_while1b_v158 main_while1b_v61 main_while1b_v161 ((fun l r => Host.dotGeneral dot_S32x64x64_S32x64x128_S32x64x128_2_1_1_2_0_0 none l r) : (⟨S32x64x64, .f32⟩ : BufTy).Contents (Elt F) → (⟨S32x64x128, .f32⟩ : BufTy).Contents (Elt F) → (⟨S32x64x128, .f32⟩ : BufTy).Contents (Elt F)),
   binary main_while1b_v149 main_while1b_v161 main_while1b_v162 (addf : (⟨S32x64x128, .f32⟩ : BufTy).Contents (Elt F) → (⟨S32x64x128, .f32⟩ : BufTy).Contents (Elt F) → (⟨S32x64x128, .f32⟩ : BufTy).Contents (Elt F))]

theorem bwdc0_sub : (bwdc0 (F := F)).Forall fun op => op.bufs ⊆ tcRefs τ sig :=
  ⟨binary_bufs_sub .., binary_bufs_sub .., binary_bufs_sub .., binary_bufs_sub .., binary_bufs_sub .., binary_bufs_sub ..⟩

/-- A trip of the second loop: stretch 2. -/
def bwdc1 : List (HloOp τ sig (Elt F)) :=
  [binary main_while1b_v163 main_while1b_v87 main_while1b_v164 (mulf : (⟨S32x64x64, .f32⟩ : BufTy).Contents (Elt F) → (⟨S32x64x64, .f32⟩ : BufTy).Contents (Elt F) → (⟨S32x64x64, .f32⟩ : BufTy).Contents (Elt F)),
   binary main_while1b_v164 main_while1b_v86 main_while1b_v165 (mulf : (⟨S32x64x64, .f32⟩ : BufTy).Contents (Elt F) → (⟨S32x64x64, .f32⟩ : BufTy).Contents (Elt F) → (⟨S32x64x64, .f32⟩ : BufTy).Contents (Elt F)),
   nullary main_while1b_cst_44 (constant S_ .f32 0x00000000#32),
   binary main_while1b_v165 main_while1b_cst_44 main_while1b_v166 ((fun x v => Host.reduceAdd x v reducesTo_S32x64x64_S32x64_d2 h_S_) : (⟨S32x64x64, .f32⟩ : BufTy).Contents (Elt F) → (⟨S_, .f32⟩ : BufTy).Contents (Elt F) → (⟨S32x64, .f32⟩ : BufTy).Contents (Elt F)),
   reshape main_while1b_v166 main_while1b_v167 (rfl : (.f32 : EltTy) = .f32) shapeCasts_S32x64_S32x64x1,
   unary main_while1b_v165 main_while1b_v168 (Host.negf : (⟨S32x64x64, .f32⟩ : BufTy).Contents (Elt F) → (⟨S32x64x64, .f32⟩ : BufTy).Contents (Elt F)),
   nullary main_while1b_cst_45 (constant S_ .f32 0x00000000#32),
   binary main_while1b_v168 main_while1b_cst_45 main_while1b_v169 ((fun x v => Host.reduceAdd x v reducesTo_S32x64x64_S32x64_d1 h_S_) : (⟨S32x64x64, .f32⟩ : BufTy).Contents (Elt F) → (⟨S_, .f32⟩ : BufTy).Contents (Elt F) → (⟨S32x64, .f32⟩ : BufTy).Contents (Elt F)),
   reshape main_while1b_v169 main_while1b_v170 (rfl : (.f32 : EltTy) = .f32) shapeCasts_S32x64_S32x1x64,
   nullary main_while1b_cst_46 (constant S_ .f32 0x00000000#32),
   binary main_while1b_v170 main_while1b_cst_46 main_while1b_v171 ((fun x v => Host.reduceAdd x v reducesTo_S32x1x64_S32x64_d1 h_S_) : (⟨S32x1x64, .f32⟩ : BufTy).Contents (Elt F) → (⟨S_, .f32⟩ : BufTy).Contents (Elt F) → (⟨S32x64, .f32⟩ : BufTy).Contents (Elt F)),
   binary main_while1b_v155 main_while1b_v171 main_while1b_v172 (addf : (⟨S32x64, .f32⟩ : BufTy).Contents (Elt F) → (⟨S32x64, .f32⟩ : BufTy).Contents (Elt F) → (⟨S32x64, .f32⟩ : BufTy).Contents (Elt F)),
   nullary main_while1b_cst_47 (constant S_ .f32 0x00000000#32),
   binary main_while1b_v167 main_while1b_cst_47 main_while1b_v173 ((fun x v => Host.reduceAdd x v reducesTo_S32x64x1_S32x64_d2 h_S_) : (⟨S32x64x1, .f32⟩ : BufTy).Contents (Elt F) → (⟨S_, .f32⟩ : BufTy).Contents (Elt F) → (⟨S32x64, .f32⟩ : BufTy).Contents (Elt F)),
   binary main_while1b_v172 main_while1b_v173 main_while1b_v174 (addf : (⟨S32x64, .f32⟩ : BufTy).Contents (Elt F) → (⟨S32x64, .f32⟩ : BufTy).Contents (Elt F) → (⟨S32x64, .f32⟩ : BufTy).Contents (Elt F))]

theorem bwdc1_sub : (bwdc1 (F := F)).Forall fun op => op.bufs ⊆ tcRefs τ sig :=
  ⟨binary_bufs_sub .., binary_bufs_sub .., nullary_bufs_sub .., binary_bufs_sub .., reshape_bufs_sub .., unary_bufs_sub .., nullary_bufs_sub .., binary_bufs_sub .., reshape_bufs_sub .., nullary_bufs_sub .., binary_bufs_sub .., binary_bufs_sub .., nullary_bufs_sub .., binary_bufs_sub .., binary_bufs_sub ..⟩

/-- A trip of the second loop: stretch 3. -/
def bwdc2 : List (HloOp τ sig (Elt F)) :=
  [nullary main_while1b_c_48 (constantI S_ 32 1#32),
   binary main_v41_7 main_while1b_c_48 main_while1b_v180 (addi : (⟨S_, .i32⟩ : BufTy).Contents (Elt F) → (⟨S_, .i32⟩ : BufTy).Contents (Elt F) → (⟨S_, .i32⟩ : BufTy).Contents (Elt F)),
   unary main_while1b_v180 main_v41_7 id,
   unary main_while1b_v131 main_v41_8 id,
   unary main_while1b_v175 main_v41_9 id,
   unary main_while1b_v176 main_v41_10 id,
   unary main_while1b_v177 main_v41_11 id,
   unary main_while1b_v178 main_v41_12 id,
   unary main_while1b_v179 main_v41_13 id]

theorem bwdc2_sub : (bwdc2 (F := F)).Forall fun op => op.bufs ⊆ tcRefs τ sig :=
  ⟨nullary_bufs_sub .., binary_bufs_sub .., unary_bufs_sub .., unary_bufs_sub .., unary_bufs_sub .., unary_bufs_sub .., unary_bufs_sub .., unary_bufs_sub .., unary_bufs_sub ..⟩

theorem whereOps_sub (arg0 : TRef sig ⟨S64x64, .i1⟩) (arg1 : TRef sig ⟨S_, .f32⟩) (φ : fn_where.Bufs) :
    (whereOps (F := F) arg0 arg1 φ).Forall fun op => op.bufs ⊆ tcRefs τ sig :=
  ⟨unary_bufs_sub .., unary_bufs_sub .., unary_bufs_sub ..⟩

theorem rowOps_sub (arg0 : TRef sig ⟨S128x32x64x128, .f32⟩) (arg1 : TRef sig ⟨S_, .i32⟩) (φ : fn_dynamic_index_in_dim.Bufs) :
    (rowOps (F := F) arg0 arg1 φ).Forall fun op => op.bufs ⊆ tcRefs τ sig :=
  ⟨nullary_bufs_sub .., nullary_bufs_sub .., nullary_bufs_sub .., unaryIndexed_bufs_sub .., reshape_bufs_sub ..⟩

theorem gateOps_sub (arg0 : TRef sig ⟨S128x32x64, .f32⟩) (arg1 : TRef sig ⟨S_, .i32⟩) (φ : fn_dynamic_index_in_dim_0.Bufs) :
    (gateOps (F := F) arg0 arg1 φ).Forall fun op => op.bufs ⊆ tcRefs τ sig :=
  ⟨nullary_bufs_sub .., nullary_bufs_sub .., unaryIndexed_bufs_sub .., reshape_bufs_sub ..⟩

theorem selectOps_sub (arg0 : TRef sig ⟨S32x64x64, .f32⟩) (arg1 : TRef sig ⟨S32x64x64, .i1⟩) (arg2 : TRef sig ⟨S32x64x64, .f32⟩) (φ : fn_where_1.Bufs) :
    (selectOps (F := F) arg0 arg1 arg2 φ).Forall fun op => op.bufs ⊆ tcRefs τ sig :=
  ternary_bufs_sub ..

theorem putRowOps_sub (arg0 : TRef sig ⟨S128x32x64x128, .f32⟩) (arg1 : TRef sig ⟨S32x64x128, .f32⟩) (arg2 : TRef sig ⟨S_, .i32⟩) (φ : fn_dynamic_update_index_in_dim.Bufs) :
    (putRowOps (F := F) arg0 arg1 arg2 φ).Forall fun op => op.bufs ⊆ tcRefs τ sig :=
  ⟨unary_bufs_sub .., nullary_bufs_sub .., nullary_bufs_sub .., nullary_bufs_sub .., binaryIndexed_bufs_sub ..⟩

theorem putStateOps_sub (arg0 : TRef sig ⟨S128x32x128x128, .f32⟩) (arg1 : TRef sig ⟨S32x128x128, .f32⟩) (arg2 : TRef sig ⟨S_, .i32⟩) (φ : fn_dynamic_update_index_in_dim_2.Bufs) :
    (putStateOps (F := F) arg0 arg1 arg2 φ).Forall fun op => op.bufs ⊆ tcRefs τ sig :=
  ⟨unary_bufs_sub .., nullary_bufs_sub .., nullary_bufs_sub .., nullary_bufs_sub .., binaryIndexed_bufs_sub ..⟩

theorem stateOps_sub (arg0 : TRef sig ⟨S128x32x128x128, .f32⟩) (arg1 : TRef sig ⟨S_, .i32⟩) (φ : fn_dynamic_index_in_dim_3.Bufs) :
    (stateOps (F := F) arg0 arg1 φ).Forall fun op => op.bufs ⊆ tcRefs τ sig :=
  ⟨nullary_bufs_sub .., nullary_bufs_sub .., nullary_bufs_sub .., unaryIndexed_bufs_sub .., reshape_bufs_sub ..⟩

theorem maskOps_sub (arg0 : TRef sig ⟨S64x64, .i1⟩) (arg1 : TRef sig ⟨S32x64x64, .f32⟩) (arg2 : TRef sig ⟨S_, .f32⟩) (φ : fn_where_4.Bufs) :
    (maskOps (F := F) arg0 arg1 arg2 φ).Forall fun op => op.bufs ⊆ tcRefs τ sig :=
  ⟨unary_bufs_sub .., unary_bufs_sub .., unary_bufs_sub .., ternary_bufs_sub .., nullary_bufs_sub .., unary_bufs_sub ..⟩

theorem unmaskOps_sub (arg0 : TRef sig ⟨S32x64x64, .i1⟩) (arg1 : TRef sig ⟨S32x64x64, .f32⟩) (arg2 : TRef sig ⟨S32x64x64, .f32⟩) (φ : fn_where_5.Bufs) :
    (unmaskOps (F := F) arg0 arg1 arg2 φ).Forall fun op => op.bufs ⊆ tcRefs τ sig :=
  ⟨nullary_bufs_sub .., unary_bufs_sub .., ternary_bufs_sub ..⟩

theorem putGateOps_sub (arg0 : TRef sig ⟨S128x32x64, .f32⟩) (arg1 : TRef sig ⟨S32x64, .f32⟩) (arg2 : TRef sig ⟨S_, .i32⟩) (φ : fn_dynamic_update_index_in_dim_6.Bufs) :
    (putGateOps (F := F) arg0 arg1 arg2 φ).Forall fun op => op.bufs ⊆ tcRefs τ sig :=
  ⟨unary_bufs_sub .., nullary_bufs_sub .., nullary_bufs_sub .., binaryIndexed_bufs_sub ..⟩

/-- Before the first loop. -/
abbrev preI : List (List (HloOp τ sig (Elt F))) :=
  [head0,
    whereOps (.of main_v24) (.of main_cst_0) main_call0,
    head1,
    whereOps (.of main_v24) (.of main_cst_1) main_call1,
    head2]

/-- Between the loops. -/
abbrev midI : List (List (HloOp τ sig (Elt F))) :=
  [head3,
    last0]

/-- After the second loop. -/
abbrev postI : List (List (HloOp τ sig (Elt F))) :=
  [last1]

/-- One trip of the first loop. -/
abbrev fwdI : List (List (HloOp τ sig (Elt F))) :=
  [rowOps (.of main_v29_0) (.of main_v29_9) main_while0b_call2,
    rowOps (.of main_v29_1) (.of main_v29_9) main_while0b_call3,
    rowOps (.of main_v29_2) (.of main_v29_9) main_while0b_call4,
    rowOps (.of main_v29_3) (.of main_v29_9) main_while0b_call5,
    gateOps (.of main_v29_4) (.of main_v29_9) main_while0b_call6,
    fwd0,
    selectOps (.of main_while0b_v68) (.of main_v29_5) (.of main_v29_6) main_while0b_call7,
    fwd1,
    selectOps (.of main_while0b_v71) (.of main_v29_7) (.of main_v29_8) main_while0b_call8,
    fwd2,
    putRowOps (.of main_v29_11) (.of main_while0b_v90) (.of main_v29_9) main_while0b_call9,
    putStateOps (.of main_v29_12) (.of main_v29_10) (.of main_v29_9) main_while0b_call10,
    fwd3]

/-- One trip of the second loop. -/
abbrev bwdI : List (List (HloOp τ sig (Elt F))) :=
  [bwda0,
    rowOps (.of main_v41_0) (.of main_while1b_v57) main_while1b_call11,
    stateOps (.of main_v41_1) (.of main_while1b_v57) main_while1b_call12,
    rowOps (.of main_v41_2) (.of main_while1b_v57) main_while1b_call13,
    rowOps (.of main_v41_3) (.of main_while1b_v57) main_while1b_call14,
    rowOps (.of main_v41_4) (.of main_while1b_v57) main_while1b_call15,
    rowOps (.of main_v41_5) (.of main_while1b_v57) main_while1b_call16,
    gateOps (.of main_v41_6) (.of main_while1b_v57) main_while1b_call17,
    bwda1,
    maskOps (.of main_while1b_v70) (.of main_while1b_v87) (.of main_while1b_cst_33) main_while1b_call18,
    bwda2,
    maskOps (.of main_while1b_v70) (.of main_while1b_v90) (.of main_while1b_cst_34) main_while1b_call19,
    bwda3,
    bwdb0,
    unmaskOps (.of main_while1b_v91_1) (.of main_while1b_v91_2) (.of main_while1b_v123) main_while1b_call20,
    bwdc0,
    unmaskOps (.of main_while1b_v88_1) (.of main_while1b_v88_2) (.of main_while1b_v157) main_while1b_call21,
    bwdc1,
    putRowOps (.of main_v41_9) (.of main_while1b_v162) (.of main_while1b_v57) main_while1b_call22,
    putRowOps (.of main_v41_10) (.of main_while1b_v160) (.of main_while1b_v57) main_while1b_call23,
    putRowOps (.of main_v41_11) (.of main_while1b_v122) (.of main_while1b_v57) main_while1b_call24,
    putRowOps (.of main_v41_12) (.of main_while1b_v132) (.of main_while1b_v57) main_while1b_call25,
    putGateOps (.of main_v41_13) (.of main_while1b_v174) (.of main_while1b_v57) main_while1b_call26,
    bwdc2]

/-- The first loop's condition. -/
def cond0Ops : List (HloOp τ sig (Elt F)) :=
  [nullary main_while0c_c_24 (constantI S_ 32 128#32),
   binary main_v29_9 main_while0c_c_24 main_while0c_v56 (cmpi .slt : (⟨S_, .i32⟩ : BufTy).Contents (Elt F) → (⟨S_, .i32⟩ : BufTy).Contents (Elt F) → (⟨S_, .i1⟩ : BufTy).Contents (Elt F))]

/-- The second loop's condition. -/
def cond1Ops : List (HloOp τ sig (Elt F)) :=
  [nullary main_while1c_c_25 (constantI S_ 32 128#32),
   binary main_v41_7 main_while1c_c_25 main_while1c_v56 (cmpi .slt : (⟨S_, .i32⟩ : BufTy).Contents (Elt F) → (⟨S_, .i32⟩ : BufTy).Contents (Elt F) → (⟨S_, .i1⟩ : BufTy).Contents (Elt F))]

theorem preI_plain : Plain (preI (F := F)) := .cons head0_sub <| .cons (whereOps_sub ..) <| .cons head1_sub <| .cons (whereOps_sub ..) <| .cons head2_sub .nil
theorem midI_plain : Plain (midI (F := F)) := .cons head3_sub <| .cons last0_sub .nil
theorem postI_plain : Plain (postI (F := F)) := .cons last1_sub .nil
theorem fwdI_plain : Plain (fwdI (F := F)) := .cons (rowOps_sub ..) <| .cons (rowOps_sub ..) <| .cons (rowOps_sub ..) <| .cons (rowOps_sub ..) <| .cons (gateOps_sub ..) <| .cons fwd0_sub <| .cons (selectOps_sub ..) <| .cons fwd1_sub <| .cons (selectOps_sub ..) <| .cons fwd2_sub <| .cons (putRowOps_sub ..) <| .cons (putStateOps_sub ..) <| .cons fwd3_sub .nil
theorem bwdI_plain : Plain (bwdI (F := F)) := .cons bwda0_sub <| .cons (rowOps_sub ..) <| .cons (stateOps_sub ..) <| .cons (rowOps_sub ..) <| .cons (rowOps_sub ..) <| .cons (rowOps_sub ..) <| .cons (rowOps_sub ..) <| .cons (gateOps_sub ..) <| .cons bwda1_sub <| .cons (maskOps_sub ..) <| .cons bwda2_sub <| .cons (maskOps_sub ..) <| .cons bwda3_sub <| .cons bwdb0_sub <| .cons (unmaskOps_sub ..) <| .cons bwdc0_sub <| .cons (unmaskOps_sub ..) <| .cons bwdc1_sub <| .cons (putRowOps_sub ..) <| .cons (putRowOps_sub ..) <| .cons (putRowOps_sub ..) <| .cons (putRowOps_sub ..) <| .cons (putGateOps_sub ..) <| .cons bwdc2_sub .nil

/-- The first loop's body is its stretches. -/
theorem fwd_eq : main_while0_body (F := F) = Pipeline.chain ((fwdI (F := F)).map fun ops => (seq ops : Prog _ PUnit)) := by
  chain_rfl

theorem main_while1_body_part0_eq : main_while1_body_part0 (F := F) = Pipeline.chainK [seq (bwda0), seq (rowOps (.of main_v41_0) (.of main_while1b_v57) main_while1b_call11), seq (stateOps (.of main_v41_1) (.of main_while1b_v57) main_while1b_call12), seq (rowOps (.of main_v41_2) (.of main_while1b_v57) main_while1b_call13), seq (rowOps (.of main_v41_3) (.of main_while1b_v57) main_while1b_call14), seq (rowOps (.of main_v41_4) (.of main_while1b_v57) main_while1b_call15), seq (rowOps (.of main_v41_5) (.of main_while1b_v57) main_while1b_call16), seq (gateOps (.of main_v41_6) (.of main_while1b_v57) main_while1b_call17), seq (bwda1), seq (maskOps (.of main_while1b_v70) (.of main_while1b_v87) (.of main_while1b_cst_33) main_while1b_call18), seq (bwda2), seq (maskOps (.of main_while1b_v70) (.of main_while1b_v90) (.of main_while1b_cst_34) main_while1b_call19)] (seq (bwda3)) := by
  chain_rfl

theorem main_while1_body_part1_eq : main_while1_body_part1 (F := F) = Pipeline.chainK [seq (bwdb0)] (seq (unmaskOps (.of main_while1b_v91_1) (.of main_while1b_v91_2) (.of main_while1b_v123) main_while1b_call20)) := by
  chain_rfl

theorem main_while1_body_part2_eq : main_while1_body_part2 (F := F) = Pipeline.chain [seq (bwdc0), seq (unmaskOps (.of main_while1b_v88_1) (.of main_while1b_v88_2) (.of main_while1b_v157) main_while1b_call21), seq (bwdc1), seq (putRowOps (.of main_v41_9) (.of main_while1b_v162) (.of main_while1b_v57) main_while1b_call22), seq (putRowOps (.of main_v41_10) (.of main_while1b_v160) (.of main_while1b_v57) main_while1b_call23), seq (putRowOps (.of main_v41_11) (.of main_while1b_v122) (.of main_while1b_v57) main_while1b_call24), seq (putRowOps (.of main_v41_12) (.of main_while1b_v132) (.of main_while1b_v57) main_while1b_call25), seq (putGateOps (.of main_v41_13) (.of main_while1b_v174) (.of main_while1b_v57) main_while1b_call26), seq (bwdc2)] := by
  chain_rfl

/-- The second loop's body is its stretches. -/
theorem bwd_eq : main_while1_body (F := F) = Pipeline.chain ((bwdI (F := F)).map fun ops => (seq ops : Prog _ PUnit)) :=
  Pipeline.chain_of_window main_while1_body_part0_eq (Pipeline.chain_of_window main_while1_body_part1_eq main_while1_body_part2_eq)

theorem main_part0_eq (c : Dev nD) : main_part0 (F := F) c = Pipeline.chainK [seq (head0), seq (whereOps (.of main_v24) (.of main_cst_0) main_call0), seq (head1), seq (whereOps (.of main_v24) (.of main_cst_1) main_call1), seq (head2), HostLoop.enter 0] (seq (head3)) := by
  chain_rfl

theorem main_part1_eq (c : Dev nD) : main_part1 (F := F) c = Pipeline.chain [seq (last0), HostLoop.enter 1, seq (last1)] := by
  chain_rfl

/-- The program is its stretches and its two loops. -/
theorem main_eq (c : Dev nD) : main (F := F) c = Pipeline.chain
    ((preI (F := F)).map (fun ops => (seq ops : Prog _ PUnit)) ++ HostLoop.enter 0
      :: ((midI (F := F)).map (fun ops => (seq ops : Prog _ PUnit)) ++ HostLoop.enter 1
        :: (postI (F := F)).map fun ops => (seq ops : Prog _ PUnit))) := by
  have h := Pipeline.chain_of_window (main_part0_eq (F := F) c) (main_part1_eq c)
  exact h

end Cert.ReferenceIdeal.Ops

end
-- ==== Proof.RefRun.lean ====
/-
  The run of the reference: stretches of operations around two counted loops. Every buffer ends at `final`: the stretches
  before the first loop, 128 trips of it, the stretches between, 128 trips of the second, the stretches after it.
-/
module

public import proofs.«01_k».proof.Proof.RefOps
public import Idealize.ShloMosaic.Lib.StableHlo.RunRead
public import Idealize.ShloMosaic.Lib.Quiescent

@[expose] public section

set_option maxRecDepth 4000

noncomputable section

namespace Cert.ReferenceIdeal.Ops

open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe
open Idealize.ShloMosaic.Pipeline (CSeg Ticket PCfg ucRefs unscopedBufs_held sub_ucRefs)

variable {F : FTy → Type} [FloatOps F]

local notation "𝕄" => MT nD τ sig Unit (Elt F) ℕ (Option PUnit) ℕ

/-! ## The counters -/

set_option maxHeartbeats 4000000 in
/-- A trip of the first loop adds one to its counter. -/
theorem fwd_counter (V : Valuation τ sig (Elt F)) :
    afterL (fwdI (F := F)) V (Proc.devRef .tc main_v29_9) = addi (V (Proc.devRef .tc main_v29_9)) (constantI S_ 32 1#32) := by
  simp only [afterL_cons, afterL_nil]
  unfold fwd3 fwd2 fwd1 fwd0
  after_reads_simp
  rfl

set_option maxHeartbeats 4000000 in
/-- A trip of the second loop adds one to its counter. -/
theorem bwd_counter (V : Valuation τ sig (Elt F)) :
    afterL (bwdI (F := F)) V (Proc.devRef .tc main_v41_7) = addi (V (Proc.devRef .tc main_v41_7)) (constantI S_ 32 1#32) := by
  simp only [afterL_cons, afterL_nil]
  unfold bwdc2 bwdc1 bwdc0 bwdb0 bwda3 bwda2 bwda1 bwda0
  after_reads_simp
  rfl

/-- The counter before the trip `k` of a loop that adds one to it in each trip. -/
theorem counter_at {condOps : List (HloOp τ sig (Elt F))} {bodyI : List (List (HloOp τ sig (Elt F)))} {W₀ : Dev nD → Valuation τ sig (Elt F)}
    {r : Ref sig .tc} (hr : r.ty = ⟨S_, .i32⟩) (val : r.ty.Contents (Elt F) → BitVec 32)
    (hc : ∀ V, after condOps V (Proc.devRef .tc r) = V (Proc.devRef .tc r))
    (hb : ∀ V, val (afterL bodyI V (Proc.devRef .tc r)) = val (V (Proc.devRef .tc r)) + 1#32)
    (c : Dev nD) (h0 : val (W₀ c (Proc.devRef .tc r)) = 0#32) :
    ∀ k, val (atTrip condOps bodyI W₀ k c (Proc.devRef .tc r)) = BitVec.ofNat 32 k
  | 0 => h0
  | k + 1 => by
    rw [atTrip_succ, hb, hc, counter_at hr val hc hb c h0 k, BitVec.ofNat_add]

/-- The comparison that ends a loop of 128 trips. -/
theorem below_iff {k : ℕ} (hk : k ≤ 128) : IntOp.cmpi .slt (BitVec.ofNat 32 k) 128#32 = 1#1 ↔ k < 128 := by
  have h : ∀ j : Fin 129, IntOp.cmpi .slt (BitVec.ofNat 32 j.val) 128#32 = 1#1 ↔ j.val < 128 := by decide +kernel
  exact h ⟨k, by omega⟩

theorem cond0_keeps (V : Valuation τ sig (Elt F)) : after cond0Ops V (Proc.devRef .tc main_v29_9) = V (Proc.devRef .tc main_v29_9) := by
  unfold cond0Ops; after_reads_simp

theorem cond1_keeps (V : Valuation τ sig (Elt F)) : after cond1Ops V (Proc.devRef .tc main_v41_7) = V (Proc.devRef .tc main_v41_7) := by
  unfold cond1Ops; after_reads_simp

/-- Carried beside the buffers: the core owes nothing. -/
abbrev Owed (c : Dev nD) : sProp 𝕄 := iprop(∃ W, owes (c : Thread nD τ) (0 : CellTallies nD τ sig Unit) W)

set_option backward.isDefEq.respectTransparency.types false in
/-- The first loop's condition returns whether the counter is below 128. -/
theorem cond0_spec (W : Dev nD → Valuation τ sig (Elt F)) (h0 : ∀ c, (W c (Proc.devRef .tc main_v29_9) : (⟨S_, .i32⟩ : BufTy).Contents (Elt F)) HostLoop.idx0 = 0#32) :
    LoopCond (pcfgs (F := F)) defs₀ Variants.none loops Owed main_while0_cond cond0Ops fwdI W 128 := by
  intro k hk c bd
  have hctr : (atTrip cond0Ops fwdI W k c (Proc.devRef .tc main_v29_9) : (⟨S_, .i32⟩ : BufTy).Contents (Elt F)) HostLoop.idx0 = BitVec.ofNat 32 k :=
    counter_at (r := main_v29_9) rfl (fun v => v HostLoop.idx0) cond0_keeps (fun V => by rw [fwd_counter]; rfl) c (h0 c) k
  generalize atTrip cond0Ops fwdI W k c = V at hctr
  simp only [main_while0_cond, bind_pure]
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]
    · iexact Hb
    iexact Hh
  iintro ⟨Hb, Hh⟩
  rw [wp_ret]
  imodintro
  iapply (StableHlo.wp_hlo_within (Variants.lift Variants.none) (c : Thread nD τ) bd Set.univ (sub_ucRefs _ (StableHlo.binary_bufs_sub ..))) $$ [Hb Hh]
  · isplitl [Hb]
    · iexact Hb
    iexact Hh
  iintro ⟨Hb, Hh⟩
  rw [HostLoop.elt_apply, wp_ret]
  imodintro
  isplitr
  · ipureintro
    show Iff (IntOp.cmpi .slt (HloOp.result _ V (Proc.devRef .tc main_v29_9) HostLoop.idx0) (HloOp.result _ V (Proc.devRef .tc main_while0c_c_24) HostLoop.idx0) = 1#1) (k < 128)
    rw [StableHlo.nullary_result_ne _ _ _ _ (by decide), StableHlo.nullary_result, hctr]
    exact below_iff hk
  isplitl [Hb]
  · iexact Hb
  isplitl [Hh]
  · unfold cond0Ops
    rw [after_cons, after_cons, after_nil]
    iexact Hh
  iexact HR

set_option backward.isDefEq.respectTransparency.types false in
/-- The second loop's condition returns whether the counter is below 128. -/
theorem cond1_spec (W : Dev nD → Valuation τ sig (Elt F)) (h0 : ∀ c, (W c (Proc.devRef .tc main_v41_7) : (⟨S_, .i32⟩ : BufTy).Contents (Elt F)) HostLoop.idx0 = 0#32) :
    LoopCond (pcfgs (F := F)) defs₀ Variants.none loops Owed main_while1_cond cond1Ops bwdI W 128 := by
  intro k hk c bd
  have hctr : (atTrip cond1Ops bwdI W k c (Proc.devRef .tc main_v41_7) : (⟨S_, .i32⟩ : BufTy).Contents (Elt F)) HostLoop.idx0 = BitVec.ofNat 32 k :=
    counter_at (r := main_v41_7) rfl (fun v => v HostLoop.idx0) cond1_keeps (fun V => by rw [bwd_counter]; rfl) c (h0 c) k
  generalize atTrip cond1Ops bwdI W k c = V at hctr
  simp only [main_while1_cond, bind_pure]
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]
    · iexact Hb
    iexact Hh
  iintro ⟨Hb, Hh⟩
  rw [wp_ret]
  imodintro
  iapply (StableHlo.wp_hlo_within (Variants.lift Variants.none) (c : Thread nD τ) bd Set.univ (sub_ucRefs _ (StableHlo.binary_bufs_sub ..))) $$ [Hb Hh]
  · isplitl [Hb]
    · iexact Hb
    iexact Hh
  iintro ⟨Hb, Hh⟩
  rw [HostLoop.elt_apply, wp_ret]
  imodintro
  isplitr
  · ipureintro
    show Iff (IntOp.cmpi .slt (HloOp.result _ V (Proc.devRef .tc main_v41_7) HostLoop.idx0) (HloOp.result _ V (Proc.devRef .tc main_while1c_c_25) HostLoop.idx0) = 1#1) (k < 128)
    rw [StableHlo.nullary_result_ne _ _ _ _ (by decide), StableHlo.nullary_result, hctr]
    exact below_iff hk
  isplitl [Hb]
  · iexact Hb
  isplitl [Hh]
  · unfold cond1Ops
    rw [after_cons, after_cons, after_nil]
    iexact Hh
  iexact HR

/-! ## The contents of the buffers along the run -/

/-- At the first loop's entry, -/
def atFwd (m : (ℓ : Loc nD τ sig) → Buf (Elt F) ℓ) (c : Dev nD) : Valuation τ sig (Elt F) := afterL preI (launchContents m c)
/-- at its end, -/
def fwdEnd (m : (ℓ : Loc nD τ sig) → Buf (Elt F) ℓ) (c : Dev nD) : Valuation τ sig (Elt F) :=
  after cond0Ops (atTrip cond0Ops fwdI (atFwd m) 128 c)
/-- at the second loop's entry, -/
def atBwd (m : (ℓ : Loc nD τ sig) → Buf (Elt F) ℓ) (c : Dev nD) : Valuation τ sig (Elt F) := afterL midI (fwdEnd m c)
/-- at its end, -/
def bwdEnd (m : (ℓ : Loc nD τ sig) → Buf (Elt F) ℓ) (c : Dev nD) : Valuation τ sig (Elt F) :=
  after cond1Ops (atTrip cond1Ops bwdI (atBwd m) 128 c)
/-- and at the program's end. -/
def final (m : (ℓ : Loc nD τ sig) → Buf (Elt F) ℓ) (c : Dev nD) : Valuation τ sig (Elt F) := afterL postI (bwdEnd m c)

theorem atFwd_counter (m : (ℓ : Loc nD τ sig) → Buf (Elt F) ℓ) (c : Dev nD) :
    (atFwd m c (Proc.devRef .tc main_v29_9) : (⟨S_, .i32⟩ : BufTy).Contents (Elt F)) HostLoop.idx0 = 0#32 := by
  unfold atFwd
  simp only [afterL_cons, afterL_nil]
  unfold head2
  after_reads_simp
  rfl

theorem atBwd_counter (m : (ℓ : Loc nD τ sig) → Buf (Elt F) ℓ) (c : Dev nD) :
    (atBwd m c (Proc.devRef .tc main_v41_7) : (⟨S_, .i32⟩ : BufTy).Contents (Elt F)) HostLoop.idx0 = 0#32 := by
  unfold atBwd
  simp only [afterL_cons, afterL_nil]
  unfold last0
  after_reads_simp
  rfl

/-! ## The run -/

abbrev noAdm : (p : Fin 0) → (pcfgs (F := F) p).Adm := fun p => p.elim0
abbrev noTicket : Fin 0 → Ticket (Ix := Unit) (Name := ℕ) (U := Option PUnit) (Lvl := ℕ) (nD := nD) (τ := τ) (pcfgs (F := F)) noAdm := fun j => j.elim0
abbrev noLevels : GSem nD τ sig → Finset Unit := fun _ => ∅
abbrev level0 : GSem nD τ sig → Unit → ℕ := fun _ _ => 0

/-- The program's segments: its stretches and its two loops. -/
def segments (m : (ℓ : Loc nD τ sig) → Buf (Elt F) ℓ) :
    List (CSeg (pcfgs (F := F)) noAdm defs₀ Variants.none noLevels level0 loops noTicket) :=
  segsOf _ _ _ _ _ _ _ _ Owed preI preI_plain (launchContents m)
    ++ loopSeg _ _ _ _ _ _ _ _ 0 main_while0_cond main_while0_body rfl cond0Ops fwdI fwdI_plain fwd_eq 128 (atFwd m) Owed
        (cond0_spec _ (atFwd_counter m))
      :: (segsOf _ _ _ _ _ _ _ _ Owed midI midI_plain (fwdEnd m)
        ++ loopSeg _ _ _ _ _ _ _ _ 1 main_while1_cond main_while1_body rfl cond1Ops bwdI bwdI_plain bwd_eq 128 (atBwd m) Owed
            (cond1_spec _ (atBwd_counter m))
          :: segsOf _ _ _ _ _ _ _ _ Owed postI postI_plain (bwdEnd m))

theorem segments_prog (m : (ℓ : Loc nD τ sig) → Buf (Elt F) ℓ) :
    (segments m).map CSeg.prog = (preI (F := F)).map (fun ops => (seq ops : Prog _ PUnit)) ++ HostLoop.enter 0
      :: ((midI (F := F)).map (fun ops => (seq ops : Prog _ PUnit)) ++ HostLoop.enter 1
        :: (postI (F := F)).map fun ops => (seq ops : Prog _ PUnit)) := by
  unfold segments
  rw [List.map_append, List.map_cons, List.map_append, List.map_cons, segsOf_prog, segsOf_prog, segsOf_prog]
  rfl

theorem segments_chain (m : (ℓ : Loc nD τ sig) → Buf (Elt F) ℓ) :
    CSeg.Chains (fun c => iprop(held (c : Thread nD τ) (ucRefs τ sig) (launchContents m c) ∗ Owed c)) (segments m)
      (fun c => iprop(iprop(held (c : Thread nD τ) (ucRefs τ sig) (final m c)) ∗ ∃ W, owes (c : Thread nD τ) (0 : CellTallies nD τ sig Unit) W)) := by
  unfold segments
  exact CSeg.Chains.append (segsOf_chains _ _ _ _ _ _ _ _ Owed preI preI_plain _)
    ⟨fun _ => .rfl, CSeg.Chains.append (segsOf_chains _ _ _ _ _ _ _ _ Owed midI midI_plain _)
      ⟨fun _ => .rfl, segsOf_chains _ _ _ _ _ _ _ _ Owed postI postI_plain _⟩⟩

/-- Every fair execution ends, and then every buffer that holds a value of the program holds `final`. -/
theorem run [∀ e, Nonempty (Elt F e)] (m : (ℓ : Loc nD τ sig) → Buf (Elt F) ℓ) (ρ : Dev nD → PrngReg) :
    θ_run (defs (F := F)) (onTc (τ := τ) main) ⟨m, fun _ => 0, ρ⟩
      (fun r => ∀ (c : Dev nD) (b : Ref sig .tc), (Proc.devRef .tc b : DevRef τ sig).isScoped = false →
        r.2.mem ((c.tc : Thread nD τ).loc b) = final m c (Proc.devRef .tc b)) :=
  Pipeline.θ_run_regions_loop_kit (Ix := Unit) (Name := ℕ) (U := Option PUnit) (Lvl := ℕ) (J := Fin 0) (P := Fin 0) (Val := Elt F)
    pcfgs noAdm (fun k => k.1.elim0) defs₀ Variants.none noLevels level0 loops noTicket m ρ main (segments m)
    (fun c Q => by
      rw [main_eq c, ← segments_prog m]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]
        iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Owed c))
    (Tₙ := fun c => iprop(held (c : Thread nD τ) (ucRefs τ sig) (final m c)))
    (hch := segments_chain m)
    (hinit := by
      refine Pipeline.initEach noLevels level0 fun c => ?_
      rw [show unscopedBufs c (fun b => m ((c : Thread nD τ).loc b)) = held (c : Thread nD τ) (ucRefs τ sig) (launchContents m c) from unscopedBufs_held c (launchContents m c)]
      iintro ⟨⟨Hh, -, HO, -, -, -⟩, -⟩
      imodintro
      isplitl [Hh]
      · iexact Hh
      iexists ∅
      iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr
      · ipureintro
        exact h
      iexact HSI)
    (hQ := fun _ h c b hb => h c _ (devRef_mem_ucRefs b hb))

end Cert.ReferenceIdeal.Ops

end
-- ==== Proof.RefArr.lean ====
module

public import proofs.«01_k».proof.Proof.Gen.ReferenceIdeal
public import Idealize.ShloMosaic.Lib.WordCmp
public import proofs.«01_k».proof.Proof.ChunkReal
public import Idealize.ShloMosaic.Lib.Pointwise

@[expose] public section

set_option maxRecDepth 4000

noncomputable section

/-! # The reference's operations on arrays of real numbers -/

namespace Cert.ReferenceIdeal.Ops

open Idealize.ShloMosaic Cert.Real WordCmp Facts₀ Facts
open scoped BigOperators

/-! ## Elementwise operations -/

section Elementwise

variable {a b c : ℕ}

theorem mulf_m1 (x y : Fin a → ℝ) : mulf (m1 (φ := .f32) x) (m1 y) = m1 (φ := .f32) fun i => x i * y i :=
  funext fun _ => (EReal.coe_mul _ _).symm
theorem addf_m1 (x y : Fin a → ℝ) : addf (m1 (φ := .f32) x) (m1 y) = m1 (φ := .f32) fun i => x i + y i :=
  funext fun _ => (EReal.coe_add _ _).symm
theorem subf_m1 (x y : Fin a → ℝ) : subf (m1 (φ := .f32) x) (m1 y) = m1 (φ := .f32) fun i => x i - y i :=
  funext fun _ => (EReal.coe_sub _ _).symm
theorem exp_m1' (x : Fin a → ℝ) : Host.exp (m1 (φ := .f32) x) = m1 (φ := .f32) fun i => Real.exp (x i) := rfl
theorem negf_m1 (x : Fin a → ℝ) : Host.negf (m1 (φ := .f32) x) = m1 (φ := .f32) fun i => -x i :=
  funext fun _ => (EReal.coe_neg _).symm
theorem exp_m2' (x : Fin a → Fin b → ℝ) : Host.exp (m2 (φ := .f32) x) = m2 (φ := .f32) fun i j => Real.exp (x i j) := rfl
theorem negf_m2 (x : Fin a → Fin b → ℝ) : Host.negf (m2 (φ := .f32) x) = m2 (φ := .f32) fun i j => -x i j :=
  funext fun _ => (EReal.coe_neg _).symm
theorem mulf_m3 (x y : Fin a → Fin b → Fin c → ℝ) : mulf (m3 (φ := .f32) x) (m3 y) = m3 (φ := .f32) fun i j k => x i j k * y i j k :=
  funext fun _ => (EReal.coe_mul _ _).symm
theorem addf_m3 (x y : Fin a → Fin b → Fin c → ℝ) : addf (m3 (φ := .f32) x) (m3 y) = m3 (φ := .f32) fun i j k => x i j k + y i j k :=
  funext fun _ => (EReal.coe_add _ _).symm
theorem subf_m3 (x y : Fin a → Fin b → Fin c → ℝ) : subf (m3 (φ := .f32) x) (m3 y) = m3 (φ := .f32) fun i j k => x i j k - y i j k :=
  funext fun _ => (EReal.coe_sub _ _).symm
theorem exp_m3' (x : Fin a → Fin b → Fin c → ℝ) : Host.exp (m3 (φ := .f32) x) = m3 (φ := .f32) fun i j k => Real.exp (x i j k) := rfl
theorem negf_m3 (x : Fin a → Fin b → Fin c → ℝ) : Host.negf (m3 (φ := .f32) x) = m3 (φ := .f32) fun i j k => -x i j k :=
  funext fun _ => (EReal.coe_neg _).symm
theorem minimumf_m3 (x y : Fin a → Fin b → Fin c → ℝ) : minimumf (m3 (φ := .f32) x) (m3 y) = m3 (φ := .f32) fun i j k => min (x i j k) (y i j k) :=
  funext fun _ => (EReal.coe_strictMono.monotone.map_min).symm

end Elementwise

theorem half_bits : (Scalar.ofBits .f32 0x3F000000#32 : Ideal .f32) = ((1 / 2 : ℝ) : EReal) := by
  simp [Scalar.ofBits, FloatOps.ofBits, Ideal.ofBits, Ideal.ieee]
  rw [← EReal.coe_mul]; norm_num

/-! ## Constants, spread over an array -/

theorem zero_m3 (p : Fin S_.rank → Fin S32x64x64.rank) (hb) : (broadcastInDim (s := S_) S32x64x64 p hb (constant S_ .f32 0x00000000#32) : FVec Ideal S32x64x64 .f32)
    = m3 (φ := .f32) fun _ _ _ => 0 := by
  obtain rfl : p = ![] := funext fun a => a.elim0
  refine ext3 fun i j k => ?_; pointwise [m3]; exact EReal.coe_zero.symm
theorem one_m3 (p : Fin S_.rank → Fin S32x64x64.rank) (hb) : (broadcastInDim (s := S_) S32x64x64 p hb (constant S_ .f32 0x3F800000#32) : FVec Ideal S32x64x64 .f32)
    = m3 (φ := .f32) fun _ _ _ => 1 := by
  obtain rfl : p = ![] := funext fun a => a.elim0
  refine ext3 fun i j k => ?_; pointwise [m3]; exact EReal.coe_one.symm
theorem half_m3 (p : Fin S_.rank → Fin S32x64x64.rank) (hb) : (broadcastInDim (s := S_) S32x64x64 p hb (constant S_ .f32 0x3F000000#32) : FVec Ideal S32x64x64 .f32)
    = m3 (φ := .f32) fun _ _ _ => 1 / 2 := by
  obtain rfl : p = ![] := funext fun a => a.elim0
  refine ext3 fun i j k => ?_; pointwise [m3]; exact half_bits
theorem zero128_m3 (p : Fin S_.rank → Fin S32x128x128.rank) (hb) : (broadcastInDim (s := S_) S32x128x128 p hb (constant S_ .f32 0x00000000#32) : FVec Ideal S32x128x128 .f32)
    = m3 (φ := .f32) fun _ _ _ => 0 := by
  obtain rfl : p = ![] := funext fun a => a.elim0
  refine ext3 fun i j k => ?_; pointwise [m3]; exact EReal.coe_zero.symm

/-! ## Broadcasts, casts, slices, transposes -/

theorem colOf_m2 {p : Fin S32x64.rank → Fin S32x64x1.rank} (hp : p = ![0, 1]) (hb) (x : Fin 32 → Fin 64 → ℝ) : (broadcastInDim (s := S32x64) S32x64x1 p hb (m2 (φ := .f32) x) : FVec Ideal S32x64x1 .f32)
    = m3 (φ := .f32) fun h i _ => x h i := by
  subst hp; refine ext3 fun h i j => ?_; pointwise [m2, m3]
theorem rowOf_m2 {p : Fin S32x64.rank → Fin S32x1x64.rank} (hp : p = ![0, 2]) (hb) (x : Fin 32 → Fin 64 → ℝ) : (broadcastInDim (s := S32x64) S32x1x64 p hb (m2 (φ := .f32) x) : FVec Ideal S32x1x64 .f32)
    = m3 (φ := .f32) fun h _ j => x h j := by
  subst hp; refine ext3 fun h i j => ?_; pointwise [m2, m3]
theorem spreadCol64_m3 {p : Fin S32x64x1.rank → Fin S32x64x64.rank} (hp : p = ![0, 1, 2]) (hb) (x : Fin 32 → Fin 64 → Fin 1 → ℝ) : (broadcastInDim (s := S32x64x1) S32x64x64 p hb (m3 (φ := .f32) x) : FVec Ideal S32x64x64 .f32)
    = m3 (φ := .f32) fun h i _ => x h i 0 := by
  subst hp; refine ext3 fun h i j => ?_; pointwise [m3]
theorem spreadRow64_m3 {p : Fin S32x1x64.rank → Fin S32x64x64.rank} (hp : p = ![0, 1, 2]) (hb) (x : Fin 32 → Fin 1 → Fin 64 → ℝ) : (broadcastInDim (s := S32x1x64) S32x64x64 p hb (m3 (φ := .f32) x) : FVec Ideal S32x64x64 .f32)
    = m3 (φ := .f32) fun h _ j => x h 0 j := by
  subst hp; refine ext3 fun h i j => ?_; pointwise [m3]
theorem spreadCol_m3 {p : Fin S32x64x1.rank → Fin S32x64x128.rank} (hp : p = ![0, 1, 2]) (hb) (x : Fin 32 → Fin 64 → Fin 1 → ℝ) : (broadcastInDim (s := S32x64x1) S32x64x128 p hb (m3 (φ := .f32) x) : FVec Ideal S32x64x128 .f32)
    = m3 (φ := .f32) fun h i _ => x h i 0 := by
  subst hp; refine ext3 fun h i j => ?_; pointwise [m3]
theorem head_m1 {p : Fin S32.rank → Fin S32x1.rank} (hp : p = ![0]) (hb) (x : Fin 32 → ℝ) : (broadcastInDim (s := S32) S32x1 p hb (m1 (φ := .f32) x) : FVec Ideal S32x1 .f32)
    = m2 (φ := .f32) fun h _ => x h := by
  subst hp; refine ext2 fun h i => ?_; pointwise [m1, m2]
theorem head3_m1 {p : Fin S32.rank → Fin S32x1x1.rank} (hp : p = ![0]) (hb) (x : Fin 32 → ℝ) : (broadcastInDim (s := S32) S32x1x1 p hb (m1 (φ := .f32) x) : FVec Ideal S32x1x1 .f32)
    = m3 (φ := .f32) fun h _ _ => x h := by
  subst hp; refine ext3 fun h i j => ?_; pointwise [m1, m3]
theorem spreadHead_m2 {p : Fin S32x1.rank → Fin S32x64.rank} (hp : p = ![0, 1]) (hb) (x : Fin 32 → Fin 1 → ℝ) : (broadcastInDim (s := S32x1) S32x64 p hb (m2 (φ := .f32) x) : FVec Ideal S32x64 .f32)
    = m2 (φ := .f32) fun h _ => x h 0 := by
  subst hp; refine ext2 fun h i => ?_; pointwise [m2]
theorem spreadHead_m3 {p : Fin S32x1x1.rank → Fin S32x128x128.rank} (hp : p = ![0, 1, 2]) (hb) (x : Fin 32 → Fin 1 → Fin 1 → ℝ) : (broadcastInDim (s := S32x1x1) S32x128x128 p hb (m3 (φ := .f32) x) : FVec Ideal S32x128x128 .f32)
    = m3 (φ := .f32) fun h _ _ => x h 0 0 := by
  subst hp; refine ext3 fun h i j => ?_; pointwise [m3]
theorem last_m2 (x : Fin 32 → Fin 64 → ℝ) : (extractStridedSlice S32x1 ![0, 63] (m2 (φ := .f32) x) slices_S32x64_S32x1_0_63 : FVec Ideal S32x1 .f32)
    = m2 (φ := .f32) fun h _ => x h 63 := by
  refine ext2 fun h i => ?_; pointwise [m2]
theorem cast_S32x1 (x : Fin 32 → Fin 1 → ℝ) : (shapeCast S32 (m2 (φ := .f32) x) shapeCasts_S32x1_S32 : FVec Ideal S32 .f32)
    = m1 (φ := .f32) fun h => x h 0 := by
  refine ext1 fun h => ?_; pointwise [m1, m2]
theorem cast_S32 (x : Fin 32 → ℝ) : (shapeCast S32x1 (m1 (φ := .f32) x) shapeCasts_S32_S32x1 : FVec Ideal S32x1 .f32)
    = m2 (φ := .f32) fun h _ => x h := by
  refine ext2 fun h i => ?_; pointwise [m1, m2]
theorem cast3_S32 (x : Fin 32 → ℝ) : (shapeCast S32x1x1 (m1 (φ := .f32) x) shapeCasts_S32_S32x1x1 : FVec Ideal S32x1x1 .f32)
    = m3 (φ := .f32) fun h _ _ => x h := by
  refine ext3 fun h i j => ?_; pointwise [m1, m3]
theorem castCol_S32x64 (x : Fin 32 → Fin 64 → ℝ) : (shapeCast S32x64x1 (m2 (φ := .f32) x) shapeCasts_S32x64_S32x64x1 : FVec Ideal S32x64x1 .f32)
    = m3 (φ := .f32) fun h i _ => x h i := by
  refine ext3 fun h i j => ?_; pointwise [m2, m3]
theorem castRow_S32x64 (x : Fin 32 → Fin 64 → ℝ) : (shapeCast S32x1x64 (m2 (φ := .f32) x) shapeCasts_S32x64_S32x1x64 : FVec Ideal S32x1x64 .f32)
    = m3 (φ := .f32) fun h _ j => x h j := by
  refine ext3 fun h i j => ?_; pointwise [m2, m3]
theorem tr_rows {p : List (Fin S32x128x64.rank)} (hp : p = [0, 2, 1]) (hb) (x : Fin 32 → Fin 128 → Fin 64 → ℝ) : (transpose (s := S32x128x64) S32x64x128 p (m3 (φ := .f32) x) hb : FVec Ideal S32x64x128 .f32)
    = m3 (φ := .f32) fun h => tr (x h) := by
  subst hp; refine ext3 fun h i j => ?_; pointwise [m3]; rfl
theorem tr_state {p : List (Fin S32x128x128.rank)} (hp : p = [0, 2, 1]) (hb) (x : Fin 32 → Fin 128 → Fin 128 → ℝ) : (transpose (s := S32x128x128) S32x128x128 p (m3 (φ := .f32) x) hb : FVec Ideal S32x128x128 .f32)
    = m3 (φ := .f32) fun h => tr (x h) := by
  subst hp; refine ext3 fun h i j => ?_; pointwise [m3]; rfl

/-! ## Sums along axes -/

theorem sumState (x : Fin 32 → Fin 128 → Fin 128 → ℝ) : (Host.reduceAdd (m3 (φ := .f32) x) (constant S_ .f32 0x00000000#32) reducesTo_S32x128x128_S32_d1_2 h_S_ : FVec Ideal S32 .f32)
    = m1 (φ := .f32) fun h => ∑ i, ∑ j, x h i j := by
  refine ext1 fun h => ?_; pointwise [m1, m3]; simp only [← coe_sum]
theorem sumOne3 (x : Fin 32 → Fin 1 → Fin 1 → ℝ) : (Host.reduceAdd (m3 (φ := .f32) x) (constant S_ .f32 0x00000000#32) reducesTo_S32x1x1_S32_d1_2 h_S_ : FVec Ideal S32 .f32)
    = m1 (φ := .f32) fun h => x h 0 0 := by
  refine ext1 fun h => ?_; pointwise [m1, m3]; rw [Fin.sum_univ_one, Fin.sum_univ_one]
theorem sumRow (x : Fin 32 → Fin 64 → Fin 128 → ℝ) : (Host.reduceAdd (m3 (φ := .f32) x) (constant S_ .f32 0x00000000#32) reducesTo_S32x64x128_S32x64_d2 h_S_ : FVec Ideal S32x64 .f32)
    = m2 (φ := .f32) fun h i => ∑ j, x h i j := by
  refine ext2 fun h i => ?_; pointwise [m2, m3]; simp only [← coe_sum]
theorem sumRow64 (x : Fin 32 → Fin 64 → Fin 64 → ℝ) : (Host.reduceAdd (m3 (φ := .f32) x) (constant S_ .f32 0x00000000#32) reducesTo_S32x64x64_S32x64_d2 h_S_ : FVec Ideal S32x64 .f32)
    = m2 (φ := .f32) fun h i => ∑ j, x h i j := by
  refine ext2 fun h i => ?_; pointwise [m2, m3]; simp only [← coe_sum]
theorem sumCol64 (x : Fin 32 → Fin 64 → Fin 64 → ℝ) : (Host.reduceAdd (m3 (φ := .f32) x) (constant S_ .f32 0x00000000#32) reducesTo_S32x64x64_S32x64_d1 h_S_ : FVec Ideal S32x64 .f32)
    = m2 (φ := .f32) fun h j => ∑ i, x h i j := by
  refine ext2 fun h i => ?_; pointwise [m2, m3]; simp only [← coe_sum]
theorem sumOneCol (x : Fin 32 → Fin 64 → Fin 1 → ℝ) : (Host.reduceAdd (m3 (φ := .f32) x) (constant S_ .f32 0x00000000#32) reducesTo_S32x64x1_S32x64_d2 h_S_ : FVec Ideal S32x64 .f32)
    = m2 (φ := .f32) fun h i => x h i 0 := by
  refine ext2 fun h i => ?_; pointwise [m2, m3]; rw [Fin.sum_univ_one]
theorem sumOneRow (x : Fin 32 → Fin 1 → Fin 64 → ℝ) : (Host.reduceAdd (m3 (φ := .f32) x) (constant S_ .f32 0x00000000#32) reducesTo_S32x1x64_S32x64_d1 h_S_ : FVec Ideal S32x64 .f32)
    = m2 (φ := .f32) fun h j => x h 0 j := by
  refine ext2 fun h i => ?_; pointwise [m2, m3]; rw [Fin.sum_univ_one]
theorem sumGate (x : Fin 32 → Fin 64 → ℝ) : (Host.reduceAdd (m2 (φ := .f32) x) (constant S_ .f32 0x00000000#32) reducesTo_S32x64_S32_d1 h_S_ : FVec Ideal S32 .f32)
    = m1 (φ := .f32) fun h => ∑ i, x h i := by
  refine ext1 fun h => ?_; pointwise [m1, m2]; simp only [← coe_sum]
theorem sumOne (x : Fin 32 → Fin 1 → ℝ) : (Host.reduceAdd (m2 (φ := .f32) x) (constant S_ .f32 0x00000000#32) reducesTo_S32x1_S32_d1 h_S_ : FVec Ideal S32 .f32)
    = m1 (φ := .f32) fun h => x h 0 := by
  refine ext1 fun h => ?_; pointwise [m1, m2]; rw [Fin.sum_univ_one]

/-- A column placed at the last row of a chunk, zeros elsewhere. -/
theorem pad_last (x : Fin 32 → Fin 1 → ℝ) :
    (pad S32x64 ![0, 63] ![0, 0] ![0, 0] (m2 (φ := .f32) x) (constant S_ .f32 0x00000000#32) pads_S32x1_S32x64_000_6300 h_S_ : FVec Ideal S32x64 .f32)
      = m2 (φ := .f32) fun h i => if i = 63 then x h 0 else 0 := by
  refine ext2 fun h i => ?_; pointwise [m2]
  by_cases hi : i = 63
  · subst hi; rfl
  · rw [if_neg hi, dif_neg (fun hc => hi (Fin.ext (show i.val = 63 by omega)))]; exact EReal.coe_zero.symm

/-! ## Products, one per head -/

theorem dot_nt (x : Fin 32 → Fin 64 → Fin 128 → ℝ) (y : Fin 32 → Fin 64 → Fin 128 → ℝ) :
    (Host.dotGeneral dot_S32x64x128_S32x64x128_S32x64x64_2_2_1_1_0_0 none (m3 (φ := .f32) x) (m3 (φ := .f32) y) : FVec Ideal S32x64x64 .f32)
      = m3 (φ := .f32) fun h => mm (x h) (tr (y h)) := by
  refine ext3 fun h i j => ?_; pointwise [m3, mm, tr]; exact sum_mul_coe _ _
theorem dot_state (x : Fin 32 → Fin 64 → Fin 128 → ℝ) (y : Fin 32 → Fin 128 → Fin 128 → ℝ) :
    (Host.dotGeneral dot_S32x64x128_S32x128x128_S32x64x128_2_1_1_2_0_0 none (m3 (φ := .f32) x) (m3 (φ := .f32) y) : FVec Ideal S32x64x128 .f32)
      = m3 (φ := .f32) fun h => mm (x h) (y h) := by
  refine ext3 fun h i j => ?_; pointwise [m3, mm, tr]; exact sum_mul_coe _ _
theorem dot_scores (x : Fin 32 → Fin 64 → Fin 64 → ℝ) (y : Fin 32 → Fin 64 → Fin 128 → ℝ) :
    (Host.dotGeneral dot_S32x64x64_S32x64x128_S32x64x128_2_1_1_2_0_0 none (m3 (φ := .f32) x) (m3 (φ := .f32) y) : FVec Ideal S32x64x128 .f32)
      = m3 (φ := .f32) fun h => mm (x h) (y h) := by
  refine ext3 fun h i j => ?_; pointwise [m3, mm, tr]; exact sum_mul_coe _ _
theorem dot_tn (x : Fin 32 → Fin 64 → Fin 128 → ℝ) (y : Fin 32 → Fin 64 → Fin 128 → ℝ) :
    (Host.dotGeneral dot_S32x64x128_S32x64x128_S32x128x128_1_1_2_2_0_0 none (m3 (φ := .f32) x) (m3 (φ := .f32) y) : FVec Ideal S32x128x128 .f32)
      = m3 (φ := .f32) fun h => mm (tr (x h)) (y h) := by
  refine ext3 fun h i j => ?_; pointwise [m3, mm, tr]; exact sum_mul_coe _ _
theorem dot_stateRows (x : Fin 32 → Fin 128 → Fin 128 → ℝ) (y : Fin 32 → Fin 64 → Fin 128 → ℝ) :
    (Host.dotGeneral dot_S32x128x128_S32x64x128_S32x128x64_1_2_2_1_0_0 none (m3 (φ := .f32) x) (m3 (φ := .f32) y) : FVec Ideal S32x128x64 .f32)
      = m3 (φ := .f32) fun h => tr (mm (y h) (x h)) := by
  refine ext3 fun h i j => ?_; pointwise [m3, mm, tr]; exact (sum_mul_coe _ _).trans (congrArg _ (Finset.sum_congr rfl fun _ _ => mul_comm _ _))
theorem dot_stateRows2 (x : Fin 32 → Fin 128 → Fin 128 → ℝ) (y : Fin 32 → Fin 64 → Fin 128 → ℝ) :
    (Host.dotGeneral dot_S32x128x128_S32x64x128_S32x128x64_2_2_1_1_0_0 none (m3 (φ := .f32) x) (m3 (φ := .f32) y) : FVec Ideal S32x128x64 .f32)
      = m3 (φ := .f32) fun h => tr (mm (y h) (tr (x h))) := by
  refine ext3 fun h i j => ?_; pointwise [m3, mm, tr]; exact (sum_mul_coe _ _).trans (congrArg _ (Finset.sum_congr rfl fun _ _ => mul_comm _ _))
theorem dot_tnScores (x : Fin 32 → Fin 64 → Fin 128 → ℝ) (y : Fin 32 → Fin 64 → Fin 64 → ℝ) :
    (Host.dotGeneral dot_S32x64x128_S32x64x64_S32x128x64_1_1_2_2_0_0 none (m3 (φ := .f32) x) (m3 (φ := .f32) y) : FVec Ideal S32x128x64 .f32)
      = m3 (φ := .f32) fun h => tr (mm (tr (y h)) (x h)) := by
  refine ext3 fun h i j => ?_; pointwise [m3, mm, tr]; exact (sum_mul_coe _ _).trans (congrArg _ (Finset.sum_congr rfl fun _ _ => mul_comm _ _))
theorem dot_ntState (x : Fin 32 → Fin 64 → Fin 128 → ℝ) (y : Fin 32 → Fin 128 → Fin 128 → ℝ) :
    (Host.dotGeneral dot_S32x64x128_S32x128x128_S32x64x128_2_2_1_1_0_0 none (m3 (φ := .f32) x) (m3 (φ := .f32) y) : FVec Ideal S32x64x128 .f32)
      = m3 (φ := .f32) fun h => mm (x h) (tr (y h)) := by
  refine ext3 fun h i j => ?_; pointwise [m3, mm, tr]; exact sum_mul_coe _ _
theorem dot_tScores (x : Fin 32 → Fin 64 → Fin 64 → ℝ) (y : Fin 32 → Fin 64 → Fin 128 → ℝ) :
    (Host.dotGeneral dot_S32x64x64_S32x64x128_S32x64x128_1_1_2_2_0_0 none (m3 (φ := .f32) x) (m3 (φ := .f32) y) : FVec Ideal S32x64x128 .f32)
      = m3 (φ := .f32) fun h => mm (tr (x h)) (y h) := by
  refine ext3 fun h i j => ?_; pointwise [m3, mm, tr]; exact sum_mul_coe _ _

/-! ## Masks and selects -/

/-- The mask of the places on and below the diagonal, in every head. -/
def causal : IVec S32x64x64 1 := fun i => if (i 2 : Fin 64) ≤ (i 1 : Fin 64) then 1#1 else 0#1

theorem causal_eq {p : Fin S64x64.rank → Fin S32x64x64.rank} {q q' : Fin 2 → Fin 2} {r r' : Fin 1 → Fin 2}
    (hp : p = ![1, 2]) (hq : q = ![0, 1]) (hq' : q' = ![0, 1]) (hr : r = ![0]) (hr' : r' = ![1]) (h1 h2 h3 h4 h5) :
    broadcastInDim (s := S64x64) S32x64x64 p h1
      (cmpi .sge (broadcastInDim (s := S64x1) S64x64 q h2 (broadcastInDim (s := S64) S64x1 r h3 (iotaInDim S64 32 0)))
        (broadcastInDim (s := S1x64) S64x64 q' h4 (broadcastInDim (s := S64) S1x64 r' h5 (iotaInDim S64 32 0)))) = causal := by
  subst hp hq hq' hr hr'
  refine ext3 fun h i j => ?_; pointwise [causal]; exact word_sge i j

theorem select_causal (x y : Fin 32 → Fin 64 → Fin 64 → ℝ) :
    select causal (m3 (φ := .f32) x) (m3 y) = m3 (φ := .f32) fun h i j => if j ≤ i then x h i j else y h i j := by
  refine ext3 fun h i j => ?_; pointwise [m3, causal]; show Scalar.select (if j ≤ i then 1#1 else 0#1) _ _ = _; split <;> rfl

theorem select_gt (a b x y : Fin 32 → Fin 64 → Fin 64 → ℝ) :
    select (cmpf .ogt (m3 (φ := .f32) a) (m3 b)) (m3 (φ := .f32) x) (m3 y)
      = m3 (φ := .f32) fun h i j => if b h i j < a h i j then x h i j else y h i j := by
  refine ext3 fun h i j => ?_; pointwise [m3]; simp only [EReal.coe_lt_coe_iff, EReal.coe_eq_coe_iff]; split <;> rfl

theorem select_eq (a b x y : Fin 32 → Fin 64 → Fin 64 → ℝ) :
    select (cmpf .oeq (m3 (φ := .f32) a) (m3 b)) (m3 (φ := .f32) x) (m3 y)
      = m3 (φ := .f32) fun h i j => if a h i j = b h i j then x h i j else y h i j := by
  refine ext3 fun h i j => ?_; pointwise [m3]; simp only [EReal.coe_lt_coe_iff, EReal.coe_eq_coe_iff]; split <;> rfl

/-! ## One chunk out of all, and into all -/

/-- Chunk `n` put in place of the one there. -/
def put {α : Type} (x : Fin 128 → α) (n : Fin 128) (y : α) : Fin 128 → α := fun m => if m = n then y else x m

theorem getRow (n : Fin 128) {I : IVec S_ 32} (hI : I (Shape.Idx.first h_S_) = BitVec.ofNat 32 n.val) (x : Fin 128 → Fin 32 → Fin 64 → Fin 128 → ℝ) :
    (shapeCast S32x64x128 (Host.dynamicSlice S1x32x64x128 (m4 (φ := .f32) x) (fun k => ((![I, constantI S_ 32 0#32, constantI S_ 32 0#32, constantI S_ 32 0#32] : Fin 4 → IVec S_ 32) k (Shape.Idx.first h_S_)).toInt)
      sliceFits_S128x32x64x128_S1x32x64x128) shapeCasts_S1x32x64x128_S32x64x128 : FVec Ideal S32x64x128 .f32) = m3 (φ := .f32) (x n) := by
  refine (congrArg (fun y => shapeCast S32x64x128 y shapeCasts_S1x32x64x128_S32x64x128) (dynamicSlice_eq_extract (s := S128x32x64x128) S1x32x64x128 (m4 (φ := .f32) x) _
    sliceFits_S128x32x64x128_S1x32x64x128 (![n.val, 0, 0, 0] : Fin 4 → ℕ) ⟨rfl, fun a => by fin_cases a <;> simp⟩ fun a => by
    fin_cases a
    · exact (congrArg BitVec.toInt hI).trans (toInt_ofNat_of_lt (by omega))
    all_goals rfl)).trans ?_
  refine ext3 fun h i j => ?_; pointwise [m4, m3]

theorem putRow (n : Fin 128) {I : IVec S_ 32} (hI : I (Shape.Idx.first h_S_) = BitVec.ofNat 32 n.val) {p : Fin S32x64x128.rank → Fin S1x32x64x128.rank} (hp : p = ![1, 2, 3]) (hb)
    (x : Fin 128 → Fin 32 → Fin 64 → Fin 128 → ℝ) (y : Fin 32 → Fin 64 → Fin 128 → ℝ) :
    (Host.dynamicUpdateSlice (m4 (φ := .f32) x) (broadcastInDim (s := S32x64x128) S1x32x64x128 p hb (m3 (φ := .f32) y)) (fun k => ((![I, constantI S_ 32 0#32, constantI S_ 32 0#32, constantI S_ 32 0#32] : Fin 4 → IVec S_ 32) k (Shape.Idx.first h_S_)).toInt)
      updateFits_S128x32x64x128_S1x32x64x128 : FVec Ideal S128x32x64x128 .f32) = m4 (φ := .f32) (put x n y) := by
  subst hp
  refine (dynamicUpdateSlice_eq_update (s := S128x32x64x128) (u := S1x32x64x128) (m4 (φ := .f32) x) _ _
    updateFits_S128x32x64x128_S1x32x64x128 (![n.val, 0, 0, 0] : Fin 4 → ℕ) ⟨rfl, fun a => by fin_cases a <;> simp⟩ fun a => by
    fin_cases a
    · exact (congrArg BitVec.toInt hI).trans (toInt_ofNat_of_lt (by omega))
    all_goals rfl).trans ?_
  refine ext4 fun m h i j => ?_; pointwise [m4, m3, put]
  by_cases hm : m = n
  · subst hm; rw [dif_pos ⟨le_refl _, by omega⟩, if_pos rfl]
  · rw [if_neg hm, dif_neg (fun hc => hm (Fin.ext (by omega)))]

theorem getState (n : Fin 128) {I : IVec S_ 32} (hI : I (Shape.Idx.first h_S_) = BitVec.ofNat 32 n.val) (x : Fin 128 → Fin 32 → Fin 128 → Fin 128 → ℝ) :
    (shapeCast S32x128x128 (Host.dynamicSlice S1x32x128x128 (m4 (φ := .f32) x) (fun k => ((![I, constantI S_ 32 0#32, constantI S_ 32 0#32, constantI S_ 32 0#32] : Fin 4 → IVec S_ 32) k (Shape.Idx.first h_S_)).toInt)
      sliceFits_S128x32x128x128_S1x32x128x128) shapeCasts_S1x32x128x128_S32x128x128 : FVec Ideal S32x128x128 .f32) = m3 (φ := .f32) (x n) := by
  refine (congrArg (fun y => shapeCast S32x128x128 y shapeCasts_S1x32x128x128_S32x128x128) (dynamicSlice_eq_extract (s := S128x32x128x128) S1x32x128x128 (m4 (φ := .f32) x) _
    sliceFits_S128x32x128x128_S1x32x128x128 (![n.val, 0, 0, 0] : Fin 4 → ℕ) ⟨rfl, fun a => by fin_cases a <;> simp⟩ fun a => by
    fin_cases a
    · exact (congrArg BitVec.toInt hI).trans (toInt_ofNat_of_lt (by omega))
    all_goals rfl)).trans ?_
  refine ext3 fun h i j => ?_; pointwise [m4, m3]

theorem putState (n : Fin 128) {I : IVec S_ 32} (hI : I (Shape.Idx.first h_S_) = BitVec.ofNat 32 n.val) {p : Fin S32x128x128.rank → Fin S1x32x128x128.rank} (hp : p = ![1, 2, 3]) (hb)
    (x : Fin 128 → Fin 32 → Fin 128 → Fin 128 → ℝ) (y : Fin 32 → Fin 128 → Fin 128 → ℝ) :
    (Host.dynamicUpdateSlice (m4 (φ := .f32) x) (broadcastInDim (s := S32x128x128) S1x32x128x128 p hb (m3 (φ := .f32) y)) (fun k => ((![I, constantI S_ 32 0#32, constantI S_ 32 0#32, constantI S_ 32 0#32] : Fin 4 → IVec S_ 32) k (Shape.Idx.first h_S_)).toInt)
      updateFits_S128x32x128x128_S1x32x128x128 : FVec Ideal S128x32x128x128 .f32) = m4 (φ := .f32) (put x n y) := by
  subst hp
  refine (dynamicUpdateSlice_eq_update (s := S128x32x128x128) (u := S1x32x128x128) (m4 (φ := .f32) x) _ _
    updateFits_S128x32x128x128_S1x32x128x128 (![n.val, 0, 0, 0] : Fin 4 → ℕ) ⟨rfl, fun a => by fin_cases a <;> simp⟩ fun a => by
    fin_cases a
    · exact (congrArg BitVec.toInt hI).trans (toInt_ofNat_of_lt (by omega))
    all_goals rfl).trans ?_
  refine ext4 fun m h i j => ?_; pointwise [m4, m3, put]
  by_cases hm : m = n
  · subst hm; rw [dif_pos ⟨le_refl _, by omega⟩, if_pos rfl]
  · rw [if_neg hm, dif_neg (fun hc => hm (Fin.ext (by omega)))]

theorem getGate (n : Fin 128) {I : IVec S_ 32} (hI : I (Shape.Idx.first h_S_) = BitVec.ofNat 32 n.val) (x : Fin 128 → Fin 32 → Fin 64 → ℝ) :
    (shapeCast S32x64 (Host.dynamicSlice S1x32x64 (m3 (φ := .f32) x) (fun k => ((![I, constantI S_ 32 0#32, constantI S_ 32 0#32] : Fin 3 → IVec S_ 32) k (Shape.Idx.first h_S_)).toInt)
      sliceFits_S128x32x64_S1x32x64) shapeCasts_S1x32x64_S32x64 : FVec Ideal S32x64 .f32) = m2 (φ := .f32) (x n) := by
  refine (congrArg (fun y => shapeCast S32x64 y shapeCasts_S1x32x64_S32x64) (dynamicSlice_eq_extract (s := S128x32x64) S1x32x64 (m3 (φ := .f32) x) _
    sliceFits_S128x32x64_S1x32x64 (![n.val, 0, 0] : Fin 3 → ℕ) ⟨rfl, fun a => by fin_cases a <;> simp⟩ fun a => by
    fin_cases a
    · exact (congrArg BitVec.toInt hI).trans (toInt_ofNat_of_lt (by omega))
    all_goals rfl)).trans ?_
  refine ext2 fun h i => ?_; pointwise [m3, m2]

theorem putGate (n : Fin 128) {I : IVec S_ 32} (hI : I (Shape.Idx.first h_S_) = BitVec.ofNat 32 n.val) {p : Fin S32x64.rank → Fin S1x32x64.rank} (hp : p = ![1, 2]) (hb)
    (x : Fin 128 → Fin 32 → Fin 64 → ℝ) (y : Fin 32 → Fin 64 → ℝ) :
    (Host.dynamicUpdateSlice (m3 (φ := .f32) x) (broadcastInDim (s := S32x64) S1x32x64 p hb (m2 (φ := .f32) y)) (fun k => ((![I, constantI S_ 32 0#32, constantI S_ 32 0#32] : Fin 3 → IVec S_ 32) k (Shape.Idx.first h_S_)).toInt)
      updateFits_S128x32x64_S1x32x64 : FVec Ideal S128x32x64 .f32) = m3 (φ := .f32) (put x n y) := by
  subst hp
  refine (dynamicUpdateSlice_eq_update (s := S128x32x64) (u := S1x32x64) (m3 (φ := .f32) x) _ _
    updateFits_S128x32x64_S1x32x64 (![n.val, 0, 0] : Fin 3 → ℕ) ⟨rfl, fun a => by fin_cases a <;> simp⟩ fun a => by
    fin_cases a
    · exact (congrArg BitVec.toInt hI).trans (toInt_ofNat_of_lt (by omega))
    all_goals rfl).trans ?_
  refine ext3 fun m h i => ?_; pointwise [m3, m2, put]
  by_cases hm : m = n
  · subst hm; rw [dif_pos ⟨le_refl _, by omega⟩, if_pos rfl]
  · rw [if_neg hm, dif_neg (fun hc => hm (Fin.ext (by omega)))]

end Cert.ReferenceIdeal.Ops
-- ==== Proof.ChunkRef.lean ====
module

public import proofs.«01_k».proof.Proof.ChunkReal

@[expose] public section

noncomputable section

/-! # One chunk of the reference, over the real numbers

The same chunk as in the kernel, with the reference's order of operations: what a trip of the forward loop carries on, and
what a trip of the backward loop writes. -/

namespace Cert.Real

open scoped BigOperators

namespace Chunk

variable (C : Chunk) (D : Fin 128 → Fin 128 → ℝ)

/-- The state leaving the chunk. -/
def next : Fin 128 → Fin 128 → ℝ := fun i j => C.s i j * Real.exp (C.g 63) + mm (tr C.kd) C.v i j
/-- The cotangent of the values. -/
def rdu : Fin 64 → Fin 128 → ℝ := fun i j => mm C.kd D i j + C.qd i j
/-- The cotangent of the state entering the chunk. -/
def rstep : Fin 128 → Fin 128 → ℝ := fun i j =>
  D i j * Real.exp (C.g 63) + mm (tr C.d) C.qg j i + mm (tr fun i j => -C.rdu D i j) C.w j i
/-- The cotangent of `w`. -/
def rdw : Fin 64 → Fin 128 → ℝ := mm (fun i j => -C.rdu D i j) (tr C.s)
/-- The part of the gates' cotangent that comes through the scaled keys. -/
def rkd : Fin 64 → ℝ := fun i => (∑ j, C.k i j * C.dkd D i j) * Real.exp (C.g 63 - C.g i)
/-- The part of the gates' cotangent that comes through the scores: the slope of a minimum with zero is one below zero,
    a half at zero and zero above. -/
def re : Fin 64 → Fin 64 → ℝ := fun i j =>
  (if j ≤ i then mm C.q (tr C.k) i j * C.dqk i j else 0) * Real.exp (min (C.g i - C.g j) 0)
    * (if C.g i - C.g j < 0 then 1 else if 0 = C.g i - C.g j then 1 / 2 else 0)
/-- The cotangent of the log-gates. -/
def rdg : Fin 64 → ℝ := fun i =>
  -C.rkd D i + (∑ j, C.q i j * C.dqg i j) * Real.exp (C.g i)
    + (if i = 63 then (∑ i, ∑ j, C.s i j * D i j) * Real.exp (C.g 63) + ∑ i, C.rkd D i else 0)
    + (∑ j, -C.re j i) + ∑ j, C.re i j

end Chunk

end Cert.Real
-- ==== Proof.RefBody.lean ====
module

public import proofs.«01_k».proof.Proof.RefRun
public import proofs.«01_k».proof.Proof.RefArr
public import proofs.«01_k».proof.Proof.ChunkRef
public import Idealize.ShloMosaic.Lib.StableHlo.RunClose
public import Mathlib.Tactic.DefEqTransformations

@[expose] public section

set_option maxRecDepth 4000

noncomputable section

/-! # A trip of the reference's loops, on arrays of real numbers -/

namespace Cert.ReferenceIdeal.Ops

open Idealize.ShloMosaic Idealize.ShloMosaic.StableHlo Cert.Real
open Facts₀ Facts

/-! ## The types of the buffers that are reshaped -/

theorem ty_v0 : main_v0.ty = ⟨S8192x2048, .f32⟩ := rfl
theorem ty_v1 : main_v1.ty = ⟨S8192x16x128, .f32⟩ := rfl
theorem ty_v2 : main_v2.ty = ⟨S8192x16x2x128, .f32⟩ := rfl
theorem ty_v3 : main_v3.ty = ⟨S8192x32x128, .f32⟩ := rfl
theorem ty_v4 : main_v4.ty = ⟨S8192x2048, .f32⟩ := rfl
theorem ty_v5 : main_v5.ty = ⟨S8192x16x128, .f32⟩ := rfl
theorem ty_v6 : main_v6.ty = ⟨S8192x16x2x128, .f32⟩ := rfl
theorem ty_v7 : main_v7.ty = ⟨S8192x32x128, .f32⟩ := rfl
theorem ty_v8 : main_v8.ty = ⟨S128x64x32x128, .f32⟩ := rfl
theorem ty_v10 : main_v10.ty = ⟨S128x64x32x128, .f32⟩ := rfl
theorem ty_arg2 : main_arg2.ty = ⟨S8192x4096, .f32⟩ := rfl
theorem ty_v12 : main_v12.ty = ⟨S128x64x32x128, .f32⟩ := rfl
theorem ty_arg3 : main_arg3.ty = ⟨S8192x4096, .f32⟩ := rfl
theorem ty_v14 : main_v14.ty = ⟨S128x64x32x128, .f32⟩ := rfl
theorem ty_arg4 : main_arg4.ty = ⟨S8192x32, .f32⟩ := rfl
theorem ty_v16 : main_v16.ty = ⟨S128x64x32, .f32⟩ := rfl
theorem ty_v30 : main_v30.ty = ⟨S128x64x32x128, .f32⟩ := rfl
theorem ty_v31 : main_v31.ty = ⟨S8192x4096, .f32⟩ := rfl
theorem ty_arg0 : main_arg0.ty = ⟨S8192x4096, .f32⟩ := rfl
theorem ty_v33 : main_v33.ty = ⟨S128x64x32x128, .f32⟩ := rfl
theorem ty_v42 : main_v42.ty = ⟨S128x64x32, .f32⟩ := rfl
theorem ty_v43 : main_v43.ty = ⟨S8192x32, .f32⟩ := rfl
theorem ty_v44 : main_v44.ty = ⟨S128x64x32x128, .f32⟩ := rfl
theorem ty_v45 : main_v45.ty = ⟨S8192x4096, .f32⟩ := rfl
theorem ty_v46 : main_v46.ty = ⟨S128x64x32x128, .f32⟩ := rfl
theorem ty_v47 : main_v47.ty = ⟨S8192x4096, .f32⟩ := rfl
theorem ty_v48 : main_v48.ty = ⟨S128x64x32x128, .f32⟩ := rfl
theorem ty_v49 : main_v49.ty = ⟨S8192x32x128, .f32⟩ := rfl
theorem ty_v50 : main_v50.ty = ⟨S128x64x32x128, .f32⟩ := rfl
theorem ty_v51 : main_v51.ty = ⟨S8192x32x128, .f32⟩ := rfl
theorem ty_v52 : main_v52.ty = ⟨S8192x4096, .f32⟩ := rfl
theorem ty_v53 : main_v53.ty = ⟨S8192x4096, .f32⟩ := rfl
theorem ty_v54 : main_v54.ty = ⟨S8192x32x128, .f32⟩ := rfl
theorem ty_v55 : main_v55.ty = ⟨S8192x4096, .f32⟩ := rfl
theorem ty_av73 : main_while0b_v73.ty = ⟨S32x1, .f32⟩ := rfl
theorem ty_av74 : main_while0b_v74.ty = ⟨S32, .f32⟩ := rfl
theorem ty_bv92 : main_while1b_v92.ty = ⟨S32x1, .f32⟩ := rfl
theorem ty_bv93 : main_while1b_v93.ty = ⟨S32, .f32⟩ := rfl
theorem ty_bv114 : main_while1b_v114.ty = ⟨S32, .f32⟩ := rfl
theorem ty_bv115 : main_while1b_v115.ty = ⟨S32x1x1, .f32⟩ := rfl
theorem ty_bv134 : main_while1b_v134.ty = ⟨S32x64, .f32⟩ := rfl
theorem ty_bv135 : main_while1b_v135.ty = ⟨S32x64x1, .f32⟩ := rfl
theorem ty_bv140 : main_while1b_v140.ty = ⟨S32, .f32⟩ := rfl
theorem ty_bv141 : main_while1b_v141.ty = ⟨S32x1, .f32⟩ := rfl
theorem ty_bv146 : main_while1b_v146.ty = ⟨S32x64, .f32⟩ := rfl
theorem ty_bv147 : main_while1b_v147.ty = ⟨S32x64x1, .f32⟩ := rfl
theorem ty_bv166 : main_while1b_v166.ty = ⟨S32x64, .f32⟩ := rfl
theorem ty_bv167 : main_while1b_v167.ty = ⟨S32x64x1, .f32⟩ := rfl
theorem ty_bv169 : main_while1b_v169.ty = ⟨S32x64, .f32⟩ := rfl
theorem ty_bv170 : main_while1b_v170.ty = ⟨S32x1x64, .f32⟩ := rfl
theorem ty_bv58 : main_while1b_v58.ty = ⟨S32x64x128, .f32⟩ := rfl
theorem ty_bv59 : main_while1b_v59.ty = ⟨S32x128x128, .f32⟩ := rfl
theorem ty_bv60 : main_while1b_v60.ty = ⟨S32x64x128, .f32⟩ := rfl
theorem ty_bv61 : main_while1b_v61.ty = ⟨S32x64x128, .f32⟩ := rfl
theorem ty_bv62 : main_while1b_v62.ty = ⟨S32x64x128, .f32⟩ := rfl
theorem ty_bv63 : main_while1b_v63.ty = ⟨S32x64x128, .f32⟩ := rfl
theorem ty_bv64 : main_while1b_v64.ty = ⟨S32x64, .f32⟩ := rfl
theorem ty_av56 : main_while0b_v56.ty = ⟨S32x64x128, .f32⟩ := rfl
theorem ty_av57 : main_while0b_v57.ty = ⟨S32x64x128, .f32⟩ := rfl
theorem ty_av58 : main_while0b_v58.ty = ⟨S32x64x128, .f32⟩ := rfl
theorem ty_av59 : main_while0b_v59.ty = ⟨S32x64x128, .f32⟩ := rfl
theorem ty_av60 : main_while0b_v60.ty = ⟨S32x64, .f32⟩ := rfl

/-! ## The backward loop -/

/-- Arrays by chunk and head. -/
abbrev Rows := Fin 128 → Fin 32 → Fin 64 → Fin 128 → ℝ
abbrev Gates := Fin 128 → Fin 32 → Fin 64 → ℝ
abbrev States := Fin 128 → Fin 32 → Fin 128 → Fin 128 → ℝ

/-- What the backward loop reads in every trip. -/
structure Saved where
  d : Rows
  s : States
  q : Rows
  k : Rows
  u : Rows
  w : Rows
  g : Gates

/-- Chunk `n` of head `h`. -/
def Saved.chunk (x : Saved) (n : Fin 128) (h : Fin 32) : Chunk where
  d := x.d n h
  q := x.q n h
  k := x.k n h
  w := x.w n h
  v := fun i j => x.u n h i j - mm (x.w n h) (x.s n h) i j
  g := x.g n h
  s := x.s n h

/-- The buffers that the backward loop only reads hold `x`. -/
structure Reads (V : Valuation τ sig (Elt Ideal)) (x : Saved) : Prop where
  d : V (Proc.devRef .tc main_v41_0) = m4 (φ := .f32) x.d
  s : V (Proc.devRef .tc main_v41_1) = m4 (φ := .f32) x.s
  q : V (Proc.devRef .tc main_v41_2) = m4 (φ := .f32) x.q
  k : V (Proc.devRef .tc main_v41_3) = m4 (φ := .f32) x.k
  u : V (Proc.devRef .tc main_v41_4) = m4 (φ := .f32) x.u
  w : V (Proc.devRef .tc main_v41_5) = m4 (φ := .f32) x.w
  g : V (Proc.devRef .tc main_v41_6) = m3 (φ := .f32) x.g

/-- The trip's counter read as a chunk's number. -/
def At (V : Valuation τ sig (Elt Ideal)) (n : Fin 128) : Prop :=
  (subi (subi (constantI S_ 32 128#32) (V (Proc.devRef .tc main_v41_7))) (constantI S_ 32 1#32) : IVec S_ 32) (Shape.Idx.first h_S_)
    = BitVec.ofNat 32 n.val

set_option maxHeartbeats 4000000 in
/-- The cotangent of `u`, the trip's chunk put in. -/
theorem bwd_du {V : Valuation τ sig (Elt Ideal)} {x : Saved} {n : Fin 128} (R : Reads V x) (hI : At V n) {D : Fin 32 → Fin 128 → Fin 128 → ℝ} (hD : V (Proc.devRef .tc main_v41_8) = m3 (φ := .f32) D) {y : Rows} (hy : V (Proc.devRef .tc main_v41_11) = m4 (φ := .f32) y) :
    afterL (bwdI (F := Ideal)) V (Proc.devRef .tc main_v41_11) = m4 (φ := .f32) (put y n fun h => (x.chunk n h).rdu (D h)) := by
  unfold At at hI
  simp only [afterL_cons, afterL_nil]
  unfold bwdc2 bwdc1 bwdc0 bwdb0 bwda3 bwda2 bwda1 bwda0
  after_reads_simp [unaryIndexed_result_read, binaryIndexed_result_read, indexContents_tref_cons, indexContents_tref_empty]
  simp only [R.d, R.s, R.q, R.k, R.u, R.w, R.g, hD, hy, TRef.ofBuf, TRef.toBuf, dropContentsCast, id_eq]
  dsimp only [ty_bv92, ty_bv93, ty_bv114, ty_bv115, ty_bv134, ty_bv135, ty_bv140, ty_bv141, ty_bv146, ty_bv147, ty_bv166, ty_bv167, ty_bv169, ty_bv170, ty_bv58, ty_bv59, ty_bv60, ty_bv61, ty_bv62, ty_bv63, ty_bv64]
  eta_reduce
  simp only [getRow n hI, getState n hI, getGate n hI, putRow n hI, putState n hI, putGate n hI,
    mulf_m1, addf_m1, subf_m1, mulf_m2, addf_m2, subf_m2, mulf_m3, addf_m3, subf_m3, exp_m1', exp_m2', exp_m3', negf_m1, negf_m2, negf_m3, minimumf_m3,
    zero_m3, one_m3, half_m3, zero128_m3, colOf_m2, rowOf_m2, spreadCol64_m3, spreadRow64_m3, spreadCol_m3, head_m1, head3_m1, spreadHead_m2, spreadHead_m3,
    last_m2, cast_S32x1, cast_S32, cast3_S32, castCol_S32x64, castRow_S32x64, tr_rows, tr_state, sumState, sumOne3, sumRow, sumRow64, sumCol64,
    sumOneCol, sumOneRow, sumGate, sumOne, pad_last, dot_nt, dot_state, dot_scores, dot_tn, dot_stateRows, dot_stateRows2, dot_tnScores, dot_ntState,
    dot_tScores, causal_eq, select_causal, select_gt, select_eq]
  rfl

set_option maxHeartbeats 4000000 in
/-- The cotangent of the state entering the chunk. -/
theorem bwd_state {V : Valuation τ sig (Elt Ideal)} {x : Saved} {n : Fin 128} (R : Reads V x) (hI : At V n) {D : Fin 32 → Fin 128 → Fin 128 → ℝ} (hD : V (Proc.devRef .tc main_v41_8) = m3 (φ := .f32) D) :
    afterL (bwdI (F := Ideal)) V (Proc.devRef .tc main_v41_8) = m3 (φ := .f32) fun h => (x.chunk n h).rstep (D h) := by
  unfold At at hI
  simp only [afterL_cons, afterL_nil]
  unfold bwdc2 bwdc1 bwdc0 bwdb0 bwda3 bwda2 bwda1 bwda0
  after_reads_simp [unaryIndexed_result_read, binaryIndexed_result_read, indexContents_tref_cons, indexContents_tref_empty]
  simp only [R.d, R.s, R.q, R.k, R.u, R.w, R.g, hD, TRef.ofBuf, TRef.toBuf, dropContentsCast, id_eq]
  dsimp only [ty_bv92, ty_bv93, ty_bv114, ty_bv115, ty_bv134, ty_bv135, ty_bv140, ty_bv141, ty_bv146, ty_bv147, ty_bv166, ty_bv167, ty_bv169, ty_bv170, ty_bv58, ty_bv59, ty_bv60, ty_bv61, ty_bv62, ty_bv63, ty_bv64]
  eta_reduce
  simp only [getRow n hI, getState n hI, getGate n hI, putRow n hI, putState n hI, putGate n hI,
    mulf_m1, addf_m1, subf_m1, mulf_m2, addf_m2, subf_m2, mulf_m3, addf_m3, subf_m3, exp_m1', exp_m2', exp_m3', negf_m1, negf_m2, negf_m3, minimumf_m3,
    zero_m3, one_m3, half_m3, zero128_m3, colOf_m2, rowOf_m2, spreadCol64_m3, spreadRow64_m3, spreadCol_m3, head_m1, head3_m1, spreadHead_m2, spreadHead_m3,
    last_m2, cast_S32x1, cast_S32, cast3_S32, castCol_S32x64, castRow_S32x64, tr_rows, tr_state, sumState, sumOne3, sumRow, sumRow64, sumCol64,
    sumOneCol, sumOneRow, sumGate, sumOne, pad_last, dot_nt, dot_state, dot_scores, dot_tn, dot_stateRows, dot_stateRows2, dot_tnScores, dot_ntState,
    dot_tScores, causal_eq, select_causal, select_gt, select_eq]
  rfl

set_option maxHeartbeats 4000000 in
/-- The cotangent of `w`, the trip's chunk put in. -/
theorem bwd_dw {V : Valuation τ sig (Elt Ideal)} {x : Saved} {n : Fin 128} (R : Reads V x) (hI : At V n) {D : Fin 32 → Fin 128 → Fin 128 → ℝ} (hD : V (Proc.devRef .tc main_v41_8) = m3 (φ := .f32) D) {y : Rows} (hy : V (Proc.devRef .tc main_v41_12) = m4 (φ := .f32) y) :
    afterL (bwdI (F := Ideal)) V (Proc.devRef .tc main_v41_12) = m4 (φ := .f32) (put y n fun h => (x.chunk n h).rdw (D h)) := by
  unfold At at hI
  simp only [afterL_cons, afterL_nil]
  unfold bwdc2 bwdc1 bwdc0 bwdb0 bwda3 bwda2 bwda1 bwda0
  after_reads_simp [unaryIndexed_result_read, binaryIndexed_result_read, indexContents_tref_cons, indexContents_tref_empty]
  simp only [R.d, R.s, R.q, R.k, R.u, R.w, R.g, hD, hy, TRef.ofBuf, TRef.toBuf, dropContentsCast, id_eq]
  dsimp only [ty_bv92, ty_bv93, ty_bv114, ty_bv115, ty_bv134, ty_bv135, ty_bv140, ty_bv141, ty_bv146, ty_bv147, ty_bv166, ty_bv167, ty_bv169, ty_bv170, ty_bv58, ty_bv59, ty_bv60, ty_bv61, ty_bv62, ty_bv63, ty_bv64]
  eta_reduce
  simp only [getRow n hI, getState n hI, getGate n hI, putRow n hI, putState n hI, putGate n hI,
    mulf_m1, addf_m1, subf_m1, mulf_m2, addf_m2, subf_m2, mulf_m3, addf_m3, subf_m3, exp_m1', exp_m2', exp_m3', negf_m1, negf_m2, negf_m3, minimumf_m3,
    zero_m3, one_m3, half_m3, zero128_m3, colOf_m2, rowOf_m2, spreadCol64_m3, spreadRow64_m3, spreadCol_m3, head_m1, head3_m1, spreadHead_m2, spreadHead_m3,
    last_m2, cast_S32x1, cast_S32, cast3_S32, castCol_S32x64, castRow_S32x64, tr_rows, tr_state, sumState, sumOne3, sumRow, sumRow64, sumCol64,
    sumOneCol, sumOneRow, sumGate, sumOne, pad_last, dot_nt, dot_state, dot_scores, dot_tn, dot_stateRows, dot_stateRows2, dot_tnScores, dot_ntState,
    dot_tScores, causal_eq, select_causal, select_gt, select_eq]
  rfl

set_option maxHeartbeats 4000000 in
/-- The cotangent of the queries, the trip's chunk put in. -/
theorem bwd_dq {V : Valuation τ sig (Elt Ideal)} {x : Saved} {n : Fin 128} (R : Reads V x) (hI : At V n) {D : Fin 32 → Fin 128 → Fin 128 → ℝ} (hD : V (Proc.devRef .tc main_v41_8) = m3 (φ := .f32) D) {y : Rows} (hy : V (Proc.devRef .tc main_v41_9) = m4 (φ := .f32) y) :
    afterL (bwdI (F := Ideal)) V (Proc.devRef .tc main_v41_9) = m4 (φ := .f32) (put y n fun h => (x.chunk n h).dq) := by
  unfold At at hI
  simp only [afterL_cons, afterL_nil]
  unfold bwdc2 bwdc1 bwdc0 bwdb0 bwda3 bwda2 bwda1 bwda0
  after_reads_simp [unaryIndexed_result_read, binaryIndexed_result_read, indexContents_tref_cons, indexContents_tref_empty]
  simp only [R.d, R.s, R.q, R.k, R.u, R.w, R.g, hD, hy, TRef.ofBuf, TRef.toBuf, dropContentsCast, id_eq]
  dsimp only [ty_bv92, ty_bv93, ty_bv114, ty_bv115, ty_bv134, ty_bv135, ty_bv140, ty_bv141, ty_bv146, ty_bv147, ty_bv166, ty_bv167, ty_bv169, ty_bv170, ty_bv58, ty_bv59, ty_bv60, ty_bv61, ty_bv62, ty_bv63, ty_bv64]
  eta_reduce
  simp only [getRow n hI, getState n hI, getGate n hI, putRow n hI, putState n hI, putGate n hI,
    mulf_m1, addf_m1, subf_m1, mulf_m2, addf_m2, subf_m2, mulf_m3, addf_m3, subf_m3, exp_m1', exp_m2', exp_m3', negf_m1, negf_m2, negf_m3, minimumf_m3,
    zero_m3, one_m3, half_m3, zero128_m3, colOf_m2, rowOf_m2, spreadCol64_m3, spreadRow64_m3, spreadCol_m3, head_m1, head3_m1, spreadHead_m2, spreadHead_m3,
    last_m2, cast_S32x1, cast_S32, cast3_S32, castCol_S32x64, castRow_S32x64, tr_rows, tr_state, sumState, sumOne3, sumRow, sumRow64, sumCol64,
    sumOneCol, sumOneRow, sumGate, sumOne, pad_last, dot_nt, dot_state, dot_scores, dot_tn, dot_stateRows, dot_stateRows2, dot_tnScores, dot_ntState,
    dot_tScores, causal_eq, select_causal, select_gt, select_eq]
  rfl

set_option maxHeartbeats 4000000 in
/-- The cotangent of the keys, the trip's chunk put in. -/
theorem bwd_dk {V : Valuation τ sig (Elt Ideal)} {x : Saved} {n : Fin 128} (R : Reads V x) (hI : At V n) {D : Fin 32 → Fin 128 → Fin 128 → ℝ} (hD : V (Proc.devRef .tc main_v41_8) = m3 (φ := .f32) D) {y : Rows} (hy : V (Proc.devRef .tc main_v41_10) = m4 (φ := .f32) y) :
    afterL (bwdI (F := Ideal)) V (Proc.devRef .tc main_v41_10) = m4 (φ := .f32) (put y n fun h => (x.chunk n h).dk (D h)) := by
  unfold At at hI
  simp only [afterL_cons, afterL_nil]
  unfold bwdc2 bwdc1 bwdc0 bwdb0 bwda3 bwda2 bwda1 bwda0
  after_reads_simp [unaryIndexed_result_read, binaryIndexed_result_read, indexContents_tref_cons, indexContents_tref_empty]
  simp only [R.d, R.s, R.q, R.k, R.u, R.w, R.g, hD, hy, TRef.ofBuf, TRef.toBuf, dropContentsCast, id_eq]
  dsimp only [ty_bv92, ty_bv93, ty_bv114, ty_bv115, ty_bv134, ty_bv135, ty_bv140, ty_bv141, ty_bv146, ty_bv147, ty_bv166, ty_bv167, ty_bv169, ty_bv170, ty_bv58, ty_bv59, ty_bv60, ty_bv61, ty_bv62, ty_bv63, ty_bv64]
  eta_reduce
  simp only [getRow n hI, getState n hI, getGate n hI, putRow n hI, putState n hI, putGate n hI,
    mulf_m1, addf_m1, subf_m1, mulf_m2, addf_m2, subf_m2, mulf_m3, addf_m3, subf_m3, exp_m1', exp_m2', exp_m3', negf_m1, negf_m2, negf_m3, minimumf_m3,
    zero_m3, one_m3, half_m3, zero128_m3, colOf_m2, rowOf_m2, spreadCol64_m3, spreadRow64_m3, spreadCol_m3, head_m1, head3_m1, spreadHead_m2, spreadHead_m3,
    last_m2, cast_S32x1, cast_S32, cast3_S32, castCol_S32x64, castRow_S32x64, tr_rows, tr_state, sumState, sumOne3, sumRow, sumRow64, sumCol64,
    sumOneCol, sumOneRow, sumGate, sumOne, pad_last, dot_nt, dot_state, dot_scores, dot_tn, dot_stateRows, dot_stateRows2, dot_tnScores, dot_ntState,
    dot_tScores, causal_eq, select_causal, select_gt, select_eq]
  rfl

set_option maxHeartbeats 4000000 in
/-- The cotangent of the log-gates, the trip's chunk put in. -/
theorem bwd_dg {V : Valuation τ sig (Elt Ideal)} {x : Saved} {n : Fin 128} (R : Reads V x) (hI : At V n) {D : Fin 32 → Fin 128 → Fin 128 → ℝ} (hD : V (Proc.devRef .tc main_v41_8) = m3 (φ := .f32) D) {y : Gates} (hy : V (Proc.devRef .tc main_v41_13) = m3 (φ := .f32) y) :
    afterL (bwdI (F := Ideal)) V (Proc.devRef .tc main_v41_13) = m3 (φ := .f32) (put y n fun h => (x.chunk n h).rdg (D h)) := by
  unfold At at hI
  simp only [afterL_cons, afterL_nil]
  unfold bwdc2 bwdc1 bwdc0 bwdb0 bwda3 bwda2 bwda1 bwda0
  after_reads_simp [unaryIndexed_result_read, binaryIndexed_result_read, indexContents_tref_cons, indexContents_tref_empty]
  simp only [R.d, R.s, R.q, R.k, R.u, R.w, R.g, hD, hy, TRef.ofBuf, TRef.toBuf, dropContentsCast, id_eq]
  dsimp only [ty_bv92, ty_bv93, ty_bv114, ty_bv115, ty_bv134, ty_bv135, ty_bv140, ty_bv141, ty_bv146, ty_bv147, ty_bv166, ty_bv167, ty_bv169, ty_bv170, ty_bv58, ty_bv59, ty_bv60, ty_bv61, ty_bv62, ty_bv63, ty_bv64]
  eta_reduce
  simp only [getRow n hI, getState n hI, getGate n hI, putRow n hI, putState n hI, putGate n hI,
    mulf_m1, addf_m1, subf_m1, mulf_m2, addf_m2, subf_m2, mulf_m3, addf_m3, subf_m3, exp_m1', exp_m2', exp_m3', negf_m1, negf_m2, negf_m3, minimumf_m3,
    zero_m3, one_m3, half_m3, zero128_m3, colOf_m2, rowOf_m2, spreadCol64_m3, spreadRow64_m3, spreadCol_m3, head_m1, head3_m1, spreadHead_m2, spreadHead_m3,
    last_m2, cast_S32x1, cast_S32, cast3_S32, castCol_S32x64, castRow_S32x64, tr_rows, tr_state, sumState, sumOne3, sumRow, sumRow64, sumCol64,
    sumOneCol, sumOneRow, sumGate, sumOne, pad_last, dot_nt, dot_state, dot_scores, dot_tn, dot_stateRows, dot_stateRows2, dot_tnScores, dot_ntState,
    dot_tScores, causal_eq, select_causal, select_gt, select_eq]
  rfl

end Cert.ReferenceIdeal.Ops
-- ==== Proof.RefFwd.lean ====
module

public import proofs.«01_k».proof.Proof.RefBody

@[expose] public section

set_option maxRecDepth 4000

noncomputable section

/-! # A trip of the reference's forward loop, and what the two loops leave alone -/

namespace Cert.ReferenceIdeal.Ops

open Idealize.ShloMosaic Idealize.ShloMosaic.StableHlo Cert.Real
open Facts₀ Facts

/-- The buffers that the forward loop only reads hold `x`. -/
structure Takes (V : Valuation τ sig (Elt Ideal)) (x : Saved) : Prop where
  q : V (Proc.devRef .tc main_v29_0) = m4 (φ := .f32) x.q
  k : V (Proc.devRef .tc main_v29_1) = m4 (φ := .f32) x.k
  u : V (Proc.devRef .tc main_v29_2) = m4 (φ := .f32) x.u
  w : V (Proc.devRef .tc main_v29_3) = m4 (φ := .f32) x.w
  g : V (Proc.devRef .tc main_v29_4) = m3 (φ := .f32) x.g

/-- The trip's counter is a chunk's number. -/
def FAt (V : Valuation τ sig (Elt Ideal)) (n : Fin 128) : Prop :=
  (V (Proc.devRef .tc main_v29_9) : IVec S_ 32) (Shape.Idx.first h_S_) = BitVec.ofNat 32 n.val

set_option maxHeartbeats 4000000 in
/-- The state leaving the chunk is carried on. -/
theorem fwd_state {V : Valuation τ sig (Elt Ideal)} {x : Saved} {n : Fin 128} (R : Takes V x) (hI : FAt V n)
    (hs : V (Proc.devRef .tc main_v29_10) = m3 (φ := .f32) (x.s n)) :
    afterL (fwdI (F := Ideal)) V (Proc.devRef .tc main_v29_10) = m3 (φ := .f32) fun h => (x.chunk n h).next := by
  unfold FAt at hI
  simp only [afterL_cons, afterL_nil]
  unfold fwd3 fwd2 fwd1 fwd0
  after_reads_simp [unaryIndexed_result_read, binaryIndexed_result_read, indexContents_tref_cons, indexContents_tref_empty]
  simp only [R.q, R.k, R.u, R.w, R.g, hs, TRef.ofBuf, TRef.toBuf, dropContentsCast, id_eq]
  dsimp only [ty_av73, ty_av74, ty_av56, ty_av57, ty_av58, ty_av59, ty_av60]
  eta_reduce
  simp only [getRow n hI, getState n hI, getGate n hI, putRow n hI, putState n hI, putGate n hI,
    mulf_m1, addf_m1, subf_m1, mulf_m2, addf_m2, subf_m2, mulf_m3, addf_m3, subf_m3, exp_m1', exp_m2', exp_m3', minimumf_m3,
    zero_m3, colOf_m2, rowOf_m2, spreadCol64_m3, spreadRow64_m3, spreadCol_m3, head_m1, head3_m1, spreadHead_m2, spreadHead_m3,
    last_m2, cast_S32x1, dot_nt, dot_state, dot_scores, dot_tn, select_causal]
  rfl

set_option maxHeartbeats 4000000 in
/-- The state entering the chunk is saved. -/
theorem fwd_stack {V : Valuation τ sig (Elt Ideal)} {x : Saved} {n : Fin 128} (R : Takes V x) (hI : FAt V n)
    (hs : V (Proc.devRef .tc main_v29_10) = m3 (φ := .f32) (x.s n)) {y : States} (hy : V (Proc.devRef .tc main_v29_12) = m4 (φ := .f32) y) :
    afterL (fwdI (F := Ideal)) V (Proc.devRef .tc main_v29_12) = m4 (φ := .f32) (put y n (x.s n)) := by
  unfold FAt at hI
  simp only [afterL_cons, afterL_nil]
  unfold fwd3 fwd2 fwd1 fwd0
  after_reads_simp [unaryIndexed_result_read, binaryIndexed_result_read, indexContents_tref_cons, indexContents_tref_empty]
  simp only [R.q, R.k, R.u, R.w, R.g, hs, hy, TRef.ofBuf, TRef.toBuf, dropContentsCast, id_eq]
  simp only [putState n hI]

set_option maxHeartbeats 4000000 in
/-- A trip of the forward loop leaves the arguments alone. -/
theorem fwd_args {F : FTy → Type} [FloatOps F] (V : Valuation τ sig (Elt F)) :
    afterL (fwdI (F := F)) V (Proc.devRef .tc main_arg0) = V (Proc.devRef .tc main_arg0) ∧
    afterL (fwdI (F := F)) V (Proc.devRef .tc main_arg1) = V (Proc.devRef .tc main_arg1) ∧
    afterL (fwdI (F := F)) V (Proc.devRef .tc main_arg2) = V (Proc.devRef .tc main_arg2) ∧
    afterL (fwdI (F := F)) V (Proc.devRef .tc main_arg3) = V (Proc.devRef .tc main_arg3) ∧
    afterL (fwdI (F := F)) V (Proc.devRef .tc main_arg4) = V (Proc.devRef .tc main_arg4) ∧
    afterL (fwdI (F := F)) V (Proc.devRef .tc main_arg5) = V (Proc.devRef .tc main_arg5) ∧
    afterL (fwdI (F := F)) V (Proc.devRef .tc main_arg6) = V (Proc.devRef .tc main_arg6) := by
  simp only [afterL_cons, afterL_nil]
  unfold fwd3 fwd2 fwd1 fwd0
  refine ⟨?_, ?_, ?_, ?_, ?_, ?_, ?_⟩ <;> after_reads_simp

set_option maxHeartbeats 4000000 in
/-- A trip of the backward loop leaves the arguments alone. -/
theorem bwd_args {F : FTy → Type} [FloatOps F] (V : Valuation τ sig (Elt F)) :
    afterL (bwdI (F := F)) V (Proc.devRef .tc main_arg0) = V (Proc.devRef .tc main_arg0) ∧
    afterL (bwdI (F := F)) V (Proc.devRef .tc main_arg1) = V (Proc.devRef .tc main_arg1) ∧
    afterL (bwdI (F := F)) V (Proc.devRef .tc main_arg2) = V (Proc.devRef .tc main_arg2) ∧
    afterL (bwdI (F := F)) V (Proc.devRef .tc main_arg3) = V (Proc.devRef .tc main_arg3) ∧
    afterL (bwdI (F := F)) V (Proc.devRef .tc main_arg4) = V (Proc.devRef .tc main_arg4) ∧
    afterL (bwdI (F := F)) V (Proc.devRef .tc main_arg5) = V (Proc.devRef .tc main_arg5) ∧
    afterL (bwdI (F := F)) V (Proc.devRef .tc main_arg6) = V (Proc.devRef .tc main_arg6) := by
  simp only [afterL_cons, afterL_nil]
  unfold bwdc2 bwdc1 bwdc0 bwdb0 bwda3 bwda2 bwda1 bwda0
  refine ⟨?_, ?_, ?_, ?_, ?_, ?_, ?_⟩ <;> after_reads_simp

set_option maxHeartbeats 4000000 in
/-- A trip of the forward loop leaves what it only reads alone, -/
theorem fwd_taken {F : FTy → Type} [FloatOps F] (V : Valuation τ sig (Elt F)) :
    afterL (fwdI (F := F)) V (Proc.devRef .tc main_v29_0) = V (Proc.devRef .tc main_v29_0) ∧
    afterL (fwdI (F := F)) V (Proc.devRef .tc main_v29_1) = V (Proc.devRef .tc main_v29_1) ∧
    afterL (fwdI (F := F)) V (Proc.devRef .tc main_v29_2) = V (Proc.devRef .tc main_v29_2) ∧
    afterL (fwdI (F := F)) V (Proc.devRef .tc main_v29_3) = V (Proc.devRef .tc main_v29_3) ∧
    afterL (fwdI (F := F)) V (Proc.devRef .tc main_v29_4) = V (Proc.devRef .tc main_v29_4) := by
  simp only [afterL_cons, afterL_nil]
  unfold fwd3 fwd2 fwd1 fwd0
  refine ⟨?_, ?_, ?_, ?_, ?_⟩ <;> after_reads_simp

set_option maxHeartbeats 4000000 in
/-- and what is read after it. -/
theorem fwd_laid {F : FTy → Type} [FloatOps F] (V : Valuation τ sig (Elt F)) :
    afterL (fwdI (F := F)) V (Proc.devRef .tc main_v9) = V (Proc.devRef .tc main_v9) ∧
    afterL (fwdI (F := F)) V (Proc.devRef .tc main_v11) = V (Proc.devRef .tc main_v11) ∧
    afterL (fwdI (F := F)) V (Proc.devRef .tc main_v13) = V (Proc.devRef .tc main_v13) ∧
    afterL (fwdI (F := F)) V (Proc.devRef .tc main_v15) = V (Proc.devRef .tc main_v15) ∧
    afterL (fwdI (F := F)) V (Proc.devRef .tc main_v17) = V (Proc.devRef .tc main_v17) := by
  simp only [afterL_cons, afterL_nil]
  unfold fwd3 fwd2 fwd1 fwd0
  refine ⟨?_, ?_, ?_, ?_, ?_⟩ <;> after_reads_simp

set_option maxHeartbeats 4000000 in
/-- A trip of the backward loop leaves what it only reads alone. -/
theorem bwd_taken {F : FTy → Type} [FloatOps F] (V : Valuation τ sig (Elt F)) :
    afterL (bwdI (F := F)) V (Proc.devRef .tc main_v41_0) = V (Proc.devRef .tc main_v41_0) ∧
    afterL (bwdI (F := F)) V (Proc.devRef .tc main_v41_1) = V (Proc.devRef .tc main_v41_1) ∧
    afterL (bwdI (F := F)) V (Proc.devRef .tc main_v41_2) = V (Proc.devRef .tc main_v41_2) ∧
    afterL (bwdI (F := F)) V (Proc.devRef .tc main_v41_3) = V (Proc.devRef .tc main_v41_3) ∧
    afterL (bwdI (F := F)) V (Proc.devRef .tc main_v41_4) = V (Proc.devRef .tc main_v41_4) ∧
    afterL (bwdI (F := F)) V (Proc.devRef .tc main_v41_5) = V (Proc.devRef .tc main_v41_5) ∧
    afterL (bwdI (F := F)) V (Proc.devRef .tc main_v41_6) = V (Proc.devRef .tc main_v41_6) := by
  simp only [afterL_cons, afterL_nil]
  unfold bwdc2 bwdc1 bwdc0 bwdb0 bwda3 bwda2 bwda1 bwda0
  refine ⟨?_, ?_, ?_, ?_, ?_, ?_, ?_⟩ <;> after_reads_simp

end Cert.ReferenceIdeal.Ops
-- ==== Proof.RefLay.lean ====
module

public import proofs.«01_k».proof.Proof.RefFwd

@[expose] public section

set_option maxRecDepth 4000

noncomputable section

/-! # The reference's layouts before, between and after its loops -/

namespace Cert.ReferenceIdeal.Ops

open Idealize.ShloMosaic Idealize.ShloMosaic.StableHlo Cert.Real
open Facts₀ Facts

/-- The arguments, by chunk and head; the states are the ones that the forward pass saved. -/
def saved (A : Args) : Saved where
  d n h := (A.chunk h n).d
  s n h := A.s h n
  q n h := (A.chunk h n).q
  k n h := (A.chunk h n).k
  u n h i j := A.u (rowOf n i) (colOf h j)
  w n h := (A.chunk h n).w
  g n h := (A.chunk h n).g

theorem pre_q {V : Valuation τ sig (Elt Ideal)} {x : Fin 8192 → Fin 8192 → ℝ} (hx : V (Proc.devRef .tc main_arg1) = m2 (φ := .f32) x) :
    afterL (preI (F := Ideal)) V (Proc.devRef .tc main_v29_0) = m4 (φ := .f32) fun n h i j => x (rowOf n i) ⟨128 * (h.val / 2) + j.val, by omega⟩ := by
  simp only [afterL_cons, afterL_nil]
  unfold head2 head1 head0
  after_reads_simp
  simp only [hx, TRef.ofBuf, TRef.toBuf, dropContentsCast, id_eq]
  dsimp only [ty_v0, ty_v1, ty_v2, ty_v3, ty_v4, ty_v5, ty_v6, ty_v7, ty_v8, ty_v10, ty_arg2, ty_v12, ty_arg3, ty_v14, ty_arg4, ty_v16]
  eta_reduce
  refine ext4 fun n h i j => ?_; pointwise [m4, m2, m3]
  exact congrArg Real.toEReal (congrArg₂ x (Fin.ext (by dsimp only [rowOf]; omega)) (Fin.ext (by dsimp only [colOf]; omega)))

theorem pre_k {V : Valuation τ sig (Elt Ideal)} {x : Fin 8192 → Fin 8192 → ℝ} (hx : V (Proc.devRef .tc main_arg1) = m2 (φ := .f32) x) :
    afterL (preI (F := Ideal)) V (Proc.devRef .tc main_v29_1) = m4 (φ := .f32) fun n h i j => x (rowOf n i) ⟨2048 + 128 * (h.val / 2) + j.val, by omega⟩ := by
  simp only [afterL_cons, afterL_nil]
  unfold head2 head1 head0
  after_reads_simp
  simp only [hx, TRef.ofBuf, TRef.toBuf, dropContentsCast, id_eq]
  dsimp only [ty_v0, ty_v1, ty_v2, ty_v3, ty_v4, ty_v5, ty_v6, ty_v7, ty_v8, ty_v10, ty_arg2, ty_v12, ty_arg3, ty_v14, ty_arg4, ty_v16]
  eta_reduce
  refine ext4 fun n h i j => ?_; pointwise [m4, m2, m3]
  exact congrArg Real.toEReal (congrArg₂ x (Fin.ext (by dsimp only [rowOf]; omega)) (Fin.ext (by dsimp only [colOf]; omega)))

theorem pre_u {V : Valuation τ sig (Elt Ideal)} {x : Fin 8192 → Fin 4096 → ℝ} (hx : V (Proc.devRef .tc main_arg2) = m2 (φ := .f32) x) :
    afterL (preI (F := Ideal)) V (Proc.devRef .tc main_v29_2) = m4 (φ := .f32) fun n h i j => x (rowOf n i) (colOf h j) := by
  simp only [afterL_cons, afterL_nil]
  unfold head2 head1 head0
  after_reads_simp
  simp only [hx, TRef.ofBuf, TRef.toBuf, dropContentsCast, id_eq]
  dsimp only [ty_v0, ty_v1, ty_v2, ty_v3, ty_v4, ty_v5, ty_v6, ty_v7, ty_v8, ty_v10, ty_arg2, ty_v12, ty_arg3, ty_v14, ty_arg4, ty_v16]
  eta_reduce
  refine ext4 fun n h i j => ?_; pointwise [m4, m2, m3]
  exact congrArg Real.toEReal (congrArg₂ x (Fin.ext (by dsimp only [rowOf]; omega)) (Fin.ext (by dsimp only [colOf]; omega)))

theorem pre_w {V : Valuation τ sig (Elt Ideal)} {x : Fin 8192 → Fin 4096 → ℝ} (hx : V (Proc.devRef .tc main_arg3) = m2 (φ := .f32) x) :
    afterL (preI (F := Ideal)) V (Proc.devRef .tc main_v29_3) = m4 (φ := .f32) fun n h i j => x (rowOf n i) (colOf h j) := by
  simp only [afterL_cons, afterL_nil]
  unfold head2 head1 head0
  after_reads_simp
  simp only [hx, TRef.ofBuf, TRef.toBuf, dropContentsCast, id_eq]
  dsimp only [ty_v0, ty_v1, ty_v2, ty_v3, ty_v4, ty_v5, ty_v6, ty_v7, ty_v8, ty_v10, ty_arg2, ty_v12, ty_arg3, ty_v14, ty_arg4, ty_v16]
  eta_reduce
  refine ext4 fun n h i j => ?_; pointwise [m4, m2, m3]
  exact congrArg Real.toEReal (congrArg₂ x (Fin.ext (by dsimp only [rowOf]; omega)) (Fin.ext (by dsimp only [colOf]; omega)))

theorem pre_g {V : Valuation τ sig (Elt Ideal)} {x : Fin 8192 → Fin 32 → ℝ} (hx : V (Proc.devRef .tc main_arg4) = m2 (φ := .f32) x) :
    afterL (preI (F := Ideal)) V (Proc.devRef .tc main_v29_4) = m3 (φ := .f32) fun n h i => x (rowOf n i) h := by
  simp only [afterL_cons, afterL_nil]
  unfold head2 head1 head0
  after_reads_simp
  simp only [hx, TRef.ofBuf, TRef.toBuf, dropContentsCast, id_eq]
  dsimp only [ty_v0, ty_v1, ty_v2, ty_v3, ty_v4, ty_v5, ty_v6, ty_v7, ty_v8, ty_v10, ty_arg2, ty_v12, ty_arg3, ty_v14, ty_arg4, ty_v16]
  eta_reduce
  refine ext3 fun n h i => ?_; pointwise [m4, m2, m3]
  exact congrArg Real.toEReal (congrArg₂ x (Fin.ext (by dsimp only [rowOf]; omega)) rfl)

theorem mid_d {V : Valuation τ sig (Elt Ideal)} {x : Fin 8192 → Fin 4096 → ℝ} (hx : V (Proc.devRef .tc main_arg0) = m2 (φ := .f32) x) :
    afterL (midI (F := Ideal)) V (Proc.devRef .tc main_v41_0) = m4 (φ := .f32) fun n h i j => x (rowOf n i) (colOf h j) := by
  simp only [afterL_cons, afterL_nil]
  unfold last0 head3
  after_reads_simp
  simp only [hx, TRef.ofBuf, TRef.toBuf, dropContentsCast, id_eq]
  dsimp only [ty_arg0, ty_v33]
  eta_reduce
  refine ext4 fun n h i j => ?_; pointwise [m4, m2, m3]
  exact congrArg Real.toEReal (congrArg₂ x (Fin.ext (by dsimp only [rowOf]; omega)) (Fin.ext (by dsimp only [colOf]; omega)))

/-- What the forward loop reads is kept for the backward loop. -/
theorem pre_same (V : Valuation τ sig (Elt Ideal)) :
    afterL (preI (F := Ideal)) V (Proc.devRef .tc main_v29_0) = afterL (preI (F := Ideal)) V (Proc.devRef .tc main_v9) ∧
    afterL (preI (F := Ideal)) V (Proc.devRef .tc main_v29_1) = afterL (preI (F := Ideal)) V (Proc.devRef .tc main_v11) ∧
    afterL (preI (F := Ideal)) V (Proc.devRef .tc main_v29_2) = afterL (preI (F := Ideal)) V (Proc.devRef .tc main_v13) ∧
    afterL (preI (F := Ideal)) V (Proc.devRef .tc main_v29_3) = afterL (preI (F := Ideal)) V (Proc.devRef .tc main_v15) ∧
    afterL (preI (F := Ideal)) V (Proc.devRef .tc main_v29_4) = afterL (preI (F := Ideal)) V (Proc.devRef .tc main_v17) := by
  simp only [afterL_cons, afterL_nil]
  unfold head2 head1 head0
  refine ⟨?_, ?_, ?_, ?_, ?_⟩ <;> (after_reads_simp; rfl)

/-- The arguments are left alone. -/
theorem pre_args (V : Valuation τ sig (Elt Ideal)) :
    afterL (preI (F := Ideal)) V (Proc.devRef .tc main_arg0) = V (Proc.devRef .tc main_arg0) ∧
    afterL (preI (F := Ideal)) V (Proc.devRef .tc main_arg1) = V (Proc.devRef .tc main_arg1) ∧
    afterL (preI (F := Ideal)) V (Proc.devRef .tc main_arg2) = V (Proc.devRef .tc main_arg2) ∧
    afterL (preI (F := Ideal)) V (Proc.devRef .tc main_arg3) = V (Proc.devRef .tc main_arg3) ∧
    afterL (preI (F := Ideal)) V (Proc.devRef .tc main_arg4) = V (Proc.devRef .tc main_arg4) ∧
    afterL (preI (F := Ideal)) V (Proc.devRef .tc main_arg5) = V (Proc.devRef .tc main_arg5) ∧
    afterL (preI (F := Ideal)) V (Proc.devRef .tc main_arg6) = V (Proc.devRef .tc main_arg6) := by
  simp only [afterL_cons, afterL_nil]
  unfold head2 head1 head0
  refine ⟨?_, ?_, ?_, ?_, ?_, ?_, ?_⟩ <;> after_reads_simp

/-- The arguments are left alone. -/
theorem mid_args (V : Valuation τ sig (Elt Ideal)) :
    afterL (midI (F := Ideal)) V (Proc.devRef .tc main_arg0) = V (Proc.devRef .tc main_arg0) ∧
    afterL (midI (F := Ideal)) V (Proc.devRef .tc main_arg1) = V (Proc.devRef .tc main_arg1) ∧
    afterL (midI (F := Ideal)) V (Proc.devRef .tc main_arg2) = V (Proc.devRef .tc main_arg2) ∧
    afterL (midI (F := Ideal)) V (Proc.devRef .tc main_arg3) = V (Proc.devRef .tc main_arg3) ∧
    afterL (midI (F := Ideal)) V (Proc.devRef .tc main_arg4) = V (Proc.devRef .tc main_arg4) ∧
    afterL (midI (F := Ideal)) V (Proc.devRef .tc main_arg5) = V (Proc.devRef .tc main_arg5) ∧
    afterL (midI (F := Ideal)) V (Proc.devRef .tc main_arg6) = V (Proc.devRef .tc main_arg6) := by
  simp only [afterL_cons, afterL_nil]
  unfold last0 head3
  refine ⟨?_, ?_, ?_, ?_, ?_, ?_, ?_⟩ <;> after_reads_simp

/-- The backward loop reads the saved states and what the forward loop read. -/
theorem mid_same (V : Valuation τ sig (Elt Ideal)) :
    afterL (midI (F := Ideal)) V (Proc.devRef .tc main_v41_1) = V (Proc.devRef .tc main_v29_12) ∧
    afterL (midI (F := Ideal)) V (Proc.devRef .tc main_v41_2) = V (Proc.devRef .tc main_v9) ∧
    afterL (midI (F := Ideal)) V (Proc.devRef .tc main_v41_3) = V (Proc.devRef .tc main_v11) ∧
    afterL (midI (F := Ideal)) V (Proc.devRef .tc main_v41_4) = V (Proc.devRef .tc main_v13) ∧
    afterL (midI (F := Ideal)) V (Proc.devRef .tc main_v41_5) = V (Proc.devRef .tc main_v15) ∧
    afterL (midI (F := Ideal)) V (Proc.devRef .tc main_v41_6) = V (Proc.devRef .tc main_v17) := by
  simp only [afterL_cons, afterL_nil]
  unfold last0 head3
  refine ⟨?_, ?_, ?_, ?_, ?_, ?_⟩ <;> (after_reads_simp; rfl)

/-- The arguments are left alone. -/
theorem post_args (V : Valuation τ sig (Elt Ideal)) :
    afterL (postI (F := Ideal)) V (Proc.devRef .tc main_arg0) = V (Proc.devRef .tc main_arg0) ∧
    afterL (postI (F := Ideal)) V (Proc.devRef .tc main_arg1) = V (Proc.devRef .tc main_arg1) ∧
    afterL (postI (F := Ideal)) V (Proc.devRef .tc main_arg2) = V (Proc.devRef .tc main_arg2) ∧
    afterL (postI (F := Ideal)) V (Proc.devRef .tc main_arg3) = V (Proc.devRef .tc main_arg3) ∧
    afterL (postI (F := Ideal)) V (Proc.devRef .tc main_arg4) = V (Proc.devRef .tc main_arg4) ∧
    afterL (postI (F := Ideal)) V (Proc.devRef .tc main_arg5) = V (Proc.devRef .tc main_arg5) ∧
    afterL (postI (F := Ideal)) V (Proc.devRef .tc main_arg6) = V (Proc.devRef .tc main_arg6) := by
  simp only [afterL_cons, afterL_nil]
  unfold last1
  refine ⟨?_, ?_, ?_, ?_, ?_, ?_, ?_⟩ <;> after_reads_simp

/-- The state starts at zero. -/
theorem pre_zero (V : Valuation τ sig (Elt Ideal)) :
    afterL (preI (F := Ideal)) V (Proc.devRef .tc main_v29_10) = m3 (φ := .f32) (fun _ _ _ => 0) ∧
    afterL (preI (F := Ideal)) V (Proc.devRef .tc main_v29_12) = m4 (φ := .f32) (fun _ _ _ _ => 0) := by
  simp only [afterL_cons, afterL_nil]
  unfold head2 head1 head0
  refine ⟨?_, ?_⟩ <;> (after_reads_simp; exact funext fun _ => zero_bits)

/-- The cotangents start at zero. -/
theorem mid_zero (V : Valuation τ sig (Elt Ideal)) :
    afterL (midI (F := Ideal)) V (Proc.devRef .tc main_v41_8) = m3 (φ := .f32) (fun _ _ _ => 0) ∧
    afterL (midI (F := Ideal)) V (Proc.devRef .tc main_v41_9) = m4 (φ := .f32) (fun _ _ _ _ => 0) ∧
    afterL (midI (F := Ideal)) V (Proc.devRef .tc main_v41_10) = m4 (φ := .f32) (fun _ _ _ _ => 0) ∧
    afterL (midI (F := Ideal)) V (Proc.devRef .tc main_v41_11) = m4 (φ := .f32) (fun _ _ _ _ => 0) ∧
    afterL (midI (F := Ideal)) V (Proc.devRef .tc main_v41_12) = m4 (φ := .f32) (fun _ _ _ _ => 0) ∧
    afterL (midI (F := Ideal)) V (Proc.devRef .tc main_v41_13) = m3 (φ := .f32) (fun _ _ _ => 0) := by
  simp only [afterL_cons, afterL_nil]
  unfold last0 head3
  refine ⟨?_, ?_, ?_, ?_, ?_, ?_⟩ <;> (after_reads_simp; exact funext fun _ => zero_bits)

theorem post_dq {V : Valuation τ sig (Elt Ideal)} {y : Rows} (hy : V (Proc.devRef .tc main_v41_9) = m4 (φ := .f32) y) :
    afterL (postI (F := Ideal)) V (Proc.devRef .tc main_v52) = m2 (φ := .f32) (Args.whole fun h n => y n h) := by
  simp only [afterL_cons, afterL_nil]
  unfold last1
  after_reads_simp
  simp only [hy, TRef.ofBuf, TRef.toBuf, dropContentsCast, id_eq]
  dsimp only [ty_v42, ty_v43, ty_v44, ty_v45, ty_v46, ty_v47, ty_v48, ty_v49, ty_v50, ty_v51, ty_v52, ty_v53, ty_v54, ty_v55]
  eta_reduce
  refine ext2 fun r c => ?_; pointwise [m4, m2, m3, Args.whole]

theorem post_dk {V : Valuation τ sig (Elt Ideal)} {y : Rows} (hy : V (Proc.devRef .tc main_v41_10) = m4 (φ := .f32) y) :
    afterL (postI (F := Ideal)) V (Proc.devRef .tc main_v53) = m2 (φ := .f32) (Args.whole fun h n => y n h) := by
  simp only [afterL_cons, afterL_nil]
  unfold last1
  after_reads_simp
  simp only [hy, TRef.ofBuf, TRef.toBuf, dropContentsCast, id_eq]
  dsimp only [ty_v42, ty_v43, ty_v44, ty_v45, ty_v46, ty_v47, ty_v48, ty_v49, ty_v50, ty_v51, ty_v52, ty_v53, ty_v54, ty_v55]
  eta_reduce
  refine ext2 fun r c => ?_; pointwise [m4, m2, m3, Args.whole]

theorem post_du {V : Valuation τ sig (Elt Ideal)} {y : Rows} (hy : V (Proc.devRef .tc main_v41_11) = m4 (φ := .f32) y) :
    afterL (postI (F := Ideal)) V (Proc.devRef .tc main_v47) = m2 (φ := .f32) (Args.whole fun h n => y n h) := by
  simp only [afterL_cons, afterL_nil]
  unfold last1
  after_reads_simp
  simp only [hy, TRef.ofBuf, TRef.toBuf, dropContentsCast, id_eq]
  dsimp only [ty_v42, ty_v43, ty_v44, ty_v45, ty_v46, ty_v47, ty_v48, ty_v49, ty_v50, ty_v51, ty_v52, ty_v53, ty_v54, ty_v55]
  eta_reduce
  refine ext2 fun r c => ?_; pointwise [m4, m2, m3, Args.whole]

theorem post_dw {V : Valuation τ sig (Elt Ideal)} {y : Rows} (hy : V (Proc.devRef .tc main_v41_12) = m4 (φ := .f32) y) :
    afterL (postI (F := Ideal)) V (Proc.devRef .tc main_v45) = m2 (φ := .f32) (Args.whole fun h n => y n h) := by
  simp only [afterL_cons, afterL_nil]
  unfold last1
  after_reads_simp
  simp only [hy, TRef.ofBuf, TRef.toBuf, dropContentsCast, id_eq]
  dsimp only [ty_v42, ty_v43, ty_v44, ty_v45, ty_v46, ty_v47, ty_v48, ty_v49, ty_v50, ty_v51, ty_v52, ty_v53, ty_v54, ty_v55]
  eta_reduce
  refine ext2 fun r c => ?_; pointwise [m4, m2, m3, Args.whole]

theorem post_dg {V : Valuation τ sig (Elt Ideal)} {y : Gates} (hy : V (Proc.devRef .tc main_v41_13) = m3 (φ := .f32) y) :
    afterL (postI (F := Ideal)) V (Proc.devRef .tc main_v55) = m2 (φ := .f32) (Args.whole fun h n i _ => y n h i) := by
  simp only [afterL_cons, afterL_nil]
  unfold last1
  after_reads_simp
  simp only [hy, TRef.ofBuf, TRef.toBuf, dropContentsCast, id_eq]
  dsimp only [ty_v42, ty_v43, ty_v44, ty_v45, ty_v46, ty_v47, ty_v48, ty_v49, ty_v50, ty_v51, ty_v52, ty_v53, ty_v54, ty_v55]
  eta_reduce
  refine ext2 fun r c => ?_; pointwise [m4, m2, m3, Args.whole]

end Cert.ReferenceIdeal.Ops
-- ==== Proof.ChunkAlg.lean ====
module

public import proofs.«01_k».proof.Proof.ChunkRef

@[expose] public section

noncomputable section

/-! # The two orders of operations agree on one chunk

Over the real numbers the reference's cotangents are the kernel's. The log-gates' cotangent needs the gates to fall along the
chunk: then the minimum with zero has slope one below the diagonal, and its half on the diagonal cancels. -/

namespace Cert.Real.Chunk

open scoped BigOperators

variable (C : Chunk) (D : Fin 128 → Fin 128 → ℝ)

theorem rdu_eq : C.rdu D = C.du D := funext fun _ => funext fun _ => add_comm _ _

theorem rdw_eq : C.rdw D = C.dw D := by
  funext i j
  simp only [rdw, dw, rdu_eq, mm, neg_mul, Finset.sum_neg_distrib, zero_sub]

/-- `w`'s columns against the state part of the values' cotangent, in either order. -/
theorem w_kd (i j : Fin 128) : mm (mm (tr C.w) C.kd) D i j = ∑ r, C.w r i * mm C.kd D r j := by
  simp only [mm, tr, Finset.sum_mul, Finset.mul_sum]
  rw [Finset.sum_comm]
  exact Finset.sum_congr rfl fun r _ => Finset.sum_congr rfl fun l _ => mul_assoc _ _ _

theorem rstep_eq : C.rstep D = C.step D := by
  funext i j
  have hw : mm (tr fun i j => -C.rdu D i j) C.w j i = -mm (mm (tr C.w) C.kd) D i j - mm (tr C.w) C.qd i j := by
    rw [w_kd, ← Finset.sum_neg_distrib]
    show ∑ r, -C.rdu D r j * C.w r i = _ - ∑ r, C.w r i * C.qd r j
    rw [← Finset.sum_sub_distrib]
    exact Finset.sum_congr rfl fun r _ => by rw [rdu]; ring
  have hq : mm (tr C.d) C.qg j i = mm (tr C.qg) C.d i j := Finset.sum_congr rfl fun r _ => mul_comm _ _
  rw [rstep, step, hw, hq]
  ring

theorem rkd_eq (i : Fin 64) : C.rkd D i = ∑ j, C.dkd D i j * C.kd i j := by
  rw [rkd, Finset.sum_mul]
  exact Finset.sum_congr rfl fun j _ => by rw [kd]; ring

/-- On the diagonal the reference's scores' part is half of the kernel's, elsewhere the same. -/
theorem re_eq (hg : ∀ i j, j < i → C.g i < C.g j) (i j : Fin 64) : C.re i j = C.e i j - if i = j then C.e i i / 2 else 0 := by
  rcases lt_trichotomy j i with h | h | h
  · have h1 : C.g i - C.g j < 0 := sub_neg.mpr (hg i j h)
    simp only [re, e, qk, dec, h.le, h.ne', if_true, if_false, if_pos h1]
    ring
  · subst h
    simp only [re, e, qk, dec, le_refl, if_true, sub_self, lt_irrefl, if_false]
    ring
  · simp only [re, e, qk, dec, not_le.mpr h, h.ne, if_false]
    ring

theorem rdg_eq (hg : ∀ i j, j < i → C.g i < C.g j) : C.rdg D = C.dg D := by
  funext i
  have h1 : ∑ j, C.re i j = ∑ j, C.e i j - C.e i i / 2 := by
    simp only [C.re_eq hg, Finset.sum_sub_distrib, Finset.sum_ite_eq, Finset.mem_univ, if_true]
  have h2 : ∑ j, -C.re j i = -∑ j, C.e j i + C.e i i / 2 := by
    have : ∀ j, C.re j i = C.e j i - if j = i then C.e i i / 2 else 0 := fun j => by
      rw [C.re_eq hg j i]
      by_cases h : j = i
      · subst h; rfl
      · simp only [if_neg h]
    simp only [this, Finset.sum_neg_distrib, Finset.sum_sub_distrib, Finset.sum_ite_eq', Finset.mem_univ, if_true]
    ring
  have h3 : (∑ j, C.q i j * C.dqg i j) * Real.exp (C.g i) = ∑ j, C.dqg i j * C.qg i j := by
    rw [Finset.sum_mul]
    exact Finset.sum_congr rfl fun j _ => by rw [qg]; ring
  rw [rdg, dg, h1, h2, h3]
  simp only [rkd_eq, dgl]
  split_ifs <;> ring

end Cert.Real.Chunk
-- ==== Proof.RefLoops.lean ====
module

public import proofs.«01_k».proof.Proof.RefLay
public import proofs.«01_k».proof.Proof.ChunkAlg

@[expose] public section

set_option maxRecDepth 4000

noncomputable section

/-! # The reference's loops on real arrays

The forward loop recomputes the states, one chunk a trip; the backward loop walks the chunks last to first. -/

namespace Cert.ReferenceIdeal.Ops

open Idealize.ShloMosaic Idealize.ShloMosaic.StableHlo Cert.Real
open Facts₀ Facts
open TcCoe

/-- A loop's condition writes its bound and its outcome. -/
theorem cond0_read (V : Valuation τ sig (Elt Ideal)) {r : Ref sig .tc} (h : r ≠ main_while0c_c_24) (h' : r ≠ main_while0c_v56) :
    after (cond0Ops (F := Ideal)) V (Proc.devRef .tc r) = V (Proc.devRef .tc r) := by
  unfold cond0Ops
  rw [after_cons, after_cons, after_nil, binary_result_ne _ _ _ _ _ _ _ _ h', nullary_result_ne _ _ _ _ h]

theorem cond1_read (V : Valuation τ sig (Elt Ideal)) {r : Ref sig .tc} (h : r ≠ main_while1c_c_25) (h' : r ≠ main_while1c_v56) :
    after (cond1Ops (F := Ideal)) V (Proc.devRef .tc r) = V (Proc.devRef .tc r) := by
  unfold cond1Ops
  rw [after_cons, after_cons, after_nil, binary_result_ne _ _ _ _ _ _ _ _ h', nullary_result_ne _ _ _ _ h]

/-- What a trip of the first loop leaves alone keeps its contents through the loop. -/
theorem kept0 {r : Ref sig .tc} (h : r ≠ main_while0c_c_24) (h' : r ≠ main_while0c_v56)
    (hb : ∀ V, afterL (fwdI (F := Ideal)) V (Proc.devRef .tc r) = V (Proc.devRef .tc r)) (W : Dev nD → Valuation τ sig (Elt Ideal)) (c : Dev nD) :
    ∀ k, atTrip cond0Ops fwdI W k c (Proc.devRef .tc r) = W c (Proc.devRef .tc r)
  | 0 => rfl
  | k + 1 => by rw [atTrip_succ, hb, cond0_read _ h h', kept0 h h' hb W c k]

theorem kept1 {r : Ref sig .tc} (h : r ≠ main_while1c_c_25) (h' : r ≠ main_while1c_v56)
    (hb : ∀ V, afterL (bwdI (F := Ideal)) V (Proc.devRef .tc r) = V (Proc.devRef .tc r)) (W : Dev nD → Valuation τ sig (Elt Ideal)) (c : Dev nD) :
    ∀ k, atTrip cond1Ops bwdI W k c (Proc.devRef .tc r) = W c (Proc.devRef .tc r)
  | 0 => rfl
  | k + 1 => by rw [atTrip_succ, hb, cond1_read _ h h', kept1 h h' hb W c k]

variable (m : (ℓ : Loc nD τ sig) → Buf (Elt Ideal) ℓ) (c : Dev nD)

/-! ## The arguments -/

theorem arg0_bwd : fwdEnd m c (Proc.devRef .tc main_arg0) = m ((c : Thread nD τ).loc main_arg0) :=
  (cond0_read _ (by decide) (by decide)).trans ((kept0 (by decide) (by decide) (fun V => (fwd_args V).1) _ c 128).trans
    (pre_args (launchContents m c)).1)
theorem arg0_final : final m c (Proc.devRef .tc main_arg0) = m ((c : Thread nD τ).loc main_arg0) :=
  (post_args (bwdEnd m c)).1.trans ((cond1_read _ (by decide) (by decide)).trans
    ((kept1 (by decide) (by decide) (fun V => (bwd_args V).1) _ c 128).trans ((mid_args (fwdEnd m c)).1.trans (arg0_bwd m c))))

theorem arg1_bwd : fwdEnd m c (Proc.devRef .tc main_arg1) = m ((c : Thread nD τ).loc main_arg1) :=
  (cond0_read _ (by decide) (by decide)).trans ((kept0 (by decide) (by decide) (fun V => (fwd_args V).2.1) _ c 128).trans
    (pre_args (launchContents m c)).2.1)
theorem arg1_final : final m c (Proc.devRef .tc main_arg1) = m ((c : Thread nD τ).loc main_arg1) :=
  (post_args (bwdEnd m c)).2.1.trans ((cond1_read _ (by decide) (by decide)).trans
    ((kept1 (by decide) (by decide) (fun V => (bwd_args V).2.1) _ c 128).trans ((mid_args (fwdEnd m c)).2.1.trans (arg1_bwd m c))))

theorem arg2_bwd : fwdEnd m c (Proc.devRef .tc main_arg2) = m ((c : Thread nD τ).loc main_arg2) :=
  (cond0_read _ (by decide) (by decide)).trans ((kept0 (by decide) (by decide) (fun V => (fwd_args V).2.2.1) _ c 128).trans
    (pre_args (launchContents m c)).2.2.1)
theorem arg2_final : final m c (Proc.devRef .tc main_arg2) = m ((c : Thread nD τ).loc main_arg2) :=
  (post_args (bwdEnd m c)).2.2.1.trans ((cond1_read _ (by decide) (by decide)).trans
    ((kept1 (by decide) (by decide) (fun V => (bwd_args V).2.2.1) _ c 128).trans ((mid_args (fwdEnd m c)).2.2.1.trans (arg2_bwd m c))))

theorem arg3_bwd : fwdEnd m c (Proc.devRef .tc main_arg3) = m ((c : Thread nD τ).loc main_arg3) :=
  (cond0_read _ (by decide) (by decide)).trans ((kept0 (by decide) (by decide) (fun V => (fwd_args V).2.2.2.1) _ c 128).trans
    (pre_args (launchContents m c)).2.2.2.1)
theorem arg3_final : final m c (Proc.devRef .tc main_arg3) = m ((c : Thread nD τ).loc main_arg3) :=
  (post_args (bwdEnd m c)).2.2.2.1.trans ((cond1_read _ (by decide) (by decide)).trans
    ((kept1 (by decide) (by decide) (fun V => (bwd_args V).2.2.2.1) _ c 128).trans ((mid_args (fwdEnd m c)).2.2.2.1.trans (arg3_bwd m c))))

theorem arg4_bwd : fwdEnd m c (Proc.devRef .tc main_arg4) = m ((c : Thread nD τ).loc main_arg4) :=
  (cond0_read _ (by decide) (by decide)).trans ((kept0 (by decide) (by decide) (fun V => (fwd_args V).2.2.2.2.1) _ c 128).trans
    (pre_args (launchContents m c)).2.2.2.2.1)
theorem arg4_final : final m c (Proc.devRef .tc main_arg4) = m ((c : Thread nD τ).loc main_arg4) :=
  (post_args (bwdEnd m c)).2.2.2.2.1.trans ((cond1_read _ (by decide) (by decide)).trans
    ((kept1 (by decide) (by decide) (fun V => (bwd_args V).2.2.2.2.1) _ c 128).trans ((mid_args (fwdEnd m c)).2.2.2.2.1.trans (arg4_bwd m c))))

theorem arg5_bwd : fwdEnd m c (Proc.devRef .tc main_arg5) = m ((c : Thread nD τ).loc main_arg5) :=
  (cond0_read _ (by decide) (by decide)).trans ((kept0 (by decide) (by decide) (fun V => (fwd_args V).2.2.2.2.2.1) _ c 128).trans
    (pre_args (launchContents m c)).2.2.2.2.2.1)
theorem arg5_final : final m c (Proc.devRef .tc main_arg5) = m ((c : Thread nD τ).loc main_arg5) :=
  (post_args (bwdEnd m c)).2.2.2.2.2.1.trans ((cond1_read _ (by decide) (by decide)).trans
    ((kept1 (by decide) (by decide) (fun V => (bwd_args V).2.2.2.2.2.1) _ c 128).trans ((mid_args (fwdEnd m c)).2.2.2.2.2.1.trans (arg5_bwd m c))))

theorem arg6_bwd : fwdEnd m c (Proc.devRef .tc main_arg6) = m ((c : Thread nD τ).loc main_arg6) :=
  (cond0_read _ (by decide) (by decide)).trans ((kept0 (by decide) (by decide) (fun V => (fwd_args V).2.2.2.2.2.2) _ c 128).trans
    (pre_args (launchContents m c)).2.2.2.2.2.2)
theorem arg6_final : final m c (Proc.devRef .tc main_arg6) = m ((c : Thread nD τ).loc main_arg6) :=
  (post_args (bwdEnd m c)).2.2.2.2.2.2.trans ((cond1_read _ (by decide) (by decide)).trans
    ((kept1 (by decide) (by decide) (fun V => (bwd_args V).2.2.2.2.2.2) _ c 128).trans ((mid_args (fwdEnd m c)).2.2.2.2.2.2.trans (arg6_bwd m c))))

/-! ## What the precondition gives -/

end Cert.ReferenceIdeal.Ops

namespace Cert.Real

/-- The two saved arrays are what the forward pass computes: the values are what is left of `u` after the state's part, and the
    states are the recurrence's. Along a chunk the log-gates fall. -/
structure Args.Good (A : Args) : Prop where
  left : ∀ h n, (A.chunk h n).v = fun i j => A.u (rowOf n i) (colOf h j) - mm (A.chunk h n).w (A.s h n) i j
  first : ∀ h n, n.val = 0 → A.s h n = fun _ _ => 0
  next : ∀ h (n n' : Fin 128), n'.val = n.val + 1 → A.s h n' = (A.chunk h n).next
  falls : ∀ h n i j, j < i → (A.chunk h n).g i < (A.chunk h n).g j

end Cert.Real

namespace Cert.ReferenceIdeal.Ops

open Idealize.ShloMosaic Idealize.ShloMosaic.StableHlo Cert.Real
open Facts₀ Facts
open TcCoe

variable {m : (ℓ : Loc nD τ sig) → Buf (Elt Ideal) ℓ} {c : Dev nD} {A : Args}

/-- The arguments that the reference reads are real arrays. -/
structure Given (m : (ℓ : Loc nD τ sig) → Buf (Elt Ideal) ℓ) (c : Dev nD) (A : Args) : Prop where
  d : m ((c : Thread nD τ).loc main_arg0) = m2 (φ := .f32) A.d
  qkv : m ((c : Thread nD τ).loc main_arg1) = m2 (φ := .f32) A.qkv
  u : m ((c : Thread nD τ).loc main_arg2) = m2 (φ := .f32) A.u
  w : m ((c : Thread nD τ).loc main_arg3) = m2 (φ := .f32) A.w
  g : m ((c : Thread nD τ).loc main_arg4) = m2 (φ := .f32) A.g

theorem saved_chunk (G : A.Good) (n : Fin 128) (h : Fin 32) : (saved A).chunk n h = A.chunk h n := by
  have e := G.left h n
  show ({ d := (A.chunk h n).d, q := (A.chunk h n).q, k := (A.chunk h n).k, w := (A.chunk h n).w, g := (A.chunk h n).g, s := A.s h n,
          v := fun i j => A.u (rowOf n i) (colOf h j) - mm (A.chunk h n).w (A.s h n) i j } : Chunk) = A.chunk h n
  rw [← e]
  rfl

/-! ## The forward loop -/

theorem takes_first (H : Given m c A) : Takes (atFwd m c) (saved A) :=
  ⟨pre_q H.qkv, pre_k H.qkv, pre_u H.u, pre_w H.w, pre_g H.g⟩

theorem takes (H : Given m c A) (k : ℕ) : Takes (after cond0Ops (atTrip cond0Ops fwdI (atFwd m) k c)) (saved A) := by
  have T := takes_first H
  constructor <;> rw [cond0_read _ (by decide) (by decide)]
  · exact (kept0 (by decide) (by decide) (fun V => (fwd_taken V).1) _ c k).trans T.q
  · exact (kept0 (by decide) (by decide) (fun V => (fwd_taken V).2.1) _ c k).trans T.k
  · exact (kept0 (by decide) (by decide) (fun V => (fwd_taken V).2.2.1) _ c k).trans T.u
  · exact (kept0 (by decide) (by decide) (fun V => (fwd_taken V).2.2.2.1) _ c k).trans T.w
  · exact (kept0 (by decide) (by decide) (fun V => (fwd_taken V).2.2.2.2) _ c k).trans T.g

theorem idx_first : Shape.Idx.first h_S_ = HostLoop.idx0 := funext fun a => a.elim0

theorem fwd_at (k : ℕ) (hk : k < 128) : FAt (after cond0Ops (atTrip cond0Ops fwdI (atFwd m) k c)) ⟨k, hk⟩ := by
  unfold FAt
  rw [cond0_keeps, idx_first]
  exact counter_at (r := main_v29_9) rfl (fun v => v HostLoop.idx0) cond0_keeps (fun V => by rw [fwd_counter]; rfl) c (atFwd_counter m c) k

/-- Entering trip `k` the loop carries chunk `k`'s state, and the states before it are stacked. -/
theorem fwd_trip (H : Given m c A) (G : A.Good) : ∀ k, k ≤ 128 →
    (∀ n : Fin 128, n.val = k → atTrip cond0Ops fwdI (atFwd m) k c (Proc.devRef .tc main_v29_10) = m3 (φ := .f32) fun h => A.s h n) ∧
    atTrip cond0Ops fwdI (atFwd m) k c (Proc.devRef .tc main_v29_12) = m4 (φ := .f32) fun n h => if n.val < k then A.s h n else fun _ _ => 0
  | 0, _ => by
    have z := pre_zero (launchContents m c)
    refine ⟨fun n hn => z.1.trans (congrArg _ (funext fun h => (G.first h n hn).symm)), z.2.trans (congrArg _ ?_)⟩
    funext n h
    rw [if_neg (Nat.not_lt_zero _)]
  | k + 1, hk => by
    have ih := fwd_trip H G k (by omega)
    have hs : after cond0Ops (atTrip cond0Ops fwdI (atFwd m) k c) (Proc.devRef .tc main_v29_10) = m3 (φ := .f32) ((saved A).s ⟨k, hk⟩) :=
      (cond0_read _ (by decide) (by decide)).trans (ih.1 ⟨k, hk⟩ rfl)
    have hy := (cond0_read (atTrip cond0Ops fwdI (atFwd m) k c) (r := main_v29_12) (by decide) (by decide)).trans ih.2
    refine ⟨fun n hn => (fwd_state (takes H k) (fwd_at k hk) hs).trans (congrArg _ (funext fun h => ?_)),
      (fwd_stack (takes H k) (fwd_at k hk) hs hy).trans (congrArg _ ?_)⟩
    · rw [saved_chunk G, G.next h ⟨k, hk⟩ n hn]
    · funext n h
      unfold put
      by_cases e : n = ⟨k, hk⟩
      · subst e
        rw [if_pos rfl, if_pos (Nat.lt_succ_self k)]
        rfl
      · have e' : n.val ≠ k := fun h => e (Fin.ext h)
        rw [if_neg e]
        show (if n.val < k then A.s h n else fun _ _ => 0) = _
        by_cases l : n.val < k
        · rw [if_pos l, if_pos (by omega)]
        · rw [if_neg l, if_neg (by omega)]

theorem states (H : Given m c A) (G : A.Good) : fwdEnd m c (Proc.devRef .tc main_v29_12) = m4 (φ := .f32) (saved A).s :=
  (cond0_read _ (by decide) (by decide)).trans ((fwd_trip H G 128 le_rfl).2.trans (congrArg _ (funext fun n => funext fun h => if_pos n.isLt)))

/-! ## The backward loop -/

theorem laid {r : Ref sig .tc} (h : r ≠ main_while0c_c_24) (h' : r ≠ main_while0c_v56)
    (hb : ∀ V, afterL (fwdI (F := Ideal)) V (Proc.devRef .tc r) = V (Proc.devRef .tc r)) :
    fwdEnd m c (Proc.devRef .tc r) = atFwd m c (Proc.devRef .tc r) :=
  (cond0_read _ h h').trans (kept0 h h' hb _ c 128)

theorem reads_first (H : Given m c A) (G : A.Good) : Reads (atBwd m c) (saved A) := by
  have S := mid_same (fwdEnd m c)
  have T := takes_first H
  have P := pre_same (launchContents m c)
  exact ⟨mid_d ((arg0_bwd m c).trans H.d), S.1.trans (states H G),
    S.2.1.trans ((laid (by decide) (by decide) fun V => (fwd_laid V).1).trans (P.1.symm.trans T.q)),
    S.2.2.1.trans ((laid (by decide) (by decide) fun V => (fwd_laid V).2.1).trans (P.2.1.symm.trans T.k)),
    S.2.2.2.1.trans ((laid (by decide) (by decide) fun V => (fwd_laid V).2.2.1).trans (P.2.2.1.symm.trans T.u)),
    S.2.2.2.2.1.trans ((laid (by decide) (by decide) fun V => (fwd_laid V).2.2.2.1).trans (P.2.2.2.1.symm.trans T.w)),
    S.2.2.2.2.2.trans ((laid (by decide) (by decide) fun V => (fwd_laid V).2.2.2.2).trans (P.2.2.2.2.symm.trans T.g))⟩

theorem reads (H : Given m c A) (G : A.Good) (t : ℕ) : Reads (after cond1Ops (atTrip cond1Ops bwdI (atBwd m) t c)) (saved A) := by
  have T := reads_first H G
  constructor <;> rw [cond1_read _ (by decide) (by decide)]
  · exact (kept1 (by decide) (by decide) (fun V => (bwd_taken V).1) _ c t).trans T.d
  · exact (kept1 (by decide) (by decide) (fun V => (bwd_taken V).2.1) _ c t).trans T.s
  · exact (kept1 (by decide) (by decide) (fun V => (bwd_taken V).2.2.1) _ c t).trans T.q
  · exact (kept1 (by decide) (by decide) (fun V => (bwd_taken V).2.2.2.1) _ c t).trans T.k
  · exact (kept1 (by decide) (by decide) (fun V => (bwd_taken V).2.2.2.2.1) _ c t).trans T.u
  · exact (kept1 (by decide) (by decide) (fun V => (bwd_taken V).2.2.2.2.2.1) _ c t).trans T.w
  · exact (kept1 (by decide) (by decide) (fun V => (bwd_taken V).2.2.2.2.2.2) _ c t).trans T.g

/-- Trip `t` takes the chunk `127 - t`. -/
theorem last_first (t : Fin 128) : 128#32 - BitVec.ofNat 32 t.val - 1#32 = BitVec.ofNat 32 (127 - t.val) := by
  revert t
  decide +kernel

theorem bwd_at (t : ℕ) (ht : t < 128) : At (after cond1Ops (atTrip cond1Ops bwdI (atBwd m) t c)) ⟨127 - t, by omega⟩ := by
  have h : (atTrip cond1Ops bwdI (atBwd m) t c (Proc.devRef .tc main_v41_7) : (⟨S_, .i32⟩ : BufTy).Contents (Elt Ideal)) HostLoop.idx0 = BitVec.ofNat 32 t :=
    counter_at (r := main_v41_7) rfl (fun v => v HostLoop.idx0) cond1_keeps (fun V => by rw [bwd_counter]; rfl) c (atBwd_counter m c) t
  unfold At
  rw [cond1_keeps, idx_first]
  refine Eq.trans ?_ (last_first ⟨t, ht⟩)
  show 128#32 - (atTrip cond1Ops bwdI (atBwd m) t c (Proc.devRef .tc main_v41_7) : (⟨S_, .i32⟩ : BufTy).Contents (Elt Ideal)) HostLoop.idx0 - 1#32 = _
  rw [h]

/-- The chunks written in the first `t` trips: the last `t`. -/
def upTo {α : Type} (f : Fin 128 → Fin 32 → α) (z : α) (t : ℕ) : Fin 128 → Fin 32 → α := fun n h => if 128 ≤ t + n.val then f n h else z

theorem upTo_zero {α : Type} (f : Fin 128 → Fin 32 → α) (z : α) : upTo f z 0 = fun _ _ => z :=
  funext fun n => funext fun _ => if_neg (by have := n.isLt; omega)

theorem upTo_all {α : Type} (f : Fin 128 → Fin 32 → α) (z : α) : upTo f z 128 = f :=
  funext fun n => funext fun _ => if_pos (by omega)

theorem put_upTo {α : Type} (f : Fin 128 → Fin 32 → α) (z : α) (t : ℕ) (ht : t < 128) (y : Fin 32 → α)
    (hy : ∀ h, y h = f ⟨127 - t, by omega⟩ h) : put (upTo f z t) ⟨127 - t, by omega⟩ y = upTo f z (t + 1) := by
  funext n h
  unfold put upTo
  by_cases e : n = ⟨127 - t, by omega⟩
  · subst e
    rw [if_pos rfl, if_pos (by show 128 ≤ t + 1 + (127 - t); omega), hy]
  · have e' : n.val ≠ 127 - t := fun h => e (Fin.ext h)
    rw [if_neg e]
    have hn := n.isLt
    by_cases l : 128 ≤ t + n.val
    · rw [if_pos l, if_pos (by omega)]
    · rw [if_neg l, if_neg (by omega)]

/-- The state's cotangent that leaves chunk `n` of head `h`. -/
def dsOf (A : Args) (n : Fin 128) (h : Fin 32) : Fin 128 → Fin 128 → ℝ := A.ds h (127 - n.val)

/-- Entering trip `t`: the state's cotangent and the stacks of the last `t` chunks' cotangents. -/
structure Trip (A : Args) (t : ℕ) (V : Valuation τ sig (Elt Ideal)) : Prop where
  D : V (Proc.devRef .tc main_v41_8) = m3 (φ := .f32) fun h => A.ds h t
  dq : V (Proc.devRef .tc main_v41_9) = m4 (φ := .f32) (upTo (fun n h => (A.chunk h n).dq) (fun _ _ => 0) t)
  dk : V (Proc.devRef .tc main_v41_10) = m4 (φ := .f32) (upTo (fun n h => (A.chunk h n).dk (dsOf A n h)) (fun _ _ => 0) t)
  du : V (Proc.devRef .tc main_v41_11) = m4 (φ := .f32) (upTo (fun n h => (A.chunk h n).du (dsOf A n h)) (fun _ _ => 0) t)
  dw : V (Proc.devRef .tc main_v41_12) = m4 (φ := .f32) (upTo (fun n h => (A.chunk h n).dw (dsOf A n h)) (fun _ _ => 0) t)
  dg : V (Proc.devRef .tc main_v41_13) = m3 (φ := .f32) (upTo (fun n h => (A.chunk h n).dg (dsOf A n h)) (fun _ => 0) t)

theorem Trip.cond {t : ℕ} {V : Valuation τ sig (Elt Ideal)} (T : Trip A t V) : Trip A t (after cond1Ops V) := by
  constructor <;> rw [cond1_read _ (by decide) (by decide)]
  exacts [T.D, T.dq, T.dk, T.du, T.dw, T.dg]

theorem ds_last (t : ℕ) (ht : t < 128) (h : Fin 32) : dsOf A ⟨127 - t, by omega⟩ h = A.ds h t :=
  congrArg (A.ds h) (show 127 - (127 - t) = t by omega)

/-- One trip. -/
theorem Trip.next (G : A.Good) {t : ℕ} (ht : t < 128) {V : Valuation τ sig (Elt Ideal)} (R : Reads V (saved A)) (hI : At V ⟨127 - t, by omega⟩)
    (T : Trip A t V) : Trip A (t + 1) (afterL (bwdI (F := Ideal)) V) where
  D := (bwd_state R hI T.D).trans (congrArg _ (funext fun h => by rw [saved_chunk G, Chunk.rstep_eq]; rfl))
  dq := (bwd_dq R hI T.D T.dq).trans (congrArg _ (put_upTo _ _ t ht _ fun h => by rw [saved_chunk G]))
  dk := (bwd_dk R hI T.D T.dk).trans (congrArg _ (put_upTo _ _ t ht _ fun h => by rw [saved_chunk G, ds_last t ht]))
  du := (bwd_du R hI T.D T.du).trans (congrArg _ (put_upTo _ _ t ht _ fun h => by rw [saved_chunk G, ds_last t ht, Chunk.rdu_eq]))
  dw := (bwd_dw R hI T.D T.dw).trans (congrArg _ (put_upTo _ _ t ht _ fun h => by rw [saved_chunk G, ds_last t ht, Chunk.rdw_eq]))
  dg := (bwd_dg R hI T.D T.dg).trans (congrArg _ (put_upTo _ _ t ht _ fun h => by
    rw [saved_chunk G, ds_last t ht, Chunk.rdg_eq _ _ (G.falls h _)]))

theorem trip (H : Given m c A) (G : A.Good) : ∀ t, t ≤ 128 → Trip A t (atTrip cond1Ops bwdI (atBwd m) t c)
  | 0, _ => by
    have z := mid_zero (fwdEnd m c)
    constructor <;> try rw [upTo_zero]
    exacts [z.1, z.2.1, z.2.2.1, z.2.2.2.1, z.2.2.2.2.1, z.2.2.2.2.2]
  | t + 1, ht => by
    rw [atTrip_succ]
    exact (trip H G t (by omega)).cond.next G (by omega) (reads H G t) (bwd_at t (by omega))

theorem trip_end (H : Given m c A) (G : A.Good) : Trip A 128 (bwdEnd m c) := (trip H G 128 le_rfl).cond

/-! ## The results -/

theorem final_dq (H : Given m c A) (G : A.Good) : final m c (Proc.devRef .tc main_v52) = m2 (φ := .f32) A.dq :=
  post_dq ((trip_end H G).dq.trans (congrArg _ (upTo_all _ _)))

theorem final_dk (H : Given m c A) (G : A.Good) : final m c (Proc.devRef .tc main_v53) = m2 (φ := .f32) A.dk :=
  post_dk ((trip_end H G).dk.trans (congrArg _ (upTo_all _ _)))

theorem final_dg (H : Given m c A) (G : A.Good) : final m c (Proc.devRef .tc main_v55) = m2 (φ := .f32) A.dg :=
  post_dg ((trip_end H G).dg.trans (congrArg _ (upTo_all _ _)))

theorem final_du (H : Given m c A) (G : A.Good) : final m c (Proc.devRef .tc main_v47) = m2 (φ := .f32) A.du :=
  post_du ((trip_end H G).du.trans (congrArg _ (upTo_all _ _)))

theorem final_dw (H : Given m c A) (G : A.Good) : final m c (Proc.devRef .tc main_v45) = m2 (φ := .f32) A.dw :=
  post_dw ((trip_end H G).dw.trans (congrArg _ (upTo_all _ _)))

end Cert.ReferenceIdeal.Ops

end
-- ==== Proof.PreValue.lean ====
module

public import proofs.«01_k».proof.Proof.Gen.Pre_saved_by_forward
public import proofs.«01_k».proof.Proof.RefLoops
public import Idealize.ShloMosaic.Lib.KernelVsHost
public import Idealize.ShloMosaic.Lib.WordCmp

@[expose] public section

set_option maxRecDepth 4000

noncomputable section

/-! # What the precondition says of real arrays -/

namespace Cert.Pre_saved_by_forward.Value

open Idealize.ShloMosaic Cert.Real
open scoped BigOperators
open Cert.Pre_saved_by_forward

/-- A value whose size is below infinity is a real number. -/
theorem real_of_finite (x : Ideal .f32)
    (h : FloatOps.cmpf .olt (FloatOps.hostAbsf x) (FloatOps.ofBits (F := Ideal) .f32 0x7F800000#32) = 1#1) : ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have l : max (x : EReal) (-(x : EReal)) < ⊤ := by
    unfold Ideal.cmp at h'
    exact (WordCmp.ofBool_decide_eq_one_iff _).mp h'
  rw [max_lt_iff] at l
  refine ⟨EReal.toReal x, (EReal.coe_toReal l.1.ne ?_).symm⟩
  rintro rfl
  exact absurd l.2 (by simp)

/-- An array of finite values is a real array. -/
theorem real2 {a b : ℕ} (x : FVec Ideal ⟨2, ![a, b]⟩ .f32) {p : Fin S_.rank → Fin 2} (hb)
    (h : cmpf .olt (Host.absf x) (broadcastInDim (s := S_) ⟨2, ![a, b]⟩ p hb (constant S_ .f32 0x7F800000#32)) = fun _ => 1#1) :
    ∃ f : Fin a → Fin b → ℝ, x = m2 f := by
  choose f hf using fun i j => real_of_finite (x (ix2 i j)) (congrFun h (ix2 i j))
  exact ⟨f, ext2 fun i j => hf i j⟩

theorem real4 {a b c d : ℕ} (x : FVec Ideal ⟨4, ![a, b, c, d]⟩ .f32) {p : Fin S_.rank → Fin 4} (hb)
    (h : cmpf .olt (Host.absf x) (broadcastInDim (s := S_) ⟨4, ![a, b, c, d]⟩ p hb (constant S_ .f32 0x7F800000#32)) = fun _ => 1#1) :
    ∃ f : Fin a → Fin b → Fin c → Fin d → ℝ, x = m4 f := by
  choose f hf using fun i j k l => real_of_finite (x (ix4 i j k l)) (congrFun h (ix4 i j k l))
  exact ⟨f, ext4 fun i j k l => hf i j k l⟩

theorem eq_of_oeq (x y : ℝ) (h : Ideal.cmp .oeq (x : EReal) (y : EReal) = 1#1) : x = y := by
  unfold Ideal.cmp at h
  exact EReal.coe_injective ((WordCmp.ofBool_decide_eq_one_iff _).mp h)

theorem lt_of_olt (x y : ℝ) (h : Ideal.cmp .olt (x : EReal) (y : EReal) = 1#1) : x < y := by
  unfold Ideal.cmp at h
  exact EReal.coe_lt_coe_iff.mp ((WordCmp.ofBool_decide_eq_one_iff _).mp h)

set_option maxHeartbeats 4000000

variable (A : Args)

/-- The log-gates fall from each row of a chunk to the next. -/
theorem falls (h8 : (fn (F := Ideal) (m2 A.d) (m2 A.qkv) (m2 A.u) (m2 A.w) (m2 A.g) (m2 A.v) (m4 A.s)).2.2.2.2.2.2.2.1 = fun _ => 1#1)
    (h : Fin 32) (n : Fin 128) (i : Fin 63) :
    (A.chunk h n).g ⟨i.val + 1, by omega⟩ < (A.chunk h n).g ⟨i.val, by omega⟩ := by
  unfold fn fn_part1 fn_part2 fn_part3 at h8
  have e := congrFun h8 (ix3 h n i)
  dsimp only at e
  revert e
  pointwise [m2, m4]
  intro e
  have l := EReal.coe_lt_coe_iff.mp ((WordCmp.ofBool_decide_eq_one_iff _).mp e)
  exact lt_of_eq_of_lt (congrArg₂ A.g (Fin.ext (by dsimp only [rowOf]; omega)) rfl)
    (lt_of_lt_of_eq l (congrArg₂ A.g (Fin.ext (by dsimp only [rowOf]; omega)) rfl))

/-- The saved values are what is left of `u` after the state's part. -/
theorem left (h9 : (fn (F := Ideal) (m2 A.d) (m2 A.qkv) (m2 A.u) (m2 A.w) (m2 A.g) (m2 A.v) (m4 A.s)).2.2.2.2.2.2.2.2.1 = fun _ => 1#1)
    (h : Fin 32) (n : Fin 128) (i : Fin 64) (j : Fin 128) :
    (A.chunk h n).v i j = A.u (rowOf n i) (colOf h j) - mm (A.chunk h n).w (A.s h n) i j := by
  unfold fn fn_part1 fn_part2 fn_part3 at h9
  have e := congrFun h9 (ix4 h n i j)
  dsimp only at e
  revert e
  pointwise [m2, m4]
  have hw : ∀ x : Fin 128, A.w ⟨n.val * 64 + i.val, by omega⟩ ⟨h.val * 128 + x.val, by omega⟩ = (A.chunk h n).w i x := fun x =>
    congrArg₂ A.w (Fin.ext (by dsimp only [rowOf]; omega)) (Fin.ext (by dsimp only [colOf]; omega))
  have hu : A.u ⟨n.val * 64 + i.val, by omega⟩ ⟨h.val * 128 + j.val, by omega⟩ = A.u (rowOf n i) (colOf h j) :=
    congrArg₂ A.u (Fin.ext (by dsimp only [rowOf]; omega)) (Fin.ext (by dsimp only [colOf]; omega))
  have hv : A.v ⟨n.val * 64 + i.val, by omega⟩ ⟨h.val * 128 + j.val, by omega⟩ = (A.chunk h n).v i j :=
    congrArg₂ A.v (Fin.ext (by dsimp only [rowOf]; omega)) (Fin.ext (by dsimp only [colOf]; omega))
  simp only [hw, hu, hv, sum_mul_coe]
  intro e
  rw [WordCmp.ofBool_decide_eq_one_iff, ← EReal.coe_sub] at e
  exact EReal.coe_injective e

/-- The first saved state is zero. -/
theorem first (h10 : (fn (F := Ideal) (m2 A.d) (m2 A.qkv) (m2 A.u) (m2 A.w) (m2 A.g) (m2 A.v) (m4 A.s)).2.2.2.2.2.2.2.2.2.1 = fun _ => 1#1)
    (h : Fin 32) (i j : Fin 128) : A.s h 0 i j = 0 := by
  unfold fn fn_part1 fn_part2 fn_part3 at h10
  have e := congrFun h10 (ix3 h i j)
  dsimp only at e
  revert e
  pointwise [m2, m4]
  intro e
  exact EReal.coe_injective ((WordCmp.ofBool_decide_eq_one_iff _).mp e)

/-- Each later saved state is the one leaving the chunk before. -/
theorem next (h11 : (fn (F := Ideal) (m2 A.d) (m2 A.qkv) (m2 A.u) (m2 A.w) (m2 A.g) (m2 A.v) (m4 A.s)).2.2.2.2.2.2.2.2.2.2 = fun _ => 1#1)
    (h : Fin 32) (n : Fin 127) (i j : Fin 128) :
    A.s h ⟨n.val + 1, by omega⟩ i j = (A.chunk h ⟨n.val, by omega⟩).next i j := by
  unfold fn fn_part1 fn_part2 fn_part3 at h11
  have e := congrFun h11 (ix4 h n i j)
  dsimp only at e
  revert e
  pointwise [m2, m4]
  have hk : ∀ x : Fin 64, A.qkv ⟨n.val * 64 + x.val, by omega⟩ ⟨2048 + (h.val / 2 * 128 + i.val), by omega⟩ = (A.chunk h ⟨n.val, by omega⟩).k x i :=
    fun x => congrArg₂ A.qkv (Fin.ext (by dsimp only [rowOf]; omega)) (Fin.ext (by dsimp only; omega))
  have hv : ∀ x : Fin 64, A.v ⟨n.val * 64 + x.val, by omega⟩ ⟨h.val * 128 + j.val, by omega⟩ = (A.chunk h ⟨n.val, by omega⟩).v x j :=
    fun x => congrArg₂ A.v (Fin.ext (by dsimp only [rowOf]; omega)) (Fin.ext (by dsimp only [colOf]; omega))
  have hg : ∀ x : Fin 64, A.g ⟨n.val * 64 + x.val, by omega⟩ h = (A.chunk h ⟨n.val, by omega⟩).g x :=
    fun x => congrArg₂ A.g (Fin.ext (by dsimp only [rowOf]; omega)) rfl
  have hl : A.g ⟨n.val * 64 + 63, by omega⟩ h = (A.chunk h ⟨n.val, by omega⟩).g 63 :=
    congrArg₂ A.g (Fin.ext (by dsimp only [rowOf]; omega)) rfl
  have hs : A.s h ⟨1 + n.val, by omega⟩ i j = A.s h ⟨n.val + 1, by omega⟩ i j :=
    congrArg (fun t => A.s h t i j) (Fin.ext (by dsimp only; omega))
  have he : ∀ x : ℝ, Ideal.exp (x : EReal) = ((Real.exp x : ℝ) : EReal) := fun _ => rfl
  simp only [hk, hv, hg, hl, hs, he, ← EReal.coe_sub, ← EReal.coe_mul, ← EReal.coe_add, coe_sum]
  intro e
  exact EReal.coe_injective ((WordCmp.ofBool_decide_eq_one_iff _).mp e)

/-- Values that fall from each place to the next fall. -/
theorem falling {f : Fin 64 → ℝ} (hf : ∀ i : Fin 63, f ⟨i.val + 1, by omega⟩ < f ⟨i.val, by omega⟩) :
    ∀ i j : Fin 64, j < i → f i < f j := fun i j h => by
  have key : ∀ d (hd : j.val + 1 + d < 64), f ⟨j.val + 1 + d, hd⟩ < f j := by
    intro d
    induction d with
    | zero => exact fun _ => hf ⟨j.val, by omega⟩
    | succ d ih => exact fun hd => (hf ⟨j.val + 1 + d, by omega⟩).trans (ih (by omega))
  have hi : j.val < i.val := h
  have e : i = ⟨j.val + 1 + (i.val - j.val - 1), by omega⟩ := Fin.ext (by dsimp only; omega)
  rw [e]
  exact key _ _

/-- Arguments that satisfy the precondition are real arrays, and the two saved ones are what the forward pass computes. -/
theorem real_args (a0 : FVec Ideal S8192x4096 .f32) (a1 : FVec Ideal S8192x8192 .f32) (a2 a3 : FVec Ideal S8192x4096 .f32)
    (a4 : FVec Ideal S8192x32 .f32) (a5 : FVec Ideal S8192x4096 .f32) (a6 : FVec Ideal S32x128x128x128 .f32)
    (H : (fn (F := Ideal) a0 a1 a2 a3 a4 a5 a6).1 = (fun _ => 1#1) ∧ (fn (F := Ideal) a0 a1 a2 a3 a4 a5 a6).2.1 = (fun _ => 1#1) ∧ (fn (F := Ideal) a0 a1 a2 a3 a4 a5 a6).2.2.1 = (fun _ => 1#1) ∧ (fn (F := Ideal) a0 a1 a2 a3 a4 a5 a6).2.2.2.1 = (fun _ => 1#1) ∧ (fn (F := Ideal) a0 a1 a2 a3 a4 a5 a6).2.2.2.2.1 = (fun _ => 1#1) ∧ (fn (F := Ideal) a0 a1 a2 a3 a4 a5 a6).2.2.2.2.2.1 = (fun _ => 1#1) ∧ (fn (F := Ideal) a0 a1 a2 a3 a4 a5 a6).2.2.2.2.2.2.1 = (fun _ => 1#1) ∧ (fn (F := Ideal) a0 a1 a2 a3 a4 a5 a6).2.2.2.2.2.2.2.1 = (fun _ => 1#1) ∧ (fn (F := Ideal) a0 a1 a2 a3 a4 a5 a6).2.2.2.2.2.2.2.2.1 = (fun _ => 1#1) ∧ (fn (F := Ideal) a0 a1 a2 a3 a4 a5 a6).2.2.2.2.2.2.2.2.2.1 = (fun _ => 1#1) ∧ (fn (F := Ideal) a0 a1 a2 a3 a4 a5 a6).2.2.2.2.2.2.2.2.2.2 = (fun _ => 1#1)) :
    ∃ A : Args, a0 = m2 A.d ∧ a1 = m2 A.qkv ∧ a2 = m2 A.u ∧ a3 = m2 A.w ∧ a4 = m2 A.g ∧ a5 = m2 A.v ∧ a6 = m4 A.s ∧ A.Good := by
  obtain ⟨h0, h1, h2, h3, h4, h5, h6, h7, h8, h9, h10⟩ := H
  obtain ⟨d, rfl⟩ := real2 a0 _ h0
  obtain ⟨qkv, rfl⟩ := real2 a1 _ h1
  obtain ⟨u, rfl⟩ := real2 a2 _ h2
  obtain ⟨w, rfl⟩ := real2 a3 _ h3
  obtain ⟨g, rfl⟩ := real2 a4 _ h4
  obtain ⟨v, rfl⟩ := real2 a5 _ h5
  obtain ⟨s, rfl⟩ := real4 a6 _ h6
  refine ⟨⟨d, qkv, u, w, g, v, s⟩, rfl, rfl, rfl, rfl, rfl, rfl, rfl, ?_⟩
  refine ⟨fun h n => funext fun i => funext fun j => left ⟨d, qkv, u, w, g, v, s⟩ h8 h n i j, fun h n hn => ?_, fun h n n' hn => ?_,
    fun h n => falling (falls ⟨d, qkv, u, w, g, v, s⟩ h7 h n)⟩
  · have e : n = 0 := Fin.ext hn
    subst e
    exact funext fun i => funext fun j => first ⟨d, qkv, u, w, g, v, s⟩ h9 h i j
  · have l : n.val + 1 < 128 := hn ▸ n'.isLt
    have e : n' = ⟨n.val + 1, l⟩ := Fin.ext hn
    rw [e]
    exact funext fun i => funext fun j => next ⟨d, qkv, u, w, g, v, s⟩ h10 h ⟨n.val, by omega⟩ i j

end Cert.Pre_saved_by_forward.Value

end
-- ==== Proof.Mixer.lean ====
module

public import proofs.«01_k».proof.Proof.RealArr
public import Idealize.ShloMosaic.Lib.Pipeline.ValueKit.Tiles
public import Idealize.ShloMosaic.Lib.Pointwise

@[expose] public section

noncomputable section

/-! # What the products of the channel mixer share

A weight of the channel mixer lies in eight blocks of 1024 along its long axis of 8192. The kernels take that axis block by
block; the sums below put the blocks together again. All of it is over the extended reals, where sums may be regrouped freely. -/

namespace Cert.Mixer

open Idealize.ShloMosaic Cert.Real

/-- The block in which place `j` of the long axis lies. -/
def blockOf (j : Fin 8192) : Fin 8 := ⟨j.val / 1024, by omega⟩
/-- The place of `j` in its block. -/
def inBlock (j : Fin 8192) : Fin 1024 := ⟨j.val % 1024, by omega⟩

theorem blockOf_tile (b : Nat) (j : Fin 1024) (hb : b < 8) (h : b * 1024 + j.val < 8192) : blockOf ⟨b * 1024 + j.val, h⟩ = ⟨b, hb⟩ :=
  Fin.ext (by simp only [blockOf]; omega)
theorem inBlock_tile (b : Nat) (j : Fin 1024) (h : b * 1024 + j.val < 8192) : inBlock ⟨b * 1024 + j.val, h⟩ = j :=
  Fin.ext (by simp only [inBlock]; omega)

theorem hz2 : (![0, 0] : Fin 2 → Nat) = fun _ => 0 := funext fun a => by fin_cases a <;> rfl
theorem hz3 : (![0, 0, 0] : Fin 3 → Nat) = fun _ => 0 := funext fun a => by fin_cases a <;> rfl

/-- The constant two. -/
theorem two_val : Ideal.ofBits FTy.f32 1073741824#32 = (2 : EReal) := by
  simp [Ideal.ofBits, Ideal.ieee]
  rw [← EReal.coe_mul, show (8388608 : ℝ) * (2 ^ 22)⁻¹ = 2 by norm_num]
  rfl

/-- An accumulator that starts anew at every fourth point and takes a quarter of a sum at each holds the whole sum at the last
of four. -/
theorem four_steps {N : Nat} (S : (n : Nat) → n < N → EReal) (f : Fin 8192 → EReal) (t : Nat) (ht : t < N) (h3 : t % 4 = 3)
    (hA : ∀ n (hn : n < N), n / 4 = t / 4 → n % 4 = 0 → S n hn = ∑ k : Fin 2048, f ⟨n % 4 * 2048 + k.val, by omega⟩)
    (hB : ∀ n (hn : n < N), n / 4 = t / 4 → ¬n % 4 = 0 →
      S n hn = S (n - 1) (by omega) + ∑ k : Fin 2048, f ⟨n % 4 * 2048 + k.val, by omega⟩) :
    S t ht = ∑ k, f k := by
  have e (b : Nat) (r : Fin 4) (h : b % 4 = r.val) : (∑ k : Fin 2048, f ⟨b % 4 * 2048 + k.val, by omega⟩) = ∑ k : Fin 2048, f ⟨r.val * 2048 + k.val, by omega⟩ :=
    Finset.sum_congr rfl fun k _ => congrArg f (Fin.ext (by show b % 4 * 2048 + k.val = r.val * 2048 + k.val; rw [h]))
  rw [Fin.sum_univ_tiles 4 2048 rfl, Fin.sum_univ_four, hB t ht rfl (by omega), hB (t - 1) (by omega) (by omega) (by omega),
    hB (t - 1 - 1) (by omega) (by omega) (by omega), hA (t - 1 - 1 - 1) (by omega) (by omega) (by omega),
    e t 3 h3, e (t - 1) 2 (by show _ = 2; omega), e (t - 1 - 1) 1 (by show _ = 1; omega), e (t - 1 - 1 - 1) 0 (by show _ = 0; omega)]

/-- The same of an accumulator that takes half of a sum at each of two points. -/
theorem two_steps {N : Nat} (S : (n : Nat) → n < N → EReal) (f : Fin 4096 → EReal) (t : Nat) (ht : t < N) (h1 : t % 2 = 1)
    (hA : ∀ n (hn : n < N), n / 2 = t / 2 → n % 2 = 0 → S n hn = ∑ k : Fin 2048, f ⟨n % 2 * 2048 + k.val, by omega⟩)
    (hB : ∀ n (hn : n < N), n / 2 = t / 2 → ¬n % 2 = 0 →
      S n hn = S (n - 1) (by omega) + ∑ k : Fin 2048, f ⟨n % 2 * 2048 + k.val, by omega⟩) :
    S t ht = ∑ k, f k := by
  have e (b : Nat) (r : Fin 2) (h : b % 2 = r.val) : (∑ k : Fin 2048, f ⟨b % 2 * 2048 + k.val, by omega⟩) = ∑ k : Fin 2048, f ⟨r.val * 2048 + k.val, by omega⟩ :=
    Finset.sum_congr rfl fun k _ => congrArg f (Fin.ext (by show b % 2 * 2048 + k.val = r.val * 2048 + k.val; rw [h]))
  rw [Fin.sum_univ_tiles 2 2048 rfl, Fin.sum_univ_two, hB t ht rfl (by omega), hA (t - 1) (by omega) (by omega) (by omega),
    e t 1 h1, e (t - 1) 0 (by show _ = 0; omega)]

/-- Place `k` of half `h` of a quarter of the long axis. -/
def half (h : Fin 2) (k : Fin 1024) : Fin 2048 := ⟨h.val * 1024 + k.val, by omega⟩

/-- The sum over a quarter of the long axis is that over its two blocks. -/
theorem half_sum (f : Fin 8192 → EReal) (b : Nat) (hb : b < 4) :
    (∑ k : Fin 2048, f ⟨b * 2048 + k.val, by omega⟩)
      = (∑ k : Fin 1024, f ⟨(b * 2 + (0 : Fin 2).val) * 1024 + k.val, by show (b * 2 + 0) * 1024 + k.val < 8192; omega⟩)
        + ∑ k : Fin 1024, f ⟨(b * 2 + (1 : Fin 2).val) * 1024 + k.val, by show (b * 2 + 1) * 1024 + k.val < 8192; omega⟩ := by
  rw [Fin.sum_univ_two_halves 1024 1024 rfl]
  refine congrArg₂ (· + ·) (Finset.sum_congr rfl fun k _ => congrArg f (Fin.ext ?_)) (Finset.sum_congr rfl fun k _ => congrArg f (Fin.ext ?_))
  · show b * 2048 + k.val = (b * 2 + 0) * 1024 + k.val; omega
  · show b * 2048 + (1024 + k.val) = (b * 2 + 1) * 1024 + k.val; omega

/-- A load of one half of a block's columns. -/
theorem ld_half (o : Nat) (h) (n : Fin 2) (ho : o = n.val * 1024) (x : FVec Ideal ⟨2, ![1024, 2048]⟩ .bf16) (i k : Fin 1024) :
    View.ld (S := ⟨2, ![1024, 2048]⟩) (Val := Elt Ideal) (e' := .bf16) x (Rect.unit (s := ⟨2, ![1024, 2048]⟩) ![0, o] ![1024, 1024] h) (ix2 (n0 := 1024) (n1 := 1024) i k)
      = x (ix2 i (half n k)) := by
  subst ho
  rw [View.ld_unit_apply_of (i := ix2 i (half n k)) (hi := fun a => by
    match a with
    | ⟨0, _⟩ => exact (Nat.zero_add _).symm
    | ⟨1, _⟩ => rfl)]

/-- A load of one of two blocks. -/
theorem ld_block (o : Nat) (h) (n : Fin 2) (ho : o = n.val) (x : FVec Ideal ⟨3, ![2, 1024, 1024]⟩ .bf16) (i k : Fin 1024) :
    View.ld (S := ⟨3, ![2, 1024, 1024]⟩) (Val := Elt Ideal) (e' := .bf16) x (Rect.unit (s := ⟨3, ![2, 1024, 1024]⟩) ![o, 0, 0] ![1, 1024, 1024] h)
        (ix3 (n0 := 1) (n1 := 1024) (n2 := 1024) 0 i k)
      = x (ix3 n i k) := by
  subst ho
  rw [View.ld_unit_apply_of (i := ix3 n i k) (hi := fun a => by
    match a with
    | ⟨0, _⟩ => rfl
    | ⟨1, _⟩ => exact (Nat.zero_add _).symm
    | ⟨2, _⟩ => exact (Nat.zero_add _).symm)]

end Cert.Mixer
-- ==== Proof.DownDx.lean ====
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Mixer
public import Idealize.ShloMosaic.Lib.Pipeline.ValueKit.Geometry
public import Idealize.ShloMosaic.Lib.Pointwise
public import Idealize.ShloMosaic.Lib.WordCmp
public import Idealize.ShloMosaic.Lib.StableHlo.RunRead

@[expose] public section

noncomputable section

/-! # The gradient of the mixer's second product by its input, through the activation -/

namespace Cert.DownDx

open Idealize.ShloMosaic Idealize.ShloMosaic.TcCoe Idealize.SL.Sem Cert.Real Cert.Mixer

/-- The gradient by the value before the activation: the product of the output's gradient and the transposed weight, times
the derivative of the squared positive part. The weight's rows come in eight blocks. -/
def grad (d : FVec Ideal Kernel2Ideal.S8192x2048 .bf16) (w : FVec Ideal Kernel2Ideal.S8x1024x2048 .bf16)
    (u : FVec Ideal Kernel2Ideal.S8192x8192 .f32) : FVec Ideal Kernel2Ideal.S8192x8192 .bf16 := fun i =>
  (∑ k : Fin 2048, d (ix2 (n0 := 8192) (n1 := 2048) (i 0) k) * w (ix3 (n0 := 8) (n1 := 1024) (n2 := 2048) (blockOf (i 1)) (inBlock (i 1)) k))
    * 2 * max (u i) (0 : EReal)

/-- The gradient at a place of the long axis given by its block and the place in it. -/
theorem grad_at (d w u) (r : Fin 8192) (b : Nat) (j : Fin 1024) (hb : b < 8) (h : b * 1024 + j.val < 8192) :
    grad d w u (ix2 r ⟨b * 1024 + j.val, h⟩)
      = (∑ k : Fin 2048, (d (ix2 r k) * w (ix3 ⟨b, hb⟩ j k) : EReal)) * 2 * max (u (ix2 r ⟨b * 1024 + j.val, h⟩)) (0 : EReal) := by
  show (∑ k : Fin 2048, (d (ix2 r k) * w (ix3 (blockOf ⟨b * 1024 + j.val, h⟩) (inBlock ⟨b * 1024 + j.val, h⟩) k) : EReal)) * 2 * _ = _
  rw [blockOf_tile _ _ hb, inBlock_tile]

open Reference2Ideal Reference2Ideal.Facts₀ in
/-- What the reference computes. -/
theorem reference (d : FVec Ideal S8192x2048 .bf16) (w : FVec Ideal S8x1024x2048 .bf16) (u : FVec Ideal S8192x8192 .f32) :
    truncf .bf16 (select (cmpf .ogt u (broadcastInDim S8192x8192 ![] bcast_S_S8192x8192 (constant S_ .f32 0x00000000#32)))
      (mulf (Host.dotGeneral dot_S8192x2048_S8192x2048_S8192x8192_1_1_0_0_n_n none (extf .f32 d bitsLt_bf16_f32)
          (shapeCast _ (extf .f32 w bitsLt_bf16_f32) shapeCasts_S8x1024x2048_S8192x2048))
        (mulf (broadcastInDim S8192x8192 ![] bcast_S_S8192x8192 (constant S_ .f32 0x40000000#32))
          (maximumf u (broadcastInDim S8192x8192 ![] bcast_S_S8192x8192 (constant S_ .f32 0x00000000#32)))))
      (broadcastInDim S8192x8192 ![] bcast_S_S8192x8192 (constant S_ .f32 0x00000000#32))) bitsLt_bf16_f32
    = grad d w u := by
  refine ext2 fun i j => ?_
  pointwise [grad, blockOf, inBlock]
  rw [two_val]
  split_ifs with h
  · rw [mul_assoc]
  · rw [max_eq_right (not_lt.1 h), mul_zero]

section
open Kernel2Ideal Kernel2Ideal.Gen Kernel2Ideal.Value

/-- What one point of the grid leaves. -/
theorem point (x0 : FVec Ideal S1024x2048 .bf16) (x1 : FVec Ideal S1x1024x2048 .bf16) (x2 : FVec Ideal S1024x1024 .f32) (i j : Fin 1024) :
    out0_3 (F := Ideal) x0 x1 x2 (ix2 i j) = (∑ k : Fin 2048, (x0 (ix2 i k) * x1 (ix3 0 j k) : EReal)) * 2 * max (x2 (ix2 i j)) (0 : EReal) := by
  unfold out0_3
  rw [View.canon_cons_unit_zero hz2, View.ld_unit_zero (S := S1024x2048) hz2, View.ld_unit_zero (S := S1x1024x2048) hz3, View.ld_unit_zero (S := S1024x1024) hz2]
  unfold k0_pay1
  pointwise []
  rw [two_val]

variable (m : (ℓ : Loc nD τ sig) → Buf (Elt Ideal) ℓ) (c : Dev nD)

theorem idx : ∀ t : Fin grid0.N, win0_0.index t = ![t.val / 8, 0] ∧ win0_1.index t = ![t.val % 8, 0, 0] ∧
    win0_2.index t = ![t.val / 8, t.val % 8] ∧ win0_3.index t = ![t.val / 8, t.val % 8] := by decide +kernel

theorem at_d (t : Fin cfg0.N) (i : Fin 1024) (k : Fin 2048) :
    (win0_0.blk t).view.emb (ix2 i k) = ix2 (n0 := 8192) (n1 := 2048) ⟨t.val / 8 * 1024 + i.val, by have := t.isLt; have : cfg0.N = 64 := N_0; omega⟩ k := by
  refine funext fun a => Fin.ext ?_
  fin_cases a <;> blk_simp [(idx t).1]
  all_goals rfl
theorem at_w (t : Fin cfg0.N) (j : Fin 1024) (k : Fin 2048) :
    (win0_1.blk t).view.emb (ix3 0 j k) = ix3 (n0 := 8) (n1 := 1024) (n2 := 2048) ⟨t.val % 8, by omega⟩ j k := by
  refine funext fun a => Fin.ext ?_
  fin_cases a <;> blk_simp [(idx t).2.1]
  all_goals rfl
theorem at_u (t : Fin cfg0.N) (i j : Fin 1024) :
    (win0_2.blk t).view.emb (ix2 i j) = ix2 (n0 := 8192) (n1 := 8192) ⟨t.val / 8 * 1024 + i.val, by have := t.isLt; have : cfg0.N = 64 := N_0; omega⟩ ⟨t.val % 8 * 1024 + j.val, by omega⟩ := by
  refine funext fun a => Fin.ext ?_
  fin_cases a <;> blk_simp [(idx t).2.2.1]
  all_goals rfl
theorem at_o (t : Fin cfg0.N) (i j : Fin 1024) :
    (win0_3.blk t).view.emb (ix2 i j) = ix2 (n0 := 8192) (n1 := 8192) ⟨t.val / 8 * 1024 + i.val, by have := t.isLt; have : cfg0.N = 64 := N_0; omega⟩ ⟨t.val % 8 * 1024 + j.val, by omega⟩ := by
  refine funext fun a => Fin.ext ?_
  fin_cases a <;> blk_simp [(idx t).2.2.2]
  all_goals rfl

/-- The whole array the kernel leaves. -/
theorem array : (dats m 0 c).arrAt 3 cfg0.N
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨i, j, rfl⟩ : ∃ (i : Fin 1024) (j : Fin 1024), y = ix2 i j := ⟨y 0, y 1, funext fun a => by fin_cases a <;> rfl⟩
  rw [point]
  blk_simp [iblk, V_main_arg0, V_main_arg1, V_main_arg2]
  rw [at_o t, at_u t]
  simp only [at_d t, at_w t]
  exact (grad_at _ _ _ _ _ _ (by omega) _).symm

end

/-- The kernel's result and the reference's agree. -/
theorem algebraic : algebraic_Kernel2Ideal_Reference2Ideal := by
  intro m g m' g' _ hargs
  refine ⟨fun c => grad (m ((c.tc : Thread Kernel2Ideal.nD Kernel2Ideal.τ).loc Kernel2Ideal.main_arg0)) (m ((c.tc : Thread Kernel2Ideal.nD Kernel2Ideal.τ).loc Kernel2Ideal.main_arg1))
    (m ((c.tc : Thread Kernel2Ideal.nD Kernel2Ideal.τ).loc Kernel2Ideal.main_arg2)), ?_, ?_⟩
  · exact (θ_run Kernel2Ideal.defs _ _).mono (fun r h c => ⟨(h c).1.trans (array m c), (h c).2⟩) (Kernel2Ideal.Value.run_blocks m g)
  · refine (θ_run Reference2Ideal.defs _ _).mono (fun r h c => ⟨(h c).1.trans ((reference _ _ _).trans ?_), (h c).2⟩) (Reference2Ideal.Value.run m' g')
    rw [(hargs c).1, (hargs c).2.1, (hargs c).2.2]

/-- The reference ends, its arguments are unchanged and every semaphore reads zero. -/
theorem reference_frame : quiescent_Reference2Ideal := fun m ρ _ =>
  (θ_run Reference2Ideal.defs _ _).mono (fun r h => ⟨fun c => (h c).2, sem_eq_zero_of_no_sems (by decide) r.2⟩) (Reference2Ideal.Value.run m ρ)

end Cert.DownDx
-- ==== Proof.DownDw.lean ====
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The gradient of the mixer's second weight -/

namespace Cert.DownDw

open Idealize.ShloMosaic Idealize.ShloMosaic.TcCoe Idealize.SL.Sem Cert.Real Cert.Mixer

/-- The weight's gradient: at each place the sum over the tokens of the activation and the output's gradient. The weight's
rows come in eight blocks. -/
def grad (a : FVec Ideal Kernel3Ideal.S8192x8192 .bf16) (d : FVec Ideal Kernel3Ideal.S8192x2048 .bf16) : FVec Ideal Kernel3Ideal.S8x1024x2048 .bf16 := fun i =>
  (∑ k : Fin 8192, (a (ix2 (n0 := 8192) (n1 := 8192) k ⟨(i 0).val * 1024 + (i 1).val, by
    have h0 : (i 0).val < 8 := (i 0).isLt; have h1 : (i 1).val < 1024 := (i 1).isLt; omega⟩) * d (ix2 (n0 := 8192) (n1 := 2048) k (i 2)) : EReal))

section
open Reference3Ideal Reference3Ideal.Facts₀

/-- What the reference computes. -/
theorem reference (a : FVec Ideal S8192x8192 .bf16) (d : FVec Ideal S8192x2048 .bf16) :
    truncf .bf16 (shapeCast _ (transpose S8192x2048 [1, 0] (Host.dotGeneral dot_S8192x2048_S8192x8192_S2048x8192_0_0_1_1_n_n none (extf .f32 d bitsLt_bf16_f32)
      (extf .f32 a bitsLt_bf16_f32)) transposes_S2048x8192_S8192x2048_1_0) shapeCasts_S8192x2048_S8x1024x2048) bitsLt_bf16_f32
    = grad a d := by
  refine ext3 fun i j k => ?_
  pointwise [grad]
  exact Finset.sum_congr rfl fun x _ => mul_comm _ _
end

section
open Kernel3Ideal Kernel3Ideal.Gen Kernel3Ideal.Value

section
variable (c : Dev nD) (i : grid0.Coords)
  (a3 : Memref sig .tc .vmem S2048x1024 .bf16) (h3 : a3.IsWhole)
  (a4 : Memref sig .tc .vmem S2048x1024 .bf16) (h4 : a4.IsWhole)
  (a5 : Memref sig .tc .vmem S1x1024x1024 .bf16) (h5 : a5.IsWhole)
  (a6 : Memref sig .tc .vmem S1024x1024 .f32) (h6 : a6.IsWhole)
  (x0 x1 : FVec Ideal S2048x1024 .bf16) (s : FVec Ideal S1024x1024 .f32)

/-- The first point of four starts the accumulator at its own product. -/
theorem first (hA hB) : sout0_A_0 (F := Ideal) c i a3 h3 a4 h4 a5 h5 a6 h6 hA hB x0 x1 = k0_pay2 (F := Ideal) (k0_pay1 (F := Ideal)) x0 x1 := by
  unfold sout0_A_0
  rw [View.read_writes_eq_canon _ _ _ (scover0_A_0 c i a3 h3 a4 h4 a5 h5 a6 h6 hA hB _ _)]
  unfold kernelRun0_A
  dsimp only
  sl_unfold_words
  rw [View.canon_cons_unit_zero hz2]
  simp only [View.readAt_eq_ld, h3.read_unread, h4.read_unread, View.readCov_unit_zero (S := S1024x1024) _ hz2, View.ld_unit_zero (S := S2048x1024) hz2, shapeCast_self]

/-- A later point adds its product. -/
theorem next (hA hB) : sout0_B_0 (F := Ideal) c i a3 h3 a4 h4 a5 h5 a6 h6 hA hB x0 x1 s = k0_pay2 (F := Ideal) s x0 x1 := by
  unfold sout0_B_0
  rw [View.read_writes_eq_canon _ _ _ (scover0_B_0 c i a3 h3 a4 h4 a5 h5 a6 h6 hA hB _ _ _)]
  unfold kernelRun0_B
  dsimp only
  sl_unfold_words
  rw [View.canon_cons_unit_zero hz2]
  simp only [View.readAt_eq_ld, h3.read_unread, h4.read_unread, h6.read_unread, View.ld_unit_zero (S := S1024x1024) hz2, View.ld_unit_zero (S := S2048x1024) hz2, shapeCast_self]

/-- So does the last, -/
theorem last (hA hB) : sout0_C_0 (F := Ideal) c i a3 h3 a4 h4 a5 h5 a6 h6 hA hB x0 x1 s = k0_pay2 (F := Ideal) s x0 x1 := by
  unfold sout0_C_0
  rw [View.read_writes_eq_canon _ _ _ (scover0_C_0 c i a3 h3 a4 h4 a5 h5 a6 h6 hA hB _ _ _)]
  unfold kernelRun0_C
  dsimp only
  sl_unfold_words
  rw [View.canon_cons_unit_zero hz2]
  simp only [View.readAt_eq_ld, h3.read_unread, h4.read_unread, h6.read_unread, View.ld_unit_zero (S := S1024x1024) hz2, View.ld_unit_zero (S := S2048x1024) hz2, shapeCast_self]

/-- which leaves the accumulator in the output's block. -/
theorem out (hA hB) : out0_C_2 (F := Ideal) c i a3 h3 a4 h4 a5 h5 a6 h6 hA hB x0 x1 s = k0_pay3 (F := Ideal) (k0_pay2 (F := Ideal) s x0 x1) := by
  unfold out0_C_2
  rw [View.read_writes_eq_canon _ _ _ (cover0_C_2 c i a3 h3 a4 h4 a5 h5 a6 h6 hA hB _ _ _)]
  unfold kernelRun0_C
  dsimp only
  sl_unfold_words
  rw [View.canon_cons_unit_zero hz3]
  simp only [View.readAt_eq_ld, h3.read_unread, h4.read_unread, h6.read_unread, View.readCov_unit_zero (S := S1024x1024) _ hz2, View.ld_unit_zero (S := S1024x1024) hz2, View.ld_unit_zero (S := S2048x1024) hz2, shapeCast_self]

/-- One point's step at an index. -/
theorem step (p q : Fin 1024) : k0_pay2 (F := Ideal) s x0 x1 (ix2 p q) = (s (ix2 p q) + ∑ k : Fin 2048, (x0 (ix2 k p) * x1 (ix2 k q) : EReal) : EReal) := by
  unfold k0_pay2
  pointwise []
/-- The accumulator starts at zero. -/
theorem start (p q : Fin 1024) : k0_pay1 (F := Ideal) (ix2 p q) = (0 : EReal) := by
  unfold k0_pay1
  pointwise []
/-- The output's block at an index. -/
theorem close (p q : Fin 1024) : k0_pay3 (F := Ideal) s (ix3 0 p q) = s (ix2 p q) := by
  unfold k0_pay3
  pointwise []
end

variable (m : (ℓ : Loc nD τ sig) → Buf (Elt Ideal) ℓ) (c : Dev nD)

theorem idx : ∀ t : Fin grid0.N, win0_0.index t = ![t.val % 4, t.val / 8] ∧ win0_1.index t = ![t.val % 4, t.val / 4 % 2] ∧
    win0_2.index t = ![t.val / 8, 0, t.val / 4 % 2] := by decide +kernel

theorem at_a (t : Fin cfg0.N) (k : Fin 2048) (i : Fin 1024) :
    (win0_0.blk t).view.emb (ix2 k i) = ix2 (n0 := 8192) (n1 := 8192) ⟨t.val % 4 * 2048 + k.val, by omega⟩ ⟨t.val / 8 * 1024 + i.val, by have := t.isLt; have : cfg0.N = 64 := N_0; omega⟩ := by
  refine funext fun a => Fin.ext ?_
  fin_cases a <;> blk_simp [(idx t).1] <;> rfl
theorem at_d (t : Fin cfg0.N) (k : Fin 2048) (j : Fin 1024) :
    (win0_1.blk t).view.emb (ix2 k j) = ix2 (n0 := 8192) (n1 := 2048) ⟨t.val % 4 * 2048 + k.val, by omega⟩ ⟨t.val / 4 % 2 * 1024 + j.val, by omega⟩ := by
  refine funext fun a => Fin.ext ?_
  fin_cases a <;> blk_simp [(idx t).2.1] <;> rfl
theorem at_o (t : Fin cfg0.N) (i j : Fin 1024) :
    (win0_2.blk t).view.emb (ix3 0 i j) = ix3 (n0 := 8) (n1 := 1024) (n2 := 2048) ⟨t.val / 8, by have := t.isLt; have : cfg0.N = 64 := N_0; omega⟩ i ⟨t.val / 4 % 2 * 1024 + j.val, by omega⟩ := by
  refine funext fun a => Fin.ext ?_
  fin_cases a <;> blk_simp [(idx t).2.2] <;> rfl

theorem blk_a (n : Nat) (hn : n < cfg0.N) (b : Nat) (e : n / 8 = b) (hb : b < 8) (k : Fin 2048) (i : Fin 1024) :
    iblk m c 0 ⟨n, hn⟩ (ix2 k i) = m ((c : Thread nD τ).loc main_arg0) (ix2 (n0 := 8192) (n1 := 8192) ⟨n % 4 * 2048 + k.val, by omega⟩ ⟨b * 1024 + i.val, by omega⟩) := by
  subst e
  blk_simp [iblk]
  rw [at_a ⟨n, hn⟩]
theorem blk_d (n : Nat) (hn : n < cfg0.N) (b : Nat) (e : n / 4 % 2 = b) (hb : b < 2) (k : Fin 2048) (j : Fin 1024) :
    iblk m c 1 ⟨n, hn⟩ (ix2 k j) = m ((c : Thread nD τ).loc main_arg1) (ix2 (n0 := 8192) (n1 := 2048) ⟨n % 4 * 2048 + k.val, by omega⟩ ⟨b * 1024 + j.val, by omega⟩) := by
  subst e
  blk_simp [iblk]
  rw [at_d ⟨n, hn⟩]

/-- The accumulator after the last of four points. -/
theorem scratch (t : Fin cfg0.N) (h3 : t.val % 4 = 3) (i j : Fin 1024) :
    (outsAt0 m c t.val t.isLt).2 (ix2 i j) = grad (m ((c : Thread nD τ).loc main_arg0)) (m ((c : Thread nD τ).loc main_arg1))
      (ix3 (n0 := 8) (n1 := 1024) (n2 := 2048) ⟨t.val / 8, by have := t.isLt; have : cfg0.N = 64 := N_0; omega⟩ i ⟨t.val / 4 % 2 * 1024 + j.val, by omega⟩) := by
  have h8 : t.val / 8 < 8 := by have := t.isLt; have : cfg0.N = 64 := N_0; omega
  refine four_steps (fun n hn => (outsAt0 m c n hn).2 (ix2 i j)) _ t.val t.isLt h3 (fun n hn e h0 => ?_) (fun n hn e h0 => ?_)
  · show (outsAt0 m c n hn).2 (ix2 i j) = _
    rw [outsAt0_A m c ⟨n, hn⟩ h0 (by show ¬n % 4 = 3; omega)]
    dsimp only
    rw [first, step, start, zero_add]
    simp only [blk_a m c n hn (t.val / 8) (by omega) h8, blk_d m c n hn (t.val / 4 % 2) (by omega) (by omega)]
    rfl
  · show (outsAt0 m c n hn).2 (ix2 i j) = (outsAt0 m c (n - 1) _).2 (ix2 i j) + _
    by_cases h1 : n % 4 = 3
    · rw [outsAt0_C m c ⟨n, hn⟩ h0 h1]
      dsimp only
      rw [last, step]
      simp only [blk_a m c n hn (t.val / 8) (by omega) h8, blk_d m c n hn (t.val / 4 % 2) (by omega) (by omega)]
      rfl
    · rw [outsAt0_B m c ⟨n, hn⟩ h0 h1]
      dsimp only
      rw [next, step]
      simp only [blk_a m c n hn (t.val / 8) (by omega) h8, blk_d m c n hn (t.val / 4 % 2) (by omega) (by omega)]
      rfl

/-- The whole array the kernel leaves. -/
theorem array : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have e := scratch m c t h3
  blk_simp
  rw [after0_2]
  obtain ⟨i, j, rfl⟩ : ∃ (i j : Fin 1024), y = ix3 0 i j := ⟨y 1, y 2, funext fun a => by fin_cases a <;> first | rfl | exact Subsingleton.elim (α := Fin 1) _ _⟩
  rw [at_o t, ← e i j, outsAt0_C m c t (by omega) h3]
  dsimp only
  rw [out, last, close]
end

/-- The kernel's result and the reference's agree. -/
theorem algebraic : algebraic_Kernel3Ideal_Reference3Ideal := by
  intro m g m' g' _ hargs
  refine ⟨fun c => grad (m ((c.tc : Thread Kernel3Ideal.nD Kernel3Ideal.τ).loc Kernel3Ideal.main_arg0)) (m ((c.tc : Thread Kernel3Ideal.nD Kernel3Ideal.τ).loc Kernel3Ideal.main_arg1)), ?_, ?_⟩
  · exact (θ_run Kernel3Ideal.defs _ _).mono (fun r h c => ⟨(h c).1.trans (array m c), (h c).2⟩) (Kernel3Ideal.Value.run_blocks m g)
  · refine (θ_run Reference3Ideal.defs _ _).mono (fun r h c => ⟨(h c).1.trans ((reference _ _ ).trans ?_), (h c).2⟩) (Reference3Ideal.Value.run m' g')
    rw [(hargs c).1, (hargs c).2]

/-- The reference ends, its arguments are unchanged and every semaphore reads zero. -/
theorem reference_frame : quiescent_Reference3Ideal := fun m ρ _ =>
  (θ_run Reference3Ideal.defs _ _).mono (fun r h => ⟨fun c => (h c).2, sem_eq_zero_of_no_sems (by decide) r.2⟩) (Reference3Ideal.Value.run m ρ)

end Cert.DownDw
-- ==== Proof.UpDx.lean ====
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The gradient of the mixer's first product by its input -/

namespace Cert.UpDx

open Idealize.ShloMosaic Idealize.ShloMosaic.TcCoe Idealize.SL.Sem Cert.Real Cert.Mixer

/-- One term of the product at a place. The weight's columns come in eight blocks. -/
def term (u : FVec Ideal Kernel4Ideal.S8192x8192 .bf16) (w : FVec Ideal Kernel4Ideal.S8x2048x1024 .bf16) (r : Fin 8192) (q : Fin 2048) (k : Fin 8192) : EReal :=
  u (ix2 (n0 := 8192) (n1 := 8192) r k) * w (ix3 (n0 := 8) (n1 := 2048) (n2 := 1024) (blockOf k) q (inBlock k))

theorem term_at (u w r q) (b : Nat) (k : Fin 1024) (hb : b < 8) (h : b * 1024 + k.val < 8192) :
    term u w r q ⟨b * 1024 + k.val, h⟩ = u (ix2 r ⟨b * 1024 + k.val, h⟩) * w (ix3 (n0 := 8) (n1 := 2048) (n2 := 1024) ⟨b, hb⟩ q k) := by
  unfold term
  rw [blockOf_tile _ _ hb, inBlock_tile]

/-- The terms of one point, as its two products hold them. -/
theorem term_halves (u w r q) (b : Nat) (hb : b < 4) :
    ∑ k : Fin 2048, term u w r q ⟨b * 2048 + k.val, by omega⟩ =
      (∑ k : Fin 1024, (u (ix2 r ⟨(b * 2 + (0 : Fin 2).val) * 1024 + k.val, by show (b * 2 + 0) * 1024 + k.val < 8192; omega⟩) * w (ix3 (n0 := 8) (n1 := 2048) (n2 := 1024) ⟨b * 2 + (0 : Fin 2).val, by show b * 2 + 0 < 8; omega⟩ q k) : EReal))
      + ∑ k : Fin 1024, (u (ix2 r ⟨(b * 2 + (1 : Fin 2).val) * 1024 + k.val, by show (b * 2 + 1) * 1024 + k.val < 8192; omega⟩) * w (ix3 (n0 := 8) (n1 := 2048) (n2 := 1024) ⟨b * 2 + (1 : Fin 2).val, by show b * 2 + 1 < 8; omega⟩ q k) : EReal) := by
  rw [half_sum _ _ hb]
  exact congrArg₂ (· + ·) (Finset.sum_congr rfl fun k _ => term_at u w r q _ k _ _) (Finset.sum_congr rfl fun k _ => term_at u w r q _ k _ _)

/-- The product of the gradient before the activation and the transposed weight. -/
def prod (u : FVec Ideal Kernel4Ideal.S8192x8192 .bf16) (w : FVec Ideal Kernel4Ideal.S8x2048x1024 .bf16) : FVec Ideal Kernel4Ideal.S8192x2048 .f32 := fun i => ∑ k, term u w (i 0) (i 1) k

section
open Reference4Ideal Reference4Ideal.Facts₀

/-- What the reference computes. -/
theorem reference (u : FVec Ideal S8192x8192 .bf16) (w : FVec Ideal S8x2048x1024 .bf16) :
    Host.dotGeneral dot_S8192x8192_S2048x8192_S8192x2048_1_1_0_0_n_n none (extf .f32 u bitsLt_bf16_f32)
      (shapeCast _ (transpose S2048x8x1024 [1, 0, 2] (extf .f32 w bitsLt_bf16_f32) transposes_S8x2048x1024_S2048x8x1024_1_0_2) shapeCasts_S2048x8x1024_S2048x8192)
    = prod u w := by
  refine ext2 fun i j => ?_
  pointwise [prod, term, blockOf, inBlock]
end

section
open Kernel4Ideal Kernel4Ideal.Gen Kernel4Ideal.Value

section
variable (c : Dev nD) (i : grid0.Coords)
  (a3 : Memref sig .tc .vmem S1024x2048 .bf16) (h3 : a3.IsWhole)
  (a4 : Memref sig .tc .vmem S2x1024x1024 .bf16) (h4 : a4.IsWhole)
  (a5 : Memref sig .tc .vmem S1024x1024 .f32) (h5 : a5.IsWhole)
  (a6 : Memref sig .tc .vmem S1024x1024 .f32) (h6 : a6.IsWhole)
  (x0 : FVec Ideal S1024x2048 .bf16) (x1 : FVec Ideal S2x1024x1024 .bf16) (s : FVec Ideal S1024x1024 .f32)

/-- The accumulator after one point's two products. -/
def mid : FVec Ideal S1024x1024 .f32 :=
  k0_pay2 (F := Ideal) s (View.ld (S := S1024x2048) (Val := Elt Ideal) (e' := .bf16) x0 (Rect.unit (s := S1024x2048) ![0, 0] S1024x1024.size Facts₀.inb_S1024x2048_S1024x1024_0_0))
    (View.ld (S := S2x1024x1024) (Val := Elt Ideal) (e' := .bf16) x1 (Rect.unit (s := S2x1024x1024) ![0, 0, 0] S1x1024x1024.size Facts₀.inb_S2x1024x1024_S1x1024x1024_0_0_0))
    (View.ld (S := S1024x2048) (Val := Elt Ideal) (e' := .bf16) x0 (Rect.unit (s := S1024x2048) ![0, 1024] S1024x1024.size Facts₀.inb_S1024x2048_S1024x1024_0_1024))
    (View.ld (S := S2x1024x1024) (Val := Elt Ideal) (e' := .bf16) x1 (Rect.unit (s := S2x1024x1024) ![1, 0, 0] S1x1024x1024.size Facts₀.inb_S2x1024x1024_S1x1024x1024_1_0_0))

/-- The first point of four starts the accumulator at its own products. -/
theorem first (hA hB) : sout0_A_0 (F := Ideal) c i a3 h3 a4 h4 a5 h5 a6 h6 hA hB x0 x1 = mid x0 x1 (k0_pay1 (F := Ideal)) := by
  unfold sout0_A_0
  rw [View.read_writes_eq_canon _ _ _ (scover0_A_0 c i a3 h3 a4 h4 a5 h5 a6 h6 hA hB _ _)]
  unfold kernelRun0_A
  dsimp only
  sl_unfold_words
  rw [View.canon_cons_unit_zero hz2]
  simp only [View.readAt_eq_ld, h3.read_unread, h4.read_unread, View.readCov_unit_zero (S := S1024x1024) _ hz2, shapeCast_self]
  rfl

/-- A later point adds its products. -/
theorem next (hA hB) : sout0_B_0 (F := Ideal) c i a3 h3 a4 h4 a5 h5 a6 h6 hA hB x0 x1 s = mid x0 x1 (s) := by
  unfold sout0_B_0
  rw [View.read_writes_eq_canon _ _ _ (scover0_B_0 c i a3 h3 a4 h4 a5 h5 a6 h6 hA hB _ _ _)]
  unfold kernelRun0_B
  dsimp only
  sl_unfold_words
  rw [View.canon_cons_unit_zero hz2]
  simp only [View.readAt_eq_ld, h3.read_unread, h4.read_unread, h6.read_unread, View.ld_unit_zero (S := S1024x1024) hz2, shapeCast_self]
  rfl

/-- So does the last, -/
theorem last (hA hB) : sout0_C_0 (F := Ideal) c i a3 h3 a4 h4 a5 h5 a6 h6 hA hB x0 x1 s = mid x0 x1 (s) := by
  unfold sout0_C_0
  rw [View.read_writes_eq_canon _ _ _ (scover0_C_0 c i a3 h3 a4 h4 a5 h5 a6 h6 hA hB _ _ _)]
  unfold kernelRun0_C
  dsimp only
  sl_unfold_words
  rw [View.canon_cons_unit_zero hz2]
  simp only [View.readAt_eq_ld, h3.read_unread, h4.read_unread, h6.read_unread, View.ld_unit_zero (S := S1024x1024) hz2, shapeCast_self]
  rfl

/-- which leaves the accumulator in the output's block. -/
theorem out (hA hB) : out0_C_2 (F := Ideal) c i a3 h3 a4 h4 a5 h5 a6 h6 hA hB x0 x1 s = mid x0 x1 (s) := by
  unfold out0_C_2
  rw [View.read_writes_eq_canon _ _ _ (cover0_C_2 c i a3 h3 a4 h4 a5 h5 a6 h6 hA hB _ _ _)]
  unfold kernelRun0_C
  dsimp only
  sl_unfold_words
  rw [View.canon_cons_unit_zero hz2]
  simp only [View.readAt_eq_ld, h3.read_unread, h4.read_unread, h5.read_unread, View.readCov_unit_zero (S := S1024x1024) _ hz2, h6.read_unread, View.ld_unit_zero (S := S1024x1024) hz2, shapeCast_self]
  rfl

/-- The accumulator's update at an index. -/
theorem acc_at (v5 v9 : FVec Ideal S1x1024x1024 .bf16) (v4 v8 : FVec Ideal S1024x1024 .bf16) (p q : Fin 1024) :
    k0_pay2 (F := Ideal) s v4 v5 v8 v9 (ix2 p q) = (s (ix2 p q) + ((∑ k : Fin 1024, (v4 (ix2 p k) * v5 (ix3 0 q k) : EReal)) + ∑ k : Fin 1024, (v8 (ix2 p k) * v9 (ix3 0 q k) : EReal)) : EReal) := by
  unfold k0_pay2
  pointwise []
/-- One point's step at an index. -/
theorem step (p q : Fin 1024) : mid x0 x1 s (ix2 p q) = (s (ix2 p q) + ((∑ k : Fin 1024, (x0 (ix2 p (half 0 k)) * x1 (ix3 0 q k) : EReal))
    + ∑ k : Fin 1024, (x0 (ix2 p (half 1 k)) * x1 (ix3 1 q k) : EReal)) : EReal) := by
  unfold mid
  rw [acc_at]
  refine congrArg (s (ix2 p q) + ·) (congrArg₂ (· + ·) (Finset.sum_congr rfl fun k _ => ?_) (Finset.sum_congr rfl fun k _ => ?_))
  · exact congrArg₂ (· * ·) (ld_half 0 _ 0 rfl x0 p k) (ld_block 0 _ 0 rfl x1 q k)
  · exact congrArg₂ (· * ·) (ld_half 1024 _ 1 rfl x0 p k) (ld_block 1 _ 1 rfl x1 q k)
/-- The accumulator starts at zero. -/
theorem start (p q : Fin 1024) : k0_pay1 (F := Ideal) (ix2 p q) = (0 : EReal) := by
  unfold k0_pay1
  pointwise []
end

variable (m : (ℓ : Loc nD τ sig) → Buf (Elt Ideal) ℓ) (c : Dev nD)

theorem idx : ∀ t : Fin grid0.N, win0_0.index t = ![t.val / 8, t.val % 4] ∧ win0_1.index t = ![t.val % 4, t.val / 4 % 2, 0] ∧
    win0_2.index t = ![t.val / 8, t.val / 4 % 2] := by decide +kernel

theorem at_u (t : Fin cfg0.N) (i : Fin 1024) (h : Fin 2) (k : Fin 1024) :
    (win0_0.blk t).view.emb (ix2 i (half h k)) = ix2 (n0 := 8192) (n1 := 8192) ⟨t.val / 8 * 1024 + i.val, by have := t.isLt; have : cfg0.N = 64 := N_0; omega⟩ ⟨(t.val % 4 * 2 + h.val) * 1024 + k.val, by omega⟩ := by
  refine funext fun a => Fin.ext ?_
  fin_cases a <;> blk_simp [(idx t).1]
  · rfl
  · show t.val % 4 * 2048 + (h.val * 1024 + k.val) = (t.val % 4 * 2 + h.val) * 1024 + k.val; omega
theorem at_w (t : Fin cfg0.N) (h : Fin 2) (j k : Fin 1024) :
    (win0_1.blk t).view.emb (ix3 h j k) = ix3 (n0 := 8) (n1 := 2048) (n2 := 1024) ⟨t.val % 4 * 2 + h.val, by omega⟩ ⟨t.val / 4 % 2 * 1024 + j.val, by omega⟩ k := by
  refine funext fun a => Fin.ext ?_
  fin_cases a <;> blk_simp [(idx t).2.1] <;> rfl
theorem at_o (t : Fin cfg0.N) (i j : Fin 1024) :
    (win0_2.blk t).view.emb (ix2 i j) = ix2 (n0 := 8192) (n1 := 2048) ⟨t.val / 8 * 1024 + i.val, by have := t.isLt; have : cfg0.N = 64 := N_0; omega⟩ ⟨t.val / 4 % 2 * 1024 + j.val, by omega⟩ := by
  refine funext fun a => Fin.ext ?_
  fin_cases a <;> blk_simp [(idx t).2.2] <;> rfl

theorem blk_u (n : Nat) (hn : n < cfg0.N) (b : Nat) (e : n / 8 = b) (hb : b < 8) (i : Fin 1024) (h : Fin 2) (k : Fin 1024) :
    iblk m c 0 ⟨n, hn⟩ (ix2 i (half h k)) = m ((c : Thread nD τ).loc main_arg0) (ix2 (n0 := 8192) (n1 := 8192) ⟨b * 1024 + i.val, by omega⟩ ⟨(n % 4 * 2 + h.val) * 1024 + k.val, by omega⟩) := by
  subst e
  blk_simp [iblk]
  rw [at_u ⟨n, hn⟩]
theorem blk_w (n : Nat) (hn : n < cfg0.N) (b : Nat) (e : n / 4 % 2 = b) (hb : b < 2) (h : Fin 2) (j k : Fin 1024) :
    iblk m c 1 ⟨n, hn⟩ (ix3 h j k) = m ((c : Thread nD τ).loc main_arg1) (ix3 (n0 := 8) (n1 := 2048) (n2 := 1024) ⟨n % 4 * 2 + h.val, by omega⟩ ⟨b * 1024 + j.val, by omega⟩ k) := by
  subst e
  blk_simp [iblk]
  rw [at_w ⟨n, hn⟩]

/-- The accumulator after the last of four points. -/
theorem scratch (t : Fin cfg0.N) (h3 : t.val % 4 = 3) (i j : Fin 1024) :
    (outsAt0 m c t.val t.isLt).2 (ix2 i j) = prod (m ((c : Thread nD τ).loc main_arg0)) (m ((c : Thread nD τ).loc main_arg1))
      (ix2 (n0 := 8192) (n1 := 2048) ⟨t.val / 8 * 1024 + i.val, by have := t.isLt; have : cfg0.N = 64 := N_0; omega⟩ ⟨t.val / 4 % 2 * 1024 + j.val, by omega⟩) := by
  have h8 : t.val / 8 < 8 := by have := t.isLt; have : cfg0.N = 64 := N_0; omega
  refine four_steps (fun n hn => (outsAt0 m c n hn).2 (ix2 i j)) (term (m ((c : Thread nD τ).loc main_arg0)) (m ((c : Thread nD τ).loc main_arg1)) ⟨t.val / 8 * 1024 + i.val, by omega⟩ ⟨t.val / 4 % 2 * 1024 + j.val, by omega⟩) t.val t.isLt h3 (fun n hn e h0 => ?_) (fun n hn e h0 => ?_)
  · show (outsAt0 m c n hn).2 (ix2 i j) = _
    rw [outsAt0_A m c ⟨n, hn⟩ h0 (by show ¬n % 4 = 3; omega)]
    dsimp only
    rw [first, step, start, zero_add, term_halves _ _ _ _ (n % 4) (by omega)]
    simp only [blk_u m c n hn (t.val / 8) (by omega) h8, blk_w m c n hn (t.val / 4 % 2) (by omega) (by omega)]
  · show (outsAt0 m c n hn).2 (ix2 i j) = (outsAt0 m c (n - 1) _).2 (ix2 i j) + _
    by_cases h1 : n % 4 = 3
    · rw [outsAt0_C m c ⟨n, hn⟩ h0 h1]
      dsimp only
      rw [last, step, term_halves _ _ _ _ (n % 4) (by omega)]
      simp only [blk_u m c n hn (t.val / 8) (by omega) h8, blk_w m c n hn (t.val / 4 % 2) (by omega) (by omega)]
    · rw [outsAt0_B m c ⟨n, hn⟩ h0 h1]
      dsimp only
      rw [next, step, term_halves _ _ _ _ (n % 4) (by omega)]
      simp only [blk_u m c n hn (t.val / 8) (by omega) h8, blk_w m c n hn (t.val / 4 % 2) (by omega) (by omega)]

/-- The whole array the kernel leaves. -/
theorem array : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have e := scratch m c t h3
  blk_simp
  rw [after0_2]
  obtain ⟨i, j, rfl⟩ : ∃ (i j : Fin 1024), y = ix2 i j := ⟨y 0, y 1, funext fun a => by fin_cases a <;> rfl⟩
  rw [at_o t, ← e i j, outsAt0_C m c t (by omega) h3]
  dsimp only
  rw [out, last]
end

/-- The kernel's result and the reference's agree. -/
theorem algebraic : algebraic_Kernel4Ideal_Reference4Ideal := by
  intro m g m' g' _ hargs
  refine ⟨fun c => prod (m ((c.tc : Thread Kernel4Ideal.nD Kernel4Ideal.τ).loc Kernel4Ideal.main_arg0)) (m ((c.tc : Thread Kernel4Ideal.nD Kernel4Ideal.τ).loc Kernel4Ideal.main_arg1)), ?_, ?_⟩
  · exact (θ_run Kernel4Ideal.defs _ _).mono (fun r h c => ⟨(h c).1.trans (array m c), (h c).2⟩) (Kernel4Ideal.Value.run_blocks m g)
  · refine (θ_run Reference4Ideal.defs _ _).mono (fun r h c => ⟨(h c).1.trans ((reference _ _ ).trans ?_), (h c).2⟩) (Reference4Ideal.Value.run m' g')
    rw [(hargs c).1, (hargs c).2]

/-- The reference ends, its arguments are unchanged and every semaphore reads zero. -/
theorem reference_frame : quiescent_Reference4Ideal := fun m ρ _ =>
  (θ_run Reference4Ideal.defs _ _).mono (fun r h => ⟨fun c => (h c).2, sem_eq_zero_of_no_sems (by decide) r.2⟩) (Reference4Ideal.Value.run m ρ)

end Cert.UpDx
-- ==== Proof.UpDw.lean ====
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The gradient of the mixer's first weight -/

namespace Cert.UpDw

open Idealize.ShloMosaic Idealize.ShloMosaic.TcCoe Idealize.SL.Sem Cert.Real Cert.Mixer

/-- The weight's gradient: at each place the sum over the tokens of the normalised stream and the gradient before the
activation. The weight's columns come in eight blocks. -/
def grad (x : FVec Ideal Kernel5Ideal.S8192x2048 .bf16) (u : FVec Ideal Kernel5Ideal.S8192x8192 .bf16) : FVec Ideal Kernel5Ideal.S8x2048x1024 .bf16 := fun i =>
  (∑ k : Fin 8192, (x (ix2 (n0 := 8192) (n1 := 2048) k (i 1)) * u (ix2 (n0 := 8192) (n1 := 8192) k ⟨(i 0).val * 1024 + (i 2).val, by
    have h0 : (i 0).val < 8 := (i 0).isLt; have h1 : (i 2).val < 1024 := (i 2).isLt; omega⟩) : EReal))

section
open Reference5Ideal Reference5Ideal.Facts₀

/-- What the reference computes. -/
theorem reference (x : FVec Ideal S8192x2048 .bf16) (u : FVec Ideal S8192x8192 .bf16) :
    truncf .bf16 (transpose S8x2048x1024 [1, 0, 2] (shapeCast _ (transpose S2048x8192 [1, 0] (Host.dotGeneral dot_S8192x8192_S8192x2048_S8192x2048_0_0_1_1_n_n none
      (extf .f32 u bitsLt_bf16_f32) (extf .f32 x bitsLt_bf16_f32)) transposes_S8192x2048_S2048x8192_1_0) shapeCasts_S2048x8192_S2048x8x1024)
      transposes_S2048x8x1024_S8x2048x1024_1_0_2) bitsLt_bf16_f32
    = grad x u := by
  refine ext3 fun i j k => ?_
  pointwise [grad]
  exact Finset.sum_congr rfl fun x _ => mul_comm _ _
end

section
open Kernel5Ideal Kernel5Ideal.Gen Kernel5Ideal.Value

section
variable (c : Dev nD) (i : grid0.Coords)
  (a3 : Memref sig .tc .vmem S2048x1024 .bf16) (h3 : a3.IsWhole)
  (a4 : Memref sig .tc .vmem S2048x1024 .bf16) (h4 : a4.IsWhole)
  (a5 : Memref sig .tc .vmem S1x1024x1024 .bf16) (h5 : a5.IsWhole)
  (a6 : Memref sig .tc .vmem S1024x1024 .f32) (h6 : a6.IsWhole)
  (x0 x1 : FVec Ideal S2048x1024 .bf16) (s : FVec Ideal S1024x1024 .f32)

/-- The first point of four starts the accumulator at its own product. -/
theorem first (hA hB) : sout0_A_0 (F := Ideal) c i a3 h3 a4 h4 a5 h5 a6 h6 hA hB x0 x1 = k0_pay2 (F := Ideal) (k0_pay1 (F := Ideal)) x0 x1 := by
  unfold sout0_A_0
  rw [View.read_writes_eq_canon _ _ _ (scover0_A_0 c i a3 h3 a4 h4 a5 h5 a6 h6 hA hB _ _)]
  unfold kernelRun0_A
  dsimp only
  sl_unfold_words
  rw [View.canon_cons_unit_zero hz2]
  simp only [View.readAt_eq_ld, h3.read_unread, h4.read_unread, View.readCov_unit_zero (S := S1024x1024) _ hz2, View.ld_unit_zero (S := S2048x1024) hz2, shapeCast_self]

/-- A later point adds its product. -/
theorem next (hA hB) : sout0_B_0 (F := Ideal) c i a3 h3 a4 h4 a5 h5 a6 h6 hA hB x0 x1 s = k0_pay2 (F := Ideal) s x0 x1 := by
  unfold sout0_B_0
  rw [View.read_writes_eq_canon _ _ _ (scover0_B_0 c i a3 h3 a4 h4 a5 h5 a6 h6 hA hB _ _ _)]
  unfold kernelRun0_B
  dsimp only
  sl_unfold_words
  rw [View.canon_cons_unit_zero hz2]
  simp only [View.readAt_eq_ld, h3.read_unread, h4.read_unread, h6.read_unread, View.ld_unit_zero (S := S1024x1024) hz2, View.ld_unit_zero (S := S2048x1024) hz2, shapeCast_self]

/-- So does the last, -/
theorem last (hA hB) : sout0_C_0 (F := Ideal) c i a3 h3 a4 h4 a5 h5 a6 h6 hA hB x0 x1 s = k0_pay2 (F := Ideal) s x0 x1 := by
  unfold sout0_C_0
  rw [View.read_writes_eq_canon _ _ _ (scover0_C_0 c i a3 h3 a4 h4 a5 h5 a6 h6 hA hB _ _ _)]
  unfold kernelRun0_C
  dsimp only
  sl_unfold_words
  rw [View.canon_cons_unit_zero hz2]
  simp only [View.readAt_eq_ld, h3.read_unread, h4.read_unread, h6.read_unread, View.ld_unit_zero (S := S1024x1024) hz2, View.ld_unit_zero (S := S2048x1024) hz2, shapeCast_self]

/-- which leaves the accumulator in the output's block. -/
theorem out (hA hB) : out0_C_2 (F := Ideal) c i a3 h3 a4 h4 a5 h5 a6 h6 hA hB x0 x1 s = k0_pay3 (F := Ideal) (k0_pay2 (F := Ideal) s x0 x1) := by
  unfold out0_C_2
  rw [View.read_writes_eq_canon _ _ _ (cover0_C_2 c i a3 h3 a4 h4 a5 h5 a6 h6 hA hB _ _ _)]
  unfold kernelRun0_C
  dsimp only
  sl_unfold_words
  rw [View.canon_cons_unit_zero hz3]
  simp only [View.readAt_eq_ld, h3.read_unread, h4.read_unread, h6.read_unread, View.readCov_unit_zero (S := S1024x1024) _ hz2, View.ld_unit_zero (S := S1024x1024) hz2, View.ld_unit_zero (S := S2048x1024) hz2, shapeCast_self]

/-- One point's step at an index. -/
theorem step (p q : Fin 1024) : k0_pay2 (F := Ideal) s x0 x1 (ix2 p q) = (s (ix2 p q) + ∑ k : Fin 2048, (x0 (ix2 k p) * x1 (ix2 k q) : EReal) : EReal) := by
  unfold k0_pay2
  pointwise []
/-- The accumulator starts at zero. -/
theorem start (p q : Fin 1024) : k0_pay1 (F := Ideal) (ix2 p q) = (0 : EReal) := by
  unfold k0_pay1
  pointwise []
/-- The output's block at an index. -/
theorem close (p q : Fin 1024) : k0_pay3 (F := Ideal) s (ix3 0 p q) = s (ix2 p q) := by
  unfold k0_pay3
  pointwise []
end

variable (m : (ℓ : Loc nD τ sig) → Buf (Elt Ideal) ℓ) (c : Dev nD)

theorem idx : ∀ t : Fin grid0.N, win0_0.index t = ![t.val % 4, t.val / 32] ∧ win0_1.index t = ![t.val % 4, t.val / 4 % 8] ∧
    win0_2.index t = ![t.val / 4 % 8, t.val / 32, 0] := by decide +kernel

theorem at_x (t : Fin cfg0.N) (k : Fin 2048) (i : Fin 1024) :
    (win0_0.blk t).view.emb (ix2 k i) = ix2 (n0 := 8192) (n1 := 2048) ⟨t.val % 4 * 2048 + k.val, by omega⟩ ⟨t.val / 32 * 1024 + i.val, by have := t.isLt; have : cfg0.N = 64 := N_0; omega⟩ := by
  refine funext fun a => Fin.ext ?_
  fin_cases a <;> blk_simp [(idx t).1] <;> rfl
theorem at_u (t : Fin cfg0.N) (k : Fin 2048) (j : Fin 1024) :
    (win0_1.blk t).view.emb (ix2 k j) = ix2 (n0 := 8192) (n1 := 8192) ⟨t.val % 4 * 2048 + k.val, by omega⟩ ⟨t.val / 4 % 8 * 1024 + j.val, by omega⟩ := by
  refine funext fun a => Fin.ext ?_
  fin_cases a <;> blk_simp [(idx t).2.1] <;> rfl
theorem at_o (t : Fin cfg0.N) (i j : Fin 1024) :
    (win0_2.blk t).view.emb (ix3 0 i j) = ix3 (n0 := 8) (n1 := 2048) (n2 := 1024) ⟨t.val / 4 % 8, by omega⟩ ⟨t.val / 32 * 1024 + i.val, by have := t.isLt; have : cfg0.N = 64 := N_0; omega⟩ j := by
  refine funext fun a => Fin.ext ?_
  fin_cases a <;> blk_simp [(idx t).2.2] <;> rfl

theorem blk_x (n : Nat) (hn : n < cfg0.N) (b : Nat) (e : n / 32 = b) (hb : b < 2) (k : Fin 2048) (i : Fin 1024) :
    iblk m c 0 ⟨n, hn⟩ (ix2 k i) = m ((c : Thread nD τ).loc main_arg0) (ix2 (n0 := 8192) (n1 := 2048) ⟨n % 4 * 2048 + k.val, by omega⟩ ⟨b * 1024 + i.val, by omega⟩) := by
  subst e
  blk_simp [iblk]
  rw [at_x ⟨n, hn⟩]
theorem blk_u (n : Nat) (hn : n < cfg0.N) (b : Nat) (e : n / 4 % 8 = b) (hb : b < 8) (k : Fin 2048) (j : Fin 1024) :
    iblk m c 1 ⟨n, hn⟩ (ix2 k j) = m ((c : Thread nD τ).loc main_arg1) (ix2 (n0 := 8192) (n1 := 8192) ⟨n % 4 * 2048 + k.val, by omega⟩ ⟨b * 1024 + j.val, by omega⟩) := by
  subst e
  blk_simp [iblk]
  rw [at_u ⟨n, hn⟩]

/-- The accumulator after the last of four points. -/
theorem scratch (t : Fin cfg0.N) (h3 : t.val % 4 = 3) (i j : Fin 1024) :
    (outsAt0 m c t.val t.isLt).2 (ix2 i j) = grad (m ((c : Thread nD τ).loc main_arg0)) (m ((c : Thread nD τ).loc main_arg1))
      (ix3 (n0 := 8) (n1 := 2048) (n2 := 1024) ⟨t.val / 4 % 8, by omega⟩ ⟨t.val / 32 * 1024 + i.val, by have := t.isLt; have : cfg0.N = 64 := N_0; omega⟩ j) := by
  have h2 : t.val / 32 < 2 := by have := t.isLt; have : cfg0.N = 64 := N_0; omega
  refine four_steps (fun n hn => (outsAt0 m c n hn).2 (ix2 i j)) _ t.val t.isLt h3 (fun n hn e h0 => ?_) (fun n hn e h0 => ?_)
  · show (outsAt0 m c n hn).2 (ix2 i j) = _
    rw [outsAt0_A m c ⟨n, hn⟩ h0 (by show ¬n % 4 = 3; omega)]
    dsimp only
    rw [first, step, start, zero_add]
    simp only [blk_x m c n hn (t.val / 32) (by omega) h2, blk_u m c n hn (t.val / 4 % 8) (by omega) (by omega)]
    rfl
  · show (outsAt0 m c n hn).2 (ix2 i j) = (outsAt0 m c (n - 1) _).2 (ix2 i j) + _
    by_cases h1 : n % 4 = 3
    · rw [outsAt0_C m c ⟨n, hn⟩ h0 h1]
      dsimp only
      rw [last, step]
      simp only [blk_x m c n hn (t.val / 32) (by omega) h2, blk_u m c n hn (t.val / 4 % 8) (by omega) (by omega)]
      rfl
    · rw [outsAt0_B m c ⟨n, hn⟩ h0 h1]
      dsimp only
      rw [next, step]
      simp only [blk_x m c n hn (t.val / 32) (by omega) h2, blk_u m c n hn (t.val / 4 % 8) (by omega) (by omega)]
      rfl

/-- The whole array the kernel leaves. -/
theorem array : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have e := scratch m c t h3
  blk_simp
  rw [after0_2]
  obtain ⟨i, j, rfl⟩ : ∃ (i j : Fin 1024), y = ix3 0 i j := ⟨y 1, y 2, funext fun a => by fin_cases a <;> first | rfl | exact Subsingleton.elim (α := Fin 1) _ _⟩
  rw [at_o t, ← e i j, outsAt0_C m c t (by omega) h3]
  dsimp only
  rw [out, last, close]
end

/-- The kernel's result and the reference's agree. -/
theorem algebraic : algebraic_Kernel5Ideal_Reference5Ideal := by
  intro m g m' g' _ hargs
  refine ⟨fun c => grad (m ((c.tc : Thread Kernel5Ideal.nD Kernel5Ideal.τ).loc Kernel5Ideal.main_arg0)) (m ((c.tc : Thread Kernel5Ideal.nD Kernel5Ideal.τ).loc Kernel5Ideal.main_arg1)), ?_, ?_⟩
  · exact (θ_run Kernel5Ideal.defs _ _).mono (fun r h c => ⟨(h c).1.trans (array m c), (h c).2⟩) (Kernel5Ideal.Value.run_blocks m g)
  · refine (θ_run Reference5Ideal.defs _ _).mono (fun r h c => ⟨(h c).1.trans ((reference _ _ ).trans ?_), (h c).2⟩) (Reference5Ideal.Value.run m' g')
    rw [(hargs c).1, (hargs c).2]

/-- The reference ends, its arguments are unchanged and every semaphore reads zero. -/
theorem reference_frame : quiescent_Reference5Ideal := fun m ρ _ =>
  (θ_run Reference5Ideal.defs _ _).mono (fun r h => ⟨fun c => (h c).2, sem_eq_zero_of_no_sems (by decide) r.2⟩) (Reference5Ideal.Value.run m ρ)

end Cert.UpDw
-- ==== Proof.Up.lean ====
module

public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The mixer's first product and its activation -/

namespace Cert.Up

open Idealize.ShloMosaic Idealize.ShloMosaic.TcCoe Idealize.SL.Sem Cert.Real Cert.Mixer

/-- The first product. The weight's columns come in eight blocks. -/
def up (x : FVec Ideal Kernel6Ideal.S8192x2048 .bf16) (w : FVec Ideal Kernel6Ideal.S8x2048x1024 .bf16) : FVec Ideal Kernel6Ideal.S8192x8192 .f32 := fun i =>
  (∑ k : Fin 2048, (x (ix2 (n0 := 8192) (n1 := 2048) (i 0) k) * w (ix3 (n0 := 8) (n1 := 2048) (n2 := 1024) (blockOf (i 1)) k (inBlock (i 1))) : EReal))

/-- The square of the first product's positive part. -/
def act (x : FVec Ideal Kernel6Ideal.S8192x2048 .bf16) (w : FVec Ideal Kernel6Ideal.S8x2048x1024 .bf16) : FVec Ideal Kernel6Ideal.S8192x8192 .bf16 := fun i =>
  (max (up x w i) (0 : EReal) * max (up x w i) (0 : EReal) : EReal)

/-- The first product at a place of the long axis given by its block and the place in it. -/
theorem up_at (x w) (r : Fin 8192) (b : Nat) (j : Fin 1024) (hb : b < 8) (h : b * 1024 + j.val < 8192) :
    up x w (ix2 r ⟨b * 1024 + j.val, h⟩) = (∑ k : Fin 2048, (x (ix2 r k) * w (ix3 ⟨b, hb⟩ k j) : EReal)) := by
  show (∑ k : Fin 2048, (x (ix2 r k) * w (ix3 (blockOf ⟨b * 1024 + j.val, h⟩) k (inBlock ⟨b * 1024 + j.val, h⟩)) : EReal)) = _
  rw [blockOf_tile _ _ hb, inBlock_tile]

section
open Reference6Ideal Reference6Ideal.Facts₀
variable (x : FVec Ideal S8192x2048 .bf16) (w : FVec Ideal S8x2048x1024 .bf16)

/-- What the reference's first result computes. -/
theorem reference_up : Host.dotGeneral dot_S8192x2048_S2048x8192_S8192x8192_1_0_0_1_n_n none (extf .f32 x bitsLt_bf16_f32)
      (shapeCast _ (transpose S2048x8x1024 [1, 0, 2] (extf .f32 w bitsLt_bf16_f32) transposes_S8x2048x1024_S2048x8x1024_1_0_2) shapeCasts_S2048x8x1024_S2048x8192)
    = up x w := by
  refine ext2 fun i j => ?_
  pointwise [up, blockOf, inBlock]

/-- What its second computes. -/
theorem reference_act : truncf .bf16 (mulf
      (maximumf (Host.dotGeneral dot_S8192x2048_S2048x8192_S8192x8192_1_0_0_1_n_n none (extf .f32 x bitsLt_bf16_f32)
        (shapeCast _ (transpose S2048x8x1024 [1, 0, 2] (extf .f32 w bitsLt_bf16_f32) transposes_S8x2048x1024_S2048x8x1024_1_0_2) shapeCasts_S2048x8x1024_S2048x8192))
        (broadcastInDim S8192x8192 ![] bcast_S_S8192x8192 (constant S_ .f32 0x00000000#32)))
      (maximumf (Host.dotGeneral dot_S8192x2048_S2048x8192_S8192x8192_1_0_0_1_n_n none (extf .f32 x bitsLt_bf16_f32)
        (shapeCast _ (transpose S2048x8x1024 [1, 0, 2] (extf .f32 w bitsLt_bf16_f32) transposes_S8x2048x1024_S2048x8x1024_1_0_2) shapeCasts_S2048x8x1024_S2048x8192))
        (broadcastInDim S8192x8192 ![] bcast_S_S8192x8192 (constant S_ .f32 0x00000000#32)))) bitsLt_bf16_f32
    = act x w := by
  rw [reference_up]
  refine ext2 fun i j => ?_
  pointwise [act]
end

section
open Kernel6Ideal Kernel6Ideal.Gen Kernel6Ideal.Value

/-- What one point of the grid leaves of the product. -/
theorem point_up (x0 : FVec Ideal S1024x2048 .bf16) (x1 : FVec Ideal S1x2048x1024 .bf16) (i j : Fin 1024) :
    out0_2 (F := Ideal) x0 x1 (ix2 i j) = (∑ k : Fin 2048, (x0 (ix2 i k) * x1 (ix3 0 k j) : EReal)) := by
  unfold out0_2
  rw [View.canon_cons_unit_zero hz2, View.ld_unit_zero (S := S1024x2048) hz2, View.ld_unit_zero (S := S1x2048x1024) hz3]
  unfold k0_pay1
  pointwise []

/-- What it leaves of the activation. -/
theorem point_act (x0 : FVec Ideal S1024x2048 .bf16) (x1 : FVec Ideal S1x2048x1024 .bf16) (i j : Fin 1024) :
    out0_3 (F := Ideal) x0 x1 (ix2 i j) = (max (∑ k : Fin 2048, (x0 (ix2 i k) * x1 (ix3 0 k j) : EReal)) (0 : EReal)
      * max (∑ k : Fin 2048, (x0 (ix2 i k) * x1 (ix3 0 k j) : EReal)) (0 : EReal) : EReal) := by
  unfold out0_3
  rw [View.canon_cons_unit_zero hz2, View.ld_unit_zero (S := S1024x2048) hz2, View.ld_unit_zero (S := S1x2048x1024) hz3]
  unfold k0_pay2 k0_pay1
  pointwise []

variable (m : (ℓ : Loc nD τ sig) → Buf (Elt Ideal) ℓ) (c : Dev nD)

theorem idx : ∀ t : Fin grid0.N, win0_0.index t = ![t.val / 8, 0] ∧ win0_1.index t = ![t.val % 8, 0, 0] ∧
    win0_2.index t = ![t.val / 8, t.val % 8] ∧ win0_3.index t = ![t.val / 8, t.val % 8] := by decide +kernel

theorem at_x (t : Fin cfg0.N) (i : Fin 1024) (k : Fin 2048) :
    (win0_0.blk t).view.emb (ix2 i k) = ix2 (n0 := 8192) (n1 := 2048) ⟨t.val / 8 * 1024 + i.val, by have := t.isLt; have : cfg0.N = 64 := N_0; omega⟩ k := by
  refine funext fun a => Fin.ext ?_
  fin_cases a <;> blk_simp [(idx t).1] <;> rfl
theorem at_w (t : Fin cfg0.N) (k : Fin 2048) (j : Fin 1024) :
    (win0_1.blk t).view.emb (ix3 0 k j) = ix3 (n0 := 8) (n1 := 2048) (n2 := 1024) ⟨t.val % 8, by omega⟩ k j := by
  refine funext fun a => Fin.ext ?_
  fin_cases a <;> blk_simp [(idx t).2.1] <;> rfl
theorem at_up (t : Fin cfg0.N) (i j : Fin 1024) :
    (win0_2.blk t).view.emb (ix2 i j) = ix2 (n0 := 8192) (n1 := 8192) ⟨t.val / 8 * 1024 + i.val, by have := t.isLt; have : cfg0.N = 64 := N_0; omega⟩ ⟨t.val % 8 * 1024 + j.val, by omega⟩ := by
  refine funext fun a => Fin.ext ?_
  fin_cases a <;> blk_simp [(idx t).2.2.1] <;> rfl
theorem at_act (t : Fin cfg0.N) (i j : Fin 1024) :
    (win0_3.blk t).view.emb (ix2 i j) = ix2 (n0 := 8192) (n1 := 8192) ⟨t.val / 8 * 1024 + i.val, by have := t.isLt; have : cfg0.N = 64 := N_0; omega⟩ ⟨t.val % 8 * 1024 + j.val, by omega⟩ := by
  refine funext fun a => Fin.ext ?_
  fin_cases a <;> blk_simp [(idx t).2.2.2] <;> rfl

/-- The whole product the kernel leaves. -/
theorem array_up : (dats m 0 c).arrAt 2 cfg0.N = up (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 1024), y = ix2 i j := ⟨y 0, y 1, funext fun a => by fin_cases a <;> rfl⟩
  rw [point_up]
  blk_simp [iblk]
  rw [at_up t]
  simp only [at_x t, at_w t]
  exact (up_at _ _ _ _ _ (by omega) _).symm

/-- The whole activation the kernel leaves. -/
theorem array_act : (dats m 0 c).arrAt 3 cfg0.N = act (m ((c : Thread nD τ).loc main_arg0)) (m ((c : Thread nD τ).loc main_arg1)) := by
  refine (dats m 0 c).arrAt_eq_of_covers 3 _ (by decide +kernel) fun t hf y => ?_
  blk_simp
  rw [after0_3]
  obtain ⟨i, j, rfl⟩ : ∃ (i : Fin 1024) (j : Fin 1024), y = ix2 i j := ⟨y 0, y 1, funext fun a => by fin_cases a <;> rfl⟩
  rw [point_act]
  blk_simp [iblk]
  rw [at_act t]
  simp only [at_x t, at_w t]
  unfold act
  rw [up_at _ _ _ _ _ (by omega) _]
end

/-- The kernel's results and the reference's agree. -/
theorem algebraic : algebraic_Kernel6Ideal_Reference6Ideal := by
  intro m g m' g' _ hargs
  refine ⟨fun c => up (m ((c.tc : Thread Kernel6Ideal.nD Kernel6Ideal.τ).loc Kernel6Ideal.main_arg0)) (m ((c.tc : Thread Kernel6Ideal.nD Kernel6Ideal.τ).loc Kernel6Ideal.main_arg1)),
    fun c => act (m ((c.tc : Thread Kernel6Ideal.nD Kernel6Ideal.τ).loc Kernel6Ideal.main_arg0)) (m ((c.tc : Thread Kernel6Ideal.nD Kernel6Ideal.τ).loc Kernel6Ideal.main_arg1)), ?_, ?_⟩
  · exact (θ_run Kernel6Ideal.defs _ _).mono (fun r h c => ⟨(h c).1.trans (array_up m c), (h c).2.1.trans (array_act m c), (h c).2.2⟩) (Kernel6Ideal.Value.run_blocks m g)
  · refine (θ_run Reference6Ideal.defs _ _).mono (fun r h c => ⟨(h c).1.trans ((reference_up _ _).trans ?_), (h c).2.1.trans ((reference_act _ _).trans ?_), (h c).2.2⟩) (Reference6Ideal.Value.run m' g')
    all_goals rw [(hargs c).1, (hargs c).2]

/-- The reference ends, its arguments are unchanged and every semaphore reads zero. -/
theorem reference_frame : quiescent_Reference6Ideal := fun m ρ _ =>
  (θ_run Reference6Ideal.defs _ _).mono (fun r h => ⟨fun c => (h c).2.2, sem_eq_zero_of_no_sems (by decide) r.2⟩) (Reference6Ideal.Value.run m ρ)

end Cert.Up
-- ==== Proof.Down.lean ====
module

public import proofs.«01_k».proof.Defs
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The mixer's second product, added to the residual -/

namespace Cert.Down

open Idealize.ShloMosaic Idealize.ShloMosaic.TcCoe Idealize.SL.Sem Cert.Real Cert.Mixer

/-- One term of the product at a place. The weight's rows come in eight blocks. -/
def term (a : FVec Ideal Kernel7Ideal.S8192x8192 .bf16) (w : FVec Ideal Kernel7Ideal.S8x1024x2048 .bf16) (r : Fin 8192) (q : Fin 2048) (k : Fin 8192) : EReal :=
  a (ix2 (n0 := 8192) (n1 := 8192) r k) * w (ix3 (n0 := 8) (n1 := 1024) (n2 := 2048) (blockOf k) (inBlock k) q)

theorem term_at (a w r q) (b : Nat) (k : Fin 1024) (hb : b < 8) (h : b * 1024 + k.val < 8192) :
    term a w r q ⟨b * 1024 + k.val, h⟩ = a (ix2 r ⟨b * 1024 + k.val, h⟩) * w (ix3 (n0 := 8) (n1 := 1024) (n2 := 2048) ⟨b, hb⟩ k q) := by
  unfold term
  rw [blockOf_tile _ _ hb, inBlock_tile]

/-- The terms of one point, as its two products hold them. -/
theorem term_halves (a w r q) (b : Nat) (hb : b < 4) :
    ∑ k : Fin 2048, term a w r q ⟨b * 2048 + k.val, by omega⟩ =
      (∑ k : Fin 1024, (a (ix2 r ⟨(b * 2 + (0 : Fin 2).val) * 1024 + k.val, by show (b * 2 + 0) * 1024 + k.val < 8192; omega⟩) * w (ix3 (n0 := 8) (n1 := 1024) (n2 := 2048) ⟨b * 2 + (0 : Fin 2).val, by show b * 2 + 0 < 8; omega⟩ k q) : EReal))
      + ∑ k : Fin 1024, (a (ix2 r ⟨(b * 2 + (1 : Fin 2).val) * 1024 + k.val, by show (b * 2 + 1) * 1024 + k.val < 8192; omega⟩) * w (ix3 (n0 := 8) (n1 := 1024) (n2 := 2048) ⟨b * 2 + (1 : Fin 2).val, by show b * 2 + 1 < 8; omega⟩ k q) : EReal) := by
  rw [half_sum _ _ hb]
  exact congrArg₂ (· + ·) (Finset.sum_congr rfl fun k _ => term_at a w r q _ k _ _) (Finset.sum_congr rfl fun k _ => term_at a w r q _ k _ _)

/-- The product of the activation and the weight. -/
def prod (a : FVec Ideal Kernel7Ideal.S8192x8192 .bf16) (w : FVec Ideal Kernel7Ideal.S8x1024x2048 .bf16) : FVec Ideal Kernel7Ideal.S8192x2048 .f32 := fun i => ∑ k, term a w (i 0) (i 1) k

/-- The product added to the residual. -/
def res (a : FVec Ideal Kernel7Ideal.S8192x8192 .bf16) (w : FVec Ideal Kernel7Ideal.S8x1024x2048 .bf16) (h : FVec Ideal Kernel7Ideal.S8192x2048 .f32) : FVec Ideal Kernel7Ideal.S8192x2048 .f32 := fun i => (h i + prod a w i : EReal)

section
open Reference7Ideal Reference7Ideal.Facts₀

/-- What the reference computes. -/
theorem reference (a : FVec Ideal S8192x8192 .bf16) (w : FVec Ideal S8x1024x2048 .bf16) (h : FVec Ideal S8192x2048 .f32) :
    addf h (Host.dotGeneral dot_S8192x8192_S8192x2048_S8192x2048_1_0_0_1_n_n none (extf .f32 a bitsLt_bf16_f32)
      (shapeCast _ (extf .f32 w bitsLt_bf16_f32) shapeCasts_S8x1024x2048_S8192x2048))
    = res a w h := by
  refine ext2 fun i j => ?_
  pointwise [res, prod, term, blockOf, inBlock]
end

section
open Kernel7Ideal Kernel7Ideal.Gen Kernel7Ideal.Value

section
variable (c : Dev nD) (i : grid0.Coords)
  (a3 : Memref sig .tc .vmem S1024x2048 .bf16) (h3 : a3.IsWhole)
  (a4 : Memref sig .tc .vmem S2x1024x1024 .bf16) (h4 : a4.IsWhole)
  (a5 : Memref sig .tc .vmem S1024x1024 .f32) (h5 : a5.IsWhole)
  (a6 : Memref sig .tc .vmem S1024x1024 .f32) (h6 : a6.IsWhole)
  (a7 : Memref sig .tc .vmem S1024x1024 .f32) (h7 : a7.IsWhole)
  (x0 : FVec Ideal S1024x2048 .bf16) (x1 : FVec Ideal S2x1024x1024 .bf16) (x2 : FVec Ideal S1024x1024 .f32) (s : FVec Ideal S1024x1024 .f32)

/-- The accumulator after one point's two products. -/
def mid : FVec Ideal S1024x1024 .f32 :=
  k0_pay2 (F := Ideal) s (View.ld (S := S1024x2048) (Val := Elt Ideal) (e' := .bf16) x0 (Rect.unit (s := S1024x2048) ![0, 0] S1024x1024.size Facts₀.inb_S1024x2048_S1024x1024_0_0))
    (View.ld (S := S2x1024x1024) (Val := Elt Ideal) (e' := .bf16) x1 (Rect.unit (s := S2x1024x1024) ![0, 0, 0] S1x1024x1024.size Facts₀.inb_S2x1024x1024_S1x1024x1024_0_0_0))
    (View.ld (S := S1024x2048) (Val := Elt Ideal) (e' := .bf16) x0 (Rect.unit (s := S1024x2048) ![0, 1024] S1024x1024.size Facts₀.inb_S1024x2048_S1024x1024_0_1024))
    (View.ld (S := S2x1024x1024) (Val := Elt Ideal) (e' := .bf16) x1 (Rect.unit (s := S2x1024x1024) ![1, 0, 0] S1x1024x1024.size Facts₀.inb_S2x1024x1024_S1x1024x1024_1_0_0))

/-- The first point of four starts the accumulator at its own products. -/
theorem first (hA hB) : sout0_A_0 (F := Ideal) c i a3 h3 a4 h4 a5 h5 a6 h6 a7 h7 hA hB x0 x1 x2 = mid x0 x1 (k0_pay1 (F := Ideal)) := by
  unfold sout0_A_0
  rw [View.read_writes_eq_canon _ _ _ (scover0_A_0 c i a3 h3 a4 h4 a5 h5 a6 h6 a7 h7 hA hB _ _ _)]
  unfold kernelRun0_A
  dsimp only
  sl_unfold_words
  rw [View.canon_cons_unit_zero hz2]
  simp only [View.readAt_eq_ld, h3.read_unread, h4.read_unread, View.readCov_unit_zero (S := S1024x1024) _ hz2, shapeCast_self]
  rfl

/-- A later point adds its products. -/
theorem next (hA hB) : sout0_B_0 (F := Ideal) c i a3 h3 a4 h4 a5 h5 a6 h6 a7 h7 hA hB x0 x1 x2 s = mid x0 x1 (s) := by
  unfold sout0_B_0
  rw [View.read_writes_eq_canon _ _ _ (scover0_B_0 c i a3 h3 a4 h4 a5 h5 a6 h6 a7 h7 hA hB _ _ _ _)]
  unfold kernelRun0_B
  dsimp only
  sl_unfold_words
  rw [View.canon_cons_unit_zero hz2]
  simp only [View.readAt_eq_ld, h3.read_unread, h4.read_unread, h7.read_unread, View.ld_unit_zero (S := S1024x1024) hz2, shapeCast_self]
  rfl

/-- So does the last, -/
theorem last (hA hB) : sout0_C_0 (F := Ideal) c i a3 h3 a4 h4 a5 h5 a6 h6 a7 h7 hA hB x0 x1 x2 s = mid x0 x1 (s) := by
  unfold sout0_C_0
  rw [View.read_writes_eq_canon _ _ _ (scover0_C_0 c i a3 h3 a4 h4 a5 h5 a6 h6 a7 h7 hA hB _ _ _ _)]
  unfold kernelRun0_C
  dsimp only
  sl_unfold_words
  rw [View.canon_cons_unit_zero hz2]
  simp only [View.readAt_eq_ld, h3.read_unread, h4.read_unread, h7.read_unread, View.ld_unit_zero (S := S1024x1024) hz2, shapeCast_self]
  rfl

/-- which leaves the accumulator, added to the residual, in the output's block. -/
theorem out (hA hB) : out0_C_3 (F := Ideal) c i a3 h3 a4 h4 a5 h5 a6 h6 a7 h7 hA hB x0 x1 x2 s = k0_pay3 (F := Ideal) (mid x0 x1 (s)) x2 := by
  unfold out0_C_3
  rw [View.read_writes_eq_canon _ _ _ (cover0_C_3 c i a3 h3 a4 h4 a5 h5 a6 h6 a7 h7 hA hB _ _ _ _)]
  unfold kernelRun0_C
  dsimp only
  sl_unfold_words
  rw [View.canon_cons_unit_zero hz2]
  simp only [View.readAt_eq_ld, h3.read_unread, h4.read_unread, h5.read_unread, View.readCov_unit_zero (S := S1024x1024) _ hz2, h7.read_unread, View.ld_unit_zero (S := S1024x1024) hz2, shapeCast_self]
  rfl

/-- The accumulator's update at an index. -/
theorem acc_at (v5 v9 : FVec Ideal S1x1024x1024 .bf16) (v4 v8 : FVec Ideal S1024x1024 .bf16) (p q : Fin 1024) :
    k0_pay2 (F := Ideal) s v4 v5 v8 v9 (ix2 p q) = (s (ix2 p q) + ((∑ k : Fin 1024, (v4 (ix2 p k) * v5 (ix3 0 k q) : EReal)) + ∑ k : Fin 1024, (v8 (ix2 p k) * v9 (ix3 0 k q) : EReal)) : EReal) := by
  unfold k0_pay2
  pointwise []
/-- One point's step at an index. -/
theorem step (p q : Fin 1024) : mid x0 x1 s (ix2 p q) = (s (ix2 p q) + ((∑ k : Fin 1024, (x0 (ix2 p (half 0 k)) * x1 (ix3 0 k q) : EReal))
    + ∑ k : Fin 1024, (x0 (ix2 p (half 1 k)) * x1 (ix3 1 k q) : EReal)) : EReal) := by
  unfold mid
  rw [acc_at]
  refine congrArg (s (ix2 p q) + ·) (congrArg₂ (· + ·) (Finset.sum_congr rfl fun k _ => ?_) (Finset.sum_congr rfl fun k _ => ?_))
  · exact congrArg₂ (· * ·) (ld_half 0 _ 0 rfl x0 p k) (ld_block 0 _ 0 rfl x1 k q)
  · exact congrArg₂ (· * ·) (ld_half 1024 _ 1 rfl x0 p k) (ld_block 1 _ 1 rfl x1 k q)
/-- The accumulator starts at zero. -/
theorem start (p q : Fin 1024) : k0_pay1 (F := Ideal) (ix2 p q) = (0 : EReal) := by
  unfold k0_pay1
  pointwise []
/-- The output's block at an index. -/
theorem close (p q : Fin 1024) : k0_pay3 (F := Ideal) s x2 (ix2 p q) = (x2 (ix2 p q) + s (ix2 p q) : EReal) := by
  unfold k0_pay3
  pointwise []
end

variable (m : (ℓ : Loc nD τ sig) → Buf (Elt Ideal) ℓ) (c : Dev nD)

theorem idx : ∀ t : Fin grid0.N, win0_0.index t = ![t.val / 8, t.val % 4] ∧ win0_1.index t = ![t.val % 4, 0, t.val / 4 % 2] ∧
    win0_2.index t = ![t.val / 8, t.val / 4 % 2] ∧ win0_3.index t = ![t.val / 8, t.val / 4 % 2] := by decide +kernel

theorem at_u (t : Fin cfg0.N) (i : Fin 1024) (h : Fin 2) (k : Fin 1024) :
    (win0_0.blk t).view.emb (ix2 i (half h k)) = ix2 (n0 := 8192) (n1 := 8192) ⟨t.val / 8 * 1024 + i.val, by have := t.isLt; have : cfg0.N = 64 := N_0; omega⟩ ⟨(t.val % 4 * 2 + h.val) * 1024 + k.val, by omega⟩ := by
  refine funext fun a => Fin.ext ?_
  fin_cases a <;> blk_simp [(idx t).1]
  · rfl
  · show t.val % 4 * 2048 + (h.val * 1024 + k.val) = (t.val % 4 * 2 + h.val) * 1024 + k.val; omega
theorem at_w (t : Fin cfg0.N) (h : Fin 2) (k j : Fin 1024) :
    (win0_1.blk t).view.emb (ix3 h k j) = ix3 (n0 := 8) (n1 := 1024) (n2 := 2048) ⟨t.val % 4 * 2 + h.val, by omega⟩ k ⟨t.val / 4 % 2 * 1024 + j.val, by omega⟩ := by
  refine funext fun a => Fin.ext ?_
  fin_cases a <;> blk_simp [(idx t).2.1] <;> rfl
theorem at_h (t : Fin cfg0.N) (i j : Fin 1024) :
    (win0_2.blk t).view.emb (ix2 i j) = ix2 (n0 := 8192) (n1 := 2048) ⟨t.val / 8 * 1024 + i.val, by have := t.isLt; have : cfg0.N = 64 := N_0; omega⟩ ⟨t.val / 4 % 2 * 1024 + j.val, by omega⟩ := by
  refine funext fun a => Fin.ext ?_
  fin_cases a <;> blk_simp [(idx t).2.2.1] <;> rfl
theorem at_o (t : Fin cfg0.N) (i j : Fin 1024) :
    (win0_3.blk t).view.emb (ix2 i j) = ix2 (n0 := 8192) (n1 := 2048) ⟨t.val / 8 * 1024 + i.val, by have := t.isLt; have : cfg0.N = 64 := N_0; omega⟩ ⟨t.val / 4 % 2 * 1024 + j.val, by omega⟩ := by
  refine funext fun a => Fin.ext ?_
  fin_cases a <;> blk_simp [(idx t).2.2.2] <;> rfl

theorem blk_u (n : Nat) (hn : n < cfg0.N) (b : Nat) (e : n / 8 = b) (hb : b < 8) (i : Fin 1024) (h : Fin 2) (k : Fin 1024) :
    iblk m c 0 ⟨n, hn⟩ (ix2 i (half h k)) = m ((c : Thread nD τ).loc main_arg0) (ix2 (n0 := 8192) (n1 := 8192) ⟨b * 1024 + i.val, by omega⟩ ⟨(n % 4 * 2 + h.val) * 1024 + k.val, by omega⟩) := by
  subst e
  blk_simp [iblk]
  rw [at_u ⟨n, hn⟩]
theorem blk_w (n : Nat) (hn : n < cfg0.N) (b : Nat) (e : n / 4 % 2 = b) (hb : b < 2) (h : Fin 2) (k j : Fin 1024) :
    iblk m c 1 ⟨n, hn⟩ (ix3 h k j) = m ((c : Thread nD τ).loc main_arg1) (ix3 (n0 := 8) (n1 := 1024) (n2 := 2048) ⟨n % 4 * 2 + h.val, by omega⟩ k ⟨b * 1024 + j.val, by omega⟩) := by
  subst e
  blk_simp [iblk]
  rw [at_w ⟨n, hn⟩]

/-- The accumulator after the last of four points. -/
theorem scratch (t : Fin cfg0.N) (h3 : t.val % 4 = 3) (i j : Fin 1024) :
    (outsAt0 m c t.val t.isLt).2 (ix2 i j) = prod (m ((c : Thread nD τ).loc main_arg0)) (m ((c : Thread nD τ).loc main_arg1))
      (ix2 (n0 := 8192) (n1 := 2048) ⟨t.val / 8 * 1024 + i.val, by have := t.isLt; have : cfg0.N = 64 := N_0; omega⟩ ⟨t.val / 4 % 2 * 1024 + j.val, by omega⟩) := by
  have h8 : t.val / 8 < 8 := by have := t.isLt; have : cfg0.N = 64 := N_0; omega
  refine four_steps (fun n hn => (outsAt0 m c n hn).2 (ix2 i j)) (term (m ((c : Thread nD τ).loc main_arg0)) (m ((c : Thread nD τ).loc main_arg1)) ⟨t.val / 8 * 1024 + i.val, by omega⟩ ⟨t.val / 4 % 2 * 1024 + j.val, by omega⟩) t.val t.isLt h3 (fun n hn e h0 => ?_) (fun n hn e h0 => ?_)
  · show (outsAt0 m c n hn).2 (ix2 i j) = _
    rw [outsAt0_A m c ⟨n, hn⟩ h0 (by show ¬n % 4 = 3; omega)]
    dsimp only
    rw [first, step, start, zero_add, term_halves _ _ _ _ (n % 4) (by omega)]
    simp only [blk_u m c n hn (t.val / 8) (by omega) h8, blk_w m c n hn (t.val / 4 % 2) (by omega) (by omega)]
  · show (outsAt0 m c n hn).2 (ix2 i j) = (outsAt0 m c (n - 1) _).2 (ix2 i j) + _
    by_cases h1 : n % 4 = 3
    · rw [outsAt0_C m c ⟨n, hn⟩ h0 h1]
      dsimp only
      rw [last, step, term_halves _ _ _ _ (n % 4) (by omega)]
      simp only [blk_u m c n hn (t.val / 8) (by omega) h8, blk_w m c n hn (t.val / 4 % 2) (by omega) (by omega)]
    · rw [outsAt0_B m c ⟨n, hn⟩ h0 h1]
      dsimp only
      rw [next, step, term_halves _ _ _ _ (n % 4) (by omega)]
      simp only [blk_u m c n hn (t.val / 8) (by omega) h8, blk_w m c n hn (t.val / 4 % 2) (by omega) (by omega)]

/-- The whole array the kernel leaves. -/
theorem array : (dats m 0 c).arrAt 3 cfg0.N = res (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 : t.val % 4 = 3 := (flush0_3 t).mp hf
  have e := scratch m c t h3
  blk_simp
  rw [after0_3]
  obtain ⟨i, j, rfl⟩ : ∃ (i j : Fin 1024), y = ix2 i j := ⟨y 0, y 1, funext fun a => by fin_cases a <;> rfl⟩
  rw [at_o t]
  unfold res
  rw [← e i j, outsAt0_C m c t (by omega) h3]
  dsimp only
  rw [out, last, close]
  blk_simp [iblk]
  rw [at_h t]
end

/-- The kernel's result and the reference's agree. -/
theorem algebraic : algebraic_Kernel7Ideal_Reference7Ideal := by
  intro m g m' g' _ hargs
  refine ⟨fun c => res (m ((c.tc : Thread Kernel7Ideal.nD Kernel7Ideal.τ).loc Kernel7Ideal.main_arg0)) (m ((c.tc : Thread Kernel7Ideal.nD Kernel7Ideal.τ).loc Kernel7Ideal.main_arg1)) (m ((c.tc : Thread Kernel7Ideal.nD Kernel7Ideal.τ).loc Kernel7Ideal.main_arg2)), ?_, ?_⟩
  · exact (θ_run Kernel7Ideal.defs _ _).mono (fun r h c => ⟨(h c).1.trans (array m c), (h c).2⟩) (Kernel7Ideal.Value.run_blocks m g)
  · refine (θ_run Reference7Ideal.defs _ _).mono (fun r h c => ⟨(h c).1.trans ((reference _ _ _ ).trans ?_), (h c).2⟩) (Reference7Ideal.Value.run m' g')
    rw [(hargs c).1, (hargs c).2.1, (hargs c).2.2]

/-- The reference ends, its arguments are unchanged and every semaphore reads zero. -/
theorem reference_frame : quiescent_Reference7Ideal := fun m ρ _ =>
  (θ_run Reference7Ideal.defs _ _).mono (fun r h => ⟨fun c => (h c).2, sem_eq_zero_of_no_sems (by decide) r.2⟩) (Reference7Ideal.Value.run m ρ)

end Cert.Down
-- ==== Proof.GdnQkv.lean ====
module

public import proofs.«01_k».proof.Defs
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The delta rule's projection to queries, keys and values -/

namespace Cert.GdnQkv

open Idealize.ShloMosaic Idealize.ShloMosaic.TcCoe Idealize.SL.Sem Cert.Real Cert.Mixer

/-- The product of the normalised stream and the weight. -/
def prod (x : FVec Ideal Kernel8Ideal.S8192x2048 .bf16) (w : FVec Ideal Kernel8Ideal.S2048x8192 .bf16) : FVec Ideal Kernel8Ideal.S8192x8192 .f32 := fun i =>
  (∑ k : Fin 2048, (x (ix2 (n0 := 8192) (n1 := 2048) (i 0) k) * w (ix2 (n0 := 2048) (n1 := 8192) k (i 1)) : EReal))

section
open Reference8Ideal Reference8Ideal.Facts₀

/-- What the reference computes. -/
theorem reference (x : FVec Ideal S8192x2048 .bf16) (w : FVec Ideal S2048x8192 .bf16) :
    Host.dotGeneral dot_S8192x2048_S2048x8192_S8192x8192_1_0_0_1_n_n none (extf .f32 x bitsLt_bf16_f32) (extf .f32 w bitsLt_bf16_f32)
    = prod x w := by
  refine ext2 fun i j => ?_
  pointwise [prod]
end

section
open Kernel8Ideal Kernel8Ideal.Gen Kernel8Ideal.Value

/-- What one point of the grid leaves. -/
theorem point (x0 : FVec Ideal S1024x2048 .bf16) (x1 : FVec Ideal S2048x1024 .bf16) (i : Fin 1024) (j : Fin 1024) :
    out0_2 (F := Ideal) x0 x1 (ix2 i j) = (∑ k : Fin 2048, (x0 (ix2 i k) * x1 (ix2 k j) : EReal)) := by
  unfold out0_2
  rw [View.canon_cons_unit_zero hz2, View.ld_unit_zero (S := S1024x2048) hz2, View.ld_unit_zero (S := S2048x1024) hz2]
  unfold k0_pay1
  pointwise []

variable (m : (ℓ : Loc nD τ sig) → Buf (Elt Ideal) ℓ) (c : Dev nD)

theorem idx : ∀ t : Fin grid0.N, win0_0.index t = ![t.val / 8, 0] ∧ win0_1.index t = ![0, t.val % 8] ∧
    win0_2.index t = ![t.val / 8, t.val % 8] := by decide +kernel

theorem at_x (t : Fin cfg0.N) (i : Fin 1024) (k : Fin 2048) :
    (win0_0.blk t).view.emb (ix2 i k) = ix2 (n0 := 8192) (n1 := 2048) ⟨t.val / 8 * 1024 + i.val, by have := t.isLt; have : cfg0.N = 64 := N_0; omega⟩ k := by
  refine funext fun a => Fin.ext ?_
  fin_cases a <;> blk_simp [(idx t).1] <;> rfl
theorem at_w (t : Fin cfg0.N) (k : Fin 2048) (j : Fin 1024) :
    (win0_1.blk t).view.emb (ix2 k j) = ix2 (n0 := 2048) (n1 := 8192) k ⟨t.val % 8 * 1024 + j.val, by omega⟩ := by
  refine funext fun a => Fin.ext ?_
  fin_cases a <;> blk_simp [(idx t).2.1] <;> rfl
theorem at_o (t : Fin cfg0.N) (i : Fin 1024) (j : Fin 1024) :
    (win0_2.blk t).view.emb (ix2 i j) = ix2 (n0 := 8192) (n1 := 8192) ⟨t.val / 8 * 1024 + i.val, by have := t.isLt; have : cfg0.N = 64 := N_0; omega⟩ ⟨t.val % 8 * 1024 + j.val, by omega⟩ := by
  refine funext fun a => Fin.ext ?_
  fin_cases a <;> blk_simp [(idx t).2.2] <;> rfl

/-- The whole array the kernel leaves. -/
theorem array : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 1024), y = ix2 i j := ⟨y 0, y 1, funext fun a => by fin_cases a <;> rfl⟩
  rw [point]
  blk_simp [iblk]
  rw [at_o t]
  simp only [at_x t, at_w t]
  rfl
end

/-- The kernel's result and the reference's agree. -/
theorem algebraic : algebraic_Kernel8Ideal_Reference8Ideal := by
  intro m g m' g' _ hargs
  refine ⟨fun c => prod (m ((c.tc : Thread Kernel8Ideal.nD Kernel8Ideal.τ).loc Kernel8Ideal.main_arg0)) (m ((c.tc : Thread Kernel8Ideal.nD Kernel8Ideal.τ).loc Kernel8Ideal.main_arg1)), ?_, ?_⟩
  · exact (θ_run Kernel8Ideal.defs _ _).mono (fun r h c => ⟨(h c).1.trans (array m c), (h c).2⟩) (Kernel8Ideal.Value.run_blocks m g)
  · refine (θ_run Reference8Ideal.defs _ _).mono (fun r h c => ⟨(h c).1.trans ((reference _ _ ).trans ?_), (h c).2⟩) (Reference8Ideal.Value.run m' g')
    rw [(hargs c).1, (hargs c).2]

/-- The reference ends, its arguments are unchanged and every semaphore reads zero. -/
theorem reference_frame : quiescent_Reference8Ideal := fun m ρ _ =>
  (θ_run Reference8Ideal.defs _ _).mono (fun r h => ⟨fun c => (h c).2, sem_eq_zero_of_no_sems (by decide) r.2⟩) (Reference8Ideal.Value.run m ρ)

end Cert.GdnQkv
-- ==== Proof.GdnZ.lean ====
module

public import proofs.«01_k».proof.Defs
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The delta rule's projection to the output's gate -/

namespace Cert.GdnZ

open Idealize.ShloMosaic Idealize.ShloMosaic.TcCoe Idealize.SL.Sem Cert.Real Cert.Mixer

/-- The product of the normalised stream and the weight. -/
def prod (x : FVec Ideal Kernel9Ideal.S8192x2048 .bf16) (w : FVec Ideal Kernel9Ideal.S2048x4096 .bf16) : FVec Ideal Kernel9Ideal.S8192x4096 .f32 := fun i =>
  (∑ k : Fin 2048, (x (ix2 (n0 := 8192) (n1 := 2048) (i 0) k) * w (ix2 (n0 := 2048) (n1 := 4096) k (i 1)) : EReal))

section
open Reference9Ideal Reference9Ideal.Facts₀

/-- What the reference computes. -/
theorem reference (x : FVec Ideal S8192x2048 .bf16) (w : FVec Ideal S2048x4096 .bf16) :
    Host.dotGeneral dot_S8192x2048_S2048x4096_S8192x4096_1_0_0_1_n_n none (extf .f32 x bitsLt_bf16_f32) (extf .f32 w bitsLt_bf16_f32)
    = prod x w := by
  refine ext2 fun i j => ?_
  pointwise [prod]
end

section
open Kernel9Ideal Kernel9Ideal.Gen Kernel9Ideal.Value

/-- What one point of the grid leaves. -/
theorem point (x0 : FVec Ideal S1024x2048 .bf16) (x1 : FVec Ideal S2048x1024 .bf16) (i : Fin 1024) (j : Fin 1024) :
    out0_2 (F := Ideal) x0 x1 (ix2 i j) = (∑ k : Fin 2048, (x0 (ix2 i k) * x1 (ix2 k j) : EReal)) := by
  unfold out0_2
  rw [View.canon_cons_unit_zero hz2, View.ld_unit_zero (S := S1024x2048) hz2, View.ld_unit_zero (S := S2048x1024) hz2]
  unfold k0_pay1
  pointwise []

variable (m : (ℓ : Loc nD τ sig) → Buf (Elt Ideal) ℓ) (c : Dev nD)

theorem idx : ∀ t : Fin grid0.N, win0_0.index t = ![t.val / 4, 0] ∧ win0_1.index t = ![0, t.val % 4] ∧
    win0_2.index t = ![t.val / 4, t.val % 4] := by decide +kernel

theorem at_x (t : Fin cfg0.N) (i : Fin 1024) (k : Fin 2048) :
    (win0_0.blk t).view.emb (ix2 i k) = ix2 (n0 := 8192) (n1 := 2048) ⟨t.val / 4 * 1024 + i.val, by have := t.isLt; have : cfg0.N = 32 := N_0; omega⟩ k := by
  refine funext fun a => Fin.ext ?_
  fin_cases a <;> blk_simp [(idx t).1] <;> rfl
theorem at_w (t : Fin cfg0.N) (k : Fin 2048) (j : Fin 1024) :
    (win0_1.blk t).view.emb (ix2 k j) = ix2 (n0 := 2048) (n1 := 4096) k ⟨t.val % 4 * 1024 + j.val, by omega⟩ := by
  refine funext fun a => Fin.ext ?_
  fin_cases a <;> blk_simp [(idx t).2.1] <;> rfl
theorem at_o (t : Fin cfg0.N) (i : Fin 1024) (j : Fin 1024) :
    (win0_2.blk t).view.emb (ix2 i j) = ix2 (n0 := 8192) (n1 := 4096) ⟨t.val / 4 * 1024 + i.val, by have := t.isLt; have : cfg0.N = 32 := N_0; omega⟩ ⟨t.val % 4 * 1024 + j.val, by omega⟩ := by
  refine funext fun a => Fin.ext ?_
  fin_cases a <;> blk_simp [(idx t).2.2] <;> rfl

/-- The whole array the kernel leaves. -/
theorem array : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 1024), y = ix2 i j := ⟨y 0, y 1, funext fun a => by fin_cases a <;> rfl⟩
  rw [point]
  blk_simp [iblk]
  rw [at_o t]
  simp only [at_x t, at_w t]
  rfl
end

/-- The kernel's result and the reference's agree. -/
theorem algebraic : algebraic_Kernel9Ideal_Reference9Ideal := by
  intro m g m' g' _ hargs
  refine ⟨fun c => prod (m ((c.tc : Thread Kernel9Ideal.nD Kernel9Ideal.τ).loc Kernel9Ideal.main_arg0)) (m ((c.tc : Thread Kernel9Ideal.nD Kernel9Ideal.τ).loc Kernel9Ideal.main_arg1)), ?_, ?_⟩
  · exact (θ_run Kernel9Ideal.defs _ _).mono (fun r h c => ⟨(h c).1.trans (array m c), (h c).2⟩) (Kernel9Ideal.Value.run_blocks m g)
  · refine (θ_run Reference9Ideal.defs _ _).mono (fun r h c => ⟨(h c).1.trans ((reference _ _ ).trans ?_), (h c).2⟩) (Reference9Ideal.Value.run m' g')
    rw [(hargs c).1, (hargs c).2]

/-- The reference ends, its arguments are unchanged and every semaphore reads zero. -/
theorem reference_frame : quiescent_Reference9Ideal := fun m ρ _ =>
  (θ_run Reference9Ideal.defs _ _).mono (fun r h => ⟨fun c => (h c).2, sem_eq_zero_of_no_sems (by decide) r.2⟩) (Reference9Ideal.Value.run m ρ)

end Cert.GdnZ
-- ==== Proof.GdnQkvDw.lean ====
module

public import proofs.«01_k».proof.Defs
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.UpDw
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The gradient of the weight of the delta rule's projection to queries, keys and values -/

namespace Cert.GdnQkvDw

open Idealize.ShloMosaic Idealize.ShloMosaic.TcCoe Idealize.SL.Sem Cert.Real Cert.Mixer

/-- The weight's gradient: at each place the sum over the tokens of the normalised stream and the projection's gradient. -/
def grad (x : FVec Ideal Kernel10Ideal.S8192x2048 .bf16) (d : FVec Ideal Kernel10Ideal.S8192x8192 .bf16) : FVec Ideal Kernel10Ideal.S2048x8192 .bf16 := fun i =>
  (∑ k : Fin 8192, (x (ix2 (n0 := 8192) (n1 := 2048) k (i 0)) * d (ix2 (n0 := 8192) (n1 := 8192) k (i 1)) : EReal))

section
open Reference10Ideal Reference10Ideal.Facts₀

/-- What the reference computes. -/
theorem reference (x : FVec Ideal S8192x2048 .bf16) (d : FVec Ideal S8192x8192 .bf16) :
    truncf .bf16 (transpose S2048x8192 [1, 0] (Host.dotGeneral dot_S8192x8192_S8192x2048_S8192x2048_0_0_1_1_n_n none (extf .f32 d bitsLt_bf16_f32)
      (extf .f32 x bitsLt_bf16_f32)) transposes_S8192x2048_S2048x8192_1_0) bitsLt_bf16_f32
    = grad x d := by
  refine ext2 fun i j => ?_
  pointwise [grad]
  exact Finset.sum_congr rfl fun x _ => mul_comm _ _
end

section
open Kernel10Ideal Kernel10Ideal.Gen Kernel10Ideal.Value

section
variable (c : Dev nD) (i : grid0.Coords)
  (a3 : Memref sig .tc .vmem S2048x1024 .bf16) (h3 : a3.IsWhole)
  (a4 : Memref sig .tc .vmem S2048x1024 .bf16) (h4 : a4.IsWhole)
  (a5 : Memref sig .tc .vmem S1024x1024 .bf16) (h5 : a5.IsWhole)
  (a6 : Memref sig .tc .vmem S1024x1024 .f32) (h6 : a6.IsWhole)
  (x0 x1 : FVec Ideal S2048x1024 .bf16) (s : FVec Ideal S1024x1024 .f32)

/-- The first point of four starts the accumulator at its own product. -/
theorem first (hA hB) : sout0_A_0 (F := Ideal) c i a3 h3 a4 h4 a5 h5 a6 h6 hA hB x0 x1 = k0_pay2 (F := Ideal) (k0_pay1 (F := Ideal)) x0 x1 := by
  unfold sout0_A_0
  rw [View.read_writes_eq_canon _ _ _ (scover0_A_0 c i a3 h3 a4 h4 a5 h5 a6 h6 hA hB _ _)]
  unfold kernelRun0_A
  dsimp only
  sl_unfold_words
  rw [View.canon_cons_unit_zero hz2]
  simp only [View.readAt_eq_ld, h3.read_unread, h4.read_unread, View.readCov_unit_zero (S := S1024x1024) _ hz2, View.ld_unit_zero (S := S2048x1024) hz2, shapeCast_self]

/-- A later point adds its product. -/
theorem next (hA hB) : sout0_B_0 (F := Ideal) c i a3 h3 a4 h4 a5 h5 a6 h6 hA hB x0 x1 s = k0_pay2 (F := Ideal) s x0 x1 := by
  unfold sout0_B_0
  rw [View.read_writes_eq_canon _ _ _ (scover0_B_0 c i a3 h3 a4 h4 a5 h5 a6 h6 hA hB _ _ _)]
  unfold kernelRun0_B
  dsimp only
  sl_unfold_words
  rw [View.canon_cons_unit_zero hz2]
  simp only [View.readAt_eq_ld, h3.read_unread, h4.read_unread, h6.read_unread, View.ld_unit_zero (S := S1024x1024) hz2, View.ld_unit_zero (S := S2048x1024) hz2, shapeCast_self]

/-- So does the last, -/
theorem last (hA hB) : sout0_C_0 (F := Ideal) c i a3 h3 a4 h4 a5 h5 a6 h6 hA hB x0 x1 s = k0_pay2 (F := Ideal) s x0 x1 := by
  unfold sout0_C_0
  rw [View.read_writes_eq_canon _ _ _ (scover0_C_0 c i a3 h3 a4 h4 a5 h5 a6 h6 hA hB _ _ _)]
  unfold kernelRun0_C
  dsimp only
  sl_unfold_words
  rw [View.canon_cons_unit_zero hz2]
  simp only [View.readAt_eq_ld, h3.read_unread, h4.read_unread, h6.read_unread, View.ld_unit_zero (S := S1024x1024) hz2, View.ld_unit_zero (S := S2048x1024) hz2, shapeCast_self]

/-- which leaves the accumulator in the output's block. -/
theorem out (hA hB) : out0_C_2 (F := Ideal) c i a3 h3 a4 h4 a5 h5 a6 h6 hA hB x0 x1 s = k0_pay3 (F := Ideal) (k0_pay2 (F := Ideal) s x0 x1) := by
  unfold out0_C_2
  rw [View.read_writes_eq_canon _ _ _ (cover0_C_2 c i a3 h3 a4 h4 a5 h5 a6 h6 hA hB _ _ _)]
  unfold kernelRun0_C
  dsimp only
  sl_unfold_words
  rw [View.canon_cons_unit_zero hz2]
  simp only [View.readAt_eq_ld, h3.read_unread, h4.read_unread, View.readCov_unit_zero (S := S1024x1024) _ hz2, h6.read_unread, View.ld_unit_zero (S := S1024x1024) hz2, View.ld_unit_zero (S := S2048x1024) hz2, shapeCast_self]

/-- One point's step at an index. -/
theorem step (p q : Fin 1024) : k0_pay2 (F := Ideal) s x0 x1 (ix2 p q) = (s (ix2 p q) + ∑ k : Fin 2048, (x0 (ix2 k p) * x1 (ix2 k q) : EReal) : EReal) := UpDw.step x0 x1 s p q
/-- The accumulator starts at zero. -/
theorem start (p q : Fin 1024) : k0_pay1 (F := Ideal) (ix2 p q) = (0 : EReal) := UpDw.start p q
/-- The output's block at an index. -/
theorem close (p q : Fin 1024) : k0_pay3 (F := Ideal) s (ix2 p q) = s (ix2 p q) := by
  unfold k0_pay3
  pointwise []
end

variable (m : (ℓ : Loc nD τ sig) → Buf (Elt Ideal) ℓ) (c : Dev nD)

theorem idx : ∀ t : Fin grid0.N, win0_0.index t = ![t.val % 4, t.val / 32] ∧ win0_1.index t = ![t.val % 4, t.val / 4 % 8] ∧
    win0_2.index t = ![t.val / 32, t.val / 4 % 8] := by decide +kernel

theorem at_a (t : Fin cfg0.N) (k : Fin 2048) (i : Fin 1024) :
    (win0_0.blk t).view.emb (ix2 k i) = ix2 (n0 := 8192) (n1 := 2048) ⟨t.val % 4 * 2048 + k.val, by omega⟩ ⟨t.val / 32 * 1024 + i.val, by have := t.isLt; have : cfg0.N = 64 := N_0; omega⟩ := by
  refine funext fun a => Fin.ext ?_
  fin_cases a <;> blk_simp [(idx t).1] <;> rfl
theorem at_b (t : Fin cfg0.N) (k : Fin 2048) (j : Fin 1024) :
    (win0_1.blk t).view.emb (ix2 k j) = ix2 (n0 := 8192) (n1 := 8192) ⟨t.val % 4 * 2048 + k.val, by omega⟩ ⟨t.val / 4 % 8 * 1024 + j.val, by omega⟩ := by
  refine funext fun a => Fin.ext ?_
  fin_cases a <;> blk_simp [(idx t).2.1] <;> rfl
theorem at_o (t : Fin cfg0.N) (i j : Fin 1024) :
    (win0_2.blk t).view.emb (ix2 i j) = ix2 (n0 := 2048) (n1 := 8192) ⟨t.val / 32 * 1024 + i.val, by have := t.isLt; have : cfg0.N = 64 := N_0; omega⟩ ⟨t.val / 4 % 8 * 1024 + j.val, by omega⟩ := by
  refine funext fun a => Fin.ext ?_
  fin_cases a <;> blk_simp [(idx t).2.2] <;> rfl

theorem blk_a (n : Nat) (hn : n < cfg0.N) (b : Nat) (e : n / 32 = b) (hb : b < 2) (k : Fin 2048) (i : Fin 1024) :
    iblk m c 0 ⟨n, hn⟩ (ix2 k i) = m ((c : Thread nD τ).loc main_arg0) (ix2 (n0 := 8192) (n1 := 2048) ⟨n % 4 * 2048 + k.val, by omega⟩ ⟨b * 1024 + i.val, by omega⟩) := by
  subst e
  blk_simp [iblk]
  rw [at_a ⟨n, hn⟩]
theorem blk_b (n : Nat) (hn : n < cfg0.N) (b : Nat) (e : n / 4 % 8 = b) (hb : b < 8) (k : Fin 2048) (j : Fin 1024) :
    iblk m c 1 ⟨n, hn⟩ (ix2 k j) = m ((c : Thread nD τ).loc main_arg1) (ix2 (n0 := 8192) (n1 := 8192) ⟨n % 4 * 2048 + k.val, by omega⟩ ⟨b * 1024 + j.val, by omega⟩) := by
  subst e
  blk_simp [iblk]
  rw [at_b ⟨n, hn⟩]

/-- The accumulator after the last of four points. -/
theorem scratch (t : Fin cfg0.N) (h3 : t.val % 4 = 3) (i j : Fin 1024) :
    (outsAt0 m c t.val t.isLt).2 (ix2 i j) = grad (m ((c : Thread nD τ).loc main_arg0)) (m ((c : Thread nD τ).loc main_arg1))
      (ix2 (n0 := 2048) (n1 := 8192) ⟨t.val / 32 * 1024 + i.val, by have := t.isLt; have : cfg0.N = 64 := N_0; omega⟩ ⟨t.val / 4 % 8 * 1024 + j.val, by omega⟩) := by
  have hr : t.val / 32 < 2 := by have := t.isLt; have : cfg0.N = 64 := N_0; omega
  refine four_steps (fun n hn => (outsAt0 m c n hn).2 (ix2 i j)) _ t.val t.isLt h3 (fun n hn e h0 => ?_) (fun n hn e h0 => ?_)
  · show (outsAt0 m c n hn).2 (ix2 i j) = _
    rw [outsAt0_A m c ⟨n, hn⟩ h0 (by show ¬n % 4 = 3; omega)]
    dsimp only
    rw [first, step, start, zero_add]
    simp only [blk_a m c n hn (t.val / 32) (by omega) hr, blk_b m c n hn (t.val / 4 % 8) (by omega) (by omega)]
    rfl
  · show (outsAt0 m c n hn).2 (ix2 i j) = (outsAt0 m c (n - 1) _).2 (ix2 i j) + _
    by_cases h1 : n % 4 = 3
    · rw [outsAt0_C m c ⟨n, hn⟩ h0 h1]
      dsimp only
      rw [last, step]
      simp only [blk_a m c n hn (t.val / 32) (by omega) hr, blk_b m c n hn (t.val / 4 % 8) (by omega) (by omega)]
      rfl
    · rw [outsAt0_B m c ⟨n, hn⟩ h0 h1]
      dsimp only
      rw [next, step]
      simp only [blk_a m c n hn (t.val / 32) (by omega) hr, blk_b m c n hn (t.val / 4 % 8) (by omega) (by omega)]
      rfl

/-- The whole array the kernel leaves. -/
theorem array : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have e := scratch m c t h3
  blk_simp
  rw [after0_2]
  obtain ⟨i, j, rfl⟩ : ∃ (i : Fin 1024) (j : Fin 1024), y = ix2 i j := ⟨y 0, y 1, funext fun a => by fin_cases a <;> rfl⟩
  rw [at_o t, ← e i j, outsAt0_C m c t (by omega) h3]
  dsimp only
  rw [out, last, close]
end

/-- The kernel's result and the reference's agree. -/
theorem algebraic : algebraic_Kernel10Ideal_Reference10Ideal := by
  intro m g m' g' _ hargs
  refine ⟨fun c => grad (m ((c.tc : Thread Kernel10Ideal.nD Kernel10Ideal.τ).loc Kernel10Ideal.main_arg0)) (m ((c.tc : Thread Kernel10Ideal.nD Kernel10Ideal.τ).loc Kernel10Ideal.main_arg1)), ?_, ?_⟩
  · exact (θ_run Kernel10Ideal.defs _ _).mono (fun r h c => ⟨(h c).1.trans (array m c), (h c).2⟩) (Kernel10Ideal.Value.run_blocks m g)
  · refine (θ_run Reference10Ideal.defs _ _).mono (fun r h c => ⟨(h c).1.trans ((reference _ _ ).trans ?_), (h c).2⟩) (Reference10Ideal.Value.run m' g')
    rw [(hargs c).1, (hargs c).2]

/-- The reference ends, its arguments are unchanged and every semaphore reads zero. -/
theorem reference_frame : quiescent_Reference10Ideal := fun m ρ _ =>
  (θ_run Reference10Ideal.defs _ _).mono (fun r h => ⟨fun c => (h c).2, sem_eq_zero_of_no_sems (by decide) r.2⟩) (Reference10Ideal.Value.run m ρ)

end Cert.GdnQkvDw
-- ==== Proof.GdnZDw.lean ====
module

public import proofs.«01_k».proof.Defs
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.GdnQkvDw
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The gradient of the weight of the delta rule's projection to the output's gate -/

namespace Cert.GdnZDw

open Idealize.ShloMosaic Idealize.ShloMosaic.TcCoe Idealize.SL.Sem Cert.Real Cert.Mixer

/-- The weight's gradient: at each place the sum over the tokens of the normalised stream and the projection's gradient. -/
def grad (x : FVec Ideal Kernel11Ideal.S8192x2048 .bf16) (d : FVec Ideal Kernel11Ideal.S8192x4096 .bf16) : FVec Ideal Kernel11Ideal.S2048x4096 .bf16 := fun i =>
  (∑ k : Fin 8192, (x (ix2 (n0 := 8192) (n1 := 2048) k (i 0)) * d (ix2 (n0 := 8192) (n1 := 4096) k (i 1)) : EReal))

section
open Reference11Ideal Reference11Ideal.Facts₀

/-- What the reference computes. -/
theorem reference (x : FVec Ideal S8192x2048 .bf16) (d : FVec Ideal S8192x4096 .bf16) :
    truncf .bf16 (transpose S2048x4096 [1, 0] (Host.dotGeneral dot_S8192x4096_S8192x2048_S4096x2048_0_0_1_1_n_n none (extf .f32 d bitsLt_bf16_f32)
      (extf .f32 x bitsLt_bf16_f32)) transposes_S4096x2048_S2048x4096_1_0) bitsLt_bf16_f32
    = grad x d := by
  refine ext2 fun i j => ?_
  pointwise [grad]
  exact Finset.sum_congr rfl fun x _ => mul_comm _ _
end

section
open Kernel11Ideal Kernel11Ideal.Gen Kernel11Ideal.Value

section
variable (c : Dev nD) (i : grid0.Coords)
  (a3 : Memref sig .tc .vmem S2048x1024 .bf16) (h3 : a3.IsWhole)
  (a4 : Memref sig .tc .vmem S2048x1024 .bf16) (h4 : a4.IsWhole)
  (a5 : Memref sig .tc .vmem S1024x1024 .bf16) (h5 : a5.IsWhole)
  (a6 : Memref sig .tc .vmem S1024x1024 .f32) (h6 : a6.IsWhole)
  (x0 x1 : FVec Ideal S2048x1024 .bf16) (s : FVec Ideal S1024x1024 .f32)

/-- The first point of four starts the accumulator at its own product. -/
theorem first (hA hB) : sout0_A_0 (F := Ideal) c i a3 h3 a4 h4 a5 h5 a6 h6 hA hB x0 x1 = k0_pay2 (F := Ideal) (k0_pay1 (F := Ideal)) x0 x1 := by
  unfold sout0_A_0
  rw [View.read_writes_eq_canon _ _ _ (scover0_A_0 c i a3 h3 a4 h4 a5 h5 a6 h6 hA hB _ _)]
  unfold kernelRun0_A
  dsimp only
  sl_unfold_words
  rw [View.canon_cons_unit_zero hz2]
  simp only [View.readAt_eq_ld, h3.read_unread, h4.read_unread, View.readCov_unit_zero (S := S1024x1024) _ hz2, View.ld_unit_zero (S := S2048x1024) hz2, shapeCast_self]

/-- A later point adds its product. -/
theorem next (hA hB) : sout0_B_0 (F := Ideal) c i a3 h3 a4 h4 a5 h5 a6 h6 hA hB x0 x1 s = k0_pay2 (F := Ideal) s x0 x1 := by
  unfold sout0_B_0
  rw [View.read_writes_eq_canon _ _ _ (scover0_B_0 c i a3 h3 a4 h4 a5 h5 a6 h6 hA hB _ _ _)]
  unfold kernelRun0_B
  dsimp only
  sl_unfold_words
  rw [View.canon_cons_unit_zero hz2]
  simp only [View.readAt_eq_ld, h3.read_unread, h4.read_unread, h6.read_unread, View.ld_unit_zero (S := S1024x1024) hz2, View.ld_unit_zero (S := S2048x1024) hz2, shapeCast_self]

/-- So does the last, -/
theorem last (hA hB) : sout0_C_0 (F := Ideal) c i a3 h3 a4 h4 a5 h5 a6 h6 hA hB x0 x1 s = k0_pay2 (F := Ideal) s x0 x1 := by
  unfold sout0_C_0
  rw [View.read_writes_eq_canon _ _ _ (scover0_C_0 c i a3 h3 a4 h4 a5 h5 a6 h6 hA hB _ _ _)]
  unfold kernelRun0_C
  dsimp only
  sl_unfold_words
  rw [View.canon_cons_unit_zero hz2]
  simp only [View.readAt_eq_ld, h3.read_unread, h4.read_unread, h6.read_unread, View.ld_unit_zero (S := S1024x1024) hz2, View.ld_unit_zero (S := S2048x1024) hz2, shapeCast_self]

/-- which leaves the accumulator in the output's block. -/
theorem out (hA hB) : out0_C_2 (F := Ideal) c i a3 h3 a4 h4 a5 h5 a6 h6 hA hB x0 x1 s = k0_pay3 (F := Ideal) (k0_pay2 (F := Ideal) s x0 x1) := by
  unfold out0_C_2
  rw [View.read_writes_eq_canon _ _ _ (cover0_C_2 c i a3 h3 a4 h4 a5 h5 a6 h6 hA hB _ _ _)]
  unfold kernelRun0_C
  dsimp only
  sl_unfold_words
  rw [View.canon_cons_unit_zero hz2]
  simp only [View.readAt_eq_ld, h3.read_unread, h4.read_unread, View.readCov_unit_zero (S := S1024x1024) _ hz2, h6.read_unread, View.ld_unit_zero (S := S1024x1024) hz2, View.ld_unit_zero (S := S2048x1024) hz2, shapeCast_self]

/-- One point's step at an index. -/
theorem step (p q : Fin 1024) : k0_pay2 (F := Ideal) s x0 x1 (ix2 p q) = (s (ix2 p q) + ∑ k : Fin 2048, (x0 (ix2 k p) * x1 (ix2 k q) : EReal) : EReal) := GdnQkvDw.step x0 x1 s p q
/-- The accumulator starts at zero. -/
theorem start (p q : Fin 1024) : k0_pay1 (F := Ideal) (ix2 p q) = (0 : EReal) := GdnQkvDw.start p q
/-- The output's block at an index. -/
theorem close (p q : Fin 1024) : k0_pay3 (F := Ideal) s (ix2 p q) = s (ix2 p q) := GdnQkvDw.close s p q
end

variable (m : (ℓ : Loc nD τ sig) → Buf (Elt Ideal) ℓ) (c : Dev nD)

theorem idx : ∀ t : Fin grid0.N, win0_0.index t = ![t.val % 4, t.val / 16] ∧ win0_1.index t = ![t.val % 4, t.val / 4 % 4] ∧
    win0_2.index t = ![t.val / 16, t.val / 4 % 4] := by decide +kernel

theorem at_a (t : Fin cfg0.N) (k : Fin 2048) (i : Fin 1024) :
    (win0_0.blk t).view.emb (ix2 k i) = ix2 (n0 := 8192) (n1 := 2048) ⟨t.val % 4 * 2048 + k.val, by omega⟩ ⟨t.val / 16 * 1024 + i.val, by have := t.isLt; have : cfg0.N = 32 := N_0; omega⟩ := by
  refine funext fun a => Fin.ext ?_
  fin_cases a <;> blk_simp [(idx t).1] <;> rfl
theorem at_b (t : Fin cfg0.N) (k : Fin 2048) (j : Fin 1024) :
    (win0_1.blk t).view.emb (ix2 k j) = ix2 (n0 := 8192) (n1 := 4096) ⟨t.val % 4 * 2048 + k.val, by omega⟩ ⟨t.val / 4 % 4 * 1024 + j.val, by omega⟩ := by
  refine funext fun a => Fin.ext ?_
  fin_cases a <;> blk_simp [(idx t).2.1] <;> rfl
theorem at_o (t : Fin cfg0.N) (i j : Fin 1024) :
    (win0_2.blk t).view.emb (ix2 i j) = ix2 (n0 := 2048) (n1 := 4096) ⟨t.val / 16 * 1024 + i.val, by have := t.isLt; have : cfg0.N = 32 := N_0; omega⟩ ⟨t.val / 4 % 4 * 1024 + j.val, by omega⟩ := by
  refine funext fun a => Fin.ext ?_
  fin_cases a <;> blk_simp [(idx t).2.2] <;> rfl

theorem blk_a (n : Nat) (hn : n < cfg0.N) (b : Nat) (e : n / 16 = b) (hb : b < 2) (k : Fin 2048) (i : Fin 1024) :
    iblk m c 0 ⟨n, hn⟩ (ix2 k i) = m ((c : Thread nD τ).loc main_arg0) (ix2 (n0 := 8192) (n1 := 2048) ⟨n % 4 * 2048 + k.val, by omega⟩ ⟨b * 1024 + i.val, by omega⟩) := by
  subst e
  blk_simp [iblk]
  rw [at_a ⟨n, hn⟩]
theorem blk_b (n : Nat) (hn : n < cfg0.N) (b : Nat) (e : n / 4 % 4 = b) (hb : b < 4) (k : Fin 2048) (j : Fin 1024) :
    iblk m c 1 ⟨n, hn⟩ (ix2 k j) = m ((c : Thread nD τ).loc main_arg1) (ix2 (n0 := 8192) (n1 := 4096) ⟨n % 4 * 2048 + k.val, by omega⟩ ⟨b * 1024 + j.val, by omega⟩) := by
  subst e
  blk_simp [iblk]
  rw [at_b ⟨n, hn⟩]

/-- The accumulator after the last of four points. -/
theorem scratch (t : Fin cfg0.N) (h3 : t.val % 4 = 3) (i j : Fin 1024) :
    (outsAt0 m c t.val t.isLt).2 (ix2 i j) = grad (m ((c : Thread nD τ).loc main_arg0)) (m ((c : Thread nD τ).loc main_arg1))
      (ix2 (n0 := 2048) (n1 := 4096) ⟨t.val / 16 * 1024 + i.val, by have := t.isLt; have : cfg0.N = 32 := N_0; omega⟩ ⟨t.val / 4 % 4 * 1024 + j.val, by omega⟩) := by
  have hr : t.val / 16 < 2 := by have := t.isLt; have : cfg0.N = 32 := N_0; omega
  refine four_steps (fun n hn => (outsAt0 m c n hn).2 (ix2 i j)) _ t.val t.isLt h3 (fun n hn e h0 => ?_) (fun n hn e h0 => ?_)
  · show (outsAt0 m c n hn).2 (ix2 i j) = _
    rw [outsAt0_A m c ⟨n, hn⟩ h0 (by show ¬n % 4 = 3; omega)]
    dsimp only
    rw [first, step, start, zero_add]
    simp only [blk_a m c n hn (t.val / 16) (by omega) hr, blk_b m c n hn (t.val / 4 % 4) (by omega) (by omega)]
    rfl
  · show (outsAt0 m c n hn).2 (ix2 i j) = (outsAt0 m c (n - 1) _).2 (ix2 i j) + _
    by_cases h1 : n % 4 = 3
    · rw [outsAt0_C m c ⟨n, hn⟩ h0 h1]
      dsimp only
      rw [last, step]
      simp only [blk_a m c n hn (t.val / 16) (by omega) hr, blk_b m c n hn (t.val / 4 % 4) (by omega) (by omega)]
      rfl
    · rw [outsAt0_B m c ⟨n, hn⟩ h0 h1]
      dsimp only
      rw [next, step]
      simp only [blk_a m c n hn (t.val / 16) (by omega) hr, blk_b m c n hn (t.val / 4 % 4) (by omega) (by omega)]
      rfl

/-- The whole array the kernel leaves. -/
theorem array : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have e := scratch m c t h3
  blk_simp
  rw [after0_2]
  obtain ⟨i, j, rfl⟩ : ∃ (i : Fin 1024) (j : Fin 1024), y = ix2 i j := ⟨y 0, y 1, funext fun a => by fin_cases a <;> rfl⟩
  rw [at_o t, ← e i j, outsAt0_C m c t (by omega) h3]
  dsimp only
  rw [out, last, close]
end

/-- The kernel's result and the reference's agree. -/
theorem algebraic : algebraic_Kernel11Ideal_Reference11Ideal := by
  intro m g m' g' _ hargs
  refine ⟨fun c => grad (m ((c.tc : Thread Kernel11Ideal.nD Kernel11Ideal.τ).loc Kernel11Ideal.main_arg0)) (m ((c.tc : Thread Kernel11Ideal.nD Kernel11Ideal.τ).loc Kernel11Ideal.main_arg1)), ?_, ?_⟩
  · exact (θ_run Kernel11Ideal.defs _ _).mono (fun r h c => ⟨(h c).1.trans (array m c), (h c).2⟩) (Kernel11Ideal.Value.run_blocks m g)
  · refine (θ_run Reference11Ideal.defs _ _).mono (fun r h c => ⟨(h c).1.trans ((reference _ _ ).trans ?_), (h c).2⟩) (Reference11Ideal.Value.run m' g')
    rw [(hargs c).1, (hargs c).2]

/-- The reference ends, its arguments are unchanged and every semaphore reads zero. -/
theorem reference_frame : quiescent_Reference11Ideal := fun m ρ _ =>
  (θ_run Reference11Ideal.defs _ _).mono (fun r h => ⟨fun c => (h c).2, sem_eq_zero_of_no_sems (by decide) r.2⟩) (Reference11Ideal.Value.run m ρ)

end Cert.GdnZDw
-- ==== Proof.GdnQkvDx.lean ====
module

public import proofs.«01_k».proof.Defs
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The gradient of the projection to queries, keys and values by its input -/

namespace Cert.GdnQkvDx

open Idealize.ShloMosaic Idealize.ShloMosaic.TcCoe Idealize.SL.Sem Cert.Real Cert.Mixer

/-- The product of the projection's gradient and the transposed weight. -/
def prod (d : FVec Ideal Kernel12Ideal.S8192x8192 .bf16) (w : FVec Ideal Kernel12Ideal.S2048x8192 .bf16) : FVec Ideal Kernel12Ideal.S8192x2048 .f32 := fun i =>
  (∑ k : Fin 8192, (d (ix2 (n0 := 8192) (n1 := 8192) (i 0) k) * w (ix2 (n0 := 2048) (n1 := 8192) (i 1) k) : EReal))

section
open Reference12Ideal Reference12Ideal.Facts₀

/-- What the reference computes. -/
theorem reference (d : FVec Ideal S8192x8192 .bf16) (w : FVec Ideal S2048x8192 .bf16) :
    Host.dotGeneral dot_S8192x8192_S2048x8192_S8192x2048_1_1_0_0_n_n none (extf .f32 d bitsLt_bf16_f32) (extf .f32 w bitsLt_bf16_f32)
    = prod d w := by
  refine ext2 fun i j => ?_
  pointwise [prod]
end

section
open Kernel12Ideal Kernel12Ideal.Gen Kernel12Ideal.Value

section
variable (c : Dev nD) (i : grid0.Coords)
  (a3 : Memref sig .tc .vmem S1024x2048 .bf16) (h3 : a3.IsWhole)
  (a4 : Memref sig .tc .vmem S1024x2048 .bf16) (h4 : a4.IsWhole)
  (a5 : Memref sig .tc .vmem S1024x1024 .f32) (h5 : a5.IsWhole)
  (a6 : Memref sig .tc .vmem S1024x1024 .f32) (h6 : a6.IsWhole)
  (x0 x1 : FVec Ideal S1024x2048 .bf16) (s : FVec Ideal S1024x1024 .f32)

/-- The first point of four starts the accumulator at its own product. -/
theorem first (hA hB) : sout0_A_0 (F := Ideal) c i a3 h3 a4 h4 a5 h5 a6 h6 hA hB x0 x1 = k0_pay2 (F := Ideal) (k0_pay1 (F := Ideal)) x0 x1 := by
  unfold sout0_A_0
  rw [View.read_writes_eq_canon _ _ _ (scover0_A_0 c i a3 h3 a4 h4 a5 h5 a6 h6 hA hB _ _)]
  unfold kernelRun0_A
  dsimp only
  sl_unfold_words
  rw [View.canon_cons_unit_zero hz2]
  simp only [View.readAt_eq_ld, h3.read_unread, h4.read_unread, View.readCov_unit_zero (S := S1024x1024) _ hz2, View.ld_unit_zero (S := S1024x2048) hz2, shapeCast_self]

/-- A later point adds its product. -/
theorem next (hA hB) : sout0_B_0 (F := Ideal) c i a3 h3 a4 h4 a5 h5 a6 h6 hA hB x0 x1 s = k0_pay2 (F := Ideal) s x0 x1 := by
  unfold sout0_B_0
  rw [View.read_writes_eq_canon _ _ _ (scover0_B_0 c i a3 h3 a4 h4 a5 h5 a6 h6 hA hB _ _ _)]
  unfold kernelRun0_B
  dsimp only
  sl_unfold_words
  rw [View.canon_cons_unit_zero hz2]
  simp only [View.readAt_eq_ld, h3.read_unread, h4.read_unread, h6.read_unread, View.ld_unit_zero (S := S1024x1024) hz2, View.ld_unit_zero (S := S1024x2048) hz2, shapeCast_self]

/-- So does the last, -/
theorem last (hA hB) : sout0_C_0 (F := Ideal) c i a3 h3 a4 h4 a5 h5 a6 h6 hA hB x0 x1 s = k0_pay2 (F := Ideal) s x0 x1 := by
  unfold sout0_C_0
  rw [View.read_writes_eq_canon _ _ _ (scover0_C_0 c i a3 h3 a4 h4 a5 h5 a6 h6 hA hB _ _ _)]
  unfold kernelRun0_C
  dsimp only
  sl_unfold_words
  rw [View.canon_cons_unit_zero hz2]
  simp only [View.readAt_eq_ld, h3.read_unread, h4.read_unread, h6.read_unread, View.ld_unit_zero (S := S1024x1024) hz2, View.ld_unit_zero (S := S1024x2048) hz2, shapeCast_self]

/-- which leaves the accumulator in the output's block. -/
theorem out (hA hB) : out0_C_2 (F := Ideal) c i a3 h3 a4 h4 a5 h5 a6 h6 hA hB x0 x1 s = k0_pay2 (F := Ideal) s x0 x1 := by
  unfold out0_C_2
  rw [View.read_writes_eq_canon _ _ _ (cover0_C_2 c i a3 h3 a4 h4 a5 h5 a6 h6 hA hB _ _ _)]
  unfold kernelRun0_C
  dsimp only
  sl_unfold_words
  rw [View.canon_cons_unit_zero hz2]
  simp only [View.readAt_eq_ld, h3.read_unread, h4.read_unread, View.readCov_unit_zero (S := S1024x1024) _ hz2, h6.read_unread, View.ld_unit_zero (S := S1024x1024) hz2, View.ld_unit_zero (S := S1024x2048) hz2, shapeCast_self]

/-- One point's step at an index. -/
theorem step (p q : Fin 1024) : k0_pay2 (F := Ideal) s x0 x1 (ix2 p q) = (s (ix2 p q) + ∑ k : Fin 2048, (x0 (ix2 p k) * x1 (ix2 q k) : EReal) : EReal) := by
  unfold k0_pay2
  pointwise []
/-- The accumulator starts at zero. -/
theorem start (p q : Fin 1024) : k0_pay1 (F := Ideal) (ix2 p q) = (0 : EReal) := by
  unfold k0_pay1
  pointwise []
end

variable (m : (ℓ : Loc nD τ sig) → Buf (Elt Ideal) ℓ) (c : Dev nD)

theorem idx : ∀ t : Fin grid0.N, win0_0.index t = ![t.val / 8, t.val % 4] ∧ win0_1.index t = ![t.val / 4 % 2, t.val % 4] ∧
    win0_2.index t = ![t.val / 8, t.val / 4 % 2] := by decide +kernel

theorem at_a (t : Fin cfg0.N) (i : Fin 1024) (k : Fin 2048) :
    (win0_0.blk t).view.emb (ix2 i k) = ix2 (n0 := 8192) (n1 := 8192) ⟨t.val / 8 * 1024 + i.val, by have := t.isLt; have : cfg0.N = 64 := N_0; omega⟩ ⟨t.val % 4 * 2048 + k.val, by omega⟩ := by
  refine funext fun a => Fin.ext ?_
  fin_cases a <;> blk_simp [(idx t).1] <;> rfl
theorem at_b (t : Fin cfg0.N) (j : Fin 1024) (k : Fin 2048) :
    (win0_1.blk t).view.emb (ix2 j k) = ix2 (n0 := 2048) (n1 := 8192) ⟨t.val / 4 % 2 * 1024 + j.val, by omega⟩ ⟨t.val % 4 * 2048 + k.val, by omega⟩ := by
  refine funext fun a => Fin.ext ?_
  fin_cases a <;> blk_simp [(idx t).2.1] <;> rfl
theorem at_o (t : Fin cfg0.N) (i j : Fin 1024) :
    (win0_2.blk t).view.emb (ix2 i j) = ix2 (n0 := 8192) (n1 := 2048) ⟨t.val / 8 * 1024 + i.val, by have := t.isLt; have : cfg0.N = 64 := N_0; omega⟩ ⟨t.val / 4 % 2 * 1024 + j.val, by omega⟩ := by
  refine funext fun a => Fin.ext ?_
  fin_cases a <;> blk_simp [(idx t).2.2] <;> rfl

theorem blk_a (n : Nat) (hn : n < cfg0.N) (b : Nat) (e : n / 8 = b) (hb : b < 8) (i : Fin 1024) (k : Fin 2048) :
    iblk m c 0 ⟨n, hn⟩ (ix2 i k) = m ((c : Thread nD τ).loc main_arg0) (ix2 (n0 := 8192) (n1 := 8192) ⟨b * 1024 + i.val, by omega⟩ ⟨n % 4 * 2048 + k.val, by omega⟩) := by
  subst e
  blk_simp [iblk]
  rw [at_a ⟨n, hn⟩]
theorem blk_b (n : Nat) (hn : n < cfg0.N) (b : Nat) (e : n / 4 % 2 = b) (hb : b < 2) (j : Fin 1024) (k : Fin 2048) :
    iblk m c 1 ⟨n, hn⟩ (ix2 j k) = m ((c : Thread nD τ).loc main_arg1) (ix2 (n0 := 2048) (n1 := 8192) ⟨b * 1024 + j.val, by omega⟩ ⟨n % 4 * 2048 + k.val, by omega⟩) := by
  subst e
  blk_simp [iblk]
  rw [at_b ⟨n, hn⟩]

/-- The accumulator after the last of four points. -/
theorem scratch (t : Fin cfg0.N) (h3 : t.val % 4 = 3) (i j : Fin 1024) :
    (outsAt0 m c t.val t.isLt).2 (ix2 i j) = prod (m ((c : Thread nD τ).loc main_arg0)) (m ((c : Thread nD τ).loc main_arg1))
      (ix2 (n0 := 8192) (n1 := 2048) ⟨t.val / 8 * 1024 + i.val, by have := t.isLt; have : cfg0.N = 64 := N_0; omega⟩ ⟨t.val / 4 % 2 * 1024 + j.val, by omega⟩) := by
  have hr : t.val / 8 < 8 := by have := t.isLt; have : cfg0.N = 64 := N_0; omega
  refine four_steps (fun n hn => (outsAt0 m c n hn).2 (ix2 i j)) _ t.val t.isLt h3 (fun n hn e h0 => ?_) (fun n hn e h0 => ?_)
  · show (outsAt0 m c n hn).2 (ix2 i j) = _
    rw [outsAt0_A m c ⟨n, hn⟩ h0 (by show ¬n % 4 = 3; omega)]
    dsimp only
    rw [first, step, start, zero_add]
    simp only [blk_a m c n hn (t.val / 8) (by omega) hr, blk_b m c n hn (t.val / 4 % 2) (by omega) (by omega)]
    rfl
  · show (outsAt0 m c n hn).2 (ix2 i j) = (outsAt0 m c (n - 1) _).2 (ix2 i j) + _
    by_cases h1 : n % 4 = 3
    · rw [outsAt0_C m c ⟨n, hn⟩ h0 h1]
      dsimp only
      rw [last, step]
      simp only [blk_a m c n hn (t.val / 8) (by omega) hr, blk_b m c n hn (t.val / 4 % 2) (by omega) (by omega)]
      rfl
    · rw [outsAt0_B m c ⟨n, hn⟩ h0 h1]
      dsimp only
      rw [next, step]
      simp only [blk_a m c n hn (t.val / 8) (by omega) hr, blk_b m c n hn (t.val / 4 % 2) (by omega) (by omega)]
      rfl

/-- The whole array the kernel leaves. -/
theorem array : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have e := scratch m c t h3
  blk_simp
  rw [after0_2]
  obtain ⟨i, j, rfl⟩ : ∃ (i : Fin 1024) (j : Fin 1024), y = ix2 i j := ⟨y 0, y 1, funext fun a => by fin_cases a <;> rfl⟩
  rw [at_o t, ← e i j, outsAt0_C m c t (by omega) h3]
  dsimp only
  rw [out, last]
end

/-- The kernel's result and the reference's agree. -/
theorem algebraic : algebraic_Kernel12Ideal_Reference12Ideal := by
  intro m g m' g' _ hargs
  refine ⟨fun c => prod (m ((c.tc : Thread Kernel12Ideal.nD Kernel12Ideal.τ).loc Kernel12Ideal.main_arg0)) (m ((c.tc : Thread Kernel12Ideal.nD Kernel12Ideal.τ).loc Kernel12Ideal.main_arg1)), ?_, ?_⟩
  · exact (θ_run Kernel12Ideal.defs _ _).mono (fun r h c => ⟨(h c).1.trans (array m c), (h c).2⟩) (Kernel12Ideal.Value.run_blocks m g)
  · refine (θ_run Reference12Ideal.defs _ _).mono (fun r h c => ⟨(h c).1.trans ((reference _ _ ).trans ?_), (h c).2⟩) (Reference12Ideal.Value.run m' g')
    rw [(hargs c).1, (hargs c).2]

/-- The reference ends, its arguments are unchanged and every semaphore reads zero. -/
theorem reference_frame : quiescent_Reference12Ideal := fun m ρ _ =>
  (θ_run Reference12Ideal.defs _ _).mono (fun r h => ⟨fun c => (h c).2, sem_eq_zero_of_no_sems (by decide) r.2⟩) (Reference12Ideal.Value.run m ρ)

end Cert.GdnQkvDx
-- ==== Proof.GdnZDx.lean ====
module

public import proofs.«01_k».proof.Defs
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.GdnQkvDx
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The gradient of the projection to the output's gate by its input, added to what is there -/

namespace Cert.GdnZDx

open Idealize.ShloMosaic Idealize.ShloMosaic.TcCoe Idealize.SL.Sem Cert.Real Cert.Mixer

/-- The product of the projection's gradient and the transposed weight. -/
def prod (d : FVec Ideal Kernel13Ideal.S8192x4096 .bf16) (w : FVec Ideal Kernel13Ideal.S2048x4096 .bf16) : FVec Ideal Kernel13Ideal.S8192x2048 .f32 := fun i =>
  (∑ k : Fin 4096, (d (ix2 (n0 := 8192) (n1 := 4096) (i 0) k) * w (ix2 (n0 := 2048) (n1 := 4096) (i 1) k) : EReal))

/-- The product added to the gradient that is there. -/
def res (d : FVec Ideal Kernel13Ideal.S8192x4096 .bf16) (w : FVec Ideal Kernel13Ideal.S2048x4096 .bf16) (h : FVec Ideal Kernel13Ideal.S8192x2048 .f32) : FVec Ideal Kernel13Ideal.S8192x2048 .f32 := fun i => (h i + prod d w i : EReal)

section
open Reference13Ideal Reference13Ideal.Facts₀

/-- What the reference computes. -/
theorem reference (d : FVec Ideal S8192x4096 .bf16) (w : FVec Ideal S2048x4096 .bf16) (h : FVec Ideal S8192x2048 .f32) :
    addf h (Host.dotGeneral dot_S8192x4096_S2048x4096_S8192x2048_1_1_0_0_n_n none (extf .f32 d bitsLt_bf16_f32) (extf .f32 w bitsLt_bf16_f32))
    = res d w h := by
  refine ext2 fun i j => ?_
  pointwise [res, prod]
end

section
open Kernel13Ideal Kernel13Ideal.Gen Kernel13Ideal.Value

section
variable (c : Dev nD) (i : grid0.Coords)
  (a3 : Memref sig .tc .vmem S1024x2048 .bf16) (h3 : a3.IsWhole)
  (a4 : Memref sig .tc .vmem S1024x2048 .bf16) (h4 : a4.IsWhole)
  (a5 : Memref sig .tc .vmem S1024x1024 .f32) (h5 : a5.IsWhole)
  (a6 : Memref sig .tc .vmem S1024x1024 .f32) (h6 : a6.IsWhole)
  (a7 : Memref sig .tc .vmem S1024x1024 .f32) (h7 : a7.IsWhole)
  (x0 x1 : FVec Ideal S1024x2048 .bf16) (x2 : FVec Ideal S1024x1024 .f32) (s : FVec Ideal S1024x1024 .f32)

/-- The first point of two starts the accumulator at its own product. -/
theorem first (hA hB) : sout0_A_0 (F := Ideal) c i a3 h3 a4 h4 a5 h5 a6 h6 a7 h7 hA hB x0 x1 x2 = k0_pay2 (F := Ideal) (k0_pay1 (F := Ideal)) x0 x1 := by
  unfold sout0_A_0
  rw [View.read_writes_eq_canon _ _ _ (scover0_A_0 c i a3 h3 a4 h4 a5 h5 a6 h6 a7 h7 hA hB _ _ _)]
  unfold kernelRun0_A
  dsimp only
  sl_unfold_words
  rw [View.canon_cons_unit_zero hz2]
  simp only [View.readAt_eq_ld, h3.read_unread, h4.read_unread, View.readCov_unit_zero (S := S1024x1024) _ hz2, View.ld_unit_zero (S := S1024x2048) hz2, shapeCast_self]

/-- The last adds its product, -/
theorem last (hA hB) : sout0_B_0 (F := Ideal) c i a3 h3 a4 h4 a5 h5 a6 h6 a7 h7 hA hB x0 x1 x2 s = k0_pay2 (F := Ideal) s x0 x1 := by
  unfold sout0_B_0
  rw [View.read_writes_eq_canon _ _ _ (scover0_B_0 c i a3 h3 a4 h4 a5 h5 a6 h6 a7 h7 hA hB _ _ _ _)]
  unfold kernelRun0_B
  dsimp only
  sl_unfold_words
  rw [View.canon_cons_unit_zero hz2]
  simp only [View.readAt_eq_ld, h3.read_unread, h4.read_unread, h7.read_unread, View.ld_unit_zero (S := S1024x1024) hz2, View.ld_unit_zero (S := S1024x2048) hz2, shapeCast_self]

/-- which leaves the accumulator, added to the gradient that is there, in the output's block. -/
theorem out (hA hB) : out0_B_3 (F := Ideal) c i a3 h3 a4 h4 a5 h5 a6 h6 a7 h7 hA hB x0 x1 x2 s = k0_pay3 (F := Ideal) (k0_pay2 (F := Ideal) s x0 x1) x2 := by
  unfold out0_B_3
  rw [View.read_writes_eq_canon _ _ _ (cover0_B_3 c i a3 h3 a4 h4 a5 h5 a6 h6 a7 h7 hA hB _ _ _ _)]
  unfold kernelRun0_B
  dsimp only
  sl_unfold_words
  rw [View.canon_cons_unit_zero hz2]
  simp only [View.readAt_eq_ld, h3.read_unread, h4.read_unread, h5.read_unread, View.readCov_unit_zero (S := S1024x1024) _ hz2, h7.read_unread, View.ld_unit_zero (S := S1024x1024) hz2, View.ld_unit_zero (S := S1024x2048) hz2, shapeCast_self]

/-- One point's step at an index. -/
theorem step (p q : Fin 1024) : k0_pay2 (F := Ideal) s x0 x1 (ix2 p q) = (s (ix2 p q) + ∑ k : Fin 2048, (x0 (ix2 p k) * x1 (ix2 q k) : EReal) : EReal) := GdnQkvDx.step x0 x1 s p q
/-- The accumulator starts at zero. -/
theorem start (p q : Fin 1024) : k0_pay1 (F := Ideal) (ix2 p q) = (0 : EReal) := GdnQkvDx.start p q
/-- The output's block at an index. -/
theorem close (p q : Fin 1024) : k0_pay3 (F := Ideal) s x2 (ix2 p q) = (x2 (ix2 p q) + s (ix2 p q) : EReal) := by
  unfold k0_pay3
  pointwise []
end

variable (m : (ℓ : Loc nD τ sig) → Buf (Elt Ideal) ℓ) (c : Dev nD)

theorem idx : ∀ t : Fin grid0.N, win0_0.index t = ![t.val / 4, t.val % 2] ∧ win0_1.index t = ![t.val / 2 % 2, t.val % 2] ∧
    win0_2.index t = ![t.val / 4, t.val / 2 % 2] ∧ win0_3.index t = ![t.val / 4, t.val / 2 % 2] := by decide +kernel

theorem at_a (t : Fin cfg0.N) (i : Fin 1024) (k : Fin 2048) :
    (win0_0.blk t).view.emb (ix2 i k) = ix2 (n0 := 8192) (n1 := 4096) ⟨t.val / 4 * 1024 + i.val, by have := t.isLt; have : cfg0.N = 32 := N_0; omega⟩ ⟨t.val % 2 * 2048 + k.val, by omega⟩ := by
  refine funext fun a => Fin.ext ?_
  fin_cases a <;> blk_simp [(idx t).1] <;> rfl
theorem at_b (t : Fin cfg0.N) (j : Fin 1024) (k : Fin 2048) :
    (win0_1.blk t).view.emb (ix2 j k) = ix2 (n0 := 2048) (n1 := 4096) ⟨t.val / 2 % 2 * 1024 + j.val, by omega⟩ ⟨t.val % 2 * 2048 + k.val, by omega⟩ := by
  refine funext fun a => Fin.ext ?_
  fin_cases a <;> blk_simp [(idx t).2.1] <;> rfl
theorem at_h (t : Fin cfg0.N) (i j : Fin 1024) :
    (win0_2.blk t).view.emb (ix2 i j) = ix2 (n0 := 8192) (n1 := 2048) ⟨t.val / 4 * 1024 + i.val, by have := t.isLt; have : cfg0.N = 32 := N_0; omega⟩ ⟨t.val / 2 % 2 * 1024 + j.val, by omega⟩ := by
  refine funext fun a => Fin.ext ?_
  fin_cases a <;> blk_simp [(idx t).2.2.1] <;> rfl
theorem at_o (t : Fin cfg0.N) (i j : Fin 1024) :
    (win0_3.blk t).view.emb (ix2 i j) = ix2 (n0 := 8192) (n1 := 2048) ⟨t.val / 4 * 1024 + i.val, by have := t.isLt; have : cfg0.N = 32 := N_0; omega⟩ ⟨t.val / 2 % 2 * 1024 + j.val, by omega⟩ := by
  refine funext fun a => Fin.ext ?_
  fin_cases a <;> blk_simp [(idx t).2.2.2] <;> rfl

theorem blk_a (n : Nat) (hn : n < cfg0.N) (b : Nat) (e : n / 4 = b) (hb : b < 8) (i : Fin 1024) (k : Fin 2048) :
    iblk m c 0 ⟨n, hn⟩ (ix2 i k) = m ((c : Thread nD τ).loc main_arg0) (ix2 (n0 := 8192) (n1 := 4096) ⟨b * 1024 + i.val, by omega⟩ ⟨n % 2 * 2048 + k.val, by omega⟩) := by
  subst e
  blk_simp [iblk]
  rw [at_a ⟨n, hn⟩]
theorem blk_b (n : Nat) (hn : n < cfg0.N) (b : Nat) (e : n / 2 % 2 = b) (hb : b < 2) (j : Fin 1024) (k : Fin 2048) :
    iblk m c 1 ⟨n, hn⟩ (ix2 j k) = m ((c : Thread nD τ).loc main_arg1) (ix2 (n0 := 2048) (n1 := 4096) ⟨b * 1024 + j.val, by omega⟩ ⟨n % 2 * 2048 + k.val, by omega⟩) := by
  subst e
  blk_simp [iblk]
  rw [at_b ⟨n, hn⟩]

/-- The accumulator after the last of two points. -/
theorem scratch (t : Fin cfg0.N) (h3 : t.val % 2 = 1) (i j : Fin 1024) :
    (outsAt0 m c t.val t.isLt).2 (ix2 i j) = prod (m ((c : Thread nD τ).loc main_arg0)) (m ((c : Thread nD τ).loc main_arg1))
      (ix2 (n0 := 8192) (n1 := 2048) ⟨t.val / 4 * 1024 + i.val, by have := t.isLt; have : cfg0.N = 32 := N_0; omega⟩ ⟨t.val / 2 % 2 * 1024 + j.val, by omega⟩) := by
  have hr : t.val / 4 < 8 := by have := t.isLt; have : cfg0.N = 32 := N_0; omega
  refine two_steps (fun n hn => (outsAt0 m c n hn).2 (ix2 i j)) _ t.val t.isLt h3 (fun n hn e h0 => ?_) (fun n hn e h0 => ?_)
  · show (outsAt0 m c n hn).2 (ix2 i j) = _
    rw [outsAt0_A m c ⟨n, hn⟩ h0 (by show ¬n % 2 = 1; omega)]
    dsimp only
    rw [first, step, start, zero_add]
    simp only [blk_a m c n hn (t.val / 4) (by omega) hr, blk_b m c n hn (t.val / 2 % 2) (by omega) (by omega)]
    rfl
  · show (outsAt0 m c n hn).2 (ix2 i j) = (outsAt0 m c (n - 1) _).2 (ix2 i j) + _
    rw [outsAt0_B m c ⟨n, hn⟩ h0 (by show n % 2 = 1; omega)]
    dsimp only
    rw [last, step]
    simp only [blk_a m c n hn (t.val / 4) (by omega) hr, blk_b m c n hn (t.val / 2 % 2) (by omega) (by omega)]
    rfl

/-- The whole array the kernel leaves. -/
theorem array : (dats m 0 c).arrAt 3 cfg0.N = res (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 : t.val % 2 = 1 := (flush0_3 t).mp hf
  have e := scratch m c t h3
  blk_simp
  rw [after0_3]
  obtain ⟨i, j, rfl⟩ : ∃ (i : Fin 1024) (j : Fin 1024), y = ix2 i j := ⟨y 0, y 1, funext fun a => by fin_cases a <;> rfl⟩
  rw [at_o t]
  unfold res
  rw [← e i j, outsAt0_B m c t (by omega) h3]
  dsimp only
  rw [out, last, close]
  blk_simp [iblk]
  rw [at_h t]
end

/-- The kernel's result and the reference's agree. -/
theorem algebraic : algebraic_Kernel13Ideal_Reference13Ideal := by
  intro m g m' g' _ hargs
  refine ⟨fun c => res (m ((c.tc : Thread Kernel13Ideal.nD Kernel13Ideal.τ).loc Kernel13Ideal.main_arg0)) (m ((c.tc : Thread Kernel13Ideal.nD Kernel13Ideal.τ).loc Kernel13Ideal.main_arg1)) (m ((c.tc : Thread Kernel13Ideal.nD Kernel13Ideal.τ).loc Kernel13Ideal.main_arg2)), ?_, ?_⟩
  · exact (θ_run Kernel13Ideal.defs _ _).mono (fun r h c => ⟨(h c).1.trans (array m c), (h c).2⟩) (Kernel13Ideal.Value.run_blocks m g)
  · refine (θ_run Reference13Ideal.defs _ _).mono (fun r h c => ⟨(h c).1.trans ((reference _ _ _ ).trans ?_), (h c).2⟩) (Reference13Ideal.Value.run m' g')
    rw [(hargs c).1, (hargs c).2.1, (hargs c).2.2]

/-- The reference ends, its arguments are unchanged and every semaphore reads zero. -/
theorem reference_frame : quiescent_Reference13Ideal := fun m ρ _ =>
  (θ_run Reference13Ideal.defs _ _).mono (fun r h => ⟨fun c => (h c).2, sem_eq_zero_of_no_sems (by decide) r.2⟩) (Reference13Ideal.Value.run m ρ)

end Cert.GdnZDx
-- ==== Proof.GdnOutDx.lean ====
module

public import proofs.«01_k».proof.Defs
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The gradient of the delta rule's output projection by its input -/

namespace Cert.GdnOutDx

open Idealize.ShloMosaic Idealize.ShloMosaic.TcCoe Idealize.SL.Sem Cert.Real Cert.Mixer

/-- The product of the output's gradient and the transposed weight. The weight's rows come in eight blocks. -/
def prod (d : FVec Ideal Kernel14Ideal.S8192x2048 .bf16) (w : FVec Ideal Kernel14Ideal.S8x512x2048 .bf16) : FVec Ideal Kernel14Ideal.S8192x4096 .f32 := fun i =>
  (∑ k : Fin 2048, (d (ix2 (n0 := 8192) (n1 := 2048) (i 0) k) * w (ix3 (n0 := 8) (n1 := 512) (n2 := 2048)
    ⟨(i 1).val / 512, by have h : (i 1).val < 4096 := (i 1).isLt; omega⟩ ⟨(i 1).val % 512, by omega⟩ k) : EReal))

/-- The product at a place of the long axis given by its block and the place in it. -/
theorem prod_at (d w) (r : Fin 8192) (b : Nat) (j : Fin 512) (hb : b < 8) (h : b * 512 + j.val < 4096) :
    prod d w (ix2 r ⟨b * 512 + j.val, h⟩) = (∑ k : Fin 2048, (d (ix2 r k) * w (ix3 ⟨b, hb⟩ j k) : EReal)) :=
  Finset.sum_congr rfl fun k _ => congrArg (d (ix2 r k) * w ·) (funext fun a => Fin.ext (by
    fin_cases a
    · show (b * 512 + j.val) / 512 = b; omega
    · show (b * 512 + j.val) % 512 = j.val; omega
    · rfl))

section
open Reference14Ideal Reference14Ideal.Facts₀

/-- What the reference computes. -/
theorem reference (d : FVec Ideal S8192x2048 .bf16) (w : FVec Ideal S8x512x2048 .bf16) :
    Host.dotGeneral dot_S8192x2048_S4096x2048_S8192x4096_1_1_0_0_n_n none (extf .f32 d bitsLt_bf16_f32)
      (extf .f32 (shapeCast _ w shapeCasts_S8x512x2048_S4096x2048) bitsLt_bf16_f32)
    = prod d w := by
  refine ext2 fun i j => ?_
  pointwise [prod]
end

section
open Kernel14Ideal Kernel14Ideal.Gen Kernel14Ideal.Value

/-- What one point of the grid leaves. -/
theorem point (x0 : FVec Ideal S1024x2048 .bf16) (x1 : FVec Ideal S1x512x2048 .bf16) (i : Fin 1024) (j : Fin 512) :
    out0_2 (F := Ideal) x0 x1 (ix2 i j) = (∑ k : Fin 2048, (x0 (ix2 i k) * x1 (ix3 0 j k) : EReal)) := by
  unfold out0_2
  rw [View.canon_cons_unit_zero hz2, View.ld_unit_zero (S := S1024x2048) hz2, View.ld_unit_zero (S := S1x512x2048) hz3]
  unfold k0_pay1
  pointwise []

variable (m : (ℓ : Loc nD τ sig) → Buf (Elt Ideal) ℓ) (c : Dev nD)

theorem idx : ∀ t : Fin grid0.N, win0_0.index t = ![t.val / 8, 0] ∧ win0_1.index t = ![t.val % 8, 0, 0] ∧
    win0_2.index t = ![t.val / 8, t.val % 8] := by decide +kernel

theorem at_x (t : Fin cfg0.N) (i : Fin 1024) (k : Fin 2048) :
    (win0_0.blk t).view.emb (ix2 i k) = ix2 (n0 := 8192) (n1 := 2048) ⟨t.val / 8 * 1024 + i.val, by have := t.isLt; have : cfg0.N = 64 := N_0; omega⟩ k := by
  refine funext fun a => Fin.ext ?_
  fin_cases a <;> blk_simp [(idx t).1] <;> rfl
theorem at_w (t : Fin cfg0.N) (j : Fin 512) (k : Fin 2048) :
    (win0_1.blk t).view.emb (ix3 0 j k) = ix3 (n0 := 8) (n1 := 512) (n2 := 2048) ⟨t.val % 8, by omega⟩ j k := by
  refine funext fun a => Fin.ext ?_
  fin_cases a <;> blk_simp [(idx t).2.1] <;> rfl
theorem at_o (t : Fin cfg0.N) (i : Fin 1024) (j : Fin 512) :
    (win0_2.blk t).view.emb (ix2 i j) = ix2 (n0 := 8192) (n1 := 4096) ⟨t.val / 8 * 1024 + i.val, by have := t.isLt; have : cfg0.N = 64 := N_0; omega⟩ ⟨t.val % 8 * 512 + j.val, by omega⟩ := by
  refine funext fun a => Fin.ext ?_
  fin_cases a <;> blk_simp [(idx t).2.2] <;> rfl

/-- The whole array the kernel leaves. -/
theorem array : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 512), y = ix2 i j := ⟨y 0, y 1, funext fun a => by fin_cases a <;> rfl⟩
  rw [point]
  blk_simp [iblk]
  rw [at_o t]
  simp only [at_x t, at_w t]
  exact (prod_at _ _ _ _ _ (by omega) _).symm
end

/-- The kernel's result and the reference's agree. -/
theorem algebraic : algebraic_Kernel14Ideal_Reference14Ideal := by
  intro m g m' g' _ hargs
  refine ⟨fun c => prod (m ((c.tc : Thread Kernel14Ideal.nD Kernel14Ideal.τ).loc Kernel14Ideal.main_arg0)) (m ((c.tc : Thread Kernel14Ideal.nD Kernel14Ideal.τ).loc Kernel14Ideal.main_arg1)), ?_, ?_⟩
  · exact (θ_run Kernel14Ideal.defs _ _).mono (fun r h c => ⟨(h c).1.trans (array m c), (h c).2⟩) (Kernel14Ideal.Value.run_blocks m g)
  · refine (θ_run Reference14Ideal.defs _ _).mono (fun r h c => ⟨(h c).1.trans ((reference _ _ ).trans ?_), (h c).2⟩) (Reference14Ideal.Value.run m' g')
    rw [(hargs c).1, (hargs c).2]

/-- The reference ends, its arguments are unchanged and every semaphore reads zero. -/
theorem reference_frame : quiescent_Reference14Ideal := fun m ρ _ =>
  (θ_run Reference14Ideal.defs _ _).mono (fun r h => ⟨fun c => (h c).2, sem_eq_zero_of_no_sems (by decide) r.2⟩) (Reference14Ideal.Value.run m ρ)

end Cert.GdnOutDx
-- ==== Proof.GdnOutDw.lean ====
module

public import proofs.«01_k».proof.Defs
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.UpDw
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The gradient of the delta rule's output weight -/

namespace Cert.GdnOutDw

open Idealize.ShloMosaic Idealize.ShloMosaic.TcCoe Idealize.SL.Sem Cert.Real Cert.Mixer

/-- The weight's gradient at a row and a column: the sum over the tokens of the gated output and the gradient. -/
def flat (x : FVec Ideal Kernel15Ideal.S8192x4096 .bf16) (d : FVec Ideal Kernel15Ideal.S8192x2048 .bf16) (r : Fin 4096) (q : Fin 2048) : EReal :=
  ∑ k : Fin 8192, (x (ix2 (n0 := 8192) (n1 := 4096) k r) * d (ix2 (n0 := 8192) (n1 := 2048) k q) : EReal)

/-- The gradient with its rows in eight blocks. -/
def grad (x : FVec Ideal Kernel15Ideal.S8192x4096 .bf16) (d : FVec Ideal Kernel15Ideal.S8192x2048 .bf16) : FVec Ideal Kernel15Ideal.S8x512x2048 .bf16 := fun i =>
  flat x d ⟨(i 0).val * 512 + (i 1).val, by have h0 : (i 0).val < 8 := (i 0).isLt; have h1 : (i 1).val < 512 := (i 1).isLt; omega⟩ (i 2)

section
open Reference15Ideal Reference15Ideal.Facts₀

/-- What the reference computes. -/
theorem reference (x : FVec Ideal S8192x4096 .bf16) (d : FVec Ideal S8192x2048 .bf16) :
    shapeCast _ (truncf .bf16 (transpose S4096x2048 [1, 0] (Host.dotGeneral dot_S8192x2048_S8192x4096_S2048x4096_0_0_1_1_n_n none (extf .f32 d bitsLt_bf16_f32)
      (extf .f32 x bitsLt_bf16_f32)) transposes_S2048x4096_S4096x2048_1_0) bitsLt_bf16_f32) shapeCasts_S4096x2048_S8x512x2048
    = grad x d := by
  refine ext3 fun i j k => ?_
  pointwise [grad, flat]
  exact Finset.sum_congr rfl fun x _ => mul_comm _ _
end

section
open Kernel15Ideal Kernel15Ideal.Gen Kernel15Ideal.Value

section
variable (c : Dev nD) (i : grid0.Coords)
  (a3 : Memref sig .tc .vmem S2048x1024 .bf16) (h3 : a3.IsWhole)
  (a4 : Memref sig .tc .vmem S2048x1024 .bf16) (h4 : a4.IsWhole)
  (a5 : Memref sig .tc .vmem S2x512x1024 .bf16) (h5 : a5.IsWhole)
  (a6 : Memref sig .tc .vmem S1024x1024 .f32) (h6 : a6.IsWhole)
  (x0 x1 : FVec Ideal S2048x1024 .bf16) (s : FVec Ideal S1024x1024 .f32)

/-- The first point of four starts the accumulator at its own product. -/
theorem first (hA hB) : sout0_A_0 (F := Ideal) c i a3 h3 a4 h4 a5 h5 a6 h6 hA hB x0 x1 = k0_pay2 (F := Ideal) (k0_pay1 (F := Ideal)) x0 x1 := by
  unfold sout0_A_0
  rw [View.read_writes_eq_canon _ _ _ (scover0_A_0 c i a3 h3 a4 h4 a5 h5 a6 h6 hA hB _ _)]
  unfold kernelRun0_A
  dsimp only
  sl_unfold_words
  rw [View.canon_cons_unit_zero hz2]
  simp only [View.readAt_eq_ld, h3.read_unread, h4.read_unread, View.readCov_unit_zero (S := S1024x1024) _ hz2, View.ld_unit_zero (S := S2048x1024) hz2, shapeCast_self]

/-- A later point adds its product. -/
theorem next (hA hB) : sout0_B_0 (F := Ideal) c i a3 h3 a4 h4 a5 h5 a6 h6 hA hB x0 x1 s = k0_pay2 (F := Ideal) s x0 x1 := by
  unfold sout0_B_0
  rw [View.read_writes_eq_canon _ _ _ (scover0_B_0 c i a3 h3 a4 h4 a5 h5 a6 h6 hA hB _ _ _)]
  unfold kernelRun0_B
  dsimp only
  sl_unfold_words
  rw [View.canon_cons_unit_zero hz2]
  simp only [View.readAt_eq_ld, h3.read_unread, h4.read_unread, h6.read_unread, View.ld_unit_zero (S := S1024x1024) hz2, View.ld_unit_zero (S := S2048x1024) hz2, shapeCast_self]

/-- So does the last, -/
theorem last (hA hB) : sout0_C_0 (F := Ideal) c i a3 h3 a4 h4 a5 h5 a6 h6 hA hB x0 x1 s = k0_pay2 (F := Ideal) s x0 x1 := by
  unfold sout0_C_0
  rw [View.read_writes_eq_canon _ _ _ (scover0_C_0 c i a3 h3 a4 h4 a5 h5 a6 h6 hA hB _ _ _)]
  unfold kernelRun0_C
  dsimp only
  sl_unfold_words
  rw [View.canon_cons_unit_zero hz2]
  simp only [View.readAt_eq_ld, h3.read_unread, h4.read_unread, h6.read_unread, View.ld_unit_zero (S := S1024x1024) hz2, View.ld_unit_zero (S := S2048x1024) hz2, shapeCast_self]

/-- which leaves the accumulator in the output's two blocks. -/
theorem out (hA hB) : out0_C_2 (F := Ideal) c i a3 h3 a4 h4 a5 h5 a6 h6 hA hB x0 x1 s = k0_pay3 (F := Ideal) (k0_pay2 (F := Ideal) s x0 x1) := by
  unfold out0_C_2
  rw [View.read_writes_eq_canon _ _ _ (cover0_C_2 c i a3 h3 a4 h4 a5 h5 a6 h6 hA hB _ _ _)]
  unfold kernelRun0_C
  dsimp only
  sl_unfold_words
  rw [View.canon_cons_unit_zero hz3]
  simp only [View.readAt_eq_ld, h3.read_unread, h4.read_unread, View.readCov_unit_zero (S := S1024x1024) _ hz2, h6.read_unread, View.ld_unit_zero (S := S1024x1024) hz2, View.ld_unit_zero (S := S2048x1024) hz2, shapeCast_self]

/-- One point's step at an index. -/
theorem step (p q : Fin 1024) : k0_pay2 (F := Ideal) s x0 x1 (ix2 p q) = (s (ix2 p q) + ∑ k : Fin 2048, (x0 (ix2 k p) * x1 (ix2 k q) : EReal) : EReal) := UpDw.step x0 x1 s p q
/-- The accumulator starts at zero. -/
theorem start (p q : Fin 1024) : k0_pay1 (F := Ideal) (ix2 p q) = (0 : EReal) := UpDw.start p q
/-- The output's blocks at an index. -/
theorem close (h : Fin 2) (p : Fin 512) (q : Fin 1024) : k0_pay3 (F := Ideal) s (ix3 h p q) = s (ix2 ⟨h.val * 512 + p.val, by omega⟩ q) := by
  unfold k0_pay3
  pointwise []
end

variable (m : (ℓ : Loc nD τ sig) → Buf (Elt Ideal) ℓ) (c : Dev nD)

theorem idx : ∀ t : Fin grid0.N, win0_0.index t = ![t.val % 4, t.val / 8] ∧ win0_1.index t = ![t.val % 4, t.val / 4 % 2] ∧
    win0_2.index t = ![t.val / 8, 0, t.val / 4 % 2] := by decide +kernel

theorem at_x (t : Fin cfg0.N) (k : Fin 2048) (i : Fin 1024) :
    (win0_0.blk t).view.emb (ix2 k i) = ix2 (n0 := 8192) (n1 := 4096) ⟨t.val % 4 * 2048 + k.val, by omega⟩ ⟨t.val / 8 * 1024 + i.val, by have := t.isLt; have : cfg0.N = 32 := N_0; omega⟩ := by
  refine funext fun a => Fin.ext ?_
  fin_cases a <;> blk_simp [(idx t).1] <;> rfl
theorem at_d (t : Fin cfg0.N) (k : Fin 2048) (j : Fin 1024) :
    (win0_1.blk t).view.emb (ix2 k j) = ix2 (n0 := 8192) (n1 := 2048) ⟨t.val % 4 * 2048 + k.val, by omega⟩ ⟨t.val / 4 % 2 * 1024 + j.val, by omega⟩ := by
  refine funext fun a => Fin.ext ?_
  fin_cases a <;> blk_simp [(idx t).2.1] <;> rfl
theorem at_o (t : Fin cfg0.N) (h : Fin 2) (i : Fin 512) (j : Fin 1024) :
    (win0_2.blk t).view.emb (ix3 h i j) = ix3 (n0 := 8) (n1 := 512) (n2 := 2048) ⟨t.val / 8 * 2 + h.val, by have := t.isLt; have : cfg0.N = 32 := N_0; omega⟩ i ⟨t.val / 4 % 2 * 1024 + j.val, by omega⟩ := by
  refine funext fun a => Fin.ext ?_
  fin_cases a <;> blk_simp [(idx t).2.2] <;> rfl

theorem blk_x (n : Nat) (hn : n < cfg0.N) (b : Nat) (e : n / 8 = b) (hb : b < 4) (k : Fin 2048) (i : Fin 1024) :
    iblk m c 0 ⟨n, hn⟩ (ix2 k i) = m ((c : Thread nD τ).loc main_arg0) (ix2 (n0 := 8192) (n1 := 4096) ⟨n % 4 * 2048 + k.val, by omega⟩ ⟨b * 1024 + i.val, by omega⟩) := by
  subst e
  blk_simp [iblk]
  rw [at_x ⟨n, hn⟩]
theorem blk_d (n : Nat) (hn : n < cfg0.N) (b : Nat) (e : n / 4 % 2 = b) (hb : b < 2) (k : Fin 2048) (j : Fin 1024) :
    iblk m c 1 ⟨n, hn⟩ (ix2 k j) = m ((c : Thread nD τ).loc main_arg1) (ix2 (n0 := 8192) (n1 := 2048) ⟨n % 4 * 2048 + k.val, by omega⟩ ⟨b * 1024 + j.val, by omega⟩) := by
  subst e
  blk_simp [iblk]
  rw [at_d ⟨n, hn⟩]

/-- The accumulator after the last of four points. -/
theorem scratch (t : Fin cfg0.N) (h3 : t.val % 4 = 3) (i j : Fin 1024) :
    (outsAt0 m c t.val t.isLt).2 (ix2 i j) = flat (m ((c : Thread nD τ).loc main_arg0)) (m ((c : Thread nD τ).loc main_arg1)) ⟨t.val / 8 * 1024 + i.val, by have := t.isLt; have : cfg0.N = 32 := N_0; omega⟩ ⟨t.val / 4 % 2 * 1024 + j.val, by omega⟩ := by
  have h4 : t.val / 8 < 4 := by have := t.isLt; have : cfg0.N = 32 := N_0; omega
  refine four_steps (fun n hn => (outsAt0 m c n hn).2 (ix2 i j)) _ t.val t.isLt h3 (fun n hn e h0 => ?_) (fun n hn e h0 => ?_)
  · show (outsAt0 m c n hn).2 (ix2 i j) = _
    rw [outsAt0_A m c ⟨n, hn⟩ h0 (by show ¬n % 4 = 3; omega)]
    dsimp only
    rw [first, step, start, zero_add]
    simp only [blk_x m c n hn (t.val / 8) (by omega) h4, blk_d m c n hn (t.val / 4 % 2) (by omega) (by omega)]
  · show (outsAt0 m c n hn).2 (ix2 i j) = (outsAt0 m c (n - 1) _).2 (ix2 i j) + _
    by_cases h1 : n % 4 = 3
    · rw [outsAt0_C m c ⟨n, hn⟩ h0 h1]
      dsimp only
      rw [last, step]
      simp only [blk_x m c n hn (t.val / 8) (by omega) h4, blk_d m c n hn (t.val / 4 % 2) (by omega) (by omega)]
    · rw [outsAt0_B m c ⟨n, hn⟩ h0 h1]
      dsimp only
      rw [next, step]
      simp only [blk_x m c n hn (t.val / 8) (by omega) h4, blk_d m c n hn (t.val / 4 % 2) (by omega) (by omega)]

/-- The whole array the kernel leaves. -/
theorem array : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have e := scratch m c t h3
  blk_simp
  rw [after0_2]
  obtain ⟨h, i, j, rfl⟩ : ∃ (h : Fin 2) (i : Fin 512) (j : Fin 1024), y = ix3 h i j := ⟨y 0, y 1, y 2, funext fun a => by fin_cases a <;> rfl⟩
  have e' := e ⟨h.val * 512 + i.val, by omega⟩ j
  rw [outsAt0_C m c t (by omega) h3] at e' ⊢
  dsimp only at e' ⊢
  rw [last] at e'
  rw [at_o t, out, close, e']
  exact congrArg (flat _ _ · _) (Fin.ext (by
    show t.val / 8 * 1024 + (h.val * 512 + i.val) = (t.val / 8 * 2 + h.val) * 512 + i.val
    omega))
end

/-- The kernel's result and the reference's agree. -/
theorem algebraic : algebraic_Kernel15Ideal_Reference15Ideal := by
  intro m g m' g' _ hargs
  refine ⟨fun c => grad (m ((c.tc : Thread Kernel15Ideal.nD Kernel15Ideal.τ).loc Kernel15Ideal.main_arg0)) (m ((c.tc : Thread Kernel15Ideal.nD Kernel15Ideal.τ).loc Kernel15Ideal.main_arg1)), ?_, ?_⟩
  · exact (θ_run Kernel15Ideal.defs _ _).mono (fun r h c => ⟨(h c).1.trans (array m c), (h c).2⟩) (Kernel15Ideal.Value.run_blocks m g)
  · refine (θ_run Reference15Ideal.defs _ _).mono (fun r h c => ⟨(h c).1.trans ((reference _ _ ).trans ?_), (h c).2⟩) (Reference15Ideal.Value.run m' g')
    rw [(hargs c).1, (hargs c).2]

/-- The reference ends, its arguments are unchanged and every semaphore reads zero. -/
theorem reference_frame : quiescent_Reference15Ideal := fun m ρ _ =>
  (θ_run Reference15Ideal.defs _ _).mono (fun r h => ⟨fun c => (h c).2, sem_eq_zero_of_no_sems (by decide) r.2⟩) (Reference15Ideal.Value.run m ρ)

end Cert.GdnOutDw
-- ==== Proof.GdnOut.lean ====
module

public import proofs.«01_k».proof.Defs
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The delta rule's output projection, added to the residual -/

namespace Cert.GdnOut

open Idealize.ShloMosaic Idealize.ShloMosaic.TcCoe Idealize.SL.Sem Cert.Real Cert.Mixer

/-- One term of the product at a place. The weight's rows come in eight blocks. -/
def term (x : FVec Ideal Kernel16Ideal.S8192x4096 .bf16) (w : FVec Ideal Kernel16Ideal.S8x512x2048 .bf16) (r : Fin 8192) (q : Fin 2048) (k : Fin 4096) : EReal :=
  x (ix2 (n0 := 8192) (n1 := 4096) r k) * w (ix3 (n0 := 8) (n1 := 512) (n2 := 2048) ⟨k.val / 512, by omega⟩ ⟨k.val % 512, by omega⟩ q)

/-- The term at a place of the long axis given by its half: a half holds four of the blocks. -/
theorem term_at (x w r q) (b : Nat) (k : Fin 2048) (hb : b < 2) :
    term x w r q ⟨b * 2048 + k.val, by omega⟩ = x (ix2 r ⟨b * 2048 + k.val, by omega⟩)
      * w (ix3 (n0 := 8) (n1 := 512) (n2 := 2048) ⟨b * 4 + k.val / 512, by omega⟩ ⟨k.val % 512, by omega⟩ q) :=
  congrArg (x (ix2 r ⟨b * 2048 + k.val, by omega⟩) * w ·) (funext fun a => Fin.ext (by
    fin_cases a
    · show (b * 2048 + k.val) / 512 = b * 4 + k.val / 512; omega
    · show (b * 2048 + k.val) % 512 = k.val % 512; omega
    · rfl))

/-- The product of the gated output and the weight. -/
def prod (x : FVec Ideal Kernel16Ideal.S8192x4096 .bf16) (w : FVec Ideal Kernel16Ideal.S8x512x2048 .bf16) : FVec Ideal Kernel16Ideal.S8192x2048 .f32 := fun i => ∑ k, term x w (i 0) (i 1) k

/-- The product added to the residual. -/
def res (x : FVec Ideal Kernel16Ideal.S8192x4096 .bf16) (w : FVec Ideal Kernel16Ideal.S8x512x2048 .bf16) (h : FVec Ideal Kernel16Ideal.S8192x2048 .f32) : FVec Ideal Kernel16Ideal.S8192x2048 .f32 := fun i => (h i + prod x w i : EReal)

section
open Reference16Ideal Reference16Ideal.Facts₀

/-- What the reference computes. -/
theorem reference (x : FVec Ideal S8192x4096 .bf16) (w : FVec Ideal S8x512x2048 .bf16) (h : FVec Ideal S8192x2048 .f32) :
    addf h (Host.dotGeneral dot_S8192x4096_S4096x2048_S8192x2048_1_0_0_1_n_n none (extf .f32 x bitsLt_bf16_f32)
      (extf .f32 (shapeCast _ w shapeCasts_S8x512x2048_S4096x2048) bitsLt_bf16_f32))
    = res x w h := by
  refine ext2 fun i j => ?_
  pointwise [res, prod, term]
end

section
open Kernel16Ideal Kernel16Ideal.Gen Kernel16Ideal.Value

section
variable (c : Dev nD) (i : grid0.Coords)
  (a3 : Memref sig .tc .vmem S1024x2048 .bf16) (h3 : a3.IsWhole)
  (a4 : Memref sig .tc .vmem S4x512x1024 .bf16) (h4 : a4.IsWhole)
  (a5 : Memref sig .tc .vmem S1024x1024 .f32) (h5 : a5.IsWhole)
  (a6 : Memref sig .tc .vmem S1024x1024 .f32) (h6 : a6.IsWhole)
  (a7 : Memref sig .tc .vmem S1024x1024 .f32) (h7 : a7.IsWhole)
  (x0 : FVec Ideal S1024x2048 .bf16) (x1 : FVec Ideal S4x512x1024 .bf16) (x2 : FVec Ideal S1024x1024 .f32) (s : FVec Ideal S1024x1024 .f32)

/-- The accumulator after one point's four products. -/
def mid : FVec Ideal S1024x1024 .f32 :=
  k0_pay4 (F := Ideal) s (View.ld (S := S1024x2048) (Val := Elt Ideal) (e' := .bf16) x0 (Rect.unit (s := S1024x2048) ![0, 0] S1024x512.size Facts₀.inb_S1024x2048_S1024x512_0_0))
    (View.ld (S := S4x512x1024) (Val := Elt Ideal) (e' := .bf16) x1 (Rect.unit (s := S4x512x1024) ![0, 0, 0] S1x512x1024.size Facts₀.inb_S4x512x1024_S1x512x1024_0_0_0))
    (View.ld (S := S1024x2048) (Val := Elt Ideal) (e' := .bf16) x0 (Rect.unit (s := S1024x2048) ![0, 512] S1024x512.size Facts₀.inb_S1024x2048_S1024x512_0_512))
    (View.ld (S := S4x512x1024) (Val := Elt Ideal) (e' := .bf16) x1 (Rect.unit (s := S4x512x1024) ![1, 0, 0] S1x512x1024.size Facts₀.inb_S4x512x1024_S1x512x1024_1_0_0))
    (View.ld (S := S1024x2048) (Val := Elt Ideal) (e' := .bf16) x0 (Rect.unit (s := S1024x2048) ![0, 1024] S1024x512.size Facts₀.inb_S1024x2048_S1024x512_0_1024))
    (View.ld (S := S4x512x1024) (Val := Elt Ideal) (e' := .bf16) x1 (Rect.unit (s := S4x512x1024) ![2, 0, 0] S1x512x1024.size Facts₀.inb_S4x512x1024_S1x512x1024_2_0_0))
    (View.ld (S := S1024x2048) (Val := Elt Ideal) (e' := .bf16) x0 (Rect.unit (s := S1024x2048) ![0, 1536] S1024x512.size Facts₀.inb_S1024x2048_S1024x512_0_1536))
    (View.ld (S := S4x512x1024) (Val := Elt Ideal) (e' := .bf16) x1 (Rect.unit (s := S4x512x1024) ![3, 0, 0] S1x512x1024.size Facts₀.inb_S4x512x1024_S1x512x1024_3_0_0))

/-- The store's cast keeps the accumulator. -/
theorem keep (v : FVec Ideal S1024x1024 .f32) : k0_pay1 (F := Ideal) v = v := by
  unfold k0_pay1
  simp only [shapeCast_self]

/-- The first of two points starts the accumulator at its own products. -/
theorem first (hA hB) : sout0_A_0 (F := Ideal) c i a3 h3 a4 h4 a5 h5 a6 h6 a7 h7 hA hB x0 x1 x2 = mid x0 x1 (k0_pay3 (F := Ideal)) := by
  unfold sout0_A_0
  rw [View.read_writes_eq_canon _ _ _ (scover0_A_0 c i a3 h3 a4 h4 a5 h5 a6 h6 a7 h7 hA hB _ _ _)]
  unfold kernelRun0_A
  dsimp only
  sl_unfold_words
  rw [View.canon_cons_unit_zero hz2]
  simp only [View.readAt_eq_ld, h3.read_unread, h4.read_unread, View.readCov_unit_zero (S := S1024x1024) _ hz2, keep, shapeCast_self]
  rfl

/-- The last adds its products, -/
theorem last (hA hB) : sout0_B_0 (F := Ideal) c i a3 h3 a4 h4 a5 h5 a6 h6 a7 h7 hA hB x0 x1 x2 s = mid x0 x1 s := by
  unfold sout0_B_0
  rw [View.read_writes_eq_canon _ _ _ (scover0_B_0 c i a3 h3 a4 h4 a5 h5 a6 h6 a7 h7 hA hB _ _ _ _)]
  unfold kernelRun0_B
  dsimp only
  sl_unfold_words
  rw [View.canon_cons_unit_zero hz2]
  simp only [View.readAt_eq_ld, h3.read_unread, h4.read_unread, h7.read_unread, View.ld_unit_zero (S := S1024x1024) hz2, keep, shapeCast_self]
  rfl

/-- which leaves the accumulator, added to the residual, in the output's block. -/
theorem out (hA hB) : out0_B_3 (F := Ideal) c i a3 h3 a4 h4 a5 h5 a6 h6 a7 h7 hA hB x0 x1 x2 s = k0_pay2 (F := Ideal) (mid x0 x1 s) x2 := by
  unfold out0_B_3
  rw [View.read_writes_eq_canon _ _ _ (cover0_B_3 c i a3 h3 a4 h4 a5 h5 a6 h6 a7 h7 hA hB _ _ _ _)]
  unfold kernelRun0_B
  dsimp only
  sl_unfold_words
  rw [View.canon_cons_unit_zero hz2]
  simp only [View.readAt_eq_ld, h3.read_unread, h4.read_unread, h5.read_unread, View.readCov_unit_zero (S := S1024x1024) _ hz2, h7.read_unread, View.ld_unit_zero (S := S1024x1024) hz2, keep, shapeCast_self]
  rfl

/-- The accumulator's update at an index. -/
theorem acc_at (v0 v1 v2 v3 : FVec Ideal S1024x512 .bf16) (w0 w1 w2 w3 : FVec Ideal S1x512x1024 .bf16) (p q : Fin 1024) :
    k0_pay4 (F := Ideal) s v0 w0 v1 w1 v2 w2 v3 w3 (ix2 p q) = (s (ix2 p q) + ((((∑ k : Fin 512, (v0 (ix2 p k) * w0 (ix3 0 k q) : EReal)) + ∑ k : Fin 512, (v1 (ix2 p k) * w1 (ix3 0 k q) : EReal))
      + ∑ k : Fin 512, (v2 (ix2 p k) * w2 (ix3 0 k q) : EReal)) + ∑ k : Fin 512, (v3 (ix2 p k) * w3 (ix3 0 k q) : EReal)) : EReal) := by
  unfold k0_pay4
  pointwise []

/-- One term of a point's products. -/
def piece (p q : Fin 1024) (k : Fin 2048) : EReal := x0 (ix2 p k) * x1 (ix3 ⟨k.val / 512, by omega⟩ ⟨k.val % 512, by omega⟩ q)

/-- One of the four products of a point, from the loads of its columns and its block. -/
theorem part (o : Nat) (n : Fin 4) (ho : o = n.val * 512) (b : Nat) (hb : b = n.val) (h h') (p q : Fin 1024) :
    (∑ k : Fin 512, (View.ld (S := S1024x2048) (Val := Elt Ideal) (e' := .bf16) x0 (Rect.unit (s := S1024x2048) ![0, o] S1024x512.size h) (ix2 p k)
      * View.ld (S := S4x512x1024) (Val := Elt Ideal) (e' := .bf16) x1 (Rect.unit (s := S4x512x1024) ![b, 0, 0] S1x512x1024.size h') (ix3 0 k q) : EReal))
      = ∑ k : Fin 512, piece x0 x1 p q ⟨n.val * 512 + k.val, by omega⟩ := by
  subst ho hb
  refine Finset.sum_congr rfl fun k _ => congrArg₂ (· * ·) ?_ ?_
  · rw [View.ld_unit_apply_of (i := ix2 p ⟨n.val * 512 + k.val, by omega⟩) (hi := fun a => by
      match a with
      | ⟨0, _⟩ => exact (Nat.zero_add _).symm
      | ⟨1, _⟩ => rfl)]
  · rw [View.ld_unit_apply_of (i := ix3 n k q) (hi := fun a => by
      match a with
      | ⟨0, _⟩ => rfl
      | ⟨1, _⟩ => exact (Nat.zero_add _).symm
      | ⟨2, _⟩ => exact (Nat.zero_add _).symm)]
    refine congrArg x1 (funext fun a => Fin.ext ?_)
    fin_cases a
    · show n.val = (n.val * 512 + k.val) / 512; omega
    · show k.val = (n.val * 512 + k.val) % 512; omega
    · rfl

/-- One point's step at an index. -/
theorem step (p q : Fin 1024) : mid x0 x1 s (ix2 p q) = (s (ix2 p q) + ∑ k : Fin 2048, (x0 (ix2 p k) * x1 (ix3 ⟨k.val / 512, by omega⟩ ⟨k.val % 512, by omega⟩ q) : EReal) : EReal) := by
  unfold mid
  rw [acc_at]
  refine congrArg (s (ix2 p q) + ·) (Eq.trans ?_ (Fin.sum_univ_tiles 4 512 rfl (f := piece x0 x1 p q)).symm)
  rw [Fin.sum_univ_four]
  exact congrArg₂ (· + ·) (congrArg₂ (· + ·) (congrArg₂ (· + ·) (part x0 x1 0 0 rfl 0 rfl _ _ p q) (part x0 x1 512 1 rfl 1 rfl _ _ p q))
    (part x0 x1 1024 2 rfl 2 rfl _ _ p q)) (part x0 x1 1536 3 rfl 3 rfl _ _ p q)
/-- The accumulator starts at zero. -/
theorem start (p q : Fin 1024) : k0_pay3 (F := Ideal) (ix2 p q) = (0 : EReal) := by
  unfold k0_pay3
  pointwise []
/-- The output's block at an index. -/
theorem close (p q : Fin 1024) : k0_pay2 (F := Ideal) s x2 (ix2 p q) = (x2 (ix2 p q) + s (ix2 p q) : EReal) := by
  unfold k0_pay2
  pointwise []
end

variable (m : (ℓ : Loc nD τ sig) → Buf (Elt Ideal) ℓ) (c : Dev nD)

theorem idx : ∀ t : Fin grid0.N, win0_0.index t = ![t.val / 4, t.val % 2] ∧ win0_1.index t = ![t.val % 2, 0, t.val / 2 % 2] ∧
    win0_2.index t = ![t.val / 4, t.val / 2 % 2] ∧ win0_3.index t = ![t.val / 4, t.val / 2 % 2] := by decide +kernel

theorem at_x (t : Fin cfg0.N) (i : Fin 1024) (k : Fin 2048) :
    (win0_0.blk t).view.emb (ix2 i k) = ix2 (n0 := 8192) (n1 := 4096) ⟨t.val / 4 * 1024 + i.val, by have := t.isLt; have : cfg0.N = 32 := N_0; omega⟩ ⟨t.val % 2 * 2048 + k.val, by omega⟩ := by
  refine funext fun a => Fin.ext ?_
  fin_cases a <;> blk_simp [(idx t).1] <;> rfl
theorem at_w (t : Fin cfg0.N) (h : Fin 4) (k : Fin 512) (j : Fin 1024) :
    (win0_1.blk t).view.emb (ix3 h k j) = ix3 (n0 := 8) (n1 := 512) (n2 := 2048) ⟨t.val % 2 * 4 + h.val, by omega⟩ k ⟨t.val / 2 % 2 * 1024 + j.val, by omega⟩ := by
  refine funext fun a => Fin.ext ?_
  fin_cases a <;> blk_simp [(idx t).2.1] <;> rfl
theorem at_h (t : Fin cfg0.N) (i j : Fin 1024) :
    (win0_2.blk t).view.emb (ix2 i j) = ix2 (n0 := 8192) (n1 := 2048) ⟨t.val / 4 * 1024 + i.val, by have := t.isLt; have : cfg0.N = 32 := N_0; omega⟩ ⟨t.val / 2 % 2 * 1024 + j.val, by omega⟩ := by
  refine funext fun a => Fin.ext ?_
  fin_cases a <;> blk_simp [(idx t).2.2.1] <;> rfl
theorem at_o (t : Fin cfg0.N) (i j : Fin 1024) :
    (win0_3.blk t).view.emb (ix2 i j) = ix2 (n0 := 8192) (n1 := 2048) ⟨t.val / 4 * 1024 + i.val, by have := t.isLt; have : cfg0.N = 32 := N_0; omega⟩ ⟨t.val / 2 % 2 * 1024 + j.val, by omega⟩ := by
  refine funext fun a => Fin.ext ?_
  fin_cases a <;> blk_simp [(idx t).2.2.2] <;> rfl

theorem blk_x (n : Nat) (hn : n < cfg0.N) (b : Nat) (e : n / 4 = b) (hb : b < 8) (i : Fin 1024) (k : Fin 2048) :
    iblk m c 0 ⟨n, hn⟩ (ix2 i k) = m ((c : Thread nD τ).loc main_arg0) (ix2 (n0 := 8192) (n1 := 4096) ⟨b * 1024 + i.val, by omega⟩ ⟨n % 2 * 2048 + k.val, by omega⟩) := by
  subst e
  blk_simp [iblk]
  rw [at_x ⟨n, hn⟩]
theorem blk_w (n : Nat) (hn : n < cfg0.N) (b : Nat) (e : n / 2 % 2 = b) (hb : b < 2) (h : Fin 4) (k : Fin 512) (j : Fin 1024) :
    iblk m c 1 ⟨n, hn⟩ (ix3 h k j) = m ((c : Thread nD τ).loc main_arg1) (ix3 (n0 := 8) (n1 := 512) (n2 := 2048) ⟨n % 2 * 4 + h.val, by omega⟩ k ⟨b * 1024 + j.val, by omega⟩) := by
  subst e
  blk_simp [iblk]
  rw [at_w ⟨n, hn⟩]

/-- The accumulator after the last of two points. -/
theorem scratch (t : Fin cfg0.N) (h1 : t.val % 2 = 1) (i j : Fin 1024) :
    (outsAt0 m c t.val t.isLt).2 (ix2 i j) = prod (m ((c : Thread nD τ).loc main_arg0)) (m ((c : Thread nD τ).loc main_arg1))
      (ix2 (n0 := 8192) (n1 := 2048) ⟨t.val / 4 * 1024 + i.val, by have := t.isLt; have : cfg0.N = 32 := N_0; omega⟩ ⟨t.val / 2 % 2 * 1024 + j.val, by omega⟩) := by
  have h8 : t.val / 4 < 8 := by have := t.isLt; have : cfg0.N = 32 := N_0; omega
  refine two_steps (fun n hn => (outsAt0 m c n hn).2 (ix2 i j)) (term (m ((c : Thread nD τ).loc main_arg0)) (m ((c : Thread nD τ).loc main_arg1)) ⟨t.val / 4 * 1024 + i.val, by omega⟩ ⟨t.val / 2 % 2 * 1024 + j.val, by omega⟩) t.val t.isLt h1 (fun n hn e h0 => ?_) (fun n hn e h0 => ?_)
  · show (outsAt0 m c n hn).2 (ix2 i j) = _
    rw [outsAt0_A m c ⟨n, hn⟩ h0 (by show ¬n % 2 = 1; omega)]
    dsimp only
    rw [first, step, start, zero_add]
    simp only [blk_x m c n hn (t.val / 4) (by omega) h8, blk_w m c n hn (t.val / 2 % 2) (by omega) (by omega)]
    exact (Finset.sum_congr rfl fun k _ => (term_at _ _ _ _ (n % 2) k (by omega)).symm)
  · show (outsAt0 m c n hn).2 (ix2 i j) = (outsAt0 m c (n - 1) _).2 (ix2 i j) + _
    rw [outsAt0_B m c ⟨n, hn⟩ h0 (by show n % 2 = 1; omega)]
    dsimp only
    rw [last, step]
    simp only [blk_x m c n hn (t.val / 4) (by omega) h8, blk_w m c n hn (t.val / 2 % 2) (by omega) (by omega)]
    exact congrArg (_ + ·) (Finset.sum_congr rfl fun k _ => (term_at _ _ _ _ (n % 2) k (by omega)).symm)

/-- The whole array the kernel leaves. -/
theorem array : (dats m 0 c).arrAt 3 cfg0.N = res (m ((c : Thread nD τ).loc main_arg0)) (m ((c : Thread nD τ).loc main_arg1)) (m ((c : Thread nD τ).loc main_arg2)) := by
  refine (dats m 0 c).arrAt_eq_of_covers 3 _ (by decide +kernel) fun t hf y => ?_
  have h1 : t.val % 2 = 1 := (flush0_3 t).mp hf
  have e := scratch m c t h1
  blk_simp
  rw [after0_3]
  obtain ⟨i, j, rfl⟩ : ∃ (i j : Fin 1024), y = ix2 i j := ⟨y 0, y 1, funext fun a => by fin_cases a <;> rfl⟩
  rw [at_o t]
  unfold res
  rw [← e i j, outsAt0_B m c t (by omega) h1]
  dsimp only
  rw [out, last, close]
  blk_simp [iblk]
  rw [at_h t]
end

/-- The kernel's result and the reference's agree. -/
theorem algebraic : algebraic_Kernel16Ideal_Reference16Ideal := by
  intro m g m' g' _ hargs
  refine ⟨fun c => res (m ((c.tc : Thread Kernel16Ideal.nD Kernel16Ideal.τ).loc Kernel16Ideal.main_arg0)) (m ((c.tc : Thread Kernel16Ideal.nD Kernel16Ideal.τ).loc Kernel16Ideal.main_arg1)) (m ((c.tc : Thread Kernel16Ideal.nD Kernel16Ideal.τ).loc Kernel16Ideal.main_arg2)), ?_, ?_⟩
  · exact (θ_run Kernel16Ideal.defs _ _).mono (fun r h c => ⟨(h c).1.trans (array m c), (h c).2⟩) (Kernel16Ideal.Value.run_blocks m g)
  · refine (θ_run Reference16Ideal.defs _ _).mono (fun r h c => ⟨(h c).1.trans ((reference _ _ _ ).trans ?_), (h c).2⟩) (Reference16Ideal.Value.run m' g')
    rw [(hargs c).1, (hargs c).2.1, (hargs c).2.2]

/-- The reference ends, its arguments are unchanged and every semaphore reads zero. -/
theorem reference_frame : quiescent_Reference16Ideal := fun m ρ _ =>
  (θ_run Reference16Ideal.defs _ _).mono (fun r h => ⟨fun c => (h c).2, sem_eq_zero_of_no_sems (by decide) r.2⟩) (Reference16Ideal.Value.run m ρ)

end Cert.GdnOut
-- ==== Proof.S5In.lean ====
module

public import proofs.«01_k».proof.Defs
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The S5 input projection -/

namespace Cert.S5In

open Idealize.ShloMosaic Idealize.ShloMosaic.TcCoe Idealize.SL.Sem Cert.Real Cert.Mixer

/-- The product of the normalised stream and the weight. The weight's rows come in eight blocks. -/
def prod (x : FVec Ideal Kernel17Ideal.S8192x2048 .bf16) (w : FVec Ideal Kernel17Ideal.S8x256x2048 .bf16) : FVec Ideal Kernel17Ideal.S8192x2048 .f32 := fun i =>
  (∑ k : Fin 2048, (x (ix2 (n0 := 8192) (n1 := 2048) (i 0) k) * w (ix3 (n0 := 8) (n1 := 256) (n2 := 2048) ⟨k.val / 256, by omega⟩ ⟨k.val % 256, by omega⟩ (i 1)) : EReal))

section
open Reference17Ideal Reference17Ideal.Facts₀

/-- What the reference computes. -/
theorem reference (x : FVec Ideal S8192x2048 .bf16) (w : FVec Ideal S8x256x2048 .bf16) :
    Host.dotGeneral dot_S8192x2048_S2048x2048_S8192x2048_1_0_0_1_n_n none (extf .f32 x bitsLt_bf16_f32)
      (extf .f32 (shapeCast _ w shapeCasts_S8x256x2048_S2048x2048) bitsLt_bf16_f32)
    = prod x w := by
  refine ext2 fun i j => ?_
  pointwise [prod]
end

section
open Kernel17Ideal Kernel17Ideal.Gen Kernel17Ideal.Value

section
variable (x0 : FVec Ideal S1024x2048 .bf16) (x1 : FVec Ideal S8x256x1024 .bf16)

/-- A point's eight products at an index. -/
theorem acc_at (v0 v1 v2 v3 v4 v5 v6 v7 : FVec Ideal S1024x256 .bf16) (w0 w1 w2 w3 w4 w5 w6 w7 : FVec Ideal S1x256x1024 .bf16) (p q : Fin 1024) :
    k0_pay1 (F := Ideal) (k0_pay2 (F := Ideal) v0 w0 v1 w1 v2 w2 v3 w3 v4 w4) v5 w5 v6 w6 v7 w7 (ix2 p q)
      = (((((((∑ k : Fin 256, (v0 (ix2 p k) * w0 (ix3 0 k q) : EReal)) + ∑ k : Fin 256, (v1 (ix2 p k) * w1 (ix3 0 k q) : EReal))
      + ∑ k : Fin 256, (v2 (ix2 p k) * w2 (ix3 0 k q) : EReal)) + ∑ k : Fin 256, (v3 (ix2 p k) * w3 (ix3 0 k q) : EReal))
      + ∑ k : Fin 256, (v4 (ix2 p k) * w4 (ix3 0 k q) : EReal)) + ∑ k : Fin 256, (v5 (ix2 p k) * w5 (ix3 0 k q) : EReal))
      + ∑ k : Fin 256, (v6 (ix2 p k) * w6 (ix3 0 k q) : EReal)) + ∑ k : Fin 256, (v7 (ix2 p k) * w7 (ix3 0 k q) : EReal) := by
  unfold k0_pay1 k0_pay2
  pointwise []

/-- One term of a point's products. -/
def piece (p q : Fin 1024) (k : Fin 2048) : EReal := x0 (ix2 p k) * x1 (ix3 ⟨k.val / 256, by omega⟩ ⟨k.val % 256, by omega⟩ q)

/-- One of the eight products of a point, from the loads of its columns and its block. -/
theorem part (o : Nat) (n : Fin 8) (ho : o = n.val * 256) (b : Nat) (hb : b = n.val) (h h') (p q : Fin 1024) :
    (∑ k : Fin 256, (View.ld (S := S1024x2048) (Val := Elt Ideal) (e' := .bf16) x0 (Rect.unit (s := S1024x2048) ![0, o] S1024x256.size h) (ix2 p k)
      * View.ld (S := S8x256x1024) (Val := Elt Ideal) (e' := .bf16) x1 (Rect.unit (s := S8x256x1024) ![b, 0, 0] S1x256x1024.size h') (ix3 0 k q) : EReal))
      = ∑ k : Fin 256, piece x0 x1 p q ⟨n.val * 256 + k.val, by omega⟩ := by
  subst ho hb
  refine Finset.sum_congr rfl fun k _ => congrArg₂ (· * ·) ?_ ?_
  · rw [View.ld_unit_apply_of (i := ix2 p ⟨n.val * 256 + k.val, by omega⟩) (hi := fun a => by
      match a with
      | ⟨0, _⟩ => exact (Nat.zero_add _).symm
      | ⟨1, _⟩ => rfl)]
  · rw [View.ld_unit_apply_of (i := ix3 n k q) (hi := fun a => by
      match a with
      | ⟨0, _⟩ => rfl
      | ⟨1, _⟩ => exact (Nat.zero_add _).symm
      | ⟨2, _⟩ => exact (Nat.zero_add _).symm)]
    refine congrArg x1 (funext fun a => Fin.ext ?_)
    fin_cases a
    · show n.val = (n.val * 256 + k.val) / 256; omega
    · show k.val = (n.val * 256 + k.val) % 256; omega
    · rfl

/-- What one point of the grid leaves. -/
theorem point (p q : Fin 1024) : out0_2 (F := Ideal) x0 x1 (ix2 p q)
    = (∑ k : Fin 2048, (x0 (ix2 p k) * x1 (ix3 ⟨k.val / 256, by omega⟩ ⟨k.val % 256, by omega⟩ q) : EReal)) := by
  unfold out0_2
  rw [View.canon_cons_unit_zero hz2, acc_at]
  refine Eq.trans ?_ (Fin.sum_univ_tiles 8 256 rfl (f := piece x0 x1 p q)).symm
  rw [Fin.sum_univ_eight]
  have e := fun (o : Nat) (n : Fin 8) ho (b : Nat) hb h h' => part x0 x1 o n ho b hb h h' p q
  exact congrArg₂ (· + ·) (congrArg₂ (· + ·) (congrArg₂ (· + ·) (congrArg₂ (· + ·) (congrArg₂ (· + ·) (congrArg₂ (· + ·) (congrArg₂ (· + ·)
    (e 0 0 rfl 0 rfl _ _) (e 256 1 rfl 1 rfl _ _)) (e 512 2 rfl 2 rfl _ _)) (e 768 3 rfl 3 rfl _ _)) (e 1024 4 rfl 4 rfl _ _))
    (e 1280 5 rfl 5 rfl _ _)) (e 1536 6 rfl 6 rfl _ _)) (e 1792 7 rfl 7 rfl _ _)
end

variable (m : (ℓ : Loc nD τ sig) → Buf (Elt Ideal) ℓ) (c : Dev nD)

theorem idx : ∀ t : Fin grid0.N, win0_0.index t = ![t.val / 2, 0] ∧ win0_1.index t = ![0, 0, t.val % 2] ∧
    win0_2.index t = ![t.val / 2, t.val % 2] := by decide +kernel

theorem at_x (t : Fin cfg0.N) (i : Fin 1024) (k : Fin 2048) :
    (win0_0.blk t).view.emb (ix2 i k) = ix2 (n0 := 8192) (n1 := 2048) ⟨t.val / 2 * 1024 + i.val, by have := t.isLt; have : cfg0.N = 16 := N_0; omega⟩ k := by
  refine funext fun a => Fin.ext ?_
  fin_cases a <;> blk_simp [(idx t).1] <;> rfl
theorem at_w (t : Fin cfg0.N) (h : Fin 8) (k : Fin 256) (j : Fin 1024) :
    (win0_1.blk t).view.emb (ix3 h k j) = ix3 (n0 := 8) (n1 := 256) (n2 := 2048) h k ⟨t.val % 2 * 1024 + j.val, by omega⟩ := by
  refine funext fun a => Fin.ext ?_
  fin_cases a <;> blk_simp [(idx t).2.1] <;> rfl
theorem at_o (t : Fin cfg0.N) (i j : Fin 1024) :
    (win0_2.blk t).view.emb (ix2 i j) = ix2 (n0 := 8192) (n1 := 2048) ⟨t.val / 2 * 1024 + i.val, by have := t.isLt; have : cfg0.N = 16 := N_0; omega⟩ ⟨t.val % 2 * 1024 + j.val, by omega⟩ := by
  refine funext fun a => Fin.ext ?_
  fin_cases a <;> blk_simp [(idx t).2.2] <;> rfl

/-- The whole array the kernel leaves. -/
theorem array : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, j, rfl⟩ : ∃ (i j : Fin 1024), y = ix2 i j := ⟨y 0, y 1, funext fun a => by fin_cases a <;> rfl⟩
  rw [point]
  blk_simp [iblk]
  rw [at_o t]
  simp only [at_x t, at_w t]
  rfl
end

/-- The kernel's result and the reference's agree. -/
theorem algebraic : algebraic_Kernel17Ideal_Reference17Ideal := by
  intro m g m' g' _ hargs
  refine ⟨fun c => prod (m ((c.tc : Thread Kernel17Ideal.nD Kernel17Ideal.τ).loc Kernel17Ideal.main_arg0)) (m ((c.tc : Thread Kernel17Ideal.nD Kernel17Ideal.τ).loc Kernel17Ideal.main_arg1)), ?_, ?_⟩
  · exact (θ_run Kernel17Ideal.defs _ _).mono (fun r h c => ⟨(h c).1.trans (array m c), (h c).2⟩) (Kernel17Ideal.Value.run_blocks m g)
  · refine (θ_run Reference17Ideal.defs _ _).mono (fun r h c => ⟨(h c).1.trans ((reference _ _ ).trans ?_), (h c).2⟩) (Reference17Ideal.Value.run m' g')
    rw [(hargs c).1, (hargs c).2]

/-- The reference ends, its arguments are unchanged and every semaphore reads zero. -/
theorem reference_frame : quiescent_Reference17Ideal := fun m ρ _ =>
  (θ_run Reference17Ideal.defs _ _).mono (fun r h => ⟨fun c => (h c).2, sem_eq_zero_of_no_sems (by decide) r.2⟩) (Reference17Ideal.Value.run m ρ)

end Cert.S5In
-- ==== Proof.S5InDw.lean ====
module

public import proofs.«01_k».proof.Defs
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.UpDw
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The gradient of the S5 input projection's weight -/

namespace Cert.S5InDw

open Idealize.ShloMosaic Idealize.ShloMosaic.TcCoe Idealize.SL.Sem Cert.Real Cert.Mixer

/-- The weight's gradient at a row and a column: the sum over the tokens of the normalised stream and the gradient. -/
def flat (x : FVec Ideal Kernel18Ideal.S8192x2048 .bf16) (d : FVec Ideal Kernel18Ideal.S8192x2048 .bf16) (r : Fin 2048) (q : Fin 2048) : EReal :=
  ∑ k : Fin 8192, (x (ix2 (n0 := 8192) (n1 := 2048) k r) * d (ix2 (n0 := 8192) (n1 := 2048) k q) : EReal)

/-- The gradient with its rows in eight blocks. -/
def grad (x : FVec Ideal Kernel18Ideal.S8192x2048 .bf16) (d : FVec Ideal Kernel18Ideal.S8192x2048 .bf16) : FVec Ideal Kernel18Ideal.S8x256x2048 .bf16 := fun i =>
  flat x d ⟨(i 0).val * 256 + (i 1).val, by have h0 : (i 0).val < 8 := (i 0).isLt; have h1 : (i 1).val < 256 := (i 1).isLt; omega⟩ (i 2)

section
open Reference18Ideal Reference18Ideal.Facts₀

/-- What the reference computes. -/
theorem reference (x : FVec Ideal S8192x2048 .bf16) (d : FVec Ideal S8192x2048 .bf16) :
    shapeCast _ (truncf .bf16 (transpose S2048x2048 [1, 0] (Host.dotGeneral dot_S8192x2048_S8192x2048_S2048x2048_0_0_1_1_n_n none (extf .f32 d bitsLt_bf16_f32)
      (extf .f32 x bitsLt_bf16_f32)) transposes_S2048x2048_S2048x2048_1_0) bitsLt_bf16_f32) shapeCasts_S2048x2048_S8x256x2048
    = grad x d := by
  refine ext3 fun i j k => ?_
  pointwise [grad, flat]
  exact Finset.sum_congr rfl fun x _ => mul_comm _ _
end

section
open Kernel18Ideal Kernel18Ideal.Gen Kernel18Ideal.Value

section
variable (c : Dev nD) (i : grid0.Coords)
  (a3 : Memref sig .tc .vmem S2048x1024 .bf16) (h3 : a3.IsWhole)
  (a4 : Memref sig .tc .vmem S2048x1024 .bf16) (h4 : a4.IsWhole)
  (a5 : Memref sig .tc .vmem S4x256x1024 .bf16) (h5 : a5.IsWhole)
  (a6 : Memref sig .tc .vmem S1024x1024 .f32) (h6 : a6.IsWhole)
  (x0 x1 : FVec Ideal S2048x1024 .bf16) (s : FVec Ideal S1024x1024 .f32)

/-- The first point of four starts the accumulator at its own product. -/
theorem first (hA hB) : sout0_A_0 (F := Ideal) c i a3 h3 a4 h4 a5 h5 a6 h6 hA hB x0 x1 = k0_pay2 (F := Ideal) (k0_pay1 (F := Ideal)) x0 x1 := by
  unfold sout0_A_0
  rw [View.read_writes_eq_canon _ _ _ (scover0_A_0 c i a3 h3 a4 h4 a5 h5 a6 h6 hA hB _ _)]
  unfold kernelRun0_A
  dsimp only
  sl_unfold_words
  rw [View.canon_cons_unit_zero hz2]
  simp only [View.readAt_eq_ld, h3.read_unread, h4.read_unread, View.readCov_unit_zero (S := S1024x1024) _ hz2, View.ld_unit_zero (S := S2048x1024) hz2, shapeCast_self]

/-- A later point adds its product. -/
theorem next (hA hB) : sout0_B_0 (F := Ideal) c i a3 h3 a4 h4 a5 h5 a6 h6 hA hB x0 x1 s = k0_pay2 (F := Ideal) s x0 x1 := by
  unfold sout0_B_0
  rw [View.read_writes_eq_canon _ _ _ (scover0_B_0 c i a3 h3 a4 h4 a5 h5 a6 h6 hA hB _ _ _)]
  unfold kernelRun0_B
  dsimp only
  sl_unfold_words
  rw [View.canon_cons_unit_zero hz2]
  simp only [View.readAt_eq_ld, h3.read_unread, h4.read_unread, h6.read_unread, View.ld_unit_zero (S := S1024x1024) hz2, View.ld_unit_zero (S := S2048x1024) hz2, shapeCast_self]

/-- So does the last, -/
theorem last (hA hB) : sout0_C_0 (F := Ideal) c i a3 h3 a4 h4 a5 h5 a6 h6 hA hB x0 x1 s = k0_pay2 (F := Ideal) s x0 x1 := by
  unfold sout0_C_0
  rw [View.read_writes_eq_canon _ _ _ (scover0_C_0 c i a3 h3 a4 h4 a5 h5 a6 h6 hA hB _ _ _)]
  unfold kernelRun0_C
  dsimp only
  sl_unfold_words
  rw [View.canon_cons_unit_zero hz2]
  simp only [View.readAt_eq_ld, h3.read_unread, h4.read_unread, h6.read_unread, View.ld_unit_zero (S := S1024x1024) hz2, View.ld_unit_zero (S := S2048x1024) hz2, shapeCast_self]

/-- which leaves the accumulator in the output's four blocks. -/
theorem out (hA hB) : out0_C_2 (F := Ideal) c i a3 h3 a4 h4 a5 h5 a6 h6 hA hB x0 x1 s = k0_pay3 (F := Ideal) (k0_pay2 (F := Ideal) s x0 x1) := by
  unfold out0_C_2
  rw [View.read_writes_eq_canon _ _ _ (cover0_C_2 c i a3 h3 a4 h4 a5 h5 a6 h6 hA hB _ _ _)]
  unfold kernelRun0_C
  dsimp only
  sl_unfold_words
  rw [View.canon_cons_unit_zero hz3]
  simp only [View.readAt_eq_ld, h3.read_unread, h4.read_unread, View.readCov_unit_zero (S := S1024x1024) _ hz2, h6.read_unread, View.ld_unit_zero (S := S1024x1024) hz2, View.ld_unit_zero (S := S2048x1024) hz2, shapeCast_self]

/-- One point's step at an index. -/
theorem step (p q : Fin 1024) : k0_pay2 (F := Ideal) s x0 x1 (ix2 p q) = (s (ix2 p q) + ∑ k : Fin 2048, (x0 (ix2 k p) * x1 (ix2 k q) : EReal) : EReal) := UpDw.step x0 x1 s p q
/-- The accumulator starts at zero. -/
theorem start (p q : Fin 1024) : k0_pay1 (F := Ideal) (ix2 p q) = (0 : EReal) := UpDw.start p q
/-- The output's blocks at an index. -/
theorem close (h : Fin 4) (p : Fin 256) (q : Fin 1024) : k0_pay3 (F := Ideal) s (ix3 h p q) = s (ix2 ⟨h.val * 256 + p.val, by omega⟩ q) := by
  unfold k0_pay3
  pointwise []
end

variable (m : (ℓ : Loc nD τ sig) → Buf (Elt Ideal) ℓ) (c : Dev nD)

theorem idx : ∀ t : Fin grid0.N, win0_0.index t = ![t.val % 4, t.val / 8] ∧ win0_1.index t = ![t.val % 4, t.val / 4 % 2] ∧
    win0_2.index t = ![t.val / 8, 0, t.val / 4 % 2] := by decide +kernel

theorem at_x (t : Fin cfg0.N) (k : Fin 2048) (i : Fin 1024) :
    (win0_0.blk t).view.emb (ix2 k i) = ix2 (n0 := 8192) (n1 := 2048) ⟨t.val % 4 * 2048 + k.val, by omega⟩ ⟨t.val / 8 * 1024 + i.val, by have := t.isLt; have : cfg0.N = 16 := N_0; omega⟩ := by
  refine funext fun a => Fin.ext ?_
  fin_cases a <;> blk_simp [(idx t).1] <;> rfl
theorem at_d (t : Fin cfg0.N) (k : Fin 2048) (j : Fin 1024) :
    (win0_1.blk t).view.emb (ix2 k j) = ix2 (n0 := 8192) (n1 := 2048) ⟨t.val % 4 * 2048 + k.val, by omega⟩ ⟨t.val / 4 % 2 * 1024 + j.val, by omega⟩ := by
  refine funext fun a => Fin.ext ?_
  fin_cases a <;> blk_simp [(idx t).2.1] <;> rfl
theorem at_o (t : Fin cfg0.N) (h : Fin 4) (i : Fin 256) (j : Fin 1024) :
    (win0_2.blk t).view.emb (ix3 h i j) = ix3 (n0 := 8) (n1 := 256) (n2 := 2048) ⟨t.val / 8 * 4 + h.val, by have := t.isLt; have : cfg0.N = 16 := N_0; omega⟩ i ⟨t.val / 4 % 2 * 1024 + j.val, by omega⟩ := by
  refine funext fun a => Fin.ext ?_
  fin_cases a <;> blk_simp [(idx t).2.2] <;> rfl

theorem blk_x (n : Nat) (hn : n < cfg0.N) (b : Nat) (e : n / 8 = b) (hb : b < 2) (k : Fin 2048) (i : Fin 1024) :
    iblk m c 0 ⟨n, hn⟩ (ix2 k i) = m ((c : Thread nD τ).loc main_arg0) (ix2 (n0 := 8192) (n1 := 2048) ⟨n % 4 * 2048 + k.val, by omega⟩ ⟨b * 1024 + i.val, by omega⟩) := by
  subst e
  blk_simp [iblk]
  rw [at_x ⟨n, hn⟩]
theorem blk_d (n : Nat) (hn : n < cfg0.N) (b : Nat) (e : n / 4 % 2 = b) (hb : b < 2) (k : Fin 2048) (j : Fin 1024) :
    iblk m c 1 ⟨n, hn⟩ (ix2 k j) = m ((c : Thread nD τ).loc main_arg1) (ix2 (n0 := 8192) (n1 := 2048) ⟨n % 4 * 2048 + k.val, by omega⟩ ⟨b * 1024 + j.val, by omega⟩) := by
  subst e
  blk_simp [iblk]
  rw [at_d ⟨n, hn⟩]

/-- The accumulator after the last of four points. -/
theorem scratch (t : Fin cfg0.N) (h3 : t.val % 4 = 3) (i j : Fin 1024) :
    (outsAt0 m c t.val t.isLt).2 (ix2 i j) = flat (m ((c : Thread nD τ).loc main_arg0)) (m ((c : Thread nD τ).loc main_arg1)) ⟨t.val / 8 * 1024 + i.val, by have := t.isLt; have : cfg0.N = 16 := N_0; omega⟩ ⟨t.val / 4 % 2 * 1024 + j.val, by omega⟩ := by
  have h4 : t.val / 8 < 2 := by have := t.isLt; have : cfg0.N = 16 := N_0; omega
  refine four_steps (fun n hn => (outsAt0 m c n hn).2 (ix2 i j)) _ t.val t.isLt h3 (fun n hn e h0 => ?_) (fun n hn e h0 => ?_)
  · show (outsAt0 m c n hn).2 (ix2 i j) = _
    rw [outsAt0_A m c ⟨n, hn⟩ h0 (by show ¬n % 4 = 3; omega)]
    dsimp only
    rw [first, step, start, zero_add]
    simp only [blk_x m c n hn (t.val / 8) (by omega) h4, blk_d m c n hn (t.val / 4 % 2) (by omega) (by omega)]
  · show (outsAt0 m c n hn).2 (ix2 i j) = (outsAt0 m c (n - 1) _).2 (ix2 i j) + _
    by_cases h1 : n % 4 = 3
    · rw [outsAt0_C m c ⟨n, hn⟩ h0 h1]
      dsimp only
      rw [last, step]
      simp only [blk_x m c n hn (t.val / 8) (by omega) h4, blk_d m c n hn (t.val / 4 % 2) (by omega) (by omega)]
    · rw [outsAt0_B m c ⟨n, hn⟩ h0 h1]
      dsimp only
      rw [next, step]
      simp only [blk_x m c n hn (t.val / 8) (by omega) h4, blk_d m c n hn (t.val / 4 % 2) (by omega) (by omega)]

/-- The whole array the kernel leaves. -/
theorem array : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have e := scratch m c t h3
  blk_simp
  rw [after0_2]
  obtain ⟨h, i, j, rfl⟩ : ∃ (h : Fin 4) (i : Fin 256) (j : Fin 1024), y = ix3 h i j := ⟨y 0, y 1, y 2, funext fun a => by fin_cases a <;> rfl⟩
  have e' := e ⟨h.val * 256 + i.val, by omega⟩ j
  rw [outsAt0_C m c t (by omega) h3] at e' ⊢
  dsimp only at e' ⊢
  rw [last] at e'
  rw [at_o t, out, close, e']
  exact congrArg (flat _ _ · _) (Fin.ext (by
    show t.val / 8 * 1024 + (h.val * 256 + i.val) = (t.val / 8 * 4 + h.val) * 256 + i.val
    omega))
end

/-- The kernel's result and the reference's agree. -/
theorem algebraic : algebraic_Kernel18Ideal_Reference18Ideal := by
  intro m g m' g' _ hargs
  refine ⟨fun c => grad (m ((c.tc : Thread Kernel18Ideal.nD Kernel18Ideal.τ).loc Kernel18Ideal.main_arg0)) (m ((c.tc : Thread Kernel18Ideal.nD Kernel18Ideal.τ).loc Kernel18Ideal.main_arg1)), ?_, ?_⟩
  · exact (θ_run Kernel18Ideal.defs _ _).mono (fun r h c => ⟨(h c).1.trans (array m c), (h c).2⟩) (Kernel18Ideal.Value.run_blocks m g)
  · refine (θ_run Reference18Ideal.defs _ _).mono (fun r h c => ⟨(h c).1.trans ((reference _ _ ).trans ?_), (h c).2⟩) (Reference18Ideal.Value.run m' g')
    rw [(hargs c).1, (hargs c).2]

/-- The reference ends, its arguments are unchanged and every semaphore reads zero. -/
theorem reference_frame : quiescent_Reference18Ideal := fun m ρ _ =>
  (θ_run Reference18Ideal.defs _ _).mono (fun r h => ⟨fun c => (h c).2, sem_eq_zero_of_no_sems (by decide) r.2⟩) (Reference18Ideal.Value.run m ρ)

end Cert.S5InDw
-- ==== Proof.S5InDx.lean ====
module

public import proofs.«01_k».proof.Defs
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The gradient of the S5 input projection by its input -/

namespace Cert.S5InDx

open Idealize.ShloMosaic Idealize.ShloMosaic.TcCoe Idealize.SL.Sem Cert.Real Cert.Mixer

/-- The product of the output's gradient and the transposed weight. The weight's rows come in eight blocks. -/
def prod (d : FVec Ideal Kernel19Ideal.S8192x2048 .bf16) (w : FVec Ideal Kernel19Ideal.S8x256x2048 .bf16) : FVec Ideal Kernel19Ideal.S8192x2048 .f32 := fun i =>
  (∑ k : Fin 2048, (d (ix2 (n0 := 8192) (n1 := 2048) (i 0) k) * w (ix3 (n0 := 8) (n1 := 256) (n2 := 2048)
    ⟨(i 1).val / 256, by have h : (i 1).val < 2048 := (i 1).isLt; omega⟩ ⟨(i 1).val % 256, by omega⟩ k) : EReal))

/-- The product at a column given by its block and the place in it. -/
theorem prod_at (d w) (r : Fin 8192) (b : Nat) (j : Fin 256) (hb : b < 8) (h : b * 256 + j.val < 2048) :
    prod d w (ix2 r ⟨b * 256 + j.val, h⟩) = (∑ k : Fin 2048, (d (ix2 r k) * w (ix3 ⟨b, hb⟩ j k) : EReal)) :=
  Finset.sum_congr rfl fun k _ => congrArg (d (ix2 r k) * w ·) (funext fun a => Fin.ext (by
    fin_cases a
    · show (b * 256 + j.val) / 256 = b; omega
    · show (b * 256 + j.val) % 256 = j.val; omega
    · rfl))

section
open Reference19Ideal Reference19Ideal.Facts₀

/-- What the reference computes. -/
theorem reference (d : FVec Ideal S8192x2048 .bf16) (w : FVec Ideal S8x256x2048 .bf16) :
    Host.dotGeneral dot_S8192x2048_S2048x2048_S8192x2048_1_1_0_0_n_n none (extf .f32 d bitsLt_bf16_f32)
      (extf .f32 (shapeCast _ w shapeCasts_S8x256x2048_S2048x2048) bitsLt_bf16_f32)
    = prod d w := by
  refine ext2 fun i j => ?_
  pointwise [prod]
end

section
open Kernel19Ideal Kernel19Ideal.Gen Kernel19Ideal.Value

/-- What one point of the grid leaves. -/
theorem point (x0 : FVec Ideal S1024x2048 .bf16) (x1 : FVec Ideal S1x256x2048 .bf16) (i : Fin 1024) (j : Fin 256) :
    out0_2 (F := Ideal) x0 x1 (ix2 i j) = (∑ k : Fin 2048, (x0 (ix2 i k) * x1 (ix3 0 j k) : EReal)) := by
  unfold out0_2
  rw [View.canon_cons_unit_zero hz2, View.ld_unit_zero (S := S1024x2048) hz2, View.ld_unit_zero (S := S1x256x2048) hz3]
  unfold k0_pay1
  pointwise []

variable (m : (ℓ : Loc nD τ sig) → Buf (Elt Ideal) ℓ) (c : Dev nD)

theorem idx : ∀ t : Fin grid0.N, win0_0.index t = ![t.val / 8, 0] ∧ win0_1.index t = ![t.val % 8, 0, 0] ∧
    win0_2.index t = ![t.val / 8, t.val % 8] := by decide +kernel

theorem at_x (t : Fin cfg0.N) (i : Fin 1024) (k : Fin 2048) :
    (win0_0.blk t).view.emb (ix2 i k) = ix2 (n0 := 8192) (n1 := 2048) ⟨t.val / 8 * 1024 + i.val, by have := t.isLt; have : cfg0.N = 64 := N_0; omega⟩ k := by
  refine funext fun a => Fin.ext ?_
  fin_cases a <;> blk_simp [(idx t).1] <;> rfl
theorem at_w (t : Fin cfg0.N) (j : Fin 256) (k : Fin 2048) :
    (win0_1.blk t).view.emb (ix3 0 j k) = ix3 (n0 := 8) (n1 := 256) (n2 := 2048) ⟨t.val % 8, by omega⟩ j k := by
  refine funext fun a => Fin.ext ?_
  fin_cases a <;> blk_simp [(idx t).2.1] <;> rfl
theorem at_o (t : Fin cfg0.N) (i : Fin 1024) (j : Fin 256) :
    (win0_2.blk t).view.emb (ix2 i j) = ix2 (n0 := 8192) (n1 := 2048) ⟨t.val / 8 * 1024 + i.val, by have := t.isLt; have : cfg0.N = 64 := N_0; omega⟩ ⟨t.val % 8 * 256 + j.val, by omega⟩ := by
  refine funext fun a => Fin.ext ?_
  fin_cases a <;> blk_simp [(idx t).2.2] <;> rfl

/-- The whole array the kernel leaves. -/
theorem array : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 256), y = ix2 i j := ⟨y 0, y 1, funext fun a => by fin_cases a <;> rfl⟩
  rw [point]
  blk_simp [iblk]
  rw [at_o t]
  simp only [at_x t, at_w t]
  exact (prod_at _ _ _ _ _ (by omega) _).symm
end

/-- The kernel's result and the reference's agree. -/
theorem algebraic : algebraic_Kernel19Ideal_Reference19Ideal := by
  intro m g m' g' _ hargs
  refine ⟨fun c => prod (m ((c.tc : Thread Kernel19Ideal.nD Kernel19Ideal.τ).loc Kernel19Ideal.main_arg0)) (m ((c.tc : Thread Kernel19Ideal.nD Kernel19Ideal.τ).loc Kernel19Ideal.main_arg1)), ?_, ?_⟩
  · exact (θ_run Kernel19Ideal.defs _ _).mono (fun r h c => ⟨(h c).1.trans (array m c), (h c).2⟩) (Kernel19Ideal.Value.run_blocks m g)
  · refine (θ_run Reference19Ideal.defs _ _).mono (fun r h c => ⟨(h c).1.trans ((reference _ _ ).trans ?_), (h c).2⟩) (Reference19Ideal.Value.run m' g')
    rw [(hargs c).1, (hargs c).2]

/-- The reference ends, its arguments are unchanged and every semaphore reads zero. -/
theorem reference_frame : quiescent_Reference19Ideal := fun m ρ _ =>
  (θ_run Reference19Ideal.defs _ _).mono (fun r h => ⟨fun c => (h c).2, sem_eq_zero_of_no_sems (by decide) r.2⟩) (Reference19Ideal.Value.run m ρ)

end Cert.S5InDx
-- ==== Proof.S5Out.lean ====
module

public import proofs.«01_k».proof.Defs
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The S5 output projection -/

namespace Cert.S5Out

open Idealize.ShloMosaic Idealize.ShloMosaic.TcCoe Idealize.SL.Sem Cert.Real Cert.Mixer

/-- The product of the input and the weight. The weight's columns come in eight blocks. -/
def prod (x : FVec Ideal Kernel20Ideal.S8192x2048 .bf16) (w : FVec Ideal Kernel20Ideal.S8x2048x512 .bf16) : FVec Ideal Kernel20Ideal.S8192x4096 .f32 := fun i =>
  (∑ k : Fin 2048, (x (ix2 (n0 := 8192) (n1 := 2048) (i 0) k) * w (ix3 (n0 := 8) (n1 := 2048) (n2 := 512)
    ⟨(i 1).val / 512, by have h : (i 1).val < 4096 := (i 1).isLt; omega⟩ k ⟨(i 1).val % 512, by omega⟩) : EReal))

/-- The product at a column given by its block and the place in it. -/
theorem prod_at (x w) (r : Fin 8192) (b : Nat) (j : Fin 512) (hb : b < 8) (h : b * 512 + j.val < 4096) :
    prod x w (ix2 r ⟨b * 512 + j.val, h⟩) = (∑ k : Fin 2048, (x (ix2 r k) * w (ix3 ⟨b, hb⟩ k j) : EReal)) :=
  Finset.sum_congr rfl fun k _ => congrArg (x (ix2 r k) * w ·) (funext fun a => Fin.ext (by
    fin_cases a
    · show (b * 512 + j.val) / 512 = b; omega
    · rfl
    · show (b * 512 + j.val) % 512 = j.val; omega))

section
open Reference20Ideal Reference20Ideal.Facts₀

/-- What the reference computes. -/
theorem reference (x : FVec Ideal S8192x2048 .bf16) (w : FVec Ideal S8x2048x512 .bf16) :
    Host.dotGeneral dot_S8192x2048_S2048x4096_S8192x4096_1_0_0_1_n_n none (extf .f32 x bitsLt_bf16_f32)
      (extf .f32 (shapeCast _ (transpose S2048x8x512 [1, 0, 2] w transposes_S8x2048x512_S2048x8x512_1_0_2) shapeCasts_S2048x8x512_S2048x4096) bitsLt_bf16_f32)
    = prod x w := by
  refine ext2 fun i j => ?_
  pointwise [prod]
end

section
open Kernel20Ideal Kernel20Ideal.Gen Kernel20Ideal.Value

/-- What one point of the grid leaves. -/
theorem point (x0 : FVec Ideal S1024x2048 .bf16) (x1 : FVec Ideal S1x2048x512 .bf16) (i : Fin 1024) (j : Fin 512) :
    out0_2 (F := Ideal) x0 x1 (ix2 i j) = (∑ k : Fin 2048, (x0 (ix2 i k) * x1 (ix3 0 k j) : EReal)) := by
  unfold out0_2
  rw [View.canon_cons_unit_zero hz2, View.ld_unit_zero (S := S1024x2048) hz2, View.ld_unit_zero (S := S1x2048x512) hz3]
  unfold k0_pay1
  pointwise []

variable (m : (ℓ : Loc nD τ sig) → Buf (Elt Ideal) ℓ) (c : Dev nD)

theorem idx : ∀ t : Fin grid0.N, win0_0.index t = ![t.val / 8, 0] ∧ win0_1.index t = ![t.val % 8, 0, 0] ∧
    win0_2.index t = ![t.val / 8, t.val % 8] := by decide +kernel

theorem at_x (t : Fin cfg0.N) (i : Fin 1024) (k : Fin 2048) :
    (win0_0.blk t).view.emb (ix2 i k) = ix2 (n0 := 8192) (n1 := 2048) ⟨t.val / 8 * 1024 + i.val, by have := t.isLt; have : cfg0.N = 64 := N_0; omega⟩ k := by
  refine funext fun a => Fin.ext ?_
  fin_cases a <;> blk_simp [(idx t).1] <;> rfl
theorem at_w (t : Fin cfg0.N) (k : Fin 2048) (j : Fin 512) :
    (win0_1.blk t).view.emb (ix3 0 k j) = ix3 (n0 := 8) (n1 := 2048) (n2 := 512) ⟨t.val % 8, by omega⟩ k j := by
  refine funext fun a => Fin.ext ?_
  fin_cases a <;> blk_simp [(idx t).2.1] <;> rfl
theorem at_o (t : Fin cfg0.N) (i : Fin 1024) (j : Fin 512) :
    (win0_2.blk t).view.emb (ix2 i j) = ix2 (n0 := 8192) (n1 := 4096) ⟨t.val / 8 * 1024 + i.val, by have := t.isLt; have : cfg0.N = 64 := N_0; omega⟩ ⟨t.val % 8 * 512 + j.val, by omega⟩ := by
  refine funext fun a => Fin.ext ?_
  fin_cases a <;> blk_simp [(idx t).2.2] <;> rfl

/-- The whole array the kernel leaves. -/
theorem array : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 512), y = ix2 i j := ⟨y 0, y 1, funext fun a => by fin_cases a <;> rfl⟩
  rw [point]
  blk_simp [iblk]
  rw [at_o t]
  simp only [at_x t, at_w t]
  exact (prod_at _ _ _ _ _ (by omega) _).symm
end

/-- The kernel's result and the reference's agree. -/
theorem algebraic : algebraic_Kernel20Ideal_Reference20Ideal := by
  intro m g m' g' _ hargs
  refine ⟨fun c => prod (m ((c.tc : Thread Kernel20Ideal.nD Kernel20Ideal.τ).loc Kernel20Ideal.main_arg0)) (m ((c.tc : Thread Kernel20Ideal.nD Kernel20Ideal.τ).loc Kernel20Ideal.main_arg1)), ?_, ?_⟩
  · exact (θ_run Kernel20Ideal.defs _ _).mono (fun r h c => ⟨(h c).1.trans (array m c), (h c).2⟩) (Kernel20Ideal.Value.run_blocks m g)
  · refine (θ_run Reference20Ideal.defs _ _).mono (fun r h c => ⟨(h c).1.trans ((reference _ _ ).trans ?_), (h c).2⟩) (Reference20Ideal.Value.run m' g')
    rw [(hargs c).1, (hargs c).2]

/-- The reference ends, its arguments are unchanged and every semaphore reads zero. -/
theorem reference_frame : quiescent_Reference20Ideal := fun m ρ _ =>
  (θ_run Reference20Ideal.defs _ _).mono (fun r h => ⟨fun c => (h c).2, sem_eq_zero_of_no_sems (by decide) r.2⟩) (Reference20Ideal.Value.run m ρ)

end Cert.S5Out
-- ==== Proof.S5OutDw.lean ====
module

public import proofs.«01_k».proof.Defs
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The gradient of the S5 output projection's weight -/

namespace Cert.S5OutDw

open Idealize.ShloMosaic Idealize.ShloMosaic.TcCoe Idealize.SL.Sem Cert.Real Cert.Mixer

/-- The weight's gradient: at each place the sum over the tokens of the activation and the gradient. The weight's columns come in eight blocks. -/
def grad (x : FVec Ideal Kernel21Ideal.S8192x2048 .bf16) (u : FVec Ideal Kernel21Ideal.S8192x4096 .bf16) : FVec Ideal Kernel21Ideal.S8x2048x512 .bf16 := fun i =>
  (∑ k : Fin 8192, (x (ix2 (n0 := 8192) (n1 := 2048) k (i 1)) * u (ix2 (n0 := 8192) (n1 := 4096) k ⟨(i 0).val * 512 + (i 2).val, by
    have h0 : (i 0).val < 8 := (i 0).isLt; have h1 : (i 2).val < 512 := (i 2).isLt; omega⟩) : EReal))

section
open Reference21Ideal Reference21Ideal.Facts₀

/-- What the reference computes. -/
theorem reference (x : FVec Ideal S8192x2048 .bf16) (u : FVec Ideal S8192x4096 .bf16) :
    transpose S8x2048x512 [1, 0, 2] (shapeCast _ (truncf .bf16 (transpose S2048x4096 [1, 0] (Host.dotGeneral dot_S8192x4096_S8192x2048_S4096x2048_0_0_1_1_n_n none
      (extf .f32 u bitsLt_bf16_f32) (extf .f32 x bitsLt_bf16_f32)) transposes_S4096x2048_S2048x4096_1_0) bitsLt_bf16_f32) shapeCasts_S2048x4096_S2048x8x512)
      transposes_S2048x8x512_S8x2048x512_1_0_2
    = grad x u := by
  refine ext3 fun i j k => ?_
  pointwise [grad]
  exact Finset.sum_congr rfl fun x _ => mul_comm _ _
end

section
open Kernel21Ideal Kernel21Ideal.Gen Kernel21Ideal.Value

section
variable (c : Dev nD) (i : grid0.Coords)
  (a3 : Memref sig .tc .vmem S2048x1024 .bf16) (h3 : a3.IsWhole)
  (a4 : Memref sig .tc .vmem S2048x512 .bf16) (h4 : a4.IsWhole)
  (a5 : Memref sig .tc .vmem S1x1024x512 .bf16) (h5 : a5.IsWhole)
  (a6 : Memref sig .tc .vmem S1024x512 .f32) (h6 : a6.IsWhole)
  (x0 : FVec Ideal S2048x1024 .bf16) (x1 : FVec Ideal S2048x512 .bf16) (s : FVec Ideal S1024x512 .f32)

/-- The first point of four starts the accumulator at its own product. -/
theorem first (hA hB) : sout0_A_0 (F := Ideal) c i a3 h3 a4 h4 a5 h5 a6 h6 hA hB x0 x1 = k0_pay2 (F := Ideal) (k0_pay1 (F := Ideal)) x0 x1 := by
  unfold sout0_A_0
  rw [View.read_writes_eq_canon _ _ _ (scover0_A_0 c i a3 h3 a4 h4 a5 h5 a6 h6 hA hB _ _)]
  unfold kernelRun0_A
  dsimp only
  sl_unfold_words
  rw [View.canon_cons_unit_zero hz2]
  simp only [View.readAt_eq_ld, h3.read_unread, h4.read_unread, View.readCov_unit_zero (S := S1024x512) _ hz2, View.ld_unit_zero (S := S2048x1024) hz2, View.ld_unit_zero (S := S2048x512) hz2, shapeCast_self]

/-- A later point adds its product. -/
theorem next (hA hB) : sout0_B_0 (F := Ideal) c i a3 h3 a4 h4 a5 h5 a6 h6 hA hB x0 x1 s = k0_pay2 (F := Ideal) s x0 x1 := by
  unfold sout0_B_0
  rw [View.read_writes_eq_canon _ _ _ (scover0_B_0 c i a3 h3 a4 h4 a5 h5 a6 h6 hA hB _ _ _)]
  unfold kernelRun0_B
  dsimp only
  sl_unfold_words
  rw [View.canon_cons_unit_zero hz2]
  simp only [View.readAt_eq_ld, h3.read_unread, h4.read_unread, h6.read_unread, View.ld_unit_zero (S := S1024x512) hz2, View.ld_unit_zero (S := S2048x1024) hz2, View.ld_unit_zero (S := S2048x512) hz2, shapeCast_self]

/-- So does the last, -/
theorem last (hA hB) : sout0_C_0 (F := Ideal) c i a3 h3 a4 h4 a5 h5 a6 h6 hA hB x0 x1 s = k0_pay2 (F := Ideal) s x0 x1 := by
  unfold sout0_C_0
  rw [View.read_writes_eq_canon _ _ _ (scover0_C_0 c i a3 h3 a4 h4 a5 h5 a6 h6 hA hB _ _ _)]
  unfold kernelRun0_C
  dsimp only
  sl_unfold_words
  rw [View.canon_cons_unit_zero hz2]
  simp only [View.readAt_eq_ld, h3.read_unread, h4.read_unread, h6.read_unread, View.ld_unit_zero (S := S1024x512) hz2, View.ld_unit_zero (S := S2048x1024) hz2, View.ld_unit_zero (S := S2048x512) hz2, shapeCast_self]

/-- which leaves the accumulator in the output's block. -/
theorem out (hA hB) : out0_C_2 (F := Ideal) c i a3 h3 a4 h4 a5 h5 a6 h6 hA hB x0 x1 s = k0_pay3 (F := Ideal) (k0_pay2 (F := Ideal) s x0 x1) := by
  unfold out0_C_2
  rw [View.read_writes_eq_canon _ _ _ (cover0_C_2 c i a3 h3 a4 h4 a5 h5 a6 h6 hA hB _ _ _)]
  unfold kernelRun0_C
  dsimp only
  sl_unfold_words
  rw [View.canon_cons_unit_zero hz3]
  simp only [View.readAt_eq_ld, h3.read_unread, h4.read_unread, h6.read_unread, View.readCov_unit_zero (S := S1024x512) _ hz2, View.ld_unit_zero (S := S1024x512) hz2, View.ld_unit_zero (S := S2048x1024) hz2, View.ld_unit_zero (S := S2048x512) hz2, shapeCast_self]

/-- One point's step at an index. -/
theorem step (p : Fin 1024) (q : Fin 512) : k0_pay2 (F := Ideal) s x0 x1 (ix2 p q) = (s (ix2 p q) + ∑ k : Fin 2048, (x0 (ix2 k p) * x1 (ix2 k q) : EReal) : EReal) := by
  unfold k0_pay2
  pointwise []
/-- The accumulator starts at zero. -/
theorem start (p : Fin 1024) (q : Fin 512) : k0_pay1 (F := Ideal) (ix2 p q) = (0 : EReal) := by
  unfold k0_pay1
  pointwise []
/-- The output's block at an index. -/
theorem close (p : Fin 1024) (q : Fin 512) : k0_pay3 (F := Ideal) s (ix3 0 p q) = s (ix2 p q) := by
  unfold k0_pay3
  pointwise []
end

variable (m : (ℓ : Loc nD τ sig) → Buf (Elt Ideal) ℓ) (c : Dev nD)

theorem idx : ∀ t : Fin grid0.N, win0_0.index t = ![t.val % 4, t.val / 32] ∧ win0_1.index t = ![t.val % 4, t.val / 4 % 8] ∧
    win0_2.index t = ![t.val / 4 % 8, t.val / 32, 0] := by decide +kernel

theorem at_x (t : Fin cfg0.N) (k : Fin 2048) (i : Fin 1024) :
    (win0_0.blk t).view.emb (ix2 k i) = ix2 (n0 := 8192) (n1 := 2048) ⟨t.val % 4 * 2048 + k.val, by omega⟩ ⟨t.val / 32 * 1024 + i.val, by have := t.isLt; have : cfg0.N = 64 := N_0; omega⟩ := by
  refine funext fun a => Fin.ext ?_
  fin_cases a <;> blk_simp [(idx t).1] <;> rfl
theorem at_u (t : Fin cfg0.N) (k : Fin 2048) (j : Fin 512) :
    (win0_1.blk t).view.emb (ix2 k j) = ix2 (n0 := 8192) (n1 := 4096) ⟨t.val % 4 * 2048 + k.val, by omega⟩ ⟨t.val / 4 % 8 * 512 + j.val, by omega⟩ := by
  refine funext fun a => Fin.ext ?_
  fin_cases a <;> blk_simp [(idx t).2.1] <;> rfl
theorem at_o (t : Fin cfg0.N) (i : Fin 1024) (j : Fin 512) :
    (win0_2.blk t).view.emb (ix3 0 i j) = ix3 (n0 := 8) (n1 := 2048) (n2 := 512) ⟨t.val / 4 % 8, by omega⟩ ⟨t.val / 32 * 1024 + i.val, by have := t.isLt; have : cfg0.N = 64 := N_0; omega⟩ j := by
  refine funext fun a => Fin.ext ?_
  fin_cases a <;> blk_simp [(idx t).2.2] <;> rfl

theorem blk_x (n : Nat) (hn : n < cfg0.N) (b : Nat) (e : n / 32 = b) (hb : b < 2) (k : Fin 2048) (i : Fin 1024) :
    iblk m c 0 ⟨n, hn⟩ (ix2 k i) = m ((c : Thread nD τ).loc main_arg0) (ix2 (n0 := 8192) (n1 := 2048) ⟨n % 4 * 2048 + k.val, by omega⟩ ⟨b * 1024 + i.val, by omega⟩) := by
  subst e
  blk_simp [iblk]
  rw [at_x ⟨n, hn⟩]
theorem blk_u (n : Nat) (hn : n < cfg0.N) (b : Nat) (e : n / 4 % 8 = b) (hb : b < 8) (k : Fin 2048) (j : Fin 512) :
    iblk m c 1 ⟨n, hn⟩ (ix2 k j) = m ((c : Thread nD τ).loc main_arg1) (ix2 (n0 := 8192) (n1 := 4096) ⟨n % 4 * 2048 + k.val, by omega⟩ ⟨b * 512 + j.val, by omega⟩) := by
  subst e
  blk_simp [iblk]
  rw [at_u ⟨n, hn⟩]

/-- The accumulator after the last of four points. -/
theorem scratch (t : Fin cfg0.N) (h3 : t.val % 4 = 3) (i : Fin 1024) (j : Fin 512) :
    (outsAt0 m c t.val t.isLt).2 (ix2 i j) = grad (m ((c : Thread nD τ).loc main_arg0)) (m ((c : Thread nD τ).loc main_arg1))
      (ix3 (n0 := 8) (n1 := 2048) (n2 := 512) ⟨t.val / 4 % 8, by omega⟩ ⟨t.val / 32 * 1024 + i.val, by have := t.isLt; have : cfg0.N = 64 := N_0; omega⟩ j) := by
  have h2 : t.val / 32 < 2 := by have := t.isLt; have : cfg0.N = 64 := N_0; omega
  refine four_steps (fun n hn => (outsAt0 m c n hn).2 (ix2 i j)) _ t.val t.isLt h3 (fun n hn e h0 => ?_) (fun n hn e h0 => ?_)
  · show (outsAt0 m c n hn).2 (ix2 i j) = _
    rw [outsAt0_A m c ⟨n, hn⟩ h0 (by show ¬n % 4 = 3; omega)]
    dsimp only
    rw [first, step, start, zero_add]
    simp only [blk_x m c n hn (t.val / 32) (by omega) h2, blk_u m c n hn (t.val / 4 % 8) (by omega) (by omega)]
    rfl
  · show (outsAt0 m c n hn).2 (ix2 i j) = (outsAt0 m c (n - 1) _).2 (ix2 i j) + _
    by_cases h1 : n % 4 = 3
    · rw [outsAt0_C m c ⟨n, hn⟩ h0 h1]
      dsimp only
      rw [last, step]
      simp only [blk_x m c n hn (t.val / 32) (by omega) h2, blk_u m c n hn (t.val / 4 % 8) (by omega) (by omega)]
      rfl
    · rw [outsAt0_B m c ⟨n, hn⟩ h0 h1]
      dsimp only
      rw [next, step]
      simp only [blk_x m c n hn (t.val / 32) (by omega) h2, blk_u m c n hn (t.val / 4 % 8) (by omega) (by omega)]
      rfl

/-- The whole array the kernel leaves. -/
theorem array : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have e := scratch m c t h3
  blk_simp
  rw [after0_2]
  obtain ⟨i, j, rfl⟩ : ∃ (i : Fin 1024) (j : Fin 512), y = ix3 0 i j := ⟨y 1, y 2, funext fun a => by fin_cases a <;> first | rfl | exact Subsingleton.elim (α := Fin 1) _ _⟩
  rw [at_o t, ← e i j, outsAt0_C m c t (by omega) h3]
  dsimp only
  rw [out, last, close]
end

/-- The kernel's result and the reference's agree. -/
theorem algebraic : algebraic_Kernel21Ideal_Reference21Ideal := by
  intro m g m' g' _ hargs
  refine ⟨fun c => grad (m ((c.tc : Thread Kernel21Ideal.nD Kernel21Ideal.τ).loc Kernel21Ideal.main_arg0)) (m ((c.tc : Thread Kernel21Ideal.nD Kernel21Ideal.τ).loc Kernel21Ideal.main_arg1)), ?_, ?_⟩
  · exact (θ_run Kernel21Ideal.defs _ _).mono (fun r h c => ⟨(h c).1.trans (array m c), (h c).2⟩) (Kernel21Ideal.Value.run_blocks m g)
  · refine (θ_run Reference21Ideal.defs _ _).mono (fun r h c => ⟨(h c).1.trans ((reference _ _ ).trans ?_), (h c).2⟩) (Reference21Ideal.Value.run m' g')
    rw [(hargs c).1, (hargs c).2]

/-- The reference ends, its arguments are unchanged and every semaphore reads zero. -/
theorem reference_frame : quiescent_Reference21Ideal := fun m ρ _ =>
  (θ_run Reference21Ideal.defs _ _).mono (fun r h => ⟨fun c => (h c).2, sem_eq_zero_of_no_sems (by decide) r.2⟩) (Reference21Ideal.Value.run m ρ)

end Cert.S5OutDw
-- ==== Proof.S5OutDx.lean ====
module

public import proofs.«01_k».proof.Defs
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The gradient before the S5 activation -/

namespace Cert.S5OutDx

open Idealize.ShloMosaic Idealize.ShloMosaic.TcCoe Idealize.SL.Sem Cert.Real Cert.Mixer

/-- One term of the product at a place. The weight's columns come in eight blocks. -/
def term (x : FVec Ideal Kernel22Ideal.S8192x4096 .bf16) (w : FVec Ideal Kernel22Ideal.S8x2048x512 .bf16) (r : Fin 8192) (q : Fin 2048) (k : Fin 4096) : EReal :=
  x (ix2 (n0 := 8192) (n1 := 4096) r k) * w (ix3 (n0 := 8) (n1 := 2048) (n2 := 512) ⟨k.val / 512, by omega⟩ q ⟨k.val % 512, by omega⟩)

/-- The term at a place of the long axis given by its half: a half holds four of the blocks. -/
theorem term_at (x w r q) (b : Nat) (k : Fin 2048) (hb : b < 2) :
    term x w r q ⟨b * 2048 + k.val, by omega⟩ = x (ix2 r ⟨b * 2048 + k.val, by omega⟩)
      * w (ix3 (n0 := 8) (n1 := 2048) (n2 := 512) ⟨b * 4 + k.val / 512, by omega⟩ q ⟨k.val % 512, by omega⟩) :=
  congrArg (x (ix2 r ⟨b * 2048 + k.val, by omega⟩) * w ·) (funext fun a => Fin.ext (by
    fin_cases a
    · show (b * 2048 + k.val) / 512 = b * 4 + k.val / 512; omega
    · rfl
    · show (b * 2048 + k.val) % 512 = k.val % 512; omega))

/-- The product of the output's gradient and the transposed weight. -/
def prod (x : FVec Ideal Kernel22Ideal.S8192x4096 .bf16) (w : FVec Ideal Kernel22Ideal.S8x2048x512 .bf16) : FVec Ideal Kernel22Ideal.S8192x2048 .f32 := fun i => ∑ k, term x w (i 0) (i 1) k

/-- The tanh in the activation at `y`. -/
def inner (y : EReal) : EReal := Ideal.tanh (Ideal.ofBits .f32 0x3F4C422A#32 * (y + Ideal.ofBits .f32 0x3D372713#32 * (y * (y * y))))

/-- The gradient `v` of the activation's value taken back to its argument `y`. -/
def back (v y : EReal) : EReal :=
  v * (Ideal.ofBits .f32 0x3F000000#32 * (1 + inner y))
    + Ideal.ofBits .f32 0x3F4C422A#32 * (Ideal.ofBits .f32 0x3F000000#32 * (y * v) * ((1 + inner y) * (1 - inner y)))
    + Ideal.ofBits .f32 0x3D372713#32 * (Ideal.ofBits .f32 0x3F4C422A#32 * (Ideal.ofBits .f32 0x3F000000#32 * (y * v) * ((1 + inner y) * (1 - inner y))))
      * (Ideal.ofBits .f32 0x40400000#32 * (y * y))

/-- The gradient before the activation. -/
def grad (x : FVec Ideal Kernel22Ideal.S8192x4096 .bf16) (w : FVec Ideal Kernel22Ideal.S8x2048x512 .bf16) (y : FVec Ideal Kernel22Ideal.S8192x2048 .f32) : FVec Ideal Kernel22Ideal.S8192x2048 .f32 :=
  fun i => back (prod x w i) (y i)

section
open Reference22Ideal Reference22Ideal.Facts₀

/-- The product in the reference. -/
theorem reference_prod (x : FVec Ideal S8192x4096 .bf16) (w : FVec Ideal S8x2048x512 .bf16) :
    Host.dotGeneral dot_S8192x4096_S2048x4096_S8192x2048_1_1_0_0_n_n none (extf .f32 x bitsLt_bf16_f32)
      (extf .f32 (shapeCast _ (transpose S2048x8x512 [1, 0, 2] w transposes_S8x2048x512_S2048x8x512_1_0_2) shapeCasts_S2048x8x512_S2048x4096) bitsLt_bf16_f32)
    = prod x w := by
  refine ext2 fun i j => ?_
  pointwise [prod, term]

/-- The tanh in the reference. -/
theorem reference_inner (y : FVec Ideal S8192x2048 .f32) :
    Host.tanh (mulf (broadcastInDim S8192x2048 ![] bcast_S_S8192x2048 (constant S_ .f32 0x3F4C422A#32)) (addf y (mulf (broadcastInDim S8192x2048 ![] bcast_S_S8192x2048 (constant S_ .f32 0x3D372713#32)) (mulf (mulf y y) y)))) = fun i => inner (y i) := by
  refine ext2 fun i j => ?_
  pointwise [inner]
  rw [mul_comm (y _ * y _)]

/-- The activation's derivative in the reference. -/
theorem reference_back (v y t : FVec Ideal S8192x2048 .f32) (ht : t = fun i => inner (y i)) :
    addf (addf (mulf v (mulf (broadcastInDim S8192x2048 ![] bcast_S_S8192x2048 (constant S_ .f32 0x3F000000#32)) (addf (broadcastInDim S8192x2048 ![] bcast_S_S8192x2048 (constant S_ .f32 0x3F800000#32)) t))) (mulf (broadcastInDim S8192x2048 ![] bcast_S_S8192x2048 (constant S_ .f32 0x3F4C422A#32)) (mulf (mulf (broadcastInDim S8192x2048 ![] bcast_S_S8192x2048 (constant S_ .f32 0x3F000000#32)) (mulf y v)) (mulf (addf (broadcastInDim S8192x2048 ![] bcast_S_S8192x2048 (constant S_ .f32 0x3F800000#32)) t) (subf (broadcastInDim S8192x2048 ![] bcast_S_S8192x2048 (constant S_ .f32 0x3F800000#32)) t))))) (mulf (mulf (broadcastInDim S8192x2048 ![] bcast_S_S8192x2048 (constant S_ .f32 0x3D372713#32)) (mulf (broadcastInDim S8192x2048 ![] bcast_S_S8192x2048 (constant S_ .f32 0x3F4C422A#32)) (mulf (mulf (broadcastInDim S8192x2048 ![] bcast_S_S8192x2048 (constant S_ .f32 0x3F000000#32)) (mulf y v)) (mulf (addf (broadcastInDim S8192x2048 ![] bcast_S_S8192x2048 (constant S_ .f32 0x3F800000#32)) t) (subf (broadcastInDim S8192x2048 ![] bcast_S_S8192x2048 (constant S_ .f32 0x3F800000#32)) t))))) (mulf (broadcastInDim S8192x2048 ![] bcast_S_S8192x2048 (constant S_ .f32 0x40400000#32)) (mulf y y)))
    = fun i => back (v i) (y i) := by
  subst ht
  refine ext2 fun i j => ?_
  pointwise [back]

/-- What the reference computes. -/
theorem reference (m : (ℓ : Loc nD τ sig) → Buf (Elt Ideal) ℓ) (c : Dev nD) :
    Reference22Ideal.Value.res_main_v38 m c = grad (m ((c.tc : Thread nD τ).loc main_arg0)) (m ((c.tc : Thread nD τ).loc main_arg1)) (m ((c.tc : Thread nD τ).loc main_arg2)) := by
  unfold Reference22Ideal.Value.res_main_v38
  exact (reference_back _ _ _ (reference_inner _)).trans (by rw [reference_prod]; rfl)
end

section
open Kernel22Ideal Kernel22Ideal.Gen Kernel22Ideal.Value

section
variable (c : Dev nD) (i : grid0.Coords)
  (a3 : Memref sig .tc .vmem S1024x2048 .bf16) (h3 : a3.IsWhole)
  (a4 : Memref sig .tc .vmem S4x1024x512 .bf16) (h4 : a4.IsWhole)
  (a5 : Memref sig .tc .vmem S1024x1024 .f32) (h5 : a5.IsWhole)
  (a6 : Memref sig .tc .vmem S1024x1024 .f32) (h6 : a6.IsWhole)
  (a7 : Memref sig .tc .vmem S1024x1024 .f32) (h7 : a7.IsWhole)
  (x0 : FVec Ideal S1024x2048 .bf16) (x1 : FVec Ideal S4x1024x512 .bf16) (x2 : FVec Ideal S1024x1024 .f32) (s : FVec Ideal S1024x1024 .f32)

/-- The accumulator after one point's four products. -/
def mid : FVec Ideal S1024x1024 .f32 :=
  k0_pay4 (F := Ideal) s (View.ld (S := S1024x2048) (Val := Elt Ideal) (e' := .bf16) x0 (Rect.unit (s := S1024x2048) ![0, 0] S1024x512.size Facts₀.inb_S1024x2048_S1024x512_0_0))
    (View.ld (S := S4x1024x512) (Val := Elt Ideal) (e' := .bf16) x1 (Rect.unit (s := S4x1024x512) ![0, 0, 0] S1x1024x512.size Facts₀.inb_S4x1024x512_S1x1024x512_0_0_0))
    (View.ld (S := S1024x2048) (Val := Elt Ideal) (e' := .bf16) x0 (Rect.unit (s := S1024x2048) ![0, 512] S1024x512.size Facts₀.inb_S1024x2048_S1024x512_0_512))
    (View.ld (S := S4x1024x512) (Val := Elt Ideal) (e' := .bf16) x1 (Rect.unit (s := S4x1024x512) ![1, 0, 0] S1x1024x512.size Facts₀.inb_S4x1024x512_S1x1024x512_1_0_0))
    (View.ld (S := S1024x2048) (Val := Elt Ideal) (e' := .bf16) x0 (Rect.unit (s := S1024x2048) ![0, 1024] S1024x512.size Facts₀.inb_S1024x2048_S1024x512_0_1024))
    (View.ld (S := S4x1024x512) (Val := Elt Ideal) (e' := .bf16) x1 (Rect.unit (s := S4x1024x512) ![2, 0, 0] S1x1024x512.size Facts₀.inb_S4x1024x512_S1x1024x512_2_0_0))
    (View.ld (S := S1024x2048) (Val := Elt Ideal) (e' := .bf16) x0 (Rect.unit (s := S1024x2048) ![0, 1536] S1024x512.size Facts₀.inb_S1024x2048_S1024x512_0_1536))
    (View.ld (S := S4x1024x512) (Val := Elt Ideal) (e' := .bf16) x1 (Rect.unit (s := S4x1024x512) ![3, 0, 0] S1x1024x512.size Facts₀.inb_S4x1024x512_S1x1024x512_3_0_0))

/-- The store's cast keeps the accumulator. -/
theorem keep (v : FVec Ideal S1024x1024 .f32) : k0_pay1 (F := Ideal) v = v := by
  unfold k0_pay1
  simp only [shapeCast_self]

/-- The first of two points starts the accumulator at its own products. -/
theorem first (hA hB) : sout0_A_0 (F := Ideal) c i a3 h3 a4 h4 a5 h5 a6 h6 a7 h7 hA hB x0 x1 x2 = mid x0 x1 (k0_pay3 (F := Ideal)) := by
  unfold sout0_A_0
  rw [View.read_writes_eq_canon _ _ _ (scover0_A_0 c i a3 h3 a4 h4 a5 h5 a6 h6 a7 h7 hA hB _ _ _)]
  unfold kernelRun0_A
  dsimp only
  sl_unfold_words
  rw [View.canon_cons_unit_zero hz2]
  simp only [View.readAt_eq_ld, h3.read_unread, h4.read_unread, View.readCov_unit_zero (S := S1024x1024) _ hz2, keep, shapeCast_self]
  rfl

/-- The last adds its products, -/
theorem last (hA hB) : sout0_B_0 (F := Ideal) c i a3 h3 a4 h4 a5 h5 a6 h6 a7 h7 hA hB x0 x1 x2 s = mid x0 x1 s := by
  unfold sout0_B_0
  rw [View.read_writes_eq_canon _ _ _ (scover0_B_0 c i a3 h3 a4 h4 a5 h5 a6 h6 a7 h7 hA hB _ _ _ _)]
  unfold kernelRun0_B
  dsimp only
  sl_unfold_words
  rw [View.canon_cons_unit_zero hz2]
  simp only [View.readAt_eq_ld, h3.read_unread, h4.read_unread, h7.read_unread, View.ld_unit_zero (S := S1024x1024) hz2, keep, shapeCast_self]
  rfl

/-- which leaves the accumulator, taken through the activation's derivative, in the output's block. -/
theorem out (hA hB) : out0_B_3 (F := Ideal) c i a3 h3 a4 h4 a5 h5 a6 h6 a7 h7 hA hB x0 x1 x2 s = k0_pay2 (F := Ideal) (mid x0 x1 s) x2 := by
  unfold out0_B_3
  rw [View.read_writes_eq_canon _ _ _ (cover0_B_3 c i a3 h3 a4 h4 a5 h5 a6 h6 a7 h7 hA hB _ _ _ _)]
  unfold kernelRun0_B
  dsimp only
  sl_unfold_words
  rw [View.canon_cons_unit_zero hz2]
  simp only [View.readAt_eq_ld, h3.read_unread, h4.read_unread, h5.read_unread, View.readCov_unit_zero (S := S1024x1024) _ hz2, h7.read_unread, View.ld_unit_zero (S := S1024x1024) hz2, keep, shapeCast_self]
  rfl

/-- The accumulator's update at an index. -/
theorem acc_at (v0 v1 v2 v3 : FVec Ideal S1024x512 .bf16) (w0 w1 w2 w3 : FVec Ideal S1x1024x512 .bf16) (p q : Fin 1024) :
    k0_pay4 (F := Ideal) s v0 w0 v1 w1 v2 w2 v3 w3 (ix2 p q) = (s (ix2 p q) + ((((∑ k : Fin 512, (v0 (ix2 p k) * w0 (ix3 0 q k) : EReal)) + ∑ k : Fin 512, (v1 (ix2 p k) * w1 (ix3 0 q k) : EReal))
      + ∑ k : Fin 512, (v2 (ix2 p k) * w2 (ix3 0 q k) : EReal)) + ∑ k : Fin 512, (v3 (ix2 p k) * w3 (ix3 0 q k) : EReal)) : EReal) := by
  unfold k0_pay4
  pointwise []

/-- One term of a point's products. -/
def piece (p q : Fin 1024) (k : Fin 2048) : EReal := x0 (ix2 p k) * x1 (ix3 ⟨k.val / 512, by omega⟩ q ⟨k.val % 512, by omega⟩)

/-- One of the four products of a point, from the loads of its columns and its block. -/
theorem part (o : Nat) (n : Fin 4) (ho : o = n.val * 512) (b : Nat) (hb : b = n.val) (h h') (p q : Fin 1024) :
    (∑ k : Fin 512, (View.ld (S := S1024x2048) (Val := Elt Ideal) (e' := .bf16) x0 (Rect.unit (s := S1024x2048) ![0, o] S1024x512.size h) (ix2 p k)
      * View.ld (S := S4x1024x512) (Val := Elt Ideal) (e' := .bf16) x1 (Rect.unit (s := S4x1024x512) ![b, 0, 0] S1x1024x512.size h') (ix3 0 q k) : EReal))
      = ∑ k : Fin 512, piece x0 x1 p q ⟨n.val * 512 + k.val, by omega⟩ := by
  subst ho hb
  refine Finset.sum_congr rfl fun k _ => congrArg₂ (· * ·) ?_ ?_
  · rw [View.ld_unit_apply_of (i := ix2 p ⟨n.val * 512 + k.val, by omega⟩) (hi := fun a => by
      match a with
      | ⟨0, _⟩ => exact (Nat.zero_add _).symm
      | ⟨1, _⟩ => rfl)]
  · rw [View.ld_unit_apply_of (i := ix3 n q k) (hi := fun a => by
      match a with
      | ⟨0, _⟩ => rfl
      | ⟨1, _⟩ => exact (Nat.zero_add _).symm
      | ⟨2, _⟩ => exact (Nat.zero_add _).symm)]
    refine congrArg x1 (funext fun a => Fin.ext ?_)
    fin_cases a
    · show n.val = (n.val * 512 + k.val) / 512; omega
    · rfl
    · show k.val = (n.val * 512 + k.val) % 512; omega

/-- One point's step at an index. -/
theorem step (p q : Fin 1024) : mid x0 x1 s (ix2 p q) = (s (ix2 p q) + ∑ k : Fin 2048, (x0 (ix2 p k) * x1 (ix3 ⟨k.val / 512, by omega⟩ q ⟨k.val % 512, by omega⟩) : EReal) : EReal) := by
  unfold mid
  rw [acc_at]
  refine congrArg (s (ix2 p q) + ·) (Eq.trans ?_ (Fin.sum_univ_tiles 4 512 rfl (f := piece x0 x1 p q)).symm)
  rw [Fin.sum_univ_four]
  exact congrArg₂ (· + ·) (congrArg₂ (· + ·) (congrArg₂ (· + ·) (part x0 x1 0 0 rfl 0 rfl _ _ p q) (part x0 x1 512 1 rfl 1 rfl _ _ p q))
    (part x0 x1 1024 2 rfl 2 rfl _ _ p q)) (part x0 x1 1536 3 rfl 3 rfl _ _ p q)
/-- The accumulator starts at zero. -/
theorem start (p q : Fin 1024) : k0_pay3 (F := Ideal) (ix2 p q) = (0 : EReal) := by
  unfold k0_pay3
  pointwise []
/-- The output's block at an index. -/
theorem close (p q : Fin 1024) : k0_pay2 (F := Ideal) s x2 (ix2 p q) = back (s (ix2 p q)) (x2 (ix2 p q)) := by
  unfold k0_pay2
  pointwise [back, inner]
end

variable (m : (ℓ : Loc nD τ sig) → Buf (Elt Ideal) ℓ) (c : Dev nD)

theorem idx : ∀ t : Fin grid0.N, win0_0.index t = ![t.val / 4, t.val % 2] ∧ win0_1.index t = ![t.val % 2, t.val / 2 % 2, 0] ∧
    win0_2.index t = ![t.val / 4, t.val / 2 % 2] ∧ win0_3.index t = ![t.val / 4, t.val / 2 % 2] := by decide +kernel

theorem at_x (t : Fin cfg0.N) (i : Fin 1024) (k : Fin 2048) :
    (win0_0.blk t).view.emb (ix2 i k) = ix2 (n0 := 8192) (n1 := 4096) ⟨t.val / 4 * 1024 + i.val, by have := t.isLt; have : cfg0.N = 32 := N_0; omega⟩ ⟨t.val % 2 * 2048 + k.val, by omega⟩ := by
  refine funext fun a => Fin.ext ?_
  fin_cases a <;> blk_simp [(idx t).1] <;> rfl
theorem at_w (t : Fin cfg0.N) (h : Fin 4) (j : Fin 1024) (k : Fin 512) :
    (win0_1.blk t).view.emb (ix3 h j k) = ix3 (n0 := 8) (n1 := 2048) (n2 := 512) ⟨t.val % 2 * 4 + h.val, by omega⟩ ⟨t.val / 2 % 2 * 1024 + j.val, by omega⟩ k := by
  refine funext fun a => Fin.ext ?_
  fin_cases a <;> blk_simp [(idx t).2.1] <;> rfl
theorem at_h (t : Fin cfg0.N) (i j : Fin 1024) :
    (win0_2.blk t).view.emb (ix2 i j) = ix2 (n0 := 8192) (n1 := 2048) ⟨t.val / 4 * 1024 + i.val, by have := t.isLt; have : cfg0.N = 32 := N_0; omega⟩ ⟨t.val / 2 % 2 * 1024 + j.val, by omega⟩ := by
  refine funext fun a => Fin.ext ?_
  fin_cases a <;> blk_simp [(idx t).2.2.1] <;> rfl
theorem at_o (t : Fin cfg0.N) (i j : Fin 1024) :
    (win0_3.blk t).view.emb (ix2 i j) = ix2 (n0 := 8192) (n1 := 2048) ⟨t.val / 4 * 1024 + i.val, by have := t.isLt; have : cfg0.N = 32 := N_0; omega⟩ ⟨t.val / 2 % 2 * 1024 + j.val, by omega⟩ := by
  refine funext fun a => Fin.ext ?_
  fin_cases a <;> blk_simp [(idx t).2.2.2] <;> rfl

theorem blk_x (n : Nat) (hn : n < cfg0.N) (b : Nat) (e : n / 4 = b) (hb : b < 8) (i : Fin 1024) (k : Fin 2048) :
    iblk m c 0 ⟨n, hn⟩ (ix2 i k) = m ((c : Thread nD τ).loc main_arg0) (ix2 (n0 := 8192) (n1 := 4096) ⟨b * 1024 + i.val, by omega⟩ ⟨n % 2 * 2048 + k.val, by omega⟩) := by
  subst e
  blk_simp [iblk]
  rw [at_x ⟨n, hn⟩]
theorem blk_w (n : Nat) (hn : n < cfg0.N) (b : Nat) (e : n / 2 % 2 = b) (hb : b < 2) (h : Fin 4) (j : Fin 1024) (k : Fin 512) :
    iblk m c 1 ⟨n, hn⟩ (ix3 h j k) = m ((c : Thread nD τ).loc main_arg1) (ix3 (n0 := 8) (n1 := 2048) (n2 := 512) ⟨n % 2 * 4 + h.val, by omega⟩ ⟨b * 1024 + j.val, by omega⟩ k) := by
  subst e
  blk_simp [iblk]
  rw [at_w ⟨n, hn⟩]

/-- The accumulator after the last of two points. -/
theorem scratch (t : Fin cfg0.N) (h1 : t.val % 2 = 1) (i j : Fin 1024) :
    (outsAt0 m c t.val t.isLt).2 (ix2 i j) = prod (m ((c : Thread nD τ).loc main_arg0)) (m ((c : Thread nD τ).loc main_arg1))
      (ix2 (n0 := 8192) (n1 := 2048) ⟨t.val / 4 * 1024 + i.val, by have := t.isLt; have : cfg0.N = 32 := N_0; omega⟩ ⟨t.val / 2 % 2 * 1024 + j.val, by omega⟩) := by
  have h8 : t.val / 4 < 8 := by have := t.isLt; have : cfg0.N = 32 := N_0; omega
  refine two_steps (fun n hn => (outsAt0 m c n hn).2 (ix2 i j)) (term (m ((c : Thread nD τ).loc main_arg0)) (m ((c : Thread nD τ).loc main_arg1)) ⟨t.val / 4 * 1024 + i.val, by omega⟩ ⟨t.val / 2 % 2 * 1024 + j.val, by omega⟩) t.val t.isLt h1 (fun n hn e h0 => ?_) (fun n hn e h0 => ?_)
  · show (outsAt0 m c n hn).2 (ix2 i j) = _
    rw [outsAt0_A m c ⟨n, hn⟩ h0 (by show ¬n % 2 = 1; omega)]
    dsimp only
    rw [first, step, start, zero_add]
    simp only [blk_x m c n hn (t.val / 4) (by omega) h8, blk_w m c n hn (t.val / 2 % 2) (by omega) (by omega)]
    exact (Finset.sum_congr rfl fun k _ => (term_at _ _ _ _ (n % 2) k (by omega)).symm)
  · show (outsAt0 m c n hn).2 (ix2 i j) = (outsAt0 m c (n - 1) _).2 (ix2 i j) + _
    rw [outsAt0_B m c ⟨n, hn⟩ h0 (by show n % 2 = 1; omega)]
    dsimp only
    rw [last, step]
    simp only [blk_x m c n hn (t.val / 4) (by omega) h8, blk_w m c n hn (t.val / 2 % 2) (by omega) (by omega)]
    exact congrArg (_ + ·) (Finset.sum_congr rfl fun k _ => (term_at _ _ _ _ (n % 2) k (by omega)).symm)

/-- The whole array the kernel leaves. -/
theorem array : (dats m 0 c).arrAt 3 cfg0.N = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  have h1 : t.val % 2 = 1 := (flush0_3 t).mp hf
  have e := scratch m c t h1
  blk_simp
  rw [after0_3]
  obtain ⟨i, j, rfl⟩ : ∃ (i j : Fin 1024), y = ix2 i j := ⟨y 0, y 1, funext fun a => by fin_cases a <;> rfl⟩
  rw [at_o t]
  unfold grad
  rw [← e i j, outsAt0_B m c t (by omega) h1]
  dsimp only
  rw [out, last, close]
  blk_simp [iblk]
  rw [at_h t]
end

/-- The kernel's result and the reference's agree. -/
theorem algebraic : algebraic_Kernel22Ideal_Reference22Ideal := by
  intro m g m' g' _ hargs
  refine ⟨fun c => grad (m ((c.tc : Thread Kernel22Ideal.nD Kernel22Ideal.τ).loc Kernel22Ideal.main_arg0)) (m ((c.tc : Thread Kernel22Ideal.nD Kernel22Ideal.τ).loc Kernel22Ideal.main_arg1)) (m ((c.tc : Thread Kernel22Ideal.nD Kernel22Ideal.τ).loc Kernel22Ideal.main_arg2)), ?_, ?_⟩
  · exact (θ_run Kernel22Ideal.defs _ _).mono (fun r h c => ⟨(h c).1.trans (array m c), (h c).2⟩) (Kernel22Ideal.Value.run_blocks m g)
  · refine (θ_run Reference22Ideal.defs _ _).mono (fun r h c => ⟨(h c).1.trans ((reference m' c).trans ?_), (h c).2⟩) (Reference22Ideal.Value.run m' g')
    rw [(hargs c).1, (hargs c).2.1, (hargs c).2.2]

/-- The reference ends, its arguments are unchanged and every semaphore reads zero. -/
theorem reference_frame : quiescent_Reference22Ideal := fun m ρ _ =>
  (θ_run Reference22Ideal.defs _ _).mono (fun r h => ⟨fun c => (h c).2, sem_eq_zero_of_no_sems (by decide) r.2⟩) (Reference22Ideal.Value.run m ρ)

end Cert.S5OutDx
-- ==== Proof.PleGate.lean ====
module

public import proofs.«01_k».proof.Defs
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Value
public import proofs.«01_k».proof.Proof.Gen.Reference23Ideal
public import proofs.«01_k».proof.Proof.Gen.Reference23Ideal.Run
public import proofs.«01_k».proof.Proof.S5In
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The gate of the per-layer embeddings -/

/-! The shapes are those of the S5 input projection, and so are the blocks and the order of
the points. What is said there holds here. -/

namespace Cert.PleGate

open Idealize.ShloMosaic Idealize.ShloMosaic.TcCoe Idealize.SL.Sem Cert.Real Cert.Mixer

section
open Reference23Ideal Reference23Ideal.Facts₀

/-- What the reference computes. -/
theorem reference (x : FVec Ideal S8192x2048 .bf16) (w : FVec Ideal S8x256x2048 .bf16) :
    Host.dotGeneral dot_S8192x2048_S2048x2048_S8192x2048_1_0_0_1_n_n none (extf .f32 x bitsLt_bf16_f32)
      (extf .f32 (shapeCast _ w shapeCasts_S8x256x2048_S2048x2048) bitsLt_bf16_f32)
    = S5In.prod x w := S5In.reference x w
end

section
open Kernel23Ideal Kernel23Ideal.Gen Kernel23Ideal.Value

variable (m : (ℓ : Loc nD τ sig) → Buf (Elt Ideal) ℓ) (c : Dev nD)

/-- The whole array the kernel leaves. -/
theorem array : (dats m 0 c).arrAt 2 cfg0.N = S5In.prod (m ((c : Thread nD τ).loc main_arg0)) (m ((c : Thread nD τ).loc main_arg1)) := S5In.array m c
end

/-- The kernel's result and the reference's agree. -/
theorem algebraic : algebraic_Kernel23Ideal_Reference23Ideal := by
  intro m g m' g' _ hargs
  refine ⟨fun c => S5In.prod (m ((c.tc : Thread Kernel23Ideal.nD Kernel23Ideal.τ).loc Kernel23Ideal.main_arg0)) (m ((c.tc : Thread Kernel23Ideal.nD Kernel23Ideal.τ).loc Kernel23Ideal.main_arg1)), ?_, ?_⟩
  · exact (θ_run Kernel23Ideal.defs _ _).mono (fun r h c => ⟨(h c).1.trans (array m c), (h c).2⟩) (Kernel23Ideal.Value.run_blocks m g)
  · refine (θ_run Reference23Ideal.defs _ _).mono (fun r h c => ⟨(h c).1.trans ((reference _ _ ).trans ?_), (h c).2⟩) (Reference23Ideal.Value.run m' g')
    rw [(hargs c).1, (hargs c).2]

/-- The reference ends, its arguments are unchanged and every semaphore reads zero. -/
theorem reference_frame : quiescent_Reference23Ideal := fun m ρ _ =>
  (θ_run Reference23Ideal.defs _ _).mono (fun r h => ⟨fun c => (h c).2, sem_eq_zero_of_no_sems (by decide) r.2⟩) (Reference23Ideal.Value.run m ρ)

end Cert.PleGate
-- ==== Proof.PleGateDw.lean ====
module

public import proofs.«01_k».proof.Defs
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Value
public import proofs.«01_k».proof.Proof.Gen.Reference24Ideal
public import proofs.«01_k».proof.Proof.Gen.Reference24Ideal.Run
public import proofs.«01_k».proof.Proof.S5InDw
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The gradient of the gate's weight of the per-layer embeddings -/

/-! The shapes are those of the gradient of the S5 input projection's weight, and so are the blocks and the order of
the points. What is said there of one point holds here. -/

namespace Cert.PleGateDw

open Idealize.ShloMosaic Idealize.ShloMosaic.TcCoe Idealize.SL.Sem Cert.Real Cert.Mixer

section
open Reference24Ideal Reference24Ideal.Facts₀

/-- What the reference computes. -/
theorem reference (x : FVec Ideal S8192x2048 .bf16) (d : FVec Ideal S8192x2048 .bf16) :
    shapeCast _ (truncf .bf16 (transpose S2048x2048 [1, 0] (Host.dotGeneral dot_S8192x2048_S8192x2048_S2048x2048_0_0_1_1_n_n none (extf .f32 d bitsLt_bf16_f32)
      (extf .f32 x bitsLt_bf16_f32)) transposes_S2048x2048_S2048x2048_1_0) bitsLt_bf16_f32) shapeCasts_S2048x2048_S8x256x2048
    = S5InDw.grad x d := S5InDw.reference x d
end

section
open Kernel24Ideal Kernel24Ideal.Gen Kernel24Ideal.Value

section
variable (c : Dev nD) (i : grid0.Coords)
  (a3 : Memref sig .tc .vmem S2048x1024 .bf16) (h3 : a3.IsWhole)
  (a4 : Memref sig .tc .vmem S2048x1024 .bf16) (h4 : a4.IsWhole)
  (a5 : Memref sig .tc .vmem S4x256x1024 .bf16) (h5 : a5.IsWhole)
  (a6 : Memref sig .tc .vmem S1024x1024 .f32) (h6 : a6.IsWhole)
  (x0 x1 : FVec Ideal S2048x1024 .bf16) (s : FVec Ideal S1024x1024 .f32)

/-- The first point of four starts the accumulator at its own product. -/
theorem first (hA hB) : sout0_A_0 (F := Ideal) c i a3 h3 a4 h4 a5 h5 a6 h6 hA hB x0 x1 = k0_pay2 (F := Ideal) (k0_pay1 (F := Ideal)) x0 x1 := by
  unfold sout0_A_0
  rw [View.read_writes_eq_canon _ _ _ (scover0_A_0 c i a3 h3 a4 h4 a5 h5 a6 h6 hA hB _ _)]
  unfold kernelRun0_A
  dsimp only
  sl_unfold_words
  rw [View.canon_cons_unit_zero hz2]
  simp only [View.readAt_eq_ld, h3.read_unread, h4.read_unread, View.readCov_unit_zero (S := S1024x1024) _ hz2, View.ld_unit_zero (S := S2048x1024) hz2, shapeCast_self]

/-- A later point adds its product. -/
theorem next (hA hB) : sout0_B_0 (F := Ideal) c i a3 h3 a4 h4 a5 h5 a6 h6 hA hB x0 x1 s = k0_pay2 (F := Ideal) s x0 x1 := by
  unfold sout0_B_0
  rw [View.read_writes_eq_canon _ _ _ (scover0_B_0 c i a3 h3 a4 h4 a5 h5 a6 h6 hA hB _ _ _)]
  unfold kernelRun0_B
  dsimp only
  sl_unfold_words
  rw [View.canon_cons_unit_zero hz2]
  simp only [View.readAt_eq_ld, h3.read_unread, h4.read_unread, h6.read_unread, View.ld_unit_zero (S := S1024x1024) hz2, View.ld_unit_zero (S := S2048x1024) hz2, shapeCast_self]

/-- So does the last, -/
theorem last (hA hB) : sout0_C_0 (F := Ideal) c i a3 h3 a4 h4 a5 h5 a6 h6 hA hB x0 x1 s = k0_pay2 (F := Ideal) s x0 x1 := by
  unfold sout0_C_0
  rw [View.read_writes_eq_canon _ _ _ (scover0_C_0 c i a3 h3 a4 h4 a5 h5 a6 h6 hA hB _ _ _)]
  unfold kernelRun0_C
  dsimp only
  sl_unfold_words
  rw [View.canon_cons_unit_zero hz2]
  simp only [View.readAt_eq_ld, h3.read_unread, h4.read_unread, h6.read_unread, View.ld_unit_zero (S := S1024x1024) hz2, View.ld_unit_zero (S := S2048x1024) hz2, shapeCast_self]

/-- which leaves the accumulator in the output's four blocks. -/
theorem out (hA hB) : out0_C_2 (F := Ideal) c i a3 h3 a4 h4 a5 h5 a6 h6 hA hB x0 x1 s = k0_pay3 (F := Ideal) (k0_pay2 (F := Ideal) s x0 x1) := by
  unfold out0_C_2
  rw [View.read_writes_eq_canon _ _ _ (cover0_C_2 c i a3 h3 a4 h4 a5 h5 a6 h6 hA hB _ _ _)]
  unfold kernelRun0_C
  dsimp only
  sl_unfold_words
  rw [View.canon_cons_unit_zero hz3]
  simp only [View.readAt_eq_ld, h3.read_unread, h4.read_unread, View.readCov_unit_zero (S := S1024x1024) _ hz2, h6.read_unread, View.ld_unit_zero (S := S1024x1024) hz2, View.ld_unit_zero (S := S2048x1024) hz2, shapeCast_self]

/-- One point's step at an index. -/
theorem step (p q : Fin 1024) : k0_pay2 (F := Ideal) s x0 x1 (ix2 p q) = (s (ix2 p q) + ∑ k : Fin 2048, (x0 (ix2 k p) * x1 (ix2 k q) : EReal) : EReal) := S5InDw.step x0 x1 s p q
/-- The accumulator starts at zero. -/
theorem start (p q : Fin 1024) : k0_pay1 (F := Ideal) (ix2 p q) = (0 : EReal) := S5InDw.start p q
/-- The output's blocks at an index. -/
theorem close (h : Fin 4) (p : Fin 256) (q : Fin 1024) : k0_pay3 (F := Ideal) s (ix3 h p q) = s (ix2 ⟨h.val * 256 + p.val, by omega⟩ q) := S5InDw.close s h p q
end

variable (m : (ℓ : Loc nD τ sig) → Buf (Elt Ideal) ℓ) (c : Dev nD)

theorem idx : ∀ t : Fin grid0.N, win0_0.index t = ![t.val % 4, t.val / 8] ∧ win0_1.index t = ![t.val % 4, t.val / 4 % 2] ∧
    win0_2.index t = ![t.val / 8, 0, t.val / 4 % 2] := S5InDw.idx

theorem at_x (t : Fin cfg0.N) (k : Fin 2048) (i : Fin 1024) :
    (win0_0.blk t).view.emb (ix2 k i) = ix2 (n0 := 8192) (n1 := 2048) ⟨t.val % 4 * 2048 + k.val, by omega⟩ ⟨t.val / 8 * 1024 + i.val, by have := t.isLt; have : cfg0.N = 16 := N_0; omega⟩ := S5InDw.at_x t k i
theorem at_d (t : Fin cfg0.N) (k : Fin 2048) (j : Fin 1024) :
    (win0_1.blk t).view.emb (ix2 k j) = ix2 (n0 := 8192) (n1 := 2048) ⟨t.val % 4 * 2048 + k.val, by omega⟩ ⟨t.val / 4 % 2 * 1024 + j.val, by omega⟩ := S5InDw.at_d t k j
theorem at_o (t : Fin cfg0.N) (h : Fin 4) (i : Fin 256) (j : Fin 1024) :
    (win0_2.blk t).view.emb (ix3 h i j) = ix3 (n0 := 8) (n1 := 256) (n2 := 2048) ⟨t.val / 8 * 4 + h.val, by have := t.isLt; have : cfg0.N = 16 := N_0; omega⟩ i ⟨t.val / 4 % 2 * 1024 + j.val, by omega⟩ := S5InDw.at_o t h i j

theorem blk_x (n : Nat) (hn : n < cfg0.N) (b : Nat) (e : n / 8 = b) (hb : b < 2) (k : Fin 2048) (i : Fin 1024) :
    iblk m c 0 ⟨n, hn⟩ (ix2 k i) = m ((c : Thread nD τ).loc main_arg0) (ix2 (n0 := 8192) (n1 := 2048) ⟨n % 4 * 2048 + k.val, by omega⟩ ⟨b * 1024 + i.val, by omega⟩) := by
  subst e
  blk_simp [iblk]
  rw [at_x ⟨n, hn⟩]
theorem blk_d (n : Nat) (hn : n < cfg0.N) (b : Nat) (e : n / 4 % 2 = b) (hb : b < 2) (k : Fin 2048) (j : Fin 1024) :
    iblk m c 1 ⟨n, hn⟩ (ix2 k j) = m ((c : Thread nD τ).loc main_arg1) (ix2 (n0 := 8192) (n1 := 2048) ⟨n % 4 * 2048 + k.val, by omega⟩ ⟨b * 1024 + j.val, by omega⟩) := by
  subst e
  blk_simp [iblk]
  rw [at_d ⟨n, hn⟩]

/-- The accumulator after the last of four points. -/
theorem scratch (t : Fin cfg0.N) (h3 : t.val % 4 = 3) (i j : Fin 1024) :
    (outsAt0 m c t.val t.isLt).2 (ix2 i j) = S5InDw.flat (m ((c : Thread nD τ).loc main_arg0)) (m ((c : Thread nD τ).loc main_arg1)) ⟨t.val / 8 * 1024 + i.val, by have := t.isLt; have : cfg0.N = 16 := N_0; omega⟩ ⟨t.val / 4 % 2 * 1024 + j.val, by omega⟩ := by
  have h4 : t.val / 8 < 2 := by have := t.isLt; have : cfg0.N = 16 := N_0; omega
  refine four_steps (fun n hn => (outsAt0 m c n hn).2 (ix2 i j)) _ t.val t.isLt h3 (fun n hn e h0 => ?_) (fun n hn e h0 => ?_)
  · show (outsAt0 m c n hn).2 (ix2 i j) = _
    rw [outsAt0_A m c ⟨n, hn⟩ h0 (by show ¬n % 4 = 3; omega)]
    dsimp only
    rw [first, step, start, zero_add]
    simp only [blk_x m c n hn (t.val / 8) (by omega) h4, blk_d m c n hn (t.val / 4 % 2) (by omega) (by omega)]
  · show (outsAt0 m c n hn).2 (ix2 i j) = (outsAt0 m c (n - 1) _).2 (ix2 i j) + _
    by_cases h1 : n % 4 = 3
    · rw [outsAt0_C m c ⟨n, hn⟩ h0 h1]
      dsimp only
      rw [last, step]
      simp only [blk_x m c n hn (t.val / 8) (by omega) h4, blk_d m c n hn (t.val / 4 % 2) (by omega) (by omega)]
    · rw [outsAt0_B m c ⟨n, hn⟩ h0 h1]
      dsimp only
      rw [next, step]
      simp only [blk_x m c n hn (t.val / 8) (by omega) h4, blk_d m c n hn (t.val / 4 % 2) (by omega) (by omega)]

/-- The whole array the kernel leaves. -/
theorem array : (dats m 0 c).arrAt 2 cfg0.N = S5InDw.grad (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have e := scratch m c t h3
  blk_simp
  rw [after0_2]
  obtain ⟨h, i, j, rfl⟩ : ∃ (h : Fin 4) (i : Fin 256) (j : Fin 1024), y = ix3 h i j := ⟨y 0, y 1, y 2, funext fun a => by fin_cases a <;> rfl⟩
  have e' := e ⟨h.val * 256 + i.val, by omega⟩ j
  rw [outsAt0_C m c t (by omega) h3] at e' ⊢
  dsimp only at e' ⊢
  rw [last] at e'
  rw [at_o t, out, close, e']
  exact congrArg (S5InDw.flat _ _ · _) (Fin.ext (by
    show t.val / 8 * 1024 + (h.val * 256 + i.val) = (t.val / 8 * 4 + h.val) * 256 + i.val
    omega))
end

/-- The kernel's result and the reference's agree. -/
theorem algebraic : algebraic_Kernel24Ideal_Reference24Ideal := by
  intro m g m' g' _ hargs
  refine ⟨fun c => S5InDw.grad (m ((c.tc : Thread Kernel24Ideal.nD Kernel24Ideal.τ).loc Kernel24Ideal.main_arg0)) (m ((c.tc : Thread Kernel24Ideal.nD Kernel24Ideal.τ).loc Kernel24Ideal.main_arg1)), ?_, ?_⟩
  · exact (θ_run Kernel24Ideal.defs _ _).mono (fun r h c => ⟨(h c).1.trans (array m c), (h c).2⟩) (Kernel24Ideal.Value.run_blocks m g)
  · refine (θ_run Reference24Ideal.defs _ _).mono (fun r h c => ⟨(h c).1.trans ((reference _ _ ).trans ?_), (h c).2⟩) (Reference24Ideal.Value.run m' g')
    rw [(hargs c).1, (hargs c).2]

/-- The reference ends, its arguments are unchanged and every semaphore reads zero. -/
theorem reference_frame : quiescent_Reference24Ideal := fun m ρ _ =>
  (θ_run Reference24Ideal.defs _ _).mono (fun r h => ⟨fun c => (h c).2, sem_eq_zero_of_no_sems (by decide) r.2⟩) (Reference24Ideal.Value.run m ρ)

end Cert.PleGateDw
-- ==== Proof.PleGateDx.lean ====
module

public import proofs.«01_k».proof.Defs
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Value
public import proofs.«01_k».proof.Proof.Gen.Reference25Ideal
public import proofs.«01_k».proof.Proof.Gen.Reference25Ideal.Run
public import proofs.«01_k».proof.Proof.S5InDx
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The gradient of the embeddings' gate by its input -/

/-! The shapes are those of the gradient of the S5 input projection by its input, and so are the blocks and the order of
the points. What is said there holds here. -/

namespace Cert.PleGateDx

open Idealize.ShloMosaic Idealize.ShloMosaic.TcCoe Idealize.SL.Sem Cert.Real Cert.Mixer

section
open Reference25Ideal Reference25Ideal.Facts₀

/-- What the reference computes. -/
theorem reference (d : FVec Ideal S8192x2048 .bf16) (w : FVec Ideal S8x256x2048 .bf16) :
    Host.dotGeneral dot_S8192x2048_S2048x2048_S8192x2048_1_1_0_0_n_n none (extf .f32 d bitsLt_bf16_f32)
      (extf .f32 (shapeCast _ w shapeCasts_S8x256x2048_S2048x2048) bitsLt_bf16_f32)
    = S5InDx.prod d w := S5InDx.reference d w
end

section
open Kernel25Ideal Kernel25Ideal.Gen Kernel25Ideal.Value

variable (m : (ℓ : Loc nD τ sig) → Buf (Elt Ideal) ℓ) (c : Dev nD)

/-- The whole array the kernel leaves. -/
theorem array : (dats m 0 c).arrAt 2 cfg0.N = S5InDx.prod (m ((c : Thread nD τ).loc main_arg0)) (m ((c : Thread nD τ).loc main_arg1)) := S5InDx.array m c
end

/-- The kernel's result and the reference's agree. -/
theorem algebraic : algebraic_Kernel25Ideal_Reference25Ideal := by
  intro m g m' g' _ hargs
  refine ⟨fun c => S5InDx.prod (m ((c.tc : Thread Kernel25Ideal.nD Kernel25Ideal.τ).loc Kernel25Ideal.main_arg0)) (m ((c.tc : Thread Kernel25Ideal.nD Kernel25Ideal.τ).loc Kernel25Ideal.main_arg1)), ?_, ?_⟩
  · exact (θ_run Kernel25Ideal.defs _ _).mono (fun r h c => ⟨(h c).1.trans (array m c), (h c).2⟩) (Kernel25Ideal.Value.run_blocks m g)
  · refine (θ_run Reference25Ideal.defs _ _).mono (fun r h c => ⟨(h c).1.trans ((reference _ _ ).trans ?_), (h c).2⟩) (Reference25Ideal.Value.run m' g')
    rw [(hargs c).1, (hargs c).2]

/-- The reference ends, its arguments are unchanged and every semaphore reads zero. -/
theorem reference_frame : quiescent_Reference25Ideal := fun m ρ _ =>
  (θ_run Reference25Ideal.defs _ _).mono (fun r h => ⟨fun c => (h c).2, sem_eq_zero_of_no_sems (by decide) r.2⟩) (Reference25Ideal.Value.run m ρ)

end Cert.PleGateDx
-- ==== Proof.PleProj.lean ====
module

public import proofs.«01_k».proof.Defs
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Value
public import proofs.«01_k».proof.Proof.Gen.Reference26Ideal
public import proofs.«01_k».proof.Proof.Gen.Reference26Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The projection of the per-layer embeddings -/

namespace Cert.PleProj

open Idealize.ShloMosaic Idealize.ShloMosaic.TcCoe Idealize.SL.Sem Cert.Real Cert.Mixer

/-- The product of the input and the weight. The weight's columns come in eight blocks. -/
def prod (x : FVec Ideal Kernel26Ideal.S8192x256 .f32) (w : FVec Ideal Kernel26Ideal.S8x256x256 .bf16) : FVec Ideal Kernel26Ideal.S8192x2048 .f32 := fun i =>
  (∑ k : Fin 256, (x (ix2 (n0 := 8192) (n1 := 256) (i 0) k) * w (ix3 (n0 := 8) (n1 := 256) (n2 := 256)
    ⟨(i 1).val / 256, by have h : (i 1).val < 2048 := (i 1).isLt; omega⟩ k ⟨(i 1).val % 256, by omega⟩) : EReal))

/-- The product at a column given by its block and the place in it. -/
theorem prod_at (x w) (r : Fin 8192) (b : Nat) (j : Fin 256) (hb : b < 8) (h : b * 256 + j.val < 2048) :
    prod x w (ix2 r ⟨b * 256 + j.val, h⟩) = (∑ k : Fin 256, (x (ix2 r k) * w (ix3 ⟨b, hb⟩ k j) : EReal)) :=
  Finset.sum_congr rfl fun k _ => congrArg (x (ix2 r k) * w ·) (funext fun a => Fin.ext (by
    fin_cases a
    · show (b * 256 + j.val) / 256 = b; omega
    · rfl
    · show (b * 256 + j.val) % 256 = j.val; omega))

section
open Reference26Ideal Reference26Ideal.Facts₀

/-- What the reference computes. -/
theorem reference (x : FVec Ideal S8192x256 .f32) (w : FVec Ideal S8x256x256 .bf16) :
    Host.dotGeneral dot_S8192x256_S256x2048_S8192x2048_1_0_0_1_n_n none x
      (extf .f32 (shapeCast _ (transpose S256x8x256 [1, 0, 2] w transposes_S8x256x256_S256x8x256_1_0_2) shapeCasts_S256x8x256_S256x2048) bitsLt_bf16_f32)
    = prod x w := by
  refine ext2 fun i j => ?_
  pointwise [prod]
end

section
open Kernel26Ideal Kernel26Ideal.Gen Kernel26Ideal.Value

/-- What one point of the grid leaves. -/
theorem point (x0 : FVec Ideal S1024x256 .f32) (x1 : FVec Ideal S1x256x256 .bf16) (i : Fin 1024) (j : Fin 256) :
    out0_2 (F := Ideal) x0 x1 (ix2 i j) = (∑ k : Fin 256, (x0 (ix2 i k) * x1 (ix3 0 k j) : EReal)) := by
  unfold out0_2
  rw [View.canon_cons_unit_zero hz2, View.ld_unit_zero (S := S1024x256) hz2, View.ld_unit_zero (S := S1x256x256) hz3]
  unfold k0_pay1
  pointwise []

variable (m : (ℓ : Loc nD τ sig) → Buf (Elt Ideal) ℓ) (c : Dev nD)

theorem idx : ∀ t : Fin grid0.N, win0_0.index t = ![t.val / 8, 0] ∧ win0_1.index t = ![t.val % 8, 0, 0] ∧
    win0_2.index t = ![t.val / 8, t.val % 8] := by decide +kernel

theorem at_x (t : Fin cfg0.N) (i : Fin 1024) (k : Fin 256) :
    (win0_0.blk t).view.emb (ix2 i k) = ix2 (n0 := 8192) (n1 := 256) ⟨t.val / 8 * 1024 + i.val, by have := t.isLt; have : cfg0.N = 64 := N_0; omega⟩ k := by
  refine funext fun a => Fin.ext ?_
  fin_cases a <;> blk_simp [(idx t).1] <;> rfl
theorem at_w (t : Fin cfg0.N) (k : Fin 256) (j : Fin 256) :
    (win0_1.blk t).view.emb (ix3 0 k j) = ix3 (n0 := 8) (n1 := 256) (n2 := 256) ⟨t.val % 8, by omega⟩ k j := by
  refine funext fun a => Fin.ext ?_
  fin_cases a <;> blk_simp [(idx t).2.1] <;> rfl
theorem at_o (t : Fin cfg0.N) (i : Fin 1024) (j : Fin 256) :
    (win0_2.blk t).view.emb (ix2 i j) = ix2 (n0 := 8192) (n1 := 2048) ⟨t.val / 8 * 1024 + i.val, by have := t.isLt; have : cfg0.N = 64 := N_0; omega⟩ ⟨t.val % 8 * 256 + j.val, by omega⟩ := by
  refine funext fun a => Fin.ext ?_
  fin_cases a <;> blk_simp [(idx t).2.2] <;> rfl

/-- The whole array the kernel leaves. -/
theorem array : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 256), y = ix2 i j := ⟨y 0, y 1, funext fun a => by fin_cases a <;> rfl⟩
  rw [point]
  blk_simp [iblk]
  rw [at_o t]
  simp only [at_x t, at_w t]
  exact (prod_at _ _ _ _ _ (by omega) _).symm
end

/-- The kernel's result and the reference's agree. -/
theorem algebraic : algebraic_Kernel26Ideal_Reference26Ideal := by
  intro m g m' g' _ hargs
  refine ⟨fun c => prod (m ((c.tc : Thread Kernel26Ideal.nD Kernel26Ideal.τ).loc Kernel26Ideal.main_arg0)) (m ((c.tc : Thread Kernel26Ideal.nD Kernel26Ideal.τ).loc Kernel26Ideal.main_arg1)), ?_, ?_⟩
  · exact (θ_run Kernel26Ideal.defs _ _).mono (fun r h c => ⟨(h c).1.trans (array m c), (h c).2⟩) (Kernel26Ideal.Value.run_blocks m g)
  · refine (θ_run Reference26Ideal.defs _ _).mono (fun r h c => ⟨(h c).1.trans ((reference _ _ ).trans ?_), (h c).2⟩) (Reference26Ideal.Value.run m' g')
    rw [(hargs c).1, (hargs c).2]

/-- The reference ends, its arguments are unchanged and every semaphore reads zero. -/
theorem reference_frame : quiescent_Reference26Ideal := fun m ρ _ =>
  (θ_run Reference26Ideal.defs _ _).mono (fun r h => ⟨fun c => (h c).2, sem_eq_zero_of_no_sems (by decide) r.2⟩) (Reference26Ideal.Value.run m ρ)

end Cert.PleProj
-- ==== Proof.PleProjDw.lean ====
module

public import proofs.«01_k».proof.Defs
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Value
public import proofs.«01_k».proof.Proof.Gen.Reference27Ideal
public import proofs.«01_k».proof.Proof.Gen.Reference27Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The gradient of the weight of the embeddings' projection -/

namespace Cert.PleProjDw

open Idealize.ShloMosaic Idealize.ShloMosaic.TcCoe Idealize.SL.Sem Cert.Real Cert.Mixer

/-- The weight's gradient: at each place the sum over the tokens of the embeddings and the gradient. The weight's columns come in eight blocks. -/
def grad (x : FVec Ideal Kernel27Ideal.S8192x256 .f32) (u : FVec Ideal Kernel27Ideal.S8192x2048 .bf16) : FVec Ideal Kernel27Ideal.S8x256x256 .bf16 := fun i =>
  (∑ k : Fin 8192, (x (ix2 (n0 := 8192) (n1 := 256) k (i 1)) * u (ix2 (n0 := 8192) (n1 := 2048) k ⟨(i 0).val * 256 + (i 2).val, by
    have h0 : (i 0).val < 8 := (i 0).isLt; have h1 : (i 2).val < 256 := (i 2).isLt; omega⟩) : EReal))

section
open Reference27Ideal Reference27Ideal.Facts₀

/-- What the reference computes. -/
theorem reference (x : FVec Ideal S8192x256 .f32) (u : FVec Ideal S8192x2048 .bf16) :
    transpose S8x256x256 [1, 0, 2] (shapeCast _ (truncf .bf16 (transpose S256x2048 [1, 0] (Host.dotGeneral dot_S8192x2048_S8192x256_S2048x256_0_0_1_1_n_n none
      (extf .f32 u bitsLt_bf16_f32) x) transposes_S2048x256_S256x2048_1_0) bitsLt_bf16_f32) shapeCasts_S256x2048_S256x8x256)
      transposes_S256x8x256_S8x256x256_1_0_2
    = grad x u := by
  refine ext3 fun i j k => ?_
  pointwise [grad]
  exact Finset.sum_congr rfl fun x _ => mul_comm _ _
end

section
open Kernel27Ideal Kernel27Ideal.Gen Kernel27Ideal.Value

section
variable (c : Dev nD) (i : grid0.Coords)
  (a3 : Memref sig .tc .vmem S2048x256 .f32) (h3 : a3.IsWhole)
  (a4 : Memref sig .tc .vmem S2048x256 .bf16) (h4 : a4.IsWhole)
  (a5 : Memref sig .tc .vmem S1x256x256 .bf16) (h5 : a5.IsWhole)
  (a6 : Memref sig .tc .vmem S256x256 .f32) (h6 : a6.IsWhole)
  (x0 : FVec Ideal S2048x256 .f32) (x1 : FVec Ideal S2048x256 .bf16) (s : FVec Ideal S256x256 .f32)

/-- The first point of four starts the accumulator at its own product. -/
theorem first (hA hB) : sout0_A_0 (F := Ideal) c i a3 h3 a4 h4 a5 h5 a6 h6 hA hB x0 x1 = k0_pay2 (F := Ideal) (k0_pay1 (F := Ideal)) x0 x1 := by
  unfold sout0_A_0
  rw [View.read_writes_eq_canon _ _ _ (scover0_A_0 c i a3 h3 a4 h4 a5 h5 a6 h6 hA hB _ _)]
  unfold kernelRun0_A
  dsimp only
  sl_unfold_words
  rw [View.canon_cons_unit_zero hz2]
  simp only [View.readAt_eq_ld, h3.read_unread, h4.read_unread, View.readCov_unit_zero (S := S256x256) _ hz2, View.ld_unit_zero (S := S2048x256) hz2, shapeCast_self]

/-- A later point adds its product. -/
theorem next (hA hB) : sout0_B_0 (F := Ideal) c i a3 h3 a4 h4 a5 h5 a6 h6 hA hB x0 x1 s = k0_pay2 (F := Ideal) s x0 x1 := by
  unfold sout0_B_0
  rw [View.read_writes_eq_canon _ _ _ (scover0_B_0 c i a3 h3 a4 h4 a5 h5 a6 h6 hA hB _ _ _)]
  unfold kernelRun0_B
  dsimp only
  sl_unfold_words
  rw [View.canon_cons_unit_zero hz2]
  simp only [View.readAt_eq_ld, h3.read_unread, h4.read_unread, h6.read_unread, View.ld_unit_zero (S := S256x256) hz2, View.ld_unit_zero (S := S2048x256) hz2, shapeCast_self]

/-- So does the last, -/
theorem last (hA hB) : sout0_C_0 (F := Ideal) c i a3 h3 a4 h4 a5 h5 a6 h6 hA hB x0 x1 s = k0_pay2 (F := Ideal) s x0 x1 := by
  unfold sout0_C_0
  rw [View.read_writes_eq_canon _ _ _ (scover0_C_0 c i a3 h3 a4 h4 a5 h5 a6 h6 hA hB _ _ _)]
  unfold kernelRun0_C
  dsimp only
  sl_unfold_words
  rw [View.canon_cons_unit_zero hz2]
  simp only [View.readAt_eq_ld, h3.read_unread, h4.read_unread, h6.read_unread, View.ld_unit_zero (S := S256x256) hz2, View.ld_unit_zero (S := S2048x256) hz2, shapeCast_self]

/-- which leaves the accumulator in the output's block. -/
theorem out (hA hB) : out0_C_2 (F := Ideal) c i a3 h3 a4 h4 a5 h5 a6 h6 hA hB x0 x1 s = k0_pay3 (F := Ideal) (k0_pay2 (F := Ideal) s x0 x1) := by
  unfold out0_C_2
  rw [View.read_writes_eq_canon _ _ _ (cover0_C_2 c i a3 h3 a4 h4 a5 h5 a6 h6 hA hB _ _ _)]
  unfold kernelRun0_C
  dsimp only
  sl_unfold_words
  rw [View.canon_cons_unit_zero hz3]
  simp only [View.readAt_eq_ld, h3.read_unread, h4.read_unread, h6.read_unread, View.readCov_unit_zero (S := S256x256) _ hz2, View.ld_unit_zero (S := S256x256) hz2, View.ld_unit_zero (S := S2048x256) hz2, shapeCast_self]

/-- One point's step at an index. -/
theorem step (p : Fin 256) (q : Fin 256) : k0_pay2 (F := Ideal) s x0 x1 (ix2 p q) = (s (ix2 p q) + ∑ k : Fin 2048, (x0 (ix2 k p) * x1 (ix2 k q) : EReal) : EReal) := by
  unfold k0_pay2
  pointwise []
/-- The accumulator starts at zero. -/
theorem start (p : Fin 256) (q : Fin 256) : k0_pay1 (F := Ideal) (ix2 p q) = (0 : EReal) := by
  unfold k0_pay1
  pointwise []
/-- The output's block at an index. -/
theorem close (p : Fin 256) (q : Fin 256) : k0_pay3 (F := Ideal) s (ix3 0 p q) = s (ix2 p q) := by
  unfold k0_pay3
  pointwise []
end

variable (m : (ℓ : Loc nD τ sig) → Buf (Elt Ideal) ℓ) (c : Dev nD)

theorem idx : ∀ t : Fin grid0.N, win0_0.index t = ![t.val % 4, t.val / 32] ∧ win0_1.index t = ![t.val % 4, t.val / 4 % 8] ∧
    win0_2.index t = ![t.val / 4 % 8, t.val / 32, 0] := by decide +kernel

theorem at_x (t : Fin cfg0.N) (k : Fin 2048) (i : Fin 256) :
    (win0_0.blk t).view.emb (ix2 k i) = ix2 (n0 := 8192) (n1 := 256) ⟨t.val % 4 * 2048 + k.val, by omega⟩ ⟨t.val / 32 * 256 + i.val, by have := t.isLt; have : cfg0.N = 32 := N_0; omega⟩ := by
  refine funext fun a => Fin.ext ?_
  fin_cases a <;> blk_simp [(idx t).1] <;> rfl
theorem at_u (t : Fin cfg0.N) (k : Fin 2048) (j : Fin 256) :
    (win0_1.blk t).view.emb (ix2 k j) = ix2 (n0 := 8192) (n1 := 2048) ⟨t.val % 4 * 2048 + k.val, by omega⟩ ⟨t.val / 4 % 8 * 256 + j.val, by omega⟩ := by
  refine funext fun a => Fin.ext ?_
  fin_cases a <;> blk_simp [(idx t).2.1] <;> rfl
theorem at_o (t : Fin cfg0.N) (i : Fin 256) (j : Fin 256) :
    (win0_2.blk t).view.emb (ix3 0 i j) = ix3 (n0 := 8) (n1 := 256) (n2 := 256) ⟨t.val / 4 % 8, by omega⟩ ⟨t.val / 32 * 256 + i.val, by have := t.isLt; have : cfg0.N = 32 := N_0; omega⟩ j := by
  refine funext fun a => Fin.ext ?_
  fin_cases a <;> blk_simp [(idx t).2.2] <;> rfl

theorem blk_x (n : Nat) (hn : n < cfg0.N) (b : Nat) (e : n / 32 = b) (hb : b < 1) (k : Fin 2048) (i : Fin 256) :
    iblk m c 0 ⟨n, hn⟩ (ix2 k i) = m ((c : Thread nD τ).loc main_arg0) (ix2 (n0 := 8192) (n1 := 256) ⟨n % 4 * 2048 + k.val, by omega⟩ ⟨b * 256 + i.val, by omega⟩) := by
  subst e
  blk_simp [iblk]
  rw [at_x ⟨n, hn⟩]
theorem blk_u (n : Nat) (hn : n < cfg0.N) (b : Nat) (e : n / 4 % 8 = b) (hb : b < 8) (k : Fin 2048) (j : Fin 256) :
    iblk m c 1 ⟨n, hn⟩ (ix2 k j) = m ((c : Thread nD τ).loc main_arg1) (ix2 (n0 := 8192) (n1 := 2048) ⟨n % 4 * 2048 + k.val, by omega⟩ ⟨b * 256 + j.val, by omega⟩) := by
  subst e
  blk_simp [iblk]
  rw [at_u ⟨n, hn⟩]

/-- The accumulator after the last of four points. -/
theorem scratch (t : Fin cfg0.N) (h3 : t.val % 4 = 3) (i : Fin 256) (j : Fin 256) :
    (outsAt0 m c t.val t.isLt).2 (ix2 i j) = grad (m ((c : Thread nD τ).loc main_arg0)) (m ((c : Thread nD τ).loc main_arg1))
      (ix3 (n0 := 8) (n1 := 256) (n2 := 256) ⟨t.val / 4 % 8, by omega⟩ ⟨t.val / 32 * 256 + i.val, by have := t.isLt; have : cfg0.N = 32 := N_0; omega⟩ j) := by
  have h2 : t.val / 32 < 1 := by have := t.isLt; have : cfg0.N = 32 := N_0; omega
  refine four_steps (fun n hn => (outsAt0 m c n hn).2 (ix2 i j)) _ t.val t.isLt h3 (fun n hn e h0 => ?_) (fun n hn e h0 => ?_)
  · show (outsAt0 m c n hn).2 (ix2 i j) = _
    rw [outsAt0_A m c ⟨n, hn⟩ h0 (by show ¬n % 4 = 3; omega)]
    dsimp only
    rw [first, step, start, zero_add]
    simp only [blk_x m c n hn (t.val / 32) (by omega) h2, blk_u m c n hn (t.val / 4 % 8) (by omega) (by omega)]
    rfl
  · show (outsAt0 m c n hn).2 (ix2 i j) = (outsAt0 m c (n - 1) _).2 (ix2 i j) + _
    by_cases h1 : n % 4 = 3
    · rw [outsAt0_C m c ⟨n, hn⟩ h0 h1]
      dsimp only
      rw [last, step]
      simp only [blk_x m c n hn (t.val / 32) (by omega) h2, blk_u m c n hn (t.val / 4 % 8) (by omega) (by omega)]
      rfl
    · rw [outsAt0_B m c ⟨n, hn⟩ h0 h1]
      dsimp only
      rw [next, step]
      simp only [blk_x m c n hn (t.val / 32) (by omega) h2, blk_u m c n hn (t.val / 4 % 8) (by omega) (by omega)]
      rfl

/-- The whole array the kernel leaves. -/
theorem array : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have e := scratch m c t h3
  blk_simp
  rw [after0_2]
  obtain ⟨i, j, rfl⟩ : ∃ (i : Fin 256) (j : Fin 256), y = ix3 0 i j := ⟨y 1, y 2, funext fun a => by fin_cases a <;> first | rfl | exact Subsingleton.elim (α := Fin 1) _ _⟩
  rw [at_o t, ← e i j, outsAt0_C m c t (by omega) h3]
  dsimp only
  rw [out, last, close]
end

/-- The kernel's result and the reference's agree. -/
theorem algebraic : algebraic_Kernel27Ideal_Reference27Ideal := by
  intro m g m' g' _ hargs
  refine ⟨fun c => grad (m ((c.tc : Thread Kernel27Ideal.nD Kernel27Ideal.τ).loc Kernel27Ideal.main_arg0)) (m ((c.tc : Thread Kernel27Ideal.nD Kernel27Ideal.τ).loc Kernel27Ideal.main_arg1)), ?_, ?_⟩
  · exact (θ_run Kernel27Ideal.defs _ _).mono (fun r h c => ⟨(h c).1.trans (array m c), (h c).2⟩) (Kernel27Ideal.Value.run_blocks m g)
  · refine (θ_run Reference27Ideal.defs _ _).mono (fun r h c => ⟨(h c).1.trans ((reference _ _ ).trans ?_), (h c).2⟩) (Reference27Ideal.Value.run m' g')
    rw [(hargs c).1, (hargs c).2]

/-- The reference ends, its arguments are unchanged and every semaphore reads zero. -/
theorem reference_frame : quiescent_Reference27Ideal := fun m ρ _ =>
  (θ_run Reference27Ideal.defs _ _).mono (fun r h => ⟨fun c => (h c).2, sem_eq_zero_of_no_sems (by decide) r.2⟩) (Reference27Ideal.Value.run m ρ)

end Cert.PleProjDw
-- ==== Proof.GdnBa.lean ====
module

public import proofs.«01_k».proof.Defs
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Value
public import proofs.«01_k».proof.Proof.Gen.Reference28Ideal
public import proofs.«01_k».proof.Proof.Gen.Reference28Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The projection to the delta rule's two gates -/

namespace Cert.GdnBa

open Idealize.ShloMosaic Idealize.ShloMosaic.TcCoe Idealize.SL.Sem Cert.Real Cert.Mixer

/-- The product of the input and the weight. -/
def prod (x : FVec Ideal Kernel28Ideal.S8192x2048 .bf16) (w : FVec Ideal Kernel28Ideal.S2048x128 .bf16) : FVec Ideal Kernel28Ideal.S8192x128 .f32 := fun i =>
  (∑ k : Fin 2048, (x (ix2 (n0 := 8192) (n1 := 2048) (i 0) k) * w (ix2 (n0 := 2048) (n1 := 128) k (i 1))) : EReal)

section
open Reference28Ideal Reference28Ideal.Facts₀

/-- What the reference computes. -/
theorem reference (x : FVec Ideal S8192x2048 .bf16) (w : FVec Ideal S2048x128 .bf16) :
    Host.dotGeneral dot_S8192x2048_S2048x128_S8192x128_1_0_0_1_n_n none (extf .f32 x bitsLt_bf16_f32) (extf .f32 w bitsLt_bf16_f32)
    = prod x w := by
  refine ext2 fun i j => ?_
  pointwise [prod]
end

section
open Kernel28Ideal Kernel28Ideal.Gen Kernel28Ideal.Value

/-- What one point of the grid leaves. -/
theorem point (x0 : FVec Ideal S1024x2048 .bf16) (x1 : FVec Ideal S2048x128 .bf16) (i : Fin 1024) (j : Fin 128) :
    out0_2 (F := Ideal) x0 x1 (ix2 i j) = (∑ k : Fin 2048, (x0 (ix2 i k) * x1 (ix2 k j)) : EReal) := by
  unfold out0_2
  rw [View.canon_cons_unit_zero hz2, View.ld_unit_zero (S := S1024x2048) hz2, View.ld_unit_zero (S := S2048x128) hz2]
  unfold k0_pay1
  pointwise []

variable (m : (ℓ : Loc nD τ sig) → Buf (Elt Ideal) ℓ) (c : Dev nD)

theorem idx : ∀ t : Fin grid0.N, win0_0.index t = ![t.val, 0] ∧ win0_1.index t = ![0, 0] ∧
    win0_2.index t = ![t.val, 0] := by decide +kernel

theorem at_x (t : Fin cfg0.N) (i : Fin 1024) (k : Fin 2048) :
    (win0_0.blk t).view.emb (ix2 i k) = ix2 (n0 := 8192) (n1 := 2048) ⟨t.val * 1024 + i.val, by have := t.isLt; have : cfg0.N = 8 := N_0; omega⟩ k := by
  refine funext fun a => Fin.ext ?_
  fin_cases a <;> blk_simp [(idx t).1] <;> rfl
theorem at_w (t : Fin cfg0.N) (k : Fin 2048) (j : Fin 128) :
    (win0_1.blk t).view.emb (ix2 k j) = ix2 (n0 := 2048) (n1 := 128) k j := by
  refine funext fun a => Fin.ext ?_
  fin_cases a <;> blk_simp [(idx t).2.1] <;> rfl
theorem at_o (t : Fin cfg0.N) (i : Fin 1024) (j : Fin 128) :
    (win0_2.blk t).view.emb (ix2 i j) = ix2 (n0 := 8192) (n1 := 128) ⟨t.val * 1024 + i.val, by have := t.isLt; have : cfg0.N = 8 := N_0; omega⟩ j := by
  refine funext fun a => Fin.ext ?_
  fin_cases a <;> blk_simp [(idx t).2.2] <;> rfl

/-- The whole array the kernel leaves. -/
theorem array : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 128), y = ix2 i j := ⟨y 0, y 1, funext fun a => by fin_cases a <;> rfl⟩
  rw [point]
  blk_simp [iblk]
  rw [at_o t]
  simp only [at_x t, at_w t]
  rfl
end

/-- The kernel's result and the reference's agree. -/
theorem algebraic : algebraic_Kernel28Ideal_Reference28Ideal := by
  intro m g m' g' _ hargs
  refine ⟨fun c => prod (m ((c.tc : Thread Kernel28Ideal.nD Kernel28Ideal.τ).loc Kernel28Ideal.main_arg0)) (m ((c.tc : Thread Kernel28Ideal.nD Kernel28Ideal.τ).loc Kernel28Ideal.main_arg1)), ?_, ?_⟩
  · exact (θ_run Kernel28Ideal.defs _ _).mono (fun r h c => ⟨(h c).1.trans (array m c), (h c).2⟩) (Kernel28Ideal.Value.run_blocks m g)
  · refine (θ_run Reference28Ideal.defs _ _).mono (fun r h c => ⟨(h c).1.trans ((reference _ _ ).trans ?_), (h c).2⟩) (Reference28Ideal.Value.run m' g')
    rw [(hargs c).1, (hargs c).2]

/-- The reference ends, its arguments are unchanged and every semaphore reads zero. -/
theorem reference_frame : quiescent_Reference28Ideal := fun m ρ _ =>
  (θ_run Reference28Ideal.defs _ _).mono (fun r h => ⟨fun c => (h c).2, sem_eq_zero_of_no_sems (by decide) r.2⟩) (Reference28Ideal.Value.run m ρ)

end Cert.GdnBa
-- ==== Proof.GdnBaDw.lean ====
module

public import proofs.«01_k».proof.Defs
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Value
public import proofs.«01_k».proof.Proof.Gen.Reference29Ideal
public import proofs.«01_k».proof.Proof.Gen.Reference29Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The gradient of the weight of the delta rule's projection to the two gates -/

namespace Cert.GdnBaDw

open Idealize.ShloMosaic Idealize.ShloMosaic.TcCoe Idealize.SL.Sem Cert.Real Cert.Mixer

/-- The weight's gradient: at each place the sum over the tokens of the normalised stream and the projection's gradient. -/
def grad (x : FVec Ideal Kernel29Ideal.S8192x2048 .bf16) (d : FVec Ideal Kernel29Ideal.S8192x128 .f32) : FVec Ideal Kernel29Ideal.S2048x128 .bf16 := fun i =>
  (∑ k : Fin 8192, (x (ix2 (n0 := 8192) (n1 := 2048) k (i 0)) * d (ix2 (n0 := 8192) (n1 := 128) k (i 1)) : EReal))

section
open Reference29Ideal Reference29Ideal.Facts₀

/-- What the reference computes. -/
theorem reference (x : FVec Ideal S8192x2048 .bf16) (d : FVec Ideal S8192x128 .f32) :
    truncf .bf16 (transpose S2048x128 [1, 0] (Host.dotGeneral dot_S8192x128_S8192x2048_S128x2048_0_0_1_1_n_n none d
      (extf .f32 x bitsLt_bf16_f32)) transposes_S128x2048_S2048x128_1_0) bitsLt_bf16_f32
    = grad x d := by
  refine ext2 fun i j => ?_
  pointwise [grad]
  exact Finset.sum_congr rfl fun x _ => mul_comm _ _
end

section
open Kernel29Ideal Kernel29Ideal.Gen Kernel29Ideal.Value

section
variable (c : Dev nD) (i : grid0.Coords)
  (a3 : Memref sig .tc .vmem S2048x1024 .bf16) (h3 : a3.IsWhole)
  (a4 : Memref sig .tc .vmem S2048x128 .f32) (h4 : a4.IsWhole)
  (a5 : Memref sig .tc .vmem S1024x128 .bf16) (h5 : a5.IsWhole)
  (a6 : Memref sig .tc .vmem S1024x128 .f32) (h6 : a6.IsWhole)
  (x0 : FVec Ideal S2048x1024 .bf16) (x1 : FVec Ideal S2048x128 .f32) (s : FVec Ideal S1024x128 .f32)

/-- The first point of four starts the accumulator at its own product. -/
theorem first (hA hB) : sout0_A_0 (F := Ideal) c i a3 h3 a4 h4 a5 h5 a6 h6 hA hB x0 x1 = k0_pay2 (F := Ideal) (k0_pay1 (F := Ideal)) x0 x1 := by
  unfold sout0_A_0
  rw [View.read_writes_eq_canon _ _ _ (scover0_A_0 c i a3 h3 a4 h4 a5 h5 a6 h6 hA hB _ _)]
  unfold kernelRun0_A
  dsimp only
  sl_unfold_words
  rw [View.canon_cons_unit_zero hz2]
  simp only [View.readAt_eq_ld, h3.read_unread, h4.read_unread, View.readCov_unit_zero (S := S1024x128) _ hz2, View.ld_unit_zero (S := S2048x1024) hz2, View.ld_unit_zero (S := S2048x128) hz2, shapeCast_self]

/-- A later point adds its product. -/
theorem next (hA hB) : sout0_B_0 (F := Ideal) c i a3 h3 a4 h4 a5 h5 a6 h6 hA hB x0 x1 s = k0_pay2 (F := Ideal) s x0 x1 := by
  unfold sout0_B_0
  rw [View.read_writes_eq_canon _ _ _ (scover0_B_0 c i a3 h3 a4 h4 a5 h5 a6 h6 hA hB _ _ _)]
  unfold kernelRun0_B
  dsimp only
  sl_unfold_words
  rw [View.canon_cons_unit_zero hz2]
  simp only [View.readAt_eq_ld, h3.read_unread, h4.read_unread, h6.read_unread, View.ld_unit_zero (S := S1024x128) hz2, View.ld_unit_zero (S := S2048x1024) hz2, View.ld_unit_zero (S := S2048x128) hz2, shapeCast_self]

/-- So does the last, -/
theorem last (hA hB) : sout0_C_0 (F := Ideal) c i a3 h3 a4 h4 a5 h5 a6 h6 hA hB x0 x1 s = k0_pay2 (F := Ideal) s x0 x1 := by
  unfold sout0_C_0
  rw [View.read_writes_eq_canon _ _ _ (scover0_C_0 c i a3 h3 a4 h4 a5 h5 a6 h6 hA hB _ _ _)]
  unfold kernelRun0_C
  dsimp only
  sl_unfold_words
  rw [View.canon_cons_unit_zero hz2]
  simp only [View.readAt_eq_ld, h3.read_unread, h4.read_unread, h6.read_unread, View.ld_unit_zero (S := S1024x128) hz2, View.ld_unit_zero (S := S2048x1024) hz2, View.ld_unit_zero (S := S2048x128) hz2, shapeCast_self]

/-- which leaves the accumulator in the output's block. -/
theorem out (hA hB) : out0_C_2 (F := Ideal) c i a3 h3 a4 h4 a5 h5 a6 h6 hA hB x0 x1 s = k0_pay3 (F := Ideal) (k0_pay2 (F := Ideal) s x0 x1) := by
  unfold out0_C_2
  rw [View.read_writes_eq_canon _ _ _ (cover0_C_2 c i a3 h3 a4 h4 a5 h5 a6 h6 hA hB _ _ _)]
  unfold kernelRun0_C
  dsimp only
  sl_unfold_words
  rw [View.canon_cons_unit_zero hz2]
  simp only [View.readAt_eq_ld, h3.read_unread, h4.read_unread, View.readCov_unit_zero (S := S1024x128) _ hz2, h6.read_unread, View.ld_unit_zero (S := S1024x128) hz2, View.ld_unit_zero (S := S2048x1024) hz2, View.ld_unit_zero (S := S2048x128) hz2, shapeCast_self]

/-- One point's step at an index. -/
theorem step (p : Fin 1024) (q : Fin 128) : k0_pay2 (F := Ideal) s x0 x1 (ix2 p q) = (s (ix2 p q) + ∑ k : Fin 2048, (x0 (ix2 k p) * x1 (ix2 k q) : EReal) : EReal) := by
  unfold k0_pay2
  pointwise []
/-- The accumulator starts at zero. -/
theorem start (p : Fin 1024) (q : Fin 128) : k0_pay1 (F := Ideal) (ix2 p q) = (0 : EReal) := by
  unfold k0_pay1
  pointwise []
/-- The output's block at an index. -/
theorem close (p : Fin 1024) (q : Fin 128) : k0_pay3 (F := Ideal) s (ix2 p q) = s (ix2 p q) := by
  unfold k0_pay3
  pointwise []
end

variable (m : (ℓ : Loc nD τ sig) → Buf (Elt Ideal) ℓ) (c : Dev nD)

theorem idx : ∀ t : Fin grid0.N, win0_0.index t = ![t.val % 4, t.val / 4] ∧ win0_1.index t = ![t.val % 4, 0] ∧
    win0_2.index t = ![t.val / 4, 0] := by decide +kernel

theorem at_a (t : Fin cfg0.N) (k : Fin 2048) (i : Fin 1024) :
    (win0_0.blk t).view.emb (ix2 k i) = ix2 (n0 := 8192) (n1 := 2048) ⟨t.val % 4 * 2048 + k.val, by omega⟩ ⟨t.val / 4 * 1024 + i.val, by have := t.isLt; have : cfg0.N = 8 := N_0; omega⟩ := by
  refine funext fun a => Fin.ext ?_
  fin_cases a <;> blk_simp [(idx t).1] <;> rfl
theorem at_b (t : Fin cfg0.N) (k : Fin 2048) (j : Fin 128) :
    (win0_1.blk t).view.emb (ix2 k j) = ix2 (n0 := 8192) (n1 := 128) ⟨t.val % 4 * 2048 + k.val, by omega⟩ j := by
  refine funext fun a => Fin.ext ?_
  fin_cases a <;> blk_simp [(idx t).2.1] <;> rfl
theorem at_o (t : Fin cfg0.N) (i : Fin 1024) (j : Fin 128) :
    (win0_2.blk t).view.emb (ix2 i j) = ix2 (n0 := 2048) (n1 := 128) ⟨t.val / 4 * 1024 + i.val, by have := t.isLt; have : cfg0.N = 8 := N_0; omega⟩ j := by
  refine funext fun a => Fin.ext ?_
  fin_cases a <;> blk_simp [(idx t).2.2] <;> rfl

theorem blk_a (n : Nat) (hn : n < cfg0.N) (b : Nat) (e : n / 4 = b) (hb : b < 2) (k : Fin 2048) (i : Fin 1024) :
    iblk m c 0 ⟨n, hn⟩ (ix2 k i) = m ((c : Thread nD τ).loc main_arg0) (ix2 (n0 := 8192) (n1 := 2048) ⟨n % 4 * 2048 + k.val, by omega⟩ ⟨b * 1024 + i.val, by omega⟩) := by
  subst e
  blk_simp [iblk]
  rw [at_a ⟨n, hn⟩]
theorem blk_b (n : Nat) (hn : n < cfg0.N) (k : Fin 2048) (j : Fin 128) :
    iblk m c 1 ⟨n, hn⟩ (ix2 k j) = m ((c : Thread nD τ).loc main_arg1) (ix2 (n0 := 8192) (n1 := 128) ⟨n % 4 * 2048 + k.val, by omega⟩ j) := by
  blk_simp [iblk]
  rw [at_b ⟨n, hn⟩]

/-- The accumulator after the last of four points. -/
theorem scratch (t : Fin cfg0.N) (h3 : t.val % 4 = 3) (i : Fin 1024) (j : Fin 128) :
    (outsAt0 m c t.val t.isLt).2 (ix2 i j) = grad (m ((c : Thread nD τ).loc main_arg0)) (m ((c : Thread nD τ).loc main_arg1))
      (ix2 (n0 := 2048) (n1 := 128) ⟨t.val / 4 * 1024 + i.val, by have := t.isLt; have : cfg0.N = 8 := N_0; omega⟩ j) := by
  have hr : t.val / 4 < 2 := by have := t.isLt; have : cfg0.N = 8 := N_0; omega
  refine four_steps (fun n hn => (outsAt0 m c n hn).2 (ix2 i j)) _ t.val t.isLt h3 (fun n hn e h0 => ?_) (fun n hn e h0 => ?_)
  · show (outsAt0 m c n hn).2 (ix2 i j) = _
    rw [outsAt0_A m c ⟨n, hn⟩ h0 (by show ¬n % 4 = 3; omega)]
    dsimp only
    rw [first, step, start, zero_add]
    simp only [blk_a m c n hn (t.val / 4) (by omega) hr, blk_b m c n hn]
    rfl
  · show (outsAt0 m c n hn).2 (ix2 i j) = (outsAt0 m c (n - 1) _).2 (ix2 i j) + _
    by_cases h1 : n % 4 = 3
    · rw [outsAt0_C m c ⟨n, hn⟩ h0 h1]
      dsimp only
      rw [last, step]
      simp only [blk_a m c n hn (t.val / 4) (by omega) hr, blk_b m c n hn]
      rfl
    · rw [outsAt0_B m c ⟨n, hn⟩ h0 h1]
      dsimp only
      rw [next, step]
      simp only [blk_a m c n hn (t.val / 4) (by omega) hr, blk_b m c n hn]
      rfl

/-- The whole array the kernel leaves. -/
theorem array : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have e := scratch m c t h3
  blk_simp
  rw [after0_2]
  obtain ⟨i, j, rfl⟩ : ∃ (i : Fin 1024) (j : Fin 128), y = ix2 i j := ⟨y 0, y 1, funext fun a => by fin_cases a <;> rfl⟩
  rw [at_o t, ← e i j, outsAt0_C m c t (by omega) h3]
  dsimp only
  rw [out, last, close]
end

/-- The kernel's result and the reference's agree. -/
theorem algebraic : algebraic_Kernel29Ideal_Reference29Ideal := by
  intro m g m' g' _ hargs
  refine ⟨fun c => grad (m ((c.tc : Thread Kernel29Ideal.nD Kernel29Ideal.τ).loc Kernel29Ideal.main_arg0)) (m ((c.tc : Thread Kernel29Ideal.nD Kernel29Ideal.τ).loc Kernel29Ideal.main_arg1)), ?_, ?_⟩
  · exact (θ_run Kernel29Ideal.defs _ _).mono (fun r h c => ⟨(h c).1.trans (array m c), (h c).2⟩) (Kernel29Ideal.Value.run_blocks m g)
  · refine (θ_run Reference29Ideal.defs _ _).mono (fun r h c => ⟨(h c).1.trans ((reference _ _ ).trans ?_), (h c).2⟩) (Reference29Ideal.Value.run m' g')
    rw [(hargs c).1, (hargs c).2]

/-- The reference ends, its arguments are unchanged and every semaphore reads zero. -/
theorem reference_frame : quiescent_Reference29Ideal := fun m ρ _ =>
  (θ_run Reference29Ideal.defs _ _).mono (fun r h => ⟨fun c => (h c).2, sem_eq_zero_of_no_sems (by decide) r.2⟩) (Reference29Ideal.Value.run m ρ)

end Cert.GdnBaDw
-- ==== Proof.GdnBaDx.lean ====
module

public import proofs.«01_k».proof.Defs
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Value
public import proofs.«01_k».proof.Proof.Gen.Reference30Ideal
public import proofs.«01_k».proof.Proof.Gen.Reference30Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The gradient of the gates' projection by its input, added to the gradient that is there -/

namespace Cert.GdnBaDx

open Idealize.ShloMosaic Idealize.ShloMosaic.TcCoe Idealize.SL.Sem Cert.Real Cert.Mixer

/-- The gradient that is there plus the product of the output's gradient and the transposed weight. -/
def sum (d : FVec Ideal Kernel30Ideal.S8192x128 .f32) (w : FVec Ideal Kernel30Ideal.S2048x128 .bf16) (h : FVec Ideal Kernel30Ideal.S8192x2048 .f32) :
    FVec Ideal Kernel30Ideal.S8192x2048 .f32 := fun i =>
  (h i + ∑ k : Fin 128, (d (ix2 (n0 := 8192) (n1 := 128) (i 0) k) * w (ix2 (n0 := 2048) (n1 := 128) (i 1) k) : EReal) : EReal)

section
open Reference30Ideal Reference30Ideal.Facts₀

/-- What the reference computes. -/
theorem reference (d : FVec Ideal S8192x128 .f32) (w : FVec Ideal S2048x128 .bf16) (h : FVec Ideal S8192x2048 .f32) :
    addf h (Host.dotGeneral dot_S8192x128_S2048x128_S8192x2048_1_1_0_0_n_n none d (extf .f32 w bitsLt_bf16_f32))
    = sum d w h := by
  refine ext2 fun i j => ?_
  pointwise [sum]
end

section
open Kernel30Ideal Kernel30Ideal.Gen Kernel30Ideal.Value

/-- What one point of the grid leaves. -/
theorem point (x0 : FVec Ideal S1024x128 .f32) (x1 : FVec Ideal S1024x128 .bf16) (x2 : FVec Ideal S1024x1024 .f32) (i j : Fin 1024) :
    out0_3 (F := Ideal) x0 x1 x2 (ix2 i j) = (x2 (ix2 i j) + ∑ k : Fin 128, (x0 (ix2 i k) * x1 (ix2 j k) : EReal) : EReal) := by
  unfold out0_3
  rw [View.canon_cons_unit_zero hz2]
  simp only [View.ld_unit_zero (S := S1024x128) hz2, View.ld_unit_zero (S := S1024x1024) hz2]
  unfold k0_pay1
  pointwise []

variable (m : (ℓ : Loc nD τ sig) → Buf (Elt Ideal) ℓ) (c : Dev nD)

theorem idx : ∀ t : Fin grid0.N, win0_0.index t = ![t.val / 2, 0] ∧ win0_1.index t = ![t.val % 2, 0] ∧
    win0_2.index t = ![t.val / 2, t.val % 2] ∧ win0_3.index t = ![t.val / 2, t.val % 2] := by decide +kernel

theorem at_d (t : Fin cfg0.N) (i : Fin 1024) (k : Fin 128) :
    (win0_0.blk t).view.emb (ix2 i k) = ix2 (n0 := 8192) (n1 := 128) ⟨t.val / 2 * 1024 + i.val, by have := t.isLt; have : cfg0.N = 16 := N_0; omega⟩ k := by
  refine funext fun a => Fin.ext ?_
  fin_cases a <;> blk_simp [(idx t).1] <;> rfl
theorem at_w (t : Fin cfg0.N) (j : Fin 1024) (k : Fin 128) :
    (win0_1.blk t).view.emb (ix2 j k) = ix2 (n0 := 2048) (n1 := 128) ⟨t.val % 2 * 1024 + j.val, by omega⟩ k := by
  refine funext fun a => Fin.ext ?_
  fin_cases a <;> blk_simp [(idx t).2.1] <;> rfl
theorem at_h (t : Fin cfg0.N) (i j : Fin 1024) :
    (win0_2.blk t).view.emb (ix2 i j) = ix2 (n0 := 8192) (n1 := 2048) ⟨t.val / 2 * 1024 + i.val, by have := t.isLt; have : cfg0.N = 16 := N_0; omega⟩ ⟨t.val % 2 * 1024 + j.val, by omega⟩ := by
  refine funext fun a => Fin.ext ?_
  fin_cases a <;> blk_simp [(idx t).2.2.1] <;> rfl
theorem at_o (t : Fin cfg0.N) (i j : Fin 1024) :
    (win0_3.blk t).view.emb (ix2 i j) = ix2 (n0 := 8192) (n1 := 2048) ⟨t.val / 2 * 1024 + i.val, by have := t.isLt; have : cfg0.N = 16 := N_0; omega⟩ ⟨t.val % 2 * 1024 + j.val, by omega⟩ := by
  refine funext fun a => Fin.ext ?_
  fin_cases a <;> blk_simp [(idx t).2.2.2] <;> rfl

/-- The whole array the kernel leaves. -/
theorem array : (dats m 0 c).arrAt 3 cfg0.N = sum (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨i, j, rfl⟩ : ∃ (i j : Fin 1024), y = ix2 i j := ⟨y 0, y 1, funext fun a => by fin_cases a <;> rfl⟩
  rw [point]
  blk_simp [iblk]
  rw [at_o t]
  simp only [at_d t, at_w t, at_h t]
  rfl
end

/-- The kernel's result and the reference's agree. -/
theorem algebraic : algebraic_Kernel30Ideal_Reference30Ideal := by
  intro m g m' g' _ hargs
  refine ⟨fun c => sum (m ((c.tc : Thread Kernel30Ideal.nD Kernel30Ideal.τ).loc Kernel30Ideal.main_arg0)) (m ((c.tc : Thread Kernel30Ideal.nD Kernel30Ideal.τ).loc Kernel30Ideal.main_arg1)) (m ((c.tc : Thread Kernel30Ideal.nD Kernel30Ideal.τ).loc Kernel30Ideal.main_arg2)), ?_, ?_⟩
  · exact (θ_run Kernel30Ideal.defs _ _).mono (fun r h c => ⟨(h c).1.trans (array m c), (h c).2⟩) (Kernel30Ideal.Value.run_blocks m g)
  · refine (θ_run Reference30Ideal.defs _ _).mono (fun r h c => ⟨(h c).1.trans ((reference _ _ _ ).trans ?_), (h c).2⟩) (Reference30Ideal.Value.run m' g')
    rw [(hargs c).1, (hargs c).2.1, (hargs c).2.2]

/-- The reference ends, its arguments are unchanged and every semaphore reads zero. -/
theorem reference_frame : quiescent_Reference30Ideal := fun m ρ _ =>
  (θ_run Reference30Ideal.defs _ _).mono (fun r h => ⟨fun c => (h c).2, sem_eq_zero_of_no_sems (by decide) r.2⟩) (Reference30Ideal.Value.run m ρ)

end Cert.GdnBaDx
-- ==== Proof.PleFwd.lean ====
module

public import proofs.«01_k».proof.Defs
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Value
public import proofs.«01_k».proof.Proof.Gen.Reference31Ideal
public import proofs.«01_k».proof.Proof.Gen.Reference31Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The per-layer embeddings, gated and added to the residual -/

namespace Cert.PleFwd

open Idealize.ShloMosaic Idealize.ShloMosaic.TcCoe Idealize.SL.Sem Cert.Real Cert.Mixer

/-- The residual plus the gated embedding. -/
def out (h s p : FVec Ideal Kernel31Ideal.S8192x2048 .f32) : FVec Ideal Kernel31Ideal.S8192x2048 .f32 := fun i => (h i + Ideal.logistic (s i) * p i : EReal)

section
open Reference31Ideal Reference31Ideal.Facts₀

/-- What the reference computes. -/
theorem reference (h s p : FVec Ideal S8192x2048 .f32) :
    addf h (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf s)))) p)
    = out h s p := by
  refine ext2 fun i j => ?_
  pointwise [out]
  rfl
end

/-- What the kernel leaves. -/
theorem kernel (h s p : FVec Ideal Kernel31Ideal.S8192x2048 .f32) : Kernel31Ideal.Value.G3 (F := Ideal) h s p = out h s p := by
  refine ext2 fun i j => ?_
  pointwise [Kernel31Ideal.Value.G3, out]

/-- The kernel's result and the reference's agree. -/
theorem algebraic : algebraic_Kernel31Ideal_Reference31Ideal := by
  intro m g m' g' _ hargs
  refine ⟨fun c => out (m ((c.tc : Thread Kernel31Ideal.nD Kernel31Ideal.τ).loc Kernel31Ideal.main_arg0)) (m ((c.tc : Thread Kernel31Ideal.nD Kernel31Ideal.τ).loc Kernel31Ideal.main_arg1)) (m ((c.tc : Thread Kernel31Ideal.nD Kernel31Ideal.τ).loc Kernel31Ideal.main_arg2)), ?_, ?_⟩
  · exact (θ_run Kernel31Ideal.defs _ _).mono (fun r h c => ⟨(h c).1.trans (kernel _ _ _), (h c).2⟩) (Kernel31Ideal.Value.run m g)
  · refine (θ_run Reference31Ideal.defs _ _).mono (fun r h c => ⟨(h c).1.trans ((reference _ _ _ ).trans ?_), (h c).2⟩) (Reference31Ideal.Value.run m' g')
    rw [(hargs c).1, (hargs c).2.1, (hargs c).2.2]

/-- The reference ends, its arguments are unchanged and every semaphore reads zero. -/
theorem reference_frame : quiescent_Reference31Ideal := fun m ρ _ =>
  (θ_run Reference31Ideal.defs _ _).mono (fun r h => ⟨fun c => (h c).2, sem_eq_zero_of_no_sems (by decide) r.2⟩) (Reference31Ideal.Value.run m ρ)

end Cert.PleFwd
-- ==== Proof.PleBwd.lean ====
module

public import proofs.«01_k».proof.Defs
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Value
public import proofs.«01_k».proof.Proof.Gen.Reference32Ideal
public import proofs.«01_k».proof.Proof.Gen.Reference32Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The gradient of the gated embeddings -/

namespace Cert.PleBwd

open Idealize.ShloMosaic Idealize.ShloMosaic.TcCoe Idealize.SL.Sem Cert.Real Cert.Mixer

/-- The gradient by the gate's argument. -/
def dgate (d s p : FVec Ideal Kernel32Ideal.S8192x2048 .f32) : FVec Ideal Kernel32Ideal.S8192x2048 .bf16 := fun i => (d i * p i * (Ideal.logistic (s i) * (1 - Ideal.logistic (s i))) : EReal)

/-- The gradient by the embedding's projection. -/
def demb (d s : FVec Ideal Kernel32Ideal.S8192x2048 .f32) : FVec Ideal Kernel32Ideal.S8192x2048 .bf16 := fun i => (d i * Ideal.logistic (s i) : EReal)

section
open Reference32Ideal Reference32Ideal.Facts₀

/-- What the reference's first result computes. -/
theorem reference_gate (d s p : FVec Ideal S8192x2048 .f32) :
    truncf .bf16 (mulf (mulf d p) (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf s)))) (subf (broadcastInDim S8192x2048 ![] bcast_S_S8192x2048 (constant S_ .f32 0x3F800000#32)) (Host.divf (broadcastInDim S8192x2048 ![] bcast_S_S8192x2048 (constant S_ .f32 0x3F800000#32)) (addf (broadcastInDim S8192x2048 ![] bcast_S_S8192x2048 (constant S_ .f32 0x3F800000#32)) (Host.exp (Host.negf s))))))) bitsLt_bf16_f32
    = dgate d s p := by
  refine ext2 fun i j => ?_
  pointwise [dgate]
  rfl
end

section
open Reference32Ideal Reference32Ideal.Facts₀

/-- What its second computes. -/
theorem reference_emb (d s : FVec Ideal S8192x2048 .f32) :
    truncf .bf16 (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf s)))) d) bitsLt_bf16_f32
    = demb d s := by
  refine ext2 fun i j => ?_
  pointwise [demb]
  exact mul_comm _ _
end

/-- What the kernel leaves in its first result. -/
theorem kernel_gate (d s p : FVec Ideal Kernel32Ideal.S8192x2048 .f32) : Kernel32Ideal.Value.G3 (F := Ideal) d s p = dgate d s p := by
  refine ext2 fun i j => ?_
  pointwise [Kernel32Ideal.Value.G3, dgate]
  exact mul_assoc _ _ _

/-- What it leaves in its second. -/
theorem kernel_emb (d s : FVec Ideal Kernel32Ideal.S8192x2048 .f32) : Kernel32Ideal.Value.G4 (F := Ideal) d s = demb d s := by
  refine ext2 fun i j => ?_
  pointwise [Kernel32Ideal.Value.G4, demb]

/-- The kernel's results and the reference's agree. -/
theorem algebraic : algebraic_Kernel32Ideal_Reference32Ideal := by
  intro m g m' g' _ hargs
  refine ⟨fun c => dgate (m ((c.tc : Thread Kernel32Ideal.nD Kernel32Ideal.τ).loc Kernel32Ideal.main_arg0)) (m ((c.tc : Thread Kernel32Ideal.nD Kernel32Ideal.τ).loc Kernel32Ideal.main_arg1)) (m ((c.tc : Thread Kernel32Ideal.nD Kernel32Ideal.τ).loc Kernel32Ideal.main_arg2)),
    fun c => demb (m ((c.tc : Thread Kernel32Ideal.nD Kernel32Ideal.τ).loc Kernel32Ideal.main_arg0)) (m ((c.tc : Thread Kernel32Ideal.nD Kernel32Ideal.τ).loc Kernel32Ideal.main_arg1)), ?_, ?_⟩
  · exact (θ_run Kernel32Ideal.defs _ _).mono (fun r h c => ⟨(h c).1.trans (kernel_gate _ _ _), (h c).2.1.trans (kernel_emb _ _), (h c).2.2⟩) (Kernel32Ideal.Value.run m g)
  · refine (θ_run Reference32Ideal.defs _ _).mono (fun r h c => ⟨(h c).1.trans ((reference_gate _ _ _ ).trans ?_), (h c).2.1.trans ((reference_emb _ _ ).trans ?_), (h c).2.2⟩) (Reference32Ideal.Value.run m' g')
    · rw [(hargs c).1, (hargs c).2.1, (hargs c).2.2]
    · rw [(hargs c).1, (hargs c).2.1]

/-- The reference ends, its arguments are unchanged and every semaphore reads zero. -/
theorem reference_frame : quiescent_Reference32Ideal := fun m ρ _ =>
  (θ_run Reference32Ideal.defs _ _).mono (fun r h => ⟨fun c => (h c).2.2, sem_eq_zero_of_no_sems (by decide) r.2⟩) (Reference32Ideal.Value.run m ρ)

end Cert.PleBwd
-- ==== Proof.S5GateFwd.lean ====
module

public import proofs.«01_k».proof.Defs
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Value
public import proofs.«01_k».proof.Proof.Gen.Reference33Ideal
public import proofs.«01_k».proof.Proof.Gen.Reference33Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The gated S5 output, added to the residual -/

namespace Cert.S5GateFwd

open Idealize.ShloMosaic Idealize.ShloMosaic.TcCoe Idealize.SL.Sem Cert.Real Cert.Mixer

/-- The residual plus the gated value. The value is the first half of a row, the gate's argument the second. -/
def out (h : FVec Ideal Kernel33Ideal.S8192x2048 .f32) (v : FVec Ideal Kernel33Ideal.S8192x4096 .f32) : FVec Ideal Kernel33Ideal.S8192x2048 .f32 := fun i =>
  (h i + v (ix2 (n0 := 8192) (n1 := 4096) (i 0) ⟨(i 1).val, by have h : (i 1).val < 2048 := (i 1).isLt; omega⟩)
    * Ideal.logistic (v (ix2 (n0 := 8192) (n1 := 4096) (i 0) ⟨2048 + (i 1).val, by have h : (i 1).val < 2048 := (i 1).isLt; omega⟩)) : EReal)

section
open Reference33Ideal Reference33Ideal.Facts₀

/-- What the reference computes. -/
theorem reference (h : FVec Ideal S8192x2048 .f32) (v : FVec Ideal S8192x4096 .f32) :
    addf h (mulf (extractStridedSlice S8192x2048 ![0, 0] v slices_S8192x4096_S8192x2048_0_0) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 2048] v slices_S8192x4096_S8192x2048_0_2048))))))
    = out h v := by
  refine ext2 fun i j => ?_
  pointwise [out]
  rfl
end

/-- What the kernel leaves. -/
theorem kernel (h : FVec Ideal Kernel33Ideal.S8192x2048 .f32) (v : FVec Ideal Kernel33Ideal.S8192x4096 .f32) : Kernel33Ideal.Value.G3 (F := Ideal) h v v = out h v := by
  refine ext2 fun i j => ?_
  show (h _ + v _ * Ideal.logistic (v _) : EReal) = _
  rw [show Kernel33Ideal.Value.inIdx3_1 (ix2 i j) = ix2 (n0 := 8192) (n1 := 4096) i ⟨j.val, by omega⟩ from funext fun a => by fin_cases a <;> rfl,
    show Kernel33Ideal.Value.inIdx3_2 (ix2 i j) = ix2 (n0 := 8192) (n1 := 4096) i ⟨2048 + j.val, by omega⟩ from funext fun a => Fin.ext (by fin_cases a; exacts [rfl, Nat.add_comm _ _])]
  rfl

/-- The kernel's result and the reference's agree. -/
theorem algebraic : algebraic_Kernel33Ideal_Reference33Ideal := by
  intro m g m' g' _ hargs
  refine ⟨fun c => out (m ((c.tc : Thread Kernel33Ideal.nD Kernel33Ideal.τ).loc Kernel33Ideal.main_arg0)) (m ((c.tc : Thread Kernel33Ideal.nD Kernel33Ideal.τ).loc Kernel33Ideal.main_arg1)), ?_, ?_⟩
  · exact (θ_run Kernel33Ideal.defs _ _).mono (fun r h c => ⟨(h c).1.trans (kernel _ _), (h c).2⟩) (Kernel33Ideal.Value.run m g)
  · refine (θ_run Reference33Ideal.defs _ _).mono (fun r h c => ⟨(h c).1.trans ((reference _ _ ).trans ?_), (h c).2⟩) (Reference33Ideal.Value.run m' g')
    rw [(hargs c).1, (hargs c).2]

/-- The reference ends, its arguments are unchanged and every semaphore reads zero. -/
theorem reference_frame : quiescent_Reference33Ideal := fun m ρ _ =>
  (θ_run Reference33Ideal.defs _ _).mono (fun r h => ⟨fun c => (h c).2, sem_eq_zero_of_no_sems (by decide) r.2⟩) (Reference33Ideal.Value.run m ρ)

end Cert.S5GateFwd
-- ==== Proof.S5GateBwd.lean ====
module

public import proofs.«01_k».proof.Defs
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Value
public import proofs.«01_k».proof.Proof.Gen.Reference34Ideal
public import proofs.«01_k».proof.Proof.Gen.Reference34Ideal.Run
public import proofs.«01_k».proof.Proof.Mixer
public import Idealize.ShloMosaic.Lib.Pipeline.ValueKit.Geometry
public import Idealize.ShloMosaic.Lib.Pipeline.Value
public import Idealize.ShloMosaic.Lib.Tactic
public import Idealize.ShloMosaic.Lib.Pointwise
public import Idealize.ShloMosaic.Lib.StableHlo.RunRead

@[expose] public section

noncomputable section

/-! # The gradient of the gated S5 output -/

namespace Cert.S5GateBwd

open Idealize.ShloMosaic Idealize.ShloMosaic.TcCoe Idealize.SL.Sem Cert.Real Cert.Mixer

/-- The gradient by the value, from the gradient `d` of the gated value and the gate's argument `g`. -/
def dval (d g : EReal) : EReal := d * Ideal.logistic g

/-- The gradient by the gate's argument, from the gradient `d` of the gated value, the value `v` and the gate's argument `g`. -/
def dgate (d v g : EReal) : EReal := d * v * Ideal.logistic g * (1 - Ideal.logistic g)

/-- The gradient by both: the first half of a row is the value's, the second the gate's. -/
def grad (d : FVec Ideal Kernel34Ideal.S8192x2048 .f32) (v : FVec Ideal Kernel34Ideal.S8192x4096 .f32) : FVec Ideal Kernel34Ideal.S8192x4096 .bf16 := fun i =>
  if h : (i 1).val < 2048 then
    dval (d (ix2 (n0 := 8192) (n1 := 2048) (i 0) ⟨(i 1).val, h⟩)) (v (ix2 (n0 := 8192) (n1 := 4096) (i 0) ⟨2048 + (i 1).val, by omega⟩))
  else
    dgate (d (ix2 (n0 := 8192) (n1 := 2048) (i 0) ⟨(i 1).val - 2048, by have h : (i 1).val < 4096 := (i 1).isLt; omega⟩))
      (v (ix2 (n0 := 8192) (n1 := 4096) (i 0) ⟨(i 1).val - 2048, by have h : (i 1).val < 4096 := (i 1).isLt; omega⟩)) (v (ix2 (n0 := 8192) (n1 := 4096) (i 0) (i 1)))

section
open Reference34Ideal Reference34Ideal.Facts₀

/-- What the reference computes. -/
theorem reference (d : FVec Ideal S8192x2048 .f32) (v : FVec Ideal S8192x4096 .f32) :
    truncf .bf16 (addf (pad S8192x4096 ![0, 2048] ![0, 0] ![0, 0] (mulf (mulf (extractStridedSlice S8192x2048 ![0, 0] v slices_S8192x4096_S8192x2048_0_0) d) (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 2048] v slices_S8192x4096_S8192x2048_0_2048))))) (subf (broadcastInDim S8192x2048 ![] bcast_S_S8192x2048 (constant S_ .f32 0x3F800000#32)) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 2048] v slices_S8192x4096_S8192x2048_0_2048))))))))
        (constant S_ .f32 0x00000000#32) pads_S8192x2048_S8192x4096_000_204800 h_S_)
      (pad S8192x4096 ![0, 0] ![0, 2048] ![0, 0] (mulf d (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 2048] v slices_S8192x4096_S8192x2048_0_2048)))))) (constant S_ .f32 0x00000000#32) pads_S8192x2048_S8192x4096_000_020480 h_S_)) bitsLt_bf16_f32
    = grad d v := by
  refine ext2 fun i j => ?_
  pointwise [grad]
  split_ifs with h0 h1 h1
  · omega
  · have e : (⟨2048 + (j.val - 2048), by omega⟩ : Fin 4096) = j := Fin.ext (by show 2048 + (j.val - 2048) = j.val; omega)
    rw [add_zero, e, mul_comm (v _)]
    exact (mul_assoc _ _ _).symm
  · exact zero_add _
  · omega
end

section
open Kernel34Ideal Kernel34Ideal.Gen Kernel34Ideal.Value

/-- A load of the whole block is the block. -/
theorem whole (x : FVec Ideal S256x2048 .f32) : View.ld (S := S256x2048) (Val := Elt Ideal) (e' := .f32) x r0_0 = x := View.ld_unit_zero (S := S256x2048) hz2 _ _

/-- What one point of the grid leaves. -/
def row (x0 x1 x2 : FVec Ideal S256x2048 .f32) : FVec Ideal S256x4096 .bf16 := fun i =>
  if h : (i 1).val < 2048 then dval (x0 (ix2 (n0 := 256) (n1 := 2048) (i 0) ⟨(i 1).val, h⟩)) (x2 (ix2 (n0 := 256) (n1 := 2048) (i 0) ⟨(i 1).val, h⟩))
  else dgate (x0 (ix2 (n0 := 256) (n1 := 2048) (i 0) ⟨(i 1).val - 2048, by have h : (i 1).val < 4096 := (i 1).isLt; omega⟩))
    (x1 (ix2 (n0 := 256) (n1 := 2048) (i 0) ⟨(i 1).val - 2048, by have h : (i 1).val < 4096 := (i 1).isLt; omega⟩))
    (x2 (ix2 (n0 := 256) (n1 := 2048) (i 0) ⟨(i 1).val - 2048, by have h : (i 1).val < 4096 := (i 1).isLt; omega⟩))

/-- The two stores of a point, put together. -/
theorem point (x0 x1 x2 : FVec Ideal S256x2048 .f32) : out0_3 (F := Ideal) x0 x1 x2 = row x0 x1 x2 := by
  funext y
  unfold out0_3
  refine View.canon_apply_of_pieces (Val := Elt Ideal) (S := S256x4096) (e := .bf16) (row x0 x1 x2) _ (fun p hp => ?_) y (cover0_3 _ _ y)
  rcases List.mem_cons.mp hp with rfl | hp
  · intro x
    obtain ⟨i, j, rfl⟩ : ∃ (i : Fin 256) (j : Fin 2048), x = ix2 i j := ⟨x 0, x 1, funext fun a => by fin_cases a <;> rfl⟩
    have e : r0_2.emb (ix2 i j) = ix2 (n0 := 256) (n1 := 4096) i ⟨2048 + j.val, by omega⟩ := funext fun a => Fin.ext (by
      fin_cases a
      · show 0 + 1 * i.val = i.val; omega
      · show 2048 + 1 * j.val = 2048 + j.val; omega)
    show k0_pay3 (F := Ideal) _ _ _ (ix2 i j) = row x0 x1 x2 (r0_2.emb (ix2 i j))
    rw [e, whole, whole, whole]
    unfold k0_pay3 k0_pay1
    pointwise [row, dgate]
  · obtain rfl := List.mem_singleton.mp hp
    intro x
    obtain ⟨i, j, rfl⟩ : ∃ (i : Fin 256) (j : Fin 2048), x = ix2 i j := ⟨x 0, x 1, funext fun a => by fin_cases a <;> rfl⟩
    have e : r0_1.emb (ix2 i j) = ix2 (n0 := 256) (n1 := 4096) i ⟨j.val, by omega⟩ := funext fun a => Fin.ext (by
      fin_cases a
      · show 0 + 1 * i.val = i.val; omega
      · show 0 + 1 * j.val = j.val; omega)
    show k0_pay2 (F := Ideal) _ _ (ix2 i j) = row x0 x1 x2 (r0_1.emb (ix2 i j))
    rw [e, whole, whole]
    unfold k0_pay2 k0_pay1
    pointwise [row, dval]

variable (m : (ℓ : Loc nD τ sig) → Buf (Elt Ideal) ℓ) (c : Dev nD)

theorem idx : ∀ t : Fin grid0.N, win0_0.index t = ![t.val, 0] ∧ win0_1.index t = ![t.val, 0] ∧
    win0_2.index t = ![t.val, 1] ∧ win0_3.index t = ![t.val, 0] := by decide +kernel

theorem at_d (t : Fin cfg0.N) (i : Fin 256) (j : Fin 2048) :
    (win0_0.blk t).view.emb (ix2 i j) = ix2 (n0 := 8192) (n1 := 2048) ⟨t.val * 256 + i.val, by have := t.isLt; have : cfg0.N = 32 := N_0; omega⟩ j := by
  refine funext fun a => Fin.ext ?_
  fin_cases a <;> blk_simp [(idx t).1] <;> rfl
theorem at_v (t : Fin cfg0.N) (i : Fin 256) (j : Fin 2048) :
    (win0_1.blk t).view.emb (ix2 i j) = ix2 (n0 := 8192) (n1 := 4096) ⟨t.val * 256 + i.val, by have := t.isLt; have : cfg0.N = 32 := N_0; omega⟩ ⟨j.val, by omega⟩ := by
  refine funext fun a => Fin.ext ?_
  fin_cases a <;> blk_simp [(idx t).2.1] <;> rfl
theorem at_g (t : Fin cfg0.N) (i : Fin 256) (j : Fin 2048) :
    (win0_2.blk t).view.emb (ix2 i j) = ix2 (n0 := 8192) (n1 := 4096) ⟨t.val * 256 + i.val, by have := t.isLt; have : cfg0.N = 32 := N_0; omega⟩ ⟨2048 + j.val, by omega⟩ := by
  refine funext fun a => Fin.ext ?_
  fin_cases a <;> blk_simp [(idx t).2.2.1] <;> rfl
theorem at_o (t : Fin cfg0.N) (i : Fin 256) (j : Fin 4096) :
    (win0_3.blk t).view.emb (ix2 i j) = ix2 (n0 := 8192) (n1 := 4096) ⟨t.val * 256 + i.val, by have := t.isLt; have : cfg0.N = 32 := N_0; omega⟩ j := by
  refine funext fun a => Fin.ext ?_
  fin_cases a <;> blk_simp [(idx t).2.2.2] <;> rfl

/-- The whole array the kernel leaves. -/
theorem array : (dats m 0 c).arrAt 3 cfg0.N = grad (m ((c : Thread nD τ).loc main_arg0)) (m ((c : Thread nD τ).loc main_arg1)) := by
  refine (dats m 0 c).arrAt_eq_of_covers 3 _ (by decide +kernel) fun t hf y => ?_
  blk_simp
  rw [after0_3]
  obtain ⟨i, j, rfl⟩ : ∃ (i : Fin 256) (j : Fin 4096), y = ix2 i j := ⟨y 0, y 1, funext fun a => by fin_cases a <;> rfl⟩
  rw [point, at_o t]
  unfold row grad
  by_cases h : j.val < 2048
  · rw [dif_pos (show ((ix2 (n0 := 256) (n1 := 4096) i j) 1).val < 2048 from h), dif_pos (show ((ix2 (n0 := 8192) (n1 := 4096) _ j) 1).val < 2048 from h)]
    blk_simp [iblk]
    exact congrArg₂ dval (congrArg (m ((c : Thread nD τ).loc main_arg0)) (at_d t i ⟨j.val, h⟩)) (congrArg (m ((c : Thread nD τ).loc main_arg1)) (at_g t i ⟨j.val, h⟩))
  · rw [dif_neg (show ¬((ix2 (n0 := 256) (n1 := 4096) i j) 1).val < 2048 from h), dif_neg (show ¬((ix2 (n0 := 8192) (n1 := 4096) _ j) 1).val < 2048 from h)]
    blk_simp [iblk]
    exact congr (congrArg₂ dgate (congrArg (m ((c : Thread nD τ).loc main_arg0)) (at_d t i ⟨j.val - 2048, by omega⟩)) (congrArg (m ((c : Thread nD τ).loc main_arg1)) (at_v t i ⟨j.val - 2048, by omega⟩)))
      (congrArg (m ((c : Thread nD τ).loc main_arg1)) ((at_g t i ⟨j.val - 2048, by omega⟩).trans (congrArg (ix2 _) (Fin.ext (by show 2048 + (j.val - 2048) = j.val; omega)))))
end

/-- The kernel's result and the reference's agree. -/
theorem algebraic : algebraic_Kernel34Ideal_Reference34Ideal := by
  intro m g m' g' _ hargs
  refine ⟨fun c => grad (m ((c.tc : Thread Kernel34Ideal.nD Kernel34Ideal.τ).loc Kernel34Ideal.main_arg0)) (m ((c.tc : Thread Kernel34Ideal.nD Kernel34Ideal.τ).loc Kernel34Ideal.main_arg1)), ?_, ?_⟩
  · exact (θ_run Kernel34Ideal.defs _ _).mono (fun r h c => ⟨(h c).1.trans (array m c), (h c).2⟩) (Kernel34Ideal.Value.run_blocks m g)
  · refine (θ_run Reference34Ideal.defs _ _).mono (fun r h c => ⟨(h c).1.trans ((reference _ _ ).trans ?_), (h c).2⟩) (Reference34Ideal.Value.run m' g')
    rw [(hargs c).1, (hargs c).2]

/-- The reference ends, its arguments are unchanged and every semaphore reads zero. -/
theorem reference_frame : quiescent_Reference34Ideal := fun m ρ _ =>
  (θ_run Reference34Ideal.defs _ _).mono (fun r h => ⟨fun c => (h c).2, sem_eq_zero_of_no_sems (by decide) r.2⟩) (Reference34Ideal.Value.run m ρ)

end Cert.S5GateBwd
-- ==== Proof.lean ====
/-
  The proof of the certificate. The kernel's five results are the chunked backward pass on real arrays
  (Proof/KernelValue.lean), the reference's are the same (Proof/RefLoops.lean) once its two saved arguments are what the
  forward pass computes, which the precondition says (Proof/PreValue.lean). The six products of the channel mixer are proved in
  Proof/DownDx.lean, DownDw, UpDx, UpDw, Up and Down, with what they share in Proof/Mixer.lean, and the nine products of the delta
  rule's projections in Proof/GdnQkv.lean, GdnZ, GdnQkvDw, GdnZDw, GdnQkvDx, GdnZDx, GdnOutDx, GdnOutDw and GdnOut.
  The products of the S5 block are in Proof/S5In.lean, S5InDw, S5InDx, S5Out, S5OutDw and S5OutDx and its gate in S5GateFwd and
  S5GateBwd, those of the per-layer embeddings in PleGate, PleGateDw, PleGateDx, PleProj and PleProjDw and their gate in PleFwd and
  PleBwd, and the products for the delta rule's two gates in GdnBa, GdnBaDw and GdnBaDx.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_saved_by_forward
public import proofs.«01_k».proof.Proof.KernelValue
public import proofs.«01_k».proof.Proof.RefLoops
public import proofs.«01_k».proof.Proof.PreValue
public import proofs.«01_k».proof.Proof.DownDx
public import proofs.«01_k».proof.Proof.DownDw
public import proofs.«01_k».proof.Proof.UpDx
public import proofs.«01_k».proof.Proof.UpDw
public import proofs.«01_k».proof.Proof.Up
public import proofs.«01_k».proof.Proof.Down
public import proofs.«01_k».proof.Proof.GdnQkv
public import proofs.«01_k».proof.Proof.GdnZ
public import proofs.«01_k».proof.Proof.GdnQkvDw
public import proofs.«01_k».proof.Proof.GdnZDw
public import proofs.«01_k».proof.Proof.GdnQkvDx
public import proofs.«01_k».proof.Proof.GdnZDx
public import proofs.«01_k».proof.Proof.GdnOutDx
public import proofs.«01_k».proof.Proof.GdnOutDw
public import proofs.«01_k».proof.Proof.GdnOut
public import proofs.«01_k».proof.Proof.S5In
public import proofs.«01_k».proof.Proof.S5InDw
public import proofs.«01_k».proof.Proof.S5InDx
public import proofs.«01_k».proof.Proof.S5Out
public import proofs.«01_k».proof.Proof.S5OutDw
public import proofs.«01_k».proof.Proof.S5OutDx
public import proofs.«01_k».proof.Proof.PleGate
public import proofs.«01_k».proof.Proof.PleGateDw
public import proofs.«01_k».proof.Proof.PleGateDx
public import proofs.«01_k».proof.Proof.PleProj
public import proofs.«01_k».proof.Proof.PleProjDw
public import proofs.«01_k».proof.Proof.GdnBa
public import proofs.«01_k».proof.Proof.GdnBaDw
public import proofs.«01_k».proof.Proof.GdnBaDx
public import proofs.«01_k».proof.Proof.PleFwd
public import proofs.«01_k».proof.Proof.PleBwd
public import proofs.«01_k».proof.Proof.S5GateFwd
public import proofs.«01_k».proof.Proof.S5GateBwd
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Reference23Ideal
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Reference24Ideal
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Reference25Ideal
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Reference26Ideal
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Reference27Ideal
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Reference28Ideal
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Reference29Ideal
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Reference30Ideal
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Reference31Ideal
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Reference32Ideal
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Frame
public import proofs.«01_k».proof.Proof.Gen.Reference33Ideal
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Frame
public import proofs.«01_k».proof.Proof.Gen.Reference34Ideal
public import Idealize.ShloMosaic.Adequacy
public import Idealize.ShloMosaic.Init

@[expose] public section

noncomputable section

namespace Cert.Proof

open Idealize.ShloMosaic Idealize.SL.Sem Cert.Real

/-- The reference ends, its arguments are unchanged and every semaphore reads zero. -/
theorem reference_frame (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ (fun r => (∀ c : Dev ReferenceIdeal.nD,
r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)
      ∧ r.2.mem ((c.tc : Thread ReferenceIdeal.nD ReferenceIdeal.τ).loc ReferenceIdeal.main_arg5) = m ((c.tc : Thread ReferenceIdeal.nD ReferenceIdeal.τ).loc ReferenceIdeal.main_arg5)
      ∧ r.2.mem ((c.tc : Thread ReferenceIdeal.nD ReferenceIdeal.τ).loc ReferenceIdeal.main_arg6) = m ((c.tc : Thread ReferenceIdeal.nD ReferenceIdeal.τ).loc ReferenceIdeal.main_arg6))
      ∧ r.2.sem = fun _ => 0) :=
  (θ_run ReferenceIdeal.defs _ _).mono (fun r h => ⟨fun c =>
      ⟨(h c ReferenceIdeal.main_arg0 (by decide)).trans (ReferenceIdeal.Ops.arg0_final m c),
        (h c ReferenceIdeal.main_arg1 (by decide)).trans (ReferenceIdeal.Ops.arg1_final m c),
        (h c ReferenceIdeal.main_arg2 (by decide)).trans (ReferenceIdeal.Ops.arg2_final m c),
        (h c ReferenceIdeal.main_arg3 (by decide)).trans (ReferenceIdeal.Ops.arg3_final m c),
        (h c ReferenceIdeal.main_arg4 (by decide)).trans (ReferenceIdeal.Ops.arg4_final m c),
        (h c ReferenceIdeal.main_arg5 (by decide)).trans (ReferenceIdeal.Ops.arg5_final m c),
        (h c ReferenceIdeal.main_arg6 (by decide)).trans (ReferenceIdeal.Ops.arg6_final m c)⟩,
      sem_eq_zero_of_no_sems (by decide) r.2⟩)
    (ReferenceIdeal.Ops.run m ρ)

/-- The kernel's results and the reference's are the same real arrays. -/
theorem algebraic : algebraic_KernelIdeal_ReferenceIdeal_pre_saved_by_forward := by
  intro m g m' g' hpre hargs
  have hA : ∀ c : Dev KernelIdeal.nD, ∃ A : Args, KernelIdeal.Tile.Holds m c A ∧ ReferenceIdeal.Ops.Given m' c A ∧ A.Good := fun c => by
    obtain ⟨A, e0, e1, e2, e3, e4, e5, e6, G⟩ := Pre_saved_by_forward.Value.real_args _ _ _ _ _ _ _ (hpre c)
    obtain ⟨a0, a1, a2, a3, a4, a5, a6⟩ := hargs c
    exact ⟨A, ⟨e0, e1, e2, e3, e4, e5, e6⟩, ⟨a0.trans e0, a1.trans e1, a2.trans e2, a3.trans e3, a4.trans e4⟩, G⟩
  choose A HK HR G using hA
  refine ⟨fun c => m2 (φ := .f32) (A c).dq, fun c => m2 (φ := .f32) (A c).dk, fun c => m2 (φ := .f32) (A c).dg, fun c => m2 (φ := .f32) (A c).du,
    fun c => m2 (φ := .f32) (A c).dw, ?_, ?_⟩
  · refine (θ_run KernelIdeal.defs _ _).mono (fun r h c => ?_) (KernelIdeal.Value.run_blocks m g)
    obtain ⟨b0, b1, b2, b3, b4, k⟩ := h c
    exact ⟨b0.trans (KernelIdeal.Tile.arr_dq (HK c)), b1.trans (KernelIdeal.Tile.arr_dk (HK c)), b2.trans (KernelIdeal.Tile.arr_dg (HK c)),
      b3.trans (KernelIdeal.Tile.arr_du (HK c)), b4.trans (KernelIdeal.Tile.arr_dw (HK c)), k⟩
  · refine (θ_run ReferenceIdeal.defs _ _).mono (fun r h c => ?_) (ReferenceIdeal.Ops.run m' g')
    exact ⟨(h c ReferenceIdeal.main_v52 (by decide)).trans (ReferenceIdeal.Ops.final_dq (HR c) (G c)),
      (h c ReferenceIdeal.main_v53 (by decide)).trans (ReferenceIdeal.Ops.final_dk (HR c) (G c)),
      (h c ReferenceIdeal.main_v55 (by decide)).trans (ReferenceIdeal.Ops.final_dg (HR c) (G c)),
      (h c ReferenceIdeal.main_v47 (by decide)).trans (ReferenceIdeal.Ops.final_du (HR c) (G c)),
      (h c ReferenceIdeal.main_v45 (by decide)).trans (ReferenceIdeal.Ops.final_dw (HR c) (G c)),
      (h c ReferenceIdeal.main_arg0 (by decide)).trans (ReferenceIdeal.Ops.arg0_final m' c),
      (h c ReferenceIdeal.main_arg1 (by decide)).trans (ReferenceIdeal.Ops.arg1_final m' c),
      (h c ReferenceIdeal.main_arg2 (by decide)).trans (ReferenceIdeal.Ops.arg2_final m' c),
      (h c ReferenceIdeal.main_arg3 (by decide)).trans (ReferenceIdeal.Ops.arg3_final m' c),
      (h c ReferenceIdeal.main_arg4 (by decide)).trans (ReferenceIdeal.Ops.arg4_final m' c),
      (h c ReferenceIdeal.main_arg5 (by decide)).trans (ReferenceIdeal.Ops.arg5_final m' c),
      (h c ReferenceIdeal.main_arg6 (by decide)).trans (ReferenceIdeal.Ops.arg6_final m' c)⟩

/-- The claims, program by program: the facts of the printed programs, the frames, and then for each program that the kernel's ideal is
its own text and that its results are the reference's. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Pre_saved_by_forward.Gen.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ,
  fun m ρ _ => Cert.Kernel2.Gen.frame m ρ, fun m ρ _ => Cert.Kernel2Ideal.Gen.frame m ρ, Cert.DownDx.reference_frame,
  fun m ρ _ => Cert.Kernel3.Gen.frame m ρ, fun m ρ _ => Cert.Kernel3Ideal.Gen.frame m ρ, Cert.DownDw.reference_frame,
  fun m ρ _ => Cert.Kernel4.Gen.frame m ρ, fun m ρ _ => Cert.Kernel4Ideal.Gen.frame m ρ, Cert.UpDx.reference_frame,
  fun m ρ _ => Cert.Kernel5.Gen.frame m ρ, fun m ρ _ => Cert.Kernel5Ideal.Gen.frame m ρ, Cert.UpDw.reference_frame,
  fun m ρ _ => Cert.Kernel6.Gen.frame m ρ, fun m ρ _ => Cert.Kernel6Ideal.Gen.frame m ρ, Cert.Up.reference_frame,
  fun m ρ _ => Cert.Kernel7.Gen.frame m ρ, fun m ρ _ => Cert.Kernel7Ideal.Gen.frame m ρ, Cert.Down.reference_frame,
  fun m ρ _ => Cert.Kernel8.Gen.frame m ρ, fun m ρ _ => Cert.Kernel8Ideal.Gen.frame m ρ, Cert.GdnQkv.reference_frame,
  fun m ρ _ => Cert.Kernel9.Gen.frame m ρ, fun m ρ _ => Cert.Kernel9Ideal.Gen.frame m ρ, Cert.GdnZ.reference_frame,
  fun m ρ _ => Cert.Kernel10.Gen.frame m ρ, fun m ρ _ => Cert.Kernel10Ideal.Gen.frame m ρ, Cert.GdnQkvDw.reference_frame,
  fun m ρ _ => Cert.Kernel11.Gen.frame m ρ, fun m ρ _ => Cert.Kernel11Ideal.Gen.frame m ρ, Cert.GdnZDw.reference_frame,
  fun m ρ _ => Cert.Kernel12.Gen.frame m ρ, fun m ρ _ => Cert.Kernel12Ideal.Gen.frame m ρ, Cert.GdnQkvDx.reference_frame,
  fun m ρ _ => Cert.Kernel13.Gen.frame m ρ, fun m ρ _ => Cert.Kernel13Ideal.Gen.frame m ρ, Cert.GdnZDx.reference_frame,
  fun m ρ _ => Cert.Kernel14.Gen.frame m ρ, fun m ρ _ => Cert.Kernel14Ideal.Gen.frame m ρ, Cert.GdnOutDx.reference_frame,
  fun m ρ _ => Cert.Kernel15.Gen.frame m ρ, fun m ρ _ => Cert.Kernel15Ideal.Gen.frame m ρ, Cert.GdnOutDw.reference_frame,
  fun m ρ _ => Cert.Kernel16.Gen.frame m ρ, fun m ρ _ => Cert.Kernel16Ideal.Gen.frame m ρ, Cert.GdnOut.reference_frame,
  fun m ρ _ => Cert.Kernel17.Gen.frame m ρ, fun m ρ _ => Cert.Kernel17Ideal.Gen.frame m ρ, Cert.S5In.reference_frame,
  fun m ρ _ => Cert.Kernel18.Gen.frame m ρ, fun m ρ _ => Cert.Kernel18Ideal.Gen.frame m ρ, Cert.S5InDw.reference_frame,
  fun m ρ _ => Cert.Kernel19.Gen.frame m ρ, fun m ρ _ => Cert.Kernel19Ideal.Gen.frame m ρ, Cert.S5InDx.reference_frame,
  fun m ρ _ => Cert.Kernel20.Gen.frame m ρ, fun m ρ _ => Cert.Kernel20Ideal.Gen.frame m ρ, Cert.S5Out.reference_frame,
  fun m ρ _ => Cert.Kernel21.Gen.frame m ρ, fun m ρ _ => Cert.Kernel21Ideal.Gen.frame m ρ, Cert.S5OutDw.reference_frame,
  fun m ρ _ => Cert.Kernel22.Gen.frame m ρ, fun m ρ _ => Cert.Kernel22Ideal.Gen.frame m ρ, Cert.S5OutDx.reference_frame,
  fun m ρ _ => Cert.Kernel23.Gen.frame m ρ, fun m ρ _ => Cert.Kernel23Ideal.Gen.frame m ρ, Cert.PleGate.reference_frame,
  fun m ρ _ => Cert.Kernel24.Gen.frame m ρ, fun m ρ _ => Cert.Kernel24Ideal.Gen.frame m ρ, Cert.PleGateDw.reference_frame,
  fun m ρ _ => Cert.Kernel25.Gen.frame m ρ, fun m ρ _ => Cert.Kernel25Ideal.Gen.frame m ρ, Cert.PleGateDx.reference_frame,
  fun m ρ _ => Cert.Kernel26.Gen.frame m ρ, fun m ρ _ => Cert.Kernel26Ideal.Gen.frame m ρ, Cert.PleProj.reference_frame,
  fun m ρ _ => Cert.Kernel27.Gen.frame m ρ, fun m ρ _ => Cert.Kernel27Ideal.Gen.frame m ρ, Cert.PleProjDw.reference_frame,
  fun m ρ _ => Cert.Kernel28.Gen.frame m ρ, fun m ρ _ => Cert.Kernel28Ideal.Gen.frame m ρ, Cert.GdnBa.reference_frame,
  fun m ρ _ => Cert.Kernel29.Gen.frame m ρ, fun m ρ _ => Cert.Kernel29Ideal.Gen.frame m ρ, Cert.GdnBaDw.reference_frame,
  fun m ρ _ => Cert.Kernel30.Gen.frame m ρ, fun m ρ _ => Cert.Kernel30Ideal.Gen.frame m ρ, Cert.GdnBaDx.reference_frame,
  fun m ρ _ => Cert.Kernel31.Gen.frame m ρ, fun m ρ _ => Cert.Kernel31Ideal.Gen.frame m ρ, Cert.PleFwd.reference_frame,
  fun m ρ _ => Cert.Kernel32.Gen.frame m ρ, fun m ρ _ => Cert.Kernel32Ideal.Gen.frame m ρ, Cert.PleBwd.reference_frame,
  fun m ρ _ => Cert.Kernel33.Gen.frame m ρ, fun m ρ _ => Cert.Kernel33Ideal.Gen.frame m ρ, Cert.S5GateFwd.reference_frame,
  fun m ρ _ => Cert.Kernel34.Gen.frame m ρ, fun m ρ _ => Cert.Kernel34Ideal.Gen.frame m ρ, Cert.S5GateBwd.reference_frame,
  trivial, algebraic, trivial, Cert.DownDx.algebraic, trivial, Cert.DownDw.algebraic, trivial, Cert.UpDx.algebraic,
  trivial, Cert.UpDw.algebraic, trivial, Cert.Up.algebraic, trivial, Cert.Down.algebraic,
  trivial, Cert.GdnQkv.algebraic, trivial, Cert.GdnZ.algebraic, trivial, Cert.GdnQkvDw.algebraic, trivial, Cert.GdnZDw.algebraic,
  trivial, Cert.GdnQkvDx.algebraic, trivial, Cert.GdnZDx.algebraic, trivial, Cert.GdnOutDx.algebraic,
  trivial, Cert.GdnOutDw.algebraic, trivial, Cert.GdnOut.algebraic,
  trivial, Cert.S5In.algebraic, trivial, Cert.S5InDw.algebraic, trivial, Cert.S5InDx.algebraic,
  trivial, Cert.S5Out.algebraic, trivial, Cert.S5OutDw.algebraic, trivial, Cert.S5OutDx.algebraic,
  trivial, Cert.PleGate.algebraic, trivial, Cert.PleGateDw.algebraic, trivial, Cert.PleGateDx.algebraic,
  trivial, Cert.PleProj.algebraic, trivial, Cert.PleProjDw.algebraic, trivial, Cert.GdnBa.algebraic,
  trivial, Cert.GdnBaDw.algebraic, trivial, Cert.GdnBaDx.algebraic, trivial, Cert.PleFwd.algebraic,
  trivial, Cert.PleBwd.algebraic, trivial, Cert.S5GateFwd.algebraic, trivial, Cert.S5GateBwd.algebraic⟩

end Cert.Proof

end
